-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "gelu_c3" .f32 0xBDD2D3E8#32 (((12003091 / 268435456) * (((-2) * (6693141 / 8388608)) * (Real.log 2)⁻¹) : ℝ) : EReal)
  ∧ IdealRules.named_const.Statement Cert.Kernel3Ideal.κ "gelu_c" .f32 0xC0135761#32 ((((-2) * (6693141 / 8388608)) * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v69) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
-- ==== Kernel.lean ====
abbrev S16x4096x1024 : Shape := ⟨3, ![16, 4096, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S65536x1024 : Shape := ⟨2, ![65536, 1024]⟩
abbrev S1x1024 : Shape := ⟨2, ![1, 1024]⟩
abbrev S1024x1024 : Shape := ⟨2, ![1024, 1024]⟩
abbrev S1024x4096 : Shape := ⟨2, ![1024, 4096]⟩
abbrev S4096x1024 : Shape := ⟨2, ![4096, 1024]⟩
abbrev S2x128x4096 : Shape := ⟨3, ![2, 128, 4096]⟩
abbrev S2 : Shape := ⟨1, ![2]⟩
abbrev S1 : Shape := ⟨1, ![1]⟩
abbrev S_ : Shape := ⟨0, ![]⟩
abbrev S1x128x4096 : Shape := ⟨3, ![1, 128, 4096]⟩
abbrev S128x4096 : Shape := ⟨2, ![128, 4096]⟩
abbrev S1x1024x4096 : Shape := ⟨3, ![1, 1024, 4096]⟩
abbrev S2x512x1024 : Shape := ⟨3, ![2, 512, 1024]⟩
abbrev S1x512x1024 : Shape := ⟨3, ![1, 512, 1024]⟩
abbrev S512x1024 : Shape := ⟨2, ![512, 1024]⟩
abbrev S1x4096x1024 : Shape := ⟨3, ![1, 4096, 1024]⟩
abbrev S256x1024 : Shape := ⟨2, ![256, 1024]⟩
abbrev S256 : Shape := ⟨1, ![256]⟩
abbrev S256x1 : Shape := ⟨2, ![256, 1]⟩
abbrev S256x4096 : Shape := ⟨2, ![256, 4096]⟩

abbrev nBuf : Space → Nat
  | .hbm => 11
  | .vmem => 10
  | .smem => 0
  | _ => 0

abbrev bufTy : (tb : Table) → Fin (tcTables nBuf tb) → BufTy
  | .hbm, ⟨0, _⟩ => ⟨S16x4096x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1024, .f32⟩
  | .hbm, ⟨5, _⟩ => ⟨S65536x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x4096, .bf16⟩
  | .local _ .vmem, ⟨7, _⟩ => ⟨S4096x1024, .bf16⟩
  | .local _ .vmem, ⟨8, _⟩ => ⟨S2x128x4096, .f32⟩
  | .local _ .vmem, ⟨9, _⟩ => ⟨S2x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scoped0 : Ref sig .tc := ⟨.vmem, 8, rfl⟩
abbrev cc0_scoped2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_90_r0 : BitVec 32 := 0#32
  let c8_i32_r0 : BitVec 32 := 8#32
  let v190_r0 : BitVec 32 := Scalar.addi c0_i32_90_r0 c8_i32_r0
  let c1_i32_91_r0 : BitVec 32 := 1#32
  ⟨c0_i32_90_r0, v190_r0, c1_i32_91_r0⟩
def k0_cond2 (k0_t1 : Fin k0_t1_loop.trips) : BitVec 1 :=
  let c0_i32_90_r0 : BitVec 32 := 0#32
  let c1_i32_91_r0 : BitVec 32 := 1#32
  let arg9_r0 : BitVec 32 := Scf.iv c0_i32_90_r0 c1_i32_91_r0 k0_t1
  let c1_i32_98_r0 : BitVec 32 := 1#32
  let v201_r0 : BitVec 32 := Scalar.addi arg9_r0 c1_i32_98_r0
  let c8_i32_99_r0 : BitVec 32 := 8#32
  let v202_r0 : BitVec 1 := Scalar.cmpi .slt v201_r0 c8_i32_99_r0
  let v203_r0 : BitVec 32 := Scalar.extui v202_r0
  let c0_i32_100_r0 : BitVec 32 := 0#32
  let v204_r0 : BitVec 1 := Scalar.cmpi .ne v203_r0 c0_i32_100_r0
  v204_r0

def k0_off1 (k0_t1 : Fin k0_t1_loop.trips) : Fin 1 → Nat :=
  let c1_i32_111_r0 : BitVec 32 := 1#32
  let c0_i32_90_r0 : BitVec 32 := 0#32
  let c1_i32_91_r0 : BitVec 32 := 1#32
  let arg9_r0 : BitVec 32 := Scf.iv c0_i32_90_r0 c1_i32_91_r0 k0_t1
  let c2_i32_r0 : BitVec 32 := 2#32
  let c0_i32_93_r0 : BitVec 32 := 0#32
  let v191_r0 : BitVec 1 := Scalar.cmpi .eq c2_i32_r0 c0_i32_93_r0
  let c1_i32_94_r0 : BitVec 32 := 1#32
  let v192_r0 : BitVec 32 := Scalar.select v191_r0 c1_i32_94_r0 c2_i32_r0
  let v193_r0 : BitVec 32 := Scalar.remsi arg9_r0 v192_r0
  let c0_i32_96_r0 : BitVec 32 := 0#32
  let v195_r0 : BitVec 1 := Scalar.cmpi .slt v193_r0 c0_i32_96_r0
  let c0_i32_97_r0 : BitVec 32 := 0#32
  let v196_r0 : BitVec 1 := Scalar.cmpi .slt v192_r0 c0_i32_97_r0
  let v197_r0 : BitVec 1 := Scalar.xori v195_r0 v196_r0
  let c0_i32_95_r0 : BitVec 32 := 0#32
  let v194_r0 : BitVec 1 := Scalar.cmpi .ne v193_r0 c0_i32_95_r0
  let v198_r0 : BitVec 1 := Scalar.andi v197_r0 v194_r0
  let v199_r0 : BitVec 32 := Scalar.addi v193_r0 v192_r0
  let v200_r0 : BitVec 32 := Scalar.select v198_r0 v199_r0 v193_r0
  let v224_r0 : BitVec 32 := Scalar.subi c1_i32_111_r0 v200_r0
  ![v224_r0.toNat]
def k0_off2 (k0_t1 : Fin k0_t1_loop.trips) : Fin 3 → Nat :=
  let c1_i32_111_r0 : BitVec 32 := 1#32
  let c0_i32_90_r0 : BitVec 32 := 0#32
  let c1_i32_91_r0 : BitVec 32 := 1#32
  let arg9_r0 : BitVec 32 := Scf.iv c0_i32_90_r0 c1_i32_91_r0 k0_t1
  let c2_i32_r0 : BitVec 32 := 2#32
  let c0_i32_93_r0 : BitVec 32 := 0#32
  let v191_r0 : BitVec 1 := Scalar.cmpi .eq c2_i32_r0 c0_i32_93_r0
  let c1_i32_94_r0 : BitVec 32 := 1#32
  let v192_r0 : BitVec 32 := Scalar.select v191_r0 c1_i32_94_r0 c2_i32_r0
  let v193_r0 : BitVec 32 := Scalar.remsi arg9_r0 v192_r0
  let c0_i32_96_r0 : BitVec 32 := 0#32
  let v195_r0 : BitVec 1 := Scalar.cmpi .slt v193_r0 c0_i32_96_r0
  let c0_i32_97_r0 : BitVec 32 := 0#32
  let v196_r0 : BitVec 1 := Scalar.cmpi .slt v192_r0 c0_i32_97_r0
  let v197_r0 : BitVec 1 := Scalar.xori v195_r0 v196_r0
  let c0_i32_95_r0 : BitVec 32 := 0#32
  let v194_r0 : BitVec 1 := Scalar.cmpi .ne v193_r0 c0_i32_95_r0
  let v198_r0 : BitVec 1 := Scalar.andi v197_r0 v194_r0
  let v199_r0 : BitVec 32 := Scalar.addi v193_r0 v192_r0
  let v200_r0 : BitVec 32 := Scalar.select v198_r0 v199_r0 v193_r0
  let v224_r0 : BitVec 32 := Scalar.subi c1_i32_111_r0 v200_r0
  let c0_i32_113_r0 : BitVec 32 := 0#32
  let c0_i32_114_r0 : BitVec 32 := 0#32
  ![v224_r0.toNat, 0, 0]
def k0_off3 (k0_t1 : Fin k0_t1_loop.trips) : Fin 2 → Nat :=
  let c0_i32_90_r0 : BitVec 32 := 0#32
  let c1_i32_91_r0 : BitVec 32 := 1#32
  let arg9_r0 : BitVec 32 := Scf.iv c0_i32_90_r0 c1_i32_91_r0 k0_t1
  let c1_i32_110_r0 : BitVec 32 := 1#32
  let v223_r0 : BitVec 32 := Scalar.addi arg9_r0 c1_i32_110_r0
  let c128_i32_112_r0 : BitVec 32 := 128#32
  let v225_r0 : BitVec 32 := Scalar.muli v223_r0 c128_i32_112_r0
  let c0_i32_117_r0 : BitVec 32 := 0#32
  ![v225_r0.toNat, 0]
def k0_off4 (k0_t1 : Fin k0_t1_loop.trips) : Fin 1 → Nat :=
  let c0_i32_90_r0 : BitVec 32 := 0#32
  let c1_i32_91_r0 : BitVec 32 := 1#32
  let arg9_r0 : BitVec 32 := Scf.iv c0_i32_90_r0 c1_i32_91_r0 k0_t1
  let c2_i32_r0 : BitVec 32 := 2#32
  let c0_i32_93_r0 : BitVec 32 := 0#32
  let v191_r0 : BitVec 1 := Scalar.cmpi .eq c2_i32_r0 c0_i32_93_r0
  let c1_i32_94_r0 : BitVec 32 := 1#32
  let v192_r0 : BitVec 32 := Scalar.select v191_r0 c1_i32_94_r0 c2_i32_r0
  let v193_r0 : BitVec 32 := Scalar.remsi arg9_r0 v192_r0
  let c0_i32_96_r0 : BitVec 32 := 0#32
  let v195_r0 : BitVec 1 := Scalar.cmpi .slt v193_r0 c0_i32_96_r0
  let c0_i32_97_r0 : BitVec 32 := 0#32
  let v196_r0 : BitVec 1 := Scalar.cmpi .slt v192_r0 c0_i32_97_r0
  let v197_r0 : BitVec 1 := Scalar.xori v195_r0 v196_r0
  let c0_i32_95_r0 : BitVec 32 := 0#32
  let v194_r0 : BitVec 1 := Scalar.cmpi .ne v193_r0 c0_i32_95_r0
  let v198_r0 : BitVec 1 := Scalar.andi v197_r0 v194_r0
  let v199_r0 : BitVec 32 := Scalar.addi v193_r0 v192_r0
  let v200_r0 : BitVec 32 := Scalar.select v198_r0 v199_r0 v193_r0
  ![v200_r0.toNat]
def k0_off5 (k0_t1 : Fin k0_t1_loop.trips) : Fin 3 → Nat :=
  let c0_i32_90_r0 : BitVec 32 := 0#32
  let c1_i32_91_r0 : BitVec 32 := 1#32
  let arg9_r0 : BitVec 32 := Scf.iv c0_i32_90_r0 c1_i32_91_r0 k0_t1
  let c2_i32_r0 : BitVec 32 := 2#32
  let c0_i32_93_r0 : BitVec 32 := 0#32
  let v191_r0 : BitVec 1 := Scalar.cmpi .eq c2_i32_r0 c0_i32_93_r0
  let c1_i32_94_r0 : BitVec 32 := 1#32
  let v192_r0 : BitVec 32 := Scalar.select v191_r0 c1_i32_94_r0 c2_i32_r0
  let v193_r0 : BitVec 32 := Scalar.remsi arg9_r0 v192_r0
  let c0_i32_96_r0 : BitVec 32 := 0#32
  let v195_r0 : BitVec 1 := Scalar.cmpi .slt v193_r0 c0_i32_96_r0
  let c0_i32_97_r0 : BitVec 32 := 0#32
  let v196_r0 : BitVec 1 := Scalar.cmpi .slt v192_r0 c0_i32_97_r0
  let v197_r0 : BitVec 1 := Scalar.xori v195_r0 v196_r0
  let c0_i32_95_r0 : BitVec 32 := 0#32
  let v194_r0 : BitVec 1 := Scalar.cmpi .ne v193_r0 c0_i32_95_r0
  let v198_r0 : BitVec 1 := Scalar.andi v197_r0 v194_r0
  let v199_r0 : BitVec 32 := Scalar.addi v193_r0 v192_r0
  let v200_r0 : BitVec 32 := Scalar.select v198_r0 v199_r0 v193_r0
  let c0_i32_101_r0 : BitVec 32 := 0#32
  let c0_i32_102_r0 : BitVec 32 := 0#32
  ![v200_r0.toNat, 0, 0]
def k0_off6 (k0_t1 : Fin k0_t1_loop.trips) : Fin 2 → Nat :=
  let c0_i32_90_r0 : BitVec 32 := 0#32
  let c1_i32_91_r0 : BitVec 32 := 1#32
  let arg9_r0 : BitVec 32 := Scf.iv c0_i32_90_r0 c1_i32_91_r0 k0_t1
  let c128_i32_r0 : BitVec 32 := 128#32
  let v205_r0 : BitVec 32 := Scalar.muli arg9_r0 c128_i32_r0
  let c0_i32_105_r0 : BitVec 32 := 0#32
  ![v205_r0.toNat, 0]
def k0_mult1 (k0_t1 : Fin k0_t1_loop.trips) : BitVec 32 :=
  let c0_i32_90_r0 : BitVec 32 := 0#32
  let c1_i32_91_r0 : BitVec 32 := 1#32
  let arg9_r0 : BitVec 32 := Scf.iv c0_i32_90_r0 c1_i32_91_r0 k0_t1
  let c128_i32_106_r0 : BitVec 32 := 128#32
  let v213_r0 : BitVec 32 := Scalar.muli arg9_r0 c128_i32_106_r0
  v213_r0
def k0_off7 (k0_t1 : Fin k0_t1_loop.trips) : Fin 3 → Nat :=
  let c0_i32_90_r0 : BitVec 32 := 0#32
  let c1_i32_91_r0 : BitVec 32 := 1#32
  let arg9_r0 : BitVec 32 := Scf.iv c0_i32_90_r0 c1_i32_91_r0 k0_t1
  let c2_i32_r0 : BitVec 32 := 2#32
  let c0_i32_93_r0 : BitVec 32 := 0#32
  let v191_r0 : BitVec 1 := Scalar.cmpi .eq c2_i32_r0 c0_i32_93_r0
  let c1_i32_94_r0 : BitVec 32 := 1#32
  let v192_r0 : BitVec 32 := Scalar.select v191_r0 c1_i32_94_r0 c2_i32_r0
  let v193_r0 : BitVec 32 := Scalar.remsi arg9_r0 v192_r0
  let c0_i32_96_r0 : BitVec 32 := 0#32
  let v195_r0 : BitVec 1 := Scalar.cmpi .slt v193_r0 c0_i32_96_r0
  let c0_i32_97_r0 : BitVec 32 := 0#32
  let v196_r0 : BitVec 1 := Scalar.cmpi .slt v192_r0 c0_i32_97_r0
  let v197_r0 : BitVec 1 := Scalar.xori v195_r0 v196_r0
  let c0_i32_95_r0 : BitVec 32 := 0#32
  let v194_r0 : BitVec 1 := Scalar.cmpi .ne v193_r0 c0_i32_95_r0
  let v198_r0 : BitVec 1 := Scalar.andi v197_r0 v194_r0
  let v199_r0 : BitVec 32 := Scalar.addi v193_r0 v192_r0
  let v200_r0 : BitVec 32 := Scalar.select v198_r0 v199_r0 v193_r0
  let v215_r0 : Index := Scalar.indexCast v200_r0
  let c0_107_r0 : Index := 0#32
  let c0_108_r0 : Index := 0#32
  ![v215_r0.toNat, 0, 0]
def k0_off8 (k0_t1 : Fin k0_t1_loop.trips) : Fin 2 → Nat :=
  let c0_i32_90_r0 : BitVec 32 := 0#32
  let c1_i32_91_r0 : BitVec 32 := 1#32
  let arg9_r0 : BitVec 32 := Scf.iv c0_i32_90_r0 c1_i32_91_r0 k0_t1
  let c128_i32_106_r0 : BitVec 32 := 128#32
  let v213_r0 : BitVec 32 := Scalar.muli arg9_r0 c128_i32_106_r0
  let v214_r0 : BitVec 32 := v213_r0
  let v219_r0 : Index := Scalar.indexCast v214_r0
  let c0_109_r0 : Index := 0#32
  ![v219_r0.toNat, 0]
@[reducible] def k0_t2_loop : Scf.Loop 32 :=
  let c0_i32_90_r1 : BitVec 32 := 0#32
  let c8_i32_r1 : BitVec 32 := 8#32
  let v190_r1 : BitVec 32 := Scalar.addi c0_i32_90_r1 c8_i32_r1
  let c1_i32_91_r1 : BitVec 32 := 1#32
  ⟨c0_i32_90_r1, v190_r1, c1_i32_91_r1⟩
def k0_cond3 (k0_t2 : Fin k0_t2_loop.trips) : BitVec 1 :=
  let c0_i32_90_r1 : BitVec 32 := 0#32
  let c1_i32_91_r1 : BitVec 32 := 1#32
  let arg9_r1 : BitVec 32 := Scf.iv c0_i32_90_r1 c1_i32_91_r1 k0_t2
  let c1_i32_98_r1 : BitVec 32 := 1#32
  let v201_r1 : BitVec 32 := Scalar.addi arg9_r1 c1_i32_98_r1
  let c8_i32_99_r1 : BitVec 32 := 8#32
  let v202_r1 : BitVec 1 := Scalar.cmpi .slt v201_r1 c8_i32_99_r1
  let v203_r1 : BitVec 32 := Scalar.extui v202_r1
  let c0_i32_100_r1 : BitVec 32 := 0#32
  let v204_r1 : BitVec 1 := Scalar.cmpi .ne v203_r1 c0_i32_100_r1
  v204_r1

def k0_off9 (k0_t2 : Fin k0_t2_loop.trips) : Fin 1 → Nat :=
  let c1_i32_111_r1 : BitVec 32 := 1#32
  let c0_i32_90_r1 : BitVec 32 := 0#32
  let c1_i32_91_r1 : BitVec 32 := 1#32
  let arg9_r1 : BitVec 32 := Scf.iv c0_i32_90_r1 c1_i32_91_r1 k0_t2
  let c2_i32_r1 : BitVec 32 := 2#32
  let c0_i32_93_r1 : BitVec 32 := 0#32
  let v191_r1 : BitVec 1 := Scalar.cmpi .eq c2_i32_r1 c0_i32_93_r1
  let c1_i32_94_r1 : BitVec 32 := 1#32
  let v192_r1 : BitVec 32 := Scalar.select v191_r1 c1_i32_94_r1 c2_i32_r1
  let v193_r1 : BitVec 32 := Scalar.remsi arg9_r1 v192_r1
  let c0_i32_96_r1 : BitVec 32 := 0#32
  let v195_r1 : BitVec 1 := Scalar.cmpi .slt v193_r1 c0_i32_96_r1
  let c0_i32_97_r1 : BitVec 32 := 0#32
  let v196_r1 : BitVec 1 := Scalar.cmpi .slt v192_r1 c0_i32_97_r1
  let v197_r1 : BitVec 1 := Scalar.xori v195_r1 v196_r1
  let c0_i32_95_r1 : BitVec 32 := 0#32
  let v194_r1 : BitVec 1 := Scalar.cmpi .ne v193_r1 c0_i32_95_r1
  let v198_r1 : BitVec 1 := Scalar.andi v197_r1 v194_r1
  let v199_r1 : BitVec 32 := Scalar.addi v193_r1 v192_r1
  let v200_r1 : BitVec 32 := Scalar.select v198_r1 v199_r1 v193_r1
  let v224_r1 : BitVec 32 := Scalar.subi c1_i32_111_r1 v200_r1
  ![v224_r1.toNat]
def k0_off10 (k0_t2 : Fin k0_t2_loop.trips) : Fin 3 → Nat :=
  let c1_i32_111_r1 : BitVec 32 := 1#32
  let c0_i32_90_r1 : BitVec 32 := 0#32
  let c1_i32_91_r1 : BitVec 32 := 1#32
  let arg9_r1 : BitVec 32 := Scf.iv c0_i32_90_r1 c1_i32_91_r1 k0_t2
  let c2_i32_r1 : BitVec 32 := 2#32
  let c0_i32_93_r1 : BitVec 32 := 0#32
  let v191_r1 : BitVec 1 := Scalar.cmpi .eq c2_i32_r1 c0_i32_93_r1
  let c1_i32_94_r1 : BitVec 32 := 1#32
  let v192_r1 : BitVec 32 := Scalar.select v191_r1 c1_i32_94_r1 c2_i32_r1
  let v193_r1 : BitVec 32 := Scalar.remsi arg9_r1 v192_r1
  let c0_i32_96_r1 : BitVec 32 := 0#32
  let v195_r1 : BitVec 1 := Scalar.cmpi .slt v193_r1 c0_i32_96_r1
  let c0_i32_97_r1 : BitVec 32 := 0#32
  let v196_r1 : BitVec 1 := Scalar.cmpi .slt v192_r1 c0_i32_97_r1
  let v197_r1 : BitVec 1 := Scalar.xori v195_r1 v196_r1
  let c0_i32_95_r1 : BitVec 32 := 0#32
  let v194_r1 : BitVec 1 := Scalar.cmpi .ne v193_r1 c0_i32_95_r1
  let v198_r1 : BitVec 1 := Scalar.andi v197_r1 v194_r1
  let v199_r1 : BitVec 32 := Scalar.addi v193_r1 v192_r1
  let v200_r1 : BitVec 32 := Scalar.select v198_r1 v199_r1 v193_r1
  let v224_r1 : BitVec 32 := Scalar.subi c1_i32_111_r1 v200_r1
  let c0_i32_113_r1 : BitVec 32 := 0#32
  let c0_i32_114_r1 : BitVec 32 := 0#32
  ![v224_r1.toNat, 0, 0]
def k0_off11 (k0_t2 : Fin k0_t2_loop.trips) : Fin 2 → Nat :=
  let c0_i32_90_r1 : BitVec 32 := 0#32
  let c1_i32_91_r1 : BitVec 32 := 1#32
  let arg9_r1 : BitVec 32 := Scf.iv c0_i32_90_r1 c1_i32_91_r1 k0_t2
  let c1_i32_110_r1 : BitVec 32 := 1#32
  let v223_r1 : BitVec 32 := Scalar.addi arg9_r1 c1_i32_110_r1
  let c512_i32_112_r1 : BitVec 32 := 512#32
  let v225_r1 : BitVec 32 := Scalar.muli v223_r1 c512_i32_112_r1
  let c0_i32_117_r1 : BitVec 32 := 0#32
  ![v225_r1.toNat, 0]
def k0_off12 (k0_t2 : Fin k0_t2_loop.trips) : Fin 1 → Nat :=
  let c0_i32_90_r1 : BitVec 32 := 0#32
  let c1_i32_91_r1 : BitVec 32 := 1#32
  let arg9_r1 : BitVec 32 := Scf.iv c0_i32_90_r1 c1_i32_91_r1 k0_t2
  let c2_i32_r1 : BitVec 32 := 2#32
  let c0_i32_93_r1 : BitVec 32 := 0#32
  let v191_r1 : BitVec 1 := Scalar.cmpi .eq c2_i32_r1 c0_i32_93_r1
  let c1_i32_94_r1 : BitVec 32 := 1#32
  let v192_r1 : BitVec 32 := Scalar.select v191_r1 c1_i32_94_r1 c2_i32_r1
  let v193_r1 : BitVec 32 := Scalar.remsi arg9_r1 v192_r1
  let c0_i32_96_r1 : BitVec 32 := 0#32
  let v195_r1 : BitVec 1 := Scalar.cmpi .slt v193_r1 c0_i32_96_r1
  let c0_i32_97_r1 : BitVec 32 := 0#32
  let v196_r1 : BitVec 1 := Scalar.cmpi .slt v192_r1 c0_i32_97_r1
  let v197_r1 : BitVec 1 := Scalar.xori v195_r1 v196_r1
  let c0_i32_95_r1 : BitVec 32 := 0#32
  let v194_r1 : BitVec 1 := Scalar.cmpi .ne v193_r1 c0_i32_95_r1
  let v198_r1 : BitVec 1 := Scalar.andi v197_r1 v194_r1
  let v199_r1 : BitVec 32 := Scalar.addi v193_r1 v192_r1
  let v200_r1 : BitVec 32 := Scalar.select v198_r1 v199_r1 v193_r1
  ![v200_r1.toNat]
def k0_off13 (k0_t2 : Fin k0_t2_loop.trips) : Fin 3 → Nat :=
  let c0_i32_90_r1 : BitVec 32 := 0#32
  let c1_i32_91_r1 : BitVec 32 := 1#32
  let arg9_r1 : BitVec 32 := Scf.iv c0_i32_90_r1 c1_i32_91_r1 k0_t2
  let c2_i32_r1 : BitVec 32 := 2#32
  let c0_i32_93_r1 : BitVec 32 := 0#32
  let v191_r1 : BitVec 1 := Scalar.cmpi .eq c2_i32_r1 c0_i32_93_r1
  let c1_i32_94_r1 : BitVec 32 := 1#32
  let v192_r1 : BitVec 32 := Scalar.select v191_r1 c1_i32_94_r1 c2_i32_r1
  let v193_r1 : BitVec 32 := Scalar.remsi arg9_r1 v192_r1
  let c0_i32_96_r1 : BitVec 32 := 0#32
  let v195_r1 : BitVec 1 := Scalar.cmpi .slt v193_r1 c0_i32_96_r1
  let c0_i32_97_r1 : BitVec 32 := 0#32
  let v196_r1 : BitVec 1 := Scalar.cmpi .slt v192_r1 c0_i32_97_r1
  let v197_r1 : BitVec 1 := Scalar.xori v195_r1 v196_r1
  let c0_i32_95_r1 : BitVec 32 := 0#32
  let v194_r1 : BitVec 1 := Scalar.cmpi .ne v193_r1 c0_i32_95_r1
  let v198_r1 : BitVec 1 := Scalar.andi v197_r1 v194_r1
  let v199_r1 : BitVec 32 := Scalar.addi v193_r1 v192_r1
  let v200_r1 : BitVec 32 := Scalar.select v198_r1 v199_r1 v193_r1
  let c0_i32_101_r1 : BitVec 32 := 0#32
  let c0_i32_102_r1 : BitVec 32 := 0#32
  ![v200_r1.toNat, 0, 0]
def k0_off14 (k0_t2 : Fin k0_t2_loop.trips) : Fin 2 → Nat :=
  let c0_i32_90_r1 : BitVec 32 := 0#32
  let c1_i32_91_r1 : BitVec 32 := 1#32
  let arg9_r1 : BitVec 32 := Scf.iv c0_i32_90_r1 c1_i32_91_r1 k0_t2
  let c512_i32_r1 : BitVec 32 := 512#32
  let v205_r1 : BitVec 32 := Scalar.muli arg9_r1 c512_i32_r1
  let c0_i32_105_r1 : BitVec 32 := 0#32
  ![v205_r1.toNat, 0]
def k0_mult2 (k0_t2 : Fin k0_t2_loop.trips) : BitVec 32 :=
  let c0_i32_90_r1 : BitVec 32 := 0#32
  let c1_i32_91_r1 : BitVec 32 := 1#32
  let arg9_r1 : BitVec 32 := Scf.iv c0_i32_90_r1 c1_i32_91_r1 k0_t2
  let c512_i32_106_r1 : BitVec 32 := 512#32
  let v213_r1 : BitVec 32 := Scalar.muli arg9_r1 c512_i32_106_r1
  v213_r1
def k0_off15 (k0_t2 : Fin k0_t2_loop.trips) : Fin 3 → Nat :=
  let c0_i32_90_r1 : BitVec 32 := 0#32
  let c1_i32_91_r1 : BitVec 32 := 1#32
  let arg9_r1 : BitVec 32 := Scf.iv c0_i32_90_r1 c1_i32_91_r1 k0_t2
  let c2_i32_r1 : BitVec 32 := 2#32
  let c0_i32_93_r1 : BitVec 32 := 0#32
  let v191_r1 : BitVec 1 := Scalar.cmpi .eq c2_i32_r1 c0_i32_93_r1
  let c1_i32_94_r1 : BitVec 32 := 1#32
  let v192_r1 : BitVec 32 := Scalar.select v191_r1 c1_i32_94_r1 c2_i32_r1
  let v193_r1 : BitVec 32 := Scalar.remsi arg9_r1 v192_r1
  let c0_i32_96_r1 : BitVec 32 := 0#32
  let v195_r1 : BitVec 1 := Scalar.cmpi .slt v193_r1 c0_i32_96_r1
  let c0_i32_97_r1 : BitVec 32 := 0#32
  let v196_r1 : BitVec 1 := Scalar.cmpi .slt v192_r1 c0_i32_97_r1
  let v197_r1 : BitVec 1 := Scalar.xori v195_r1 v196_r1
  let c0_i32_95_r1 : BitVec 32 := 0#32
  let v194_r1 : BitVec 1 := Scalar.cmpi .ne v193_r1 c0_i32_95_r1
  let v198_r1 : BitVec 1 := Scalar.andi v197_r1 v194_r1
  let v199_r1 : BitVec 32 := Scalar.addi v193_r1 v192_r1
  let v200_r1 : BitVec 32 := Scalar.select v198_r1 v199_r1 v193_r1
  let v215_r1 : Index := Scalar.indexCast v200_r1
  let c0_107_r1 : Index := 0#32
  let c0_108_r1 : Index := 0#32
  ![v215_r1.toNat, 0, 0]
def k0_off16 (k0_t2 : Fin k0_t2_loop.trips) : Fin 2 → Nat :=
  let c0_i32_90_r1 : BitVec 32 := 0#32
  let c1_i32_91_r1 : BitVec 32 := 1#32
  let arg9_r1 : BitVec 32 := Scf.iv c0_i32_90_r1 c1_i32_91_r1 k0_t2
  let c512_i32_106_r1 : BitVec 32 := 512#32
  let v213_r1 : BitVec 32 := Scalar.muli arg9_r1 c512_i32_106_r1
  let v214_r1 : BitVec 32 := v213_r1
  let v219_r1 : Index := Scalar.indexCast v214_r1
  let c0_109_r1 : Index := 0#32
  ![v219_r1.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x4096x1024 : Shape := ⟨3, ![16, 4096, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024 : Shape := ⟨2, ![1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S16x4096x4096 : Shape := ⟨3, ![16, 4096, 4096]⟩
abbrev S65536x1024 : Shape := ⟨2, ![65536, 1024]⟩

abbrev nBuf : Space → Nat
  | .hbm => 51
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S16x4096x1024, .f32⟩
  | .hbm, ⟨8, _⟩ => ⟨S_, .f32⟩
  | .hbm, ⟨9, _⟩ => ⟨S16x4096, .f32⟩
  | .hbm, ⟨10, _⟩ => ⟨S16x4096x1, .f32⟩
  | .hbm, ⟨11, _⟩ => ⟨S_, .f32⟩
  | .hbm, ⟨12, _⟩ => ⟨S16x4096x1, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S16x4096x1, .f32⟩
  | .hbm, ⟨18, _⟩ => ⟨S16x4096x1024, .f32⟩
  | .hbm, ⟨19, _⟩ => ⟨S16x4096x1024, .f32⟩
  | .hbm, ⟨20, _⟩ => ⟨S1x1x1024, .f32⟩
  | .hbm, ⟨21, _⟩ => ⟨S16x4096x1024, .f32⟩
  | .hbm, ⟨22, _⟩ => ⟨S16x4096x1024, .f32⟩
  | .hbm, ⟨23, _⟩ => ⟨S1x1024x4096, .f32⟩
  | .hbm, ⟨24, _⟩ => ⟨S1024x4096, .f32⟩
  | .hbm, ⟨25, _⟩ => ⟨S1x4096x1024, .f32⟩
  | .hbm, ⟨26, _⟩ => ⟨S4096x1024, .f32⟩
  | .hbm, ⟨27, _⟩ => ⟨S16x4096x4096, .f32⟩
  | .hbm, ⟨28, _⟩ => ⟨S_, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x1024, .f32⟩
  | .hbm, ⟨33, _⟩ => ⟨S16x4096x1024, .f32⟩
  | .hbm, ⟨34, _⟩ => ⟨S16x4096x1024, .f32⟩
  | .hbm, ⟨35, _⟩ => ⟨S_, .f32⟩
  | .hbm, ⟨36, _⟩ => ⟨S16x4096, .f32⟩
  | .hbm, ⟨37, _⟩ => ⟨S16x4096x1, .f32⟩
  | .hbm, ⟨38, _⟩ => ⟨S_, .f32⟩
  | .hbm, ⟨39, _⟩ => ⟨S16x4096x1, .f32⟩
  | .hbm, ⟨40, _⟩ => ⟨S16x4096x1, .f32⟩
  | .hbm, ⟨41, _⟩ => ⟨S_, .f32⟩
  | .hbm, ⟨42, _⟩ => ⟨S16x4096x1, .f32⟩
  | .hbm, ⟨43, _⟩ => ⟨S16x4096x1, .f32⟩
  | .hbm, ⟨44, _⟩ => ⟨S16x4096x1, .f32⟩
  | .hbm, ⟨45, _⟩ => ⟨S16x4096x1024, .f32⟩
  | .hbm, ⟨46, _⟩ => ⟨S16x4096x1024, .f32⟩
  | .hbm, ⟨47, _⟩ => ⟨S1x1x1024, .f32⟩
  | .hbm, ⟨48, _⟩ => ⟨S16x4096x1024, .f32⟩
  | .hbm, ⟨49, _⟩ => ⟨S16x4096x1024, .f32⟩
  | .hbm, ⟨50, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel2.lean ====
abbrev S16x4096x1024 : Shape := ⟨3, ![16, 4096, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S65536x1024 : Shape := ⟨2, ![65536, 1024]⟩
abbrev S1x1024 : Shape := ⟨2, ![1, 1024]⟩
abbrev S1024x1024 : Shape := ⟨2, ![1024, 1024]⟩
abbrev S1024x4096 : Shape := ⟨2, ![1024, 4096]⟩
abbrev S4096x1024 : Shape := ⟨2, ![4096, 1024]⟩
abbrev S2x128x4096 : Shape := ⟨3, ![2, 128, 4096]⟩
abbrev S2 : Shape := ⟨1, ![2]⟩
abbrev S1 : Shape := ⟨1, ![1]⟩
abbrev S_ : Shape := ⟨0, ![]⟩
abbrev S1x128x4096 : Shape := ⟨3, ![1, 128, 4096]⟩
abbrev S128x4096 : Shape := ⟨2, ![128, 4096]⟩
abbrev S1x1024x4096 : Shape := ⟨3, ![1, 1024, 4096]⟩
abbrev S2x512x1024 : Shape := ⟨3, ![2, 512, 1024]⟩
abbrev S1x512x1024 : Shape := ⟨3, ![1, 512, 1024]⟩
abbrev S512x1024 : Shape := ⟨2, ![512, 1024]⟩
abbrev S1x4096x1024 : Shape := ⟨3, ![1, 4096, 1024]⟩
abbrev S256x1024 : Shape := ⟨2, ![256, 1024]⟩
abbrev S256 : Shape := ⟨1, ![256]⟩
abbrev S256x1 : Shape := ⟨2, ![256, 1]⟩
abbrev S256x4096 : Shape := ⟨2, ![256, 4096]⟩

abbrev nBuf : Space → Nat
  | .hbm => 11
  | .vmem => 10
  | .smem => 0
  | _ => 0

abbrev bufTy : (tb : Table) → Fin (tcTables nBuf tb) → BufTy
  | .hbm, ⟨0, _⟩ => ⟨S16x4096x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1024, .f32⟩
  | .hbm, ⟨5, _⟩ => ⟨S65536x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x4096, .bf16⟩
  | .local _ .vmem, ⟨7, _⟩ => ⟨S4096x1024, .bf16⟩
  | .local _ .vmem, ⟨8, _⟩ => ⟨S2x128x4096, .f32⟩
  | .local _ .vmem, ⟨9, _⟩ => ⟨S2x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scoped0 : Ref sig .tc := ⟨.vmem, 8, rfl⟩
abbrev cc0_scoped2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_71_r0 : BitVec 32 := 0#32
  let c8_i32_r0 : BitVec 32 := 8#32
  let v134_r0 : BitVec 32 := Scalar.addi c0_i32_71_r0 c8_i32_r0
  let c1_i32_r0 : BitVec 32 := 1#32
  ⟨c0_i32_71_r0, v134_r0, c1_i32_r0⟩
def k0_cond2 (k0_t1 : Fin k0_t1_loop.trips) : BitVec 1 :=
  let c0_i32_71_r0 : BitVec 32 := 0#32
  let c1_i32_r0 : BitVec 32 := 1#32
  let arg9_r0 : BitVec 32 := Scf.iv c0_i32_71_r0 c1_i32_r0 k0_t1
  let c1_i32_78_r0 : BitVec 32 := 1#32
  let v145_r0 : BitVec 32 := Scalar.addi arg9_r0 c1_i32_78_r0
  let c8_i32_79_r0 : BitVec 32 := 8#32
  let v146_r0 : BitVec 1 := Scalar.cmpi .slt v145_r0 c8_i32_79_r0
  let v147_r0 : BitVec 32 := Scalar.extui v146_r0
  let c0_i32_80_r0 : BitVec 32 := 0#32
  let v148_r0 : BitVec 1 := Scalar.cmpi .ne v147_r0 c0_i32_80_r0
  v148_r0

def k0_off1 (k0_t1 : Fin k0_t1_loop.trips) : Fin 1 → Nat :=
  let c1_i32_91_r0 : BitVec 32 := 1#32
  let c0_i32_71_r0 : BitVec 32 := 0#32
  let c1_i32_r0 : BitVec 32 := 1#32
  let arg9_r0 : BitVec 32 := Scf.iv c0_i32_71_r0 c1_i32_r0 k0_t1
  let c2_i32_r0 : BitVec 32 := 2#32
  let c0_i32_73_r0 : BitVec 32 := 0#32
  let v135_r0 : BitVec 1 := Scalar.cmpi .eq c2_i32_r0 c0_i32_73_r0
  let c1_i32_74_r0 : BitVec 32 := 1#32
  let v136_r0 : BitVec 32 := Scalar.select v135_r0 c1_i32_74_r0 c2_i32_r0
  let v137_r0 : BitVec 32 := Scalar.remsi arg9_r0 v136_r0
  let c0_i32_76_r0 : BitVec 32 := 0#32
  let v139_r0 : BitVec 1 := Scalar.cmpi .slt v137_r0 c0_i32_76_r0
  let c0_i32_77_r0 : BitVec 32 := 0#32
  let v140_r0 : BitVec 1 := Scalar.cmpi .slt v136_r0 c0_i32_77_r0
  let v141_r0 : BitVec 1 := Scalar.xori v139_r0 v140_r0
  let c0_i32_75_r0 : BitVec 32 := 0#32
  let v138_r0 : BitVec 1 := Scalar.cmpi .ne v137_r0 c0_i32_75_r0
  let v142_r0 : BitVec 1 := Scalar.andi v141_r0 v138_r0
  let v143_r0 : BitVec 32 := Scalar.addi v137_r0 v136_r0
  let v144_r0 : BitVec 32 := Scalar.select v142_r0 v143_r0 v137_r0
  let v168_r0 : BitVec 32 := Scalar.subi c1_i32_91_r0 v144_r0
  ![v168_r0.toNat]
def k0_off2 (k0_t1 : Fin k0_t1_loop.trips) : Fin 3 → Nat :=
  let c1_i32_91_r0 : BitVec 32 := 1#32
  let c0_i32_71_r0 : BitVec 32 := 0#32
  let c1_i32_r0 : BitVec 32 := 1#32
  let arg9_r0 : BitVec 32 := Scf.iv c0_i32_71_r0 c1_i32_r0 k0_t1
  let c2_i32_r0 : BitVec 32 := 2#32
  let c0_i32_73_r0 : BitVec 32 := 0#32
  let v135_r0 : BitVec 1 := Scalar.cmpi .eq c2_i32_r0 c0_i32_73_r0
  let c1_i32_74_r0 : BitVec 32 := 1#32
  let v136_r0 : BitVec 32 := Scalar.select v135_r0 c1_i32_74_r0 c2_i32_r0
  let v137_r0 : BitVec 32 := Scalar.remsi arg9_r0 v136_r0
  let c0_i32_76_r0 : BitVec 32 := 0#32
  let v139_r0 : BitVec 1 := Scalar.cmpi .slt v137_r0 c0_i32_76_r0
  let c0_i32_77_r0 : BitVec 32 := 0#32
  let v140_r0 : BitVec 1 := Scalar.cmpi .slt v136_r0 c0_i32_77_r0
  let v141_r0 : BitVec 1 := Scalar.xori v139_r0 v140_r0
  let c0_i32_75_r0 : BitVec 32 := 0#32
  let v138_r0 : BitVec 1 := Scalar.cmpi .ne v137_r0 c0_i32_75_r0
  let v142_r0 : BitVec 1 := Scalar.andi v141_r0 v138_r0
  let v143_r0 : BitVec 32 := Scalar.addi v137_r0 v136_r0
  let v144_r0 : BitVec 32 := Scalar.select v142_r0 v143_r0 v137_r0
  let v168_r0 : BitVec 32 := Scalar.subi c1_i32_91_r0 v144_r0
  let c0_i32_93_r0 : BitVec 32 := 0#32
  let c0_i32_94_r0 : BitVec 32 := 0#32
  ![v168_r0.toNat, 0, 0]
def k0_off3 (k0_t1 : Fin k0_t1_loop.trips) : Fin 2 → Nat :=
  let c0_i32_71_r0 : BitVec 32 := 0#32
  let c1_i32_r0 : BitVec 32 := 1#32
  let arg9_r0 : BitVec 32 := Scf.iv c0_i32_71_r0 c1_i32_r0 k0_t1
  let c1_i32_90_r0 : BitVec 32 := 1#32
  let v167_r0 : BitVec 32 := Scalar.addi arg9_r0 c1_i32_90_r0
  let c128_i32_92_r0 : BitVec 32 := 128#32
  let v169_r0 : BitVec 32 := Scalar.muli v167_r0 c128_i32_92_r0
  let c0_i32_97_r0 : BitVec 32 := 0#32
  ![v169_r0.toNat, 0]
def k0_off4 (k0_t1 : Fin k0_t1_loop.trips) : Fin 1 → Nat :=
  let c0_i32_71_r0 : BitVec 32 := 0#32
  let c1_i32_r0 : BitVec 32 := 1#32
  let arg9_r0 : BitVec 32 := Scf.iv c0_i32_71_r0 c1_i32_r0 k0_t1
  let c2_i32_r0 : BitVec 32 := 2#32
  let c0_i32_73_r0 : BitVec 32 := 0#32
  let v135_r0 : BitVec 1 := Scalar.cmpi .eq c2_i32_r0 c0_i32_73_r0
  let c1_i32_74_r0 : BitVec 32 := 1#32
  let v136_r0 : BitVec 32 := Scalar.select v135_r0 c1_i32_74_r0 c2_i32_r0
  let v137_r0 : BitVec 32 := Scalar.remsi arg9_r0 v136_r0
  let c0_i32_76_r0 : BitVec 32 := 0#32
  let v139_r0 : BitVec 1 := Scalar.cmpi .slt v137_r0 c0_i32_76_r0
  let c0_i32_77_r0 : BitVec 32 := 0#32
  let v140_r0 : BitVec 1 := Scalar.cmpi .slt v136_r0 c0_i32_77_r0
  let v141_r0 : BitVec 1 := Scalar.xori v139_r0 v140_r0
  let c0_i32_75_r0 : BitVec 32 := 0#32
  let v138_r0 : BitVec 1 := Scalar.cmpi .ne v137_r0 c0_i32_75_r0
  let v142_r0 : BitVec 1 := Scalar.andi v141_r0 v138_r0
  let v143_r0 : BitVec 32 := Scalar.addi v137_r0 v136_r0
  let v144_r0 : BitVec 32 := Scalar.select v142_r0 v143_r0 v137_r0
  ![v144_r0.toNat]
def k0_off5 (k0_t1 : Fin k0_t1_loop.trips) : Fin 3 → Nat :=
  let c0_i32_71_r0 : BitVec 32 := 0#32
  let c1_i32_r0 : BitVec 32 := 1#32
  let arg9_r0 : BitVec 32 := Scf.iv c0_i32_71_r0 c1_i32_r0 k0_t1
  let c2_i32_r0 : BitVec 32 := 2#32
  let c0_i32_73_r0 : BitVec 32 := 0#32
  let v135_r0 : BitVec 1 := Scalar.cmpi .eq c2_i32_r0 c0_i32_73_r0
  let c1_i32_74_r0 : BitVec 32 := 1#32
  let v136_r0 : BitVec 32 := Scalar.select v135_r0 c1_i32_74_r0 c2_i32_r0
  let v137_r0 : BitVec 32 := Scalar.remsi arg9_r0 v136_r0
  let c0_i32_76_r0 : BitVec 32 := 0#32
  let v139_r0 : BitVec 1 := Scalar.cmpi .slt v137_r0 c0_i32_76_r0
  let c0_i32_77_r0 : BitVec 32 := 0#32
  let v140_r0 : BitVec 1 := Scalar.cmpi .slt v136_r0 c0_i32_77_r0
  let v141_r0 : BitVec 1 := Scalar.xori v139_r0 v140_r0
  let c0_i32_75_r0 : BitVec 32 := 0#32
  let v138_r0 : BitVec 1 := Scalar.cmpi .ne v137_r0 c0_i32_75_r0
  let v142_r0 : BitVec 1 := Scalar.andi v141_r0 v138_r0
  let v143_r0 : BitVec 32 := Scalar.addi v137_r0 v136_r0
  let v144_r0 : BitVec 32 := Scalar.select v142_r0 v143_r0 v137_r0
  let c0_i32_81_r0 : BitVec 32 := 0#32
  let c0_i32_82_r0 : BitVec 32 := 0#32
  ![v144_r0.toNat, 0, 0]
def k0_off6 (k0_t1 : Fin k0_t1_loop.trips) : Fin 2 → Nat :=
  let c0_i32_71_r0 : BitVec 32 := 0#32
  let c1_i32_r0 : BitVec 32 := 1#32
  let arg9_r0 : BitVec 32 := Scf.iv c0_i32_71_r0 c1_i32_r0 k0_t1
  let c128_i32_r0 : BitVec 32 := 128#32
  let v149_r0 : BitVec 32 := Scalar.muli arg9_r0 c128_i32_r0
  let c0_i32_85_r0 : BitVec 32 := 0#32
  ![v149_r0.toNat, 0]
def k0_mult1 (k0_t1 : Fin k0_t1_loop.trips) : BitVec 32 :=
  let c0_i32_71_r0 : BitVec 32 := 0#32
  let c1_i32_r0 : BitVec 32 := 1#32
  let arg9_r0 : BitVec 32 := Scf.iv c0_i32_71_r0 c1_i32_r0 k0_t1
  let c128_i32_86_r0 : BitVec 32 := 128#32
  let v157_r0 : BitVec 32 := Scalar.muli arg9_r0 c128_i32_86_r0
  v157_r0
def k0_off7 (k0_t1 : Fin k0_t1_loop.trips) : Fin 3 → Nat :=
  let c0_i32_71_r0 : BitVec 32 := 0#32
  let c1_i32_r0 : BitVec 32 := 1#32
  let arg9_r0 : BitVec 32 := Scf.iv c0_i32_71_r0 c1_i32_r0 k0_t1
  let c2_i32_r0 : BitVec 32 := 2#32
  let c0_i32_73_r0 : BitVec 32 := 0#32
  let v135_r0 : BitVec 1 := Scalar.cmpi .eq c2_i32_r0 c0_i32_73_r0
  let c1_i32_74_r0 : BitVec 32 := 1#32
  let v136_r0 : BitVec 32 := Scalar.select v135_r0 c1_i32_74_r0 c2_i32_r0
  let v137_r0 : BitVec 32 := Scalar.remsi arg9_r0 v136_r0
  let c0_i32_76_r0 : BitVec 32 := 0#32
  let v139_r0 : BitVec 1 := Scalar.cmpi .slt v137_r0 c0_i32_76_r0
  let c0_i32_77_r0 : BitVec 32 := 0#32
  let v140_r0 : BitVec 1 := Scalar.cmpi .slt v136_r0 c0_i32_77_r0
  let v141_r0 : BitVec 1 := Scalar.xori v139_r0 v140_r0
  let c0_i32_75_r0 : BitVec 32 := 0#32
  let v138_r0 : BitVec 1 := Scalar.cmpi .ne v137_r0 c0_i32_75_r0
  let v142_r0 : BitVec 1 := Scalar.andi v141_r0 v138_r0
  let v143_r0 : BitVec 32 := Scalar.addi v137_r0 v136_r0
  let v144_r0 : BitVec 32 := Scalar.select v142_r0 v143_r0 v137_r0
  let v159_r0 : Index := Scalar.indexCast v144_r0
  let c0_87_r0 : Index := 0#32
  let c0_88_r0 : Index := 0#32
  ![v159_r0.toNat, 0, 0]
def k0_off8 (k0_t1 : Fin k0_t1_loop.trips) : Fin 2 → Nat :=
  let c0_i32_71_r0 : BitVec 32 := 0#32
  let c1_i32_r0 : BitVec 32 := 1#32
  let arg9_r0 : BitVec 32 := Scf.iv c0_i32_71_r0 c1_i32_r0 k0_t1
  let c128_i32_86_r0 : BitVec 32 := 128#32
  let v157_r0 : BitVec 32 := Scalar.muli arg9_r0 c128_i32_86_r0
  let v158_r0 : BitVec 32 := v157_r0
  let v163_r0 : Index := Scalar.indexCast v158_r0
  let c0_89_r0 : Index := 0#32
  ![v163_r0.toNat, 0]
@[reducible] def k0_t2_loop : Scf.Loop 32 :=
  let c0_i32_71_r1 : BitVec 32 := 0#32
  let c8_i32_r1 : BitVec 32 := 8#32
  let v134_r1 : BitVec 32 := Scalar.addi c0_i32_71_r1 c8_i32_r1
  let c1_i32_r1 : BitVec 32 := 1#32
  ⟨c0_i32_71_r1, v134_r1, c1_i32_r1⟩
def k0_cond3 (k0_t2 : Fin k0_t2_loop.trips) : BitVec 1 :=
  let c0_i32_71_r1 : BitVec 32 := 0#32
  let c1_i32_r1 : BitVec 32 := 1#32
  let arg9_r1 : BitVec 32 := Scf.iv c0_i32_71_r1 c1_i32_r1 k0_t2
  let c1_i32_78_r1 : BitVec 32 := 1#32
  let v145_r1 : BitVec 32 := Scalar.addi arg9_r1 c1_i32_78_r1
  let c8_i32_79_r1 : BitVec 32 := 8#32
  let v146_r1 : BitVec 1 := Scalar.cmpi .slt v145_r1 c8_i32_79_r1
  let v147_r1 : BitVec 32 := Scalar.extui v146_r1
  let c0_i32_80_r1 : BitVec 32 := 0#32
  let v148_r1 : BitVec 1 := Scalar.cmpi .ne v147_r1 c0_i32_80_r1
  v148_r1

def k0_off9 (k0_t2 : Fin k0_t2_loop.trips) : Fin 1 → Nat :=
  let c1_i32_91_r1 : BitVec 32 := 1#32
  let c0_i32_71_r1 : BitVec 32 := 0#32
  let c1_i32_r1 : BitVec 32 := 1#32
  let arg9_r1 : BitVec 32 := Scf.iv c0_i32_71_r1 c1_i32_r1 k0_t2
  let c2_i32_r1 : BitVec 32 := 2#32
  let c0_i32_73_r1 : BitVec 32 := 0#32
  let v135_r1 : BitVec 1 := Scalar.cmpi .eq c2_i32_r1 c0_i32_73_r1
  let c1_i32_74_r1 : BitVec 32 := 1#32
  let v136_r1 : BitVec 32 := Scalar.select v135_r1 c1_i32_74_r1 c2_i32_r1
  let v137_r1 : BitVec 32 := Scalar.remsi arg9_r1 v136_r1
  let c0_i32_76_r1 : BitVec 32 := 0#32
  let v139_r1 : BitVec 1 := Scalar.cmpi .slt v137_r1 c0_i32_76_r1
  let c0_i32_77_r1 : BitVec 32 := 0#32
  let v140_r1 : BitVec 1 := Scalar.cmpi .slt v136_r1 c0_i32_77_r1
  let v141_r1 : BitVec 1 := Scalar.xori v139_r1 v140_r1
  let c0_i32_75_r1 : BitVec 32 := 0#32
  let v138_r1 : BitVec 1 := Scalar.cmpi .ne v137_r1 c0_i32_75_r1
  let v142_r1 : BitVec 1 := Scalar.andi v141_r1 v138_r1
  let v143_r1 : BitVec 32 := Scalar.addi v137_r1 v136_r1
  let v144_r1 : BitVec 32 := Scalar.select v142_r1 v143_r1 v137_r1
  let v168_r1 : BitVec 32 := Scalar.subi c1_i32_91_r1 v144_r1
  ![v168_r1.toNat]
def k0_off10 (k0_t2 : Fin k0_t2_loop.trips) : Fin 3 → Nat :=
  let c1_i32_91_r1 : BitVec 32 := 1#32
  let c0_i32_71_r1 : BitVec 32 := 0#32
  let c1_i32_r1 : BitVec 32 := 1#32
  let arg9_r1 : BitVec 32 := Scf.iv c0_i32_71_r1 c1_i32_r1 k0_t2
  let c2_i32_r1 : BitVec 32 := 2#32
  let c0_i32_73_r1 : BitVec 32 := 0#32
  let v135_r1 : BitVec 1 := Scalar.cmpi .eq c2_i32_r1 c0_i32_73_r1
  let c1_i32_74_r1 : BitVec 32 := 1#32
  let v136_r1 : BitVec 32 := Scalar.select v135_r1 c1_i32_74_r1 c2_i32_r1
  let v137_r1 : BitVec 32 := Scalar.remsi arg9_r1 v136_r1
  let c0_i32_76_r1 : BitVec 32 := 0#32
  let v139_r1 : BitVec 1 := Scalar.cmpi .slt v137_r1 c0_i32_76_r1
  let c0_i32_77_r1 : BitVec 32 := 0#32
  let v140_r1 : BitVec 1 := Scalar.cmpi .slt v136_r1 c0_i32_77_r1
  let v141_r1 : BitVec 1 := Scalar.xori v139_r1 v140_r1
  let c0_i32_75_r1 : BitVec 32 := 0#32
  let v138_r1 : BitVec 1 := Scalar.cmpi .ne v137_r1 c0_i32_75_r1
  let v142_r1 : BitVec 1 := Scalar.andi v141_r1 v138_r1
  let v143_r1 : BitVec 32 := Scalar.addi v137_r1 v136_r1
  let v144_r1 : BitVec 32 := Scalar.select v142_r1 v143_r1 v137_r1
  let v168_r1 : BitVec 32 := Scalar.subi c1_i32_91_r1 v144_r1
  let c0_i32_93_r1 : BitVec 32 := 0#32
  let c0_i32_94_r1 : BitVec 32 := 0#32
  ![v168_r1.toNat, 0, 0]
def k0_off11 (k0_t2 : Fin k0_t2_loop.trips) : Fin 2 → Nat :=
  let c0_i32_71_r1 : BitVec 32 := 0#32
  let c1_i32_r1 : BitVec 32 := 1#32
  let arg9_r1 : BitVec 32 := Scf.iv c0_i32_71_r1 c1_i32_r1 k0_t2
  let c1_i32_90_r1 : BitVec 32 := 1#32
  let v167_r1 : BitVec 32 := Scalar.addi arg9_r1 c1_i32_90_r1
  let c512_i32_92_r1 : BitVec 32 := 512#32
  let v169_r1 : BitVec 32 := Scalar.muli v167_r1 c512_i32_92_r1
  let c0_i32_97_r1 : BitVec 32 := 0#32
  ![v169_r1.toNat, 0]
def k0_off12 (k0_t2 : Fin k0_t2_loop.trips) : Fin 1 → Nat :=
  let c0_i32_71_r1 : BitVec 32 := 0#32
  let c1_i32_r1 : BitVec 32 := 1#32
  let arg9_r1 : BitVec 32 := Scf.iv c0_i32_71_r1 c1_i32_r1 k0_t2
  let c2_i32_r1 : BitVec 32 := 2#32
  let c0_i32_73_r1 : BitVec 32 := 0#32
  let v135_r1 : BitVec 1 := Scalar.cmpi .eq c2_i32_r1 c0_i32_73_r1
  let c1_i32_74_r1 : BitVec 32 := 1#32
  let v136_r1 : BitVec 32 := Scalar.select v135_r1 c1_i32_74_r1 c2_i32_r1
  let v137_r1 : BitVec 32 := Scalar.remsi arg9_r1 v136_r1
  let c0_i32_76_r1 : BitVec 32 := 0#32
  let v139_r1 : BitVec 1 := Scalar.cmpi .slt v137_r1 c0_i32_76_r1
  let c0_i32_77_r1 : BitVec 32 := 0#32
  let v140_r1 : BitVec 1 := Scalar.cmpi .slt v136_r1 c0_i32_77_r1
  let v141_r1 : BitVec 1 := Scalar.xori v139_r1 v140_r1
  let c0_i32_75_r1 : BitVec 32 := 0#32
  let v138_r1 : BitVec 1 := Scalar.cmpi .ne v137_r1 c0_i32_75_r1
  let v142_r1 : BitVec 1 := Scalar.andi v141_r1 v138_r1
  let v143_r1 : BitVec 32 := Scalar.addi v137_r1 v136_r1
  let v144_r1 : BitVec 32 := Scalar.select v142_r1 v143_r1 v137_r1
  ![v144_r1.toNat]
def k0_off13 (k0_t2 : Fin k0_t2_loop.trips) : Fin 3 → Nat :=
  let c0_i32_71_r1 : BitVec 32 := 0#32
  let c1_i32_r1 : BitVec 32 := 1#32
  let arg9_r1 : BitVec 32 := Scf.iv c0_i32_71_r1 c1_i32_r1 k0_t2
  let c2_i32_r1 : BitVec 32 := 2#32
  let c0_i32_73_r1 : BitVec 32 := 0#32
  let v135_r1 : BitVec 1 := Scalar.cmpi .eq c2_i32_r1 c0_i32_73_r1
  let c1_i32_74_r1 : BitVec 32 := 1#32
  let v136_r1 : BitVec 32 := Scalar.select v135_r1 c1_i32_74_r1 c2_i32_r1
  let v137_r1 : BitVec 32 := Scalar.remsi arg9_r1 v136_r1
  let c0_i32_76_r1 : BitVec 32 := 0#32
  let v139_r1 : BitVec 1 := Scalar.cmpi .slt v137_r1 c0_i32_76_r1
  let c0_i32_77_r1 : BitVec 32 := 0#32
  let v140_r1 : BitVec 1 := Scalar.cmpi .slt v136_r1 c0_i32_77_r1
  let v141_r1 : BitVec 1 := Scalar.xori v139_r1 v140_r1
  let c0_i32_75_r1 : BitVec 32 := 0#32
  let v138_r1 : BitVec 1 := Scalar.cmpi .ne v137_r1 c0_i32_75_r1
  let v142_r1 : BitVec 1 := Scalar.andi v141_r1 v138_r1
  let v143_r1 : BitVec 32 := Scalar.addi v137_r1 v136_r1
  let v144_r1 : BitVec 32 := Scalar.select v142_r1 v143_r1 v137_r1
  let c0_i32_81_r1 : BitVec 32 := 0#32
  let c0_i32_82_r1 : BitVec 32 := 0#32
  ![v144_r1.toNat, 0, 0]
def k0_off14 (k0_t2 : Fin k0_t2_loop.trips) : Fin 2 → Nat :=
  let c0_i32_71_r1 : BitVec 32 := 0#32
  let c1_i32_r1 : BitVec 32 := 1#32
  let arg9_r1 : BitVec 32 := Scf.iv c0_i32_71_r1 c1_i32_r1 k0_t2
  let c512_i32_r1 : BitVec 32 := 512#32
  let v149_r1 : BitVec 32 := Scalar.muli arg9_r1 c512_i32_r1
  let c0_i32_85_r1 : BitVec 32 := 0#32
  ![v149_r1.toNat, 0]
def k0_mult2 (k0_t2 : Fin k0_t2_loop.trips) : BitVec 32 :=
  let c0_i32_71_r1 : BitVec 32 := 0#32
  let c1_i32_r1 : BitVec 32 := 1#32
  let arg9_r1 : BitVec 32 := Scf.iv c0_i32_71_r1 c1_i32_r1 k0_t2
  let c512_i32_86_r1 : BitVec 32 := 512#32
  let v157_r1 : BitVec 32 := Scalar.muli arg9_r1 c512_i32_86_r1
  v157_r1
def k0_off15 (k0_t2 : Fin k0_t2_loop.trips) : Fin 3 → Nat :=
  let c0_i32_71_r1 : BitVec 32 := 0#32
  let c1_i32_r1 : BitVec 32 := 1#32
  let arg9_r1 : BitVec 32 := Scf.iv c0_i32_71_r1 c1_i32_r1 k0_t2
  let c2_i32_r1 : BitVec 32 := 2#32
  let c0_i32_73_r1 : BitVec 32 := 0#32
  let v135_r1 : BitVec 1 := Scalar.cmpi .eq c2_i32_r1 c0_i32_73_r1
  let c1_i32_74_r1 : BitVec 32 := 1#32
  let v136_r1 : BitVec 32 := Scalar.select v135_r1 c1_i32_74_r1 c2_i32_r1
  let v137_r1 : BitVec 32 := Scalar.remsi arg9_r1 v136_r1
  let c0_i32_76_r1 : BitVec 32 := 0#32
  let v139_r1 : BitVec 1 := Scalar.cmpi .slt v137_r1 c0_i32_76_r1
  let c0_i32_77_r1 : BitVec 32 := 0#32
  let v140_r1 : BitVec 1 := Scalar.cmpi .slt v136_r1 c0_i32_77_r1
  let v141_r1 : BitVec 1 := Scalar.xori v139_r1 v140_r1
  let c0_i32_75_r1 : BitVec 32 := 0#32
  let v138_r1 : BitVec 1 := Scalar.cmpi .ne v137_r1 c0_i32_75_r1
  let v142_r1 : BitVec 1 := Scalar.andi v141_r1 v138_r1
  let v143_r1 : BitVec 32 := Scalar.addi v137_r1 v136_r1
  let v144_r1 : BitVec 32 := Scalar.select v142_r1 v143_r1 v137_r1
  let v159_r1 : Index := Scalar.indexCast v144_r1
  let c0_87_r1 : Index := 0#32
  let c0_88_r1 : Index := 0#32
  ![v159_r1.toNat, 0, 0]
def k0_off16 (k0_t2 : Fin k0_t2_loop.trips) : Fin 2 → Nat :=
  let c0_i32_71_r1 : BitVec 32 := 0#32
  let c1_i32_r1 : BitVec 32 := 1#32
  let arg9_r1 : BitVec 32 := Scf.iv c0_i32_71_r1 c1_i32_r1 k0_t2
  let c512_i32_86_r1 : BitVec 32 := 512#32
  let v157_r1 : BitVec 32 := Scalar.muli arg9_r1 c512_i32_86_r1
  let v158_r1 : BitVec 32 := v157_r1
  let v163_r1 : Index := Scalar.indexCast v158_r1
  let c0_89_r1 : Index := 0#32
  ![v163_r1.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S16x4096x1024 : Shape := ⟨3, ![16, 4096, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024 : Shape := ⟨2, ![1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S16x4096x4096 : Shape := ⟨3, ![16, 4096, 4096]⟩
abbrev S65536x1024 : Shape := ⟨2, ![65536, 1024]⟩

abbrev nBuf : Space → Nat
  | .hbm => 35
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S16x4096x1024, .f32⟩
  | .hbm, ⟨8, _⟩ => ⟨S_, .f32⟩
  | .hbm, ⟨9, _⟩ => ⟨S16x4096, .f32⟩
  | .hbm, ⟨10, _⟩ => ⟨S16x4096x1, .f32⟩
  | .hbm, ⟨11, _⟩ => ⟨S_, .f32⟩
  | .hbm, ⟨12, _⟩ => ⟨S16x4096x1, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S16x4096x1, .f32⟩
  | .hbm, ⟨18, _⟩ => ⟨S16x4096x1024, .f32⟩
  | .hbm, ⟨19, _⟩ => ⟨S16x4096x1024, .f32⟩
  | .hbm, ⟨20, _⟩ => ⟨S1x1x1024, .f32⟩
  | .hbm, ⟨21, _⟩ => ⟨S16x4096x1024, .f32⟩
  | .hbm, ⟨22, _⟩ => ⟨S16x4096x1024, .f32⟩
  | .hbm, ⟨23, _⟩ => ⟨S1x1024x4096, .f32⟩
  | .hbm, ⟨24, _⟩ => ⟨S1024x4096, .f32⟩
  | .hbm, ⟨25, _⟩ => ⟨S1x4096x1024, .f32⟩
  | .hbm, ⟨26, _⟩ => ⟨S4096x1024, .f32⟩
  | .hbm, ⟨27, _⟩ => ⟨S16x4096x4096, .f32⟩
  | .hbm, ⟨28, _⟩ => ⟨S_, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x1024, .f32⟩
  | .hbm, ⟨33, _⟩ => ⟨S16x4096x1024, .f32⟩
  | .hbm, ⟨34, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel3.lean ====
abbrev S16x4096x1024 : Shape := ⟨3, ![16, 4096, 1024]⟩
abbrev S2x1024 : Shape := ⟨2, ![2, 1024]⟩
abbrev S1x1024x4096 : Shape := ⟨3, ![1, 1024, 4096]⟩
abbrev S1x4096 : Shape := ⟨2, ![1, 4096]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S65536x1024 : Shape := ⟨2, ![65536, 1024]⟩
abbrev S1x1024 : Shape := ⟨2, ![1, 1024]⟩
abbrev S1024 : Shape := ⟨1, ![1024]⟩
abbrev S4096 : Shape := ⟨1, ![4096]⟩
abbrev S2048 : Shape := ⟨1, ![2048]⟩
abbrev S8x128x128 : Shape := ⟨3, ![8, 128, 128]⟩
abbrev S8x128 : Shape := ⟨2, ![8, 128]⟩
abbrev S128x8 : Shape := ⟨2, ![128, 8]⟩
abbrev S1024x1024 : Shape := ⟨2, ![1024, 1024]⟩
abbrev S1024x2048 : Shape := ⟨2, ![1024, 2048]⟩
abbrev S1024x4096 : Shape := ⟨2, ![1024, 4096]⟩
abbrev S2048x1024 : Shape := ⟨2, ![2048, 1024]⟩
abbrev S2x128x4096 : Shape := ⟨3, ![2, 128, 4096]⟩
abbrev S2 : Shape := ⟨1, ![2]⟩
abbrev S1 : Shape := ⟨1, ![1]⟩
abbrev S_ : Shape := ⟨0, ![]⟩
abbrev S1x128x4096 : Shape := ⟨3, ![1, 128, 4096]⟩
abbrev S128x4096 : Shape := ⟨2, ![128, 4096]⟩
abbrev S2x512x1024 : Shape := ⟨3, ![2, 512, 1024]⟩
abbrev S1x512x1024 : Shape := ⟨3, ![1, 512, 1024]⟩
abbrev S512x1024 : Shape := ⟨2, ![512, 1024]⟩
abbrev S128x128 : Shape := ⟨2, ![128, 128]⟩
abbrev S256x1 : Shape := ⟨2, ![256, 1]⟩
abbrev S256x1024 : Shape := ⟨2, ![256, 1024]⟩
abbrev S256 : Shape := ⟨1, ![256]⟩
abbrev S1024x256 : Shape := ⟨2, ![1024, 256]⟩
abbrev S256x256 : Shape := ⟨2, ![256, 256]⟩
abbrev S1x256 : Shape := ⟨2, ![1, 256]⟩
abbrev S1x128x128 : Shape := ⟨3, ![1, 128, 128]⟩
abbrev S128x1 : Shape := ⟨2, ![128, 1]⟩
abbrev S128x256 : Shape := ⟨2, ![128, 256]⟩
abbrev S256x2048 : Shape := ⟨2, ![256, 2048]⟩

abbrev nBuf : Space → Nat
  | .hbm => 20
  | .vmem => 15
  | .smem => 0
  | _ => 0

abbrev bufTy : (tb : Table) → Fin (tcTables nBuf tb) → BufTy
  | .hbm, ⟨0, _⟩ => ⟨S16x4096x1024, .f32⟩
  | .hbm, ⟨1, _⟩ => ⟨S2x1024, .f32⟩
  | .hbm, ⟨2, _⟩ => ⟨S1x1024x4096, .f32⟩
  | .hbm, ⟨3, _⟩ => ⟨S1x4096, .f32⟩
  | .hbm, ⟨4, _⟩ => ⟨S1x2048, .f32⟩
  | .hbm, ⟨5, _⟩ => ⟨S1x8x128x128, .f32⟩
  | .hbm, ⟨6, _⟩ => ⟨S1x8x128, .f32⟩
  | .hbm, ⟨7, _⟩ => ⟨S1x2048x1024, .f32⟩
  | .hbm, ⟨8, _⟩ => ⟨S65536x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S4096, .f32⟩
  | .hbm, ⟨13, _⟩ => ⟨S1x4096, .f32⟩
  | .hbm, ⟨14, _⟩ => ⟨S2048, .f32⟩
  | .hbm, ⟨15, _⟩ => ⟨S1x2048, .f32⟩
  | .hbm, ⟨16, _⟩ => ⟨S8x128x128, .f32⟩
  | .hbm, ⟨17, _⟩ => ⟨S8x128, .f32⟩
  | .hbm, ⟨18, _⟩ => ⟨S128x8, .f32⟩
  | .hbm, ⟨19, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x4096, .f32⟩
  | .local _ .vmem, ⟨4, _⟩ => ⟨S1x2048, .f32⟩
  | .local _ .vmem, ⟨5, _⟩ => ⟨S8x128x128, .f32⟩
  | .local _ .vmem, ⟨6, _⟩ => ⟨S128x8, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x2048, .f32⟩
  | .local _ .vmem, ⟨11, _⟩ => ⟨S1024x4096, .bf16⟩
  | .local _ .vmem, ⟨12, _⟩ => ⟨S2048x1024, .bf16⟩
  | .local _ .vmem, ⟨13, _⟩ => ⟨S2x128x4096, .f32⟩
  | .local _ .vmem, ⟨14, _⟩ => ⟨S2x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scoped0 : Ref sig .tc := ⟨.vmem, 13, rfl⟩
abbrev cc0_scoped2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1181_r0 : BitVec 32 := 0#32
  let c8_i32_r0 : BitVec 32 := 8#32
  let v2287_r0 : BitVec 32 := Scalar.addi c0_i32_1181_r0 c8_i32_r0
  let c1_i32_r0 : BitVec 32 := 1#32
  ⟨c0_i32_1181_r0, v2287_r0, c1_i32_r0⟩
def k0_cond2 (k0_t1 : Fin k0_t1_loop.trips) : BitVec 1 :=
  let c0_i32_1181_r0 : BitVec 32 := 0#32
  let c1_i32_r0 : BitVec 32 := 1#32
  let arg14_r0 : BitVec 32 := Scf.iv c0_i32_1181_r0 c1_i32_r0 k0_t1
  let c1_i32_1188_r0 : BitVec 32 := 1#32
  let v2298_r0 : BitVec 32 := Scalar.addi arg14_r0 c1_i32_1188_r0
  let c8_i32_1189_r0 : BitVec 32 := 8#32
  let v2299_r0 : BitVec 1 := Scalar.cmpi .slt v2298_r0 c8_i32_1189_r0
  let v2300_r0 : BitVec 32 := Scalar.extui v2299_r0
  let c0_i32_1190_r0 : BitVec 32 := 0#32
  let v2301_r0 : BitVec 1 := Scalar.cmpi .ne v2300_r0 c0_i32_1190_r0
  v2301_r0

def k0_off1 (k0_t1 : Fin k0_t1_loop.trips) : Fin 1 → Nat :=
  let c1_i32_1201_r0 : BitVec 32 := 1#32
  let c0_i32_1181_r0 : BitVec 32 := 0#32
  let c1_i32_r0 : BitVec 32 := 1#32
  let arg14_r0 : BitVec 32 := Scf.iv c0_i32_1181_r0 c1_i32_r0 k0_t1
  let c2_i32_r0 : BitVec 32 := 2#32
  let c0_i32_1183_r0 : BitVec 32 := 0#32
  let v2288_r0 : BitVec 1 := Scalar.cmpi .eq c2_i32_r0 c0_i32_1183_r0
  let c1_i32_1184_r0 : BitVec 32 := 1#32
  let v2289_r0 : BitVec 32 := Scalar.select v2288_r0 c1_i32_1184_r0 c2_i32_r0
  let v2290_r0 : BitVec 32 := Scalar.remsi arg14_r0 v2289_r0
  let c0_i32_1186_r0 : BitVec 32 := 0#32
  let v2292_r0 : BitVec 1 := Scalar.cmpi .slt v2290_r0 c0_i32_1186_r0
  let c0_i32_1187_r0 : BitVec 32 := 0#32
  let v2293_r0 : BitVec 1 := Scalar.cmpi .slt v2289_r0 c0_i32_1187_r0
  let v2294_r0 : BitVec 1 := Scalar.xori v2292_r0 v2293_r0
  let c0_i32_1185_r0 : BitVec 32 := 0#32
  let v2291_r0 : BitVec 1 := Scalar.cmpi .ne v2290_r0 c0_i32_1185_r0
  let v2295_r0 : BitVec 1 := Scalar.andi v2294_r0 v2291_r0
  let v2296_r0 : BitVec 32 := Scalar.addi v2290_r0 v2289_r0
  let v2297_r0 : BitVec 32 := Scalar.select v2295_r0 v2296_r0 v2290_r0
  let v2321_r0 : BitVec 32 := Scalar.subi c1_i32_1201_r0 v2297_r0
  ![v2321_r0.toNat]
def k0_off2 (k0_t1 : Fin k0_t1_loop.trips) : Fin 3 → Nat :=
  let c1_i32_1201_r0 : BitVec 32 := 1#32
  let c0_i32_1181_r0 : BitVec 32 := 0#32
  let c1_i32_r0 : BitVec 32 := 1#32
  let arg14_r0 : BitVec 32 := Scf.iv c0_i32_1181_r0 c1_i32_r0 k0_t1
  let c2_i32_r0 : BitVec 32 := 2#32
  let c0_i32_1183_r0 : BitVec 32 := 0#32
  let v2288_r0 : BitVec 1 := Scalar.cmpi .eq c2_i32_r0 c0_i32_1183_r0
  let c1_i32_1184_r0 : BitVec 32 := 1#32
  let v2289_r0 : BitVec 32 := Scalar.select v2288_r0 c1_i32_1184_r0 c2_i32_r0
  let v2290_r0 : BitVec 32 := Scalar.remsi arg14_r0 v2289_r0
  let c0_i32_1186_r0 : BitVec 32 := 0#32
  let v2292_r0 : BitVec 1 := Scalar.cmpi .slt v2290_r0 c0_i32_1186_r0
  let c0_i32_1187_r0 : BitVec 32 := 0#32
  let v2293_r0 : BitVec 1 := Scalar.cmpi .slt v2289_r0 c0_i32_1187_r0
  let v2294_r0 : BitVec 1 := Scalar.xori v2292_r0 v2293_r0
  let c0_i32_1185_r0 : BitVec 32 := 0#32
  let v2291_r0 : BitVec 1 := Scalar.cmpi .ne v2290_r0 c0_i32_1185_r0
  let v2295_r0 : BitVec 1 := Scalar.andi v2294_r0 v2291_r0
  let v2296_r0 : BitVec 32 := Scalar.addi v2290_r0 v2289_r0
  let v2297_r0 : BitVec 32 := Scalar.select v2295_r0 v2296_r0 v2290_r0
  let v2321_r0 : BitVec 32 := Scalar.subi c1_i32_1201_r0 v2297_r0
  let c0_i32_1203_r0 : BitVec 32 := 0#32
  let c0_i32_1204_r0 : BitVec 32 := 0#32
  ![v2321_r0.toNat, 0, 0]
def k0_off3 (k0_t1 : Fin k0_t1_loop.trips) : Fin 2 → Nat :=
  let c0_i32_1181_r0 : BitVec 32 := 0#32
  let c1_i32_r0 : BitVec 32 := 1#32
  let arg14_r0 : BitVec 32 := Scf.iv c0_i32_1181_r0 c1_i32_r0 k0_t1
  let c1_i32_1200_r0 : BitVec 32 := 1#32
  let v2320_r0 : BitVec 32 := Scalar.addi arg14_r0 c1_i32_1200_r0
  let c128_i32_1202_r0 : BitVec 32 := 128#32
  let v2322_r0 : BitVec 32 := Scalar.muli v2320_r0 c128_i32_1202_r0
  let c0_i32_1207_r0 : BitVec 32 := 0#32
  ![v2322_r0.toNat, 0]
def k0_off4 (k0_t1 : Fin k0_t1_loop.trips) : Fin 1 → Nat :=
  let c0_i32_1181_r0 : BitVec 32 := 0#32
  let c1_i32_r0 : BitVec 32 := 1#32
  let arg14_r0 : BitVec 32 := Scf.iv c0_i32_1181_r0 c1_i32_r0 k0_t1
  let c2_i32_r0 : BitVec 32 := 2#32
  let c0_i32_1183_r0 : BitVec 32 := 0#32
  let v2288_r0 : BitVec 1 := Scalar.cmpi .eq c2_i32_r0 c0_i32_1183_r0
  let c1_i32_1184_r0 : BitVec 32 := 1#32
  let v2289_r0 : BitVec 32 := Scalar.select v2288_r0 c1_i32_1184_r0 c2_i32_r0
  let v2290_r0 : BitVec 32 := Scalar.remsi arg14_r0 v2289_r0
  let c0_i32_1186_r0 : BitVec 32 := 0#32
  let v2292_r0 : BitVec 1 := Scalar.cmpi .slt v2290_r0 c0_i32_1186_r0
  let c0_i32_1187_r0 : BitVec 32 := 0#32
  let v2293_r0 : BitVec 1 := Scalar.cmpi .slt v2289_r0 c0_i32_1187_r0
  let v2294_r0 : BitVec 1 := Scalar.xori v2292_r0 v2293_r0
  let c0_i32_1185_r0 : BitVec 32 := 0#32
  let v2291_r0 : BitVec 1 := Scalar.cmpi .ne v2290_r0 c0_i32_1185_r0
  let v2295_r0 : BitVec 1 := Scalar.andi v2294_r0 v2291_r0
  let v2296_r0 : BitVec 32 := Scalar.addi v2290_r0 v2289_r0
  let v2297_r0 : BitVec 32 := Scalar.select v2295_r0 v2296_r0 v2290_r0
  ![v2297_r0.toNat]
def k0_off5 (k0_t1 : Fin k0_t1_loop.trips) : Fin 3 → Nat :=
  let c0_i32_1181_r0 : BitVec 32 := 0#32
  let c1_i32_r0 : BitVec 32 := 1#32
  let arg14_r0 : BitVec 32 := Scf.iv c0_i32_1181_r0 c1_i32_r0 k0_t1
  let c2_i32_r0 : BitVec 32 := 2#32
  let c0_i32_1183_r0 : BitVec 32 := 0#32
  let v2288_r0 : BitVec 1 := Scalar.cmpi .eq c2_i32_r0 c0_i32_1183_r0
  let c1_i32_1184_r0 : BitVec 32 := 1#32
  let v2289_r0 : BitVec 32 := Scalar.select v2288_r0 c1_i32_1184_r0 c2_i32_r0
  let v2290_r0 : BitVec 32 := Scalar.remsi arg14_r0 v2289_r0
  let c0_i32_1186_r0 : BitVec 32 := 0#32
  let v2292_r0 : BitVec 1 := Scalar.cmpi .slt v2290_r0 c0_i32_1186_r0
  let c0_i32_1187_r0 : BitVec 32 := 0#32
  let v2293_r0 : BitVec 1 := Scalar.cmpi .slt v2289_r0 c0_i32_1187_r0
  let v2294_r0 : BitVec 1 := Scalar.xori v2292_r0 v2293_r0
  let c0_i32_1185_r0 : BitVec 32 := 0#32
  let v2291_r0 : BitVec 1 := Scalar.cmpi .ne v2290_r0 c0_i32_1185_r0
  let v2295_r0 : BitVec 1 := Scalar.andi v2294_r0 v2291_r0
  let v2296_r0 : BitVec 32 := Scalar.addi v2290_r0 v2289_r0
  let v2297_r0 : BitVec 32 := Scalar.select v2295_r0 v2296_r0 v2290_r0
  let c0_i32_1191_r0 : BitVec 32 := 0#32
  let c0_i32_1192_r0 : BitVec 32 := 0#32
  ![v2297_r0.toNat, 0, 0]
def k0_off6 (k0_t1 : Fin k0_t1_loop.trips) : Fin 2 → Nat :=
  let c0_i32_1181_r0 : BitVec 32 := 0#32
  let c1_i32_r0 : BitVec 32 := 1#32
  let arg14_r0 : BitVec 32 := Scf.iv c0_i32_1181_r0 c1_i32_r0 k0_t1
  let c128_i32_r0 : BitVec 32 := 128#32
  let v2302_r0 : BitVec 32 := Scalar.muli arg14_r0 c128_i32_r0
  let c0_i32_1195_r0 : BitVec 32 := 0#32
  ![v2302_r0.toNat, 0]
def k0_mult1 (k0_t1 : Fin k0_t1_loop.trips) : BitVec 32 :=
  let c0_i32_1181_r0 : BitVec 32 := 0#32
  let c1_i32_r0 : BitVec 32 := 1#32
  let arg14_r0 : BitVec 32 := Scf.iv c0_i32_1181_r0 c1_i32_r0 k0_t1
  let c128_i32_1196_r0 : BitVec 32 := 128#32
  let v2310_r0 : BitVec 32 := Scalar.muli arg14_r0 c128_i32_1196_r0
  v2310_r0
def k0_off7 (k0_t1 : Fin k0_t1_loop.trips) : Fin 3 → Nat :=
  let c0_i32_1181_r0 : BitVec 32 := 0#32
  let c1_i32_r0 : BitVec 32 := 1#32
  let arg14_r0 : BitVec 32 := Scf.iv c0_i32_1181_r0 c1_i32_r0 k0_t1
  let c2_i32_r0 : BitVec 32 := 2#32
  let c0_i32_1183_r0 : BitVec 32 := 0#32
  let v2288_r0 : BitVec 1 := Scalar.cmpi .eq c2_i32_r0 c0_i32_1183_r0
  let c1_i32_1184_r0 : BitVec 32 := 1#32
  let v2289_r0 : BitVec 32 := Scalar.select v2288_r0 c1_i32_1184_r0 c2_i32_r0
  let v2290_r0 : BitVec 32 := Scalar.remsi arg14_r0 v2289_r0
  let c0_i32_1186_r0 : BitVec 32 := 0#32
  let v2292_r0 : BitVec 1 := Scalar.cmpi .slt v2290_r0 c0_i32_1186_r0
  let c0_i32_1187_r0 : BitVec 32 := 0#32
  let v2293_r0 : BitVec 1 := Scalar.cmpi .slt v2289_r0 c0_i32_1187_r0
  let v2294_r0 : BitVec 1 := Scalar.xori v2292_r0 v2293_r0
  let c0_i32_1185_r0 : BitVec 32 := 0#32
  let v2291_r0 : BitVec 1 := Scalar.cmpi .ne v2290_r0 c0_i32_1185_r0
  let v2295_r0 : BitVec 1 := Scalar.andi v2294_r0 v2291_r0
  let v2296_r0 : BitVec 32 := Scalar.addi v2290_r0 v2289_r0
  let v2297_r0 : BitVec 32 := Scalar.select v2295_r0 v2296_r0 v2290_r0
  let v2312_r0 : Index := Scalar.indexCast v2297_r0
  let c0_1197_r0 : Index := 0#32
  let c0_1198_r0 : Index := 0#32
  ![v2312_r0.toNat, 0, 0]
def k0_off8 (k0_t1 : Fin k0_t1_loop.trips) : Fin 2 → Nat :=
  let c0_i32_1181_r0 : BitVec 32 := 0#32
  let c1_i32_r0 : BitVec 32 := 1#32
  let arg14_r0 : BitVec 32 := Scf.iv c0_i32_1181_r0 c1_i32_r0 k0_t1
  let c128_i32_1196_r0 : BitVec 32 := 128#32
  let v2310_r0 : BitVec 32 := Scalar.muli arg14_r0 c128_i32_1196_r0
  let v2311_r0 : BitVec 32 := v2310_r0
  let v2316_r0 : Index := Scalar.indexCast v2311_r0
  let c0_1199_r0 : Index := 0#32
  ![v2316_r0.toNat, 0]
@[reducible] def k0_t2_loop : Scf.Loop 32 :=
  let c0_i32_1181_r1 : BitVec 32 := 0#32
  let c4_i32_r1 : BitVec 32 := 4#32
  let v2287_r1 : BitVec 32 := Scalar.addi c0_i32_1181_r1 c4_i32_r1
  let c1_i32_r1 : BitVec 32 := 1#32
  ⟨c0_i32_1181_r1, v2287_r1, c1_i32_r1⟩
def k0_cond3 (k0_t2 : Fin k0_t2_loop.trips) : BitVec 1 :=
  let c0_i32_1181_r1 : BitVec 32 := 0#32
  let c1_i32_r1 : BitVec 32 := 1#32
  let arg14_r1 : BitVec 32 := Scf.iv c0_i32_1181_r1 c1_i32_r1 k0_t2
  let c1_i32_1188_r1 : BitVec 32 := 1#32
  let v2298_r1 : BitVec 32 := Scalar.addi arg14_r1 c1_i32_1188_r1
  let c4_i32_1189_r1 : BitVec 32 := 4#32
  let v2299_r1 : BitVec 1 := Scalar.cmpi .slt v2298_r1 c4_i32_1189_r1
  let v2300_r1 : BitVec 32 := Scalar.extui v2299_r1
  let c0_i32_1190_r1 : BitVec 32 := 0#32
  let v2301_r1 : BitVec 1 := Scalar.cmpi .ne v2300_r1 c0_i32_1190_r1
  v2301_r1

def k0_off9 (k0_t2 : Fin k0_t2_loop.trips) : Fin 1 → Nat :=
  let c1_i32_1201_r1 : BitVec 32 := 1#32
  let c0_i32_1181_r1 : BitVec 32 := 0#32
  let c1_i32_r1 : BitVec 32 := 1#32
  let arg14_r1 : BitVec 32 := Scf.iv c0_i32_1181_r1 c1_i32_r1 k0_t2
  let c2_i32_r1 : BitVec 32 := 2#32
  let c0_i32_1183_r1 : BitVec 32 := 0#32
  let v2288_r1 : BitVec 1 := Scalar.cmpi .eq c2_i32_r1 c0_i32_1183_r1
  let c1_i32_1184_r1 : BitVec 32 := 1#32
  let v2289_r1 : BitVec 32 := Scalar.select v2288_r1 c1_i32_1184_r1 c2_i32_r1
  let v2290_r1 : BitVec 32 := Scalar.remsi arg14_r1 v2289_r1
  let c0_i32_1186_r1 : BitVec 32 := 0#32
  let v2292_r1 : BitVec 1 := Scalar.cmpi .slt v2290_r1 c0_i32_1186_r1
  let c0_i32_1187_r1 : BitVec 32 := 0#32
  let v2293_r1 : BitVec 1 := Scalar.cmpi .slt v2289_r1 c0_i32_1187_r1
  let v2294_r1 : BitVec 1 := Scalar.xori v2292_r1 v2293_r1
  let c0_i32_1185_r1 : BitVec 32 := 0#32
  let v2291_r1 : BitVec 1 := Scalar.cmpi .ne v2290_r1 c0_i32_1185_r1
  let v2295_r1 : BitVec 1 := Scalar.andi v2294_r1 v2291_r1
  let v2296_r1 : BitVec 32 := Scalar.addi v2290_r1 v2289_r1
  let v2297_r1 : BitVec 32 := Scalar.select v2295_r1 v2296_r1 v2290_r1
  let v2321_r1 : BitVec 32 := Scalar.subi c1_i32_1201_r1 v2297_r1
  ![v2321_r1.toNat]
def k0_off10 (k0_t2 : Fin k0_t2_loop.trips) : Fin 3 → Nat :=
  let c1_i32_1201_r1 : BitVec 32 := 1#32
  let c0_i32_1181_r1 : BitVec 32 := 0#32
  let c1_i32_r1 : BitVec 32 := 1#32
  let arg14_r1 : BitVec 32 := Scf.iv c0_i32_1181_r1 c1_i32_r1 k0_t2
  let c2_i32_r1 : BitVec 32 := 2#32
  let c0_i32_1183_r1 : BitVec 32 := 0#32
  let v2288_r1 : BitVec 1 := Scalar.cmpi .eq c2_i32_r1 c0_i32_1183_r1
  let c1_i32_1184_r1 : BitVec 32 := 1#32
  let v2289_r1 : BitVec 32 := Scalar.select v2288_r1 c1_i32_1184_r1 c2_i32_r1
  let v2290_r1 : BitVec 32 := Scalar.remsi arg14_r1 v2289_r1
  let c0_i32_1186_r1 : BitVec 32 := 0#32
  let v2292_r1 : BitVec 1 := Scalar.cmpi .slt v2290_r1 c0_i32_1186_r1
  let c0_i32_1187_r1 : BitVec 32 := 0#32
  let v2293_r1 : BitVec 1 := Scalar.cmpi .slt v2289_r1 c0_i32_1187_r1
  let v2294_r1 : BitVec 1 := Scalar.xori v2292_r1 v2293_r1
  let c0_i32_1185_r1 : BitVec 32 := 0#32
  let v2291_r1 : BitVec 1 := Scalar.cmpi .ne v2290_r1 c0_i32_1185_r1
  let v2295_r1 : BitVec 1 := Scalar.andi v2294_r1 v2291_r1
  let v2296_r1 : BitVec 32 := Scalar.addi v2290_r1 v2289_r1
  let v2297_r1 : BitVec 32 := Scalar.select v2295_r1 v2296_r1 v2290_r1
  let v2321_r1 : BitVec 32 := Scalar.subi c1_i32_1201_r1 v2297_r1
  let c0_i32_1203_r1 : BitVec 32 := 0#32
  let c0_i32_1204_r1 : BitVec 32 := 0#32
  ![v2321_r1.toNat, 0, 0]
def k0_off11 (k0_t2 : Fin k0_t2_loop.trips) : Fin 2 → Nat :=
  let c0_i32_1181_r1 : BitVec 32 := 0#32
  let c1_i32_r1 : BitVec 32 := 1#32
  let arg14_r1 : BitVec 32 := Scf.iv c0_i32_1181_r1 c1_i32_r1 k0_t2
  let c1_i32_1200_r1 : BitVec 32 := 1#32
  let v2320_r1 : BitVec 32 := Scalar.addi arg14_r1 c1_i32_1200_r1
  let c512_i32_1202_r1 : BitVec 32 := 512#32
  let v2322_r1 : BitVec 32 := Scalar.muli v2320_r1 c512_i32_1202_r1
  let c0_i32_1207_r1 : BitVec 32 := 0#32
  ![v2322_r1.toNat, 0]
def k0_off12 (k0_t2 : Fin k0_t2_loop.trips) : Fin 1 → Nat :=
  let c0_i32_1181_r1 : BitVec 32 := 0#32
  let c1_i32_r1 : BitVec 32 := 1#32
  let arg14_r1 : BitVec 32 := Scf.iv c0_i32_1181_r1 c1_i32_r1 k0_t2
  let c2_i32_r1 : BitVec 32 := 2#32
  let c0_i32_1183_r1 : BitVec 32 := 0#32
  let v2288_r1 : BitVec 1 := Scalar.cmpi .eq c2_i32_r1 c0_i32_1183_r1
  let c1_i32_1184_r1 : BitVec 32 := 1#32
  let v2289_r1 : BitVec 32 := Scalar.select v2288_r1 c1_i32_1184_r1 c2_i32_r1
  let v2290_r1 : BitVec 32 := Scalar.remsi arg14_r1 v2289_r1
  let c0_i32_1186_r1 : BitVec 32 := 0#32
  let v2292_r1 : BitVec 1 := Scalar.cmpi .slt v2290_r1 c0_i32_1186_r1
  let c0_i32_1187_r1 : BitVec 32 := 0#32
  let v2293_r1 : BitVec 1 := Scalar.cmpi .slt v2289_r1 c0_i32_1187_r1
  let v2294_r1 : BitVec 1 := Scalar.xori v2292_r1 v2293_r1
  let c0_i32_1185_r1 : BitVec 32 := 0#32
  let v2291_r1 : BitVec 1 := Scalar.cmpi .ne v2290_r1 c0_i32_1185_r1
  let v2295_r1 : BitVec 1 := Scalar.andi v2294_r1 v2291_r1
  let v2296_r1 : BitVec 32 := Scalar.addi v2290_r1 v2289_r1
  let v2297_r1 : BitVec 32 := Scalar.select v2295_r1 v2296_r1 v2290_r1
  ![v2297_r1.toNat]
def k0_off13 (k0_t2 : Fin k0_t2_loop.trips) : Fin 3 → Nat :=
  let c0_i32_1181_r1 : BitVec 32 := 0#32
  let c1_i32_r1 : BitVec 32 := 1#32
  let arg14_r1 : BitVec 32 := Scf.iv c0_i32_1181_r1 c1_i32_r1 k0_t2
  let c2_i32_r1 : BitVec 32 := 2#32
  let c0_i32_1183_r1 : BitVec 32 := 0#32
  let v2288_r1 : BitVec 1 := Scalar.cmpi .eq c2_i32_r1 c0_i32_1183_r1
  let c1_i32_1184_r1 : BitVec 32 := 1#32
  let v2289_r1 : BitVec 32 := Scalar.select v2288_r1 c1_i32_1184_r1 c2_i32_r1
  let v2290_r1 : BitVec 32 := Scalar.remsi arg14_r1 v2289_r1
  let c0_i32_1186_r1 : BitVec 32 := 0#32
  let v2292_r1 : BitVec 1 := Scalar.cmpi .slt v2290_r1 c0_i32_1186_r1
  let c0_i32_1187_r1 : BitVec 32 := 0#32
  let v2293_r1 : BitVec 1 := Scalar.cmpi .slt v2289_r1 c0_i32_1187_r1
  let v2294_r1 : BitVec 1 := Scalar.xori v2292_r1 v2293_r1
  let c0_i32_1185_r1 : BitVec 32 := 0#32
  let v2291_r1 : BitVec 1 := Scalar.cmpi .ne v2290_r1 c0_i32_1185_r1
  let v2295_r1 : BitVec 1 := Scalar.andi v2294_r1 v2291_r1
  let v2296_r1 : BitVec 32 := Scalar.addi v2290_r1 v2289_r1
  let v2297_r1 : BitVec 32 := Scalar.select v2295_r1 v2296_r1 v2290_r1
  let c0_i32_1191_r1 : BitVec 32 := 0#32
  let c0_i32_1192_r1 : BitVec 32 := 0#32
  ![v2297_r1.toNat, 0, 0]
def k0_off14 (k0_t2 : Fin k0_t2_loop.trips) : Fin 2 → Nat :=
  let c0_i32_1181_r1 : BitVec 32 := 0#32
  let c1_i32_r1 : BitVec 32 := 1#32
  let arg14_r1 : BitVec 32 := Scf.iv c0_i32_1181_r1 c1_i32_r1 k0_t2
  let c512_i32_r1 : BitVec 32 := 512#32
  let v2302_r1 : BitVec 32 := Scalar.muli arg14_r1 c512_i32_r1
  let c0_i32_1195_r1 : BitVec 32 := 0#32
  ![v2302_r1.toNat, 0]
def k0_mult2 (k0_t2 : Fin k0_t2_loop.trips) : BitVec 32 :=
  let c0_i32_1181_r1 : BitVec 32 := 0#32
  let c1_i32_r1 : BitVec 32 := 1#32
  let arg14_r1 : BitVec 32 := Scf.iv c0_i32_1181_r1 c1_i32_r1 k0_t2
  let c512_i32_1196_r1 : BitVec 32 := 512#32
  let v2310_r1 : BitVec 32 := Scalar.muli arg14_r1 c512_i32_1196_r1
  v2310_r1
def k0_off15 (k0_t2 : Fin k0_t2_loop.trips) : Fin 3 → Nat :=
  let c0_i32_1181_r1 : BitVec 32 := 0#32
  let c1_i32_r1 : BitVec 32 := 1#32
  let arg14_r1 : BitVec 32 := Scf.iv c0_i32_1181_r1 c1_i32_r1 k0_t2
  let c2_i32_r1 : BitVec 32 := 2#32
  let c0_i32_1183_r1 : BitVec 32 := 0#32
  let v2288_r1 : BitVec 1 := Scalar.cmpi .eq c2_i32_r1 c0_i32_1183_r1
  let c1_i32_1184_r1 : BitVec 32 := 1#32
  let v2289_r1 : BitVec 32 := Scalar.select v2288_r1 c1_i32_1184_r1 c2_i32_r1
  let v2290_r1 : BitVec 32 := Scalar.remsi arg14_r1 v2289_r1
  let c0_i32_1186_r1 : BitVec 32 := 0#32
  let v2292_r1 : BitVec 1 := Scalar.cmpi .slt v2290_r1 c0_i32_1186_r1
  let c0_i32_1187_r1 : BitVec 32 := 0#32
  let v2293_r1 : BitVec 1 := Scalar.cmpi .slt v2289_r1 c0_i32_1187_r1
  let v2294_r1 : BitVec 1 := Scalar.xori v2292_r1 v2293_r1
  let c0_i32_1185_r1 : BitVec 32 := 0#32
  let v2291_r1 : BitVec 1 := Scalar.cmpi .ne v2290_r1 c0_i32_1185_r1
  let v2295_r1 : BitVec 1 := Scalar.andi v2294_r1 v2291_r1
  let v2296_r1 : BitVec 32 := Scalar.addi v2290_r1 v2289_r1
  let v2297_r1 : BitVec 32 := Scalar.select v2295_r1 v2296_r1 v2290_r1
  let v2312_r1 : Index := Scalar.indexCast v2297_r1
  let c0_1197_r1 : Index := 0#32
  let c0_1198_r1 : Index := 0#32
  ![v2312_r1.toNat, 0, 0]
def k0_off16 (k0_t2 : Fin k0_t2_loop.trips) : Fin 2 → Nat :=
  let c0_i32_1181_r1 : BitVec 32 := 0#32
  let c1_i32_r1 : BitVec 32 := 1#32
  let arg14_r1 : BitVec 32 := Scf.iv c0_i32_1181_r1 c1_i32_r1 k0_t2
  let c512_i32_1196_r1 : BitVec 32 := 512#32
  let v2310_r1 : BitVec 32 := Scalar.muli arg14_r1 c512_i32_1196_r1
  let v2311_r1 : BitVec 32 := v2310_r1
  let v2316_r1 : Index := Scalar.indexCast v2311_r1
  let c0_1199_r1 : Index := 0#32
  ![v2316_r1.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel3Ideal.lean ====
variable {F : FTy → Type} [FloatOps F] [Named F]
def κ : String → Option EReal := fun
  | "gelu_c" => some ((((-2) * (6693141 / 8388608)) * (Real.log 2)⁻¹ : ℝ) : EReal)
  | "gelu_c3" => some (((12003091 / 268435456) * (((-2) * (6693141 / 8388608)) * (Real.log 2)⁻¹) : ℝ) : EReal)
  | _ => none
-- ==== Reference3Ideal.lean ====
abbrev S16x4096x1024 : Shape := ⟨3, ![16, 4096, 1024]⟩
abbrev S2x1024 : Shape := ⟨2, ![2, 1024]⟩
abbrev S1x1024x4096 : Shape := ⟨3, ![1, 1024, 4096]⟩
abbrev S1x4096 : Shape := ⟨2, ![1, 4096]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S1x1024 : Shape := ⟨2, ![1, 1024]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1024x4096 : Shape := ⟨2, ![1024, 4096]⟩
abbrev S4096 : Shape := ⟨1, ![4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S16x4096x4096 : Shape := ⟨3, ![16, 4096, 4096]⟩
abbrev S1x1x4096 : Shape := ⟨3, ![1, 1, 4096]⟩
abbrev S16x4096x2048 : Shape := ⟨3, ![16, 4096, 2048]⟩
abbrev S1x1x2048 : Shape := ⟨3, ![1, 1, 2048]⟩
abbrev S16x32x128x8x256 : Shape := ⟨5, ![16, 32, 128, 8, 256]⟩
abbrev S128x128 : Shape := ⟨2, ![128, 128]⟩
abbrev S1x128x128 : Shape := ⟨3, ![1, 128, 128]⟩
abbrev S8x16x32x256x128 : Shape := ⟨5, ![8, 16, 32, 256, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S65536x1024 : Shape := ⟨2, ![65536, 1024]⟩

abbrev nBuf : Space → Nat
  | .hbm => 101
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S2x1024, .f32⟩
  | .hbm, ⟨2, _⟩ => ⟨S1x1024x4096, .f32⟩
  | .hbm, ⟨3, _⟩ => ⟨S1x4096, .f32⟩
  | .hbm, ⟨4, _⟩ => ⟨S1x2048, .f32⟩
  | .hbm, ⟨5, _⟩ => ⟨S1x8x128x128, .f32⟩
  | .hbm, ⟨6, _⟩ => ⟨S1x8x128, .f32⟩
  | .hbm, ⟨7, _⟩ => ⟨S1x2048x1024, .f32⟩
  | .hbm, ⟨8, _⟩ => ⟨S1x1024, .f32⟩
  | .hbm, ⟨9, _⟩ => ⟨S1024, .f32⟩
  | .hbm, ⟨10, _⟩ => ⟨S16x4096x1024, .f32⟩
  | .hbm, ⟨11, _⟩ => ⟨S_, .f32⟩
  | .hbm, ⟨12, _⟩ => ⟨S16x4096, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S_, .f32⟩
  | .hbm, ⟨18, _⟩ => ⟨S16x4096x1, .f32⟩
  | .hbm, ⟨19, _⟩ => ⟨S16x4096x1, .f32⟩
  | .hbm, ⟨20, _⟩ => ⟨S16x4096x1, .f32⟩
  | .hbm, ⟨21, _⟩ => ⟨S16x4096x1024, .f32⟩
  | .hbm, ⟨22, _⟩ => ⟨S16x4096x1024, .f32⟩
  | .hbm, ⟨23, _⟩ => ⟨S1x1x1024, .f32⟩
  | .hbm, ⟨24, _⟩ => ⟨S16x4096x1024, .f32⟩
  | .hbm, ⟨25, _⟩ => ⟨S16x4096x1024, .f32⟩
  | .hbm, ⟨26, _⟩ => ⟨S1024x4096, .f32⟩
  | .hbm, ⟨27, _⟩ => ⟨S4096, .f32⟩
  | .hbm, ⟨28, _⟩ => ⟨S2048, .f32⟩
  | .hbm, ⟨29, _⟩ => ⟨S8x128x128, .f32⟩
  | .hbm, ⟨30, _⟩ => ⟨S8x128, .f32⟩
  | .hbm, ⟨31, _⟩ => ⟨S2048x1024, .f32⟩
  | .hbm, ⟨32, _⟩ => ⟨S16x4096x4096, .f32⟩
  | .hbm, ⟨33, _⟩ => ⟨S1x1x4096, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S16x4096x4096, .f32⟩
  | .hbm, ⟨38, _⟩ => ⟨S_, .f32⟩
  | .hbm, ⟨39, _⟩ => ⟨S16x4096x4096, .f32⟩
  | .hbm, ⟨40, _⟩ => ⟨S16x4096x4096, .f32⟩
  | .hbm, ⟨41, _⟩ => ⟨S16x4096x4096, .f32⟩
  | .hbm, ⟨42, _⟩ => ⟨S_, .f32⟩
  | .hbm, ⟨43, _⟩ => ⟨S16x4096x4096, .f32⟩
  | .hbm, ⟨44, _⟩ => ⟨S16x4096x4096, .f32⟩
  | .hbm, ⟨45, _⟩ => ⟨S16x4096x4096, .f32⟩
  | .hbm, ⟨46, _⟩ => ⟨S_, .f32⟩
  | .hbm, ⟨47, _⟩ => ⟨S16x4096x4096, .f32⟩
  | .hbm, ⟨48, _⟩ => ⟨S16x4096x4096, .f32⟩
  | .hbm, ⟨49, _⟩ => ⟨S_, .f32⟩
  | .hbm, ⟨50, _⟩ => ⟨S16x4096x4096, .f32⟩
  | .hbm, ⟨51, _⟩ => ⟨S16x4096x4096, .f32⟩
  | .hbm, ⟨52, _⟩ => ⟨S16x4096x4096, .f32⟩
  | .hbm, ⟨53, _⟩ => ⟨S16x4096x2048, .f32⟩
  | .hbm, ⟨54, _⟩ => ⟨S16x4096x2048, .f32⟩
  | .hbm, ⟨55, _⟩ => ⟨S16x4096x2048, .f32⟩
  | .hbm, ⟨56, _⟩ => ⟨S_, .f32⟩
  | .hbm, ⟨57, _⟩ => ⟨S16x4096, .f32⟩
  | .hbm, ⟨58, _⟩ => ⟨S16x4096x1, .f32⟩
  | .hbm, ⟨59, _⟩ => ⟨S_, .f32⟩
  | .hbm, ⟨60, _⟩ => ⟨S16x4096x1, .f32⟩
  | .hbm, ⟨61, _⟩ => ⟨S16x4096x1, .f32⟩
  | .hbm, ⟨62, _⟩ => ⟨S_, .f32⟩
  | .hbm, ⟨63, _⟩ => ⟨S16x4096x1, .f32⟩
  | .hbm, ⟨64, _⟩ => ⟨S16x4096x1, .f32⟩
  | .hbm, ⟨65, _⟩ => ⟨S16x4096x1, .f32⟩
  | .hbm, ⟨66, _⟩ => ⟨S16x4096x2048, .f32⟩
  | .hbm, ⟨67, _⟩ => ⟨S16x4096x2048, .f32⟩
  | .hbm, ⟨68, _⟩ => ⟨S1x1x2048, .f32⟩
  | .hbm, ⟨69, _⟩ => ⟨S16x4096x2048, .f32⟩
  | .hbm, ⟨70, _⟩ => ⟨S16x4096x2048, .f32⟩
  | .hbm, ⟨71, _⟩ => ⟨S16x32x128x8x256, .f32⟩
  | .hbm, ⟨72, _⟩ => ⟨S_, .i1⟩
  | .hbm, ⟨73, _⟩ => ⟨S128x128, .i1⟩
  | .hbm, ⟨74, _⟩ => ⟨S128x128, .i32⟩
  | .hbm, ⟨75, _⟩ => ⟨S_, .i32⟩
  | .hbm, ⟨76, _⟩ => ⟨S128x128, .i32⟩
  | .hbm, ⟨77, _⟩ => ⟨S128x128, .i32⟩
  | .hbm, ⟨78, _⟩ => ⟨S128x128, .i32⟩
  | .hbm, ⟨79, _⟩ => ⟨S128x128, .i1⟩
  | .hbm, ⟨80, _⟩ => ⟨S_, .i1⟩
  | .hbm, ⟨81, _⟩ => ⟨S128x128, .i1⟩
  | .hbm, ⟨82, _⟩ => ⟨S128x128, .i1⟩
  | .hbm, ⟨83, _⟩ => ⟨S1x128x128, .i1⟩
  | .hbm, ⟨84, _⟩ => ⟨S_, .f32⟩
  | .hbm, ⟨85, _⟩ => ⟨S_, .f32⟩
  | .hbm, ⟨86, _⟩ => ⟨S8x128x128, .i1⟩
  | .hbm, ⟨87, _⟩ => ⟨S8x128x128, .f32⟩
  | .hbm, ⟨88, _⟩ => ⟨S8x128x128, .f32⟩
  | .hbm, ⟨89, _⟩ => ⟨S8x16x32x256x128, .f32⟩
  | .hbm, ⟨90, _⟩ => ⟨S16x32x128x8x256, .f32⟩
  | .hbm, ⟨91, _⟩ => ⟨S128x8, .f32⟩
  | .hbm, ⟨92, _⟩ => ⟨S128x8x1, .f32⟩
  | .hbm, ⟨93, _⟩ => ⟨S1x1x128x8x1, .f32⟩
  | .hbm, ⟨94, _⟩ => ⟨S16x32x128x8x256, .f32⟩
  | .hbm, ⟨95, _⟩ => ⟨S16x32x128x8x256, .f32⟩
  | .hbm, ⟨96, _⟩ => ⟨S16x4096x2048, .f32⟩
  | .hbm, ⟨97, _⟩ => ⟨S16x4096x2048, .f32⟩
  | .hbm, ⟨98, _⟩ => ⟨S16x4096x1024, .f32⟩
  | .hbm, ⟨99, _⟩ => ⟨S16x4096x1024, .f32⟩
  | .hbm, ⟨100, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c : Ref sig .tc := ⟨.hbm, 72, rfl⟩
abbrev main_v54 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_c_0 : Ref sig .tc := ⟨.hbm, 80, rfl⟩
abbrev main_call0_v5 : Ref sig .tc := ⟨.hbm, 81, rfl⟩
abbrev main_v55 : Ref sig .tc := ⟨.hbm, 82, rfl⟩
abbrev main_v56 : Ref sig .tc := ⟨.hbm, 83, rfl⟩
abbrev main_cst_9 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩

abbrev nD : Nat := 1
abbrev τ : Topo := Topo.v7x

variable {F : FTy → Type} [FloatOps F]
-- ==== Kernel4.lean ====
abbrev S16x4096x1024 : Shape := ⟨3, ![16, 4096, 1024]⟩
abbrev S2x1024 : Shape := ⟨2, ![2, 1024]⟩
abbrev S1x1024x6144 : Shape := ⟨3, ![1, 1024, 6144]⟩
abbrev S1x2048 : Shape := ⟨2, ![1, 2048]⟩
abbrev S1x2048x1024 : Shape := ⟨3, ![1, 2048, 1024]⟩
abbrev S1x1024 : Shape := ⟨2, ![1, 1024]⟩
abbrev S1024 : Shape := ⟨1, ![1024]⟩
abbrev S2048 : Shape := ⟨1, ![2048]⟩
abbrev S4096 : Shape := ⟨1, ![4096]⟩
abbrev S_ : Shape := ⟨0, ![]⟩
abbrev S127 : Shape := ⟨1, ![127]⟩
abbrev S1 : Shape := ⟨1, ![1]⟩
abbrev S128 : Shape := ⟨1, ![128]⟩
abbrev S4096x1 : Shape := ⟨2, ![4096, 1]⟩
abbrev S1x128 : Shape := ⟨2, ![1, 128]⟩
abbrev S4096x128 : Shape := ⟨2, ![4096, 128]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S1x1024x1024 : Shape := ⟨3, ![1, 1024, 1024]⟩
abbrev S1024x128 : Shape := ⟨2, ![1024, 128]⟩
abbrev S2x256x1024 : Shape := ⟨3, ![2, 256, 1024]⟩
abbrev S4x256x512 : Shape := ⟨3, ![4, 256, 512]⟩
abbrev S2x256x2048 : Shape := ⟨3, ![2, 256, 2048]⟩
abbrev S1024x6144 : Shape := ⟨2, ![1024, 6144]⟩
abbrev S2048x1024 : Shape := ⟨2, ![2048, 1024]⟩
abbrev S2x64x6144 : Shape := ⟨3, ![2, 64, 6144]⟩
abbrev S2 : Shape := ⟨1, ![2]⟩
abbrev S1x64x6144 : Shape := ⟨3, ![1, 64, 6144]⟩
abbrev S64x6144 : Shape := ⟨2, ![64, 6144]⟩
abbrev S2x512x1024 : Shape := ⟨3, ![2, 512, 1024]⟩
abbrev S1x512x1024 : Shape := ⟨3, ![1, 512, 1024]⟩
abbrev S512x1024 : Shape := ⟨2, ![512, 1024]⟩
abbrev S1x256x1024 : Shape := ⟨3, ![1, 256, 1024]⟩
abbrev S256x1024 : Shape := ⟨2, ![256, 1024]⟩
abbrev S256x128 : Shape := ⟨2, ![256, 128]⟩
abbrev S1024x256 : Shape := ⟨2, ![1024, 256]⟩
abbrev S1024x512 : Shape := ⟨2, ![1024, 512]⟩
abbrev S256x512 : Shape := ⟨2, ![256, 512]⟩
abbrev S1x256x512 : Shape := ⟨3, ![1, 256, 512]⟩
abbrev S1x512 : Shape := ⟨2, ![1, 512]⟩
abbrev S1x256x2048 : Shape := ⟨3, ![1, 256, 2048]⟩
abbrev S256x2048 : Shape := ⟨2, ![256, 2048]⟩

abbrev nBuf : Space → Nat
  | .hbm => 108
  | .vmem => 25
  | .smem => 1
  | _ => 0

abbrev bufTy : (tb : Table) → Fin (tcTables nBuf tb) → BufTy
  | .hbm, ⟨0, _⟩ => ⟨S16x4096x1024, .f32⟩
  | .hbm, ⟨1, _⟩ => ⟨S2x1024, .f32⟩
  | .hbm, ⟨2, _⟩ => ⟨S1x1024x6144, .f32⟩
  | .hbm, ⟨3, _⟩ => ⟨S1x2048, .f32⟩
  | .hbm, ⟨4, _⟩ => ⟨S1x2048x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S2048, .f32⟩
  | .hbm, ⟨9, _⟩ => ⟨S1x2048, .f32⟩
  | .hbm, ⟨10, _⟩ => ⟨S4096, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S127, .f32⟩
  | .hbm, ⟨19, _⟩ => ⟨S_, .f32⟩
  | .hbm, ⟨20, _⟩ => ⟨S127, .f32⟩
  | .hbm, ⟨21, _⟩ => ⟨S127, .f32⟩
  | .hbm, ⟨22, _⟩ => ⟨S1, .f32⟩
  | .hbm, ⟨23, _⟩ => ⟨S_, .f32⟩
  | .hbm, ⟨24, _⟩ => ⟨S127, .f32⟩
  | .hbm, ⟨25, _⟩ => ⟨S127, .f32⟩
  | .hbm, ⟨26, _⟩ => ⟨S127, .f32⟩
  | .hbm, ⟨27, _⟩ => ⟨S127, .f32⟩
  | .hbm, ⟨28, _⟩ => ⟨S1, .f32⟩
  | .hbm, ⟨29, _⟩ => ⟨S127, .f32⟩
  | .hbm, ⟨30, _⟩ => ⟨S127, .f32⟩
  | .hbm, ⟨31, _⟩ => ⟨S127, .f32⟩
  | .hbm, ⟨32, _⟩ => ⟨S1, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S4096x1, .f32⟩
  | .hbm, ⟨41, _⟩ => ⟨S1x128, .f32⟩
  | .hbm, ⟨42, _⟩ => ⟨S4096x128, .f32⟩
  | .hbm, ⟨43, _⟩ => ⟨S4096x128, .f32⟩
  | .hbm, ⟨44, _⟩ => ⟨S4096x128, .f32⟩
  | .hbm, ⟨45, _⟩ => ⟨S4, .f32⟩
  | .hbm, ⟨46, _⟩ => ⟨S_, .f32⟩
  | .hbm, ⟨47, _⟩ => ⟨S4, .f32⟩
  | .hbm, ⟨48, _⟩ => ⟨S4, .f32⟩
  | .hbm, ⟨49, _⟩ => ⟨S_, .f32⟩
  | .hbm, ⟨50, _⟩ => ⟨S4, .f32⟩
  | .hbm, ⟨51, _⟩ => ⟨S4, .f32⟩
  | .hbm, ⟨52, _⟩ => ⟨S_, .f32⟩
  | .hbm, ⟨53, _⟩ => ⟨S4, .f32⟩
  | .hbm, ⟨54, _⟩ => ⟨S4, .f32⟩
  | .hbm, ⟨55, _⟩ => ⟨S4, .f32⟩
  | .hbm, ⟨56, _⟩ => ⟨S256, .f32⟩
  | .hbm, ⟨57, _⟩ => ⟨S256x1, .f32⟩
  | .hbm, ⟨58, _⟩ => ⟨S1x256, .f32⟩
  | .hbm, ⟨59, _⟩ => ⟨S256x256, .f32⟩
  | .hbm, ⟨60, _⟩ => ⟨S256x256, .f32⟩
  | .hbm, ⟨61, _⟩ => ⟨S256x256, .f32⟩
  | .hbm, ⟨62, _⟩ => ⟨S_, .f32⟩
  | .hbm, ⟨63, _⟩ => ⟨S256x256, .f32⟩
  | .hbm, ⟨64, _⟩ => ⟨S256x256, .i1⟩
  | .hbm, ⟨65, _⟩ => ⟨S4x1x1, .f32⟩
  | .hbm, ⟨66, _⟩ => ⟨S_, .f32⟩
  | .hbm, ⟨67, _⟩ => ⟨S256x256, .f32⟩
  | .hbm, ⟨68, _⟩ => ⟨S256x256, .f32⟩
  | .hbm, ⟨69, _⟩ => ⟨S1x256x256, .f32⟩
  | .hbm, ⟨70, _⟩ => ⟨S4x256x256, .f32⟩
  | .hbm, ⟨71, _⟩ => ⟨S4x256x256, .f32⟩
  | .hbm, ⟨72, _⟩ => ⟨S4x256x256, .f32⟩
  | .hbm, ⟨73, _⟩ => ⟨S4x256x256, .f32⟩
  | .hbm, ⟨74, _⟩ => ⟨S_, .f32⟩
  | .hbm, ⟨75, _⟩ => ⟨S_, .f32⟩
  | .hbm, ⟨76, _⟩ => ⟨S4x256x256, .i1⟩
  | .hbm, ⟨77, _⟩ => ⟨S4x256x256, .f32⟩
  | .hbm, ⟨78, _⟩ => ⟨S4x256x256, .f32⟩
  | .hbm, ⟨79, _⟩ => ⟨S4x1, .f32⟩
  | .hbm, ⟨80, _⟩ => ⟨S_, .f32⟩
  | .hbm, ⟨81, _⟩ => ⟨S256, .f32⟩
  | .hbm, ⟨82, _⟩ => ⟨S256, .f32⟩
  | .hbm, ⟨83, _⟩ => ⟨S1x256, .f32⟩
  | .hbm, ⟨84, _⟩ => ⟨S4x256, .f32⟩
  | .hbm, ⟨85, _⟩ => ⟨S4x256, .f32⟩
  | .hbm, ⟨86, _⟩ => ⟨S4x256, .f32⟩
  | .hbm, ⟨87, _⟩ => ⟨S4x256, .f32⟩
  | .hbm, ⟨88, _⟩ => ⟨S4x1, .f32⟩
  | .hbm, ⟨89, _⟩ => ⟨S_, .f32⟩
  | .hbm, ⟨90, _⟩ => ⟨S256, .f32⟩
  | .hbm, ⟨91, _⟩ => ⟨S256, .f32⟩
  | .hbm, ⟨92, _⟩ => ⟨S1x256, .f32⟩
  | .hbm, ⟨93, _⟩ => ⟨S4x256, .f32⟩
  | .hbm, ⟨94, _⟩ => ⟨S4x256, .f32⟩
  | .hbm, ⟨95, _⟩ => ⟨S4x256, .f32⟩
  | .hbm, ⟨96, _⟩ => ⟨S4x256, .f32⟩
  | .hbm, ⟨97, _⟩ => ⟨S_, .f32⟩
  | .hbm, ⟨98, _⟩ => ⟨S4, .f32⟩
  | .hbm, ⟨99, _⟩ => ⟨S4, .f32⟩
  | .hbm, ⟨100, _⟩ => ⟨S4, .f32⟩
  | .hbm, ⟨101, _⟩ => ⟨S4x256x1, .f32⟩
  | .hbm, ⟨102, _⟩ => ⟨S4x256x256, .f32⟩
  | .hbm, ⟨103, _⟩ => ⟨S4x256x1, .f32⟩
  | .hbm, ⟨104, _⟩ => ⟨S4x256x256, .f32⟩
  | .hbm, ⟨105, _⟩ => ⟨S4096x128, .f32⟩
  | .hbm, ⟨106, _⟩ => ⟨S4096x128, .f32⟩
  | .hbm, ⟨107, _⟩ => ⟨S16x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S4x256x256, .f32⟩
  | .local _ .vmem, ⟨8, _⟩ => ⟨S4x256x256, .f32⟩
  | .local _ .vmem, ⟨9, _⟩ => ⟨S4x256x256, .f32⟩
  | .local _ .vmem, ⟨10, _⟩ => ⟨S1x2048, .f32⟩
  | .local _ .vmem, ⟨11, _⟩ => ⟨S1x1024x1024, .f32⟩
  | .local _ .vmem, ⟨12, _⟩ => ⟨S1x1024x1024, .f32⟩
  | .local _ .vmem, ⟨13, _⟩ => ⟨S2x256x1024, .bf16⟩
  | .local _ .vmem, ⟨14, _⟩ => ⟨S4x256x512, .f32⟩
  | .local _ .vmem, ⟨15, _⟩ => ⟨S2x256x1024, .bf16⟩
  | .local _ .vmem, ⟨16, _⟩ => ⟨S2x256x1024, .bf16⟩
  | .local _ .vmem, ⟨17, _⟩ => ⟨S2x256x1024, .bf16⟩
  | .local _ .vmem, ⟨18, _⟩ => ⟨S2x256x1024, .bf16⟩
  | .local _ .vmem, ⟨19, _⟩ => ⟨S2x256x2048, .bf16⟩
  | .local _ .vmem, ⟨20, _⟩ => ⟨S2x256x2048, .bf16⟩
  | .local _ .vmem, ⟨21, _⟩ => ⟨S1024x6144, .bf16⟩
  | .local _ .vmem, ⟨22, _⟩ => ⟨S2048x1024, .bf16⟩
  | .local _ .vmem, ⟨23, _⟩ => ⟨S2x64x6144, .f32⟩
  | .local _ .vmem, ⟨24, _⟩ => ⟨S2x512x1024, .f32⟩
  | .local _ .smem, ⟨0, _⟩ => ⟨S4, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_cst : Ref sig .tc := ⟨.hbm, 16, rfl⟩
abbrev main_call0_v3 : Ref sig .tc := ⟨.hbm, 17, rfl⟩
abbrev main_call0_v4 : Ref sig .tc := ⟨.hbm, 18, rfl⟩
abbrev main_call0_cst_0 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_cst_2 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_3 : Ref sig .tc := ⟨.hbm, 46, rfl⟩
abbrev main_v17 : Ref sig .tc := ⟨.hbm, 47, rfl⟩
abbrev main_v18 : Ref sig .tc := ⟨.hbm, 48, rfl⟩
abbrev main_cst_4 : Ref sig .tc := ⟨.hbm, 49, rfl⟩
abbrev main_v19 : Ref sig .tc := ⟨.hbm, 50, rfl⟩
abbrev main_v20 : Ref sig .tc := ⟨.hbm, 51, rfl⟩
abbrev main_cst_5 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_6 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_7 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_8 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v40 : Ref sig .tc := ⟨.hbm, 78, rfl⟩
abbrev main_v41 : Ref sig .tc := ⟨.hbm, 79, rfl⟩
abbrev main_cst_9 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_10 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_cst_11 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_scratch8 : Ref sig .tc := ⟨.vmem, 21, rfl⟩
abbrev cc0_scratch9 : Ref sig .tc := ⟨.vmem, 22, rfl⟩
abbrev cc0_scoped0 : Ref sig .tc := ⟨.vmem, 23, rfl⟩
abbrev cc0_scoped2 : Ref sig .tc := ⟨.vmem, 24, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_1367_r0 : BitVec 32 := 0#32
  let c16_i32_r0 : BitVec 32 := 16#32
  let v1944_r0 : BitVec 32 := Scalar.addi c0_i32_1367_r0 c16_i32_r0
  let c1_i32_r0 : BitVec 32 := 1#32
  ⟨c0_i32_1367_r0, v1944_r0, c1_i32_r0⟩
def k0_cond2 (k0_t1 : Fin k0_t1_loop.trips) : BitVec 1 :=
  let c0_i32_1367_r0 : BitVec 32 := 0#32
  let c1_i32_r0 : BitVec 32 := 1#32
  let arg24_r0 : BitVec 32 := Scf.iv c0_i32_1367_r0 c1_i32_r0 k0_t1
  let c1_i32_1374_r0 : BitVec 32 := 1#32
  let v1955_r0 : BitVec 32 := Scalar.addi arg24_r0 c1_i32_1374_r0
  let c16_i32_1375_r0 : BitVec 32 := 16#32
  let v1956_r0 : BitVec 1 := Scalar.cmpi .slt v1955_r0 c16_i32_1375_r0
  let v1957_r0 : BitVec 32 := Scalar.extui v1956_r0
  let c0_i32_1376_r0 : BitVec 32 := 0#32
  let v1958_r0 : BitVec 1 := Scalar.cmpi .ne v1957_r0 c0_i32_1376_r0
  v1958_r0

def k0_off1 (k0_t1 : Fin k0_t1_loop.trips) : Fin 1 → Nat :=
  let c1_i32_1387_r0 : BitVec 32 := 1#32
  let c0_i32_1367_r0 : BitVec 32 := 0#32
  let c1_i32_r0 : BitVec 32 := 1#32
  let arg24_r0 : BitVec 32 := Scf.iv c0_i32_1367_r0 c1_i32_r0 k0_t1
  let c2_i32_r0 : BitVec 32 := 2#32
  let c0_i32_1369_r0 : BitVec 32 := 0#32
  let v1945_r0 : BitVec 1 := Scalar.cmpi .eq c2_i32_r0 c0_i32_1369_r0
  let c1_i32_1370_r0 : BitVec 32 := 1#32
  let v1946_r0 : BitVec 32 := Scalar.select v1945_r0 c1_i32_1370_r0 c2_i32_r0
  let v1947_r0 : BitVec 32 := Scalar.remsi arg24_r0 v1946_r0
  let c0_i32_1372_r0 : BitVec 32 := 0#32
  let v1949_r0 : BitVec 1 := Scalar.cmpi .slt v1947_r0 c0_i32_1372_r0
  let c0_i32_1373_r0 : BitVec 32 := 0#32
  let v1950_r0 : BitVec 1 := Scalar.cmpi .slt v1946_r0 c0_i32_1373_r0
  let v1951_r0 : BitVec 1 := Scalar.xori v1949_r0 v1950_r0
  let c0_i32_1371_r0 : BitVec 32 := 0#32
  let v1948_r0 : BitVec 1 := Scalar.cmpi .ne v1947_r0 c0_i32_1371_r0
  let v1952_r0 : BitVec 1 := Scalar.andi v1951_r0 v1948_r0
  let v1953_r0 : BitVec 32 := Scalar.addi v1947_r0 v1946_r0
  let v1954_r0 : BitVec 32 := Scalar.select v1952_r0 v1953_r0 v1947_r0
  let v1978_r0 : BitVec 32 := Scalar.subi c1_i32_1387_r0 v1954_r0
  ![v1978_r0.toNat]
def k0_off2 (k0_t1 : Fin k0_t1_loop.trips) : Fin 3 → Nat :=
  let c1_i32_1387_r0 : BitVec 32 := 1#32
  let c0_i32_1367_r0 : BitVec 32 := 0#32
  let c1_i32_r0 : BitVec 32 := 1#32
  let arg24_r0 : BitVec 32 := Scf.iv c0_i32_1367_r0 c1_i32_r0 k0_t1
  let c2_i32_r0 : BitVec 32 := 2#32
  let c0_i32_1369_r0 : BitVec 32 := 0#32
  let v1945_r0 : BitVec 1 := Scalar.cmpi .eq c2_i32_r0 c0_i32_1369_r0
  let c1_i32_1370_r0 : BitVec 32 := 1#32
  let v1946_r0 : BitVec 32 := Scalar.select v1945_r0 c1_i32_1370_r0 c2_i32_r0
  let v1947_r0 : BitVec 32 := Scalar.remsi arg24_r0 v1946_r0
  let c0_i32_1372_r0 : BitVec 32 := 0#32
  let v1949_r0 : BitVec 1 := Scalar.cmpi .slt v1947_r0 c0_i32_1372_r0
  let c0_i32_1373_r0 : BitVec 32 := 0#32
  let v1950_r0 : BitVec 1 := Scalar.cmpi .slt v1946_r0 c0_i32_1373_r0
  let v1951_r0 : BitVec 1 := Scalar.xori v1949_r0 v1950_r0
  let c0_i32_1371_r0 : BitVec 32 := 0#32
  let v1948_r0 : BitVec 1 := Scalar.cmpi .ne v1947_r0 c0_i32_1371_r0
  let v1952_r0 : BitVec 1 := Scalar.andi v1951_r0 v1948_r0
  let v1953_r0 : BitVec 32 := Scalar.addi v1947_r0 v1946_r0
  let v1954_r0 : BitVec 32 := Scalar.select v1952_r0 v1953_r0 v1947_r0
  let v1978_r0 : BitVec 32 := Scalar.subi c1_i32_1387_r0 v1954_r0
  let c0_i32_1389_r0 : BitVec 32 := 0#32
  let c0_i32_1390_r0 : BitVec 32 := 0#32
  ![v1978_r0.toNat, 0, 0]
def k0_off3 (k0_t1 : Fin k0_t1_loop.trips) : Fin 2 → Nat :=
  let c0_i32_1367_r0 : BitVec 32 := 0#32
  let c1_i32_r0 : BitVec 32 := 1#32
  let arg24_r0 : BitVec 32 := Scf.iv c0_i32_1367_r0 c1_i32_r0 k0_t1
  let c1_i32_1386_r0 : BitVec 32 := 1#32
  let v1977_r0 : BitVec 32 := Scalar.addi arg24_r0 c1_i32_1386_r0
  let c64_i32_1388_r0 : BitVec 32 := 64#32
  let v1979_r0 : BitVec 32 := Scalar.muli v1977_r0 c64_i32_1388_r0
  let c0_i32_1393_r0 : BitVec 32 := 0#32
  ![v1979_r0.toNat, 0]
def k0_off4 (k0_t1 : Fin k0_t1_loop.trips) : Fin 1 → Nat :=
  let c0_i32_1367_r0 : BitVec 32 := 0#32
  let c1_i32_r0 : BitVec 32 := 1#32
  let arg24_r0 : BitVec 32 := Scf.iv c0_i32_1367_r0 c1_i32_r0 k0_t1
  let c2_i32_r0 : BitVec 32 := 2#32
  let c0_i32_1369_r0 : BitVec 32 := 0#32
  let v1945_r0 : BitVec 1 := Scalar.cmpi .eq c2_i32_r0 c0_i32_1369_r0
  let c1_i32_1370_r0 : BitVec 32 := 1#32
  let v1946_r0 : BitVec 32 := Scalar.select v1945_r0 c1_i32_1370_r0 c2_i32_r0
  let v1947_r0 : BitVec 32 := Scalar.remsi arg24_r0 v1946_r0
  let c0_i32_1372_r0 : BitVec 32 := 0#32
  let v1949_r0 : BitVec 1 := Scalar.cmpi .slt v1947_r0 c0_i32_1372_r0
  let c0_i32_1373_r0 : BitVec 32 := 0#32
  let v1950_r0 : BitVec 1 := Scalar.cmpi .slt v1946_r0 c0_i32_1373_r0
  let v1951_r0 : BitVec 1 := Scalar.xori v1949_r0 v1950_r0
  let c0_i32_1371_r0 : BitVec 32 := 0#32
  let v1948_r0 : BitVec 1 := Scalar.cmpi .ne v1947_r0 c0_i32_1371_r0
  let v1952_r0 : BitVec 1 := Scalar.andi v1951_r0 v1948_r0
  let v1953_r0 : BitVec 32 := Scalar.addi v1947_r0 v1946_r0
  let v1954_r0 : BitVec 32 := Scalar.select v1952_r0 v1953_r0 v1947_r0
  ![v1954_r0.toNat]
def k0_off5 (k0_t1 : Fin k0_t1_loop.trips) : Fin 3 → Nat :=
  let c0_i32_1367_r0 : BitVec 32 := 0#32
  let c1_i32_r0 : BitVec 32 := 1#32
  let arg24_r0 : BitVec 32 := Scf.iv c0_i32_1367_r0 c1_i32_r0 k0_t1
  let c2_i32_r0 : BitVec 32 := 2#32
  let c0_i32_1369_r0 : BitVec 32 := 0#32
  let v1945_r0 : BitVec 1 := Scalar.cmpi .eq c2_i32_r0 c0_i32_1369_r0
  let c1_i32_1370_r0 : BitVec 32 := 1#32
  let v1946_r0 : BitVec 32 := Scalar.select v1945_r0 c1_i32_1370_r0 c2_i32_r0
  let v1947_r0 : BitVec 32 := Scalar.remsi arg24_r0 v1946_r0
  let c0_i32_1372_r0 : BitVec 32 := 0#32
  let v1949_r0 : BitVec 1 := Scalar.cmpi .slt v1947_r0 c0_i32_1372_r0
  let c0_i32_1373_r0 : BitVec 32 := 0#32
  let v1950_r0 : BitVec 1 := Scalar.cmpi .slt v1946_r0 c0_i32_1373_r0
  let v1951_r0 : BitVec 1 := Scalar.xori v1949_r0 v1950_r0
  let c0_i32_1371_r0 : BitVec 32 := 0#32
  let v1948_r0 : BitVec 1 := Scalar.cmpi .ne v1947_r0 c0_i32_1371_r0
  let v1952_r0 : BitVec 1 := Scalar.andi v1951_r0 v1948_r0
  let v1953_r0 : BitVec 32 := Scalar.addi v1947_r0 v1946_r0
  let v1954_r0 : BitVec 32 := Scalar.select v1952_r0 v1953_r0 v1947_r0
  let c0_i32_1377_r0 : BitVec 32 := 0#32
  let c0_i32_1378_r0 : BitVec 32 := 0#32
  ![v1954_r0.toNat, 0, 0]
def k0_off6 (k0_t1 : Fin k0_t1_loop.trips) : Fin 2 → Nat :=
  let c0_i32_1367_r0 : BitVec 32 := 0#32
  let c1_i32_r0 : BitVec 32 := 1#32
  let arg24_r0 : BitVec 32 := Scf.iv c0_i32_1367_r0 c1_i32_r0 k0_t1
  let c64_i32_r0 : BitVec 32 := 64#32
  let v1959_r0 : BitVec 32 := Scalar.muli arg24_r0 c64_i32_r0
  let c0_i32_1381_r0 : BitVec 32 := 0#32
  ![v1959_r0.toNat, 0]
def k0_mult1 (k0_t1 : Fin k0_t1_loop.trips) : BitVec 32 :=
  let c0_i32_1367_r0 : BitVec 32 := 0#32
  let c1_i32_r0 : BitVec 32 := 1#32
  let arg24_r0 : BitVec 32 := Scf.iv c0_i32_1367_r0 c1_i32_r0 k0_t1
  let c64_i32_1382_r0 : BitVec 32 := 64#32
  let v1967_r0 : BitVec 32 := Scalar.muli arg24_r0 c64_i32_1382_r0
  v1967_r0
def k0_off7 (k0_t1 : Fin k0_t1_loop.trips) : Fin 3 → Nat :=
  let c0_i32_1367_r0 : BitVec 32 := 0#32
  let c1_i32_r0 : BitVec 32 := 1#32
  let arg24_r0 : BitVec 32 := Scf.iv c0_i32_1367_r0 c1_i32_r0 k0_t1
  let c2_i32_r0 : BitVec 32 := 2#32
  let c0_i32_1369_r0 : BitVec 32 := 0#32
  let v1945_r0 : BitVec 1 := Scalar.cmpi .eq c2_i32_r0 c0_i32_1369_r0
  let c1_i32_1370_r0 : BitVec 32 := 1#32
  let v1946_r0 : BitVec 32 := Scalar.select v1945_r0 c1_i32_1370_r0 c2_i32_r0
  let v1947_r0 : BitVec 32 := Scalar.remsi arg24_r0 v1946_r0
  let c0_i32_1372_r0 : BitVec 32 := 0#32
  let v1949_r0 : BitVec 1 := Scalar.cmpi .slt v1947_r0 c0_i32_1372_r0
  let c0_i32_1373_r0 : BitVec 32 := 0#32
  let v1950_r0 : BitVec 1 := Scalar.cmpi .slt v1946_r0 c0_i32_1373_r0
  let v1951_r0 : BitVec 1 := Scalar.xori v1949_r0 v1950_r0
  let c0_i32_1371_r0 : BitVec 32 := 0#32
  let v1948_r0 : BitVec 1 := Scalar.cmpi .ne v1947_r0 c0_i32_1371_r0
  let v1952_r0 : BitVec 1 := Scalar.andi v1951_r0 v1948_r0
  let v1953_r0 : BitVec 32 := Scalar.addi v1947_r0 v1946_r0
  let v1954_r0 : BitVec 32 := Scalar.select v1952_r0 v1953_r0 v1947_r0
  let v1969_r0 : Index := Scalar.indexCast v1954_r0
  let c0_1383_r0 : Index := 0#32
  let c0_1384_r0 : Index := 0#32
  ![v1969_r0.toNat, 0, 0]
def k0_off8 (k0_t1 : Fin k0_t1_loop.trips) : Fin 2 → Nat :=
  let c0_i32_1367_r0 : BitVec 32 := 0#32
  let c1_i32_r0 : BitVec 32 := 1#32
  let arg24_r0 : BitVec 32 := Scf.iv c0_i32_1367_r0 c1_i32_r0 k0_t1
  let c64_i32_1382_r0 : BitVec 32 := 64#32
  let v1967_r0 : BitVec 32 := Scalar.muli arg24_r0 c64_i32_1382_r0
  let v1968_r0 : BitVec 32 := v1967_r0
  let v1973_r0 : Index := Scalar.indexCast v1968_r0
  let c0_1385_r0 : Index := 0#32
  ![v1973_r0.toNat, 0]
@[reducible] def k0_t2_loop : Scf.Loop 32 :=
  let c0_i32_1367_r1 : BitVec 32 := 0#32
  let c4_i32_r1 : BitVec 32 := 4#32
  let v1944_r1 : BitVec 32 := Scalar.addi c0_i32_1367_r1 c4_i32_r1
  let c1_i32_r1 : BitVec 32 := 1#32
  ⟨c0_i32_1367_r1, v1944_r1, c1_i32_r1⟩
def k0_cond3 (k0_t2 : Fin k0_t2_loop.trips) : BitVec 1 :=
  let c0_i32_1367_r1 : BitVec 32 := 0#32
  let c1_i32_r1 : BitVec 32 := 1#32
  let arg24_r1 : BitVec 32 := Scf.iv c0_i32_1367_r1 c1_i32_r1 k0_t2
  let c1_i32_1374_r1 : BitVec 32 := 1#32
  let v1955_r1 : BitVec 32 := Scalar.addi arg24_r1 c1_i32_1374_r1
  let c4_i32_1375_r1 : BitVec 32 := 4#32
  let v1956_r1 : BitVec 1 := Scalar.cmpi .slt v1955_r1 c4_i32_1375_r1
  let v1957_r1 : BitVec 32 := Scalar.extui v1956_r1
  let c0_i32_1376_r1 : BitVec 32 := 0#32
  let v1958_r1 : BitVec 1 := Scalar.cmpi .ne v1957_r1 c0_i32_1376_r1
  v1958_r1

def k0_off9 (k0_t2 : Fin k0_t2_loop.trips) : Fin 1 → Nat :=
  let c1_i32_1387_r1 : BitVec 32 := 1#32
  let c0_i32_1367_r1 : BitVec 32 := 0#32
  let c1_i32_r1 : BitVec 32 := 1#32
  let arg24_r1 : BitVec 32 := Scf.iv c0_i32_1367_r1 c1_i32_r1 k0_t2
  let c2_i32_r1 : BitVec 32 := 2#32
  let c0_i32_1369_r1 : BitVec 32 := 0#32
  let v1945_r1 : BitVec 1 := Scalar.cmpi .eq c2_i32_r1 c0_i32_1369_r1
  let c1_i32_1370_r1 : BitVec 32 := 1#32
  let v1946_r1 : BitVec 32 := Scalar.select v1945_r1 c1_i32_1370_r1 c2_i32_r1
  let v1947_r1 : BitVec 32 := Scalar.remsi arg24_r1 v1946_r1
  let c0_i32_1372_r1 : BitVec 32 := 0#32
  let v1949_r1 : BitVec 1 := Scalar.cmpi .slt v1947_r1 c0_i32_1372_r1
  let c0_i32_1373_r1 : BitVec 32 := 0#32
  let v1950_r1 : BitVec 1 := Scalar.cmpi .slt v1946_r1 c0_i32_1373_r1
  let v1951_r1 : BitVec 1 := Scalar.xori v1949_r1 v1950_r1
  let c0_i32_1371_r1 : BitVec 32 := 0#32
  let v1948_r1 : BitVec 1 := Scalar.cmpi .ne v1947_r1 c0_i32_1371_r1
  let v1952_r1 : BitVec 1 := Scalar.andi v1951_r1 v1948_r1
  let v1953_r1 : BitVec 32 := Scalar.addi v1947_r1 v1946_r1
  let v1954_r1 : BitVec 32 := Scalar.select v1952_r1 v1953_r1 v1947_r1
  let v1978_r1 : BitVec 32 := Scalar.subi c1_i32_1387_r1 v1954_r1
  ![v1978_r1.toNat]
def k0_off10 (k0_t2 : Fin k0_t2_loop.trips) : Fin 3 → Nat :=
  let c1_i32_1387_r1 : BitVec 32 := 1#32
  let c0_i32_1367_r1 : BitVec 32 := 0#32
  let c1_i32_r1 : BitVec 32 := 1#32
  let arg24_r1 : BitVec 32 := Scf.iv c0_i32_1367_r1 c1_i32_r1 k0_t2
  let c2_i32_r1 : BitVec 32 := 2#32
  let c0_i32_1369_r1 : BitVec 32 := 0#32
  let v1945_r1 : BitVec 1 := Scalar.cmpi .eq c2_i32_r1 c0_i32_1369_r1
  let c1_i32_1370_r1 : BitVec 32 := 1#32
  let v1946_r1 : BitVec 32 := Scalar.select v1945_r1 c1_i32_1370_r1 c2_i32_r1
  let v1947_r1 : BitVec 32 := Scalar.remsi arg24_r1 v1946_r1
  let c0_i32_1372_r1 : BitVec 32 := 0#32
  let v1949_r1 : BitVec 1 := Scalar.cmpi .slt v1947_r1 c0_i32_1372_r1
  let c0_i32_1373_r1 : BitVec 32 := 0#32
  let v1950_r1 : BitVec 1 := Scalar.cmpi .slt v1946_r1 c0_i32_1373_r1
  let v1951_r1 : BitVec 1 := Scalar.xori v1949_r1 v1950_r1
  let c0_i32_1371_r1 : BitVec 32 := 0#32
  let v1948_r1 : BitVec 1 := Scalar.cmpi .ne v1947_r1 c0_i32_1371_r1
  let v1952_r1 : BitVec 1 := Scalar.andi v1951_r1 v1948_r1
  let v1953_r1 : BitVec 32 := Scalar.addi v1947_r1 v1946_r1
  let v1954_r1 : BitVec 32 := Scalar.select v1952_r1 v1953_r1 v1947_r1
  let v1978_r1 : BitVec 32 := Scalar.subi c1_i32_1387_r1 v1954_r1
  let c0_i32_1389_r1 : BitVec 32 := 0#32
  let c0_i32_1390_r1 : BitVec 32 := 0#32
  ![v1978_r1.toNat, 0, 0]
def k0_off11 (k0_t2 : Fin k0_t2_loop.trips) : Fin 2 → Nat :=
  let c0_i32_1367_r1 : BitVec 32 := 0#32
  let c1_i32_r1 : BitVec 32 := 1#32
  let arg24_r1 : BitVec 32 := Scf.iv c0_i32_1367_r1 c1_i32_r1 k0_t2
  let c1_i32_1386_r1 : BitVec 32 := 1#32
  let v1977_r1 : BitVec 32 := Scalar.addi arg24_r1 c1_i32_1386_r1
  let c512_i32_1388_r1 : BitVec 32 := 512#32
  let v1979_r1 : BitVec 32 := Scalar.muli v1977_r1 c512_i32_1388_r1
  let c0_i32_1393_r1 : BitVec 32 := 0#32
  ![v1979_r1.toNat, 0]
def k0_off12 (k0_t2 : Fin k0_t2_loop.trips) : Fin 1 → Nat :=
  let c0_i32_1367_r1 : BitVec 32 := 0#32
  let c1_i32_r1 : BitVec 32 := 1#32
  let arg24_r1 : BitVec 32 := Scf.iv c0_i32_1367_r1 c1_i32_r1 k0_t2
  let c2_i32_r1 : BitVec 32 := 2#32
  let c0_i32_1369_r1 : BitVec 32 := 0#32
  let v1945_r1 : BitVec 1 := Scalar.cmpi .eq c2_i32_r1 c0_i32_1369_r1
  let c1_i32_1370_r1 : BitVec 32 := 1#32
  let v1946_r1 : BitVec 32 := Scalar.select v1945_r1 c1_i32_1370_r1 c2_i32_r1
  let v1947_r1 : BitVec 32 := Scalar.remsi arg24_r1 v1946_r1
  let c0_i32_1372_r1 : BitVec 32 := 0#32
  let v1949_r1 : BitVec 1 := Scalar.cmpi .slt v1947_r1 c0_i32_1372_r1
  let c0_i32_1373_r1 : BitVec 32 := 0#32
  let v1950_r1 : BitVec 1 := Scalar.cmpi .slt v1946_r1 c0_i32_1373_r1
  let v1951_r1 : BitVec 1 := Scalar.xori v1949_r1 v1950_r1
  let c0_i32_1371_r1 : BitVec 32 := 0#32
  let v1948_r1 : BitVec 1 := Scalar.cmpi .ne v1947_r1 c0_i32_1371_r1
  let v1952_r1 : BitVec 1 := Scalar.andi v1951_r1 v1948_r1
  let v1953_r1 : BitVec 32 := Scalar.addi v1947_r1 v1946_r1
  let v1954_r1 : BitVec 32 := Scalar.select v1952_r1 v1953_r1 v1947_r1
  ![v1954_r1.toNat]
def k0_off13 (k0_t2 : Fin k0_t2_loop.trips) : Fin 3 → Nat :=
  let c0_i32_1367_r1 : BitVec 32 := 0#32
  let c1_i32_r1 : BitVec 32 := 1#32
  let arg24_r1 : BitVec 32 := Scf.iv c0_i32_1367_r1 c1_i32_r1 k0_t2
  let c2_i32_r1 : BitVec 32 := 2#32
  let c0_i32_1369_r1 : BitVec 32 := 0#32
  let v1945_r1 : BitVec 1 := Scalar.cmpi .eq c2_i32_r1 c0_i32_1369_r1
  let c1_i32_1370_r1 : BitVec 32 := 1#32
  let v1946_r1 : BitVec 32 := Scalar.select v1945_r1 c1_i32_1370_r1 c2_i32_r1
  let v1947_r1 : BitVec 32 := Scalar.remsi arg24_r1 v1946_r1
  let c0_i32_1372_r1 : BitVec 32 := 0#32
  let v1949_r1 : BitVec 1 := Scalar.cmpi .slt v1947_r1 c0_i32_1372_r1
  let c0_i32_1373_r1 : BitVec 32 := 0#32
  let v1950_r1 : BitVec 1 := Scalar.cmpi .slt v1946_r1 c0_i32_1373_r1
  let v1951_r1 : BitVec 1 := Scalar.xori v1949_r1 v1950_r1
  let c0_i32_1371_r1 : BitVec 32 := 0#32
  let v1948_r1 : BitVec 1 := Scalar.cmpi .ne v1947_r1 c0_i32_1371_r1
  let v1952_r1 : BitVec 1 := Scalar.andi v1951_r1 v1948_r1
  let v1953_r1 : BitVec 32 := Scalar.addi v1947_r1 v1946_r1
  let v1954_r1 : BitVec 32 := Scalar.select v1952_r1 v1953_r1 v1947_r1
  let c0_i32_1377_r1 : BitVec 32 := 0#32
  let c0_i32_1378_r1 : BitVec 32 := 0#32
  ![v1954_r1.toNat, 0, 0]
def k0_off14 (k0_t2 : Fin k0_t2_loop.trips) : Fin 2 → Nat :=
  let c0_i32_1367_r1 : BitVec 32 := 0#32
  let c1_i32_r1 : BitVec 32 := 1#32
  let arg24_r1 : BitVec 32 := Scf.iv c0_i32_1367_r1 c1_i32_r1 k0_t2
  let c512_i32_r1 : BitVec 32 := 512#32
  let v1959_r1 : BitVec 32 := Scalar.muli arg24_r1 c512_i32_r1
  let c0_i32_1381_r1 : BitVec 32 := 0#32
  ![v1959_r1.toNat, 0]
def k0_mult2 (k0_t2 : Fin k0_t2_loop.trips) : BitVec 32 :=
  let c0_i32_1367_r1 : BitVec 32 := 0#32
  let c1_i32_r1 : BitVec 32 := 1#32
  let arg24_r1 : BitVec 32 := Scf.iv c0_i32_1367_r1 c1_i32_r1 k0_t2
  let c512_i32_1382_r1 : BitVec 32 := 512#32
  let v1967_r1 : BitVec 32 := Scalar.muli arg24_r1 c512_i32_1382_r1
  v1967_r1
def k0_off15 (k0_t2 : Fin k0_t2_loop.trips) : Fin 3 → Nat :=
  let c0_i32_1367_r1 : BitVec 32 := 0#32
  let c1_i32_r1 : BitVec 32 := 1#32
  let arg24_r1 : BitVec 32 := Scf.iv c0_i32_1367_r1 c1_i32_r1 k0_t2
  let c2_i32_r1 : BitVec 32 := 2#32
  let c0_i32_1369_r1 : BitVec 32 := 0#32
  let v1945_r1 : BitVec 1 := Scalar.cmpi .eq c2_i32_r1 c0_i32_1369_r1
  let c1_i32_1370_r1 : BitVec 32 := 1#32
  let v1946_r1 : BitVec 32 := Scalar.select v1945_r1 c1_i32_1370_r1 c2_i32_r1
  let v1947_r1 : BitVec 32 := Scalar.remsi arg24_r1 v1946_r1
  let c0_i32_1372_r1 : BitVec 32 := 0#32
  let v1949_r1 : BitVec 1 := Scalar.cmpi .slt v1947_r1 c0_i32_1372_r1
  let c0_i32_1373_r1 : BitVec 32 := 0#32
  let v1950_r1 : BitVec 1 := Scalar.cmpi .slt v1946_r1 c0_i32_1373_r1
  let v1951_r1 : BitVec 1 := Scalar.xori v1949_r1 v1950_r1
  let c0_i32_1371_r1 : BitVec 32 := 0#32
  let v1948_r1 : BitVec 1 := Scalar.cmpi .ne v1947_r1 c0_i32_1371_r1
  let v1952_r1 : BitVec 1 := Scalar.andi v1951_r1 v1948_r1
  let v1953_r1 : BitVec 32 := Scalar.addi v1947_r1 v1946_r1
  let v1954_r1 : BitVec 32 := Scalar.select v1952_r1 v1953_r1 v1947_r1
  let v1969_r1 : Index := Scalar.indexCast v1954_r1
  let c0_1383_r1 : Index := 0#32
  let c0_1384_r1 : Index := 0#32
  ![v1969_r1.toNat, 0, 0]
def k0_off16 (k0_t2 : Fin k0_t2_loop.trips) : Fin 2 → Nat :=
  let c0_i32_1367_r1 : BitVec 32 := 0#32
  let c1_i32_r1 : BitVec 32 := 1#32
  let arg24_r1 : BitVec 32 := Scf.iv c0_i32_1367_r1 c1_i32_r1 k0_t2
  let c512_i32_1382_r1 : BitVec 32 := 512#32
  let v1967_r1 : BitVec 32 := Scalar.muli arg24_r1 c512_i32_1382_r1
  let v1968_r1 : BitVec 32 := v1967_r1
  let v1973_r1 : Index := Scalar.indexCast v1968_r1
  let c0_1385_r1 : Index := 0#32
  ![v1973_r1.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S4x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Proof.Fill.lean ====
/-
  The first section of the kernel body: at the first grid point it fills the two weight scratch buffers from HBM, chunk by
  chunk through a two-slot staging ring; at every later point it leaves them. Here: the ring's slots, the cast weights as
  vectors, and the run of this section at the first point and at a later one.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import Idealize.ShloMosaic.Lib.Pointwise.Reshape

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-! ## The buffers the section touches -/

/-- The two weight arrays in HBM, the two scratch buffers that keep them cast, the two staging rings. -/
abbrev w1M : Memref sig .tc .hbm S2x1024x4096 .f32 := Memref.whole main_arg2
abbrev w2M : Memref sig .tc .hbm S2x4096x1024 .f32 := Memref.whole main_arg3
abbrev s1M : Memref sig .tc .vmem S1024x4096 .bf16 := Memref.whole cc0_scratch0
abbrev s2M : Memref sig .tc .vmem S4096x1024 .bf16 := Memref.whole cc0_scratch1
abbrev g1M : Memref sig .tc .vmem S2x128x4096 .f32 := Memref.whole cc0_scoped0
abbrev g2M : Memref sig .tc .vmem S2x512x1024 .f32 := Memref.whole cc0_scoped2

/-- The contents of a memref's buffer on device `c`. -/
abbrev PB (c : Dev nD) {sp : Space} {S : Shape} {e : EltTy} (M : Memref sig .tc sp S e) : Type := Buf (Elt F) (M.view.loc (c : Thread nD τ))
/-- A memref's buffer held whole, at contents `f`. -/
abbrev pt (c : Dev nD) {sp : Space} {S : Shape} {e : EltTy} (M : Memref sig .tc sp S e) (f : PB (F := F) c M) : sProp 𝕄 :=
  M.view.loc (c : Thread nD τ) ↦{fullShare} f
/-- A memref's own elements held, at contents `f`. -/
abbrev ptOn (c : Dev nD) {sp : Space} {S : Shape} {e : EltTy} (M : Memref sig .tc sp S e) (f : PB (F := F) c M) : sProp 𝕄 :=
  M.view.loc (c : Thread nD τ) ↦[M.view.set]{fullShare} f

/-! ## The staging rings' slots -/

abbrev off1 (s : Fin 2) : Fin 3 → ℕ := ![s.val, 0, 0]
theorem inb1 (s : Fin 2) : ∀ a, off1 s a + S1x128x4096.size a ≤ S2x128x4096.size a := by revert s; decide
theorem inb2 (s : Fin 2) : ∀ a, off1 s a + S1x512x1024.size a ≤ S2x512x1024.size a := by revert s; decide
/-- Slot `s` of the first ring, and of the second. -/
def sl1M (s : Fin 2) : Memref sig .tc .vmem S128x4096 .f32 :=
  (g1M.slice (Rect.unit (s := S2x128x4096) (off1 s) S1x128x4096.size (inb1 s)) (fun _ => rfl)).squeeze S128x4096 squeezes_S1x128x4096_S128x4096
def sl2M (s : Fin 2) : Memref sig .tc .vmem S512x1024 .f32 :=
  (g2M.slice (Rect.unit (s := S2x512x1024) (off1 s) S1x512x1024.size (inb2 s)) (fun _ => rfl)).squeeze S512x1024 squeezes_S1x512x1024_S512x1024

@[sl_canon] theorem sl1_0 (hh hs) : (g1M.slice (Rect.unit (s := S2x128x4096) ![0, 0, 0] S1x128x4096.size hh) hs).squeeze S128x4096 squeezes_S1x128x4096_S128x4096 = sl1M 0 := rfl
@[sl_canon] theorem sl1_1 (hh hs) : (g1M.slice (Rect.unit (s := S2x128x4096) ![1, 0, 0] S1x128x4096.size hh) hs).squeeze S128x4096 squeezes_S1x128x4096_S128x4096 = sl1M 1 := rfl
@[sl_canon] theorem sl2_0 (hh hs) : (g2M.slice (Rect.unit (s := S2x512x1024) ![0, 0, 0] S1x512x1024.size hh) hs).squeeze S512x1024 squeezes_S1x512x1024_S512x1024 = sl2M 0 := rfl
@[sl_canon] theorem sl2_1 (hh hs) : (g2M.slice (Rect.unit (s := S2x512x1024) ![1, 0, 0] S1x512x1024.size hh) hs).squeeze S512x1024 squeezes_S1x512x1024_S512x1024 = sl2M 1 := rfl

theorem sl1_set (s : Fin 2) : (sl1M s).view.set = (Rect.unit (s := S2x128x4096) (off1 s) S1x128x4096.size (inb1 s)).set :=
  (View.set_reshape _ _).trans (View.set_slice_whole _ _)
theorem sl2_set (s : Fin 2) : (sl2M s).view.set = (Rect.unit (s := S2x512x1024) (off1 s) S1x512x1024.size (inb2 s)).set :=
  (View.set_reshape _ _).trans (View.set_slice_whole _ _)
/-- A load of slot `s` through the ring reads elements of the slot. -/
theorem sub1 (s : Fin 2) (hh) : (g1M.access (Rect.unit (s := S2x128x4096) ![s.val, 0, 0] S1x128x4096.size hh)).set ⊆ (sl1M s).view.set :=
  (View.set_reshape _ _).ge
theorem sub2 (s : Fin 2) (hh) : (g2M.access (Rect.unit (s := S2x512x1024) ![s.val, 0, 0] S1x512x1024.size hh)).set ⊆ (sl2M s).view.set :=
  (View.set_reshape _ _).ge

/-- Ring 1's elements are its two slots' elements, each in one slot. -/
abbrev ring1I (s : Fin 2) : Finset (Shape.Idx S2x128x4096) := (Rect.unit (s := S2x128x4096) (off1 s) S1x128x4096.size (inb1 s)).set
theorem ring1_disjoint : ∀ s s' : Fin 2, s ≠ s' → Disjoint (ring1I s) (ring1I s') :=
  Ring.lead_disjoint (s := S2x128x4096) (NB := 2) 0 1 off1 S1x128x4096.size inb1 (by decide) (by decide)
theorem ring1_cover : Finset.univ.biUnion ring1I = Finset.univ :=
  Ring.lead_cover (s := S2x128x4096) (NB := 2) 0 1 off1 S1x128x4096.size inb1 (by decide) (by decide) (by decide) (by decide) (by decide)
/-- The ring held whole is its two slots held, and back. -/
theorem ring1_split (c : Dev nD) : iprop(∃ f, pt (F := F) c g1M f) ⊢ iprop((∃ f, ptOn (F := F) c (sl1M 0) f) ∗ ∃ f, ptOn (F := F) c (sl1M 1) f) :=
  Ring.slots2_split (ℓ := g1M.view.loc (c : Thread nD τ)) ring1I ring1_disjoint ring1_cover _ _
    (fun f => congrArg (fun S => (_ ↦[S]{fullShare} f : sProp 𝕄)) (sl1_set 0)) (fun f => congrArg (fun S => (_ ↦[S]{fullShare} f : sProp 𝕄)) (sl1_set 1))
theorem ring1_join (c : Dev nD) : iprop((∃ f, ptOn (F := F) c (sl1M 0) f) ∗ ∃ f, ptOn (F := F) c (sl1M 1) f) ⊢ iprop(∃ f, pt (F := F) c g1M f) :=
  Ring.slots2_join (ℓ := g1M.view.loc (c : Thread nD τ)) ring1I ring1_disjoint ring1_cover _ _
    (fun f => congrArg (fun S => (_ ↦[S]{fullShare} f : sProp 𝕄)) (sl1_set 0)) (fun f => congrArg (fun S => (_ ↦[S]{fullShare} f : sProp 𝕄)) (sl1_set 1))
/-- Ring 2's elements are its two slots' elements, each in one slot. -/
abbrev ring2I (s : Fin 2) : Finset (Shape.Idx S2x512x1024) := (Rect.unit (s := S2x512x1024) (off1 s) S1x512x1024.size (inb2 s)).set
theorem ring2_disjoint : ∀ s s' : Fin 2, s ≠ s' → Disjoint (ring2I s) (ring2I s') :=
  Ring.lead_disjoint (s := S2x512x1024) (NB := 2) 0 1 off1 S1x512x1024.size inb2 (by decide) (by decide)
theorem ring2_cover : Finset.univ.biUnion ring2I = Finset.univ :=
  Ring.lead_cover (s := S2x512x1024) (NB := 2) 0 1 off1 S1x512x1024.size inb2 (by decide) (by decide) (by decide) (by decide) (by decide)
/-- The ring held whole is its two slots held, and back. -/
theorem ring2_split (c : Dev nD) : iprop(∃ f, pt (F := F) c g2M f) ⊢ iprop((∃ f, ptOn (F := F) c (sl2M 0) f) ∗ ∃ f, ptOn (F := F) c (sl2M 1) f) :=
  Ring.slots2_split (ℓ := g2M.view.loc (c : Thread nD τ)) ring2I ring2_disjoint ring2_cover _ _
    (fun f => congrArg (fun S => (_ ↦[S]{fullShare} f : sProp 𝕄)) (sl2_set 0)) (fun f => congrArg (fun S => (_ ↦[S]{fullShare} f : sProp 𝕄)) (sl2_set 1))
theorem ring2_join (c : Dev nD) : iprop((∃ f, ptOn (F := F) c (sl2M 0) f) ∗ ∃ f, ptOn (F := F) c (sl2M 1) f) ⊢ iprop(∃ f, pt (F := F) c g2M f) :=
  Ring.slots2_join (ℓ := g2M.view.loc (c : Thread nD τ)) ring2I ring2_disjoint ring2_cover _ _
    (fun f => congrArg (fun S => (_ ↦[S]{fullShare} f : sProp 𝕄)) (sl2_set 0)) (fun f => congrArg (fun S => (_ ↦[S]{fullShare} f : sProp 𝕄)) (sl2_set 1))

/-! ## The cast weights -/

/-- Layer 1's matrix of each weight array, as the copies slice it. -/
abbrev src1 : Memref sig .tc .hbm S1024x4096 .f32 :=
  (w1M.slice (Rect.unit (s := S2x1024x4096) ![1, 0, 0] S1x1024x4096.size inb_S2x1024x4096_S1x1024x4096_1_0_0) (fun _ => rfl)).squeeze S1024x4096 squeezes_S1x1024x4096_S1024x4096
abbrev src2 : Memref sig .tc .hbm S4096x1024 .f32 :=
  (w2M.slice (Rect.unit (s := S2x4096x1024) ![1, 0, 0] S1x4096x1024.size inb_S2x4096x1024_S1x4096x1024_1_0_0) (fun _ => rfl)).squeeze S4096x1024 squeezes_S1x4096x1024_S4096x1024
/-- Layer 1's two weight matrices cast to bf16: what the scratch buffers keep from the first point on. -/
def wb1 (w : main_arg2.ty.Contents (Elt F)) : Vec F S1024x4096 .bf16 := truncf .bf16 (src1.view.read (Elt F) w) bitsLt_bf16_f32
def wb2 (w : main_arg3.ty.Contents (Elt F)) : Vec F S4096x1024 .bf16 := truncf .bf16 (src2.view.read (Elt F) w) bitsLt_bf16_f32

/-- Contents whose last write is `d` through the whole view read as `d`. -/
theorem read_whole_head {sig : RefSig} {κ : Kind} {sp : Space} {s : Shape} {e : EltTy} {Val : EltTy → Type} (v : View sig κ sp s e)
    (f : v.ty.Contents Val) (d : (Rect.whole s).shape.Idx → Val e) (L : List (View.Piece Val s e)) (y : s.Idx) :
    v.read Val (v.writes Val f (⟨Rect.whole s, d⟩ :: L)) y = d y := by
  have h := View.read_writes_cons_emb v f (Rect.whole s) d L y
  rwa [Rect.emb_whole_apply] at h

/-- A slot loaded through its ring and cast is what the slot reads as, cast. -/
theorem pay3_cast (s : Fin 2) (hh) (f : g1M.view.ty.Contents (Elt F)) :
    k0_pay3 (F := F) (View.readAt (Elt F) g1M.view (Rect.unit (s := S2x128x4096) ![s.val, 0, 0] S1x128x4096.size hh).toLoadRect f)
      = truncf .bf16 ((sl1M s).view.read (Elt F) f) bitsLt_bf16_f32 :=
  (shapeCast_id (truncf .bf16 (shapeCast S128x4096 (View.readAt (Elt F) g1M.view (Rect.unit (s := S2x128x4096) ![s.val, 0, 0] S1x128x4096.size hh).toLoadRect f)
    shapeCasts_S1x128x4096_S128x4096) bitsLt_bf16_f32) shapeCasts_S128x4096_S128x4096).trans rfl
/-- A slot that holds `d`, loaded through the ring and cast, is `d` cast. -/
theorem pay3_slot (s : Fin 2) (hh) (f : (sl1M s).view.ty.Contents (Elt F)) (d : S128x4096.Idx → Elt F .f32) (L) :
    k0_pay3 (F := F) (View.readAt (Elt F) g1M.view (Rect.unit (s := S2x128x4096) ![s.val, 0, 0] S1x128x4096.size hh).toLoadRect
      ((sl1M s).view.writes (Elt F) f (⟨Rect.whole S128x4096, d⟩ :: L))) = truncf .bf16 d bitsLt_bf16_f32 :=
  (pay3_cast s hh _).trans (congrArg (fun v => truncf .bf16 v bitsLt_bf16_f32) (funext (read_whole_head (sl1M s).view f d L)))
theorem pay4_cast (s : Fin 2) (hh) (f : g2M.view.ty.Contents (Elt F)) :
    k0_pay4 (F := F) (View.readAt (Elt F) g2M.view (Rect.unit (s := S2x512x1024) ![s.val, 0, 0] S1x512x1024.size hh).toLoadRect f)
      = truncf .bf16 ((sl2M s).view.read (Elt F) f) bitsLt_bf16_f32 :=
  (shapeCast_id (truncf .bf16 (shapeCast S512x1024 (View.readAt (Elt F) g2M.view (Rect.unit (s := S2x512x1024) ![s.val, 0, 0] S1x512x1024.size hh).toLoadRect f)
    shapeCasts_S1x512x1024_S512x1024) bitsLt_bf16_f32) shapeCasts_S512x1024_S512x1024).trans rfl
/-- A slot that holds `d`, loaded through the ring and cast, is `d` cast. -/
theorem pay4_slot (s : Fin 2) (hh) (f : (sl2M s).view.ty.Contents (Elt F)) (d : S512x1024.Idx → Elt F .f32) (L) :
    k0_pay4 (F := F) (View.readAt (Elt F) g2M.view (Rect.unit (s := S2x512x1024) ![s.val, 0, 0] S1x512x1024.size hh).toLoadRect
      ((sl2M s).view.writes (Elt F) f (⟨Rect.whole S512x1024, d⟩ :: L))) = truncf .bf16 d bitsLt_bf16_f32 :=
  (pay4_cast s hh _).trans (congrArg (fun v => truncf .bf16 v bitsLt_bf16_f32) (funext (read_whole_head (sl2M s).view f d L)))

/-! ## The section's run -/

section Part1

variable (c : Dev nD) (i : grid0.Coords)
  (arg1 : Memref sig .tc .vmem S1024x1024 .f32) (harg1 : arg1.IsWhole) (arg2 : Memref sig .tc .vmem S1x1024 .f32) (harg2 : arg2.IsWhole)
  (arg5 : Memref sig .tc .vmem S1x1024 .f32) (harg5 : arg5.IsWhole) (arg6 : Memref sig .tc .vmem S1024x1024 .f32) (harg6 : arg6.IsWhole)
  (f1 : PB (F := F) c arg1) (f2 : PB (F := F) c arg2) (w1 : PB (F := F) c w1M) (w2 : PB (F := F) c w2M)

/-- The section at the launch's buffers. -/
abbrev part1At := k0_part1_skel (F := F) i arg1 harg1 arg2 harg2 w1M (Memref.isWhole_whole _) w2M (Memref.isWhole_whole _) arg5 harg5 arg6 harg6
  s1M (Memref.isWhole_whole _) s2M (Memref.isWhole_whole _) g1M (Memref.isWhole_whole _) cc0_scoped1 g2M (Memref.isWhole_whole _) cc0_scoped3

/-- What the section passes on: the values of the input block and of the first gain that the rest of the body reads. -/
abbrev p1res : (_ : FVec F S1024x1024 .f32) ×' (_ : FVec F S256x1024 .bf16) ×' (_ : FVec F S256x1024 .bf16) ×' (_ : FVec F S256x1024 .f32)
    ×' (_ : FVec F S1x1024 .f32) ×' FVec F S256x1024 .f32 :=
  let x := View.readAt (Elt F) arg1.view (Rect.unit (s := S1024x1024) ![0, 0] S1024x1024.size inb_S1024x1024_S1024x1024_0_0).toLoadRect f1
  let g := View.readAt (Elt F) arg2.view (Rect.unit (s := S1x1024) ![0, 0] S1x1024.size inb_S1x1024_S1x1024_0_0).toLoadRect f2
  ⟨k0_pay5 x, ⟨k0_pay6 x g, ⟨k0_pay7 x g, ⟨k0_pay8 x, ⟨k0_pay9 g, k0_pay10 x⟩⟩⟩⟩⟩

/-- A buffer held whole, reading as `v`. -/
abbrev holds (c : Dev nD) {sp : Space} {S : Shape} {e : EltTy} (M : Memref sig .tc sp S e) (v : S.Idx → Elt F e) : sProp 𝕄 :=
  iprop(∃ f, ⌜M.view.read (Elt F) f = v⌝ ∗ pt (F := F) c M f)
/-- The kernel's own semaphores at zero. -/
abbrev semsZero : sProp 𝕄 := iprop(semVal ((c : Thread nD τ), SemLoc.dma 6) 0 ∗ semVal ((c : Thread nD τ), SemLoc.dma 7) 0
  ∗ semVal ((c : Thread nD τ), SemLoc.dma 8) 0 ∗ semVal ((c : Thread nD τ), SemLoc.dma 9) 0)
/-- The staging rings held at any contents. -/
abbrev ringsAny : sProp 𝕄 := iprop((∃ b, pt (F := F) c g1M b) ∗ ∃ b, pt (F := F) c g2M b)

/-- At a point that fills: from scratch buffers at anything, the section ends with them at the cast weights. -/
theorem part1_first (hc : k0_cond1 i = 1#1) (W : Waits sig Unit) (K : _ → sProp 𝕄) :
    iprop(ptOn c arg1 f1 ∗ ptOn c arg2 f2 ∗ pt c w1M w1 ∗ pt c w2M w2 ∗ (∃ a, pt (F := F) c s1M a) ∗ (∃ a, pt (F := F) c s2M a)
      ∗ ringsAny (F := F) c ∗ semsZero (F := F) c ∗ owes (c : Thread nD τ) 0 W
      ∗ ((ptOn c arg1 f1 ∗ ptOn c arg2 f2 ∗ pt c w1M w1 ∗ pt c w2M w2 ∗ holds c s1M (wb1 w1)
          ∗ holds c s2M (wb2 w2) ∗ ringsAny (F := F) c ∗ semsZero (F := F) c ∗ ∃ W', owes (c : Thread nD τ) 0 W')
          -∗ K (p1res c arg1 arg2 f1 f2)))
    ⊢ wp frame (wpE (defs₀ (F := F)) Variants.none c none) Set.univ (part1At i arg1 harg1 arg2 harg2 arg5 harg5 arg6 harg6) K := by
  unfold part1At k0_part1_skel
  iintro ⟨H1, H2, Hw1, Hw2, ⟨%a1, Hs1⟩, ⟨%a2, Hs2⟩, ⟨Hg1, Hg2⟩, ⟨Hq6, Hq7, Hq8, Hq9⟩, HW, HK⟩
  ihave Hg1' := (ring1_split c) $$ Hg1
  ihave Hg2' := (ring2_split c) $$ Hg2
  icases Hg1' with ⟨⟨%b10, Hg10⟩, ⟨%b11, Hg11⟩⟩
  icases Hg2' with ⟨⟨%b20, Hg20⟩, ⟨%b21, Hg21⟩⟩
  have h10 := sub1 0
  have h11 := sub1 1
  have h20 := sub2 0
  have h21 := sub2 1
  sl_exec
  sl_unroll
  sl_exec
  sl_unroll
  sl_exec
  sl_step
  iapply HK
  isplitl [H1]; · iexact H1
  isplitl [H2]; · iexact H2
  isplitl [Hw1]; · iexact Hw1
  isplitl [Hw2]; · iexact Hw2
  isplitl [Hs1]
  · iexists _
    isplitr
    swap
    · iexact Hs1
    · ipureintro
      funext y
      refine View.read_writes_apply_of_pieces _ _ (wb1 w1) _ ?_ y (View.cover_of_tiledL (s := S1024x4096) _ S128x4096.size (by sl_kernel_rfl) y)
      unfold part1_first.sl.Hs1_8
      refine List.forall_mem_cons.mpr ⟨fun x => (congrFun (pay3_slot 1 _ _ _ _) x).trans rfl, ?_⟩
      refine List.forall_mem_cons.mpr ⟨fun x => (congrFun (pay3_slot 0 _ _ _ _) x).trans rfl, ?_⟩
      refine List.forall_mem_cons.mpr ⟨fun x => (congrFun (pay3_slot 1 _ _ _ _) x).trans rfl, ?_⟩
      refine List.forall_mem_cons.mpr ⟨fun x => (congrFun (pay3_slot 0 _ _ _ _) x).trans rfl, ?_⟩
      refine List.forall_mem_cons.mpr ⟨fun x => (congrFun (pay3_slot 1 _ _ _ _) x).trans rfl, ?_⟩
      refine List.forall_mem_cons.mpr ⟨fun x => (congrFun (pay3_slot 0 _ _ _ _) x).trans rfl, ?_⟩
      refine List.forall_mem_cons.mpr ⟨fun x => (congrFun (pay3_slot 1 _ _ _ _) x).trans rfl, ?_⟩
      refine List.forall_mem_cons.mpr ⟨fun x => (congrFun (pay3_slot 0 _ _ _ _) x).trans rfl, ?_⟩
      exact fun p hp => absurd hp List.not_mem_nil
  isplitl [Hs2]
  · iexists _
    isplitr
    swap
    · iexact Hs2
    · ipureintro
      funext y
      refine View.read_writes_apply_of_pieces _ _ (wb2 w2) _ ?_ y (View.cover_of_tiledL (s := S4096x1024) _ S512x1024.size (by sl_kernel_rfl) y)
      refine List.forall_mem_cons.mpr ⟨fun x => (congrFun (pay4_slot 1 _ _ _ _) x).trans rfl, ?_⟩
      refine List.forall_mem_cons.mpr ⟨fun x => (congrFun (pay4_slot 0 _ _ _ _) x).trans rfl, ?_⟩
      refine List.forall_mem_cons.mpr ⟨fun x => (congrFun (pay4_slot 1 _ _ _ _) x).trans rfl, ?_⟩
      refine List.forall_mem_cons.mpr ⟨fun x => (congrFun (pay4_slot 0 _ _ _ _) x).trans rfl, ?_⟩
      refine List.forall_mem_cons.mpr ⟨fun x => (congrFun (pay4_slot 1 _ _ _ _) x).trans rfl, ?_⟩
      refine List.forall_mem_cons.mpr ⟨fun x => (congrFun (pay4_slot 0 _ _ _ _) x).trans rfl, ?_⟩
      refine List.forall_mem_cons.mpr ⟨fun x => (congrFun (pay4_slot 1 _ _ _ _) x).trans rfl, ?_⟩
      refine List.forall_mem_cons.mpr ⟨fun x => (congrFun (pay4_slot 0 _ _ _ _) x).trans rfl, ?_⟩
      exact fun p hp => absurd hp List.not_mem_nil
  isplitl [Hg10 Hg11 Hg20 Hg21]
  · isplitl [Hg10 Hg11]
    · iapply (ring1_join c)
      isplitl [Hg10]
      · iexists _; iexact Hg10
      · iexists _; iexact Hg11
    · iapply (ring2_join c)
      isplitl [Hg20]
      · iexists _; iexact Hg20
      · iexists _; iexact Hg21
  isplitl [Hq6 Hq7 Hq8 Hq9]
  · isplitl [Hq6]; · iexact Hq6
    isplitl [Hq7]; · iexact Hq7
    isplitl [Hq8]; · iexact Hq8
    iexact Hq9
  iexists _; iexact HW

/-- At a point that does not fill: the section leaves every buffer as it is. -/
theorem part1_later (hc : ¬ k0_cond1 i = 1#1) (K : _ → sProp 𝕄) :
    iprop(ptOn c arg1 f1 ∗ ptOn c arg2 f2 ∗ ((ptOn c arg1 f1 ∗ ptOn c arg2 f2) -∗ K (p1res c arg1 arg2 f1 f2)))
    ⊢ wp frame (wpE (defs₀ (F := F)) Variants.none c none) Set.univ (part1At i arg1 harg1 arg2 harg2 arg5 harg5 arg6 harg6) K := by
  unfold part1At k0_part1_skel
  iintro ⟨H1, H2, HK⟩
  sl_exec
  sl_step
  iapply HK
  isplitl [H1]; · iexact H1
  iexact H2

end Part1

end Cert.KernelIdeal.Hand
-- ==== Proof.Body.lean ====
/-
  The kernel body after its first section: from the cast weights in scratch and the section's values it computes the output
  block and stores it in four pieces of 256 rows. Here: that rest as a program, its run, and the run of the whole body at a
  point that fills and at a later one.
-/
module

public import proofs.«01_k».proof.Proof.Fill
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- What the first section passes on. -/
abbrev Passed (F : FTy → Type) : Type := (_ : FVec F S1024x1024 .f32) ×' (_ : FVec F S256x1024 .bf16) ×' (_ : FVec F S256x1024 .bf16) ×' (_ : FVec F S256x1024 .f32)
    ×' (_ : FVec F S1x1024 .f32) ×' FVec F S256x1024 .f32

variable (c : Dev nD) (i : grid0.Coords)
  (arg1 : Memref sig .tc .vmem S1024x1024 .f32) (harg1 : arg1.IsWhole) (arg2 : Memref sig .tc .vmem S1x1024 .f32) (harg2 : arg2.IsWhole)
  (arg5 : Memref sig .tc .vmem S1x1024 .f32) (harg5 : arg5.IsWhole) (arg6 : Memref sig .tc .vmem S1024x1024 .f32) (harg6 : arg6.IsWhole)

/-- The body after its first section. -/
def restProg (r : Passed F) : Prog (TpuEff nD τ sig (Elt F) Λ₀ .tc) PUnit := do
  let ⟨v4, v20, v36, v37, v39, v40⟩ := r
  let ⟨v69, v80⟩ : Σ' (v69 : FVec F S1024x1024 .bf16), FVec F S1024x1024 .f32 ← k0_part2_skel (F := F) i arg1 harg1 arg2 harg2 w1M (Memref.isWhole_whole _) w2M (Memref.isWhole_whole _) arg5 harg5 arg6 harg6 s1M (Memref.isWhole_whole _) s2M (Memref.isWhole_whole _) g1M (Memref.isWhole_whole _) cc0_scoped1 g2M (Memref.isWhole_whole _) cc0_scoped3 v4 v20 v36 v37 v39 v40
  let ⟨v101, v120⟩ : Σ' (v101 : FVec F S1024x4096 .bf16), FVec F S256x1024 .f32 ← k0_part3_skel (F := F) i arg1 harg1 arg2 harg2 w1M (Memref.isWhole_whole _) w2M (Memref.isWhole_whole _) arg5 harg5 arg6 harg6 s1M (Memref.isWhole_whole _) s2M (Memref.isWhole_whole _) g1M (Memref.isWhole_whole _) cc0_scoped1 g2M (Memref.isWhole_whole _) cc0_scoped3 v4 v69 v80
  let ⟨v148, v158⟩ : Σ' (v148 : FVec F S1x1024 .f32), FVec F S256x1024 .f32 ← k0_part4_skel (F := F) i arg1 harg1 arg2 harg2 w1M (Memref.isWhole_whole _) w2M (Memref.isWhole_whole _) arg5 harg5 arg6 harg6 s1M (Memref.isWhole_whole _) s2M (Memref.isWhole_whole _) g1M (Memref.isWhole_whole _) cc0_scoped1 g2M (Memref.isWhole_whole _) cc0_scoped3 v4 v101 v120
  let v161 : Vec F S256x1024 .f32 ← Prog.lift (.load arg6 (Rect.unit (s := S1024x1024) ![512, 0] S256x1024.size inb_S1024x1024_S256x1024_512_0).toLoadRect (View.loadsAt_vmem h_S256x1024))
  Prog.lift (.store arg6 (Rect.unit (s := S1024x1024) ![512, 0] S256x1024.size inb_S1024x1024_S256x1024_512_0) (k0_pay1 v148 v158) Finset.univ (View.stores_vmem_bits_univ h_S256x1024 rfl) (.inl rfl))
  let v164 : Vec F S4096x1024 .bf16 ← Prog.lift (.load s2M (Rect.unit (s := S4096x1024) ![0, 0] S4096x1024.size inb_S4096x1024_S4096x1024_0_0).toLoadRect (View.loadsAt_vmem h_S4096x1024))
  let v167 : Vec F S1x1024 .f32 ← Prog.lift (.load arg5 (Rect.unit (s := S1x1024) ![0, 0] S1x1024.size inb_S1x1024_S1x1024_0_0).toLoadRect (View.loadsAt_vmem h_S1x1024))
  let v181 : Vec F S256x1024 .f32 ← Prog.lift (.load arg6 (Rect.unit (s := S1024x1024) ![768, 0] S256x1024.size inb_S1024x1024_S256x1024_768_0).toLoadRect (View.loadsAt_vmem h_S256x1024))
  Prog.lift (.store arg6 (Rect.unit (s := S1024x1024) ![768, 0] S256x1024.size inb_S1024x1024_S256x1024_768_0) (k0_pay2 v4 v101 v164 v167) Finset.univ (View.stores_vmem_bits_univ h_S256x1024 rfl) (.inl rfl))
  pure ⟨⟩

/-- The whole body at the launch's buffers. -/
abbrev bodyAt := cc0_ffn_final (F := F) i arg1 harg1 arg2 harg2 w1M (Memref.isWhole_whole _) w2M (Memref.isWhole_whole _) arg5 harg5 arg6 harg6
  s1M (Memref.isWhole_whole _) s2M (Memref.isWhole_whole _) g1M (Memref.isWhole_whole _) cc0_scoped1 g2M (Memref.isWhole_whole _) cc0_scoped3

set_option maxRecDepth 65536 in
/-- The body is its first section, then the rest. -/
theorem bodyAt_eq : bodyAt (F := F) i arg1 harg1 arg2 harg2 arg5 harg5 arg6 harg6
    = part1At i arg1 harg1 arg2 harg2 arg5 harg5 arg6 harg6 >>= fun r => restProg i arg1 harg1 arg2 harg2 arg5 harg5 arg6 harg6 r := rfl

section Rest

variable (v4 : FVec F S1024x1024 .f32) (v20 v36 : FVec F S256x1024 .bf16) (v37 : FVec F S256x1024 .f32) (v39 : FVec F S1x1024 .f32) (v40 : FVec F S256x1024 .f32)
  (g2 g5 : Vec F S1x1024 .f32) (w1 : Vec F S1024x4096 .bf16) (w2 : Vec F S4096x1024 .bf16)

/-- Columns `1024 j …` of the first cast weight, as a load of it from scratch. -/
def w1c (o : Fin 2 → ℕ) (h : ∀ a, o a + S1024x1024.size a ≤ S1024x4096.size a) : Vec F S1024x1024 .bf16 :=
  View.readAt (Elt F) s1M.view (Rect.unit (s := S1024x4096) o S1024x1024.size h).toLoadRect w1
/-- The normalised rows, the first quarter of the hidden rows before the square, and the whole hidden rows. -/
def hRows : FVec F S1024x1024 .bf16 := k0_pay13 v4 v20 v36 v37 v39 v40 g2
def hid0 : FVec F S1024x1024 .f32 :=
  k0_pay14 v4 v20 v36 v37 v39 v40 g2 (w1c w1 ![0, 0] inb_S1024x4096_S1024x1024_0_0) (w1c w1 ![0, 0] inb_S1024x4096_S1024x1024_0_0)
    (w1c w1 ![0, 0] inb_S1024x4096_S1024x1024_0_0) (w1c w1 ![0, 0] inb_S1024x4096_S1024x1024_0_0)
def hidden : FVec F S1024x4096 .bf16 :=
  k0_pay15 (hRows v4 v20 v36 v37 v39 v40 g2) (hid0 v4 v20 v36 v37 v39 v40 g2 w1) (w1c w1 ![0, 1024] inb_S1024x4096_S1024x1024_0_1024)
    (w1c w1 ![0, 2048] inb_S1024x4096_S1024x1024_0_2048) (w1c w1 ![0, 3072] inb_S1024x4096_S1024x1024_0_3072)
/-- The four pieces of 256 rows, last stored first. -/
def outPieces : List (View.Piece (Elt F) S1024x1024 .f32) :=
  [⟨Rect.unit (s := S1024x1024) ![768, 0] S256x1024.size inb_S1024x1024_S256x1024_768_0, k0_pay2 v4 (hidden v4 v20 v36 v37 v39 v40 g2 w1) w2 g5⟩,
   ⟨Rect.unit (s := S1024x1024) ![512, 0] S256x1024.size inb_S1024x1024_S256x1024_512_0, k0_pay1 (k0_pay18 g5) (k0_pay19 v4 (hidden v4 v20 v36 v37 v39 v40 g2 w1) w2)⟩,
   ⟨Rect.unit (s := S1024x1024) ![256, 0] S256x1024.size inb_S1024x1024_S256x1024_256_0, k0_pay17 v4 (hidden v4 v20 v36 v37 v39 v40 g2 w1) w2 g5⟩,
   ⟨Rect.unit (s := S1024x1024) ![0, 0] S256x1024.size inb_S1024x1024_S256x1024_0_0,
     k0_pay16 v4 (hRows v4 v20 v36 v37 v39 v40 g2) (hid0 v4 v20 v36 v37 v39 v40 g2 w1) (w1c w1 ![0, 1024] inb_S1024x4096_S1024x1024_0_1024)
       (w1c w1 ![0, 2048] inb_S1024x4096_S1024x1024_0_2048) (w1c w1 ![0, 3072] inb_S1024x4096_S1024x1024_0_3072) w2 g5⟩]

/-- A gain as loaded, and the second cast weight as loaded. -/
abbrev gainOf (M : Memref sig .tc .vmem S1x1024 .f32) (f : PB (F := F) c M) : Vec F S1x1024 .f32 :=
  View.readAt (Elt F) M.view (Rect.unit (s := S1x1024) ![0, 0] S1x1024.size inb_S1x1024_S1x1024_0_0).toLoadRect f
abbrev w2Of (a2 : PB (F := F) c s2M) : Vec F S4096x1024 .bf16 :=
  View.readAt (Elt F) s2M.view (Rect.unit (s := S4096x1024) ![0, 0] S4096x1024.size inb_S4096x1024_S4096x1024_0_0).toLoadRect a2

set_option maxHeartbeats 2000000 in
/-- The rest's run: from the passed values, the gains, the cast weights in scratch and the output block at anything, it ends
    with the output block written in the four pieces. -/
theorem restRun (f2 : PB (F := F) c arg2) (f5 : PB (F := F) c arg5) (a1 : PB (F := F) c s1M) (a2 : PB (F := F) c s2M) (K : PUnit → sProp 𝕄) :
    iprop(ptOn c arg2 f2 ∗ ptOn c arg5 f5 ∗ (∃ f, ptOn (F := F) c arg6 f) ∗ pt c s1M a1 ∗ pt c s2M a2
      ∗ ((ptOn c arg2 f2 ∗ ptOn c arg5 f5
          ∗ (∃ f, ptOn c arg6 (arg6.view.writes (Elt F) f (outPieces v4 v20 v36 v37 v39 v40 (gainOf c arg2 f2) (gainOf c arg5 f5) a1 (w2Of c a2))))
          ∗ pt c s1M a1 ∗ pt c s2M a2) -∗ K ⟨⟩))
    ⊢ wp frame (wpE (defs₀ (F := F)) Variants.none c none) Set.univ
        (restProg i arg1 harg1 arg2 harg2 arg5 harg5 arg6 harg6 ⟨v4, ⟨v20, ⟨v36, ⟨v37, ⟨v39, v40⟩⟩⟩⟩⟩) K := by
  unfold restProg k0_part2_skel k0_part3_skel k0_part4_skel
  iintro ⟨H2, H5, ⟨%f6, H6⟩, Hs1, Hs2, HK⟩
  sl_exec
  sl_step
  iapply HK
  isplitl [H2]; · iexact H2
  isplitl [H5]; · iexact H5
  isplitl [H6]; · iexists _; iexact H6
  isplitl [Hs1]; · iexact Hs1
  iexact Hs2

end Rest

/-! ## The output block of a point -/

/-- The pieces a point stores: from the input block `x`, the gains `g` and `gf`, the cast weights `w1` and `w2`. -/
def blkPieces (x : Vec F S1024x1024 .f32) (g gf : Vec F S1x1024 .f32) (w1 : Vec F S1024x4096 .bf16) (w2 : Vec F S4096x1024 .bf16) :
    List (View.Piece (Elt F) S1024x1024 .f32) :=
  outPieces (k0_pay5 x) (k0_pay6 x g) (k0_pay7 x g) (k0_pay8 x) (k0_pay9 g) (k0_pay10 x) g gf w1 w2
/-- The pieces cover the block. -/
theorem blkPieces_cover (x : Vec F S1024x1024 .f32) (g gf : Vec F S1x1024 .f32) (w1 : Vec F S1024x4096 .bf16) (w2 : Vec F S4096x1024 .bf16)
    (y : S1024x1024.Idx) : ∃ pc ∈ blkPieces x g gf w1 w2, y ∈ pc.1.set :=
  View.cover_of_tiledL (s := S1024x1024) (blkPieces x g gf w1 w2) S256x1024.size (by sl_kernel_rfl) y
/-- The block a point leaves: its pieces read back. -/
def outBlk (x : Vec F S1024x1024 .f32) (g gf : Vec F S1x1024 .f32) (w1 : Vec F S1024x4096 .bf16) (w2 : Vec F S4096x1024 .bf16) : Vec F S1024x1024 .f32 :=
  (Memref.whole cc0_stg3_0 : Memref sig .tc .vmem S1024x1024 .f32).view.read (Elt F)
    ((Memref.whole cc0_stg3_0 : Memref sig .tc .vmem S1024x1024 .f32).view.writes (Elt F) (Memref.whole cc0_stg3_0 : Memref sig .tc .vmem S1024x1024 .f32).view.junk
      (blkPieces x g gf w1 w2))

variable (x : Vec F S1024x1024 .f32) (g gf : Vec F S1x1024 .f32)

/-- A memref held at a value is its elements held at contents that read as the value. -/
theorem owns_eq {sp : Space} {S : Shape} {e : EltTy} (M : Memref sig .tc sp S e) (v : S.Idx → Elt F e) :
    (owns (c : Thread nD τ) M fullShare v : sProp 𝕄) = iprop(∃ f, ⌜M.view.read (Elt F) f = v⌝ ∗ ptOn c M f) := rfl

/-- What the first section passes on, as a function of the block and the gain. -/
theorem p1res_eq (f1 : PB (F := F) c arg1) (f2 : PB (F := F) c arg2) (h1 : arg1.view.read (Elt F) f1 = x) (h2 : arg2.view.read (Elt F) f2 = g) :
    p1res c arg1 arg2 f1 f2 = ⟨k0_pay5 x, ⟨k0_pay6 x g, ⟨k0_pay7 x g, ⟨k0_pay8 x, ⟨k0_pay9 g, k0_pay10 x⟩⟩⟩⟩⟩ := by
  have e1 := View.readAt_full arg1.view f1 (off := ![0, 0]) inb_S1024x1024_S1024x1024_0_0
  have e2 := View.readAt_full arg2.view f2 (off := ![0, 0]) inb_S1x1024_S1x1024_0_0
  rw [h1] at e1; rw [h2] at e2
  unfold p1res
  rw [e1, e2]

/-- The rest's run from the section's values, in terms of what the operands hold. -/
theorem restRun' (f1 : PB (F := F) c arg1) (f2 : PB (F := F) c arg2) (h1 : arg1.view.read (Elt F) f1 = x) (h2 : arg2.view.read (Elt F) f2 = g)
    (v1 : Vec F S1024x4096 .bf16) (v2 : Vec F S4096x1024 .bf16) (K : PUnit → sProp 𝕄) :
    iprop(ptOn c arg2 f2 ∗ owns (c : Thread nD τ) arg5 fullShare gf ∗ (∃ d, owns (c : Thread nD τ) arg6 fullShare d) ∗ holds c s1M v1 ∗ holds c s2M v2
      ∗ ((ptOn c arg2 f2 ∗ owns (c : Thread nD τ) arg5 fullShare gf ∗ owns (c : Thread nD τ) arg6 fullShare (outBlk x g gf v1 v2)
          ∗ holds c s1M v1 ∗ holds c s2M v2) -∗ K ⟨⟩))
    ⊢ wp frame (wpE (defs₀ (F := F)) Variants.none c none) Set.univ
        (restProg i arg1 harg1 arg2 harg2 arg5 harg5 arg6 harg6 (p1res c arg1 arg2 f1 f2)) K := by
  rw [p1res_eq c arg1 arg2 x g f1 f2 h1 h2]
  unfold owns
  iintro ⟨H2, ⟨%f5, %h5, H5⟩, ⟨%d6, %f6, -, H6⟩, ⟨%a1, %ha1, Hs1⟩, ⟨%a2, %ha2, Hs2⟩, HK⟩
  obtain rfl : a1 = v1 := ha1
  obtain rfl : a2 = v2 := ha2
  have e2 := View.readAt_full arg2.view f2 (off := ![0, 0]) inb_S1x1024_S1x1024_0_0
  have e5 := View.readAt_full arg5.view f5 (off := ![0, 0]) inb_S1x1024_S1x1024_0_0
  have ew := View.readAt_full s2M.view a2 (off := ![0, 0]) inb_S4096x1024_S4096x1024_0_0
  rw [h2] at e2; rw [h5] at e5
  iapply (restRun c i arg1 harg1 arg2 harg2 arg5 harg5 arg6 harg6 _ _ _ _ _ _ f2 f5 a1 a2 K)
  isplitl [H2]; · iexact H2
  isplitl [H5]; · iexact H5
  isplitl [H6]; · iexists _; iexact H6
  isplitl [Hs1]; · iexact Hs1
  isplitl [Hs2]; · iexact Hs2
  iintro ⟨H2, H5, ⟨%f, H6⟩, Hs1, Hs2⟩
  iapply HK
  isplitl [H2]; · iexact H2
  isplitl [H5]
  · iexists f5; isplitr
    · ipureintro; exact h5
    iexact H5
  isplitl [H6]
  · iexists _; isplitr
    swap; · iexact H6
    ipureintro
    unfold gainOf w2Of
    rw [e2, e5, ew]
    exact View.read_writes_of_cover _ _ _ _ _ (blkPieces_cover x g gf _ _)
  isplitl [Hs1]
  · iexists a1; isplitr
    · ipureintro; rfl
    iexact Hs1
  iexists a2; isplitr
  · ipureintro; rfl
  iexact Hs2

/-- The body at a point that fills: the output block is computed from the weights it has just cast. -/
theorem body_first (hc : k0_cond1 i = 1#1) (w1 : PB (F := F) c w1M) (w2 : PB (F := F) c w2M) (W : Waits sig Unit) (K : PUnit → sProp 𝕄) :
    iprop(owns (c : Thread nD τ) arg1 fullShare x ∗ owns (c : Thread nD τ) arg2 fullShare g ∗ owns (c : Thread nD τ) arg5 fullShare gf
      ∗ (∃ d, owns (c : Thread nD τ) arg6 fullShare d) ∗ pt c w1M w1 ∗ pt c w2M w2 ∗ (∃ a, pt (F := F) c s1M a) ∗ (∃ a, pt (F := F) c s2M a)
      ∗ ringsAny (F := F) c ∗ semsZero (F := F) c ∗ owes (c : Thread nD τ) 0 W
      ∗ ((owns (c : Thread nD τ) arg1 fullShare x ∗ owns (c : Thread nD τ) arg2 fullShare g ∗ owns (c : Thread nD τ) arg5 fullShare gf
          ∗ owns (c : Thread nD τ) arg6 fullShare (outBlk x g gf (wb1 w1) (wb2 w2)) ∗ pt c w1M w1 ∗ pt c w2M w2 ∗ holds c s1M (wb1 w1) ∗ holds c s2M (wb2 w2)
          ∗ ringsAny (F := F) c ∗ semsZero (F := F) c ∗ ∃ W', owes (c : Thread nD τ) 0 W') -∗ K ⟨⟩))
    ⊢ wp frame (wpE (defs₀ (F := F)) Variants.none c none) Set.univ (bodyAt i arg1 harg1 arg2 harg2 arg5 harg5 arg6 harg6) K := by
  rw [bodyAt_eq, wp_bind, owns_eq c arg1, owns_eq c arg2]
  iintro ⟨⟨%f1, %h1, H1⟩, ⟨%f2, %h2, H2⟩, H5, H6, Hw1, Hw2, Hs1, Hs2, Hg, Hq, HW, HK⟩
  iapply (part1_first c i arg1 harg1 arg2 harg2 arg5 harg5 arg6 harg6 f1 f2 w1 w2 hc W _)
  isplitl [H1]; · iexact H1
  isplitl [H2]; · iexact H2
  isplitl [Hw1]; · iexact Hw1
  isplitl [Hw2]; · iexact Hw2
  isplitl [Hs1]; · iexact Hs1
  isplitl [Hs2]; · iexact Hs2
  isplitl [Hg]; · iexact Hg
  isplitl [Hq]; · iexact Hq
  isplitl [HW]; · iexact HW
  iintro ⟨H1, H2, Hw1, Hw2, Hs1, Hs2, Hg, Hq, HW⟩
  iapply (restRun' c i arg1 harg1 arg2 harg2 arg5 harg5 arg6 harg6 x g gf f1 f2 h1 h2 (wb1 w1) (wb2 w2) K)
  isplitl [H2]; · iexact H2
  isplitl [H5]; · iexact H5
  isplitl [H6]; · iexact H6
  isplitl [Hs1]; · iexact Hs1
  isplitl [Hs2]; · iexact Hs2
  iintro ⟨H2, H5, H6, Hs1, Hs2⟩
  iapply HK
  isplitl [H1]
  · iexists f1; isplitr
    · ipureintro; exact h1
    iexact H1
  isplitl [H2]
  · iexists f2; isplitr
    · ipureintro; exact h2
    iexact H2
  isplitl [H5]; · iexact H5
  isplitl [H6]; · iexact H6
  isplitl [Hw1]; · iexact Hw1
  isplitl [Hw2]; · iexact Hw2
  isplitl [Hs1]; · iexact Hs1
  isplitl [Hs2]; · iexact Hs2
  isplitl [Hg]; · iexact Hg
  isplitl [Hq]; · iexact Hq
  iexact HW

/-- The body at a later point: the output block is computed from the weights the scratch buffers keep. -/
theorem body_later (hc : ¬ k0_cond1 i = 1#1) (v1 : Vec F S1024x4096 .bf16) (v2 : Vec F S4096x1024 .bf16) (K : PUnit → sProp 𝕄) :
    iprop(owns (c : Thread nD τ) arg1 fullShare x ∗ owns (c : Thread nD τ) arg2 fullShare g ∗ owns (c : Thread nD τ) arg5 fullShare gf
      ∗ (∃ d, owns (c : Thread nD τ) arg6 fullShare d) ∗ holds c s1M v1 ∗ holds c s2M v2
      ∗ ((owns (c : Thread nD τ) arg1 fullShare x ∗ owns (c : Thread nD τ) arg2 fullShare g ∗ owns (c : Thread nD τ) arg5 fullShare gf
          ∗ owns (c : Thread nD τ) arg6 fullShare (outBlk x g gf v1 v2) ∗ holds c s1M v1 ∗ holds c s2M v2) -∗ K ⟨⟩))
    ⊢ wp frame (wpE (defs₀ (F := F)) Variants.none c none) Set.univ (bodyAt i arg1 harg1 arg2 harg2 arg5 harg5 arg6 harg6) K := by
  rw [bodyAt_eq, wp_bind, owns_eq c arg1, owns_eq c arg2]
  iintro ⟨⟨%f1, %h1, H1⟩, ⟨%f2, %h2, H2⟩, H5, H6, Hs1, Hs2, HK⟩
  iapply (part1_later c i arg1 harg1 arg2 harg2 arg5 harg5 arg6 harg6 f1 f2 hc _)
  isplitl [H1]; · iexact H1
  isplitl [H2]; · iexact H2
  iintro ⟨H1, H2⟩
  iapply (restRun' c i arg1 harg1 arg2 harg2 arg5 harg5 arg6 harg6 x g gf f1 f2 h1 h2 v1 v2 K)
  isplitl [H2]; · iexact H2
  isplitl [H5]; · iexact H5
  isplitl [H6]; · iexact H6
  isplitl [Hs1]; · iexact Hs1
  isplitl [Hs2]; · iexact Hs2
  iintro ⟨H2, H5, H6, Hs1, Hs2⟩
  iapply HK
  isplitl [H1]
  · iexists f1; isplitr
    · ipureintro; exact h1
    iexact H1
  isplitl [H2]
  · iexists f2; isplitr
    · ipureintro; exact h2
    iexact H2
  isplitl [H5]; · iexact H5
  isplitl [H6]; · iexact H6
  isplitl [Hs1]; · iexact Hs1
  iexact Hs2

end Cert.KernelIdeal.Hand
-- ==== Proof.Rows.lean ====
/-
  The layer's mathematics on one row, over the extended reals: the root-mean-square norm of a row, the squared-relu
  feed-forward of a row, and the row with the feed-forward added.  The kernel's and the reference's results are both read as
  these functions of a row.
-/
module

public import Idealize.ShloMosaic.Lib.Pointwise

@[expose] public section

noncomputable section

namespace Cert.Rows

open Idealize.ShloMosaic

/-- The row `x` over the root of its mean square (the width and the small addend as the float words the programs write),
    times the gain `g`. -/
def norm (x g : Fin 1024 → EReal) (d : Fin 1024) : EReal :=
  x d * Ideal.rsqrt (Ideal.div (∑ k, x k * x k) (Ideal.ofBits .f32 0x44800000#32) + Ideal.ofBits .f32 0x358637BD#32) * g d
/-- One hidden entry of the feed-forward of a normalised row: the product with the first weight, its negative part dropped,
    squared. -/
def hid (h : Fin 1024 → EReal) (w1 : Fin 1024 → Fin 4096 → EReal) (k : Fin 4096) : EReal :=
  max (∑ d, h d * w1 d k) 0 * max (∑ d, h d * w1 d k) 0
/-- The row with the feed-forward of its norm added. -/
def ffn (x g : Fin 1024 → EReal) (w1 : Fin 1024 → Fin 4096 → EReal) (w2 : Fin 4096 → Fin 1024 → EReal) (j : Fin 1024) : EReal :=
  x j + ∑ k, hid (norm x g) w1 k * w2 k j

end Cert.Rows

end
-- ==== Proof.Block.lean ====
/-
  What the body leaves in the output block, over the extended reals: row by row, the norm of the row with its feed-forward
  added.
-/
module

public import proofs.«01_k».proof.Proof.Body
public import proofs.«01_k».proof.Proof.Rows

@[expose] public section

set_option maxRecDepth 16384

noncomputable section

namespace Cert.KernelIdeal.Hand

open Cert.KernelIdeal Cert.KernelIdeal.Gen Cert.Rows
open Idealize.ShloMosaic Idealize.ShloMosaic.TcCoe Idealize.ShloMosaic.Tactic

/-- A loaded quarter of the first weight, at an index. -/
theorem w1c_apply (w : Vec Ideal S1024x4096 .bf16) (n : ℕ) (h) (r d : Fin 1024) (hn : n + d.val < 4096) :
    w1c (F := Ideal) w ![0, n] h (ix2 r d) = w (ix2 r ⟨n + d.val, hn⟩) := by
  unfold w1c
  rw [View.readAt_eq_ld]
  show w _ = w _
  refine congrArg w (Shape.idx_ext₂ ?_ ?_)
  · show 0 + 1 * r.val = r.val; omega
  · show n + 1 * d.val = n + d.val; omega

variable (x : Vec Ideal S1024x1024 .f32) (g gf : Vec Ideal S1x1024 .f32) (w1 : Vec Ideal S1024x4096 .bf16) (w2 : Vec Ideal S4096x1024 .bf16)

/-- A row of the block, a gain, and the two weights, by coordinates. -/
abbrev rowOf (r : Fin 1024) : Fin 1024 → EReal := fun k => x (ix2 r k)
abbrev gainRow : Fin 1024 → EReal := fun k => g (ix2 0 k)
abbrev mat1 : Fin 1024 → Fin 4096 → EReal := fun d k => w1 (ix2 d k)
abbrev mat2 : Fin 4096 → Fin 1024 → EReal := fun k j => w2 (ix2 k j)

/-- The four normalised chunks of rows. -/
theorem pay6_apply (r : Fin 256) (d : Fin 1024) : k0_pay6 (F := Ideal) x g (ix2 r d) = norm (rowOf x ⟨r.val, by omega⟩) (gainRow g) d := by
  pointwise [k0_pay6, k0_pay5]; rfl
theorem pay7_apply (r : Fin 256) (d : Fin 1024) : k0_pay7 (F := Ideal) x g (ix2 r d) = norm (rowOf x ⟨256 + r.val, by omega⟩) (gainRow g) d := by
  pointwise [k0_pay7, k0_pay5]; rfl
theorem pay11_apply (r : Fin 256) (d : Fin 1024) :
    k0_pay11 (F := Ideal) (k0_pay8 x) (k0_pay9 g) (k0_pay10 x) (ix2 r d) = norm (rowOf x ⟨512 + r.val, by omega⟩) (gainRow g) d := by
  pointwise [k0_pay11, k0_pay8, k0_pay9, k0_pay10, k0_pay5]; rfl
theorem pay12_apply (r : Fin 256) (d : Fin 1024) : k0_pay12 (F := Ideal) (k0_pay5 x) g (ix2 r d) = norm (rowOf x ⟨768 + r.val, by omega⟩) (gainRow g) d := by
  pointwise [k0_pay12, k0_pay5]; rfl

/-- The normalised rows. -/
theorem hRows_apply (r d : Fin 1024) :
    hRows (F := Ideal) (k0_pay5 x) (k0_pay6 x g) (k0_pay7 x g) (k0_pay8 x) (k0_pay9 g) (k0_pay10 x) g (ix2 r d) = norm (rowOf x r) (gainRow g) d := by
  pointwise [hRows, k0_pay13]
  split
  · rw [pay6_apply]
  · split
    · rw [pay7_apply]; congr 2; ext; simp; omega
    · split
      · rw [pay11_apply]; congr 2; ext; simp; omega
      · rw [pay12_apply]; congr 2; ext; simp; omega

/-- The first quarter of the hidden rows before the square. -/
theorem hid0_apply (r d : Fin 1024) :
    hid0 (F := Ideal) (k0_pay5 x) (k0_pay6 x g) (k0_pay7 x g) (k0_pay8 x) (k0_pay9 g) (k0_pay10 x) g w1 (ix2 r d)
      = max (∑ k, norm (rowOf x r) (gainRow g) k * mat1 w1 k ⟨d.val, by omega⟩) 0 := by
  pointwise [hid0, k0_pay14]
  congr 1
  have hw : ∀ k : Fin 1024, w1c (F := Ideal) w1 ![0, 0] inb_S1024x4096_S1024x1024_0_0 (ix2 k d) = mat1 w1 k ⟨d.val, by omega⟩ := fun k => by
    rw [w1c_apply _ _ _ _ _ (by omega)]; congr 2; ext; simp
  split
  · refine Finset.sum_congr rfl fun k _ => ?_
    rw [pay6_apply, hw]
  · split
    · refine Finset.sum_congr rfl fun k _ => ?_
      rw [pay7_apply, hw]; congr 3; ext; simp; omega
    · split
      · refine Finset.sum_congr rfl fun k _ => ?_
        rw [pay11_apply, hw]; congr 3; ext; simp; omega
      · refine Finset.sum_congr rfl fun k _ => ?_
        rw [pay12_apply, hw]; congr 3; ext; simp; omega

/-- The hidden rows. -/
theorem hidden_apply (r : Fin 1024) (k : Fin 4096) :
    hidden (F := Ideal) (k0_pay5 x) (k0_pay6 x g) (k0_pay7 x g) (k0_pay8 x) (k0_pay9 g) (k0_pay10 x) g w1 (ix2 r k)
      = hid (norm (rowOf x r) (gainRow g)) (mat1 w1) k := by
  pointwise [hidden, k0_pay15]
  simp only [hRows_apply, hid0_apply]
  unfold hid
  split
  · rfl
  · split
    · simp only [w1c_apply w1 1024 _ _ ⟨k.val - 1024, by omega⟩ (by simp; omega)]
      have e : (⟨1024 + (k.val - 1024), by omega⟩ : Fin 4096) = k := by ext; simp; omega
      simp only [e]
    · split
      · simp only [w1c_apply w1 2048 _ _ ⟨k.val - 1024 - 1024, by omega⟩ (by simp; omega)]
        have e : (⟨2048 + (k.val - 1024 - 1024), by omega⟩ : Fin 4096) = k := by ext; simp; omega
        simp only [e]
      · simp only [w1c_apply w1 3072 _ _ ⟨k.val - 1024 - 1024 - 1024, by omega⟩ (by simp; omega)]
        have e : (⟨3072 + (k.val - 1024 - 1024 - 1024), by omega⟩ : Fin 4096) = k := by ext; simp; omega
        simp only [e]

/-- The block as a function of its index. -/
def blkFn : Vec Ideal S1024x1024 .f32 := fun y => norm (ffn (rowOf x (y 0)) (gainRow g) (mat1 w1) (mat2 w2)) (gainRow gf) (y 1)

/-- The hidden rows of a block, short. -/
abbrev hidBlk : FVec Ideal S1024x4096 .bf16 := hidden (F := Ideal) (k0_pay5 x) (k0_pay6 x g) (k0_pay7 x g) (k0_pay8 x) (k0_pay9 g) (k0_pay10 x) g w1

/-- Each piece's payload, at an index. -/
theorem pay2_apply (r : Fin 256) (d : Fin 1024) : k0_pay2 (F := Ideal) (k0_pay5 x) (hidBlk x g w1) w2 gf (ix2 r d)
    = blkFn x g gf w1 w2 (ix2 ⟨768 + r.val, by omega⟩ d) := by
  pointwise [k0_pay2, k0_pay5]
  simp only [hidden_apply]; rfl
theorem pay1_apply (r : Fin 256) (d : Fin 1024) : k0_pay1 (F := Ideal) (k0_pay18 gf) (k0_pay19 (k0_pay5 x) (hidBlk x g w1) w2) (ix2 r d)
    = blkFn x g gf w1 w2 (ix2 ⟨512 + r.val, by omega⟩ d) := by
  pointwise [k0_pay1, k0_pay18, k0_pay19, k0_pay5]
  simp only [hidden_apply]; rfl
theorem pay17_apply (r : Fin 256) (d : Fin 1024) : k0_pay17 (F := Ideal) (k0_pay5 x) (hidBlk x g w1) w2 gf (ix2 r d)
    = blkFn x g gf w1 w2 (ix2 ⟨256 + r.val, by omega⟩ d) := by
  pointwise [k0_pay17, k0_pay5]
  simp only [hidden_apply]; rfl
/-- The first piece recomputes the hidden rows from their parts. -/
theorem pay16_eq (v4 : FVec Ideal S1024x1024 .f32) (v69 : FVec Ideal S1024x1024 .bf16) (v80 : FVec Ideal S1024x1024 .f32) (v83 v89 v95 : Vec Ideal S1024x1024 .bf16)
    (r : Fin 256) (d : Fin 1024) : k0_pay16 (F := Ideal) v4 v69 v80 v83 v89 v95 w2 gf (ix2 r d)
    = norm (fun j => v4 (ix2 ⟨r.val, by omega⟩ j) + ∑ k, k0_pay15 (F := Ideal) v69 v80 v83 v89 v95 (ix2 ⟨r.val, by omega⟩ k) * w2 (ix2 k j)) (gainRow gf) d := by
  pointwise [k0_pay16]; rfl

/-- THE BLOCK: what a point leaves is `blkFn` of its operands. -/
theorem outBlk_eq : outBlk (F := Ideal) x g gf w1 w2 = blkFn x g gf w1 w2 := by
  funext y
  unfold outBlk
  refine View.read_writes_apply_of_pieces _ _ (blkFn x g gf w1 w2) _ ?_ y (blkPieces_cover x g gf w1 w2 y)
  unfold blkPieces outPieces
  have emb : ∀ (n : ℕ) (h) (z : (⟨2, S256x1024.size⟩ : Shape).Idx) (hn : n + (z 0).val < 1024),
      (Rect.unit (s := S1024x1024) ![n, 0] S256x1024.size h).emb z = ix2 ⟨n + (z 0).val, hn⟩ (z 1) := fun n h z hn =>
    Shape.idx_ext₂ (show n + 1 * (z 0).val = n + (z 0).val by omega) (show 0 + 1 * (z 1).val = (z 1).val by omega)
  refine List.forall_mem_cons.mpr ⟨fun z => ?_, ?_⟩
  · have hz : (z 0).val < 256 := (z 0).isLt
    dsimp only; rw [emb 768 _ z (by omega)]
    exact (congrArg _ (eq_ix2 z)).trans (pay2_apply x g gf w1 w2 (z 0) (z 1))
  refine List.forall_mem_cons.mpr ⟨fun z => ?_, ?_⟩
  · have hz : (z 0).val < 256 := (z 0).isLt
    dsimp only; rw [emb 512 _ z (by omega)]
    exact (congrArg _ (eq_ix2 z)).trans (pay1_apply x g gf w1 w2 (z 0) (z 1))
  refine List.forall_mem_cons.mpr ⟨fun z => ?_, ?_⟩
  · have hz : (z 0).val < 256 := (z 0).isLt
    dsimp only; rw [emb 256 _ z (by omega)]
    exact (congrArg _ (eq_ix2 z)).trans (pay17_apply x g gf w1 w2 (z 0) (z 1))
  refine List.forall_mem_cons.mpr ⟨fun z => ?_, fun _ h => absurd h List.not_mem_nil⟩
  · have hz : (z 0).val < 256 := (z 0).isLt
    dsimp only; rw [emb 0 _ z (by omega)]
    refine (congrArg _ (eq_ix2 z)).trans ((pay16_eq gf w2 _ _ _ _ _ _ (z 0) (z 1)).trans ?_)
    have e : (⟨0 + (z 0).val, by omega⟩ : Fin 1024) = ⟨(z 0).val, by omega⟩ := by ext; simp
    rw [e]
    have hh := fun k => hidden_apply x g w1 ⟨(z 0).val, by omega⟩ k
    unfold hidden at hh
    simp only [hh]
    pointwise [k0_pay5]
    rfl

end Cert.KernelIdeal.Hand

end
-- ==== Proof.Run.lean ====
/-
  The launch: the proof data of the pipeline (the block each point leaves, the scratch buffers' state between points), the
  body obligation from the two runs of the body, and the run of the whole program with its frame.
-/
module

public import proofs.«01_k».proof.Proof.Body
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! ## The program up to the region -/

theorem hmainD : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

/-! ## What the body holds between points -/

/-- The kernel's own semaphores, and the arrays its copies read. -/
abbrev osem0 : Fin 4 → SemLoc sig := fun j => (![SemLoc.dma 6, SemLoc.dma 7, SemLoc.dma 8, SemLoc.dma 9] : Fin 4 → SemLoc sig) j
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄) = semsZero (F := F) c := by
  rw [Pipeline.ownSems0_eq_of_list c osem0 [0, 1, 2, 3] (by decide) (by decide)]; rfl
def H0 : Finset (Ref sig .tc) := {main_arg2, main_arg3}
theorem H0_sub : H0 ⊆ Pipeline.restRefs sig spec0 := by decide
theorem hbmPts_eq (c : Dev nD) :
    (bigSep H0 (fun b => ((c : Thread nD τ).loc b) ↦{fullShare} V m c b) : sProp 𝕄) = iprop(pt c w1M (V m c main_arg2) ∗ pt c w2M (V m c main_arg3)) := by
  rw [BI.bigSep_eq_bigSepL_of_eq [main_arg2, main_arg3] (by decide) (by decide)]; rfl

/-- Before the first point: scratch and rings at anything, semaphores at zero, the weight arrays as launched. -/
theorem PhiD_eq (c : Dev nD) : (Pipeline.ΦD osem0 spec0 H0 (V m) c : sProp 𝕄)
    = iprop(((∃ a, pt (F := F) c s1M a) ∗ (∃ a, pt (F := F) c s2M a) ∗ (∃ b, pt (F := F) c g1M b) ∗ ∃ b, pt (F := F) c g2M b)
        ∗ (∃ r, prngReg c r) ∗ semsZero (F := F) c ∗ (pt c w1M (V m c main_arg2) ∗ pt c w2M (V m c main_arg3))) := by
  rw [Pipeline.ΦD_eq, scopedRest0_eq, ownSems_eq, hbmPts_eq]
/-- From the first point on: scratch at the cast weights. -/
def PhiF (c : Dev nD) : sProp 𝕄 :=
  iprop((holds c s1M (wb1 (V m c main_arg2)) ∗ holds c s2M (wb2 (V m c main_arg3)) ∗ (∃ b, pt (F := F) c g1M b) ∗ ∃ b, pt (F := F) c g2M b)
        ∗ (∃ r, prngReg c r) ∗ semsZero (F := F) c ∗ (pt c w1M (V m c main_arg2) ∗ pt c w2M (V m c main_arg3)))
theorem PhiF_forget (c : Dev nD) : PhiF m c ⊢ Pipeline.ΦD osem0 spec0 H0 (V m) c := by
  rw [PhiD_eq]; unfold PhiF
  iintro ⟨⟨⟨%a1, -, Hs1⟩, ⟨%a2, -, Hs2⟩, Hg1, Hg2⟩, H⟩
  isplitr [H]
  · isplitl [Hs1]; · iexists a1; iexact Hs1
    isplitl [Hs2]; · iexists a2; iexact Hs2
    isplitl [Hg1]; · iexact Hg1
    iexact Hg2
  iexact H

/-! ## The proof data -/

/-- The block point `t` leaves. -/
def outAt (c : Dev nD) (t : Fin cfg0.N) : Vec F S1024x1024 .f32 :=
  outBlk (iblk m c 0 t) (iblk m c 1 t) (iblk m c 2 t) (wb1 (V m c main_arg2)) (wb2 (V m c main_arg3))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := if t.val = 0 then Pipeline.ΦD osem0 spec0 H0 (V m) c else PhiF m c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

/-- Before the first point, and from the first point on. -/
theorem Phi_start (c : Dev nD) (t : Fin (cfg0.N + 1)) (h : t.val = 0) : (dats m 0 c).Φ t = Pipeline.ΦD osem0 spec0 H0 (V m) c := by
  dsimp only [dats]; exact if_pos h
theorem Phi_rest (c : Dev nD) (t : Fin (cfg0.N + 1)) (h : t.val ≠ 0) : (dats m 0 c).Φ t = PhiF m c := by
  dsimp only [dats]; exact if_neg h

/-- Each input window's staging buffer holds its block at every point. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- The body fills at the first point only. -/
theorem cond_first : ∀ t : Fin cfg0.N, k0_cond1 (grid0.coords t) = 1#1 ↔ t.val = 0 :=
  (by decide : ∀ t : Fin 64, k0_cond1 (grid0.coords t) = 1#1 ↔ t.val = 0)

/-! ## The body obligation -/

abbrev ms0 (t : Fin cfg0.N) : Memref sig .tc .vmem S1024x1024 .f32 := win0_0.stage (cfg0.slots t 0)
abbrev ms1 (t : Fin cfg0.N) : Memref sig .tc .vmem S1x1024 .f32 := win0_1.stage (cfg0.slots t 1)
abbrev ms2 (t : Fin cfg0.N) : Memref sig .tc .vmem S1x1024 .f32 := win0_2.stage (cfg0.slots t 2)
abbrev ms3 (t : Fin cfg0.N) : Memref sig .tc .vmem S1024x1024 .f32 := win0_3.stage (cfg0.slots t 3)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [after0, after1, after2, after3]
  simp only [before0, before1, before2]
  rw [Phi_rest m c t.succ (by rw [Fin.val_succ]; exact Nat.succ_ne_zero _)]
  unfold Dat.owesAt Pipeline.owesWithin
  rw [show (dats m 0 c).owed t.castSucc = 0 from rfl, show (dats m 0 c).owed t.succ = 0 from rfl]
  unfold outAt
  by_cases h0 : t.val = 0
  · rw [Phi_start m c t.castSucc h0, PhiD_eq]
    unfold PhiF
    iintro ⟨⟨⟨Hs1, Hs2, Hg1, Hg2⟩, Hr, Hq, ⟨Hw1, Hw2⟩⟩, ⟨%W, -, HW⟩, ⟨%d0, H0⟩, ⟨%d1, H1⟩, ⟨%d2, H2⟩, ⟨%d3, H3⟩⟩
    iapply (body_first c (grid0.coords t) (ms0 t) _ (ms1 t) _ (ms2 t) _ (ms3 t) _ (iblk m c 0 t) (iblk m c 1 t) (iblk m c 2 t)
      ((cond_first t).mpr h0) (V m c main_arg2) (V m c main_arg3) W _)
    isplitl [H0]; · iexact H0
    isplitl [H1]; · iexact H1
    isplitl [H2]; · iexact H2
    isplitl [H3]; · iexists _; iexact H3
    isplitl [Hw1]; · iexact Hw1
    isplitl [Hw2]; · iexact Hw2
    isplitl [Hs1]; · iexact Hs1
    isplitl [Hs2]; · iexact Hs2
    isplitl [Hg1 Hg2]
    · isplitl [Hg1]; · iexact Hg1
      iexact Hg2
    isplitl [Hq]; · iexact Hq
    isplitl [HW]; · iexact HW
    iintro ⟨H0, H1, H2, H3, Hw1, Hw2, Hs1, Hs2, ⟨Hg1, Hg2⟩, Hq, ⟨%W', HW'⟩⟩
    isplitl [Hs1 Hs2 Hg1 Hg2 Hr Hq Hw1 Hw2]
    · isplitl [Hs1 Hs2 Hg1 Hg2]
      · isplitl [Hs1]; · iexact Hs1
        isplitl [Hs2]; · iexact Hs2
        isplitl [Hg1]; · iexact Hg1
        iexact Hg2
      isplitl [Hr]; · iexact Hr
      isplitl [Hq]; · iexact Hq
      isplitl [Hw1]; · iexact Hw1
      iexact Hw2
    isplitl [HW']
    · iexists W'; isplitr; · ipureintro; exact fun _ _ => Or.inl trivial
      iexact HW'
    isplitl [H0]; · iexact H0
    isplitl [H1]; · iexact H1
    isplitl [H2]; · iexact H2
    iexact H3
  · rw [Phi_rest m c t.castSucc h0]
    unfold PhiF
    iintro ⟨⟨⟨Hs1, Hs2, Hg⟩, Hr⟩, HW, ⟨%d0, H0⟩, ⟨%d1, H1⟩, ⟨%d2, H2⟩, ⟨%d3, H3⟩⟩
    iapply (body_later c (grid0.coords t) (ms0 t) _ (ms1 t) _ (ms2 t) _ (ms3 t) _ (iblk m c 0 t) (iblk m c 1 t) (iblk m c 2 t)
      (fun h => h0 ((cond_first t).mp h)) (wb1 (V m c main_arg2)) (wb2 (V m c main_arg3)) _)
    isplitl [H0]; · iexact H0
    isplitl [H1]; · iexact H1
    isplitl [H2]; · iexact H2
    isplitl [H3]; · iexists _; iexact H3
    isplitl [Hs1]; · iexact Hs1
    isplitl [Hs2]; · iexact Hs2
    iintro ⟨H0, H1, H2, H3, Hs1, Hs2⟩
    isplitl [Hs1 Hs2 Hg Hr]
    · isplitl [Hs1 Hs2 Hg]
      · isplitl [Hs1]; · iexact Hs1
        isplitl [Hs2]; · iexact Hs2
        iexact Hg
      iexact Hr
    isplitl [HW]; · iexact HW
    isplitl [H0]; · iexact H0
    isplitl [H1]; · iexact H1
    isplitl [H2]; · iexact H2
    iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every run ends with the arrays at what the proof data says, every other buffer unchanged and every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m) (hA := A_eq m)
    (hin := fun c => Entails.of_eq (Phi_start m c 0 rfl).symm)
    (hout := fun c => (Entails.of_eq (Phi_rest m c (Fin.last cfg0.N) (by decide))).trans (PhiF_forget m c))

/-- The frame: every argument array ends as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.KernelIdeal.Hand
-- ==== Proof.Result.lean ====
/-
  What the result array holds after the run, over the extended reals: row `n` is the norm of the row with its feed-forward
  added, of row `n` of the input flattened to a list of rows.
-/
module

public import proofs.«01_k».proof.Proof.Block
public import proofs.«01_k».proof.Proof.Run

@[expose] public section

set_option maxRecDepth 16384

noncomputable section

namespace Cert.KernelIdeal.Hand

open Cert.KernelIdeal Cert.KernelIdeal.Gen Cert.Rows
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## The arguments by coordinates -/

/-- Row `n` of the input flattened; layer 1's gain; the last gain; layer 1's two weights. -/
def inRow (x : S16x4096x1024.Idx → EReal) (n : Fin 65536) : Fin 1024 → EReal := fun k =>
  x (ix3 ⟨n.val / 4096, by omega⟩ ⟨n.val % 4096, by omega⟩ k)
def inGain (g : S2x1024.Idx → EReal) : Fin 1024 → EReal := fun k => g (ix2 1 k)
def inLast (g : S1024.Idx → EReal) : Fin 1024 → EReal := fun k => g (ix1 k)
def inW1 (w : S2x1024x4096.Idx → EReal) : Fin 1024 → Fin 4096 → EReal := fun d k => w (ix3 1 d k)
def inW2 (w : S2x4096x1024.Idx → EReal) : Fin 4096 → Fin 1024 → EReal := fun k j => w (ix3 1 k j)

/-- The result as a function of the arguments. -/
def resFn (x : S16x4096x1024.Idx → EReal) (g : S2x1024.Idx → EReal) (w1 : S2x1024x4096.Idx → EReal) (w2 : S2x4096x1024.Idx → EReal)
    (gf : S1024.Idx → EReal) : S65536x1024.Idx → EReal := fun i =>
  norm (ffn (inRow x (i 0)) (inGain g) (inW1 w1) (inW2 w2)) (inLast gf) (i 1)

/-! ## The arrays the region finds -/

theorem V_v0 : V m c main_v0 = shapeCast S65536x1024 (m ((c : Thread nD τ).loc main_arg0)) shapeCasts_S16x4096x1024_S65536x1024 := by
  show StableHlo.after hostOps0 _ _ = _
  after_results
  rfl
theorem V_v3 : V m c main_v3 = shapeCast S1x1024 (shapeCast S1024 (extractStridedSlice S1x1024 ![1, 0] (m ((c : Thread nD τ).loc main_arg1))
    slices_S2x1024_S1x1024_1_0) shapeCasts_S1x1024_S1024) shapeCasts_S1024_S1x1024 := by
  show StableHlo.after hostOps0 _ _ = _
  after_results
  rfl
theorem V_v4 : V m c main_v4 = shapeCast S1x1024 (m ((c : Thread nD τ).loc main_arg4)) shapeCasts_S1024_S1x1024 := by
  show StableHlo.after hostOps0 _ _ = _
  after_results
  rfl

/-- A cast weight at an index. -/
theorem wb1_apply (w : main_arg2.ty.Contents (Elt Ideal)) (d : Fin 1024) (k : Fin 4096) : wb1 (F := Ideal) w (ix2 d k) = inW1 w d k := by
  unfold wb1
  rw [Memref.read_squeeze_slice w1M _ _ _ (by decide)]
  rw [View.readAt_eq_ld]
  pointwise
  rfl
theorem wb2_apply (w : main_arg3.ty.Contents (Elt Ideal)) (k : Fin 4096) (j : Fin 1024) : wb2 (F := Ideal) w (ix2 k j) = inW2 w k j := by
  unfold wb2
  rw [Memref.read_squeeze_slice w2M _ _ _ (by decide)]
  rw [View.readAt_eq_ld]
  pointwise
  rfl

/-! ## The blocks -/

/-- Where each window's block sits: the point's 1024 rows, the whole gain. -/
theorem idx_facts : ∀ t : Fin cfg0.N, win0_0.index t 0 = t.val ∧ win0_0.index t 1 = 0 ∧ win0_1.index t 0 = 0 ∧ win0_1.index t 1 = 0
    ∧ win0_2.index t 0 = 0 ∧ win0_2.index t 1 = 0 ∧ win0_3.index t 0 = t.val ∧ win0_3.index t 1 = 0 :=
  (by decide +kernel : ∀ t : Fin grid0.N, _)
theorem N_lt (t : Fin cfg0.N) (r : Fin 1024) : 1024 * t.val + r.val < 65536 := by
  have : t.val < 64 := t.isLt
  omega

theorem flat_apply (x : Vec Ideal S16x4096x1024 .f32) (n : Fin 65536) (k : Fin 1024) :
    shapeCast S65536x1024 x shapeCasts_S16x4096x1024_S65536x1024 (ix2 n k) = inRow x n k := by
  pointwise
  rfl
theorem V_v0_apply (n : Fin 65536) (k : Fin 1024) : V m c main_v0 (ix2 n k) = inRow (m ((c : Thread nD τ).loc main_arg0)) n k := by
  rw [V_v0]
  exact flat_apply _ n k
theorem iblk0_apply (t : Fin cfg0.N) (r k : Fin 1024) :
    iblk m c 0 t (ix2 r k) = inRow (m ((c : Thread nD τ).loc main_arg0)) ⟨1024 * t.val + r.val, N_lt t r⟩ k := by
  have e : iblk m c 0 t (ix2 r k) = V m c main_v0 (ix2 ⟨1024 * t.val + r.val, N_lt t r⟩ k) := by
    obtain ⟨h0, h1, -⟩ := idx_facts t
    refine congrArg (V m c main_v0) (Shape.idx_ext₂ ?_ ?_)
    · refine (win0_0.rect_emb_val t (ix2 r k) 0).trans ?_
      rw [h0]; show t.val * 1024 + r.val = 1024 * t.val + r.val; omega
    · refine (win0_0.rect_emb_val t (ix2 r k) 1).trans ?_
      rw [h1]; show 0 * 1024 + k.val = k.val; omega
  exact e.trans (V_v0_apply m c _ k)
theorem iblk1_apply (t : Fin cfg0.N) (k : Fin 1024) : iblk m c 1 t (ix2 0 k) = inGain (m ((c : Thread nD τ).loc main_arg1)) k := by
  have e : iblk m c 1 t (ix2 0 k) = V m c main_v3 (ix2 0 k) := by
    obtain ⟨-, -, h0, h1, -⟩ := idx_facts t
    refine congrArg (V m c main_v3) (Shape.idx_ext₂ ?_ ?_)
    · refine (win0_1.rect_emb_val t (ix2 0 k) 0).trans ?_
      rw [h0]; rfl
    · refine (win0_1.rect_emb_val t (ix2 0 k) 1).trans ?_
      rw [h1]; show 0 * 1024 + k.val = k.val; omega
  rw [e, V_v3]
  pointwise
  rfl
theorem iblk2_apply (t : Fin cfg0.N) (k : Fin 1024) : iblk m c 2 t (ix2 0 k) = inLast (m ((c : Thread nD τ).loc main_arg4)) k := by
  have e : iblk m c 2 t (ix2 0 k) = V m c main_v4 (ix2 0 k) := by
    obtain ⟨-, -, -, -, h0, h1, -⟩ := idx_facts t
    refine congrArg (V m c main_v4) (Shape.idx_ext₂ ?_ ?_)
    · refine (win0_2.rect_emb_val t (ix2 0 k) 0).trans ?_
      rw [h0]; rfl
    · refine (win0_2.rect_emb_val t (ix2 0 k) 1).trans ?_
      rw [h1]; show 0 * 1024 + k.val = k.val; omega
  rw [e, V_v4]
  pointwise
  rfl

/-! ## The result array -/

/-- The result array of device `c`, as a function of its arguments. -/
abbrev resArr : Buf (Elt Ideal) ((c : Thread nD τ).loc main_v5) :=
  resFn (m ((c : Thread nD τ).loc main_arg0)) (m ((c : Thread nD τ).loc main_arg1)) (m ((c : Thread nD τ).loc main_arg2))
    (m ((c : Thread nD τ).loc main_arg3)) (m ((c : Thread nD τ).loc main_arg4))

/-- Row `r` of point `t`'s block of the result. -/
def rowFn (t : Fin cfg0.N) (r : Fin 1024) : Fin 1024 → EReal :=
  norm (ffn (inRow (m ((c : Thread nD τ).loc main_arg0)) ⟨1024 * t.val + r.val, N_lt t r⟩) (inGain (m ((c : Thread nD τ).loc main_arg1)))
    (inW1 (m ((c : Thread nD τ).loc main_arg2))) (inW2 (m ((c : Thread nD τ).loc main_arg3)))) (inLast (m ((c : Thread nD τ).loc main_arg4)))

/-- What point `t`'s body leaves, row by row. -/
theorem outAt_eq (t : Fin cfg0.N) : outAt m c t = fun y => rowFn m c t (y 0) (y 1) := by
  unfold outAt
  rw [outBlk_eq, V_main_arg2, V_main_arg3]
  have e1 : ∀ r : Fin 1024, rowOf (iblk m c 0 t) r = inRow (m ((c : Thread nD τ).loc main_arg0)) ⟨1024 * t.val + r.val, N_lt t r⟩ :=
    fun r => funext fun k => iblk0_apply m c t r k
  have e2 : gainRow (iblk m c 1 t) = inGain (m ((c : Thread nD τ).loc main_arg1)) := funext fun k => iblk1_apply m c t k
  have e3 : gainRow (iblk m c 2 t) = inLast (m ((c : Thread nD τ).loc main_arg4)) := funext fun k => iblk2_apply m c t k
  have e4 : ∀ w, mat1 (wb1 (F := Ideal) w) = inW1 w := fun w => funext fun d => funext fun k => wb1_apply w d k
  have e5 : ∀ w, mat2 (wb2 (F := Ideal) w) = inW2 w := fun w => funext fun k => funext fun j => wb2_apply w k j
  unfold blkFn rowFn
  rw [e2, e3, e4, e5]
  funext y
  exact congrArg (fun x => norm (ffn x _ _ _) _ (y 1)) (e1 (y 0))

/-- Where point `t`'s block of the result sits. -/
theorem emb3 (t : Fin cfg0.N) (y : S1024x1024.Idx) : (win0_3.rect t).emb y = ix2 (n0 := 65536) (n1 := 1024) ⟨1024 * t.val + (y 0).val, N_lt t (y 0)⟩ (y 1) := by
  obtain ⟨-, -, -, -, -, -, h0, h1⟩ := idx_facts t
  refine Shape.idx_ext₂ ?_ ?_
  · refine (win0_3.rect_emb_val t y 0).trans ?_
    rw [h0]; show t.val * 1024 + (y 0).val = 1024 * t.val + (y 0).val; omega
  · refine (win0_3.rect_emb_val t y 1).trans ?_
    rw [h1]; show 0 * 1024 + (y 1).val = (y 1).val; omega

/-- What point `t` writes back is block `t` of it. -/
theorem flushed_eq (t : Fin cfg0.N) : (dats m 0 c).flushed 3 t = ((cfg0.win 3).blk t).view.read (Elt Ideal) (resArr m c) := by
  show (cfg0.win 3).cut (grid0.coords t) ((dats m 0 c).after 3 t) = _
  rw [after3, outAt_eq]
  funext y
  have hr : (y 0).val < 1024 := (y 0).isLt
  have hk : (y 1).val < 1024 := (y 1).isLt
  show rowFn m c t (y 0) (y 1) = resArr m c ((win0_3.rect t).emb y)
  rw [emb3 t y]
  rfl

/-- The blocks tile the array. -/
theorem cover (i : S65536x1024.Idx) : ∃ t : Fin cfg0.N, (cfg0.win 3).flush t = true ∧ i ∈ ((cfg0.win 3).blk t).view.set := by
  have h0 : (i 0 : ℕ) < 65536 := (i 0).isLt
  have h1 : (i 1 : ℕ) < 1024 := (i 1).isLt
  let t : Fin cfg0.N := (⟨(i 0 : ℕ) / 1024, by omega⟩ : Fin 64)
  refine ⟨t, (by decide +kernel : ∀ t : Fin grid0.N, win0_3.flush t = true) t, ?_⟩
  show i ∈ ((View.whole main_v5).slice (win0_3.rect t)).set
  rw [View.set_slice_whole, Rect.mem_set_unit]
  obtain ⟨-, -, -, -, -, -, e0, e1⟩ := idx_facts t
  intro a
  match a with
  | ⟨0, _⟩ =>
    show win0_3.index t 0 * 1024 ≤ (i 0 : ℕ) ∧ (i 0 : ℕ) < win0_3.index t 0 * 1024 + 1024
    rw [e0]; show (i 0 : ℕ) / 1024 * 1024 ≤ (i 0 : ℕ) ∧ (i 0 : ℕ) < (i 0 : ℕ) / 1024 * 1024 + 1024; omega
  | ⟨1, _⟩ =>
    show win0_3.index t 1 * 1024 ≤ (i 1 : ℕ) ∧ (i 1 : ℕ) < win0_3.index t 1 * 1024 + 1024
    rw [e1]; omega

/-- So the result array ends as `resArr`, -/
theorem final : (dats m 0 c).arrAt 3 cfg0.N = resArr m c :=
  (dats m 0 c).arrAt_eq_of_cover 3 (resArr m c) (fun t _ => flushed_eq m c t) cover

/-- and the run, read: the result array at `resArr`, the arguments unchanged. -/
theorem run : θ_run defs (onTc (τ := τ) (main (F := Ideal))) ⟨m, fun _ => 0, ρ⟩ fun r => ∀ c : Dev nD,
      r.2.mem ((c.tc : Thread nD τ).loc main_v5) = resArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 3).trans (final m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩) (run_main m ρ)

end Cert.KernelIdeal.Hand

end
-- ==== Proof.Reference.lean ====
/-
  What the reference computes, over the extended reals: the same function of its arguments' rows.
-/
module

public import proofs.«01_k».proof.Proof.Gen.ReferenceIdeal.Run
public import proofs.«01_k».proof.Proof.Rows
public import Idealize.ShloMosaic.Lib.Tactic.CleanTypes

@[expose] public section

set_option maxRecDepth 16384

noncomputable section

namespace Cert.ReferenceIdeal.Hand

open Cert.ReferenceIdeal Cert.Rows
open Idealize.ShloMosaic Idealize.ShloMosaic.TcCoe

variable (m : (ℓ : Loc nD τ sig) → Buf (Elt Ideal) ℓ) (c : Dev nD)

theorem res_apply (n : Fin 65536) (j : Fin 1024) : Value.res_main_v37 (F := Ideal) m c (ix2 n j)
    = norm (ffn (fun k => m ((c.tc : Thread nD τ).loc main_arg0) (ix3 ⟨n.val / 4096, by omega⟩ ⟨n.val % 4096, by omega⟩ k))
        (fun k => m ((c.tc : Thread nD τ).loc main_arg1) (ix2 1 k))
        (fun d k => m ((c.tc : Thread nD τ).loc main_arg2) (ix3 1 d k)) (fun k j => m ((c.tc : Thread nD τ).loc main_arg3) (ix3 1 k j)))
      (fun k => m ((c.tc : Thread nD τ).loc main_arg4) (ix1 k)) j := by
  unfold Value.res_main_v37
  clean_types
  pointwise
  rfl

end Cert.ReferenceIdeal.Hand

end
-- ==== Proof.Layer0.Fill.lean ====
/-
  Layer 0's feed-forward. The first section of its body: at the first grid point it fills the two weight scratch buffers from HBM, chunk by
  chunk through a two-slot staging ring; at every later point it leaves them. Here: the ring's slots, the cast weights as
  vectors, and the run of this section at the first point and at a later one.
-/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import Idealize.ShloMosaic.Lib.Pointwise.Reshape

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-! ## The buffers the section touches -/

/-- The two weight arrays in HBM, the two scratch buffers that keep them cast, the two staging rings. -/
abbrev w1M : Memref sig .tc .hbm S2x1024x4096 .f32 := Memref.whole main_arg2
abbrev w2M : Memref sig .tc .hbm S2x4096x1024 .f32 := Memref.whole main_arg3
abbrev s1M : Memref sig .tc .vmem S1024x4096 .bf16 := Memref.whole cc0_scratch0
abbrev s2M : Memref sig .tc .vmem S4096x1024 .bf16 := Memref.whole cc0_scratch1
abbrev g1M : Memref sig .tc .vmem S2x128x4096 .f32 := Memref.whole cc0_scoped0
abbrev g2M : Memref sig .tc .vmem S2x512x1024 .f32 := Memref.whole cc0_scoped2

/-- The contents of a memref's buffer on device `c`. -/
abbrev PB (c : Dev nD) {sp : Space} {S : Shape} {e : EltTy} (M : Memref sig .tc sp S e) : Type := Buf (Elt F) (M.view.loc (c : Thread nD τ))
/-- A memref's buffer held whole, at contents `f`. -/
abbrev pt (c : Dev nD) {sp : Space} {S : Shape} {e : EltTy} (M : Memref sig .tc sp S e) (f : PB (F := F) c M) : sProp 𝕄 :=
  M.view.loc (c : Thread nD τ) ↦{fullShare} f
/-- A memref's own elements held, at contents `f`. -/
abbrev ptOn (c : Dev nD) {sp : Space} {S : Shape} {e : EltTy} (M : Memref sig .tc sp S e) (f : PB (F := F) c M) : sProp 𝕄 :=
  M.view.loc (c : Thread nD τ) ↦[M.view.set]{fullShare} f

/-! ## The staging rings' slots -/

abbrev off1 (s : Fin 2) : Fin 3 → ℕ := ![s.val, 0, 0]
theorem inb1 (s : Fin 2) : ∀ a, off1 s a + S1x128x4096.size a ≤ S2x128x4096.size a := by revert s; decide
theorem inb2 (s : Fin 2) : ∀ a, off1 s a + S1x512x1024.size a ≤ S2x512x1024.size a := by revert s; decide
/-- Slot `s` of the first ring, and of the second. -/
def sl1M (s : Fin 2) : Memref sig .tc .vmem S128x4096 .f32 :=
  (g1M.slice (Rect.unit (s := S2x128x4096) (off1 s) S1x128x4096.size (inb1 s)) (fun _ => rfl)).squeeze S128x4096 squeezes_S1x128x4096_S128x4096
def sl2M (s : Fin 2) : Memref sig .tc .vmem S512x1024 .f32 :=
  (g2M.slice (Rect.unit (s := S2x512x1024) (off1 s) S1x512x1024.size (inb2 s)) (fun _ => rfl)).squeeze S512x1024 squeezes_S1x512x1024_S512x1024

@[sl_canon] theorem sl1_0 (hh hs) : (g1M.slice (Rect.unit (s := S2x128x4096) ![0, 0, 0] S1x128x4096.size hh) hs).squeeze S128x4096 squeezes_S1x128x4096_S128x4096 = sl1M 0 := rfl
@[sl_canon] theorem sl1_1 (hh hs) : (g1M.slice (Rect.unit (s := S2x128x4096) ![1, 0, 0] S1x128x4096.size hh) hs).squeeze S128x4096 squeezes_S1x128x4096_S128x4096 = sl1M 1 := rfl
@[sl_canon] theorem sl2_0 (hh hs) : (g2M.slice (Rect.unit (s := S2x512x1024) ![0, 0, 0] S1x512x1024.size hh) hs).squeeze S512x1024 squeezes_S1x512x1024_S512x1024 = sl2M 0 := rfl
@[sl_canon] theorem sl2_1 (hh hs) : (g2M.slice (Rect.unit (s := S2x512x1024) ![1, 0, 0] S1x512x1024.size hh) hs).squeeze S512x1024 squeezes_S1x512x1024_S512x1024 = sl2M 1 := rfl

theorem sl1_set (s : Fin 2) : (sl1M s).view.set = (Rect.unit (s := S2x128x4096) (off1 s) S1x128x4096.size (inb1 s)).set :=
  (View.set_reshape _ _).trans (View.set_slice_whole _ _)
theorem sl2_set (s : Fin 2) : (sl2M s).view.set = (Rect.unit (s := S2x512x1024) (off1 s) S1x512x1024.size (inb2 s)).set :=
  (View.set_reshape _ _).trans (View.set_slice_whole _ _)
/-- A load of slot `s` through the ring reads elements of the slot. -/
theorem sub1 (s : Fin 2) (hh) : (g1M.access (Rect.unit (s := S2x128x4096) ![s.val, 0, 0] S1x128x4096.size hh)).set ⊆ (sl1M s).view.set :=
  (View.set_reshape _ _).ge
theorem sub2 (s : Fin 2) (hh) : (g2M.access (Rect.unit (s := S2x512x1024) ![s.val, 0, 0] S1x512x1024.size hh)).set ⊆ (sl2M s).view.set :=
  (View.set_reshape _ _).ge

/-- Ring 1's elements are its two slots' elements, each in one slot. -/
abbrev ring1I (s : Fin 2) : Finset (Shape.Idx S2x128x4096) := (Rect.unit (s := S2x128x4096) (off1 s) S1x128x4096.size (inb1 s)).set
theorem ring1_disjoint : ∀ s s' : Fin 2, s ≠ s' → Disjoint (ring1I s) (ring1I s') :=
  Ring.lead_disjoint (s := S2x128x4096) (NB := 2) 0 1 off1 S1x128x4096.size inb1 (by decide) (by decide)
theorem ring1_cover : Finset.univ.biUnion ring1I = Finset.univ :=
  Ring.lead_cover (s := S2x128x4096) (NB := 2) 0 1 off1 S1x128x4096.size inb1 (by decide) (by decide) (by decide) (by decide) (by decide)
/-- The ring held whole is its two slots held, and back. -/
theorem ring1_split (c : Dev nD) : iprop(∃ f, pt (F := F) c g1M f) ⊢ iprop((∃ f, ptOn (F := F) c (sl1M 0) f) ∗ ∃ f, ptOn (F := F) c (sl1M 1) f) :=
  Ring.slots2_split (ℓ := g1M.view.loc (c : Thread nD τ)) ring1I ring1_disjoint ring1_cover _ _
    (fun f => congrArg (fun S => (_ ↦[S]{fullShare} f : sProp 𝕄)) (sl1_set 0)) (fun f => congrArg (fun S => (_ ↦[S]{fullShare} f : sProp 𝕄)) (sl1_set 1))
theorem ring1_join (c : Dev nD) : iprop((∃ f, ptOn (F := F) c (sl1M 0) f) ∗ ∃ f, ptOn (F := F) c (sl1M 1) f) ⊢ iprop(∃ f, pt (F := F) c g1M f) :=
  Ring.slots2_join (ℓ := g1M.view.loc (c : Thread nD τ)) ring1I ring1_disjoint ring1_cover _ _
    (fun f => congrArg (fun S => (_ ↦[S]{fullShare} f : sProp 𝕄)) (sl1_set 0)) (fun f => congrArg (fun S => (_ ↦[S]{fullShare} f : sProp 𝕄)) (sl1_set 1))
/-- Ring 2's elements are its two slots' elements, each in one slot. -/
abbrev ring2I (s : Fin 2) : Finset (Shape.Idx S2x512x1024) := (Rect.unit (s := S2x512x1024) (off1 s) S1x512x1024.size (inb2 s)).set
theorem ring2_disjoint : ∀ s s' : Fin 2, s ≠ s' → Disjoint (ring2I s) (ring2I s') :=
  Ring.lead_disjoint (s := S2x512x1024) (NB := 2) 0 1 off1 S1x512x1024.size inb2 (by decide) (by decide)
theorem ring2_cover : Finset.univ.biUnion ring2I = Finset.univ :=
  Ring.lead_cover (s := S2x512x1024) (NB := 2) 0 1 off1 S1x512x1024.size inb2 (by decide) (by decide) (by decide) (by decide) (by decide)
/-- The ring held whole is its two slots held, and back. -/
theorem ring2_split (c : Dev nD) : iprop(∃ f, pt (F := F) c g2M f) ⊢ iprop((∃ f, ptOn (F := F) c (sl2M 0) f) ∗ ∃ f, ptOn (F := F) c (sl2M 1) f) :=
  Ring.slots2_split (ℓ := g2M.view.loc (c : Thread nD τ)) ring2I ring2_disjoint ring2_cover _ _
    (fun f => congrArg (fun S => (_ ↦[S]{fullShare} f : sProp 𝕄)) (sl2_set 0)) (fun f => congrArg (fun S => (_ ↦[S]{fullShare} f : sProp 𝕄)) (sl2_set 1))
theorem ring2_join (c : Dev nD) : iprop((∃ f, ptOn (F := F) c (sl2M 0) f) ∗ ∃ f, ptOn (F := F) c (sl2M 1) f) ⊢ iprop(∃ f, pt (F := F) c g2M f) :=
  Ring.slots2_join (ℓ := g2M.view.loc (c : Thread nD τ)) ring2I ring2_disjoint ring2_cover _ _
    (fun f => congrArg (fun S => (_ ↦[S]{fullShare} f : sProp 𝕄)) (sl2_set 0)) (fun f => congrArg (fun S => (_ ↦[S]{fullShare} f : sProp 𝕄)) (sl2_set 1))

/-! ## The cast weights -/

/-- Layer 0's matrix of each weight array, as the copies slice it. -/
abbrev src1 : Memref sig .tc .hbm S1024x4096 .f32 :=
  (w1M.slice (Rect.unit (s := S2x1024x4096) ![0, 0, 0] S1x1024x4096.size inb_S2x1024x4096_S1x1024x4096_0_0_0) (fun _ => rfl)).squeeze S1024x4096 squeezes_S1x1024x4096_S1024x4096
abbrev src2 : Memref sig .tc .hbm S4096x1024 .f32 :=
  (w2M.slice (Rect.unit (s := S2x4096x1024) ![0, 0, 0] S1x4096x1024.size inb_S2x4096x1024_S1x4096x1024_0_0_0) (fun _ => rfl)).squeeze S4096x1024 squeezes_S1x4096x1024_S4096x1024
/-- Layer 0's two weight matrices cast to bf16: what the scratch buffers keep from the first point on. -/
def wb1 (w : main_arg2.ty.Contents (Elt F)) : Vec F S1024x4096 .bf16 := truncf .bf16 (src1.view.read (Elt F) w) bitsLt_bf16_f32
def wb2 (w : main_arg3.ty.Contents (Elt F)) : Vec F S4096x1024 .bf16 := truncf .bf16 (src2.view.read (Elt F) w) bitsLt_bf16_f32

/-- Contents whose last write is `d` through the whole view read as `d`. -/
theorem read_whole_head {sig : RefSig} {κ : Kind} {sp : Space} {s : Shape} {e : EltTy} {Val : EltTy → Type} (v : View sig κ sp s e)
    (f : v.ty.Contents Val) (d : (Rect.whole s).shape.Idx → Val e) (L : List (View.Piece Val s e)) (y : s.Idx) :
    v.read Val (v.writes Val f (⟨Rect.whole s, d⟩ :: L)) y = d y := by
  have h := View.read_writes_cons_emb v f (Rect.whole s) d L y
  rwa [Rect.emb_whole_apply] at h

/-- A slot loaded through its ring and cast is what the slot reads as, cast. -/
theorem pay3_cast (s : Fin 2) (hh) (f : g1M.view.ty.Contents (Elt F)) :
    k0_pay3 (F := F) (View.readAt (Elt F) g1M.view (Rect.unit (s := S2x128x4096) ![s.val, 0, 0] S1x128x4096.size hh).toLoadRect f)
      = truncf .bf16 ((sl1M s).view.read (Elt F) f) bitsLt_bf16_f32 :=
  (shapeCast_id (truncf .bf16 (shapeCast S128x4096 (View.readAt (Elt F) g1M.view (Rect.unit (s := S2x128x4096) ![s.val, 0, 0] S1x128x4096.size hh).toLoadRect f)
    shapeCasts_S1x128x4096_S128x4096) bitsLt_bf16_f32) shapeCasts_S128x4096_S128x4096).trans rfl
/-- A slot that holds `d`, loaded through the ring and cast, is `d` cast. -/
theorem pay3_slot (s : Fin 2) (hh) (f : (sl1M s).view.ty.Contents (Elt F)) (d : S128x4096.Idx → Elt F .f32) (L) :
    k0_pay3 (F := F) (View.readAt (Elt F) g1M.view (Rect.unit (s := S2x128x4096) ![s.val, 0, 0] S1x128x4096.size hh).toLoadRect
      ((sl1M s).view.writes (Elt F) f (⟨Rect.whole S128x4096, d⟩ :: L))) = truncf .bf16 d bitsLt_bf16_f32 :=
  (pay3_cast s hh _).trans (congrArg (fun v => truncf .bf16 v bitsLt_bf16_f32) (funext (read_whole_head (sl1M s).view f d L)))
theorem pay4_cast (s : Fin 2) (hh) (f : g2M.view.ty.Contents (Elt F)) :
    k0_pay4 (F := F) (View.readAt (Elt F) g2M.view (Rect.unit (s := S2x512x1024) ![s.val, 0, 0] S1x512x1024.size hh).toLoadRect f)
      = truncf .bf16 ((sl2M s).view.read (Elt F) f) bitsLt_bf16_f32 :=
  (shapeCast_id (truncf .bf16 (shapeCast S512x1024 (View.readAt (Elt F) g2M.view (Rect.unit (s := S2x512x1024) ![s.val, 0, 0] S1x512x1024.size hh).toLoadRect f)
    shapeCasts_S1x512x1024_S512x1024) bitsLt_bf16_f32) shapeCasts_S512x1024_S512x1024).trans rfl
/-- A slot that holds `d`, loaded through the ring and cast, is `d` cast. -/
theorem pay4_slot (s : Fin 2) (hh) (f : (sl2M s).view.ty.Contents (Elt F)) (d : S512x1024.Idx → Elt F .f32) (L) :
    k0_pay4 (F := F) (View.readAt (Elt F) g2M.view (Rect.unit (s := S2x512x1024) ![s.val, 0, 0] S1x512x1024.size hh).toLoadRect
      ((sl2M s).view.writes (Elt F) f (⟨Rect.whole S512x1024, d⟩ :: L))) = truncf .bf16 d bitsLt_bf16_f32 :=
  (pay4_cast s hh _).trans (congrArg (fun v => truncf .bf16 v bitsLt_bf16_f32) (funext (read_whole_head (sl2M s).view f d L)))

/-! ## The section's run -/

section Part1

variable (c : Dev nD) (i : grid0.Coords)
  (arg1 : Memref sig .tc .vmem S1024x1024 .f32) (harg1 : arg1.IsWhole) (arg2 : Memref sig .tc .vmem S1x1024 .f32) (harg2 : arg2.IsWhole)
  (arg5 : Memref sig .tc .vmem S1x1024 .f32) (harg5 : arg5.IsWhole) (arg6 : Memref sig .tc .vmem S1024x1024 .f32) (harg6 : arg6.IsWhole)
  (f1 : PB (F := F) c arg1) (f2 : PB (F := F) c arg2) (w1 : PB (F := F) c w1M) (w2 : PB (F := F) c w2M)

/-- The section at the launch's buffers. -/
abbrev part1At := k0_part1_skel (F := F) i arg1 harg1 arg2 harg2 w1M (Memref.isWhole_whole _) w2M (Memref.isWhole_whole _) arg5 harg5 arg6 harg6
  s1M (Memref.isWhole_whole _) s2M (Memref.isWhole_whole _) g1M (Memref.isWhole_whole _) cc0_scoped1 g2M (Memref.isWhole_whole _) cc0_scoped3

/-- What the section passes on: the values of the input block and of the first gain that the rest of the body reads. -/
abbrev p1res : (_ : FVec F S1024x1024 .f32) ×' (_ : FVec F S256x1024 .bf16) ×' (_ : FVec F S256x1024 .bf16) ×' (_ : FVec F S256x1024 .f32)
    ×' (_ : FVec F S1x1024 .f32) ×' FVec F S256x1024 .f32 :=
  let x := View.readAt (Elt F) arg1.view (Rect.unit (s := S1024x1024) ![0, 0] S1024x1024.size inb_S1024x1024_S1024x1024_0_0).toLoadRect f1
  let g := View.readAt (Elt F) arg2.view (Rect.unit (s := S1x1024) ![0, 0] S1x1024.size inb_S1x1024_S1x1024_0_0).toLoadRect f2
  ⟨k0_pay5 x, ⟨k0_pay6 x g, ⟨k0_pay7 x g, ⟨k0_pay8 x, ⟨k0_pay9 g, k0_pay10 x⟩⟩⟩⟩⟩

/-- A buffer held whole, reading as `v`. -/
abbrev holds (c : Dev nD) {sp : Space} {S : Shape} {e : EltTy} (M : Memref sig .tc sp S e) (v : S.Idx → Elt F e) : sProp 𝕄 :=
  iprop(∃ f, ⌜M.view.read (Elt F) f = v⌝ ∗ pt (F := F) c M f)
/-- The kernel's own semaphores at zero. -/
abbrev semsZero : sProp 𝕄 := iprop(semVal ((c : Thread nD τ), SemLoc.dma 6) 0 ∗ semVal ((c : Thread nD τ), SemLoc.dma 7) 0
  ∗ semVal ((c : Thread nD τ), SemLoc.dma 8) 0 ∗ semVal ((c : Thread nD τ), SemLoc.dma 9) 0)
/-- The staging rings held at any contents. -/
abbrev ringsAny : sProp 𝕄 := iprop((∃ b, pt (F := F) c g1M b) ∗ ∃ b, pt (F := F) c g2M b)

/-- At a point that fills: from scratch buffers at anything, the section ends with them at the cast weights. -/
theorem part1_first (hc : k0_cond1 i = 1#1) (W : Waits sig Unit) (K : _ → sProp 𝕄) :
    iprop(ptOn c arg1 f1 ∗ ptOn c arg2 f2 ∗ pt c w1M w1 ∗ pt c w2M w2 ∗ (∃ a, pt (F := F) c s1M a) ∗ (∃ a, pt (F := F) c s2M a)
      ∗ ringsAny (F := F) c ∗ semsZero (F := F) c ∗ owes (c : Thread nD τ) 0 W
      ∗ ((ptOn c arg1 f1 ∗ ptOn c arg2 f2 ∗ pt c w1M w1 ∗ pt c w2M w2 ∗ holds c s1M (wb1 w1)
          ∗ holds c s2M (wb2 w2) ∗ ringsAny (F := F) c ∗ semsZero (F := F) c ∗ ∃ W', owes (c : Thread nD τ) 0 W')
          -∗ K (p1res c arg1 arg2 f1 f2)))
    ⊢ wp frame (wpE (defs₀ (F := F)) Variants.none c none) Set.univ (part1At i arg1 harg1 arg2 harg2 arg5 harg5 arg6 harg6) K := by
  unfold part1At k0_part1_skel
  iintro ⟨H1, H2, Hw1, Hw2, ⟨%a1, Hs1⟩, ⟨%a2, Hs2⟩, ⟨Hg1, Hg2⟩, ⟨Hq6, Hq7, Hq8, Hq9⟩, HW, HK⟩
  ihave Hg1' := (ring1_split c) $$ Hg1
  ihave Hg2' := (ring2_split c) $$ Hg2
  icases Hg1' with ⟨⟨%b10, Hg10⟩, ⟨%b11, Hg11⟩⟩
  icases Hg2' with ⟨⟨%b20, Hg20⟩, ⟨%b21, Hg21⟩⟩
  have h10 := sub1 0
  have h11 := sub1 1
  have h20 := sub2 0
  have h21 := sub2 1
  sl_exec
  sl_unroll
  sl_exec
  sl_unroll
  sl_exec
  sl_step
  iapply HK
  isplitl [H1]; · iexact H1
  isplitl [H2]; · iexact H2
  isplitl [Hw1]; · iexact Hw1
  isplitl [Hw2]; · iexact Hw2
  isplitl [Hs1]
  · iexists _
    isplitr
    swap
    · iexact Hs1
    · ipureintro
      funext y
      refine View.read_writes_apply_of_pieces _ _ (wb1 w1) _ ?_ y (View.cover_of_tiledL (s := S1024x4096) _ S128x4096.size (by sl_kernel_rfl) y)
      unfold part1_first.sl.Hs1_8
      refine List.forall_mem_cons.mpr ⟨fun x => (congrFun (pay3_slot 1 _ _ _ _) x).trans rfl, ?_⟩
      refine List.forall_mem_cons.mpr ⟨fun x => (congrFun (pay3_slot 0 _ _ _ _) x).trans rfl, ?_⟩
      refine List.forall_mem_cons.mpr ⟨fun x => (congrFun (pay3_slot 1 _ _ _ _) x).trans rfl, ?_⟩
      refine List.forall_mem_cons.mpr ⟨fun x => (congrFun (pay3_slot 0 _ _ _ _) x).trans rfl, ?_⟩
      refine List.forall_mem_cons.mpr ⟨fun x => (congrFun (pay3_slot 1 _ _ _ _) x).trans rfl, ?_⟩
      refine List.forall_mem_cons.mpr ⟨fun x => (congrFun (pay3_slot 0 _ _ _ _) x).trans rfl, ?_⟩
      refine List.forall_mem_cons.mpr ⟨fun x => (congrFun (pay3_slot 1 _ _ _ _) x).trans rfl, ?_⟩
      refine List.forall_mem_cons.mpr ⟨fun x => (congrFun (pay3_slot 0 _ _ _ _) x).trans rfl, ?_⟩
      exact fun p hp => absurd hp List.not_mem_nil
  isplitl [Hs2]
  · iexists _
    isplitr
    swap
    · iexact Hs2
    · ipureintro
      funext y
      refine View.read_writes_apply_of_pieces _ _ (wb2 w2) _ ?_ y (View.cover_of_tiledL (s := S4096x1024) _ S512x1024.size (by sl_kernel_rfl) y)
      refine List.forall_mem_cons.mpr ⟨fun x => (congrFun (pay4_slot 1 _ _ _ _) x).trans rfl, ?_⟩
      refine List.forall_mem_cons.mpr ⟨fun x => (congrFun (pay4_slot 0 _ _ _ _) x).trans rfl, ?_⟩
      refine List.forall_mem_cons.mpr ⟨fun x => (congrFun (pay4_slot 1 _ _ _ _) x).trans rfl, ?_⟩
      refine List.forall_mem_cons.mpr ⟨fun x => (congrFun (pay4_slot 0 _ _ _ _) x).trans rfl, ?_⟩
      refine List.forall_mem_cons.mpr ⟨fun x => (congrFun (pay4_slot 1 _ _ _ _) x).trans rfl, ?_⟩
      refine List.forall_mem_cons.mpr ⟨fun x => (congrFun (pay4_slot 0 _ _ _ _) x).trans rfl, ?_⟩
      refine List.forall_mem_cons.mpr ⟨fun x => (congrFun (pay4_slot 1 _ _ _ _) x).trans rfl, ?_⟩
      refine List.forall_mem_cons.mpr ⟨fun x => (congrFun (pay4_slot 0 _ _ _ _) x).trans rfl, ?_⟩
      exact fun p hp => absurd hp List.not_mem_nil
  isplitl [Hg10 Hg11 Hg20 Hg21]
  · isplitl [Hg10 Hg11]
    · iapply (ring1_join c)
      isplitl [Hg10]
      · iexists _; iexact Hg10
      · iexists _; iexact Hg11
    · iapply (ring2_join c)
      isplitl [Hg20]
      · iexists _; iexact Hg20
      · iexists _; iexact Hg21
  isplitl [Hq6 Hq7 Hq8 Hq9]
  · isplitl [Hq6]; · iexact Hq6
    isplitl [Hq7]; · iexact Hq7
    isplitl [Hq8]; · iexact Hq8
    iexact Hq9
  iexists _; iexact HW

/-- At a point that does not fill: the section leaves every buffer as it is. -/
theorem part1_later (hc : ¬ k0_cond1 i = 1#1) (K : _ → sProp 𝕄) :
    iprop(ptOn c arg1 f1 ∗ ptOn c arg2 f2 ∗ ((ptOn c arg1 f1 ∗ ptOn c arg2 f2) -∗ K (p1res c arg1 arg2 f1 f2)))
    ⊢ wp frame (wpE (defs₀ (F := F)) Variants.none c none) Set.univ (part1At i arg1 harg1 arg2 harg2 arg5 harg5 arg6 harg6) K := by
  unfold part1At k0_part1_skel
  iintro ⟨H1, H2, HK⟩
  sl_exec
  sl_step
  iapply HK
  isplitl [H1]; · iexact H1
  iexact H2

end Part1

end Cert.Kernel2Ideal.Hand
-- ==== Proof.Layer0.Body.lean ====
/-
  Layer 0's feed-forward. Its body after its first section: from the cast weights in scratch and the section's values it computes the output
  block and stores it in four pieces of 256 rows. Here: that rest as a program, its run, and the run of the whole body at a
  point that fills and at a later one.
-/
module

public import proofs.«01_k».proof.Proof.Layer0.Fill
public import Idealize.ShloMosaic.Lib.VecWindow

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- What the first section passes on. -/
abbrev Passed (F : FTy → Type) : Type := (_ : FVec F S1024x1024 .f32) ×' (_ : FVec F S256x1024 .bf16) ×' (_ : FVec F S256x1024 .bf16) ×' (_ : FVec F S256x1024 .f32)
    ×' (_ : FVec F S1x1024 .f32) ×' FVec F S256x1024 .f32

variable (c : Dev nD) (i : grid0.Coords)
  (arg1 : Memref sig .tc .vmem S1024x1024 .f32) (harg1 : arg1.IsWhole) (arg2 : Memref sig .tc .vmem S1x1024 .f32) (harg2 : arg2.IsWhole)
  (arg5 : Memref sig .tc .vmem S1x1024 .f32) (harg5 : arg5.IsWhole) (arg6 : Memref sig .tc .vmem S1024x1024 .f32) (harg6 : arg6.IsWhole)

/-- The body after its first section. -/
def restProg (r : Passed F) : Prog (TpuEff nD τ sig (Elt F) Λ₀ .tc) PUnit := do
  let ⟨v4, v20, v36, v37, v39, v40⟩ := r
  let ⟨v69, v80⟩ : Σ' (v69 : FVec F S1024x1024 .bf16), FVec F S1024x1024 .f32 ← k0_part2_skel (F := F) i arg1 harg1 arg2 harg2 w1M (Memref.isWhole_whole _) w2M (Memref.isWhole_whole _) arg5 harg5 arg6 harg6 s1M (Memref.isWhole_whole _) s2M (Memref.isWhole_whole _) g1M (Memref.isWhole_whole _) cc0_scoped1 g2M (Memref.isWhole_whole _) cc0_scoped3 v4 v20 v36 v37 v39 v40
  let ⟨v101, v114, v115⟩ : Σ' (v101 : FVec F S1024x4096 .bf16) (v114 : FVec F S256x1024 .f32), FVec F S256x4096 .bf16 ← k0_part3_skel (F := F) i arg1 harg1 arg2 harg2 w1M (Memref.isWhole_whole _) w2M (Memref.isWhole_whole _) arg5 harg5 arg6 harg6 s1M (Memref.isWhole_whole _) s2M (Memref.isWhole_whole _) g1M (Memref.isWhole_whole _) cc0_scoped1 g2M (Memref.isWhole_whole _) cc0_scoped3 v4 v69 v80
  let v116 : Vec F S4096x1024 .bf16 ← Prog.lift (.load s2M (Rect.unit (s := S4096x1024) ![0, 0] S4096x1024.size inb_S4096x1024_S4096x1024_0_0).toLoadRect (View.loadsAt_vmem h_S4096x1024))
  let v119 : Vec F S256x1024 .f32 ← Prog.lift (.load arg6 (Rect.unit (s := S1024x1024) ![512, 0] S256x1024.size inb_S1024x1024_S256x1024_512_0).toLoadRect (View.loadsAt_vmem h_S256x1024))
  Prog.lift (.store arg6 (Rect.unit (s := S1024x1024) ![512, 0] S256x1024.size inb_S1024x1024_S256x1024_512_0) (k0_pay1 v114 v115 v116) Finset.univ (View.stores_vmem_bits_univ h_S256x1024 rfl) (.inl rfl))
  let v122 : Vec F S4096x1024 .bf16 ← Prog.lift (.load s2M (Rect.unit (s := S4096x1024) ![0, 0] S4096x1024.size inb_S4096x1024_S4096x1024_0_0).toLoadRect (View.loadsAt_vmem h_S4096x1024))
  let v125 : Vec F S256x1024 .f32 ← Prog.lift (.load arg6 (Rect.unit (s := S1024x1024) ![768, 0] S256x1024.size inb_S1024x1024_S256x1024_768_0).toLoadRect (View.loadsAt_vmem h_S256x1024))
  Prog.lift (.store arg6 (Rect.unit (s := S1024x1024) ![768, 0] S256x1024.size inb_S1024x1024_S256x1024_768_0) (k0_pay2 v4 v101 v122) Finset.univ (View.stores_vmem_bits_univ h_S256x1024 rfl) (.inl rfl))
  pure ⟨⟩

/-- The whole body at the launch's buffers. -/
abbrev bodyAt := cc0_ffn (F := F) i arg1 harg1 arg2 harg2 w1M (Memref.isWhole_whole _) w2M (Memref.isWhole_whole _) arg5 harg5 arg6 harg6
  s1M (Memref.isWhole_whole _) s2M (Memref.isWhole_whole _) g1M (Memref.isWhole_whole _) cc0_scoped1 g2M (Memref.isWhole_whole _) cc0_scoped3

set_option maxRecDepth 65536 in
/-- The body is its first section, then the rest. -/
theorem bodyAt_eq : bodyAt (F := F) i arg1 harg1 arg2 harg2 arg5 harg5 arg6 harg6
    = part1At i arg1 harg1 arg2 harg2 arg5 harg5 arg6 harg6 >>= fun r => restProg i arg1 harg1 arg2 harg2 arg5 harg5 arg6 harg6 r := rfl

section Rest

variable (v4 : FVec F S1024x1024 .f32) (v20 v36 : FVec F S256x1024 .bf16) (v37 : FVec F S256x1024 .f32) (v39 : FVec F S1x1024 .f32) (v40 : FVec F S256x1024 .f32)
  (g2 : Vec F S1x1024 .f32) (w1 : Vec F S1024x4096 .bf16) (w2 : Vec F S4096x1024 .bf16)

/-- Columns `1024 j …` of the first cast weight, as a load of it from scratch. -/
def w1c (o : Fin 2 → ℕ) (h : ∀ a, o a + S1024x1024.size a ≤ S1024x4096.size a) : Vec F S1024x1024 .bf16 :=
  View.readAt (Elt F) s1M.view (Rect.unit (s := S1024x4096) o S1024x1024.size h).toLoadRect w1
/-- The normalised rows, the first quarter of the hidden rows before the square, and the whole hidden rows. -/
def hRows : FVec F S1024x1024 .bf16 := k0_pay13 v4 v20 v36 v37 v39 v40 g2
def hid0 : FVec F S1024x1024 .f32 :=
  k0_pay14 v4 v20 v36 v37 v39 v40 g2 (w1c w1 ![0, 0] inb_S1024x4096_S1024x1024_0_0) (w1c w1 ![0, 0] inb_S1024x4096_S1024x1024_0_0)
    (w1c w1 ![0, 0] inb_S1024x4096_S1024x1024_0_0) (w1c w1 ![0, 0] inb_S1024x4096_S1024x1024_0_0)
def hidden : FVec F S1024x4096 .bf16 :=
  k0_pay15 (hRows v4 v20 v36 v37 v39 v40 g2) (hid0 v4 v20 v36 v37 v39 v40 g2 w1) (w1c w1 ![0, 1024] inb_S1024x4096_S1024x1024_0_1024)
    (w1c w1 ![0, 2048] inb_S1024x4096_S1024x1024_0_2048) (w1c w1 ![0, 3072] inb_S1024x4096_S1024x1024_0_3072)
/-- The four pieces of 256 rows, last stored first. -/
def outPieces : List (View.Piece (Elt F) S1024x1024 .f32) :=
  let h := hRows v4 v20 v36 v37 v39 v40 g2
  let a := hid0 v4 v20 v36 v37 v39 v40 g2 w1
  let c1 := w1c w1 ![0, 1024] inb_S1024x4096_S1024x1024_0_1024
  let c2 := w1c w1 ![0, 2048] inb_S1024x4096_S1024x1024_0_2048
  let c3 := w1c w1 ![0, 3072] inb_S1024x4096_S1024x1024_0_3072
  [⟨Rect.unit (s := S1024x1024) ![768, 0] S256x1024.size inb_S1024x1024_S256x1024_768_0, k0_pay2 v4 (hidden v4 v20 v36 v37 v39 v40 g2 w1) w2⟩,
   ⟨Rect.unit (s := S1024x1024) ![512, 0] S256x1024.size inb_S1024x1024_S256x1024_512_0, k0_pay1 (k0_pay18 v4) (k0_pay19 h a c1 c2 c3) w2⟩,
   ⟨Rect.unit (s := S1024x1024) ![256, 0] S256x1024.size inb_S1024x1024_S256x1024_256_0, k0_pay17 v4 h a c1 c2 c3 w2⟩,
   ⟨Rect.unit (s := S1024x1024) ![0, 0] S256x1024.size inb_S1024x1024_S256x1024_0_0, k0_pay16 v4 h a c1 c2 c3 w2⟩]

/-- A gain as loaded, and the second cast weight as loaded. -/
abbrev gainOf (M : Memref sig .tc .vmem S1x1024 .f32) (f : PB (F := F) c M) : Vec F S1x1024 .f32 :=
  View.readAt (Elt F) M.view (Rect.unit (s := S1x1024) ![0, 0] S1x1024.size inb_S1x1024_S1x1024_0_0).toLoadRect f
abbrev w2Of (a2 : PB (F := F) c s2M) : Vec F S4096x1024 .bf16 :=
  View.readAt (Elt F) s2M.view (Rect.unit (s := S4096x1024) ![0, 0] S4096x1024.size inb_S4096x1024_S4096x1024_0_0).toLoadRect a2

set_option maxHeartbeats 2000000 in
/-- The rest's run: from the passed values, the gains, the cast weights in scratch and the output block at anything, it ends
    with the output block written in the four pieces. -/
theorem restRun (f2 : PB (F := F) c arg2) (a1 : PB (F := F) c s1M) (a2 : PB (F := F) c s2M) (K : PUnit → sProp 𝕄) :
    iprop(ptOn c arg2 f2 ∗ (∃ f, ptOn (F := F) c arg6 f) ∗ pt c s1M a1 ∗ pt c s2M a2
      ∗ ((ptOn c arg2 f2
          ∗ (∃ f, ptOn c arg6 (arg6.view.writes (Elt F) f (outPieces v4 v20 v36 v37 v39 v40 (gainOf c arg2 f2) a1 (w2Of c a2))))
          ∗ pt c s1M a1 ∗ pt c s2M a2) -∗ K ⟨⟩))
    ⊢ wp frame (wpE (defs₀ (F := F)) Variants.none c none) Set.univ
        (restProg i arg1 harg1 arg2 harg2 arg5 harg5 arg6 harg6 ⟨v4, ⟨v20, ⟨v36, ⟨v37, ⟨v39, v40⟩⟩⟩⟩⟩) K := by
  unfold restProg k0_part2_skel k0_part3_skel
  iintro ⟨H2, ⟨%f6, H6⟩, Hs1, Hs2, HK⟩
  sl_exec
  sl_step
  iapply HK
  isplitl [H2]; · iexact H2
  isplitl [H6]; · iexists _; iexact H6
  isplitl [Hs1]; · iexact Hs1
  iexact Hs2

end Rest

/-! ## The output block of a point -/

/-- The pieces a point stores: from the input block `x`, the gain `g`, the cast weights `w1` and `w2`. -/
def blkPieces (x : Vec F S1024x1024 .f32) (g : Vec F S1x1024 .f32) (w1 : Vec F S1024x4096 .bf16) (w2 : Vec F S4096x1024 .bf16) :
    List (View.Piece (Elt F) S1024x1024 .f32) :=
  outPieces (k0_pay5 x) (k0_pay6 x g) (k0_pay7 x g) (k0_pay8 x) (k0_pay9 g) (k0_pay10 x) g w1 w2
/-- The pieces cover the block. -/
theorem blkPieces_cover (x : Vec F S1024x1024 .f32) (g : Vec F S1x1024 .f32) (w1 : Vec F S1024x4096 .bf16) (w2 : Vec F S4096x1024 .bf16)
    (y : S1024x1024.Idx) : ∃ pc ∈ blkPieces x g w1 w2, y ∈ pc.1.set :=
  View.cover_of_tiledL (s := S1024x1024) (blkPieces x g w1 w2) S256x1024.size (by sl_kernel_rfl) y
/-- The block a point leaves: its pieces read back. -/
def outBlk (x : Vec F S1024x1024 .f32) (g : Vec F S1x1024 .f32) (w1 : Vec F S1024x4096 .bf16) (w2 : Vec F S4096x1024 .bf16) : Vec F S1024x1024 .f32 :=
  (Memref.whole cc0_stg3_0 : Memref sig .tc .vmem S1024x1024 .f32).view.read (Elt F)
    ((Memref.whole cc0_stg3_0 : Memref sig .tc .vmem S1024x1024 .f32).view.writes (Elt F) (Memref.whole cc0_stg3_0 : Memref sig .tc .vmem S1024x1024 .f32).view.junk
      (blkPieces x g w1 w2))

variable (x : Vec F S1024x1024 .f32) (g gf : Vec F S1x1024 .f32)

/-- A memref held at a value is its elements held at contents that read as the value. -/
theorem owns_eq {sp : Space} {S : Shape} {e : EltTy} (M : Memref sig .tc sp S e) (v : S.Idx → Elt F e) :
    (owns (c : Thread nD τ) M fullShare v : sProp 𝕄) = iprop(∃ f, ⌜M.view.read (Elt F) f = v⌝ ∗ ptOn c M f) := rfl

/-- What the first section passes on, as a function of the block and the gain. -/
theorem p1res_eq (f1 : PB (F := F) c arg1) (f2 : PB (F := F) c arg2) (h1 : arg1.view.read (Elt F) f1 = x) (h2 : arg2.view.read (Elt F) f2 = g) :
    p1res c arg1 arg2 f1 f2 = ⟨k0_pay5 x, ⟨k0_pay6 x g, ⟨k0_pay7 x g, ⟨k0_pay8 x, ⟨k0_pay9 g, k0_pay10 x⟩⟩⟩⟩⟩ := by
  have e1 := View.readAt_full arg1.view f1 (off := ![0, 0]) inb_S1024x1024_S1024x1024_0_0
  have e2 := View.readAt_full arg2.view f2 (off := ![0, 0]) inb_S1x1024_S1x1024_0_0
  rw [h1] at e1; rw [h2] at e2
  unfold p1res
  rw [e1, e2]

/-- The rest's run from the section's values, in terms of what the operands hold; the last gain is only kept. -/
theorem restRun' (f1 : PB (F := F) c arg1) (f2 : PB (F := F) c arg2) (h1 : arg1.view.read (Elt F) f1 = x) (h2 : arg2.view.read (Elt F) f2 = g)
    (v1 : Vec F S1024x4096 .bf16) (v2 : Vec F S4096x1024 .bf16) (K : PUnit → sProp 𝕄) :
    iprop(ptOn c arg2 f2 ∗ owns (c : Thread nD τ) arg5 fullShare gf ∗ (∃ d, owns (c : Thread nD τ) arg6 fullShare d) ∗ holds c s1M v1 ∗ holds c s2M v2
      ∗ ((ptOn c arg2 f2 ∗ owns (c : Thread nD τ) arg5 fullShare gf ∗ owns (c : Thread nD τ) arg6 fullShare (outBlk x g v1 v2)
          ∗ holds c s1M v1 ∗ holds c s2M v2) -∗ K ⟨⟩))
    ⊢ wp frame (wpE (defs₀ (F := F)) Variants.none c none) Set.univ
        (restProg i arg1 harg1 arg2 harg2 arg5 harg5 arg6 harg6 (p1res c arg1 arg2 f1 f2)) K := by
  rw [p1res_eq c arg1 arg2 x g f1 f2 h1 h2]
  simp only [owns_eq c arg6]
  iintro ⟨H2, H5, ⟨%d6, %f6, -, H6⟩, ⟨%a1, %ha1, Hs1⟩, ⟨%a2, %ha2, Hs2⟩, HK⟩
  obtain rfl : a1 = v1 := ha1
  obtain rfl : a2 = v2 := ha2
  have e2 := View.readAt_full arg2.view f2 (off := ![0, 0]) inb_S1x1024_S1x1024_0_0
  have ew := View.readAt_full s2M.view a2 (off := ![0, 0]) inb_S4096x1024_S4096x1024_0_0
  rw [h2] at e2
  iapply (restRun c i arg1 harg1 arg2 harg2 arg5 harg5 arg6 harg6 _ _ _ _ _ _ f2 a1 a2 K)
  isplitl [H2]; · iexact H2
  isplitl [H6]; · iexists _; iexact H6
  isplitl [Hs1]; · iexact Hs1
  isplitl [Hs2]; · iexact Hs2
  iintro ⟨H2, ⟨%f, H6⟩, Hs1, Hs2⟩
  iapply HK
  isplitl [H2]; · iexact H2
  isplitl [H5]; · iexact H5
  isplitl [H6]
  · iexists _; isplitr
    swap; · iexact H6
    ipureintro
    unfold gainOf w2Of
    rw [e2, ew]
    exact View.read_writes_of_cover _ _ _ _ _ (blkPieces_cover x g _ _)
  isplitl [Hs1]
  · iexists a1; isplitr
    · ipureintro; rfl
    iexact Hs1
  iexists a2; isplitr
  · ipureintro; rfl
  iexact Hs2

/-- The body at a point that fills: the output block is computed from the weights it has just cast. -/
theorem body_first (hc : k0_cond1 i = 1#1) (w1 : PB (F := F) c w1M) (w2 : PB (F := F) c w2M) (W : Waits sig Unit) (K : PUnit → sProp 𝕄) :
    iprop(owns (c : Thread nD τ) arg1 fullShare x ∗ owns (c : Thread nD τ) arg2 fullShare g ∗ owns (c : Thread nD τ) arg5 fullShare gf
      ∗ (∃ d, owns (c : Thread nD τ) arg6 fullShare d) ∗ pt c w1M w1 ∗ pt c w2M w2 ∗ (∃ a, pt (F := F) c s1M a) ∗ (∃ a, pt (F := F) c s2M a)
      ∗ ringsAny (F := F) c ∗ semsZero (F := F) c ∗ owes (c : Thread nD τ) 0 W
      ∗ ((owns (c : Thread nD τ) arg1 fullShare x ∗ owns (c : Thread nD τ) arg2 fullShare g ∗ owns (c : Thread nD τ) arg5 fullShare gf
          ∗ owns (c : Thread nD τ) arg6 fullShare (outBlk x g (wb1 w1) (wb2 w2)) ∗ pt c w1M w1 ∗ pt c w2M w2 ∗ holds c s1M (wb1 w1) ∗ holds c s2M (wb2 w2)
          ∗ ringsAny (F := F) c ∗ semsZero (F := F) c ∗ ∃ W', owes (c : Thread nD τ) 0 W') -∗ K ⟨⟩))
    ⊢ wp frame (wpE (defs₀ (F := F)) Variants.none c none) Set.univ (bodyAt i arg1 harg1 arg2 harg2 arg5 harg5 arg6 harg6) K := by
  rw [bodyAt_eq, wp_bind, owns_eq c arg1, owns_eq c arg2]
  iintro ⟨⟨%f1, %h1, H1⟩, ⟨%f2, %h2, H2⟩, H5, H6, Hw1, Hw2, Hs1, Hs2, Hg, Hq, HW, HK⟩
  iapply (part1_first c i arg1 harg1 arg2 harg2 arg5 harg5 arg6 harg6 f1 f2 w1 w2 hc W _)
  isplitl [H1]; · iexact H1
  isplitl [H2]; · iexact H2
  isplitl [Hw1]; · iexact Hw1
  isplitl [Hw2]; · iexact Hw2
  isplitl [Hs1]; · iexact Hs1
  isplitl [Hs2]; · iexact Hs2
  isplitl [Hg]; · iexact Hg
  isplitl [Hq]; · iexact Hq
  isplitl [HW]; · iexact HW
  iintro ⟨H1, H2, Hw1, Hw2, Hs1, Hs2, Hg, Hq, HW⟩
  iapply (restRun' c i arg1 harg1 arg2 harg2 arg5 harg5 arg6 harg6 x g gf f1 f2 h1 h2 (wb1 w1) (wb2 w2) K)
  isplitl [H2]; · iexact H2
  isplitl [H5]; · iexact H5
  isplitl [H6]; · iexact H6
  isplitl [Hs1]; · iexact Hs1
  isplitl [Hs2]; · iexact Hs2
  iintro ⟨H2, H5, H6, Hs1, Hs2⟩
  iapply HK
  isplitl [H1]
  · iexists f1; isplitr
    · ipureintro; exact h1
    iexact H1
  isplitl [H2]
  · iexists f2; isplitr
    · ipureintro; exact h2
    iexact H2
  isplitl [H5]; · iexact H5
  isplitl [H6]; · iexact H6
  isplitl [Hw1]; · iexact Hw1
  isplitl [Hw2]; · iexact Hw2
  isplitl [Hs1]; · iexact Hs1
  isplitl [Hs2]; · iexact Hs2
  isplitl [Hg]; · iexact Hg
  isplitl [Hq]; · iexact Hq
  iexact HW

/-- The body at a later point: the output block is computed from the weights the scratch buffers keep. -/
theorem body_later (hc : ¬ k0_cond1 i = 1#1) (v1 : Vec F S1024x4096 .bf16) (v2 : Vec F S4096x1024 .bf16) (K : PUnit → sProp 𝕄) :
    iprop(owns (c : Thread nD τ) arg1 fullShare x ∗ owns (c : Thread nD τ) arg2 fullShare g ∗ owns (c : Thread nD τ) arg5 fullShare gf
      ∗ (∃ d, owns (c : Thread nD τ) arg6 fullShare d) ∗ holds c s1M v1 ∗ holds c s2M v2
      ∗ ((owns (c : Thread nD τ) arg1 fullShare x ∗ owns (c : Thread nD τ) arg2 fullShare g ∗ owns (c : Thread nD τ) arg5 fullShare gf
          ∗ owns (c : Thread nD τ) arg6 fullShare (outBlk x g v1 v2) ∗ holds c s1M v1 ∗ holds c s2M v2) -∗ K ⟨⟩))
    ⊢ wp frame (wpE (defs₀ (F := F)) Variants.none c none) Set.univ (bodyAt i arg1 harg1 arg2 harg2 arg5 harg5 arg6 harg6) K := by
  rw [bodyAt_eq, wp_bind, owns_eq c arg1, owns_eq c arg2]
  iintro ⟨⟨%f1, %h1, H1⟩, ⟨%f2, %h2, H2⟩, H5, H6, Hs1, Hs2, HK⟩
  iapply (part1_later c i arg1 harg1 arg2 harg2 arg5 harg5 arg6 harg6 f1 f2 hc _)
  isplitl [H1]; · iexact H1
  isplitl [H2]; · iexact H2
  iintro ⟨H1, H2⟩
  iapply (restRun' c i arg1 harg1 arg2 harg2 arg5 harg5 arg6 harg6 x g gf f1 f2 h1 h2 v1 v2 K)
  isplitl [H2]; · iexact H2
  isplitl [H5]; · iexact H5
  isplitl [H6]; · iexact H6
  isplitl [Hs1]; · iexact Hs1
  isplitl [Hs2]; · iexact Hs2
  iintro ⟨H2, H5, H6, Hs1, Hs2⟩
  iapply HK
  isplitl [H1]
  · iexists f1; isplitr
    · ipureintro; exact h1
    iexact H1
  isplitl [H2]
  · iexists f2; isplitr
    · ipureintro; exact h2
    iexact H2
  isplitl [H5]; · iexact H5
  isplitl [H6]; · iexact H6
  isplitl [Hs1]; · iexact Hs1
  iexact Hs2

end Cert.Kernel2Ideal.Hand
-- ==== Proof.Layer0.Block.lean ====
/-
  Layer 0's feed-forward. What the body leaves in the output block, over the extended reals: row by row, the row with its
  feed-forward added.
-/
module

public import proofs.«01_k».proof.Proof.Layer0.Body
public import proofs.«01_k».proof.Proof.Rows

@[expose] public section

set_option maxRecDepth 16384

noncomputable section

namespace Cert.Kernel2Ideal.Hand

open Cert.Kernel2Ideal Cert.Kernel2Ideal.Gen Cert.Rows
open Idealize.ShloMosaic Idealize.ShloMosaic.TcCoe Idealize.ShloMosaic.Tactic

/-- A loaded quarter of the first weight, at an index. -/
theorem w1c_apply (w : Vec Ideal S1024x4096 .bf16) (n : ℕ) (h) (r d : Fin 1024) (hn : n + d.val < 4096) :
    w1c (F := Ideal) w ![0, n] h (ix2 r d) = w (ix2 r ⟨n + d.val, hn⟩) := by
  unfold w1c
  rw [View.readAt_eq_ld]
  show w _ = w _
  refine congrArg w (Shape.idx_ext₂ ?_ ?_)
  · show 0 + 1 * r.val = r.val; omega
  · show n + 1 * d.val = n + d.val; omega

variable (x : Vec Ideal S1024x1024 .f32) (g : Vec Ideal S1x1024 .f32) (w1 : Vec Ideal S1024x4096 .bf16) (w2 : Vec Ideal S4096x1024 .bf16)

/-- A row of the block, a gain, and the two weights, by coordinates. -/
abbrev rowOf (r : Fin 1024) : Fin 1024 → EReal := fun k => x (ix2 r k)
abbrev gainRow : Fin 1024 → EReal := fun k => g (ix2 0 k)
abbrev mat1 : Fin 1024 → Fin 4096 → EReal := fun d k => w1 (ix2 d k)
abbrev mat2 : Fin 4096 → Fin 1024 → EReal := fun k j => w2 (ix2 k j)

/-- The four normalised chunks of rows. -/
theorem pay6_apply (r : Fin 256) (d : Fin 1024) : k0_pay6 (F := Ideal) x g (ix2 r d) = norm (rowOf x ⟨r.val, by omega⟩) (gainRow g) d := by
  pointwise [k0_pay6, k0_pay5]; rfl
theorem pay7_apply (r : Fin 256) (d : Fin 1024) : k0_pay7 (F := Ideal) x g (ix2 r d) = norm (rowOf x ⟨256 + r.val, by omega⟩) (gainRow g) d := by
  pointwise [k0_pay7, k0_pay5]; rfl
theorem pay11_apply (r : Fin 256) (d : Fin 1024) :
    k0_pay11 (F := Ideal) (k0_pay8 x) (k0_pay9 g) (k0_pay10 x) (ix2 r d) = norm (rowOf x ⟨512 + r.val, by omega⟩) (gainRow g) d := by
  pointwise [k0_pay11, k0_pay8, k0_pay9, k0_pay10, k0_pay5]; rfl
theorem pay12_apply (r : Fin 256) (d : Fin 1024) : k0_pay12 (F := Ideal) (k0_pay5 x) g (ix2 r d) = norm (rowOf x ⟨768 + r.val, by omega⟩) (gainRow g) d := by
  pointwise [k0_pay12, k0_pay5]; rfl

/-- The normalised rows. -/
theorem hRows_apply (r d : Fin 1024) :
    hRows (F := Ideal) (k0_pay5 x) (k0_pay6 x g) (k0_pay7 x g) (k0_pay8 x) (k0_pay9 g) (k0_pay10 x) g (ix2 r d) = norm (rowOf x r) (gainRow g) d := by
  pointwise [hRows, k0_pay13]
  split
  · rw [pay6_apply]
  · split
    · rw [pay7_apply]; congr 2; ext; simp; omega
    · split
      · rw [pay11_apply]; congr 2; ext; simp; omega
      · rw [pay12_apply]; congr 2; ext; simp; omega

/-- The first quarter of the hidden rows before the square. -/
theorem hid0_apply (r d : Fin 1024) :
    hid0 (F := Ideal) (k0_pay5 x) (k0_pay6 x g) (k0_pay7 x g) (k0_pay8 x) (k0_pay9 g) (k0_pay10 x) g w1 (ix2 r d)
      = max (∑ k, norm (rowOf x r) (gainRow g) k * mat1 w1 k ⟨d.val, by omega⟩) 0 := by
  pointwise [hid0, k0_pay14]
  congr 1
  have hw : ∀ k : Fin 1024, w1c (F := Ideal) w1 ![0, 0] inb_S1024x4096_S1024x1024_0_0 (ix2 k d) = mat1 w1 k ⟨d.val, by omega⟩ := fun k => by
    rw [w1c_apply _ _ _ _ _ (by omega)]; congr 2; ext; simp
  split
  · refine Finset.sum_congr rfl fun k _ => ?_
    rw [pay6_apply, hw]
  · split
    · refine Finset.sum_congr rfl fun k _ => ?_
      rw [pay7_apply, hw]; congr 3; ext; simp; omega
    · split
      · refine Finset.sum_congr rfl fun k _ => ?_
        rw [pay11_apply, hw]; congr 3; ext; simp; omega
      · refine Finset.sum_congr rfl fun k _ => ?_
        rw [pay12_apply, hw]; congr 3; ext; simp; omega

/-- The hidden rows. -/
theorem hidden_apply (r : Fin 1024) (k : Fin 4096) :
    hidden (F := Ideal) (k0_pay5 x) (k0_pay6 x g) (k0_pay7 x g) (k0_pay8 x) (k0_pay9 g) (k0_pay10 x) g w1 (ix2 r k)
      = hid (norm (rowOf x r) (gainRow g)) (mat1 w1) k := by
  pointwise [hidden, k0_pay15]
  simp only [hRows_apply, hid0_apply]
  unfold hid
  split
  · rfl
  · split
    · simp only [w1c_apply w1 1024 _ _ ⟨k.val - 1024, by omega⟩ (by simp; omega)]
      have e : (⟨1024 + (k.val - 1024), by omega⟩ : Fin 4096) = k := by ext; simp; omega
      simp only [e]
    · split
      · simp only [w1c_apply w1 2048 _ _ ⟨k.val - 1024 - 1024, by omega⟩ (by simp; omega)]
        have e : (⟨2048 + (k.val - 1024 - 1024), by omega⟩ : Fin 4096) = k := by ext; simp; omega
        simp only [e]
      · simp only [w1c_apply w1 3072 _ _ ⟨k.val - 1024 - 1024 - 1024, by omega⟩ (by simp; omega)]
        have e : (⟨3072 + (k.val - 1024 - 1024 - 1024), by omega⟩ : Fin 4096) = k := by ext; simp; omega
        simp only [e]

/-- The block as a function of its index. -/
def blkFn : Vec Ideal S1024x1024 .f32 := fun y => ffn (rowOf x (y 0)) (gainRow g) (mat1 w1) (mat2 w2) (y 1)

/-- The hidden rows of a block, short. -/
abbrev hidBlk : FVec Ideal S1024x4096 .bf16 := hidden (F := Ideal) (k0_pay5 x) (k0_pay6 x g) (k0_pay7 x g) (k0_pay8 x) (k0_pay9 g) (k0_pay10 x) g w1

/-- The parts the last pieces recompute the hidden rows from. -/
abbrev hB : FVec Ideal S1024x1024 .bf16 := hRows (F := Ideal) (k0_pay5 x) (k0_pay6 x g) (k0_pay7 x g) (k0_pay8 x) (k0_pay9 g) (k0_pay10 x) g
abbrev aB : FVec Ideal S1024x1024 .f32 := hid0 (F := Ideal) (k0_pay5 x) (k0_pay6 x g) (k0_pay7 x g) (k0_pay8 x) (k0_pay9 g) (k0_pay10 x) g w1
abbrev cB1 : Vec Ideal S1024x1024 .bf16 := w1c w1 ![0, 1024] inb_S1024x4096_S1024x1024_0_1024
abbrev cB2 : Vec Ideal S1024x1024 .bf16 := w1c w1 ![0, 2048] inb_S1024x4096_S1024x1024_0_2048
abbrev cB3 : Vec Ideal S1024x1024 .bf16 := w1c w1 ![0, 3072] inb_S1024x4096_S1024x1024_0_3072
theorem parts_apply (r : Fin 1024) (k : Fin 4096) : k0_pay15 (F := Ideal) (hB x g) (aB x g w1) (cB1 w1) (cB2 w1) (cB3 w1) (ix2 r k)
    = hid (norm (rowOf x r) (gainRow g)) (mat1 w1) k := hidden_apply x g w1 r k

/-- Each piece's payload, at an index. -/
theorem pay2_apply (r : Fin 256) (d : Fin 1024) : k0_pay2 (F := Ideal) (k0_pay5 x) (hidBlk x g w1) w2 (ix2 r d)
    = blkFn x g w1 w2 (ix2 ⟨768 + r.val, by omega⟩ d) := by
  pointwise [k0_pay2, k0_pay5]
  simp only [hidden_apply]; rfl
theorem pay1_apply (r : Fin 256) (d : Fin 1024) : k0_pay1 (F := Ideal) (k0_pay18 (k0_pay5 x)) (k0_pay19 (hB x g) (aB x g w1) (cB1 w1) (cB2 w1) (cB3 w1)) w2 (ix2 r d)
    = blkFn x g w1 w2 (ix2 ⟨512 + r.val, by omega⟩ d) := by
  pointwise [k0_pay1, k0_pay18, k0_pay19, k0_pay5]
  simp only [parts_apply]; rfl
theorem pay17_apply (r : Fin 256) (d : Fin 1024) : k0_pay17 (F := Ideal) (k0_pay5 x) (hB x g) (aB x g w1) (cB1 w1) (cB2 w1) (cB3 w1) w2 (ix2 r d)
    = blkFn x g w1 w2 (ix2 ⟨256 + r.val, by omega⟩ d) := by
  pointwise [k0_pay17, k0_pay5]
  simp only [parts_apply]; rfl
theorem pay16_apply (r : Fin 256) (d : Fin 1024) : k0_pay16 (F := Ideal) (k0_pay5 x) (hB x g) (aB x g w1) (cB1 w1) (cB2 w1) (cB3 w1) w2 (ix2 r d)
    = blkFn x g w1 w2 (ix2 ⟨0 + r.val, by omega⟩ d) := by
  have e : (⟨0 + r.val, by omega⟩ : Fin 1024) = ⟨r.val, by omega⟩ := by ext; simp
  rw [e]
  pointwise [k0_pay16, k0_pay5]
  simp only [parts_apply]; rfl

/-- THE BLOCK: what a point leaves is `blkFn` of its operands. -/
theorem outBlk_eq : outBlk (F := Ideal) x g w1 w2 = blkFn x g w1 w2 := by
  funext y
  unfold outBlk
  refine View.read_writes_apply_of_pieces _ _ (blkFn x g w1 w2) _ ?_ y (blkPieces_cover x g w1 w2 y)
  unfold blkPieces outPieces
  have emb : ∀ (n : ℕ) (h) (z : (⟨2, S256x1024.size⟩ : Shape).Idx) (hn : n + (z 0).val < 1024),
      (Rect.unit (s := S1024x1024) ![n, 0] S256x1024.size h).emb z = ix2 ⟨n + (z 0).val, hn⟩ (z 1) := fun n h z hn =>
    Shape.idx_ext₂ (show n + 1 * (z 0).val = n + (z 0).val by omega) (show 0 + 1 * (z 1).val = (z 1).val by omega)
  refine List.forall_mem_cons.mpr ⟨fun z => ?_, ?_⟩
  · have hz : (z 0).val < 256 := (z 0).isLt
    dsimp only; rw [emb 768 _ z (by omega)]
    exact (congrArg _ (eq_ix2 z)).trans (pay2_apply x g w1 w2 (z 0) (z 1))
  refine List.forall_mem_cons.mpr ⟨fun z => ?_, ?_⟩
  · have hz : (z 0).val < 256 := (z 0).isLt
    dsimp only; rw [emb 512 _ z (by omega)]
    exact (congrArg _ (eq_ix2 z)).trans (pay1_apply x g w1 w2 (z 0) (z 1))
  refine List.forall_mem_cons.mpr ⟨fun z => ?_, ?_⟩
  · have hz : (z 0).val < 256 := (z 0).isLt
    dsimp only; rw [emb 256 _ z (by omega)]
    exact (congrArg _ (eq_ix2 z)).trans (pay17_apply x g w1 w2 (z 0) (z 1))
  refine List.forall_mem_cons.mpr ⟨fun z => ?_, fun _ h => absurd h List.not_mem_nil⟩
  · have hz : (z 0).val < 256 := (z 0).isLt
    dsimp only; rw [emb 0 _ z (by omega)]
    exact (congrArg _ (eq_ix2 z)).trans (pay16_apply x g w1 w2 (z 0) (z 1))

end Cert.Kernel2Ideal.Hand

end
-- ==== Proof.Layer0.Run.lean ====
/-
  Layer 0's feed-forward. The launch: the proof data of the pipeline (the block each point leaves, the scratch buffers' state between points), the
  body obligation from the two runs of the body, and the run of the whole program with its frame.
-/
module

public import proofs.«01_k».proof.Proof.Layer0.Body
public import proofs.«01_k».proof.Proof.Gen.Kernel2Ideal.Frame

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! ## The program up to the region -/

theorem hmainD : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

/-! ## What the body holds between points -/

/-- The kernel's own semaphores, and the arrays its copies read. -/
abbrev osem0 : Fin 4 → SemLoc sig := fun j => (![SemLoc.dma 6, SemLoc.dma 7, SemLoc.dma 8, SemLoc.dma 9] : Fin 4 → SemLoc sig) j
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄) = semsZero (F := F) c := by
  rw [Pipeline.ownSems0_eq_of_list c osem0 [0, 1, 2, 3] (by decide) (by decide)]; rfl
def H0 : Finset (Ref sig .tc) := {main_arg2, main_arg3}
theorem H0_sub : H0 ⊆ Pipeline.restRefs sig spec0 := by decide
theorem hbmPts_eq (c : Dev nD) :
    (bigSep H0 (fun b => ((c : Thread nD τ).loc b) ↦{fullShare} V m c b) : sProp 𝕄) = iprop(pt c w1M (V m c main_arg2) ∗ pt c w2M (V m c main_arg3)) := by
  rw [BI.bigSep_eq_bigSepL_of_eq [main_arg2, main_arg3] (by decide) (by decide)]; rfl

/-- Before the first point: scratch and rings at anything, semaphores at zero, the weight arrays as launched. -/
theorem PhiD_eq (c : Dev nD) : (Pipeline.ΦD osem0 spec0 H0 (V m) c : sProp 𝕄)
    = iprop(((∃ a, pt (F := F) c s1M a) ∗ (∃ a, pt (F := F) c s2M a) ∗ (∃ b, pt (F := F) c g1M b) ∗ ∃ b, pt (F := F) c g2M b)
        ∗ (∃ r, prngReg c r) ∗ semsZero (F := F) c ∗ (pt c w1M (V m c main_arg2) ∗ pt c w2M (V m c main_arg3))) := by
  rw [Pipeline.ΦD_eq, scopedRest0_eq, ownSems_eq, hbmPts_eq]
/-- From the first point on: scratch at the cast weights. -/
def PhiF (c : Dev nD) : sProp 𝕄 :=
  iprop((holds c s1M (wb1 (V m c main_arg2)) ∗ holds c s2M (wb2 (V m c main_arg3)) ∗ (∃ b, pt (F := F) c g1M b) ∗ ∃ b, pt (F := F) c g2M b)
        ∗ (∃ r, prngReg c r) ∗ semsZero (F := F) c ∗ (pt c w1M (V m c main_arg2) ∗ pt c w2M (V m c main_arg3)))
theorem PhiF_forget (c : Dev nD) : PhiF m c ⊢ Pipeline.ΦD osem0 spec0 H0 (V m) c := by
  rw [PhiD_eq]; unfold PhiF
  iintro ⟨⟨⟨%a1, -, Hs1⟩, ⟨%a2, -, Hs2⟩, Hg1, Hg2⟩, H⟩
  isplitr [H]
  · isplitl [Hs1]; · iexists a1; iexact Hs1
    isplitl [Hs2]; · iexists a2; iexact Hs2
    isplitl [Hg1]; · iexact Hg1
    iexact Hg2
  iexact H

/-! ## The proof data -/

/-- The block point `t` leaves. -/
def outAt (c : Dev nD) (t : Fin cfg0.N) : Vec F S1024x1024 .f32 :=
  outBlk (iblk m c 0 t) (iblk m c 1 t) (wb1 (V m c main_arg2)) (wb2 (V m c main_arg3))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := if t.val = 0 then Pipeline.ΦD osem0 spec0 H0 (V m) c else PhiF m c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

/-- Before the first point, and from the first point on. -/
theorem Phi_start (c : Dev nD) (t : Fin (cfg0.N + 1)) (h : t.val = 0) : (dats m 0 c).Φ t = Pipeline.ΦD osem0 spec0 H0 (V m) c := by
  dsimp only [dats]; exact if_pos h
theorem Phi_rest (c : Dev nD) (t : Fin (cfg0.N + 1)) (h : t.val ≠ 0) : (dats m 0 c).Φ t = PhiF m c := by
  dsimp only [dats]; exact if_neg h

/-- Each input window's staging buffer holds its block at every point. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- The body fills at the first point only. -/
theorem cond_first : ∀ t : Fin cfg0.N, k0_cond1 (grid0.coords t) = 1#1 ↔ t.val = 0 :=
  (by decide : ∀ t : Fin 64, k0_cond1 (grid0.coords t) = 1#1 ↔ t.val = 0)

/-! ## The body obligation -/

abbrev ms0 (t : Fin cfg0.N) : Memref sig .tc .vmem S1024x1024 .f32 := win0_0.stage (cfg0.slots t 0)
abbrev ms1 (t : Fin cfg0.N) : Memref sig .tc .vmem S1x1024 .f32 := win0_1.stage (cfg0.slots t 1)
abbrev ms2 (t : Fin cfg0.N) : Memref sig .tc .vmem S1x1024 .f32 := win0_2.stage (cfg0.slots t 2)
abbrev ms3 (t : Fin cfg0.N) : Memref sig .tc .vmem S1024x1024 .f32 := win0_3.stage (cfg0.slots t 3)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [after0, after1, after2, after3]
  simp only [before0, before1, before2]
  rw [Phi_rest m c t.succ (by rw [Fin.val_succ]; exact Nat.succ_ne_zero _)]
  unfold Dat.owesAt Pipeline.owesWithin
  rw [show (dats m 0 c).owed t.castSucc = 0 from rfl, show (dats m 0 c).owed t.succ = 0 from rfl]
  unfold outAt
  by_cases h0 : t.val = 0
  · rw [Phi_start m c t.castSucc h0, PhiD_eq]
    unfold PhiF
    iintro ⟨⟨⟨Hs1, Hs2, Hg1, Hg2⟩, Hr, Hq, ⟨Hw1, Hw2⟩⟩, ⟨%W, -, HW⟩, ⟨%d0, H0⟩, ⟨%d1, H1⟩, ⟨%d2, H2⟩, ⟨%d3, H3⟩⟩
    iapply (body_first c (grid0.coords t) (ms0 t) _ (ms1 t) _ (ms2 t) _ (ms3 t) _ (iblk m c 0 t) (iblk m c 1 t) (iblk m c 2 t)
      ((cond_first t).mpr h0) (V m c main_arg2) (V m c main_arg3) W _)
    isplitl [H0]; · iexact H0
    isplitl [H1]; · iexact H1
    isplitl [H2]; · iexact H2
    isplitl [H3]; · iexists _; iexact H3
    isplitl [Hw1]; · iexact Hw1
    isplitl [Hw2]; · iexact Hw2
    isplitl [Hs1]; · iexact Hs1
    isplitl [Hs2]; · iexact Hs2
    isplitl [Hg1 Hg2]
    · isplitl [Hg1]; · iexact Hg1
      iexact Hg2
    isplitl [Hq]; · iexact Hq
    isplitl [HW]; · iexact HW
    iintro ⟨H0, H1, H2, H3, Hw1, Hw2, Hs1, Hs2, ⟨Hg1, Hg2⟩, Hq, ⟨%W', HW'⟩⟩
    isplitl [Hs1 Hs2 Hg1 Hg2 Hr Hq Hw1 Hw2]
    · isplitl [Hs1 Hs2 Hg1 Hg2]
      · isplitl [Hs1]; · iexact Hs1
        isplitl [Hs2]; · iexact Hs2
        isplitl [Hg1]; · iexact Hg1
        iexact Hg2
      isplitl [Hr]; · iexact Hr
      isplitl [Hq]; · iexact Hq
      isplitl [Hw1]; · iexact Hw1
      iexact Hw2
    isplitl [HW']
    · iexists W'; isplitr; · ipureintro; exact fun _ _ => Or.inl trivial
      iexact HW'
    isplitl [H0]; · iexact H0
    isplitl [H1]; · iexact H1
    isplitl [H2]; · iexact H2
    iexact H3
  · rw [Phi_rest m c t.castSucc h0]
    unfold PhiF
    iintro ⟨⟨⟨Hs1, Hs2, Hg⟩, Hr⟩, HW, ⟨%d0, H0⟩, ⟨%d1, H1⟩, ⟨%d2, H2⟩, ⟨%d3, H3⟩⟩
    iapply (body_later c (grid0.coords t) (ms0 t) _ (ms1 t) _ (ms2 t) _ (ms3 t) _ (iblk m c 0 t) (iblk m c 1 t) (iblk m c 2 t)
      (fun h => h0 ((cond_first t).mp h)) (wb1 (V m c main_arg2)) (wb2 (V m c main_arg3)) _)
    isplitl [H0]; · iexact H0
    isplitl [H1]; · iexact H1
    isplitl [H2]; · iexact H2
    isplitl [H3]; · iexists _; iexact H3
    isplitl [Hs1]; · iexact Hs1
    isplitl [Hs2]; · iexact Hs2
    iintro ⟨H0, H1, H2, H3, Hs1, Hs2⟩
    isplitl [Hs1 Hs2 Hg Hr]
    · isplitl [Hs1 Hs2 Hg]
      · isplitl [Hs1]; · iexact Hs1
        isplitl [Hs2]; · iexact Hs2
        iexact Hg
      iexact Hr
    isplitl [HW]; · iexact HW
    isplitl [H0]; · iexact H0
    isplitl [H1]; · iexact H1
    isplitl [H2]; · iexact H2
    iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every run ends with the arrays at what the proof data says, every other buffer unchanged and every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m) (hA := A_eq m)
    (hin := fun c => Entails.of_eq (Phi_start m c 0 rfl).symm)
    (hout := fun c => (Entails.of_eq (Phi_rest m c (Fin.last cfg0.N) (by decide))).trans (PhiF_forget m c))

/-- The frame: every argument array ends as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.Kernel2Ideal.Hand
-- ==== Proof.Layer0.Result.lean ====
/-
  Layer 0's feed-forward. What the result array holds after the run, over the extended reals: row `n` is row `n` of the
  input flattened to a list of rows, with its feed-forward added.
-/
module

public import proofs.«01_k».proof.Proof.Layer0.Block
public import proofs.«01_k».proof.Proof.Layer0.Run

@[expose] public section

set_option maxRecDepth 16384

noncomputable section

namespace Cert.Kernel2Ideal.Hand

open Cert.Kernel2Ideal Cert.Kernel2Ideal.Gen Cert.Rows
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## The arguments by coordinates -/

/-- Row `n` of the input flattened; layer 0's gain and its two weights. -/
def inRow (x : S16x4096x1024.Idx → EReal) (n : Fin 65536) : Fin 1024 → EReal := fun k =>
  x (ix3 ⟨n.val / 4096, by omega⟩ ⟨n.val % 4096, by omega⟩ k)
def inGain (g : S2x1024.Idx → EReal) : Fin 1024 → EReal := fun k => g (ix2 0 k)
def inW1 (w : S2x1024x4096.Idx → EReal) : Fin 1024 → Fin 4096 → EReal := fun d k => w (ix3 0 d k)
def inW2 (w : S2x4096x1024.Idx → EReal) : Fin 4096 → Fin 1024 → EReal := fun k j => w (ix3 0 k j)

/-- The result as a function of the arguments. -/
def resFn (x : S16x4096x1024.Idx → EReal) (g : S2x1024.Idx → EReal) (w1 : S2x1024x4096.Idx → EReal) (w2 : S2x4096x1024.Idx → EReal) : S65536x1024.Idx → EReal := fun i =>
  ffn (inRow x (i 0)) (inGain g) (inW1 w1) (inW2 w2) (i 1)

/-! ## The arrays the region finds -/

theorem V_v0 : V m c main_v0 = shapeCast S65536x1024 (m ((c : Thread nD τ).loc main_arg0)) shapeCasts_S16x4096x1024_S65536x1024 := by
  show StableHlo.after hostOps0 _ _ = _
  after_results
  rfl
theorem V_v3 : V m c main_v3 = shapeCast S1x1024 (shapeCast S1024 (extractStridedSlice S1x1024 ![0, 0] (m ((c : Thread nD τ).loc main_arg1))
    slices_S2x1024_S1x1024_0_0) shapeCasts_S1x1024_S1024) shapeCasts_S1024_S1x1024 := by
  show StableHlo.after hostOps0 _ _ = _
  after_results
  rfl

/-- A cast weight at an index. -/
theorem wb1_apply (w : main_arg2.ty.Contents (Elt Ideal)) (d : Fin 1024) (k : Fin 4096) : wb1 (F := Ideal) w (ix2 d k) = inW1 w d k := by
  unfold wb1
  rw [Memref.read_squeeze_slice w1M _ _ _ (by decide)]
  rw [View.readAt_eq_ld]
  pointwise
  rfl
theorem wb2_apply (w : main_arg3.ty.Contents (Elt Ideal)) (k : Fin 4096) (j : Fin 1024) : wb2 (F := Ideal) w (ix2 k j) = inW2 w k j := by
  unfold wb2
  rw [Memref.read_squeeze_slice w2M _ _ _ (by decide)]
  rw [View.readAt_eq_ld]
  pointwise
  rfl

/-! ## The blocks -/

/-- Where each window's block sits: the point's 1024 rows, the whole gain. -/
theorem idx_facts : ∀ t : Fin cfg0.N, win0_0.index t 0 = t.val ∧ win0_0.index t 1 = 0 ∧ win0_1.index t 0 = 0 ∧ win0_1.index t 1 = 0
    ∧ win0_2.index t 0 = 0 ∧ win0_2.index t 1 = 0 ∧ win0_3.index t 0 = t.val ∧ win0_3.index t 1 = 0 :=
  (by decide +kernel : ∀ t : Fin grid0.N, _)
theorem N_lt (t : Fin cfg0.N) (r : Fin 1024) : 1024 * t.val + r.val < 65536 := by
  have : t.val < 64 := t.isLt
  omega

theorem flat_apply (x : Vec Ideal S16x4096x1024 .f32) (n : Fin 65536) (k : Fin 1024) :
    shapeCast S65536x1024 x shapeCasts_S16x4096x1024_S65536x1024 (ix2 n k) = inRow x n k := by
  pointwise
  rfl
theorem V_v0_apply (n : Fin 65536) (k : Fin 1024) : V m c main_v0 (ix2 n k) = inRow (m ((c : Thread nD τ).loc main_arg0)) n k := by
  rw [V_v0]
  exact flat_apply _ n k
theorem iblk0_apply (t : Fin cfg0.N) (r k : Fin 1024) :
    iblk m c 0 t (ix2 r k) = inRow (m ((c : Thread nD τ).loc main_arg0)) ⟨1024 * t.val + r.val, N_lt t r⟩ k := by
  have e : iblk m c 0 t (ix2 r k) = V m c main_v0 (ix2 ⟨1024 * t.val + r.val, N_lt t r⟩ k) := by
    obtain ⟨h0, h1, -⟩ := idx_facts t
    refine congrArg (V m c main_v0) (Shape.idx_ext₂ ?_ ?_)
    · refine (win0_0.rect_emb_val t (ix2 r k) 0).trans ?_
      rw [h0]; show t.val * 1024 + r.val = 1024 * t.val + r.val; omega
    · refine (win0_0.rect_emb_val t (ix2 r k) 1).trans ?_
      rw [h1]; show 0 * 1024 + k.val = k.val; omega
  exact e.trans (V_v0_apply m c _ k)
theorem iblk1_apply (t : Fin cfg0.N) (k : Fin 1024) : iblk m c 1 t (ix2 0 k) = inGain (m ((c : Thread nD τ).loc main_arg1)) k := by
  have e : iblk m c 1 t (ix2 0 k) = V m c main_v3 (ix2 0 k) := by
    obtain ⟨-, -, h0, h1, -⟩ := idx_facts t
    refine congrArg (V m c main_v3) (Shape.idx_ext₂ ?_ ?_)
    · refine (win0_1.rect_emb_val t (ix2 0 k) 0).trans ?_
      rw [h0]; rfl
    · refine (win0_1.rect_emb_val t (ix2 0 k) 1).trans ?_
      rw [h1]; show 0 * 1024 + k.val = k.val; omega
  rw [e, V_v3]
  pointwise
  rfl

/-! ## The result array -/

/-- The result array of device `c`, as a function of its arguments. -/
abbrev resArr : Buf (Elt Ideal) ((c : Thread nD τ).loc main_v5) :=
  resFn (m ((c : Thread nD τ).loc main_arg0)) (m ((c : Thread nD τ).loc main_arg1)) (m ((c : Thread nD τ).loc main_arg2))
    (m ((c : Thread nD τ).loc main_arg3))

/-- Row `r` of point `t`'s block of the result. -/
def rowFn (t : Fin cfg0.N) (r : Fin 1024) : Fin 1024 → EReal :=
  ffn (inRow (m ((c : Thread nD τ).loc main_arg0)) ⟨1024 * t.val + r.val, N_lt t r⟩) (inGain (m ((c : Thread nD τ).loc main_arg1)))
    (inW1 (m ((c : Thread nD τ).loc main_arg2))) (inW2 (m ((c : Thread nD τ).loc main_arg3)))

/-- What point `t`'s body leaves, row by row. -/
theorem outAt_eq (t : Fin cfg0.N) : outAt m c t = fun y => rowFn m c t (y 0) (y 1) := by
  unfold outAt
  rw [outBlk_eq, V_main_arg2, V_main_arg3]
  have e1 : ∀ r : Fin 1024, rowOf (iblk m c 0 t) r = inRow (m ((c : Thread nD τ).loc main_arg0)) ⟨1024 * t.val + r.val, N_lt t r⟩ :=
    fun r => funext fun k => iblk0_apply m c t r k
  have e2 : gainRow (iblk m c 1 t) = inGain (m ((c : Thread nD τ).loc main_arg1)) := funext fun k => iblk1_apply m c t k
  have e4 : ∀ w, mat1 (wb1 (F := Ideal) w) = inW1 w := fun w => funext fun d => funext fun k => wb1_apply w d k
  have e5 : ∀ w, mat2 (wb2 (F := Ideal) w) = inW2 w := fun w => funext fun k => funext fun j => wb2_apply w k j
  unfold blkFn rowFn
  rw [e2, e4, e5]
  funext y
  exact congrArg (fun x => ffn x _ _ _ (y 1)) (e1 (y 0))

/-- Where point `t`'s block of the result sits. -/
theorem emb3 (t : Fin cfg0.N) (y : S1024x1024.Idx) : (win0_3.rect t).emb y = ix2 (n0 := 65536) (n1 := 1024) ⟨1024 * t.val + (y 0).val, N_lt t (y 0)⟩ (y 1) := by
  obtain ⟨-, -, -, -, -, -, h0, h1⟩ := idx_facts t
  refine Shape.idx_ext₂ ?_ ?_
  · refine (win0_3.rect_emb_val t y 0).trans ?_
    rw [h0]; show t.val * 1024 + (y 0).val = 1024 * t.val + (y 0).val; omega
  · refine (win0_3.rect_emb_val t y 1).trans ?_
    rw [h1]; show 0 * 1024 + (y 1).val = (y 1).val; omega

/-- What point `t` writes back is block `t` of it. -/
theorem flushed_eq (t : Fin cfg0.N) : (dats m 0 c).flushed 3 t = ((cfg0.win 3).blk t).view.read (Elt Ideal) (resArr m c) := by
  show (cfg0.win 3).cut (grid0.coords t) ((dats m 0 c).after 3 t) = _
  rw [after3, outAt_eq]
  funext y
  have hr : (y 0).val < 1024 := (y 0).isLt
  have hk : (y 1).val < 1024 := (y 1).isLt
  show rowFn m c t (y 0) (y 1) = resArr m c ((win0_3.rect t).emb y)
  rw [emb3 t y]
  rfl

/-- The blocks tile the array. -/
theorem cover (i : S65536x1024.Idx) : ∃ t : Fin cfg0.N, (cfg0.win 3).flush t = true ∧ i ∈ ((cfg0.win 3).blk t).view.set := by
  have h0 : (i 0 : ℕ) < 65536 := (i 0).isLt
  have h1 : (i 1 : ℕ) < 1024 := (i 1).isLt
  let t : Fin cfg0.N := (⟨(i 0 : ℕ) / 1024, by omega⟩ : Fin 64)
  refine ⟨t, (by decide +kernel : ∀ t : Fin grid0.N, win0_3.flush t = true) t, ?_⟩
  show i ∈ ((View.whole main_v5).slice (win0_3.rect t)).set
  rw [View.set_slice_whole, Rect.mem_set_unit]
  obtain ⟨-, -, -, -, -, -, e0, e1⟩ := idx_facts t
  intro a
  match a with
  | ⟨0, _⟩ =>
    show win0_3.index t 0 * 1024 ≤ (i 0 : ℕ) ∧ (i 0 : ℕ) < win0_3.index t 0 * 1024 + 1024
    rw [e0]; show (i 0 : ℕ) / 1024 * 1024 ≤ (i 0 : ℕ) ∧ (i 0 : ℕ) < (i 0 : ℕ) / 1024 * 1024 + 1024; omega
  | ⟨1, _⟩ =>
    show win0_3.index t 1 * 1024 ≤ (i 1 : ℕ) ∧ (i 1 : ℕ) < win0_3.index t 1 * 1024 + 1024
    rw [e1]; omega

/-- So the result array ends as `resArr`, -/
theorem final : (dats m 0 c).arrAt 3 cfg0.N = resArr m c :=
  (dats m 0 c).arrAt_eq_of_cover 3 (resArr m c) (fun t _ => flushed_eq m c t) cover

/-- and the run, read: the result array at `resArr`, the arguments unchanged. -/
theorem run : θ_run defs (onTc (τ := τ) (main (F := Ideal))) ⟨m, fun _ => 0, ρ⟩ fun r => ∀ c : Dev nD,
      r.2.mem ((c.tc : Thread nD τ).loc main_v5) = resArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 3).trans (final m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩) (run_main m ρ)

end Cert.Kernel2Ideal.Hand

end
-- ==== Proof.Layer0.Reference.lean ====
/-
  Layer 0's feed-forward. What the reference computes, over the extended reals: the same function of its arguments' rows.
-/
module

public import proofs.«01_k».proof.Proof.Gen.Reference2Ideal.Run
public import proofs.«01_k».proof.Proof.Rows
public import Idealize.ShloMosaic.Lib.Tactic.CleanTypes

@[expose] public section

set_option maxRecDepth 16384

noncomputable section

namespace Cert.Reference2Ideal.Hand

open Cert.Reference2Ideal Cert.Rows
open Idealize.ShloMosaic Idealize.ShloMosaic.TcCoe
open Idealize.SL.Sem

variable (m : (ℓ : Loc nD τ sig) → Buf (Elt Ideal) ℓ) (c : Dev nD)

/-- The reference's result, row by row. -/
def refArr : S65536x1024.Idx → EReal := fun i =>
  ffn (fun k => m ((c.tc : Thread nD τ).loc main_arg0) (ix3 ⟨(i 0).val / 4096, Nat.div_lt_of_lt_mul (i 0).isLt⟩ ⟨(i 0).val % 4096, Nat.mod_lt _ (by decide)⟩ k))
    (fun k => m ((c.tc : Thread nD τ).loc main_arg1) (ix2 0 k))
    (fun d k => m ((c.tc : Thread nD τ).loc main_arg2) (ix3 0 d k)) (fun k j => m ((c.tc : Thread nD τ).loc main_arg3) (ix3 0 k j)) (i 1)

theorem term_eq (z : S65536x1024.Idx → EReal) (h : ∀ (n : Fin 65536) (j : Fin 1024), z (ix2 n j) = refArr m c (ix2 n j)) : z = refArr m c := by
  funext i
  rw [eq_ix2 i]
  exact h _ _

/-- The reference's run, read: the result array row by row, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v24) = refArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (term_eq m c _ fun n j => by
      clean_types
      pointwise
      rfl), (h c).2⟩) (Value.run (F := Ideal) m ρ)

end Cert.Reference2Ideal.Hand

end
-- ==== Proof.Mixer.Fill.lean ====
/-
  Layer 0's spatial-gating mixer. The first section of its body: at the first grid point it fills the two weight scratch buffers from HBM, chunk by
  chunk through a two-slot staging ring; at every later point it leaves them. Here: the ring's slots, the cast weights as
  vectors, and the run of this section at the first point and at a later one.
-/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.MixedBatch
public import Idealize.ShloMosaic.Lib.Pipeline.ReadBack
public import Idealize.ShloMosaic.Lib.Ring
public import Idealize.ShloMosaic.Lib.Tactic
public import Idealize.ShloMosaic.Lib.WordCmp
public import Idealize.ShloMosaic.Lib.Pointwise.Reshape

@[expose] public section

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (Pipeline.UD sig nD τ) ℕ

/-! ## The buffers the section touches -/

/-- The two weight arrays in HBM, the two scratch buffers that keep them cast. -/
abbrev w1M : Memref sig .tc .hbm S1x1024x4096 .f32 := Memref.whole main_arg2
abbrev w2M : Memref sig .tc .hbm S1x2048x1024 .f32 := Memref.whole main_arg7
abbrev s1M : Memref sig .tc .vmem S1024x4096 .bf16 := Memref.whole cc0_scratch2
abbrev s2M : Memref sig .tc .vmem S2048x1024 .bf16 := Memref.whole cc0_scratch3
/-- The normalised rows and the gelu of the second half, kept between the stages of one point. -/
abbrev hM : Memref sig .tc .vmem S1024x1024 .bf16 := Memref.whole cc0_scratch0
abbrev vM : Memref sig .tc .vmem S1024x2048 .f32 := Memref.whole cc0_scratch1
/-- The two staging rings. -/
abbrev g1M : Memref sig .tc .vmem S2x128x4096 .f32 := Memref.whole cc0_scoped0
abbrev g2M : Memref sig .tc .vmem S2x512x1024 .f32 := Memref.whole cc0_scoped2

/-- The contents of a memref's buffer on device `c`. -/
abbrev PB (c : Dev nD) {sp : Space} {S : Shape} {e : EltTy} (M : Memref sig .tc sp S e) : Type := Buf (Elt F) (M.view.loc (c : Thread nD τ))
/-- A memref's buffer held whole, at contents `f`. -/
abbrev pt (c : Dev nD) {sp : Space} {S : Shape} {e : EltTy} (M : Memref sig .tc sp S e) (f : PB (F := F) c M) : sProp 𝕄 :=
  M.view.loc (c : Thread nD τ) ↦{fullShare} f
/-- A memref's own elements held, at contents `f`. -/
abbrev ptOn (c : Dev nD) {sp : Space} {S : Shape} {e : EltTy} (M : Memref sig .tc sp S e) (f : PB (F := F) c M) : sProp 𝕄 :=
  M.view.loc (c : Thread nD τ) ↦[M.view.set]{fullShare} f

/-! ## The staging rings' slots -/

abbrev off1 (s : Fin 2) : Fin 3 → ℕ := ![s.val, 0, 0]
theorem inb1 (s : Fin 2) : ∀ a, off1 s a + S1x128x4096.size a ≤ S2x128x4096.size a := by revert s; decide
theorem inb2 (s : Fin 2) : ∀ a, off1 s a + S1x512x1024.size a ≤ S2x512x1024.size a := by revert s; decide
/-- Slot `s` of the first ring, and of the second. -/
def sl1M (s : Fin 2) : Memref sig .tc .vmem S128x4096 .f32 :=
  (g1M.slice (Rect.unit (s := S2x128x4096) (off1 s) S1x128x4096.size (inb1 s)) (fun _ => rfl)).squeeze S128x4096 squeezes_S1x128x4096_S128x4096
def sl2M (s : Fin 2) : Memref sig .tc .vmem S512x1024 .f32 :=
  (g2M.slice (Rect.unit (s := S2x512x1024) (off1 s) S1x512x1024.size (inb2 s)) (fun _ => rfl)).squeeze S512x1024 squeezes_S1x512x1024_S512x1024

@[sl_canon] theorem sl1_0 (hh hs) : (g1M.slice (Rect.unit (s := S2x128x4096) ![0, 0, 0] S1x128x4096.size hh) hs).squeeze S128x4096 squeezes_S1x128x4096_S128x4096 = sl1M 0 := rfl
@[sl_canon] theorem sl1_1 (hh hs) : (g1M.slice (Rect.unit (s := S2x128x4096) ![1, 0, 0] S1x128x4096.size hh) hs).squeeze S128x4096 squeezes_S1x128x4096_S128x4096 = sl1M 1 := rfl
@[sl_canon] theorem sl2_0 (hh hs) : (g2M.slice (Rect.unit (s := S2x512x1024) ![0, 0, 0] S1x512x1024.size hh) hs).squeeze S512x1024 squeezes_S1x512x1024_S512x1024 = sl2M 0 := rfl
@[sl_canon] theorem sl2_1 (hh hs) : (g2M.slice (Rect.unit (s := S2x512x1024) ![1, 0, 0] S1x512x1024.size hh) hs).squeeze S512x1024 squeezes_S1x512x1024_S512x1024 = sl2M 1 := rfl

theorem sl1_set (s : Fin 2) : (sl1M s).view.set = (Rect.unit (s := S2x128x4096) (off1 s) S1x128x4096.size (inb1 s)).set :=
  (View.set_reshape _ _).trans (View.set_slice_whole _ _)
theorem sl2_set (s : Fin 2) : (sl2M s).view.set = (Rect.unit (s := S2x512x1024) (off1 s) S1x512x1024.size (inb2 s)).set :=
  (View.set_reshape _ _).trans (View.set_slice_whole _ _)
/-- A load of slot `s` through the ring reads elements of the slot. -/
theorem sub1 (s : Fin 2) (hh) : (g1M.access (Rect.unit (s := S2x128x4096) ![s.val, 0, 0] S1x128x4096.size hh)).set ⊆ (sl1M s).view.set :=
  (View.set_reshape _ _).ge
theorem sub2 (s : Fin 2) (hh) : (g2M.access (Rect.unit (s := S2x512x1024) ![s.val, 0, 0] S1x512x1024.size hh)).set ⊆ (sl2M s).view.set :=
  (View.set_reshape _ _).ge

/-- Ring 1's elements are its two slots' elements, each in one slot. -/
abbrev ring1I (s : Fin 2) : Finset (Shape.Idx S2x128x4096) := (Rect.unit (s := S2x128x4096) (off1 s) S1x128x4096.size (inb1 s)).set
theorem ring1_disjoint : ∀ s s' : Fin 2, s ≠ s' → Disjoint (ring1I s) (ring1I s') :=
  Ring.lead_disjoint (s := S2x128x4096) (NB := 2) 0 1 off1 S1x128x4096.size inb1 (by decide) (by decide)
theorem ring1_cover : Finset.univ.biUnion ring1I = Finset.univ :=
  Ring.lead_cover (s := S2x128x4096) (NB := 2) 0 1 off1 S1x128x4096.size inb1 (by decide) (by decide) (by decide) (by decide) (by decide)
/-- The ring held whole is its two slots held, and back. -/
theorem ring1_split (c : Dev nD) : iprop(∃ f, pt (F := F) c g1M f) ⊢ iprop((∃ f, ptOn (F := F) c (sl1M 0) f) ∗ ∃ f, ptOn (F := F) c (sl1M 1) f) :=
  Ring.slots2_split (ℓ := g1M.view.loc (c : Thread nD τ)) ring1I ring1_disjoint ring1_cover _ _
    (fun f => congrArg (fun S => (_ ↦[S]{fullShare} f : sProp 𝕄)) (sl1_set 0)) (fun f => congrArg (fun S => (_ ↦[S]{fullShare} f : sProp 𝕄)) (sl1_set 1))
theorem ring1_join (c : Dev nD) : iprop((∃ f, ptOn (F := F) c (sl1M 0) f) ∗ ∃ f, ptOn (F := F) c (sl1M 1) f) ⊢ iprop(∃ f, pt (F := F) c g1M f) :=
  Ring.slots2_join (ℓ := g1M.view.loc (c : Thread nD τ)) ring1I ring1_disjoint ring1_cover _ _
    (fun f => congrArg (fun S => (_ ↦[S]{fullShare} f : sProp 𝕄)) (sl1_set 0)) (fun f => congrArg (fun S => (_ ↦[S]{fullShare} f : sProp 𝕄)) (sl1_set 1))
/-- Ring 2's elements are its two slots' elements, each in one slot. -/
abbrev ring2I (s : Fin 2) : Finset (Shape.Idx S2x512x1024) := (Rect.unit (s := S2x512x1024) (off1 s) S1x512x1024.size (inb2 s)).set
theorem ring2_disjoint : ∀ s s' : Fin 2, s ≠ s' → Disjoint (ring2I s) (ring2I s') :=
  Ring.lead_disjoint (s := S2x512x1024) (NB := 2) 0 1 off1 S1x512x1024.size inb2 (by decide) (by decide)
theorem ring2_cover : Finset.univ.biUnion ring2I = Finset.univ :=
  Ring.lead_cover (s := S2x512x1024) (NB := 2) 0 1 off1 S1x512x1024.size inb2 (by decide) (by decide) (by decide) (by decide) (by decide)
/-- The ring held whole is its two slots held, and back. -/
theorem ring2_split (c : Dev nD) : iprop(∃ f, pt (F := F) c g2M f) ⊢ iprop((∃ f, ptOn (F := F) c (sl2M 0) f) ∗ ∃ f, ptOn (F := F) c (sl2M 1) f) :=
  Ring.slots2_split (ℓ := g2M.view.loc (c : Thread nD τ)) ring2I ring2_disjoint ring2_cover _ _
    (fun f => congrArg (fun S => (_ ↦[S]{fullShare} f : sProp 𝕄)) (sl2_set 0)) (fun f => congrArg (fun S => (_ ↦[S]{fullShare} f : sProp 𝕄)) (sl2_set 1))
theorem ring2_join (c : Dev nD) : iprop((∃ f, ptOn (F := F) c (sl2M 0) f) ∗ ∃ f, ptOn (F := F) c (sl2M 1) f) ⊢ iprop(∃ f, pt (F := F) c g2M f) :=
  Ring.slots2_join (ℓ := g2M.view.loc (c : Thread nD τ)) ring2I ring2_disjoint ring2_cover _ _
    (fun f => congrArg (fun S => (_ ↦[S]{fullShare} f : sProp 𝕄)) (sl2_set 0)) (fun f => congrArg (fun S => (_ ↦[S]{fullShare} f : sProp 𝕄)) (sl2_set 1))

/-! ## The cast weights -/

/-- Layer 0's matrix of each weight array, as the copies slice it. -/
abbrev src1 : Memref sig .tc .hbm S1024x4096 .f32 :=
  (w1M.slice (Rect.unit (s := S1x1024x4096) ![0, 0, 0] S1x1024x4096.size inb_S1x1024x4096_S1x1024x4096_0_0_0) (fun _ => rfl)).squeeze S1024x4096 squeezes_S1x1024x4096_S1024x4096
abbrev src2 : Memref sig .tc .hbm S2048x1024 .f32 :=
  (w2M.slice (Rect.unit (s := S1x2048x1024) ![0, 0, 0] S1x2048x1024.size inb_S1x2048x1024_S1x2048x1024_0_0_0) (fun _ => rfl)).squeeze S2048x1024 squeezes_S1x2048x1024_S2048x1024
/-- Layer 0's two weight matrices cast to bf16: what the scratch buffers keep from the first point on. -/
def wb1 (w : main_arg2.ty.Contents (Elt F)) : Vec F S1024x4096 .bf16 := truncf .bf16 (src1.view.read (Elt F) w) bitsLt_bf16_f32
def wb2 (w : main_arg7.ty.Contents (Elt F)) : Vec F S2048x1024 .bf16 := truncf .bf16 (src2.view.read (Elt F) w) bitsLt_bf16_f32

/-- Contents whose last write is `d` through the whole view read as `d`. -/
theorem read_whole_head {sig : RefSig} {κ : Kind} {sp : Space} {s : Shape} {e : EltTy} {Val : EltTy → Type} (v : View sig κ sp s e)
    (f : v.ty.Contents Val) (d : (Rect.whole s).shape.Idx → Val e) (L : List (View.Piece Val s e)) (y : s.Idx) :
    v.read Val (v.writes Val f (⟨Rect.whole s, d⟩ :: L)) y = d y := by
  have h := View.read_writes_cons_emb v f (Rect.whole s) d L y
  rwa [Rect.emb_whole_apply] at h

/-- A slot loaded through its ring and cast is what the slot reads as, cast. -/
theorem pay2_cast (s : Fin 2) (hh) (f : g1M.view.ty.Contents (Elt F)) :
    k0_pay2 (F := F) (View.readAt (Elt F) g1M.view (Rect.unit (s := S2x128x4096) ![s.val, 0, 0] S1x128x4096.size hh).toLoadRect f)
      = truncf .bf16 ((sl1M s).view.read (Elt F) f) bitsLt_bf16_f32 :=
  (shapeCast_id (truncf .bf16 (shapeCast S128x4096 (View.readAt (Elt F) g1M.view (Rect.unit (s := S2x128x4096) ![s.val, 0, 0] S1x128x4096.size hh).toLoadRect f)
    shapeCasts_S1x128x4096_S128x4096) bitsLt_bf16_f32) shapeCasts_S128x4096_S128x4096).trans rfl
/-- A slot that holds `d`, loaded through the ring and cast, is `d` cast. -/
theorem pay2_slot (s : Fin 2) (hh) (f : (sl1M s).view.ty.Contents (Elt F)) (d : S128x4096.Idx → Elt F .f32) (L) :
    k0_pay2 (F := F) (View.readAt (Elt F) g1M.view (Rect.unit (s := S2x128x4096) ![s.val, 0, 0] S1x128x4096.size hh).toLoadRect
      ((sl1M s).view.writes (Elt F) f (⟨Rect.whole S128x4096, d⟩ :: L))) = truncf .bf16 d bitsLt_bf16_f32 :=
  (pay2_cast s hh _).trans (congrArg (fun v => truncf .bf16 v bitsLt_bf16_f32) (funext (read_whole_head (sl1M s).view f d L)))
theorem pay3_cast (s : Fin 2) (hh) (f : g2M.view.ty.Contents (Elt F)) :
    k0_pay3 (F := F) (View.readAt (Elt F) g2M.view (Rect.unit (s := S2x512x1024) ![s.val, 0, 0] S1x512x1024.size hh).toLoadRect f)
      = truncf .bf16 ((sl2M s).view.read (Elt F) f) bitsLt_bf16_f32 :=
  (shapeCast_id (truncf .bf16 (shapeCast S512x1024 (View.readAt (Elt F) g2M.view (Rect.unit (s := S2x512x1024) ![s.val, 0, 0] S1x512x1024.size hh).toLoadRect f)
    shapeCasts_S1x512x1024_S512x1024) bitsLt_bf16_f32) shapeCasts_S512x1024_S512x1024).trans rfl
/-- A slot that holds `d`, loaded through the ring and cast, is `d` cast. -/
theorem pay3_slot (s : Fin 2) (hh) (f : (sl2M s).view.ty.Contents (Elt F)) (d : S512x1024.Idx → Elt F .f32) (L) :
    k0_pay3 (F := F) (View.readAt (Elt F) g2M.view (Rect.unit (s := S2x512x1024) ![s.val, 0, 0] S1x512x1024.size hh).toLoadRect
      ((sl2M s).view.writes (Elt F) f (⟨Rect.whole S512x1024, d⟩ :: L))) = truncf .bf16 d bitsLt_bf16_f32 :=
  (pay3_cast s hh _).trans (congrArg (fun v => truncf .bf16 v bitsLt_bf16_f32) (funext (read_whole_head (sl2M s).view f d L)))

/-! ## The section's run -/

/-- A buffer held whole, reading as `v`. -/
abbrev holds (c : Dev nD) {sp : Space} {S : Shape} {e : EltTy} (M : Memref sig .tc sp S e) (v : S.Idx → Elt F e) : sProp 𝕄 :=
  iprop(∃ f, ⌜M.view.read (Elt F) f = v⌝ ∗ pt (F := F) c M f)
/-- The kernel's own semaphores at zero. -/
abbrev semsZero (c : Dev nD) : sProp 𝕄 := iprop(semVal ((c : Thread nD τ), SemLoc.dma 9) 0 ∗ semVal ((c : Thread nD τ), SemLoc.dma 10) 0
  ∗ semVal ((c : Thread nD τ), SemLoc.dma 11) 0 ∗ semVal ((c : Thread nD τ), SemLoc.dma 12) 0)
/-- The staging rings held at any contents. -/
abbrev ringsAny (c : Dev nD) : sProp 𝕄 := iprop((∃ b, pt (F := F) c g1M b) ∗ ∃ b, pt (F := F) c g2M b)

section Part1

variable (c : Dev nD) (i : grid0.Coords)
  (arg1 : Memref sig .tc .vmem S1024x1024 .f32) (harg1 : arg1.IsWhole) (arg2 : Memref sig .tc .vmem S1x1024 .f32) (harg2 : arg2.IsWhole)
  (arg4 : Memref sig .tc .vmem S1x4096 .f32) (harg4 : arg4.IsWhole) (arg5 : Memref sig .tc .vmem S1x2048 .f32) (harg5 : arg5.IsWhole)
  (arg6 : Memref sig .tc .vmem S8x128x128 .f32) (harg6 : arg6.IsWhole) (arg7 : Memref sig .tc .vmem S128x8 .f32) (harg7 : arg7.IsWhole)
  (arg9 : Memref sig .tc .vmem S1024x1024 .f32) (harg9 : arg9.IsWhole)
  (f1 : PB (F := F) c arg1) (f2 : PB (F := F) c arg2) (f4 : PB (F := F) c arg4) (w1 : PB (F := F) c w1M) (w2 : PB (F := F) c w2M)

/-- The section at the launch's buffers. -/
abbrev part1At := k0_part1_skel (F := F) i arg1 harg1 arg2 harg2 w1M (Memref.isWhole_whole _) arg4 harg4 arg5 harg5 arg6 harg6 arg7 harg7
  w2M (Memref.isWhole_whole _) arg9 harg9 hM (Memref.isWhole_whole _) vM (Memref.isWhole_whole _)
  s1M (Memref.isWhole_whole _) s2M (Memref.isWhole_whole _) g1M (Memref.isWhole_whole _) cc0_scoped1 g2M (Memref.isWhole_whole _) cc0_scoped3

/-- The first rows normalised, as the section stores them. -/
abbrev h0 : FVec F S256x1024 .bf16 :=
  k0_pay6 (View.readAt (Elt F) arg1.view (Rect.unit (s := S1024x1024) ![0, 0] S256x1024.size inb_S1024x1024_S256x1024_0_0).toLoadRect f1)
    (View.readAt (Elt F) arg2.view (Rect.unit (s := S1x1024) ![0, 0] S1x1024.size inb_S1x1024_S1x1024_0_0).toLoadRect f2)
/-- What the section passes on, from the cast weights as the scratch buffer keeps them. -/
abbrev p1res (v1 : Vec F S1024x4096 .bf16) : (_ : IVec S128x128 1) ×' (_ : FVec F S256x1 .f32) ×' (_ : FVec F S256x256 .f32) ×' FVec F S256x256 .f32 :=
  let w := View.ld v1 (Rect.unit (s := S1024x4096) ![0, 2048] S1024x256.size inb_S1024x4096_S1024x256_0_2048)
  let b := View.readAt (Elt F) arg4.view (Rect.unit (s := S1x4096) ![0, 2048] S1x256.size inb_S1x4096_S1x256_0_2048).toLoadRect f4
  ⟨k0_pay4, ⟨k0_pay5, ⟨k0_pay7 (h0 c arg1 arg2 f1 f2) w b, k0_pay8 (h0 c arg1 arg2 f1 f2) w b⟩⟩⟩

/-- Writes that cover a buffer and agree with `v` leave it reading as `v`. -/
theorem holds_of_writes {sp : Space} {S : Shape} {e : EltTy} (M : Memref sig .tc sp S e) (v : S.Idx → Elt F e) (f : PB (F := F) c M)
    (L : List (View.Piece (Elt F) S e)) (hL : ∀ p ∈ L, ∀ x : p.1.shape.Idx, p.2 x = v (p.1.emb x)) (hc : ∀ y, ∃ p ∈ L, y ∈ p.1.set) :
    pt (F := F) c M (M.view.writes (Elt F) f L) ⊢ holds c M v := by
  iintro H
  iexists _
  isplitr
  swap
  · iexact H
  · ipureintro
    funext y
    exact View.read_writes_apply_of_pieces _ _ v _ hL y (hc y)

/-- A predicate at equal arguments. -/
theorem entails_of_eq_arg {A : Type*} (K : A → sProp 𝕄) {a b : A} (h : a = b) : K a ⊢ K b := by
  subst h; iintro H; iexact H

/-- At a point that fills: from scratch buffers at anything, the section ends with them at the cast weights. -/
theorem part1_first (hc : k0_cond1 i = 1#1) (W : Waits sig Unit) (K : _ → sProp 𝕄) :
    iprop(ptOn c arg1 f1 ∗ ptOn c arg2 f2 ∗ ptOn c arg4 f4 ∗ pt c w1M w1 ∗ pt c w2M w2 ∗ (∃ a, pt (F := F) c hM a) ∗ (∃ a, pt (F := F) c s1M a)
      ∗ (∃ a, pt (F := F) c s2M a) ∗ ringsAny (F := F) c ∗ semsZero (F := F) c ∗ owes (c : Thread nD τ) 0 W
      ∗ ((ptOn c arg1 f1 ∗ ptOn c arg2 f2 ∗ ptOn c arg4 f4 ∗ pt c w1M w1 ∗ pt c w2M w2
          ∗ (∃ a, pt (F := F) c hM (hM.view.writes (Elt F) a [⟨Rect.unit (s := S1024x1024) ![0, 0] S256x1024.size inb_S1024x1024_S256x1024_0_0, h0 c arg1 arg2 f1 f2⟩]))
          ∗ holds c s1M (wb1 w1) ∗ holds c s2M (wb2 w2) ∗ ringsAny (F := F) c ∗ semsZero (F := F) c ∗ ∃ W', owes (c : Thread nD τ) 0 W')
          -∗ K (p1res c arg1 arg2 arg4 f1 f2 f4 (wb1 w1))))
    ⊢ wp frame (wpE (defs₀ (F := F)) Variants.none c none) Set.univ
        (part1At i arg1 harg1 arg2 harg2 arg4 harg4 arg5 harg5 arg6 harg6 arg7 harg7 arg9 harg9) K := by
  unfold part1At k0_part1_skel
  iintro ⟨H1, H2, H4, Hw1, Hw2, ⟨%ah, Hh⟩, ⟨%a1, Hs1⟩, ⟨%a2, Hs2⟩, ⟨Hg1, Hg2⟩, ⟨Hq6, Hq7, Hq8, Hq9⟩, HW, HK⟩
  ihave Hg1' := (ring1_split c) $$ Hg1
  ihave Hg2' := (ring2_split c) $$ Hg2
  icases Hg1' with ⟨⟨%b10, Hg10⟩, ⟨%b11, Hg11⟩⟩
  icases Hg2' with ⟨⟨%b20, Hg20⟩, ⟨%b21, Hg21⟩⟩
  have h10 := sub1 0
  have h11 := sub1 1
  have h20 := sub2 0
  have h21 := sub2 1
  sl_exec
  sl_unroll
  sl_exec
  ihave Hs1 := (holds_of_writes c s1M (wb1 w1) _ _ ?hL ?hC) $$ Hs1
  case hC => exact fun y => View.cover_of_tiledL (s := S1024x4096) _ S128x4096.size (by sl_kernel_rfl) y
  case hL =>
    unfold part1_first.sl.Hs1_8
    refine List.forall_mem_cons.mpr ⟨fun x => (congrFun (pay2_slot 1 _ _ _ _) x).trans rfl, ?_⟩
    refine List.forall_mem_cons.mpr ⟨fun x => (congrFun (pay2_slot 0 _ _ _ _) x).trans rfl, ?_⟩
    refine List.forall_mem_cons.mpr ⟨fun x => (congrFun (pay2_slot 1 _ _ _ _) x).trans rfl, ?_⟩
    refine List.forall_mem_cons.mpr ⟨fun x => (congrFun (pay2_slot 0 _ _ _ _) x).trans rfl, ?_⟩
    refine List.forall_mem_cons.mpr ⟨fun x => (congrFun (pay2_slot 1 _ _ _ _) x).trans rfl, ?_⟩
    refine List.forall_mem_cons.mpr ⟨fun x => (congrFun (pay2_slot 0 _ _ _ _) x).trans rfl, ?_⟩
    refine List.forall_mem_cons.mpr ⟨fun x => (congrFun (pay2_slot 1 _ _ _ _) x).trans rfl, ?_⟩
    refine List.forall_mem_cons.mpr ⟨fun x => (congrFun (pay2_slot 0 _ _ _ _) x).trans rfl, ?_⟩
    exact fun p hp => absurd hp List.not_mem_nil
  icases Hs1 with ⟨%a1', %ha1, Hs1⟩
  sl_unroll
  sl_exec
  sl_step
  unfold part1_first.sl.v27 part1_first.sl.Hh_1
  simp (disch := decide) only [↓ View.readCov_skip, ↓ View.readCov_cons_toLoadRect]
  rw [← ha1]
  iapply (entails_of_eq_arg K (a := p1res c arg1 arg2 arg4 f1 f2 f4 (View.read (Elt F) s1M.view a1')) ?e)
  case e => rfl
  iapply HK
  isplitl [H1]; · iexact H1
  isplitl [H2]; · iexact H2
  isplitl [H4]; · iexact H4
  isplitl [Hw1]; · iexact Hw1
  isplitl [Hw2]; · iexact Hw2
  isplitl [Hh]; · iexists _; iexact Hh
  isplitl [Hs1]
  · iexists _
    isplitr
    swap
    · iexact Hs1
    · ipureintro; rfl
  isplitl [Hs2]
  · ihave Hs2 := (holds_of_writes c s2M (wb2 w2) _ _ ?hL2 ?hC2) $$ Hs2
    case hC2 => exact fun y => View.cover_of_tiledL (s := S2048x1024) _ S512x1024.size (by sl_kernel_rfl) y
    case hL2 =>
      refine List.forall_mem_cons.mpr ⟨fun x => (congrFun (pay3_slot 1 _ _ _ _) x).trans rfl, ?_⟩
      refine List.forall_mem_cons.mpr ⟨fun x => (congrFun (pay3_slot 0 _ _ _ _) x).trans rfl, ?_⟩
      refine List.forall_mem_cons.mpr ⟨fun x => (congrFun (pay3_slot 1 _ _ _ _) x).trans rfl, ?_⟩
      refine List.forall_mem_cons.mpr ⟨fun x => (congrFun (pay3_slot 0 _ _ _ _) x).trans rfl, ?_⟩
      exact fun p hp => absurd hp List.not_mem_nil
    iexact Hs2
  isplitl [Hg10 Hg11 Hg20 Hg21]
  · isplitl [Hg10 Hg11]
    · iapply (ring1_join c)
      isplitl [Hg10]
      · iexists _; iexact Hg10
      · iexists _; iexact Hg11
    · iapply (ring2_join c)
      isplitl [Hg20]
      · iexists _; iexact Hg20
      · iexists _; iexact Hg21
  isplitl [Hq6 Hq7 Hq8 Hq9]
  · isplitl [Hq6]; · iexact Hq6
    isplitl [Hq7]; · iexact Hq7
    isplitl [Hq8]; · iexact Hq8
    iexact Hq9
  iexists _; iexact HW

/-- At a point that does not fill: the section leaves every buffer but the normalised rows as it is. -/
theorem part1_later (hc : ¬ k0_cond1 i = 1#1) (v1 : Vec F S1024x4096 .bf16) (K : _ → sProp 𝕄) :
    iprop(ptOn c arg1 f1 ∗ ptOn c arg2 f2 ∗ ptOn c arg4 f4 ∗ (∃ a, pt (F := F) c hM a) ∗ holds c s1M v1
      ∗ ((ptOn c arg1 f1 ∗ ptOn c arg2 f2 ∗ ptOn c arg4 f4
          ∗ (∃ a, pt (F := F) c hM (hM.view.writes (Elt F) a [⟨Rect.unit (s := S1024x1024) ![0, 0] S256x1024.size inb_S1024x1024_S256x1024_0_0, h0 c arg1 arg2 f1 f2⟩]))
          ∗ holds c s1M v1)
          -∗ K (p1res c arg1 arg2 arg4 f1 f2 f4 v1)))
    ⊢ wp frame (wpE (defs₀ (F := F)) Variants.none c none) Set.univ
        (part1At i arg1 harg1 arg2 harg2 arg4 harg4 arg5 harg5 arg6 harg6 arg7 harg7 arg9 harg9) K := by
  unfold part1At k0_part1_skel
  iintro ⟨H1, H2, H4, ⟨%ah, Hh⟩, ⟨%a1, %ha1, Hs1⟩, HK⟩
  sl_exec
  sl_step
  unfold part1_later.sl.v27 part1_later.sl.Hh_1
  simp (disch := decide) only [↓ View.readCov_skip, ↓ View.readCov_cons_toLoadRect]
  rw [← ha1]
  iapply (entails_of_eq_arg K (a := p1res c arg1 arg2 arg4 f1 f2 f4 (View.read (Elt F) s1M.view a1)) ?e)
  case e => rfl
  iapply HK
  isplitl [H1]; · iexact H1
  isplitl [H2]; · iexact H2
  isplitl [H4]; · iexact H4
  isplitl [Hh]; · iexists _; iexact Hh
  iexists _
  isplitr
  swap
  · iexact Hs1
  · ipureintro; rfl

end Part1

end Cert.Kernel3Ideal.Hand
-- ==== Proof.Mixer.Chain.lean ====
/-
  The spatial-gating mixer. What one grid point computes from its operands, one definition per value that its sections store or pass on:
  `h_s` the normalised rows 256 s …, `v_s_j` the gelu of group j of the second half of their projection, `o_s` the output rows; the
  numbered ones are what one section of the body passes to the next.
-/
module

public import proofs.«01_k».proof.Proof.Mixer.Fill

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- What one grid point reads: a block of rows, the gain, the biases, the gain of the second half, the mixing weights and their
    biases, and the two cast weight matrices. -/
structure Ins (F : FTy → Type) where
  x : Vec F S1024x1024 .f32
  g : Vec F S1x1024 .f32
  b : Vec F S1x4096 .f32
  gv : Vec F S1x2048 .f32
  ws : Vec F S8x128x128 .f32
  bst : Vec F S128x8 .f32
  w1 : Vec F S1024x4096 .bf16
  w2 : Vec F S2048x1024 .bf16

def h_0 (I : Ins F) : FVec F S256x1024 .bf16 := k0_pay6 (View.ld I.x (Rect.unit (s := S1024x1024) ![0, 0] S256x1024.size inb_S1024x1024_S256x1024_0_0)) (View.ld I.g (Rect.unit (s := S1x1024) ![0, 0] S1x1024.size inb_S1x1024_S1x1024_0_0))
def v5 (I : Ins F) : IVec S128x128 1 := k0_pay4
def v6 (I : Ins F) : FVec F S256x1 .f32 := k0_pay5
def v33 (I : Ins F) : FVec F S256x256 .f32 := k0_pay7 (h_0 I) (View.ld I.w1 (Rect.unit (s := S1024x4096) ![0, 2048] S1024x256.size inb_S1024x4096_S1024x256_0_2048)) (View.ld I.b (Rect.unit (s := S1x4096) ![0, 2048] S1x256.size inb_S1x4096_S1x256_0_2048))
def v36 (I : Ins F) : FVec F S256x256 .f32 := k0_pay8 (h_0 I) (View.ld I.w1 (Rect.unit (s := S1024x4096) ![0, 2048] S1024x256.size inb_S1024x4096_S1024x256_0_2048)) (View.ld I.b (Rect.unit (s := S1x4096) ![0, 2048] S1x256.size inb_S1x4096_S1x256_0_2048))
def v_0_0 (I : Ins F) : FVec F S256x256 .f32 := k0_pay10 (v33 I) (v36 I)
def v_0_1 (I : Ins F) : FVec F S256x256 .f32 := k0_pay12 (h_0 I) (View.ld I.w1 (Rect.unit (s := S1024x4096) ![0, 2304] S1024x256.size inb_S1024x4096_S1024x256_0_2304)) (View.ld I.b (Rect.unit (s := S1x4096) ![0, 2304] S1x256.size inb_S1x4096_S1x256_0_2304))
def v74 (I : Ins F) : FVec F S256x1 .f32 := k0_pay13 (v6 I) (v33 I) (v36 I) (h_0 I) (View.ld I.w1 (Rect.unit (s := S1024x4096) ![0, 2304] S1024x256.size inb_S1024x4096_S1024x256_0_2304)) (View.ld I.b (Rect.unit (s := S1x4096) ![0, 2304] S1x256.size inb_S1x4096_S1x256_0_2304))
def v_0_2 (I : Ins F) : FVec F S256x256 .f32 := k0_pay15 (h_0 I) (View.ld I.w1 (Rect.unit (s := S1024x4096) ![0, 2560] S1024x256.size inb_S1024x4096_S1024x256_0_2560)) (View.ld I.b (Rect.unit (s := S1x4096) ![0, 2560] S1x256.size inb_S1x4096_S1x256_0_2560))
def v98 (I : Ins F) : FVec F S256x1 .f32 := k0_pay16 (v74 I) (h_0 I) (View.ld I.w1 (Rect.unit (s := S1024x4096) ![0, 2560] S1024x256.size inb_S1024x4096_S1024x256_0_2560)) (View.ld I.b (Rect.unit (s := S1x4096) ![0, 2560] S1x256.size inb_S1x4096_S1x256_0_2560))
def v105 (I : Ins F) : FVec F S256x256 .f32 := k0_pay17 (h_0 I) (View.ld I.w1 (Rect.unit (s := S1024x4096) ![0, 2816] S1024x256.size inb_S1024x4096_S1024x256_0_2816)) (View.ld I.b (Rect.unit (s := S1x4096) ![0, 2816] S1x256.size inb_S1x4096_S1x256_0_2816))
def v112 (I : Ins F) : FVec F S256x256 .f32 := k0_pay18 (h_0 I) (View.ld I.w1 (Rect.unit (s := S1024x4096) ![0, 2816] S1024x256.size inb_S1024x4096_S1024x256_0_2816)) (View.ld I.b (Rect.unit (s := S1x4096) ![0, 2816] S1x256.size inb_S1x4096_S1x256_0_2816))
def cst_51 (I : Ins F) : F .f32 := (Scalar.ofBits .f32 0x3F800000#32 : F .f32)
def v_0_3 (I : Ins F) : FVec F S256x256 .f32 := k0_pay20 (v105 I) (v112 I) (cst_51 I)
def v_0_4 (I : Ins F) : FVec F S256x256 .f32 := k0_pay22 (h_0 I) (View.ld I.w1 (Rect.unit (s := S1024x4096) ![0, 3072] S1024x256.size inb_S1024x4096_S1024x256_0_3072)) (View.ld I.b (Rect.unit (s := S1x4096) ![0, 3072] S1x256.size inb_S1x4096_S1x256_0_3072))
def v146 (I : Ins F) : FVec F S256x1 .f32 := k0_pay23 (v98 I) (v105 I) (v112 I) (cst_51 I) (h_0 I) (View.ld I.w1 (Rect.unit (s := S1024x4096) ![0, 3072] S1024x256.size inb_S1024x4096_S1024x256_0_3072)) (View.ld I.b (Rect.unit (s := S1x4096) ![0, 3072] S1x256.size inb_S1x4096_S1x256_0_3072))
def v149 (I : Ins F) : FVec F S256x256 .f32 := k0_pay24 (h_0 I) (View.ld I.w1 (Rect.unit (s := S1024x4096) ![0, 3328] S1024x256.size inb_S1024x4096_S1024x256_0_3328))
def v_0_5 (I : Ins F) : FVec F S256x256 .f32 := k0_pay26 (v149 I) (View.ld I.b (Rect.unit (s := S1x4096) ![0, 3328] S1x256.size inb_S1x4096_S1x256_0_3328))
def v170 (I : Ins F) : FVec F S256x1 .f32 := k0_pay27 (v146 I) (v149 I) (View.ld I.b (Rect.unit (s := S1x4096) ![0, 3328] S1x256.size inb_S1x4096_S1x256_0_3328))
def v187 (I : Ins F) : FVec F S256x256 .f32 := k0_pay28 (h_0 I) (View.ld I.w1 (Rect.unit (s := S1024x4096) ![0, 3584] S1024x256.size inb_S1024x4096_S1024x256_0_3584)) (View.ld I.b (Rect.unit (s := S1x4096) ![0, 3584] S1x256.size inb_S1x4096_S1x256_0_3584))
def v_0_6 (I : Ins F) : FVec F S256x256 .f32 := k0_pay29 (v187 I)
def v_0_7 (I : Ins F) : FVec F S256x256 .f32 := k0_pay31 (h_0 I) (View.ld I.w1 (Rect.unit (s := S1024x4096) ![0, 3840] S1024x256.size inb_S1024x4096_S1024x256_0_3840)) (View.ld I.b (Rect.unit (s := S1x4096) ![0, 3840] S1x256.size inb_S1x4096_S1x256_0_3840))
def v223 (I : Ins F) : FVec F S256x1 .f32 := k0_pay32 (v170 I) (v187 I) (h_0 I) (View.ld I.w1 (Rect.unit (s := S1024x4096) ![0, 3840] S1024x256.size inb_S1024x4096_S1024x256_0_3840)) (View.ld I.b (Rect.unit (s := S1x4096) ![0, 3840] S1x256.size inb_S1x4096_S1x256_0_3840))
def v225 (I : Ins F) : FVec F S256x1024 .f32 := k0_pay33 (View.ld I.x (Rect.unit (s := S1024x1024) ![256, 0] S256x1024.size inb_S1024x1024_S256x1024_256_0))
def v226 (I : Ins F) : Vec F S1x1024 .f32 := View.ld I.g (Rect.unit (s := S1x1024) ![0, 0] S1x1024.size inb_S1x1024_S1x1024_0_0)
def h_1 (I : Ins F) : FVec F S256x1024 .bf16 := k0_pay34 (v225 I) (v226 I)
def v250 (I : Ins F) : FVec F S256x256 .f32 := k0_pay35 (h_0 I) (View.ld I.w1 (Rect.unit (s := S1024x4096) ![0, 0] S1024x256.size inb_S1024x4096_S1024x256_0_0)) (View.ld I.b (Rect.unit (s := S1x4096) ![0, 0] S1x256.size inb_S1x4096_S1x256_0_0))
def v258 (I : Ins F) : FVec F S256x256 .bf16 := k0_pay36 (v223 I) (v_0_0 I) (View.ld I.gv (Rect.unit (s := S1x2048) ![0, 0] S1x256.size inb_S1x2048_S1x256_0_0))
def v263 (I : Ins F) : FVec F S128x128 .bf16 := k0_pay37 (v5 I) (View.ld I.ws (Rect.unit (s := S8x128x128) ![0, 0, 0] S1x128x128.size inb_S8x128x128_S1x128x128_0_0_0))
def v274 (I : Ins F) : FVec F S256x256 .f32 := k0_pay38 (v258 I) (v263 I) (View.ld I.bst (Rect.unit (s := S128x8) ![0, 0] S128x1.size inb_S128x8_S128x1_0_0))
def v281 (I : Ins F) : FVec F S256x256 .f32 := k0_pay39 (h_0 I) (View.ld I.w1 (Rect.unit (s := S1024x4096) ![0, 256] S1024x256.size inb_S1024x4096_S1024x256_0_256)) (View.ld I.b (Rect.unit (s := S1x4096) ![0, 256] S1x256.size inb_S1x4096_S1x256_0_256))
def v296 (I : Ins F) : FVec F S128x1 .f32 := k0_pay42 (View.ld I.bst (Rect.unit (s := S128x8) ![0, 1] S128x1.size inb_S128x8_S128x1_0_1))
def v300 (I : Ins F) : FVec F S128x256 .f32 := k0_pay43 (v5 I) (v223 I) (v_0_1 I) (View.ld I.gv (Rect.unit (s := S1x2048) ![0, 256] S1x256.size inb_S1x2048_S1x256_0_256)) (View.ld I.ws (Rect.unit (s := S8x128x128) ![1, 0, 0] S1x128x128.size inb_S8x128x128_S1x128x128_1_0_0)) (View.ld I.bst (Rect.unit (s := S128x8) ![0, 1] S128x1.size inb_S128x8_S128x1_0_1))
def v302 (I : Ins F) : FVec F S128x256 .f32 := k0_pay44 (v5 I) (v223 I) (v_0_1 I) (View.ld I.gv (Rect.unit (s := S1x2048) ![0, 256] S1x256.size inb_S1x2048_S1x256_0_256)) (View.ld I.ws (Rect.unit (s := S8x128x128) ![1, 0, 0] S1x128x128.size inb_S8x128x128_S1x128x128_1_0_0))
def v_1_0 (I : Ins F) : FVec F S256x256 .f32 := k0_pay47 (h_1 I) (View.ld I.w1 (Rect.unit (s := S1024x4096) ![0, 2048] S1024x256.size inb_S1024x4096_S1024x256_0_2048)) (View.ld I.b (Rect.unit (s := S1x4096) ![0, 2048] S1x256.size inb_S1x4096_S1x256_0_2048))
def v305 (I : Ins F) : FVec F S256x256 .f32 := k0_pay45 (v296 I) (v300 I) (v302 I)
def v329 (I : Ins F) : FVec F S256x1 .f32 := k0_pay48 (v6 I) (h_1 I) (View.ld I.w1 (Rect.unit (s := S1024x4096) ![0, 2048] S1024x256.size inb_S1024x4096_S1024x256_0_2048)) (View.ld I.b (Rect.unit (s := S1x4096) ![0, 2048] S1x256.size inb_S1x4096_S1x256_0_2048))
def v341 (I : Ins F) : FVec F S256x256 .bf16 := k0_pay49 (v250 I) (v274 I)
def v342 (I : Ins F) : Vec F S256x1024 .bf16 := h_0 I
def v348 (I : Ins F) : FVec F S256x256 .f32 := k0_pay50 (v342 I) (View.ld I.w1 (Rect.unit (s := S1024x4096) ![0, 512] S1024x256.size inb_S1024x4096_S1024x256_0_512)) (View.ld I.b (Rect.unit (s := S1x4096) ![0, 512] S1x256.size inb_S1x4096_S1x256_0_512))
def v372 (I : Ins F) : FVec F S256x256 .f32 := k0_pay51 (v5 I) (v223 I) (v_0_2 I) (View.ld I.gv (Rect.unit (s := S1x2048) ![0, 512] S1x256.size inb_S1x2048_S1x256_0_512)) (View.ld I.ws (Rect.unit (s := S8x128x128) ![2, 0, 0] S1x128x128.size inb_S8x128x128_S1x128x128_2_0_0)) (View.ld I.bst (Rect.unit (s := S128x8) ![0, 2] S128x1.size inb_S128x8_S128x1_0_2))
def v379 (I : Ins F) : FVec F S256x256 .f32 := k0_pay52 (h_1 I) (View.ld I.w1 (Rect.unit (s := S1024x4096) ![0, 2304] S1024x256.size inb_S1024x4096_S1024x256_0_2304)) (View.ld I.b (Rect.unit (s := S1x4096) ![0, 2304] S1x256.size inb_S1x4096_S1x256_0_2304))
def v_1_1 (I : Ins F) : FVec F S256x256 .f32 := k0_pay54 (v379 I)
def v396 (I : Ins F) : FVec F S256x1 .f32 := k0_pay55 (v329 I) (v379 I)
def v408 (I : Ins F) : FVec F S256x256 .bf16 := k0_pay56 (v281 I) (v305 I)
def v415 (I : Ins F) : FVec F S256x256 .f32 := k0_pay57 (h_0 I) (View.ld I.w1 (Rect.unit (s := S1024x4096) ![0, 768] S1024x256.size inb_S1024x4096_S1024x256_0_768)) (View.ld I.b (Rect.unit (s := S1x4096) ![0, 768] S1x256.size inb_S1x4096_S1x256_0_768))
def v418 (I : Ins F) : FVec F S256x256 .f32 := k0_pay58 (v223 I) (v_0_3 I)
def v439 (I : Ins F) : FVec F S256x256 .f32 := k0_pay59 (v5 I) (v418 I) (View.ld I.gv (Rect.unit (s := S1x2048) ![0, 768] S1x256.size inb_S1x2048_S1x256_0_768)) (View.ld I.ws (Rect.unit (s := S8x128x128) ![3, 0, 0] S1x128x128.size inb_S8x128x128_S1x128x128_3_0_0)) (View.ld I.bst (Rect.unit (s := S128x8) ![0, 3] S128x1.size inb_S128x8_S128x1_0_3))
def v456 (I : Ins F) : FVec F S256x256 .f32 := k0_pay60 (h_1 I) (View.ld I.w1 (Rect.unit (s := S1024x4096) ![0, 2560] S1024x256.size inb_S1024x4096_S1024x256_0_2560)) (View.ld I.b (Rect.unit (s := S1x4096) ![0, 2560] S1x256.size inb_S1x4096_S1x256_0_2560))
def v_1_2 (I : Ins F) : FVec F S256x256 .f32 := k0_pay61 (v456 I)
def v463 (I : Ins F) : FVec F S256x1 .f32 := k0_pay62 (v396 I) (v456 I)
def v475 (I : Ins F) : FVec F S256x256 .bf16 := k0_pay63 (v348 I) (v372 I)
def v482 (I : Ins F) : FVec F S256x256 .f32 := k0_pay64 (h_0 I) (View.ld I.w1 (Rect.unit (s := S1024x4096) ![0, 1024] S1024x256.size inb_S1024x4096_S1024x256_0_1024)) (View.ld I.b (Rect.unit (s := S1x4096) ![0, 1024] S1x256.size inb_S1x4096_S1x256_0_1024))
def v490 (I : Ins F) : FVec F S256x256 .bf16 := k0_pay65 (v223 I) (v_0_4 I) (View.ld I.gv (Rect.unit (s := S1x2048) ![0, 1024] S1x256.size inb_S1x2048_S1x256_0_1024))
def v495 (I : Ins F) : FVec F S128x128 .bf16 := k0_pay66 (v5 I) (View.ld I.ws (Rect.unit (s := S8x128x128) ![4, 0, 0] S1x128x128.size inb_S8x128x128_S1x128x128_4_0_0))
def v496 (I : Ins F) : Vec F S128x1 .f32 := View.ld I.bst (Rect.unit (s := S128x8) ![0, 4] S128x1.size inb_S128x8_S128x1_0_4)
def v_1_3 (I : Ins F) : FVec F S256x256 .f32 := k0_pay69 (h_1 I) (View.ld I.w1 (Rect.unit (s := S1024x4096) ![0, 2816] S1024x256.size inb_S1024x4096_S1024x256_0_2816)) (View.ld I.b (Rect.unit (s := S1x4096) ![0, 2816] S1x256.size inb_S1x4096_S1x256_0_2816))
def v506 (I : Ins F) : FVec F S256x256 .f32 := k0_pay67 (v490 I) (v495 I) (v496 I)
def v530 (I : Ins F) : FVec F S256x1 .f32 := k0_pay70 (v463 I) (h_1 I) (View.ld I.w1 (Rect.unit (s := S1024x4096) ![0, 2816] S1024x256.size inb_S1024x4096_S1024x256_0_2816)) (View.ld I.b (Rect.unit (s := S1x4096) ![0, 2816] S1x256.size inb_S1x4096_S1x256_0_2816))
def v537 (I : Ins F) : FVec F S256x256 .f32 := k0_pay71 (v415 I)
def cst_263 (I : Ins F) : F .f32 := (Scalar.ofBits .f32 0x3F800000#32 : F .f32)
def v542 (I : Ins F) : FVec F S256x256 .bf16 := k0_pay72 (v415 I) (v439 I) (v537 I) (cst_263 I)
def v549 (I : Ins F) : FVec F S256x256 .f32 := k0_pay73 (h_0 I) (View.ld I.w1 (Rect.unit (s := S1024x4096) ![0, 1280] S1024x256.size inb_S1024x4096_S1024x256_0_1280)) (View.ld I.b (Rect.unit (s := S1x4096) ![0, 1280] S1x256.size inb_S1x4096_S1x256_0_1280))
def v573 (I : Ins F) : FVec F S256x256 .f32 := k0_pay74 (v5 I) (v223 I) (v_0_5 I) (View.ld I.gv (Rect.unit (s := S1x2048) ![0, 1280] S1x256.size inb_S1x2048_S1x256_0_1280)) (View.ld I.ws (Rect.unit (s := S8x128x128) ![5, 0, 0] S1x128x128.size inb_S8x128x128_S1x128x128_5_0_0)) (View.ld I.bst (Rect.unit (s := S128x8) ![0, 5] S128x1.size inb_S128x8_S128x1_0_5))
def v574 (I : Ins F) : Vec F S256x1024 .bf16 := h_1 I
def v_1_4 (I : Ins F) : FVec F S256x256 .f32 := k0_pay76 (v574 I) (View.ld I.w1 (Rect.unit (s := S1024x4096) ![0, 3072] S1024x256.size inb_S1024x4096_S1024x256_0_3072)) (View.ld I.b (Rect.unit (s := S1x4096) ![0, 3072] S1x256.size inb_S1x4096_S1x256_0_3072))
def v597 (I : Ins F) : FVec F S256x1 .f32 := k0_pay77 (v530 I) (v574 I) (View.ld I.w1 (Rect.unit (s := S1024x4096) ![0, 3072] S1024x256.size inb_S1024x4096_S1024x256_0_3072)) (View.ld I.b (Rect.unit (s := S1x4096) ![0, 3072] S1x256.size inb_S1x4096_S1x256_0_3072))
def v609 (I : Ins F) : FVec F S256x256 .bf16 := k0_pay78 (v482 I) (v506 I)
def v612 (I : Ins F) : FVec F S256x256 .f32 := k0_pay79 (h_0 I) (View.ld I.w1 (Rect.unit (s := S1024x4096) ![0, 1536] S1024x256.size inb_S1024x4096_S1024x256_0_1536))
def v614 (I : Ins F) : FVec F S1x256 .f32 := k0_pay80 (View.ld I.b (Rect.unit (s := S1x4096) ![0, 1536] S1x256.size inb_S1x4096_S1x256_0_1536))
def v616 (I : Ins F) : FVec F S256x256 .f32 := k0_pay81 (v612 I) (v614 I)
def v640 (I : Ins F) : FVec F S256x256 .f32 := k0_pay82 (v5 I) (v223 I) (v_0_6 I) (View.ld I.gv (Rect.unit (s := S1x2048) ![0, 1536] S1x256.size inb_S1x2048_S1x256_0_1536)) (View.ld I.ws (Rect.unit (s := S8x128x128) ![6, 0, 0] S1x128x128.size inb_S8x128x128_S1x128x128_6_0_0)) (View.ld I.bst (Rect.unit (s := S128x8) ![0, 6] S128x1.size inb_S128x8_S128x1_0_6))
def v647 (I : Ins F) : FVec F S256x256 .f32 := k0_pay83 (h_1 I) (View.ld I.w1 (Rect.unit (s := S1024x4096) ![0, 3328] S1024x256.size inb_S1024x4096_S1024x256_0_3328)) (View.ld I.b (Rect.unit (s := S1x4096) ![0, 3328] S1x256.size inb_S1x4096_S1x256_0_3328))
def v653 (I : Ins F) : FVec F S256x256 .f32 := k0_pay84 (h_1 I) (View.ld I.w1 (Rect.unit (s := S1024x4096) ![0, 3328] S1024x256.size inb_S1024x4096_S1024x256_0_3328)) (View.ld I.b (Rect.unit (s := S1x4096) ![0, 3328] S1x256.size inb_S1x4096_S1x256_0_3328))
def v_1_5 (I : Ins F) : FVec F S256x256 .f32 := k0_pay86 (v647 I) (v653 I)
def v664 (I : Ins F) : FVec F S256x1 .f32 := k0_pay87 (v597 I) (v647 I) (v653 I)
def v676 (I : Ins F) : FVec F S256x256 .bf16 := k0_pay88 (v549 I) (v573 I)
def v683 (I : Ins F) : FVec F S256x256 .f32 := k0_pay89 (h_0 I) (View.ld I.w1 (Rect.unit (s := S1024x4096) ![0, 1792] S1024x256.size inb_S1024x4096_S1024x256_0_1792)) (View.ld I.b (Rect.unit (s := S1x4096) ![0, 1792] S1x256.size inb_S1x4096_S1x256_0_1792))
def v691 (I : Ins F) : FVec F S256x256 .bf16 := k0_pay90 (v223 I) (v_0_7 I) (View.ld I.gv (Rect.unit (s := S1x2048) ![0, 1792] S1x256.size inb_S1x2048_S1x256_0_1792))
def v_1_6 (I : Ins F) : FVec F S256x256 .f32 := k0_pay93 (h_1 I) (View.ld I.w1 (Rect.unit (s := S1024x4096) ![0, 3584] S1024x256.size inb_S1024x4096_S1024x256_0_3584)) (View.ld I.b (Rect.unit (s := S1x4096) ![0, 3584] S1x256.size inb_S1x4096_S1x256_0_3584))
def v707 (I : Ins F) : FVec F S256x256 .f32 := k0_pay91 (v5 I) (v691 I) (View.ld I.ws (Rect.unit (s := S8x128x128) ![7, 0, 0] S1x128x128.size inb_S8x128x128_S1x128x128_7_0_0)) (View.ld I.bst (Rect.unit (s := S128x8) ![0, 7] S128x1.size inb_S128x8_S128x1_0_7))
def v731 (I : Ins F) : FVec F S256x1 .f32 := k0_pay94 (v664 I) (h_1 I) (View.ld I.w1 (Rect.unit (s := S1024x4096) ![0, 3584] S1024x256.size inb_S1024x4096_S1024x256_0_3584)) (View.ld I.b (Rect.unit (s := S1x4096) ![0, 3584] S1x256.size inb_S1x4096_S1x256_0_3584))
def v732 (I : Ins F) : FVec F S256x256 .f32 := k0_pay95 (v616 I)
def v_1_7 (I : Ins F) : FVec F S256x256 .f32 := k0_pay98 (h_1 I) (View.ld I.w1 (Rect.unit (s := S1024x4096) ![0, 3840] S1024x256.size inb_S1024x4096_S1024x256_0_3840)) (View.ld I.b (Rect.unit (s := S1x4096) ![0, 3840] S1x256.size inb_S1x4096_S1x256_0_3840))
def v743 (I : Ins F) : FVec F S256x256 .bf16 := k0_pay96 (v616 I) (v640 I) (v732 I)
def v767 (I : Ins F) : FVec F S256x1 .f32 := k0_pay99 (v731 I) (h_1 I) (View.ld I.w1 (Rect.unit (s := S1024x4096) ![0, 3840] S1024x256.size inb_S1024x4096_S1024x256_0_3840)) (View.ld I.b (Rect.unit (s := S1x4096) ![0, 3840] S1x256.size inb_S1x4096_S1x256_0_3840))
def v773 (I : Ins F) : FVec F S256x256 .f32 := k0_pay100 (v683 I)
def o_0 (I : Ins F) : FVec F S256x1024 .f32 := k0_pay101 (v341 I) (v408 I) (v475 I) (v542 I) (v609 I) (v676 I) (v683 I) (v707 I) (v743 I) (v773 I) (View.ld I.x (Rect.unit (s := S1024x1024) ![0, 0] S256x1024.size inb_S1024x1024_S256x1024_0_0)) (View.ld I.w2 (Rect.unit (s := S2048x1024) ![0, 0] S2048x1024.size inb_S2048x1024_S2048x1024_0_0))
def h_2 (I : Ins F) : FVec F S256x1024 .bf16 := k0_pay103 (View.ld I.x (Rect.unit (s := S1024x1024) ![512, 0] S256x1024.size inb_S1024x1024_S256x1024_512_0)) (View.ld I.g (Rect.unit (s := S1x1024) ![0, 0] S1x1024.size inb_S1x1024_S1x1024_0_0))
def v791 (I : Ins F) : FVec F S256x1 .f32 := k0_pay102 (v767 I)
def v818 (I : Ins F) : FVec F S256x256 .f32 := k0_pay104 (h_1 I) (View.ld I.w1 (Rect.unit (s := S1024x4096) ![0, 0] S1024x256.size inb_S1024x4096_S1024x256_0_0)) (View.ld I.b (Rect.unit (s := S1x4096) ![0, 0] S1x256.size inb_S1x4096_S1x256_0_0))
def v842 (I : Ins F) : FVec F S256x256 .f32 := k0_pay105 (v5 I) (v791 I) (v_1_0 I) (View.ld I.gv (Rect.unit (s := S1x2048) ![0, 0] S1x256.size inb_S1x2048_S1x256_0_0)) (View.ld I.ws (Rect.unit (s := S8x128x128) ![0, 0, 0] S1x128x128.size inb_S8x128x128_S1x128x128_0_0_0)) (View.ld I.bst (Rect.unit (s := S128x8) ![0, 0] S128x1.size inb_S128x8_S128x1_0_0))
def v845 (I : Ins F) : FVec F S256x256 .f32 := k0_pay106 (h_1 I) (View.ld I.w1 (Rect.unit (s := S1024x4096) ![0, 256] S1024x256.size inb_S1024x4096_S1024x256_0_256))
def v846 (I : Ins F) : Vec F S1x256 .f32 := View.ld I.b (Rect.unit (s := S1x4096) ![0, 256] S1x256.size inb_S1x4096_S1x256_0_256)
def v849 (I : Ins F) : FVec F S256x256 .f32 := k0_pay107 (v845 I) (v846 I)
def v873 (I : Ins F) : FVec F S256x256 .f32 := k0_pay108 (v5 I) (v791 I) (v_1_1 I) (View.ld I.gv (Rect.unit (s := S1x2048) ![0, 256] S1x256.size inb_S1x2048_S1x256_0_256)) (View.ld I.ws (Rect.unit (s := S8x128x128) ![1, 0, 0] S1x128x128.size inb_S8x128x128_S1x128x128_1_0_0)) (View.ld I.bst (Rect.unit (s := S128x8) ![0, 1] S128x1.size inb_S128x8_S128x1_0_1))
def v880 (I : Ins F) : FVec F S256x256 .f32 := k0_pay109 (h_2 I) (View.ld I.w1 (Rect.unit (s := S1024x4096) ![0, 2048] S1024x256.size inb_S1024x4096_S1024x256_0_2048)) (View.ld I.b (Rect.unit (s := S1x4096) ![0, 2048] S1x256.size inb_S1x4096_S1x256_0_2048))
def v885 (I : Ins F) : FVec F S256x256 .f32 := k0_pay110 (h_2 I) (View.ld I.w1 (Rect.unit (s := S1024x4096) ![0, 2048] S1024x256.size inb_S1024x4096_S1024x256_0_2048)) (View.ld I.b (Rect.unit (s := S1x4096) ![0, 2048] S1x256.size inb_S1x4096_S1x256_0_2048))
def v_2_0 (I : Ins F) : FVec F S256x256 .f32 := k0_pay112 (v880 I) (v885 I)
def v897 (I : Ins F) : FVec F S256x1 .f32 := k0_pay113 (v6 I) (v880 I) (v885 I)
def v909 (I : Ins F) : FVec F S256x256 .bf16 := k0_pay114 (v818 I) (v842 I)
def v916 (I : Ins F) : FVec F S256x256 .f32 := k0_pay115 (h_1 I) (View.ld I.w1 (Rect.unit (s := S1024x4096) ![0, 512] S1024x256.size inb_S1024x4096_S1024x256_0_512)) (View.ld I.b (Rect.unit (s := S1x4096) ![0, 512] S1x256.size inb_S1x4096_S1x256_0_512))
def v924 (I : Ins F) : FVec F S256x256 .bf16 := k0_pay116 (v791 I) (v_1_2 I) (View.ld I.gv (Rect.unit (s := S1x2048) ![0, 512] S1x256.size inb_S1x2048_S1x256_0_512))
def v_2_1 (I : Ins F) : FVec F S256x256 .f32 := k0_pay119 (h_2 I) (View.ld I.w1 (Rect.unit (s := S1024x4096) ![0, 2304] S1024x256.size inb_S1024x4096_S1024x256_0_2304)) (View.ld I.b (Rect.unit (s := S1x4096) ![0, 2304] S1x256.size inb_S1x4096_S1x256_0_2304))
def v940 (I : Ins F) : FVec F S256x256 .f32 := k0_pay117 (v5 I) (v924 I) (View.ld I.ws (Rect.unit (s := S8x128x128) ![2, 0, 0] S1x128x128.size inb_S8x128x128_S1x128x128_2_0_0)) (View.ld I.bst (Rect.unit (s := S128x8) ![0, 2] S128x1.size inb_S128x8_S128x1_0_2))
def v964 (I : Ins F) : FVec F S256x1 .f32 := k0_pay120 (v897 I) (h_2 I) (View.ld I.w1 (Rect.unit (s := S1024x4096) ![0, 2304] S1024x256.size inb_S1024x4096_S1024x256_0_2304)) (View.ld I.b (Rect.unit (s := S1x4096) ![0, 2304] S1x256.size inb_S1x4096_S1x256_0_2304))
def v976 (I : Ins F) : FVec F S256x256 .bf16 := k0_pay121 (v849 I) (v873 I)
def v983 (I : Ins F) : FVec F S256x256 .f32 := k0_pay122 (h_1 I) (View.ld I.w1 (Rect.unit (s := S1024x4096) ![0, 768] S1024x256.size inb_S1024x4096_S1024x256_0_768)) (View.ld I.b (Rect.unit (s := S1x4096) ![0, 768] S1x256.size inb_S1x4096_S1x256_0_768))
def v996 (I : Ins F) : FVec F S128x128 .bf16 := k0_pay124 (v5 I) (View.ld I.ws (Rect.unit (s := S8x128x128) ![3, 0, 0] S1x128x128.size inb_S8x128x128_S1x128x128_3_0_0))
def v998 (I : Ins F) : FVec F S128x1 .f32 := k0_pay125 (View.ld I.bst (Rect.unit (s := S128x8) ![0, 3] S128x1.size inb_S128x8_S128x1_0_3))
def v1002 (I : Ins F) : FVec F S128x256 .f32 := k0_pay126 (v5 I) (v791 I) (v_1_3 I) (View.ld I.gv (Rect.unit (s := S1x2048) ![0, 768] S1x256.size inb_S1x2048_S1x256_0_768)) (View.ld I.ws (Rect.unit (s := S8x128x128) ![3, 0, 0] S1x128x128.size inb_S8x128x128_S1x128x128_3_0_0)) (View.ld I.bst (Rect.unit (s := S128x8) ![0, 3] S128x1.size inb_S128x8_S128x1_0_3))
def v1003 (I : Ins F) : FVec F S128x256 .bf16 := k0_pay127 (v791 I) (v_1_3 I) (View.ld I.gv (Rect.unit (s := S1x2048) ![0, 768] S1x256.size inb_S1x2048_S1x256_0_768))
def v_2_2 (I : Ins F) : FVec F S256x256 .f32 := k0_pay130 (h_2 I) (View.ld I.w1 (Rect.unit (s := S1024x4096) ![0, 2560] S1024x256.size inb_S1024x4096_S1024x256_0_2560)) (View.ld I.b (Rect.unit (s := S1x4096) ![0, 2560] S1x256.size inb_S1x4096_S1x256_0_2560))
def v1007 (I : Ins F) : FVec F S256x256 .f32 := k0_pay128 (v996 I) (v998 I) (v1002 I) (v1003 I)
def v1031 (I : Ins F) : FVec F S256x1 .f32 := k0_pay131 (v964 I) (h_2 I) (View.ld I.w1 (Rect.unit (s := S1024x4096) ![0, 2560] S1024x256.size inb_S1024x4096_S1024x256_0_2560)) (View.ld I.b (Rect.unit (s := S1x4096) ![0, 2560] S1x256.size inb_S1x4096_S1x256_0_2560))
def v1043 (I : Ins F) : FVec F S256x256 .bf16 := k0_pay132 (v916 I) (v940 I)
def v1050 (I : Ins F) : FVec F S256x256 .f32 := k0_pay133 (h_1 I) (View.ld I.w1 (Rect.unit (s := S1024x4096) ![0, 1024] S1024x256.size inb_S1024x4096_S1024x256_0_1024)) (View.ld I.b (Rect.unit (s := S1x4096) ![0, 1024] S1x256.size inb_S1x4096_S1x256_0_1024))
def v1074 (I : Ins F) : FVec F S256x256 .f32 := k0_pay134 (v5 I) (v791 I) (v_1_4 I) (View.ld I.gv (Rect.unit (s := S1x2048) ![0, 1024] S1x256.size inb_S1x2048_S1x256_0_1024)) (View.ld I.ws (Rect.unit (s := S8x128x128) ![4, 0, 0] S1x128x128.size inb_S8x128x128_S1x128x128_4_0_0)) (View.ld I.bst (Rect.unit (s := S128x8) ![0, 4] S128x1.size inb_S128x8_S128x1_0_4))
def v1077 (I : Ins F) : FVec F S256x256 .f32 := k0_pay135 (h_2 I) (View.ld I.w1 (Rect.unit (s := S1024x4096) ![0, 2816] S1024x256.size inb_S1024x4096_S1024x256_0_2816))
def v1079 (I : Ins F) : FVec F S1x256 .f32 := k0_pay136 (View.ld I.b (Rect.unit (s := S1x4096) ![0, 2816] S1x256.size inb_S1x4096_S1x256_0_2816))
def v_2_3 (I : Ins F) : FVec F S256x256 .f32 := k0_pay138 (v1077 I) (v1079 I)
def v1098 (I : Ins F) : FVec F S256x1 .f32 := k0_pay139 (v1031 I) (v1077 I) (v1079 I)
def v1110 (I : Ins F) : FVec F S256x256 .bf16 := k0_pay140 (v983 I) (v1007 I)
def v1117 (I : Ins F) : FVec F S256x256 .f32 := k0_pay141 (h_1 I) (View.ld I.w1 (Rect.unit (s := S1024x4096) ![0, 1280] S1024x256.size inb_S1024x4096_S1024x256_0_1280)) (View.ld I.b (Rect.unit (s := S1x4096) ![0, 1280] S1x256.size inb_S1x4096_S1x256_0_1280))
def v1120 (I : Ins F) : FVec F S256x256 .f32 := k0_pay142 (v791 I) (v_1_5 I)
def v1141 (I : Ins F) : FVec F S256x256 .f32 := k0_pay143 (v5 I) (v1120 I) (View.ld I.gv (Rect.unit (s := S1x2048) ![0, 1280] S1x256.size inb_S1x2048_S1x256_0_1280)) (View.ld I.ws (Rect.unit (s := S8x128x128) ![5, 0, 0] S1x128x128.size inb_S8x128x128_S1x128x128_5_0_0)) (View.ld I.bst (Rect.unit (s := S128x8) ![0, 5] S128x1.size inb_S128x8_S128x1_0_5))
def v1158 (I : Ins F) : FVec F S256x256 .f32 := k0_pay144 (h_2 I) (View.ld I.w1 (Rect.unit (s := S1024x4096) ![0, 3072] S1024x256.size inb_S1024x4096_S1024x256_0_3072)) (View.ld I.b (Rect.unit (s := S1x4096) ![0, 3072] S1x256.size inb_S1x4096_S1x256_0_3072))
def v_2_4 (I : Ins F) : FVec F S256x256 .f32 := k0_pay145 (v1158 I)
def v1165 (I : Ins F) : FVec F S256x1 .f32 := k0_pay146 (v1098 I) (v1158 I)
def v1177 (I : Ins F) : FVec F S256x256 .bf16 := k0_pay147 (v1050 I) (v1074 I)
def v1184 (I : Ins F) : FVec F S256x256 .f32 := k0_pay148 (h_1 I) (View.ld I.w1 (Rect.unit (s := S1024x4096) ![0, 1536] S1024x256.size inb_S1024x4096_S1024x256_0_1536)) (View.ld I.b (Rect.unit (s := S1x4096) ![0, 1536] S1x256.size inb_S1x4096_S1x256_0_1536))
def v1192 (I : Ins F) : FVec F S256x256 .bf16 := k0_pay149 (v791 I) (v_1_6 I) (View.ld I.gv (Rect.unit (s := S1x2048) ![0, 1536] S1x256.size inb_S1x2048_S1x256_0_1536))
def v1197 (I : Ins F) : FVec F S128x128 .bf16 := k0_pay150 (v5 I) (View.ld I.ws (Rect.unit (s := S8x128x128) ![6, 0, 0] S1x128x128.size inb_S8x128x128_S1x128x128_6_0_0))
def v_2_5 (I : Ins F) : FVec F S256x256 .f32 := k0_pay153 (h_2 I) (View.ld I.w1 (Rect.unit (s := S1024x4096) ![0, 3328] S1024x256.size inb_S1024x4096_S1024x256_0_3328)) (View.ld I.b (Rect.unit (s := S1x4096) ![0, 3328] S1x256.size inb_S1x4096_S1x256_0_3328))
def v1208 (I : Ins F) : FVec F S256x256 .f32 := k0_pay151 (v1192 I) (v1197 I) (View.ld I.bst (Rect.unit (s := S128x8) ![0, 6] S128x1.size inb_S128x8_S128x1_0_6))
def v1232 (I : Ins F) : FVec F S256x1 .f32 := k0_pay154 (v1165 I) (h_2 I) (View.ld I.w1 (Rect.unit (s := S1024x4096) ![0, 3328] S1024x256.size inb_S1024x4096_S1024x256_0_3328)) (View.ld I.b (Rect.unit (s := S1x4096) ![0, 3328] S1x256.size inb_S1x4096_S1x256_0_3328))
def v1238 (I : Ins F) : FVec F S256x256 .f32 := k0_pay155 (v1117 I)
def v1244 (I : Ins F) : FVec F S256x256 .bf16 := k0_pay156 (v1117 I) (v1141 I) (v1238 I)
def v1251 (I : Ins F) : FVec F S256x256 .f32 := k0_pay157 (h_1 I) (View.ld I.w1 (Rect.unit (s := S1024x4096) ![0, 1792] S1024x256.size inb_S1024x4096_S1024x256_0_1792)) (View.ld I.b (Rect.unit (s := S1x4096) ![0, 1792] S1x256.size inb_S1x4096_S1x256_0_1792))
def v1275 (I : Ins F) : FVec F S256x256 .f32 := k0_pay158 (v5 I) (v791 I) (v_1_7 I) (View.ld I.gv (Rect.unit (s := S1x2048) ![0, 1792] S1x256.size inb_S1x2048_S1x256_0_1792)) (View.ld I.ws (Rect.unit (s := S8x128x128) ![7, 0, 0] S1x128x128.size inb_S8x128x128_S1x128x128_7_0_0)) (View.ld I.bst (Rect.unit (s := S128x8) ![0, 7] S128x1.size inb_S128x8_S128x1_0_7))
def v1276 (I : Ins F) : Vec F S256x1024 .bf16 := h_2 I
def v_2_6 (I : Ins F) : FVec F S256x256 .f32 := k0_pay160 (v1276 I) (View.ld I.w1 (Rect.unit (s := S1024x4096) ![0, 3584] S1024x256.size inb_S1024x4096_S1024x256_0_3584)) (View.ld I.b (Rect.unit (s := S1x4096) ![0, 3584] S1x256.size inb_S1x4096_S1x256_0_3584))
def v1299 (I : Ins F) : FVec F S256x1 .f32 := k0_pay161 (v1232 I) (v1276 I) (View.ld I.w1 (Rect.unit (s := S1024x4096) ![0, 3584] S1024x256.size inb_S1024x4096_S1024x256_0_3584)) (View.ld I.b (Rect.unit (s := S1x4096) ![0, 3584] S1x256.size inb_S1x4096_S1x256_0_3584))
def v1311 (I : Ins F) : FVec F S256x256 .bf16 := k0_pay162 (v1184 I) (v1208 I)
def v1314 (I : Ins F) : FVec F S256x256 .f32 := k0_pay163 (h_2 I) (View.ld I.w1 (Rect.unit (s := S1024x4096) ![0, 3840] S1024x256.size inb_S1024x4096_S1024x256_0_3840))
def v_2_7 (I : Ins F) : FVec F S256x256 .f32 := k0_pay165 (v1314 I) (View.ld I.b (Rect.unit (s := S1x4096) ![0, 3840] S1x256.size inb_S1x4096_S1x256_0_3840))
def o_1 (I : Ins F) : FVec F S256x1024 .f32 := k0_pay167 (v909 I) (v976 I) (v1043 I) (v1110 I) (v1177 I) (v1244 I) (v1251 I) (v1275 I) (v1311 I) (View.ld I.x (Rect.unit (s := S1024x1024) ![256, 0] S256x1024.size inb_S1024x1024_S256x1024_256_0)) (View.ld I.w2 (Rect.unit (s := S2048x1024) ![0, 0] S2048x1024.size inb_S2048x1024_S2048x1024_0_0))
def v1335 (I : Ins F) : FVec F S256x1 .f32 := k0_pay166 (v1299 I) (v1314 I) (View.ld I.b (Rect.unit (s := S1x4096) ![0, 3840] S1x256.size inb_S1x4096_S1x256_0_3840))
def v1355 (I : Ins F) : FVec F S256x1 .f32 := k0_pay168 (F := F)
def h_3 (I : Ins F) : FVec F S256x1024 .bf16 := k0_pay170 (View.ld I.x (Rect.unit (s := S1024x1024) ![768, 0] S256x1024.size inb_S1024x1024_S256x1024_768_0)) (View.ld I.g (Rect.unit (s := S1x1024) ![0, 0] S1x1024.size inb_S1x1024_S1x1024_0_0))
def v1359 (I : Ins F) : FVec F S256x1 .f32 := k0_pay169 (v1335 I) (v1355 I)
def v1386 (I : Ins F) : FVec F S256x256 .f32 := k0_pay171 (h_2 I) (View.ld I.w1 (Rect.unit (s := S1024x4096) ![0, 0] S1024x256.size inb_S1024x4096_S1024x256_0_0)) (View.ld I.b (Rect.unit (s := S1x4096) ![0, 0] S1x256.size inb_S1x4096_S1x256_0_0))
def v1393 (I : Ins F) : FVec F S256x256 .f32 := k0_pay172 (v1335 I) (v1355 I) (v_2_0 I) (View.ld I.gv (Rect.unit (s := S1x2048) ![0, 0] S1x256.size inb_S1x2048_S1x256_0_0))
def v1410 (I : Ins F) : FVec F S256x256 .f32 := k0_pay173 (v5 I) (v1393 I) (View.ld I.ws (Rect.unit (s := S8x128x128) ![0, 0, 0] S1x128x128.size inb_S8x128x128_S1x128x128_0_0_0)) (View.ld I.bst (Rect.unit (s := S128x8) ![0, 0] S128x1.size inb_S128x8_S128x1_0_0))
def v1417 (I : Ins F) : FVec F S256x256 .f32 := k0_pay174 (h_2 I) (View.ld I.w1 (Rect.unit (s := S1024x4096) ![0, 256] S1024x256.size inb_S1024x4096_S1024x256_0_256)) (View.ld I.b (Rect.unit (s := S1x4096) ![0, 256] S1x256.size inb_S1x4096_S1x256_0_256))
def v1425 (I : Ins F) : FVec F S256x256 .bf16 := k0_pay175 (v1359 I) (v_2_1 I) (View.ld I.gv (Rect.unit (s := S1x2048) ![0, 256] S1x256.size inb_S1x2048_S1x256_0_256))
def v1430 (I : Ins F) : FVec F S128x128 .bf16 := k0_pay176 (v5 I) (View.ld I.ws (Rect.unit (s := S8x128x128) ![1, 0, 0] S1x128x128.size inb_S8x128x128_S1x128x128_1_0_0))
def v_3_0 (I : Ins F) : FVec F S256x256 .f32 := k0_pay179 (h_3 I) (View.ld I.w1 (Rect.unit (s := S1024x4096) ![0, 2048] S1024x256.size inb_S1024x4096_S1024x256_0_2048)) (View.ld I.b (Rect.unit (s := S1x4096) ![0, 2048] S1x256.size inb_S1x4096_S1x256_0_2048))
def v1441 (I : Ins F) : FVec F S256x256 .f32 := k0_pay177 (v1425 I) (v1430 I) (View.ld I.bst (Rect.unit (s := S128x8) ![0, 1] S128x1.size inb_S128x8_S128x1_0_1))
def v1465 (I : Ins F) : FVec F S256x1 .f32 := k0_pay180 (v6 I) (h_3 I) (View.ld I.w1 (Rect.unit (s := S1024x4096) ![0, 2048] S1024x256.size inb_S1024x4096_S1024x256_0_2048)) (View.ld I.b (Rect.unit (s := S1x4096) ![0, 2048] S1x256.size inb_S1x4096_S1x256_0_2048))
def v1470 (I : Ins F) : FVec F S256x256 .f32 := k0_pay181 (v1386 I)
def v1477 (I : Ins F) : FVec F S256x256 .bf16 := k0_pay182 (v1386 I) (v1410 I) (v1470 I)
def v1484 (I : Ins F) : FVec F S256x256 .f32 := k0_pay183 (h_2 I) (View.ld I.w1 (Rect.unit (s := S1024x4096) ![0, 512] S1024x256.size inb_S1024x4096_S1024x256_0_512)) (View.ld I.b (Rect.unit (s := S1x4096) ![0, 512] S1x256.size inb_S1x4096_S1x256_0_512))
def v1508 (I : Ins F) : FVec F S256x256 .f32 := k0_pay184 (v5 I) (v1359 I) (v_2_2 I) (View.ld I.gv (Rect.unit (s := S1x2048) ![0, 512] S1x256.size inb_S1x2048_S1x256_0_512)) (View.ld I.ws (Rect.unit (s := S8x128x128) ![2, 0, 0] S1x128x128.size inb_S8x128x128_S1x128x128_2_0_0)) (View.ld I.bst (Rect.unit (s := S128x8) ![0, 2] S128x1.size inb_S128x8_S128x1_0_2))
def v_3_1 (I : Ins F) : FVec F S256x256 .f32 := k0_pay186 (h_3 I) (View.ld I.w1 (Rect.unit (s := S1024x4096) ![0, 2304] S1024x256.size inb_S1024x4096_S1024x256_0_2304)) (View.ld I.b (Rect.unit (s := S1x4096) ![0, 2304] S1x256.size inb_S1x4096_S1x256_0_2304))
def v1532 (I : Ins F) : FVec F S256x1 .f32 := k0_pay187 (v1465 I) (h_3 I) (View.ld I.w1 (Rect.unit (s := S1024x4096) ![0, 2304] S1024x256.size inb_S1024x4096_S1024x256_0_2304)) (View.ld I.b (Rect.unit (s := S1x4096) ![0, 2304] S1x256.size inb_S1x4096_S1x256_0_2304))
def v1544 (I : Ins F) : FVec F S256x256 .bf16 := k0_pay188 (v1417 I) (v1441 I)
def v1547 (I : Ins F) : FVec F S256x256 .f32 := k0_pay189 (h_2 I) (View.ld I.w1 (Rect.unit (s := S1024x4096) ![0, 768] S1024x256.size inb_S1024x4096_S1024x256_0_768))
def v1551 (I : Ins F) : FVec F S256x256 .f32 := k0_pay190 (v1547 I) (View.ld I.b (Rect.unit (s := S1x4096) ![0, 768] S1x256.size inb_S1x4096_S1x256_0_768))
def v1575 (I : Ins F) : FVec F S256x256 .f32 := k0_pay191 (v5 I) (v1359 I) (v_2_3 I) (View.ld I.gv (Rect.unit (s := S1x2048) ![0, 768] S1x256.size inb_S1x2048_S1x256_0_768)) (View.ld I.ws (Rect.unit (s := S8x128x128) ![3, 0, 0] S1x128x128.size inb_S8x128x128_S1x128x128_3_0_0)) (View.ld I.bst (Rect.unit (s := S128x8) ![0, 3] S128x1.size inb_S128x8_S128x1_0_3))
def v1582 (I : Ins F) : FVec F S256x256 .f32 := k0_pay192 (h_3 I) (View.ld I.w1 (Rect.unit (s := S1024x4096) ![0, 2560] S1024x256.size inb_S1024x4096_S1024x256_0_2560)) (View.ld I.b (Rect.unit (s := S1x4096) ![0, 2560] S1x256.size inb_S1x4096_S1x256_0_2560))
def v1585 (I : Ins F) : FVec F S256x256 .f32 := k0_pay193 (h_3 I) (View.ld I.w1 (Rect.unit (s := S1024x4096) ![0, 2560] S1024x256.size inb_S1024x4096_S1024x256_0_2560)) (View.ld I.b (Rect.unit (s := S1x4096) ![0, 2560] S1x256.size inb_S1x4096_S1x256_0_2560))
def cst_814 (I : Ins F) : F .f32 := (Named.named κ "gelu_c" 0xC0135761#32 : F .f32)
def v_3_2 (I : Ins F) : FVec F S256x256 .f32 := k0_pay195 (v1582 I) (v1585 I) (cst_814 I)
def v1599 (I : Ins F) : FVec F S256x1 .f32 := k0_pay196 (v1532 I) (v1582 I) (v1585 I) (cst_814 I)
def v1611 (I : Ins F) : FVec F S256x256 .bf16 := k0_pay197 (v1484 I) (v1508 I)
def v1618 (I : Ins F) : FVec F S256x256 .f32 := k0_pay198 (h_2 I) (View.ld I.w1 (Rect.unit (s := S1024x4096) ![0, 1024] S1024x256.size inb_S1024x4096_S1024x256_0_1024)) (View.ld I.b (Rect.unit (s := S1x4096) ![0, 1024] S1x256.size inb_S1x4096_S1x256_0_1024))
def v1626 (I : Ins F) : FVec F S256x256 .bf16 := k0_pay199 (v1359 I) (v_2_4 I) (View.ld I.gv (Rect.unit (s := S1x2048) ![0, 1024] S1x256.size inb_S1x2048_S1x256_0_1024))
def v_3_3 (I : Ins F) : FVec F S256x256 .f32 := k0_pay202 (h_3 I) (View.ld I.w1 (Rect.unit (s := S1024x4096) ![0, 2816] S1024x256.size inb_S1024x4096_S1024x256_0_2816)) (View.ld I.b (Rect.unit (s := S1x4096) ![0, 2816] S1x256.size inb_S1x4096_S1x256_0_2816))
def v1642 (I : Ins F) : FVec F S256x256 .f32 := k0_pay200 (v5 I) (v1626 I) (View.ld I.ws (Rect.unit (s := S8x128x128) ![4, 0, 0] S1x128x128.size inb_S8x128x128_S1x128x128_4_0_0)) (View.ld I.bst (Rect.unit (s := S128x8) ![0, 4] S128x1.size inb_S128x8_S128x1_0_4))
def v1664 (I : Ins F) : FVec F S256 .f32 := k0_pay203 (h_3 I) (View.ld I.w1 (Rect.unit (s := S1024x4096) ![0, 2816] S1024x256.size inb_S1024x4096_S1024x256_0_2816)) (View.ld I.b (Rect.unit (s := S1x4096) ![0, 2816] S1x256.size inb_S1x4096_S1x256_0_2816))
def v1666 (I : Ins F) : FVec F S256x1 .f32 := k0_pay204 (v1599 I) (v1664 I)
def v1678 (I : Ins F) : FVec F S256x256 .bf16 := k0_pay205 (v1551 I) (v1575 I)
def v1685 (I : Ins F) : FVec F S256x256 .f32 := k0_pay206 (h_2 I) (View.ld I.w1 (Rect.unit (s := S1024x4096) ![0, 1280] S1024x256.size inb_S1024x4096_S1024x256_0_1280)) (View.ld I.b (Rect.unit (s := S1x4096) ![0, 1280] S1x256.size inb_S1x4096_S1x256_0_1280))
def v1693 (I : Ins F) : FVec F S256x256 .bf16 := k0_pay207 (v1359 I) (v_2_5 I) (View.ld I.gv (Rect.unit (s := S1x2048) ![0, 1280] S1x256.size inb_S1x2048_S1x256_0_1280))
def v1698 (I : Ins F) : FVec F S128x128 .bf16 := k0_pay208 (v5 I) (View.ld I.ws (Rect.unit (s := S8x128x128) ![5, 0, 0] S1x128x128.size inb_S8x128x128_S1x128x128_5_0_0))
def v1700 (I : Ins F) : FVec F S128x1 .f32 := k0_pay209 (View.ld I.bst (Rect.unit (s := S128x8) ![0, 5] S128x1.size inb_S128x8_S128x1_0_5))
def v1702 (I : Ins F) : FVec F S128x256 .f32 := k0_pay210 (v5 I) (v1359 I) (v_2_5 I) (View.ld I.gv (Rect.unit (s := S1x2048) ![0, 1280] S1x256.size inb_S1x2048_S1x256_0_1280)) (View.ld I.ws (Rect.unit (s := S8x128x128) ![5, 0, 0] S1x128x128.size inb_S8x128x128_S1x128x128_5_0_0))
def v1703 (I : Ins F) : FVec F S128x256 .f32 := k0_pay211 (View.ld I.bst (Rect.unit (s := S128x8) ![0, 5] S128x1.size inb_S128x8_S128x1_0_5))
def v_3_4 (I : Ins F) : FVec F S256x256 .f32 := k0_pay214 (h_3 I) (View.ld I.w1 (Rect.unit (s := S1024x4096) ![0, 3072] S1024x256.size inb_S1024x4096_S1024x256_0_3072)) (View.ld I.b (Rect.unit (s := S1x4096) ![0, 3072] S1x256.size inb_S1x4096_S1x256_0_3072))
def v1709 (I : Ins F) : FVec F S256x256 .f32 := k0_pay212 (v1693 I) (v1698 I) (v1700 I) (v1702 I) (v1703 I)
def v1733 (I : Ins F) : FVec F S256x1 .f32 := k0_pay215 (v1666 I) (h_3 I) (View.ld I.w1 (Rect.unit (s := S1024x4096) ![0, 3072] S1024x256.size inb_S1024x4096_S1024x256_0_3072)) (View.ld I.b (Rect.unit (s := S1x4096) ![0, 3072] S1x256.size inb_S1x4096_S1x256_0_3072))
def v1745 (I : Ins F) : FVec F S256x256 .bf16 := k0_pay216 (v1618 I) (v1642 I)
def v1752 (I : Ins F) : FVec F S256x256 .f32 := k0_pay217 (h_2 I) (View.ld I.w1 (Rect.unit (s := S1024x4096) ![0, 1536] S1024x256.size inb_S1024x4096_S1024x256_0_1536)) (View.ld I.b (Rect.unit (s := S1x4096) ![0, 1536] S1x256.size inb_S1x4096_S1x256_0_1536))
def v1776 (I : Ins F) : FVec F S256x256 .f32 := k0_pay218 (v5 I) (v1359 I) (v_2_6 I) (View.ld I.gv (Rect.unit (s := S1x2048) ![0, 1536] S1x256.size inb_S1x2048_S1x256_0_1536)) (View.ld I.ws (Rect.unit (s := S8x128x128) ![6, 0, 0] S1x128x128.size inb_S8x128x128_S1x128x128_6_0_0)) (View.ld I.bst (Rect.unit (s := S128x8) ![0, 6] S128x1.size inb_S128x8_S128x1_0_6))
def v1779 (I : Ins F) : FVec F S256x256 .f32 := k0_pay219 (h_3 I) (View.ld I.w1 (Rect.unit (s := S1024x4096) ![0, 3328] S1024x256.size inb_S1024x4096_S1024x256_0_3328))
def v_3_5 (I : Ins F) : FVec F S256x256 .f32 := k0_pay221 (v1779 I) (View.ld I.b (Rect.unit (s := S1x4096) ![0, 3328] S1x256.size inb_S1x4096_S1x256_0_3328))
def v1800 (I : Ins F) : FVec F S256x1 .f32 := k0_pay222 (v1733 I) (v1779 I) (View.ld I.b (Rect.unit (s := S1x4096) ![0, 3328] S1x256.size inb_S1x4096_S1x256_0_3328))
def v1812 (I : Ins F) : FVec F S256x256 .bf16 := k0_pay223 (v1685 I) (v1709 I)
def v1819 (I : Ins F) : FVec F S256x256 .f32 := k0_pay224 (h_2 I) (View.ld I.w1 (Rect.unit (s := S1024x4096) ![0, 1792] S1024x256.size inb_S1024x4096_S1024x256_0_1792)) (View.ld I.b (Rect.unit (s := S1x4096) ![0, 1792] S1x256.size inb_S1x4096_S1x256_0_1792))
def v1820 (I : Ins F) : Vec F S256x256 .f32 := v_2_7 I
def v1843 (I : Ins F) : FVec F S256x256 .f32 := k0_pay225 (v5 I) (v1359 I) (v1820 I) (View.ld I.gv (Rect.unit (s := S1x2048) ![0, 1792] S1x256.size inb_S1x2048_S1x256_0_1792)) (View.ld I.ws (Rect.unit (s := S8x128x128) ![7, 0, 0] S1x128x128.size inb_S8x128x128_S1x128x128_7_0_0)) (View.ld I.bst (Rect.unit (s := S128x8) ![0, 7] S128x1.size inb_S128x8_S128x1_0_7))
def v1860 (I : Ins F) : FVec F S256x256 .f32 := k0_pay226 (h_3 I) (View.ld I.w1 (Rect.unit (s := S1024x4096) ![0, 3584] S1024x256.size inb_S1024x4096_S1024x256_0_3584)) (View.ld I.b (Rect.unit (s := S1x4096) ![0, 3584] S1x256.size inb_S1x4096_S1x256_0_3584))
def v_3_6 (I : Ins F) : FVec F S256x256 .f32 := k0_pay227 (v1860 I)
def v_3_7 (I : Ins F) : FVec F S256x256 .f32 := k0_pay231 (h_3 I) (View.ld I.w1 (Rect.unit (s := S1024x4096) ![0, 3840] S1024x256.size inb_S1024x4096_S1024x256_0_3840)) (View.ld I.b (Rect.unit (s := S1x4096) ![0, 3840] S1x256.size inb_S1x4096_S1x256_0_3840))
def v1867 (I : Ins F) : FVec F S256x1 .f32 := k0_pay228 (v1800 I) (v1860 I)
def v1879 (I : Ins F) : FVec F S256x256 .bf16 := k0_pay229 (v1752 I) (v1776 I)
def v1900 (I : Ins F) : FVec F S256x256 .f32 := k0_pay232 (h_3 I) (View.ld I.w1 (Rect.unit (s := S1024x4096) ![0, 3840] S1024x256.size inb_S1024x4096_S1024x256_0_3840)) (View.ld I.b (Rect.unit (s := S1x4096) ![0, 3840] S1x256.size inb_S1x4096_S1x256_0_3840))
def o_2 (I : Ins F) : FVec F S256x1024 .f32 := k0_pay233 (v1477 I) (v1544 I) (v1611 I) (v1678 I) (v1745 I) (v1812 I) (v1819 I) (v1843 I) (v1879 I) (View.ld I.x (Rect.unit (s := S1024x1024) ![512, 0] S256x1024.size inb_S1024x1024_S256x1024_512_0)) (View.ld I.w2 (Rect.unit (s := S2048x1024) ![0, 0] S2048x1024.size inb_S2048x1024_S2048x1024_0_0))
def v1927 (I : Ins F) : FVec F S256x1 .f32 := k0_pay234 (v1867 I) (v1900 I)
def v1934 (I : Ins F) : FVec F S256x256 .f32 := k0_pay235 (h_3 I) (View.ld I.w1 (Rect.unit (s := S1024x4096) ![0, 0] S1024x256.size inb_S1024x4096_S1024x256_0_0)) (View.ld I.b (Rect.unit (s := S1x4096) ![0, 0] S1x256.size inb_S1x4096_S1x256_0_0))
def v1937 (I : Ins F) : FVec F S256x256 .f32 := k0_pay236 (v1867 I) (v1900 I) (v_3_0 I)
def v1958 (I : Ins F) : FVec F S256x256 .f32 := k0_pay237 (v5 I) (v1937 I) (View.ld I.gv (Rect.unit (s := S1x2048) ![0, 0] S1x256.size inb_S1x2048_S1x256_0_0)) (View.ld I.ws (Rect.unit (s := S8x128x128) ![0, 0, 0] S1x128x128.size inb_S8x128x128_S1x128x128_0_0_0)) (View.ld I.bst (Rect.unit (s := S128x8) ![0, 0] S128x1.size inb_S128x8_S128x1_0_0))
def v1965 (I : Ins F) : FVec F S256x256 .f32 := k0_pay238 (h_3 I) (View.ld I.w1 (Rect.unit (s := S1024x4096) ![0, 256] S1024x256.size inb_S1024x4096_S1024x256_0_256)) (View.ld I.b (Rect.unit (s := S1x4096) ![0, 256] S1x256.size inb_S1x4096_S1x256_0_256))
def v1973 (I : Ins F) : FVec F S256x256 .bf16 := k0_pay239 (v1927 I) (v_3_1 I) (View.ld I.gv (Rect.unit (s := S1x2048) ![0, 256] S1x256.size inb_S1x2048_S1x256_0_256))
def v1989 (I : Ins F) : FVec F S256x256 .f32 := k0_pay240 (v5 I) (v1973 I) (View.ld I.ws (Rect.unit (s := S8x128x128) ![1, 0, 0] S1x128x128.size inb_S8x128x128_S1x128x128_1_0_0)) (View.ld I.bst (Rect.unit (s := S128x8) ![0, 1] S128x1.size inb_S128x8_S128x1_0_1))
def v2001 (I : Ins F) : FVec F S256x256 .bf16 := k0_pay241 (v1934 I) (v1958 I)
def v2008 (I : Ins F) : FVec F S256x256 .f32 := k0_pay242 (h_3 I) (View.ld I.w1 (Rect.unit (s := S1024x4096) ![0, 512] S1024x256.size inb_S1024x4096_S1024x256_0_512)) (View.ld I.b (Rect.unit (s := S1x4096) ![0, 512] S1x256.size inb_S1x4096_S1x256_0_512))
def v2011 (I : Ins F) : FVec F S256x256 .f32 := k0_pay243 (v1927 I) (v_3_2 I)
def v2014 (I : Ins F) : FVec F S256x256 .f32 := k0_pay244 (View.ld I.gv (Rect.unit (s := S1x2048) ![0, 512] S1x256.size inb_S1x2048_S1x256_0_512))
def v2032 (I : Ins F) : FVec F S256x256 .f32 := k0_pay245 (v5 I) (v2011 I) (v2014 I) (View.ld I.ws (Rect.unit (s := S8x128x128) ![2, 0, 0] S1x128x128.size inb_S8x128x128_S1x128x128_2_0_0)) (View.ld I.bst (Rect.unit (s := S128x8) ![0, 2] S128x1.size inb_S128x8_S128x1_0_2))
def v2044 (I : Ins F) : FVec F S256x256 .bf16 := k0_pay246 (v1965 I) (v1989 I)
def v2051 (I : Ins F) : FVec F S256x256 .f32 := k0_pay247 (h_3 I) (View.ld I.w1 (Rect.unit (s := S1024x4096) ![0, 768] S1024x256.size inb_S1024x4096_S1024x256_0_768)) (View.ld I.b (Rect.unit (s := S1x4096) ![0, 768] S1x256.size inb_S1x4096_S1x256_0_768))
def v2054 (I : Ins F) : FVec F S256x256 .f32 := k0_pay248 (v1927 I) (v_3_3 I)
def v2075 (I : Ins F) : FVec F S256x256 .f32 := k0_pay249 (v5 I) (v2054 I) (View.ld I.gv (Rect.unit (s := S1x2048) ![0, 768] S1x256.size inb_S1x2048_S1x256_0_768)) (View.ld I.ws (Rect.unit (s := S8x128x128) ![3, 0, 0] S1x128x128.size inb_S8x128x128_S1x128x128_3_0_0)) (View.ld I.bst (Rect.unit (s := S128x8) ![0, 3] S128x1.size inb_S128x8_S128x1_0_3))
def v2087 (I : Ins F) : FVec F S256x256 .bf16 := k0_pay250 (v2008 I) (v2032 I)
def v2094 (I : Ins F) : FVec F S256x256 .f32 := k0_pay251 (h_3 I) (View.ld I.w1 (Rect.unit (s := S1024x4096) ![0, 1024] S1024x256.size inb_S1024x4096_S1024x256_0_1024)) (View.ld I.b (Rect.unit (s := S1x4096) ![0, 1024] S1x256.size inb_S1x4096_S1x256_0_1024))
def v2118 (I : Ins F) : FVec F S256x256 .f32 := k0_pay252 (v5 I) (v1927 I) (v_3_4 I) (View.ld I.gv (Rect.unit (s := S1x2048) ![0, 1024] S1x256.size inb_S1x2048_S1x256_0_1024)) (View.ld I.ws (Rect.unit (s := S8x128x128) ![4, 0, 0] S1x128x128.size inb_S8x128x128_S1x128x128_4_0_0)) (View.ld I.bst (Rect.unit (s := S128x8) ![0, 4] S128x1.size inb_S128x8_S128x1_0_4))
def v2130 (I : Ins F) : FVec F S256x256 .bf16 := k0_pay253 (v2051 I) (v2075 I)
def v2133 (I : Ins F) : FVec F S256x256 .f32 := k0_pay254 (h_3 I) (View.ld I.w1 (Rect.unit (s := S1024x4096) ![0, 1280] S1024x256.size inb_S1024x4096_S1024x256_0_1280))
def v2137 (I : Ins F) : FVec F S256x256 .f32 := k0_pay255 (v2133 I) (View.ld I.b (Rect.unit (s := S1x4096) ![0, 1280] S1x256.size inb_S1x4096_S1x256_0_1280))
def v2161 (I : Ins F) : FVec F S256x256 .f32 := k0_pay256 (v5 I) (v1927 I) (v_3_5 I) (View.ld I.gv (Rect.unit (s := S1x2048) ![0, 1280] S1x256.size inb_S1x2048_S1x256_0_1280)) (View.ld I.ws (Rect.unit (s := S8x128x128) ![5, 0, 0] S1x128x128.size inb_S8x128x128_S1x128x128_5_0_0)) (View.ld I.bst (Rect.unit (s := S128x8) ![0, 5] S128x1.size inb_S128x8_S128x1_0_5))
def v2173 (I : Ins F) : FVec F S256x256 .bf16 := k0_pay257 (v2094 I) (v2118 I)
def v2174 (I : Ins F) : Vec F S256x1024 .bf16 := h_3 I
def v2180 (I : Ins F) : FVec F S256x256 .f32 := k0_pay258 (v2174 I) (View.ld I.w1 (Rect.unit (s := S1024x4096) ![0, 1536] S1024x256.size inb_S1024x4096_S1024x256_0_1536)) (View.ld I.b (Rect.unit (s := S1x4096) ![0, 1536] S1x256.size inb_S1x4096_S1x256_0_1536))
def v2204 (I : Ins F) : FVec F S256x256 .f32 := k0_pay259 (v5 I) (v1927 I) (v_3_6 I) (View.ld I.gv (Rect.unit (s := S1x2048) ![0, 1536] S1x256.size inb_S1x2048_S1x256_0_1536)) (View.ld I.ws (Rect.unit (s := S8x128x128) ![6, 0, 0] S1x128x128.size inb_S8x128x128_S1x128x128_6_0_0)) (View.ld I.bst (Rect.unit (s := S128x8) ![0, 6] S128x1.size inb_S128x8_S128x1_0_6))
def v2215 (I : Ins F) : FVec F S256x256 .f32 := k0_pay260 (v2137 I) (v2161 I)
def v2216 (I : Ins F) : FVec F S256x256 .bf16 := k0_pay261 (v2215 I)
def v2223 (I : Ins F) : FVec F S256x256 .f32 := k0_pay262 (h_3 I) (View.ld I.w1 (Rect.unit (s := S1024x4096) ![0, 1792] S1024x256.size inb_S1024x4096_S1024x256_0_1792)) (View.ld I.b (Rect.unit (s := S1x4096) ![0, 1792] S1x256.size inb_S1x4096_S1x256_0_1792))
def v2247 (I : Ins F) : FVec F S256x256 .f32 := k0_pay263 (v5 I) (v1927 I) (v_3_7 I) (View.ld I.gv (Rect.unit (s := S1x2048) ![0, 1792] S1x256.size inb_S1x2048_S1x256_0_1792)) (View.ld I.ws (Rect.unit (s := S8x128x128) ![7, 0, 0] S1x128x128.size inb_S8x128x128_S1x128x128_7_0_0)) (View.ld I.bst (Rect.unit (s := S128x8) ![0, 7] S128x1.size inb_S128x8_S128x1_0_7))
def v2254 (I : Ins F) : FVec F S256x256 .f32 := k0_pay264 (v2180 I)
def v2255 (I : Ins F) : FVec F S256x256 .f32 := k0_pay265
def o_3 (I : Ins F) : FVec F S256x1024 .f32 := k0_pay1 (v2001 I) (v2044 I) (v2087 I) (v2130 I) (v2173 I) (v2180 I) (v2204 I) (v2216 I) (v2223 I) (v2247 I) (v2254 I) (v2255 I) (View.ld I.x (Rect.unit (s := S1024x1024) ![768, 0] S256x1024.size inb_S1024x1024_S256x1024_768_0)) (View.ld I.w2 (Rect.unit (s := S2048x1024) ![0, 0] S2048x1024.size inb_S2048x1024_S2048x1024_0_0))

/-! The stores, each as its rectangle and its value. -/

abbrev ph_0 (I : Ins F) : View.Piece (Elt F) S1024x1024 .bf16 := ⟨Rect.unit (s := S1024x1024) ![0, 0] S256x1024.size inb_S1024x1024_S256x1024_0_0, h_0 I⟩
abbrev pv_0_1 (I : Ins F) : View.Piece (Elt F) S1024x2048 .f32 := ⟨Rect.unit (s := S1024x2048) ![0, 256] S256x256.size inb_S1024x2048_S256x256_0_256, v_0_1 I⟩
abbrev pv_0_0 (I : Ins F) : View.Piece (Elt F) S1024x2048 .f32 := ⟨Rect.unit (s := S1024x2048) ![0, 0] S256x256.size inb_S1024x2048_S256x256_0_0, v_0_0 I⟩
abbrev pv_0_2 (I : Ins F) : View.Piece (Elt F) S1024x2048 .f32 := ⟨Rect.unit (s := S1024x2048) ![0, 512] S256x256.size inb_S1024x2048_S256x256_0_512, v_0_2 I⟩
abbrev pv_0_4 (I : Ins F) : View.Piece (Elt F) S1024x2048 .f32 := ⟨Rect.unit (s := S1024x2048) ![0, 1024] S256x256.size inb_S1024x2048_S256x256_0_1024, v_0_4 I⟩
abbrev pv_0_3 (I : Ins F) : View.Piece (Elt F) S1024x2048 .f32 := ⟨Rect.unit (s := S1024x2048) ![0, 768] S256x256.size inb_S1024x2048_S256x256_0_768, v_0_3 I⟩
abbrev pv_0_5 (I : Ins F) : View.Piece (Elt F) S1024x2048 .f32 := ⟨Rect.unit (s := S1024x2048) ![0, 1280] S256x256.size inb_S1024x2048_S256x256_0_1280, v_0_5 I⟩
abbrev pv_0_7 (I : Ins F) : View.Piece (Elt F) S1024x2048 .f32 := ⟨Rect.unit (s := S1024x2048) ![0, 1792] S256x256.size inb_S1024x2048_S256x256_0_1792, v_0_7 I⟩
abbrev pv_0_6 (I : Ins F) : View.Piece (Elt F) S1024x2048 .f32 := ⟨Rect.unit (s := S1024x2048) ![0, 1536] S256x256.size inb_S1024x2048_S256x256_0_1536, v_0_6 I⟩
abbrev ph_1 (I : Ins F) : View.Piece (Elt F) S1024x1024 .bf16 := ⟨Rect.unit (s := S1024x1024) ![256, 0] S256x1024.size inb_S1024x1024_S256x1024_256_0, h_1 I⟩
abbrev pv_1_0 (I : Ins F) : View.Piece (Elt F) S1024x2048 .f32 := ⟨Rect.unit (s := S1024x2048) ![256, 0] S256x256.size inb_S1024x2048_S256x256_256_0, v_1_0 I⟩
abbrev pv_1_1 (I : Ins F) : View.Piece (Elt F) S1024x2048 .f32 := ⟨Rect.unit (s := S1024x2048) ![256, 256] S256x256.size inb_S1024x2048_S256x256_256_256, v_1_1 I⟩
abbrev pv_1_2 (I : Ins F) : View.Piece (Elt F) S1024x2048 .f32 := ⟨Rect.unit (s := S1024x2048) ![256, 512] S256x256.size inb_S1024x2048_S256x256_256_512, v_1_2 I⟩
abbrev pv_1_3 (I : Ins F) : View.Piece (Elt F) S1024x2048 .f32 := ⟨Rect.unit (s := S1024x2048) ![256, 768] S256x256.size inb_S1024x2048_S256x256_256_768, v_1_3 I⟩
abbrev pv_1_4 (I : Ins F) : View.Piece (Elt F) S1024x2048 .f32 := ⟨Rect.unit (s := S1024x2048) ![256, 1024] S256x256.size inb_S1024x2048_S256x256_256_1024, v_1_4 I⟩
abbrev pv_1_5 (I : Ins F) : View.Piece (Elt F) S1024x2048 .f32 := ⟨Rect.unit (s := S1024x2048) ![256, 1280] S256x256.size inb_S1024x2048_S256x256_256_1280, v_1_5 I⟩
abbrev pv_1_6 (I : Ins F) : View.Piece (Elt F) S1024x2048 .f32 := ⟨Rect.unit (s := S1024x2048) ![256, 1536] S256x256.size inb_S1024x2048_S256x256_256_1536, v_1_6 I⟩
abbrev pv_1_7 (I : Ins F) : View.Piece (Elt F) S1024x2048 .f32 := ⟨Rect.unit (s := S1024x2048) ![256, 1792] S256x256.size inb_S1024x2048_S256x256_256_1792, v_1_7 I⟩
abbrev ph_2 (I : Ins F) : View.Piece (Elt F) S1024x1024 .bf16 := ⟨Rect.unit (s := S1024x1024) ![512, 0] S256x1024.size inb_S1024x1024_S256x1024_512_0, h_2 I⟩
abbrev po_0 (I : Ins F) : View.Piece (Elt F) S1024x1024 .f32 := ⟨Rect.unit (s := S1024x1024) ![0, 0] S256x1024.size inb_S1024x1024_S256x1024_0_0, o_0 I⟩
abbrev pv_2_0 (I : Ins F) : View.Piece (Elt F) S1024x2048 .f32 := ⟨Rect.unit (s := S1024x2048) ![512, 0] S256x256.size inb_S1024x2048_S256x256_512_0, v_2_0 I⟩
abbrev pv_2_1 (I : Ins F) : View.Piece (Elt F) S1024x2048 .f32 := ⟨Rect.unit (s := S1024x2048) ![512, 256] S256x256.size inb_S1024x2048_S256x256_512_256, v_2_1 I⟩
abbrev pv_2_2 (I : Ins F) : View.Piece (Elt F) S1024x2048 .f32 := ⟨Rect.unit (s := S1024x2048) ![512, 512] S256x256.size inb_S1024x2048_S256x256_512_512, v_2_2 I⟩
abbrev pv_2_3 (I : Ins F) : View.Piece (Elt F) S1024x2048 .f32 := ⟨Rect.unit (s := S1024x2048) ![512, 768] S256x256.size inb_S1024x2048_S256x256_512_768, v_2_3 I⟩
abbrev pv_2_4 (I : Ins F) : View.Piece (Elt F) S1024x2048 .f32 := ⟨Rect.unit (s := S1024x2048) ![512, 1024] S256x256.size inb_S1024x2048_S256x256_512_1024, v_2_4 I⟩
abbrev pv_2_5 (I : Ins F) : View.Piece (Elt F) S1024x2048 .f32 := ⟨Rect.unit (s := S1024x2048) ![512, 1280] S256x256.size inb_S1024x2048_S256x256_512_1280, v_2_5 I⟩
abbrev pv_2_6 (I : Ins F) : View.Piece (Elt F) S1024x2048 .f32 := ⟨Rect.unit (s := S1024x2048) ![512, 1536] S256x256.size inb_S1024x2048_S256x256_512_1536, v_2_6 I⟩
abbrev pv_2_7 (I : Ins F) : View.Piece (Elt F) S1024x2048 .f32 := ⟨Rect.unit (s := S1024x2048) ![512, 1792] S256x256.size inb_S1024x2048_S256x256_512_1792, v_2_7 I⟩
abbrev po_1 (I : Ins F) : View.Piece (Elt F) S1024x1024 .f32 := ⟨Rect.unit (s := S1024x1024) ![256, 0] S256x1024.size inb_S1024x1024_S256x1024_256_0, o_1 I⟩
abbrev ph_3 (I : Ins F) : View.Piece (Elt F) S1024x1024 .bf16 := ⟨Rect.unit (s := S1024x1024) ![768, 0] S256x1024.size inb_S1024x1024_S256x1024_768_0, h_3 I⟩
abbrev pv_3_0 (I : Ins F) : View.Piece (Elt F) S1024x2048 .f32 := ⟨Rect.unit (s := S1024x2048) ![768, 0] S256x256.size inb_S1024x2048_S256x256_768_0, v_3_0 I⟩
abbrev pv_3_1 (I : Ins F) : View.Piece (Elt F) S1024x2048 .f32 := ⟨Rect.unit (s := S1024x2048) ![768, 256] S256x256.size inb_S1024x2048_S256x256_768_256, v_3_1 I⟩
abbrev pv_3_2 (I : Ins F) : View.Piece (Elt F) S1024x2048 .f32 := ⟨Rect.unit (s := S1024x2048) ![768, 512] S256x256.size inb_S1024x2048_S256x256_768_512, v_3_2 I⟩
abbrev pv_3_3 (I : Ins F) : View.Piece (Elt F) S1024x2048 .f32 := ⟨Rect.unit (s := S1024x2048) ![768, 768] S256x256.size inb_S1024x2048_S256x256_768_768, v_3_3 I⟩
abbrev pv_3_4 (I : Ins F) : View.Piece (Elt F) S1024x2048 .f32 := ⟨Rect.unit (s := S1024x2048) ![768, 1024] S256x256.size inb_S1024x2048_S256x256_768_1024, v_3_4 I⟩
abbrev pv_3_5 (I : Ins F) : View.Piece (Elt F) S1024x2048 .f32 := ⟨Rect.unit (s := S1024x2048) ![768, 1280] S256x256.size inb_S1024x2048_S256x256_768_1280, v_3_5 I⟩
abbrev pv_3_7 (I : Ins F) : View.Piece (Elt F) S1024x2048 .f32 := ⟨Rect.unit (s := S1024x2048) ![768, 1792] S256x256.size inb_S1024x2048_S256x256_768_1792, v_3_7 I⟩
abbrev pv_3_6 (I : Ins F) : View.Piece (Elt F) S1024x2048 .f32 := ⟨Rect.unit (s := S1024x2048) ![768, 1536] S256x256.size inb_S1024x2048_S256x256_768_1536, v_3_6 I⟩
abbrev po_2 (I : Ins F) : View.Piece (Elt F) S1024x1024 .f32 := ⟨Rect.unit (s := S1024x1024) ![512, 0] S256x1024.size inb_S1024x1024_S256x1024_512_0, o_2 I⟩
abbrev po_3 (I : Ins F) : View.Piece (Elt F) S1024x1024 .f32 := ⟨Rect.unit (s := S1024x1024) ![768, 0] S256x1024.size inb_S1024x1024_S256x1024_768_0, o_3 I⟩

end Cert.Kernel3Ideal.Hand
-- ==== Proof.Mixer.State.lean ====
/-
  The spatial-gating mixer. The state between the sections of a grid point.
-/
module

public import proofs.«01_k».proof.Proof.Mixer.Chain

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (Pipeline.UD sig nD τ) ℕ

variable (c : Dev nD) (i : grid0.Coords)
  (arg1 : Memref sig .tc .vmem S1024x1024 .f32) (harg1 : arg1.IsWhole) (arg2 : Memref sig .tc .vmem S1x1024 .f32) (harg2 : arg2.IsWhole)
  (arg4 : Memref sig .tc .vmem S1x4096 .f32) (harg4 : arg4.IsWhole) (arg5 : Memref sig .tc .vmem S1x2048 .f32) (harg5 : arg5.IsWhole)
  (arg6 : Memref sig .tc .vmem S8x128x128 .f32) (harg6 : arg6.IsWhole) (arg7 : Memref sig .tc .vmem S128x8 .f32) (harg7 : arg7.IsWhole)
  (arg9 : Memref sig .tc .vmem S1024x1024 .f32) (harg9 : arg9.IsWhole)
  (f1 : PB (F := F) c arg1) (f2 : PB (F := F) c arg2) (f4 : PB (F := F) c arg4) (f5 : PB (F := F) c arg5) (f6 : PB (F := F) c arg6) (f7 : PB (F := F) c arg7)
  (a1 : PB (F := F) c s1M) (a2 : PB (F := F) c s2M)

/-- What the operands' contents read as. -/
abbrev insOf : Ins F := ⟨arg1.view.read (Elt F) f1, arg2.view.read (Elt F) f2, arg4.view.read (Elt F) f4, arg5.view.read (Elt F) f5,
  arg6.view.read (Elt F) f6, arg7.view.read (Elt F) f7, s1M.view.read (Elt F) a1, s2M.view.read (Elt F) a2⟩
/-- The state between sections: the operands held, the scratch buffers and the output block after some stores,
    and whatever else is held. -/
def St (R : sProp 𝕄) (LH : List (View.Piece (Elt F) S1024x1024 .bf16)) (LV : List (View.Piece (Elt F) S1024x2048 .f32)) (LO : List (View.Piece (Elt F) S1024x1024 .f32)) :
    sProp 𝕄 :=
  iprop(ptOn c arg1 f1 ∗ ptOn c arg2 f2 ∗ ptOn c arg4 f4 ∗ ptOn c arg5 f5 ∗ ptOn c arg6 f6 ∗ ptOn c arg7 f7 ∗ pt c s1M a1 ∗ pt c s2M a2
    ∗ (∃ f, pt (F := F) c hM (hM.view.writes (Elt F) f LH)) ∗ (∃ f, pt (F := F) c vM (vM.view.writes (Elt F) f LV))
    ∗ (∃ f, ptOn c arg9 (arg9.view.writes (Elt F) f LO)) ∗ R)

end Cert.Kernel3Ideal.Hand
-- ==== Proof.Mixer.Sections1.lean ====
/-
  The spatial-gating mixer. Sections 2 to 16 of the body, each run from the state before it to the state after it.
-/
module

public import proofs.«01_k».proof.Proof.Mixer.State

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (Pipeline.UD sig nD τ) ℕ

variable (c : Dev nD) (i : grid0.Coords)
  (arg1 : Memref sig .tc .vmem S1024x1024 .f32) (harg1 : arg1.IsWhole) (arg2 : Memref sig .tc .vmem S1x1024 .f32) (harg2 : arg2.IsWhole)
  (arg4 : Memref sig .tc .vmem S1x4096 .f32) (harg4 : arg4.IsWhole) (arg5 : Memref sig .tc .vmem S1x2048 .f32) (harg5 : arg5.IsWhole)
  (arg6 : Memref sig .tc .vmem S8x128x128 .f32) (harg6 : arg6.IsWhole) (arg7 : Memref sig .tc .vmem S128x8 .f32) (harg7 : arg7.IsWhole)
  (arg9 : Memref sig .tc .vmem S1024x1024 .f32) (harg9 : arg9.IsWhole)
  (f1 : PB (F := F) c arg1) (f2 : PB (F := F) c arg2) (f4 : PB (F := F) c arg4) (f5 : PB (F := F) c arg5) (f6 : PB (F := F) c arg6) (f7 : PB (F := F) c arg7)
  (a1 : PB (F := F) c s1M) (a2 : PB (F := F) c s2M)
  (I : Ins F) {B : Type}

/-- Section 2. -/
theorem part2_run (R : sProp 𝕄) (hI : I = insOf c arg1 arg2 arg4 arg5 arg6 arg7 f1 f2 f4 f5 f6 f7 a1 a2) (k : (FVec F S256x1 .f32) → Prog (TpuEff nD τ sig (Elt F) Λ₀ .tc) B)
    (K : B → sProp 𝕄)
    (h : St c arg1 arg2 arg4 arg5 arg6 arg7 arg9 f1 f2 f4 f5 f6 f7 a1 a2 R [ph_0 I] [pv_0_1 I, pv_0_0 I] [] ⊢ wp frame (wpE (defs₀ (F := F)) Variants.none c none) Set.univ (k (v74 I)) K) :
    St c arg1 arg2 arg4 arg5 arg6 arg7 arg9 f1 f2 f4 f5 f6 f7 a1 a2 R [ph_0 I] [] [] ⊢ wp frame (wpE (defs₀ (F := F)) Variants.none c none) Set.univ
      (k0_part2 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v6 I) (v33 I) (v36 I) >>= k) K := by
  subst hI
  rw [wp_bind, k0_part2_eq_skeleton]
  unfold k0_part2_skel St
  iintro ⟨H1, H2, H4, H5, H6, H7, Hs1, Hs2, ⟨%fh, Hh⟩, ⟨%fv, Hv⟩, ⟨%fo, H9⟩, HR⟩
  sl_exec
  try unfold part2_run.sl.r
  try unfold part2_run.sl.v51
  try unfold part2_run.sl.Hv_1
  try unfold part2_run.sl.Hv_2
  try unfold part2_run.sl.Hv_3
  try unfold part2_run.sl.Hh_1
  try unfold part2_run.sl.Hh_2
  try unfold part2_run.sl.Hh_3
  try unfold part2_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (v74 I)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 3. -/
theorem part3_run (R : sProp 𝕄) (hI : I = insOf c arg1 arg2 arg4 arg5 arg6 arg7 f1 f2 f4 f5 f6 f7 a1 a2) (k : ((_ : FVec F S256x1 .f32) ×' (_ : FVec F S256x256 .f32) ×' (_ : FVec F S256x256 .f32) ×' F .f32) → Prog (TpuEff nD τ sig (Elt F) Λ₀ .tc) B)
    (K : B → sProp 𝕄)
    (h : St c arg1 arg2 arg4 arg5 arg6 arg7 arg9 f1 f2 f4 f5 f6 f7 a1 a2 R [ph_0 I] [pv_0_2 I, pv_0_1 I, pv_0_0 I] [] ⊢ wp frame (wpE (defs₀ (F := F)) Variants.none c none) Set.univ (k (⟨v98 I, v105 I, v112 I, cst_51 I⟩)) K) :
    St c arg1 arg2 arg4 arg5 arg6 arg7 arg9 f1 f2 f4 f5 f6 f7 a1 a2 R [ph_0 I] [pv_0_1 I, pv_0_0 I] [] ⊢ wp frame (wpE (defs₀ (F := F)) Variants.none c none) Set.univ
      (k0_part3 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v74 I) >>= k) K := by
  subst hI
  rw [wp_bind, k0_part3_eq_skeleton]
  unfold k0_part3_skel St
  iintro ⟨H1, H2, H4, H5, H6, H7, Hs1, Hs2, ⟨%fh, Hh⟩, ⟨%fv, Hv⟩, ⟨%fo, H9⟩, HR⟩
  sl_exec
  try unfold part3_run.sl.r
  try unfold part3_run.sl.r_1
  try unfold part3_run.sl.r_2
  try unfold part3_run.sl.r_3
  try unfold part3_run.sl.v75
  try unfold part3_run.sl.v99
  try unfold part3_run.sl.Hv_1
  try unfold part3_run.sl.Hv_2
  try unfold part3_run.sl.Hv_3
  try unfold part3_run.sl.Hv_4
  try unfold part3_run.sl.Hv_5
  try unfold part3_run.sl.Hh_1
  try unfold part3_run.sl.Hh_2
  try unfold part3_run.sl.Hh_3
  try unfold part3_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v98 I, v105 I, v112 I, cst_51 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 4. -/
theorem part4_run (R : sProp 𝕄) (hI : I = insOf c arg1 arg2 arg4 arg5 arg6 arg7 f1 f2 f4 f5 f6 f7 a1 a2) (k : ((_ : FVec F S256x1 .f32) ×' FVec F S256x256 .f32) → Prog (TpuEff nD τ sig (Elt F) Λ₀ .tc) B)
    (K : B → sProp 𝕄)
    (h : St c arg1 arg2 arg4 arg5 arg6 arg7 arg9 f1 f2 f4 f5 f6 f7 a1 a2 R [ph_0 I] [pv_0_4 I, pv_0_3 I, pv_0_2 I, pv_0_1 I, pv_0_0 I] [] ⊢ wp frame (wpE (defs₀ (F := F)) Variants.none c none) Set.univ (k (⟨v146 I, v149 I⟩)) K) :
    St c arg1 arg2 arg4 arg5 arg6 arg7 arg9 f1 f2 f4 f5 f6 f7 a1 a2 R [ph_0 I] [pv_0_2 I, pv_0_1 I, pv_0_0 I] [] ⊢ wp frame (wpE (defs₀ (F := F)) Variants.none c none) Set.univ
      (k0_part4 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v98 I) (v105 I) (v112 I) (cst_51 I) >>= k) K := by
  subst hI
  rw [wp_bind, k0_part4_eq_skeleton]
  unfold k0_part4_skel St
  iintro ⟨H1, H2, H4, H5, H6, H7, Hs1, Hs2, ⟨%fh, Hh⟩, ⟨%fv, Hv⟩, ⟨%fo, H9⟩, HR⟩
  sl_exec
  try unfold part4_run.sl.r
  try unfold part4_run.sl.r_1
  try unfold part4_run.sl.v123
  try unfold part4_run.sl.v147
  try unfold part4_run.sl.Hv_3
  try unfold part4_run.sl.Hv_4
  try unfold part4_run.sl.Hv_5
  try unfold part4_run.sl.Hv_6
  try unfold part4_run.sl.Hh_1
  try unfold part4_run.sl.Hh_2
  try unfold part4_run.sl.Hh_3
  try unfold part4_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v146 I, v149 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 5. -/
theorem part5_run (R : sProp 𝕄) (hI : I = insOf c arg1 arg2 arg4 arg5 arg6 arg7 f1 f2 f4 f5 f6 f7 a1 a2) (k : ((_ : FVec F S256x1 .f32) ×' (_ : FVec F S256x256 .f32) ×' Vec F S256x256 .f32) → Prog (TpuEff nD τ sig (Elt F) Λ₀ .tc) B)
    (K : B → sProp 𝕄)
    (h : ∀ v188 : Vec F S256x256 .f32, St c arg1 arg2 arg4 arg5 arg6 arg7 arg9 f1 f2 f4 f5 f6 f7 a1 a2 R [ph_0 I] [pv_0_5 I, pv_0_4 I, pv_0_3 I, pv_0_2 I, pv_0_1 I, pv_0_0 I] [] ⊢ wp frame (wpE (defs₀ (F := F)) Variants.none c none) Set.univ (k (⟨v170 I, v187 I, v188⟩)) K) :
    St c arg1 arg2 arg4 arg5 arg6 arg7 arg9 f1 f2 f4 f5 f6 f7 a1 a2 R [ph_0 I] [pv_0_4 I, pv_0_3 I, pv_0_2 I, pv_0_1 I, pv_0_0 I] [] ⊢ wp frame (wpE (defs₀ (F := F)) Variants.none c none) Set.univ
      (k0_part5 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v146 I) (v149 I) >>= k) K := by
  subst hI
  rw [wp_bind, k0_part5_eq_skeleton]
  unfold k0_part5_skel St
  iintro ⟨H1, H2, H4, H5, H6, H7, Hs1, Hs2, ⟨%fh, Hh⟩, ⟨%fv, Hv⟩, ⟨%fo, H9⟩, HR⟩
  sl_exec
  try unfold part5_run.sl.r
  try unfold part5_run.sl.r_1
  try unfold part5_run.sl.r_2
  try unfold part5_run.sl.v171
  try unfold part5_run.sl.Hv_4
  try unfold part5_run.sl.Hv_5
  try unfold part5_run.sl.Hv_6
  try unfold part5_run.sl.Hv_7
  try unfold part5_run.sl.Hv_8
  try unfold part5_run.sl.Hh_1
  try unfold part5_run.sl.Hh_2
  try unfold part5_run.sl.Hh_3
  try unfold part5_run.sl.H9_1

  try simp (disch := decide) only [↓ View.readCov_skip, ↓ View.readCov_cons_toLoadRect]
  iapply (entails_of_eq_arg (fun r => wp frame (wpE (defs₀ (F := F)) Variants.none c none) Set.univ (k r) K)
    (a := ⟨v170 (insOf c arg1 arg2 arg4 arg5 arg6 arg7 f1 f2 f4 f5 f6 f7 a1 a2), v187 (insOf c arg1 arg2 arg4 arg5 arg6 arg7 f1 f2 f4 f5 f6 f7 a1 a2), _⟩) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 6. -/
theorem part6_run (v188 : Vec F S256x256 .f32) (R : sProp 𝕄) (hI : I = insOf c arg1 arg2 arg4 arg5 arg6 arg7 f1 f2 f4 f5 f6 f7 a1 a2) (k : ((_ : FVec F S256x1 .f32) ×' (_ : FVec F S256x1024 .f32) ×' Vec F S1x1024 .f32) → Prog (TpuEff nD τ sig (Elt F) Λ₀ .tc) B)
    (K : B → sProp 𝕄)
    (h : St c arg1 arg2 arg4 arg5 arg6 arg7 arg9 f1 f2 f4 f5 f6 f7 a1 a2 R [ph_0 I] [pv_0_7 I, pv_0_6 I, pv_0_5 I, pv_0_4 I, pv_0_3 I, pv_0_2 I, pv_0_1 I, pv_0_0 I] [] ⊢ wp frame (wpE (defs₀ (F := F)) Variants.none c none) Set.univ (k (⟨v223 I, v225 I, v226 I⟩)) K) :
    St c arg1 arg2 arg4 arg5 arg6 arg7 arg9 f1 f2 f4 f5 f6 f7 a1 a2 R [ph_0 I] [pv_0_5 I, pv_0_4 I, pv_0_3 I, pv_0_2 I, pv_0_1 I, pv_0_0 I] [] ⊢ wp frame (wpE (defs₀ (F := F)) Variants.none c none) Set.univ
      (k0_part6 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v170 I) (v187 I) v188 >>= k) K := by
  subst hI
  rw [wp_bind, k0_part6_eq_skeleton]
  unfold k0_part6_skel St
  iintro ⟨H1, H2, H4, H5, H6, H7, Hs1, Hs2, ⟨%fh, Hh⟩, ⟨%fv, Hv⟩, ⟨%fo, H9⟩, HR⟩
  sl_exec
  try unfold part6_run.sl.r
  try unfold part6_run.sl.r_1
  try unfold part6_run.sl.r_2
  try unfold part6_run.sl.v195
  try unfold part6_run.sl.Hv_6
  try unfold part6_run.sl.Hv_7
  try unfold part6_run.sl.Hv_8
  try unfold part6_run.sl.Hv_9
  try unfold part6_run.sl.Hh_1
  try unfold part6_run.sl.Hh_2
  try unfold part6_run.sl.Hh_3
  try unfold part6_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v223 I, v225 I, v226 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 7. -/
theorem part7_run (R : sProp 𝕄) (hI : I = insOf c arg1 arg2 arg4 arg5 arg6 arg7 f1 f2 f4 f5 f6 f7 a1 a2) (k : ((_ : FVec F S256x256 .f32) ×' (_ : FVec F S256x256 .bf16) ×' FVec F S128x128 .bf16) → Prog (TpuEff nD τ sig (Elt F) Λ₀ .tc) B)
    (K : B → sProp 𝕄)
    (h : St c arg1 arg2 arg4 arg5 arg6 arg7 arg9 f1 f2 f4 f5 f6 f7 a1 a2 R [ph_1 I, ph_0 I] [pv_0_7 I, pv_0_6 I, pv_0_5 I, pv_0_4 I, pv_0_3 I, pv_0_2 I, pv_0_1 I] [] ⊢ wp frame (wpE (defs₀ (F := F)) Variants.none c none) Set.univ (k (⟨v250 I, v258 I, v263 I⟩)) K) :
    St c arg1 arg2 arg4 arg5 arg6 arg7 arg9 f1 f2 f4 f5 f6 f7 a1 a2 R [ph_0 I] [pv_0_7 I, pv_0_6 I, pv_0_5 I, pv_0_4 I, pv_0_3 I, pv_0_2 I, pv_0_1 I, pv_0_0 I] [] ⊢ wp frame (wpE (defs₀ (F := F)) Variants.none c none) Set.univ
      (k0_part7 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v223 I) (v225 I) (v226 I) >>= k) K := by
  subst hI
  rw [wp_bind, k0_part7_eq_skeleton]
  unfold k0_part7_skel St
  iintro ⟨H1, H2, H4, H5, H6, H7, Hs1, Hs2, ⟨%fh, Hh⟩, ⟨%fv, Hv⟩, ⟨%fo, H9⟩, HR⟩
  sl_exec
  try unfold part7_run.sl.r
  try unfold part7_run.sl.r_1
  try unfold part7_run.sl.r_2
  try unfold part7_run.sl.v244
  try unfold part7_run.sl.v251
  try unfold part7_run.sl.Hv_5
  try unfold part7_run.sl.Hv_6
  try unfold part7_run.sl.Hv_7
  try unfold part7_run.sl.Hv_8
  try unfold part7_run.sl.Hv_9
  try unfold part7_run.sl.Hv_10
  try unfold part7_run.sl.Hv_11
  try unfold part7_run.sl.Hh_1
  try unfold part7_run.sl.Hh_2
  try unfold part7_run.sl.Hh_3
  try unfold part7_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v250 I, v258 I, v263 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 8. -/
theorem part8_run (R : sProp 𝕄) (hI : I = insOf c arg1 arg2 arg4 arg5 arg6 arg7 f1 f2 f4 f5 f6 f7 a1 a2) (k : ((_ : FVec F S256x256 .f32) ×' (_ : FVec F S256x256 .f32) ×' (_ : FVec F S128x1 .f32) ×' (_ : FVec F S128x256 .f32) ×' FVec F S128x256 .f32) → Prog (TpuEff nD τ sig (Elt F) Λ₀ .tc) B)
    (K : B → sProp 𝕄)
    (h : St c arg1 arg2 arg4 arg5 arg6 arg7 arg9 f1 f2 f4 f5 f6 f7 a1 a2 R [ph_1 I, ph_0 I] [pv_0_7 I, pv_0_6 I, pv_0_5 I, pv_0_4 I, pv_0_3 I, pv_0_2 I] [] ⊢ wp frame (wpE (defs₀ (F := F)) Variants.none c none) Set.univ (k (⟨v274 I, v281 I, v296 I, v300 I, v302 I⟩)) K) :
    St c arg1 arg2 arg4 arg5 arg6 arg7 arg9 f1 f2 f4 f5 f6 f7 a1 a2 R [ph_1 I, ph_0 I] [pv_0_7 I, pv_0_6 I, pv_0_5 I, pv_0_4 I, pv_0_3 I, pv_0_2 I, pv_0_1 I] [] ⊢ wp frame (wpE (defs₀ (F := F)) Variants.none c none) Set.univ
      (k0_part8 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v223 I) (v258 I) (v263 I) >>= k) K := by
  subst hI
  rw [wp_bind, k0_part8_eq_skeleton]
  unfold k0_part8_skel St
  iintro ⟨H1, H2, H4, H5, H6, H7, Hs1, Hs2, ⟨%fh, Hh⟩, ⟨%fv, Hv⟩, ⟨%fo, H9⟩, HR⟩
  sl_exec
  try unfold part8_run.sl.r
  try unfold part8_run.sl.r_1
  try unfold part8_run.sl.r_2
  try unfold part8_run.sl.r_3
  try unfold part8_run.sl.r_4
  try unfold part8_run.sl.v275
  try unfold part8_run.sl.v282
  try unfold part8_run.sl.Hv_4
  try unfold part8_run.sl.Hv_5
  try unfold part8_run.sl.Hv_6
  try unfold part8_run.sl.Hv_7
  try unfold part8_run.sl.Hv_8
  try unfold part8_run.sl.Hv_9
  try unfold part8_run.sl.Hv_10
  try unfold part8_run.sl.Hh_1
  try unfold part8_run.sl.Hh_2
  try unfold part8_run.sl.Hh_3
  try unfold part8_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v274 I, v281 I, v296 I, v300 I, v302 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 9. -/
theorem part9_run (R : sProp 𝕄) (hI : I = insOf c arg1 arg2 arg4 arg5 arg6 arg7 f1 f2 f4 f5 f6 f7 a1 a2) (k : ((_ : FVec F S256x256 .f32) ×' (_ : FVec F S256x1 .f32) ×' (_ : FVec F S256x256 .bf16) ×' Vec F S256x1024 .bf16) → Prog (TpuEff nD τ sig (Elt F) Λ₀ .tc) B)
    (K : B → sProp 𝕄)
    (h : St c arg1 arg2 arg4 arg5 arg6 arg7 arg9 f1 f2 f4 f5 f6 f7 a1 a2 R [ph_1 I, ph_0 I] [pv_1_0 I, pv_0_7 I, pv_0_6 I, pv_0_5 I, pv_0_4 I, pv_0_3 I, pv_0_2 I] [] ⊢ wp frame (wpE (defs₀ (F := F)) Variants.none c none) Set.univ (k (⟨v305 I, v329 I, v341 I, v342 I⟩)) K) :
    St c arg1 arg2 arg4 arg5 arg6 arg7 arg9 f1 f2 f4 f5 f6 f7 a1 a2 R [ph_1 I, ph_0 I] [pv_0_7 I, pv_0_6 I, pv_0_5 I, pv_0_4 I, pv_0_3 I, pv_0_2 I] [] ⊢ wp frame (wpE (defs₀ (F := F)) Variants.none c none) Set.univ
      (k0_part9 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v6 I) (v250 I) (v274 I) (v296 I) (v300 I) (v302 I) >>= k) K := by
  subst hI
  rw [wp_bind, k0_part9_eq_skeleton]
  unfold k0_part9_skel St
  iintro ⟨H1, H2, H4, H5, H6, H7, Hs1, Hs2, ⟨%fh, Hh⟩, ⟨%fv, Hv⟩, ⟨%fo, H9⟩, HR⟩
  sl_exec
  try unfold part9_run.sl.r
  try unfold part9_run.sl.r_1
  try unfold part9_run.sl.r_2
  try unfold part9_run.sl.r_3
  try unfold part9_run.sl.v306
  try unfold part9_run.sl.v342
  try unfold part9_run.sl.Hv_5
  try unfold part9_run.sl.Hv_6
  try unfold part9_run.sl.Hv_7
  try unfold part9_run.sl.Hv_8
  try unfold part9_run.sl.Hv_9
  try unfold part9_run.sl.Hh_1
  try unfold part9_run.sl.Hh_2
  try unfold part9_run.sl.Hh_3
  try unfold part9_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v305 I, v329 I, v341 I, v342 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 10. -/
theorem part10_run (R : sProp 𝕄) (hI : I = insOf c arg1 arg2 arg4 arg5 arg6 arg7 f1 f2 f4 f5 f6 f7 a1 a2) (k : ((_ : FVec F S256x256 .f32) ×' (_ : FVec F S256x256 .f32) ×' FVec F S256x256 .f32) → Prog (TpuEff nD τ sig (Elt F) Λ₀ .tc) B)
    (K : B → sProp 𝕄)
    (h : St c arg1 arg2 arg4 arg5 arg6 arg7 arg9 f1 f2 f4 f5 f6 f7 a1 a2 R [ph_1 I, ph_0 I] [pv_1_0 I, pv_0_7 I, pv_0_6 I, pv_0_5 I, pv_0_4 I, pv_0_3 I] [] ⊢ wp frame (wpE (defs₀ (F := F)) Variants.none c none) Set.univ (k (⟨v348 I, v372 I, v379 I⟩)) K) :
    St c arg1 arg2 arg4 arg5 arg6 arg7 arg9 f1 f2 f4 f5 f6 f7 a1 a2 R [ph_1 I, ph_0 I] [pv_1_0 I, pv_0_7 I, pv_0_6 I, pv_0_5 I, pv_0_4 I, pv_0_3 I, pv_0_2 I] [] ⊢ wp frame (wpE (defs₀ (F := F)) Variants.none c none) Set.univ
      (k0_part10 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v223 I) (v342 I) >>= k) K := by
  subst hI
  rw [wp_bind, k0_part10_eq_skeleton]
  unfold k0_part10_skel St
  iintro ⟨H1, H2, H4, H5, H6, H7, Hs1, Hs2, ⟨%fh, Hh⟩, ⟨%fv, Hv⟩, ⟨%fo, H9⟩, HR⟩
  sl_exec
  try unfold part10_run.sl.r
  try unfold part10_run.sl.r_1
  try unfold part10_run.sl.r_2
  try unfold part10_run.sl.v349
  try unfold part10_run.sl.v373
  try unfold part10_run.sl.Hv_4
  try unfold part10_run.sl.Hv_5
  try unfold part10_run.sl.Hv_6
  try unfold part10_run.sl.Hv_7
  try unfold part10_run.sl.Hv_8
  try unfold part10_run.sl.Hv_9
  try unfold part10_run.sl.Hv_10
  try unfold part10_run.sl.Hh_1
  try unfold part10_run.sl.Hh_2
  try unfold part10_run.sl.Hh_3
  try unfold part10_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v348 I, v372 I, v379 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 11. -/
theorem part11_run (R : sProp 𝕄) (hI : I = insOf c arg1 arg2 arg4 arg5 arg6 arg7 f1 f2 f4 f5 f6 f7 a1 a2) (k : ((_ : FVec F S256x1 .f32) ×' (_ : FVec F S256x256 .bf16) ×' (_ : FVec F S256x256 .f32) ×' FVec F S256x256 .f32) → Prog (TpuEff nD τ sig (Elt F) Λ₀ .tc) B)
    (K : B → sProp 𝕄)
    (h : St c arg1 arg2 arg4 arg5 arg6 arg7 arg9 f1 f2 f4 f5 f6 f7 a1 a2 R [ph_1 I, ph_0 I] [pv_1_1 I, pv_1_0 I, pv_0_7 I, pv_0_6 I, pv_0_5 I, pv_0_4 I] [] ⊢ wp frame (wpE (defs₀ (F := F)) Variants.none c none) Set.univ (k (⟨v396 I, v408 I, v415 I, v418 I⟩)) K) :
    St c arg1 arg2 arg4 arg5 arg6 arg7 arg9 f1 f2 f4 f5 f6 f7 a1 a2 R [ph_1 I, ph_0 I] [pv_1_0 I, pv_0_7 I, pv_0_6 I, pv_0_5 I, pv_0_4 I, pv_0_3 I] [] ⊢ wp frame (wpE (defs₀ (F := F)) Variants.none c none) Set.univ
      (k0_part11 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v223 I) (v281 I) (v305 I) (v329 I) (v379 I) >>= k) K := by
  subst hI
  rw [wp_bind, k0_part11_eq_skeleton]
  unfold k0_part11_skel St
  iintro ⟨H1, H2, H4, H5, H6, H7, Hs1, Hs2, ⟨%fh, Hh⟩, ⟨%fv, Hv⟩, ⟨%fo, H9⟩, HR⟩
  sl_exec
  try unfold part11_run.sl.r
  try unfold part11_run.sl.r_1
  try unfold part11_run.sl.r_2
  try unfold part11_run.sl.r_3
  try unfold part11_run.sl.v409
  try unfold part11_run.sl.v416
  try unfold part11_run.sl.Hv_4
  try unfold part11_run.sl.Hv_5
  try unfold part11_run.sl.Hv_6
  try unfold part11_run.sl.Hv_7
  try unfold part11_run.sl.Hv_8
  try unfold part11_run.sl.Hv_9
  try unfold part11_run.sl.Hh_1
  try unfold part11_run.sl.Hh_2
  try unfold part11_run.sl.Hh_3
  try unfold part11_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v396 I, v408 I, v415 I, v418 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 12. -/
theorem part12_run (R : sProp 𝕄) (hI : I = insOf c arg1 arg2 arg4 arg5 arg6 arg7 f1 f2 f4 f5 f6 f7 a1 a2) (k : ((_ : FVec F S256x256 .f32) ×' FVec F S256x256 .f32) → Prog (TpuEff nD τ sig (Elt F) Λ₀ .tc) B)
    (K : B → sProp 𝕄)
    (h : St c arg1 arg2 arg4 arg5 arg6 arg7 arg9 f1 f2 f4 f5 f6 f7 a1 a2 R [ph_1 I, ph_0 I] [pv_1_1 I, pv_1_0 I, pv_0_7 I, pv_0_6 I, pv_0_5 I, pv_0_4 I] [] ⊢ wp frame (wpE (defs₀ (F := F)) Variants.none c none) Set.univ (k (⟨v439 I, v456 I⟩)) K) :
    St c arg1 arg2 arg4 arg5 arg6 arg7 arg9 f1 f2 f4 f5 f6 f7 a1 a2 R [ph_1 I, ph_0 I] [pv_1_1 I, pv_1_0 I, pv_0_7 I, pv_0_6 I, pv_0_5 I, pv_0_4 I] [] ⊢ wp frame (wpE (defs₀ (F := F)) Variants.none c none) Set.univ
      (k0_part12 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v418 I) >>= k) K := by
  subst hI
  rw [wp_bind, k0_part12_eq_skeleton]
  unfold k0_part12_skel St
  iintro ⟨H1, H2, H4, H5, H6, H7, Hs1, Hs2, ⟨%fh, Hh⟩, ⟨%fv, Hv⟩, ⟨%fo, H9⟩, HR⟩
  sl_exec
  try unfold part12_run.sl.r
  try unfold part12_run.sl.r_1
  try unfold part12_run.sl.v440
  try unfold part12_run.sl.Hv_4
  try unfold part12_run.sl.Hv_5
  try unfold part12_run.sl.Hv_6
  try unfold part12_run.sl.Hv_7
  try unfold part12_run.sl.Hv_8
  try unfold part12_run.sl.Hv_9
  try unfold part12_run.sl.Hh_1
  try unfold part12_run.sl.Hh_2
  try unfold part12_run.sl.Hh_3
  try unfold part12_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v439 I, v456 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 13. -/
theorem part13_run (R : sProp 𝕄) (hI : I = insOf c arg1 arg2 arg4 arg5 arg6 arg7 f1 f2 f4 f5 f6 f7 a1 a2) (k : ((_ : FVec F S256x1 .f32) ×' (_ : FVec F S256x256 .bf16) ×' (_ : FVec F S256x256 .f32) ×' (_ : FVec F S256x256 .bf16) ×' (_ : FVec F S128x128 .bf16) ×' Vec F S128x1 .f32) → Prog (TpuEff nD τ sig (Elt F) Λ₀ .tc) B)
    (K : B → sProp 𝕄)
    (h : St c arg1 arg2 arg4 arg5 arg6 arg7 arg9 f1 f2 f4 f5 f6 f7 a1 a2 R [ph_1 I, ph_0 I] [pv_1_2 I, pv_1_1 I, pv_1_0 I, pv_0_7 I, pv_0_6 I, pv_0_5 I] [] ⊢ wp frame (wpE (defs₀ (F := F)) Variants.none c none) Set.univ (k (⟨v463 I, v475 I, v482 I, v490 I, v495 I, v496 I⟩)) K) :
    St c arg1 arg2 arg4 arg5 arg6 arg7 arg9 f1 f2 f4 f5 f6 f7 a1 a2 R [ph_1 I, ph_0 I] [pv_1_1 I, pv_1_0 I, pv_0_7 I, pv_0_6 I, pv_0_5 I, pv_0_4 I] [] ⊢ wp frame (wpE (defs₀ (F := F)) Variants.none c none) Set.univ
      (k0_part13 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v223 I) (v348 I) (v372 I) (v396 I) (v456 I) >>= k) K := by
  subst hI
  rw [wp_bind, k0_part13_eq_skeleton]
  unfold k0_part13_skel St
  iintro ⟨H1, H2, H4, H5, H6, H7, Hs1, Hs2, ⟨%fh, Hh⟩, ⟨%fv, Hv⟩, ⟨%fo, H9⟩, HR⟩
  sl_exec
  try unfold part13_run.sl.r
  try unfold part13_run.sl.r_1
  try unfold part13_run.sl.r_2
  try unfold part13_run.sl.r_3
  try unfold part13_run.sl.r_4
  try unfold part13_run.sl.r_5
  try unfold part13_run.sl.v476
  try unfold part13_run.sl.v483
  try unfold part13_run.sl.Hv_4
  try unfold part13_run.sl.Hv_5
  try unfold part13_run.sl.Hv_6
  try unfold part13_run.sl.Hv_7
  try unfold part13_run.sl.Hv_8
  try unfold part13_run.sl.Hv_9
  try unfold part13_run.sl.Hh_1
  try unfold part13_run.sl.Hh_2
  try unfold part13_run.sl.Hh_3
  try unfold part13_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v463 I, v475 I, v482 I, v490 I, v495 I, v496 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 14. -/
theorem part14_run (R : sProp 𝕄) (hI : I = insOf c arg1 arg2 arg4 arg5 arg6 arg7 f1 f2 f4 f5 f6 f7 a1 a2) (k : ((_ : FVec F S256x256 .f32) ×' (_ : FVec F S256x1 .f32) ×' (_ : FVec F S256x256 .f32) ×' F .f32) → Prog (TpuEff nD τ sig (Elt F) Λ₀ .tc) B)
    (K : B → sProp 𝕄)
    (h : St c arg1 arg2 arg4 arg5 arg6 arg7 arg9 f1 f2 f4 f5 f6 f7 a1 a2 R [ph_1 I, ph_0 I] [pv_1_3 I, pv_1_2 I, pv_1_1 I, pv_1_0 I, pv_0_7 I, pv_0_6 I, pv_0_5 I] [] ⊢ wp frame (wpE (defs₀ (F := F)) Variants.none c none) Set.univ (k (⟨v506 I, v530 I, v537 I, cst_263 I⟩)) K) :
    St c arg1 arg2 arg4 arg5 arg6 arg7 arg9 f1 f2 f4 f5 f6 f7 a1 a2 R [ph_1 I, ph_0 I] [pv_1_2 I, pv_1_1 I, pv_1_0 I, pv_0_7 I, pv_0_6 I, pv_0_5 I] [] ⊢ wp frame (wpE (defs₀ (F := F)) Variants.none c none) Set.univ
      (k0_part14 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v415 I) (v463 I) (v490 I) (v495 I) (v496 I) >>= k) K := by
  subst hI
  rw [wp_bind, k0_part14_eq_skeleton]
  unfold k0_part14_skel St
  iintro ⟨H1, H2, H4, H5, H6, H7, Hs1, Hs2, ⟨%fh, Hh⟩, ⟨%fv, Hv⟩, ⟨%fo, H9⟩, HR⟩
  sl_exec
  try unfold part14_run.sl.r
  try unfold part14_run.sl.r_1
  try unfold part14_run.sl.r_2
  try unfold part14_run.sl.r_3
  try unfold part14_run.sl.v507
  try unfold part14_run.sl.Hv_5
  try unfold part14_run.sl.Hv_6
  try unfold part14_run.sl.Hv_7
  try unfold part14_run.sl.Hv_8
  try unfold part14_run.sl.Hv_9
  try unfold part14_run.sl.Hh_1
  try unfold part14_run.sl.Hh_2
  try unfold part14_run.sl.Hh_3
  try unfold part14_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v506 I, v530 I, v537 I, cst_263 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 15. -/
theorem part15_run (R : sProp 𝕄) (hI : I = insOf c arg1 arg2 arg4 arg5 arg6 arg7 f1 f2 f4 f5 f6 f7 a1 a2) (k : ((_ : FVec F S256x256 .bf16) ×' (_ : FVec F S256x256 .f32) ×' (_ : FVec F S256x256 .f32) ×' Vec F S256x1024 .bf16) → Prog (TpuEff nD τ sig (Elt F) Λ₀ .tc) B)
    (K : B → sProp 𝕄)
    (h : St c arg1 arg2 arg4 arg5 arg6 arg7 arg9 f1 f2 f4 f5 f6 f7 a1 a2 R [ph_1 I, ph_0 I] [pv_1_3 I, pv_1_2 I, pv_1_1 I, pv_1_0 I, pv_0_7 I, pv_0_6 I] [] ⊢ wp frame (wpE (defs₀ (F := F)) Variants.none c none) Set.univ (k (⟨v542 I, v549 I, v573 I, v574 I⟩)) K) :
    St c arg1 arg2 arg4 arg5 arg6 arg7 arg9 f1 f2 f4 f5 f6 f7 a1 a2 R [ph_1 I, ph_0 I] [pv_1_3 I, pv_1_2 I, pv_1_1 I, pv_1_0 I, pv_0_7 I, pv_0_6 I, pv_0_5 I] [] ⊢ wp frame (wpE (defs₀ (F := F)) Variants.none c none) Set.univ
      (k0_part15 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v223 I) (v415 I) (v439 I) (v537 I) (cst_263 I) >>= k) K := by
  subst hI
  rw [wp_bind, k0_part15_eq_skeleton]
  unfold k0_part15_skel St
  iintro ⟨H1, H2, H4, H5, H6, H7, Hs1, Hs2, ⟨%fh, Hh⟩, ⟨%fv, Hv⟩, ⟨%fo, H9⟩, HR⟩
  sl_exec
  try unfold part15_run.sl.r
  try unfold part15_run.sl.r_1
  try unfold part15_run.sl.r_2
  try unfold part15_run.sl.r_3
  try unfold part15_run.sl.v543
  try unfold part15_run.sl.v550
  try unfold part15_run.sl.v574
  try unfold part15_run.sl.Hv_4
  try unfold part15_run.sl.Hv_5
  try unfold part15_run.sl.Hv_6
  try unfold part15_run.sl.Hv_7
  try unfold part15_run.sl.Hv_8
  try unfold part15_run.sl.Hv_9
  try unfold part15_run.sl.Hv_10
  try unfold part15_run.sl.Hh_1
  try unfold part15_run.sl.Hh_2
  try unfold part15_run.sl.Hh_3
  try unfold part15_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v542 I, v549 I, v573 I, v574 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 16. -/
theorem part16_run (R : sProp 𝕄) (hI : I = insOf c arg1 arg2 arg4 arg5 arg6 arg7 f1 f2 f4 f5 f6 f7 a1 a2) (k : ((_ : FVec F S256x1 .f32) ×' (_ : FVec F S256x256 .bf16) ×' (_ : FVec F S256x256 .f32) ×' FVec F S1x256 .f32) → Prog (TpuEff nD τ sig (Elt F) Λ₀ .tc) B)
    (K : B → sProp 𝕄)
    (h : St c arg1 arg2 arg4 arg5 arg6 arg7 arg9 f1 f2 f4 f5 f6 f7 a1 a2 R [ph_1 I, ph_0 I] [pv_1_4 I, pv_1_3 I, pv_1_2 I, pv_1_1 I, pv_1_0 I, pv_0_7 I, pv_0_6 I] [] ⊢ wp frame (wpE (defs₀ (F := F)) Variants.none c none) Set.univ (k (⟨v597 I, v609 I, v612 I, v614 I⟩)) K) :
    St c arg1 arg2 arg4 arg5 arg6 arg7 arg9 f1 f2 f4 f5 f6 f7 a1 a2 R [ph_1 I, ph_0 I] [pv_1_3 I, pv_1_2 I, pv_1_1 I, pv_1_0 I, pv_0_7 I, pv_0_6 I] [] ⊢ wp frame (wpE (defs₀ (F := F)) Variants.none c none) Set.univ
      (k0_part16 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v482 I) (v506 I) (v530 I) (v574 I) >>= k) K := by
  subst hI
  rw [wp_bind, k0_part16_eq_skeleton]
  unfold k0_part16_skel St
  iintro ⟨H1, H2, H4, H5, H6, H7, Hs1, Hs2, ⟨%fh, Hh⟩, ⟨%fv, Hv⟩, ⟨%fo, H9⟩, HR⟩
  sl_exec
  try unfold part16_run.sl.r
  try unfold part16_run.sl.r_1
  try unfold part16_run.sl.r_2
  try unfold part16_run.sl.r_3
  try unfold part16_run.sl.v610
  try unfold part16_run.sl.Hv_5
  try unfold part16_run.sl.Hv_6
  try unfold part16_run.sl.Hv_7
  try unfold part16_run.sl.Hv_8
  try unfold part16_run.sl.Hv_9
  try unfold part16_run.sl.Hh_1
  try unfold part16_run.sl.Hh_2
  try unfold part16_run.sl.Hh_3
  try unfold part16_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v597 I, v609 I, v612 I, v614 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

end Cert.Kernel3Ideal.Hand
-- ==== Proof.Mixer.Sections2.lean ====
/-
  The spatial-gating mixer. Sections 17 to 30 of the body, each run from the state before it to the state after it.
-/
module

public import proofs.«01_k».proof.Proof.Mixer.State

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (Pipeline.UD sig nD τ) ℕ

variable (c : Dev nD) (i : grid0.Coords)
  (arg1 : Memref sig .tc .vmem S1024x1024 .f32) (harg1 : arg1.IsWhole) (arg2 : Memref sig .tc .vmem S1x1024 .f32) (harg2 : arg2.IsWhole)
  (arg4 : Memref sig .tc .vmem S1x4096 .f32) (harg4 : arg4.IsWhole) (arg5 : Memref sig .tc .vmem S1x2048 .f32) (harg5 : arg5.IsWhole)
  (arg6 : Memref sig .tc .vmem S8x128x128 .f32) (harg6 : arg6.IsWhole) (arg7 : Memref sig .tc .vmem S128x8 .f32) (harg7 : arg7.IsWhole)
  (arg9 : Memref sig .tc .vmem S1024x1024 .f32) (harg9 : arg9.IsWhole)
  (f1 : PB (F := F) c arg1) (f2 : PB (F := F) c arg2) (f4 : PB (F := F) c arg4) (f5 : PB (F := F) c arg5) (f6 : PB (F := F) c arg6) (f7 : PB (F := F) c arg7)
  (a1 : PB (F := F) c s1M) (a2 : PB (F := F) c s2M)
  (I : Ins F) {B : Type}

/-- Section 17. -/
theorem part17_run (R : sProp 𝕄) (hI : I = insOf c arg1 arg2 arg4 arg5 arg6 arg7 f1 f2 f4 f5 f6 f7 a1 a2) (k : ((_ : FVec F S256x256 .f32) ×' (_ : FVec F S256x256 .f32) ×' (_ : FVec F S256x256 .f32) ×' FVec F S256x256 .f32) → Prog (TpuEff nD τ sig (Elt F) Λ₀ .tc) B)
    (K : B → sProp 𝕄)
    (h : St c arg1 arg2 arg4 arg5 arg6 arg7 arg9 f1 f2 f4 f5 f6 f7 a1 a2 R [ph_1 I, ph_0 I] [pv_1_4 I, pv_1_3 I, pv_1_2 I, pv_1_1 I, pv_1_0 I, pv_0_7 I] [] ⊢ wp frame (wpE (defs₀ (F := F)) Variants.none c none) Set.univ (k (⟨v616 I, v640 I, v647 I, v653 I⟩)) K) :
    St c arg1 arg2 arg4 arg5 arg6 arg7 arg9 f1 f2 f4 f5 f6 f7 a1 a2 R [ph_1 I, ph_0 I] [pv_1_4 I, pv_1_3 I, pv_1_2 I, pv_1_1 I, pv_1_0 I, pv_0_7 I, pv_0_6 I] [] ⊢ wp frame (wpE (defs₀ (F := F)) Variants.none c none) Set.univ
      (k0_part17 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v223 I) (v612 I) (v614 I) >>= k) K := by
  subst hI
  rw [wp_bind, k0_part17_eq_skeleton]
  unfold k0_part17_skel St
  iintro ⟨H1, H2, H4, H5, H6, H7, Hs1, Hs2, ⟨%fh, Hh⟩, ⟨%fv, Hv⟩, ⟨%fo, H9⟩, HR⟩
  sl_exec
  try unfold part17_run.sl.r
  try unfold part17_run.sl.r_1
  try unfold part17_run.sl.r_2
  try unfold part17_run.sl.r_3
  try unfold part17_run.sl.v617
  try unfold part17_run.sl.v641
  try unfold part17_run.sl.Hv_4
  try unfold part17_run.sl.Hv_5
  try unfold part17_run.sl.Hv_6
  try unfold part17_run.sl.Hv_7
  try unfold part17_run.sl.Hv_8
  try unfold part17_run.sl.Hv_9
  try unfold part17_run.sl.Hv_10
  try unfold part17_run.sl.Hh_1
  try unfold part17_run.sl.Hh_2
  try unfold part17_run.sl.Hh_3
  try unfold part17_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v616 I, v640 I, v647 I, v653 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 18. -/
theorem part18_run (R : sProp 𝕄) (hI : I = insOf c arg1 arg2 arg4 arg5 arg6 arg7 f1 f2 f4 f5 f6 f7 a1 a2) (k : ((_ : FVec F S256x1 .f32) ×' (_ : FVec F S256x256 .bf16) ×' (_ : FVec F S256x256 .f32) ×' FVec F S256x256 .bf16) → Prog (TpuEff nD τ sig (Elt F) Λ₀ .tc) B)
    (K : B → sProp 𝕄)
    (h : St c arg1 arg2 arg4 arg5 arg6 arg7 arg9 f1 f2 f4 f5 f6 f7 a1 a2 R [ph_1 I] [pv_1_5 I, pv_1_4 I, pv_1_3 I, pv_1_2 I, pv_1_1 I, pv_1_0 I] [] ⊢ wp frame (wpE (defs₀ (F := F)) Variants.none c none) Set.univ (k (⟨v664 I, v676 I, v683 I, v691 I⟩)) K) :
    St c arg1 arg2 arg4 arg5 arg6 arg7 arg9 f1 f2 f4 f5 f6 f7 a1 a2 R [ph_1 I, ph_0 I] [pv_1_4 I, pv_1_3 I, pv_1_2 I, pv_1_1 I, pv_1_0 I, pv_0_7 I] [] ⊢ wp frame (wpE (defs₀ (F := F)) Variants.none c none) Set.univ
      (k0_part18 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v223 I) (v549 I) (v573 I) (v597 I) (v647 I) (v653 I) >>= k) K := by
  subst hI
  rw [wp_bind, k0_part18_eq_skeleton]
  unfold k0_part18_skel St
  iintro ⟨H1, H2, H4, H5, H6, H7, Hs1, Hs2, ⟨%fh, Hh⟩, ⟨%fv, Hv⟩, ⟨%fo, H9⟩, HR⟩
  sl_exec
  try unfold part18_run.sl.r
  try unfold part18_run.sl.r_1
  try unfold part18_run.sl.r_2
  try unfold part18_run.sl.r_3
  try unfold part18_run.sl.v677
  try unfold part18_run.sl.v684
  try unfold part18_run.sl.Hv_4
  try unfold part18_run.sl.Hv_5
  try unfold part18_run.sl.Hv_6
  try unfold part18_run.sl.Hv_7
  try unfold part18_run.sl.Hv_8
  try unfold part18_run.sl.Hv_9
  try unfold part18_run.sl.Hh_1
  try unfold part18_run.sl.Hh_2
  try unfold part18_run.sl.Hh_3
  try unfold part18_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v664 I, v676 I, v683 I, v691 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 19. -/
theorem part19_run (R : sProp 𝕄) (hI : I = insOf c arg1 arg2 arg4 arg5 arg6 arg7 f1 f2 f4 f5 f6 f7 a1 a2) (k : ((_ : FVec F S256x256 .f32) ×' (_ : FVec F S256x1 .f32) ×' FVec F S256x256 .f32) → Prog (TpuEff nD τ sig (Elt F) Λ₀ .tc) B)
    (K : B → sProp 𝕄)
    (h : St c arg1 arg2 arg4 arg5 arg6 arg7 arg9 f1 f2 f4 f5 f6 f7 a1 a2 R [ph_1 I] [pv_1_6 I, pv_1_5 I, pv_1_4 I, pv_1_3 I, pv_1_2 I, pv_1_1 I, pv_1_0 I] [] ⊢ wp frame (wpE (defs₀ (F := F)) Variants.none c none) Set.univ (k (⟨v707 I, v731 I, v732 I⟩)) K) :
    St c arg1 arg2 arg4 arg5 arg6 arg7 arg9 f1 f2 f4 f5 f6 f7 a1 a2 R [ph_1 I] [pv_1_5 I, pv_1_4 I, pv_1_3 I, pv_1_2 I, pv_1_1 I, pv_1_0 I] [] ⊢ wp frame (wpE (defs₀ (F := F)) Variants.none c none) Set.univ
      (k0_part19 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v616 I) (v664 I) (v691 I) >>= k) K := by
  subst hI
  rw [wp_bind, k0_part19_eq_skeleton]
  unfold k0_part19_skel St
  iintro ⟨H1, H2, H4, H5, H6, H7, Hs1, Hs2, ⟨%fh, Hh⟩, ⟨%fv, Hv⟩, ⟨%fo, H9⟩, HR⟩
  sl_exec
  try unfold part19_run.sl.r
  try unfold part19_run.sl.r_1
  try unfold part19_run.sl.r_2
  try unfold part19_run.sl.v708
  try unfold part19_run.sl.Hv_5
  try unfold part19_run.sl.Hv_6
  try unfold part19_run.sl.Hv_7
  try unfold part19_run.sl.Hv_8
  try unfold part19_run.sl.Hv_9
  try unfold part19_run.sl.Hh_1
  try unfold part19_run.sl.Hh_2
  try unfold part19_run.sl.Hh_3
  try unfold part19_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v707 I, v731 I, v732 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 20. -/
theorem part20_run (R : sProp 𝕄) (hI : I = insOf c arg1 arg2 arg4 arg5 arg6 arg7 f1 f2 f4 f5 f6 f7 a1 a2) (k : ((_ : FVec F S256x256 .bf16) ×' (_ : FVec F S256x1 .f32) ×' FVec F S256x256 .f32) → Prog (TpuEff nD τ sig (Elt F) Λ₀ .tc) B)
    (K : B → sProp 𝕄)
    (h : St c arg1 arg2 arg4 arg5 arg6 arg7 arg9 f1 f2 f4 f5 f6 f7 a1 a2 R [ph_1 I] [pv_1_7 I, pv_1_6 I, pv_1_5 I, pv_1_4 I, pv_1_3 I, pv_1_2 I, pv_1_1 I, pv_1_0 I] [] ⊢ wp frame (wpE (defs₀ (F := F)) Variants.none c none) Set.univ (k (⟨v743 I, v767 I, v773 I⟩)) K) :
    St c arg1 arg2 arg4 arg5 arg6 arg7 arg9 f1 f2 f4 f5 f6 f7 a1 a2 R [ph_1 I] [pv_1_6 I, pv_1_5 I, pv_1_4 I, pv_1_3 I, pv_1_2 I, pv_1_1 I, pv_1_0 I] [] ⊢ wp frame (wpE (defs₀ (F := F)) Variants.none c none) Set.univ
      (k0_part20 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v616 I) (v640 I) (v683 I) (v731 I) (v732 I) >>= k) K := by
  subst hI
  rw [wp_bind, k0_part20_eq_skeleton]
  unfold k0_part20_skel St
  iintro ⟨H1, H2, H4, H5, H6, H7, Hs1, Hs2, ⟨%fh, Hh⟩, ⟨%fv, Hv⟩, ⟨%fo, H9⟩, HR⟩
  sl_exec
  try unfold part20_run.sl.r
  try unfold part20_run.sl.r_1
  try unfold part20_run.sl.r_2
  try unfold part20_run.sl.v744
  try unfold part20_run.sl.Hv_6
  try unfold part20_run.sl.Hv_7
  try unfold part20_run.sl.Hv_8
  try unfold part20_run.sl.Hv_9
  try unfold part20_run.sl.Hv_10
  try unfold part20_run.sl.Hh_1
  try unfold part20_run.sl.Hh_2
  try unfold part20_run.sl.Hh_3
  try unfold part20_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v743 I, v767 I, v773 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 21. -/
theorem part21_run (R : sProp 𝕄) (hI : I = insOf c arg1 arg2 arg4 arg5 arg6 arg7 f1 f2 f4 f5 f6 f7 a1 a2) (k : (FVec F S256x1 .f32) → Prog (TpuEff nD τ sig (Elt F) Λ₀ .tc) B)
    (K : B → sProp 𝕄)
    (h : St c arg1 arg2 arg4 arg5 arg6 arg7 arg9 f1 f2 f4 f5 f6 f7 a1 a2 R [ph_2 I, ph_1 I] [pv_1_7 I, pv_1_6 I, pv_1_5 I, pv_1_4 I, pv_1_3 I, pv_1_2 I, pv_1_1 I, pv_1_0 I] [po_0 I] ⊢ wp frame (wpE (defs₀ (F := F)) Variants.none c none) Set.univ (k (v791 I)) K) :
    St c arg1 arg2 arg4 arg5 arg6 arg7 arg9 f1 f2 f4 f5 f6 f7 a1 a2 R [ph_1 I] [pv_1_7 I, pv_1_6 I, pv_1_5 I, pv_1_4 I, pv_1_3 I, pv_1_2 I, pv_1_1 I, pv_1_0 I] [] ⊢ wp frame (wpE (defs₀ (F := F)) Variants.none c none) Set.univ
      (k0_part21 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v341 I) (v408 I) (v475 I) (v542 I) (v609 I) (v676 I) (v683 I) (v707 I) (v743 I) (v767 I) (v773 I) >>= k) K := by
  subst hI
  rw [wp_bind, k0_part21_eq_skeleton]
  unfold k0_part21_skel St
  iintro ⟨H1, H2, H4, H5, H6, H7, Hs1, Hs2, ⟨%fh, Hh⟩, ⟨%fv, Hv⟩, ⟨%fo, H9⟩, HR⟩
  sl_exec
  iapply (entails_of_eq_arg (fun r => wp frame (wpE (defs₀ (F := F)) Variants.none c none) Set.univ (k r) K)
    (a := (fun I : Ins F => (v791 I)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 22. -/
theorem part22_run (R : sProp 𝕄) (hI : I = insOf c arg1 arg2 arg4 arg5 arg6 arg7 f1 f2 f4 f5 f6 f7 a1 a2) (k : ((_ : FVec F S256x256 .f32) ×' (_ : FVec F S256x256 .f32) ×' (_ : FVec F S256x256 .f32) ×' Vec F S1x256 .f32) → Prog (TpuEff nD τ sig (Elt F) Λ₀ .tc) B)
    (K : B → sProp 𝕄)
    (h : St c arg1 arg2 arg4 arg5 arg6 arg7 arg9 f1 f2 f4 f5 f6 f7 a1 a2 R [ph_2 I, ph_1 I] [pv_1_7 I, pv_1_6 I, pv_1_5 I, pv_1_4 I, pv_1_3 I, pv_1_2 I, pv_1_1 I] [po_0 I] ⊢ wp frame (wpE (defs₀ (F := F)) Variants.none c none) Set.univ (k (⟨v818 I, v842 I, v845 I, v846 I⟩)) K) :
    St c arg1 arg2 arg4 arg5 arg6 arg7 arg9 f1 f2 f4 f5 f6 f7 a1 a2 R [ph_2 I, ph_1 I] [pv_1_7 I, pv_1_6 I, pv_1_5 I, pv_1_4 I, pv_1_3 I, pv_1_2 I, pv_1_1 I, pv_1_0 I] [po_0 I] ⊢ wp frame (wpE (defs₀ (F := F)) Variants.none c none) Set.univ
      (k0_part22 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v791 I) >>= k) K := by
  subst hI
  rw [wp_bind, k0_part22_eq_skeleton]
  unfold k0_part22_skel St
  iintro ⟨H1, H2, H4, H5, H6, H7, Hs1, Hs2, ⟨%fh, Hh⟩, ⟨%fv, Hv⟩, ⟨%fo, H9⟩, HR⟩
  sl_exec
  try unfold part22_run.sl.r
  try unfold part22_run.sl.r_1
  try unfold part22_run.sl.r_2
  try unfold part22_run.sl.r_3
  try unfold part22_run.sl.v812
  try unfold part22_run.sl.v819
  try unfold part22_run.sl.v843
  try unfold part22_run.sl.Hv_5
  try unfold part22_run.sl.Hv_6
  try unfold part22_run.sl.Hv_7
  try unfold part22_run.sl.Hv_8
  try unfold part22_run.sl.Hv_9
  try unfold part22_run.sl.Hv_10
  try unfold part22_run.sl.Hv_11
  try unfold part22_run.sl.Hh_1
  try unfold part22_run.sl.Hh_2
  try unfold part22_run.sl.Hh_3
  try unfold part22_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v818 I, v842 I, v845 I, v846 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 23. -/
theorem part23_run (R : sProp 𝕄) (hI : I = insOf c arg1 arg2 arg4 arg5 arg6 arg7 f1 f2 f4 f5 f6 f7 a1 a2) (k : ((_ : FVec F S256x256 .f32) ×' (_ : FVec F S256x256 .f32) ×' (_ : FVec F S256x256 .f32) ×' FVec F S256x256 .f32) → Prog (TpuEff nD τ sig (Elt F) Λ₀ .tc) B)
    (K : B → sProp 𝕄)
    (h : St c arg1 arg2 arg4 arg5 arg6 arg7 arg9 f1 f2 f4 f5 f6 f7 a1 a2 R [ph_2 I, ph_1 I] [pv_1_7 I, pv_1_6 I, pv_1_5 I, pv_1_4 I, pv_1_3 I, pv_1_2 I] [po_0 I] ⊢ wp frame (wpE (defs₀ (F := F)) Variants.none c none) Set.univ (k (⟨v849 I, v873 I, v880 I, v885 I⟩)) K) :
    St c arg1 arg2 arg4 arg5 arg6 arg7 arg9 f1 f2 f4 f5 f6 f7 a1 a2 R [ph_2 I, ph_1 I] [pv_1_7 I, pv_1_6 I, pv_1_5 I, pv_1_4 I, pv_1_3 I, pv_1_2 I, pv_1_1 I] [po_0 I] ⊢ wp frame (wpE (defs₀ (F := F)) Variants.none c none) Set.univ
      (k0_part23 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v791 I) (v845 I) (v846 I) >>= k) K := by
  subst hI
  rw [wp_bind, k0_part23_eq_skeleton]
  unfold k0_part23_skel St
  iintro ⟨H1, H2, H4, H5, H6, H7, Hs1, Hs2, ⟨%fh, Hh⟩, ⟨%fv, Hv⟩, ⟨%fo, H9⟩, HR⟩
  sl_exec
  try unfold part23_run.sl.r
  try unfold part23_run.sl.r_1
  try unfold part23_run.sl.r_2
  try unfold part23_run.sl.r_3
  try unfold part23_run.sl.v850
  try unfold part23_run.sl.v874
  try unfold part23_run.sl.Hv_4
  try unfold part23_run.sl.Hv_5
  try unfold part23_run.sl.Hv_6
  try unfold part23_run.sl.Hv_7
  try unfold part23_run.sl.Hv_8
  try unfold part23_run.sl.Hv_9
  try unfold part23_run.sl.Hv_10
  try unfold part23_run.sl.Hh_1
  try unfold part23_run.sl.Hh_2
  try unfold part23_run.sl.Hh_3
  try unfold part23_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v849 I, v873 I, v880 I, v885 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 24. -/
theorem part24_run (R : sProp 𝕄) (hI : I = insOf c arg1 arg2 arg4 arg5 arg6 arg7 f1 f2 f4 f5 f6 f7 a1 a2) (k : ((_ : FVec F S256x1 .f32) ×' (_ : FVec F S256x256 .bf16) ×' (_ : FVec F S256x256 .f32) ×' FVec F S256x256 .bf16) → Prog (TpuEff nD τ sig (Elt F) Λ₀ .tc) B)
    (K : B → sProp 𝕄)
    (h : St c arg1 arg2 arg4 arg5 arg6 arg7 arg9 f1 f2 f4 f5 f6 f7 a1 a2 R [ph_2 I, ph_1 I] [pv_2_0 I, pv_1_7 I, pv_1_6 I, pv_1_5 I, pv_1_4 I, pv_1_3 I] [po_0 I] ⊢ wp frame (wpE (defs₀ (F := F)) Variants.none c none) Set.univ (k (⟨v897 I, v909 I, v916 I, v924 I⟩)) K) :
    St c arg1 arg2 arg4 arg5 arg6 arg7 arg9 f1 f2 f4 f5 f6 f7 a1 a2 R [ph_2 I, ph_1 I] [pv_1_7 I, pv_1_6 I, pv_1_5 I, pv_1_4 I, pv_1_3 I, pv_1_2 I] [po_0 I] ⊢ wp frame (wpE (defs₀ (F := F)) Variants.none c none) Set.univ
      (k0_part24 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v6 I) (v791 I) (v818 I) (v842 I) (v880 I) (v885 I) >>= k) K := by
  subst hI
  rw [wp_bind, k0_part24_eq_skeleton]
  unfold k0_part24_skel St
  iintro ⟨H1, H2, H4, H5, H6, H7, Hs1, Hs2, ⟨%fh, Hh⟩, ⟨%fv, Hv⟩, ⟨%fo, H9⟩, HR⟩
  sl_exec
  try unfold part24_run.sl.r
  try unfold part24_run.sl.r_1
  try unfold part24_run.sl.r_2
  try unfold part24_run.sl.r_3
  try unfold part24_run.sl.v910
  try unfold part24_run.sl.v917
  try unfold part24_run.sl.Hv_4
  try unfold part24_run.sl.Hv_5
  try unfold part24_run.sl.Hv_6
  try unfold part24_run.sl.Hv_7
  try unfold part24_run.sl.Hv_8
  try unfold part24_run.sl.Hv_9
  try unfold part24_run.sl.Hh_1
  try unfold part24_run.sl.Hh_2
  try unfold part24_run.sl.Hh_3
  try unfold part24_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v897 I, v909 I, v916 I, v924 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 25. -/
theorem part25_run (R : sProp 𝕄) (hI : I = insOf c arg1 arg2 arg4 arg5 arg6 arg7 f1 f2 f4 f5 f6 f7 a1 a2) (k : ((_ : FVec F S256x256 .f32) ×' FVec F S256x1 .f32) → Prog (TpuEff nD τ sig (Elt F) Λ₀ .tc) B)
    (K : B → sProp 𝕄)
    (h : St c arg1 arg2 arg4 arg5 arg6 arg7 arg9 f1 f2 f4 f5 f6 f7 a1 a2 R [ph_2 I, ph_1 I] [pv_2_1 I, pv_2_0 I, pv_1_7 I, pv_1_6 I, pv_1_5 I, pv_1_4 I, pv_1_3 I] [po_0 I] ⊢ wp frame (wpE (defs₀ (F := F)) Variants.none c none) Set.univ (k (⟨v940 I, v964 I⟩)) K) :
    St c arg1 arg2 arg4 arg5 arg6 arg7 arg9 f1 f2 f4 f5 f6 f7 a1 a2 R [ph_2 I, ph_1 I] [pv_2_0 I, pv_1_7 I, pv_1_6 I, pv_1_5 I, pv_1_4 I, pv_1_3 I] [po_0 I] ⊢ wp frame (wpE (defs₀ (F := F)) Variants.none c none) Set.univ
      (k0_part25 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v897 I) (v924 I) >>= k) K := by
  subst hI
  rw [wp_bind, k0_part25_eq_skeleton]
  unfold k0_part25_skel St
  iintro ⟨H1, H2, H4, H5, H6, H7, Hs1, Hs2, ⟨%fh, Hh⟩, ⟨%fv, Hv⟩, ⟨%fo, H9⟩, HR⟩
  sl_exec
  try unfold part25_run.sl.r
  try unfold part25_run.sl.r_1
  try unfold part25_run.sl.v941
  try unfold part25_run.sl.Hv_5
  try unfold part25_run.sl.Hv_6
  try unfold part25_run.sl.Hv_7
  try unfold part25_run.sl.Hv_8
  try unfold part25_run.sl.Hv_9
  try unfold part25_run.sl.Hh_1
  try unfold part25_run.sl.Hh_2
  try unfold part25_run.sl.Hh_3
  try unfold part25_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v940 I, v964 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 26. -/
theorem part26_run (R : sProp 𝕄) (hI : I = insOf c arg1 arg2 arg4 arg5 arg6 arg7 f1 f2 f4 f5 f6 f7 a1 a2) (k : ((_ : FVec F S256x256 .bf16) ×' (_ : FVec F S256x256 .f32) ×' (_ : FVec F S128x128 .bf16) ×' (_ : FVec F S128x1 .f32) ×' (_ : FVec F S128x256 .f32) ×' FVec F S128x256 .bf16) → Prog (TpuEff nD τ sig (Elt F) Λ₀ .tc) B)
    (K : B → sProp 𝕄)
    (h : St c arg1 arg2 arg4 arg5 arg6 arg7 arg9 f1 f2 f4 f5 f6 f7 a1 a2 R [ph_2 I, ph_1 I] [pv_2_1 I, pv_2_0 I, pv_1_7 I, pv_1_6 I, pv_1_5 I, pv_1_4 I] [po_0 I] ⊢ wp frame (wpE (defs₀ (F := F)) Variants.none c none) Set.univ (k (⟨v976 I, v983 I, v996 I, v998 I, v1002 I, v1003 I⟩)) K) :
    St c arg1 arg2 arg4 arg5 arg6 arg7 arg9 f1 f2 f4 f5 f6 f7 a1 a2 R [ph_2 I, ph_1 I] [pv_2_1 I, pv_2_0 I, pv_1_7 I, pv_1_6 I, pv_1_5 I, pv_1_4 I, pv_1_3 I] [po_0 I] ⊢ wp frame (wpE (defs₀ (F := F)) Variants.none c none) Set.univ
      (k0_part26 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v791 I) (v849 I) (v873 I) >>= k) K := by
  subst hI
  rw [wp_bind, k0_part26_eq_skeleton]
  unfold k0_part26_skel St
  iintro ⟨H1, H2, H4, H5, H6, H7, Hs1, Hs2, ⟨%fh, Hh⟩, ⟨%fv, Hv⟩, ⟨%fo, H9⟩, HR⟩
  sl_exec
  try unfold part26_run.sl.r
  try unfold part26_run.sl.r_1
  try unfold part26_run.sl.r_2
  try unfold part26_run.sl.r_3
  try unfold part26_run.sl.r_4
  try unfold part26_run.sl.r_5
  try unfold part26_run.sl.v977
  try unfold part26_run.sl.v984
  try unfold part26_run.sl.Hv_4
  try unfold part26_run.sl.Hv_5
  try unfold part26_run.sl.Hv_6
  try unfold part26_run.sl.Hv_7
  try unfold part26_run.sl.Hv_8
  try unfold part26_run.sl.Hv_9
  try unfold part26_run.sl.Hv_10
  try unfold part26_run.sl.Hh_1
  try unfold part26_run.sl.Hh_2
  try unfold part26_run.sl.Hh_3
  try unfold part26_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v976 I, v983 I, v996 I, v998 I, v1002 I, v1003 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 27. -/
theorem part27_run (R : sProp 𝕄) (hI : I = insOf c arg1 arg2 arg4 arg5 arg6 arg7 f1 f2 f4 f5 f6 f7 a1 a2) (k : ((_ : FVec F S256x256 .f32) ×' (_ : FVec F S256x1 .f32) ×' FVec F S256x256 .bf16) → Prog (TpuEff nD τ sig (Elt F) Λ₀ .tc) B)
    (K : B → sProp 𝕄)
    (h : St c arg1 arg2 arg4 arg5 arg6 arg7 arg9 f1 f2 f4 f5 f6 f7 a1 a2 R [ph_2 I, ph_1 I] [pv_2_2 I, pv_2_1 I, pv_2_0 I, pv_1_7 I, pv_1_6 I, pv_1_5 I, pv_1_4 I] [po_0 I] ⊢ wp frame (wpE (defs₀ (F := F)) Variants.none c none) Set.univ (k (⟨v1007 I, v1031 I, v1043 I⟩)) K) :
    St c arg1 arg2 arg4 arg5 arg6 arg7 arg9 f1 f2 f4 f5 f6 f7 a1 a2 R [ph_2 I, ph_1 I] [pv_2_1 I, pv_2_0 I, pv_1_7 I, pv_1_6 I, pv_1_5 I, pv_1_4 I] [po_0 I] ⊢ wp frame (wpE (defs₀ (F := F)) Variants.none c none) Set.univ
      (k0_part27 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v916 I) (v940 I) (v964 I) (v996 I) (v998 I) (v1002 I) (v1003 I) >>= k) K := by
  subst hI
  rw [wp_bind, k0_part27_eq_skeleton]
  unfold k0_part27_skel St
  iintro ⟨H1, H2, H4, H5, H6, H7, Hs1, Hs2, ⟨%fh, Hh⟩, ⟨%fv, Hv⟩, ⟨%fo, H9⟩, HR⟩
  sl_exec
  try unfold part27_run.sl.r
  try unfold part27_run.sl.r_1
  try unfold part27_run.sl.r_2
  try unfold part27_run.sl.v1008
  try unfold part27_run.sl.Hv_5
  try unfold part27_run.sl.Hv_6
  try unfold part27_run.sl.Hv_7
  try unfold part27_run.sl.Hv_8
  try unfold part27_run.sl.Hv_9
  try unfold part27_run.sl.Hh_1
  try unfold part27_run.sl.Hh_2
  try unfold part27_run.sl.Hh_3
  try unfold part27_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v1007 I, v1031 I, v1043 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 28. -/
theorem part28_run (R : sProp 𝕄) (hI : I = insOf c arg1 arg2 arg4 arg5 arg6 arg7 f1 f2 f4 f5 f6 f7 a1 a2) (k : ((_ : FVec F S256x256 .f32) ×' (_ : FVec F S256x256 .f32) ×' (_ : FVec F S256x256 .f32) ×' FVec F S1x256 .f32) → Prog (TpuEff nD τ sig (Elt F) Λ₀ .tc) B)
    (K : B → sProp 𝕄)
    (h : St c arg1 arg2 arg4 arg5 arg6 arg7 arg9 f1 f2 f4 f5 f6 f7 a1 a2 R [ph_2 I, ph_1 I] [pv_2_2 I, pv_2_1 I, pv_2_0 I, pv_1_7 I, pv_1_6 I, pv_1_5 I] [po_0 I] ⊢ wp frame (wpE (defs₀ (F := F)) Variants.none c none) Set.univ (k (⟨v1050 I, v1074 I, v1077 I, v1079 I⟩)) K) :
    St c arg1 arg2 arg4 arg5 arg6 arg7 arg9 f1 f2 f4 f5 f6 f7 a1 a2 R [ph_2 I, ph_1 I] [pv_2_2 I, pv_2_1 I, pv_2_0 I, pv_1_7 I, pv_1_6 I, pv_1_5 I, pv_1_4 I] [po_0 I] ⊢ wp frame (wpE (defs₀ (F := F)) Variants.none c none) Set.univ
      (k0_part28 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v791 I) >>= k) K := by
  subst hI
  rw [wp_bind, k0_part28_eq_skeleton]
  unfold k0_part28_skel St
  iintro ⟨H1, H2, H4, H5, H6, H7, Hs1, Hs2, ⟨%fh, Hh⟩, ⟨%fv, Hv⟩, ⟨%fo, H9⟩, HR⟩
  sl_exec
  try unfold part28_run.sl.r
  try unfold part28_run.sl.r_1
  try unfold part28_run.sl.r_2
  try unfold part28_run.sl.r_3
  try unfold part28_run.sl.v1044
  try unfold part28_run.sl.v1051
  try unfold part28_run.sl.v1075
  try unfold part28_run.sl.Hv_4
  try unfold part28_run.sl.Hv_5
  try unfold part28_run.sl.Hv_6
  try unfold part28_run.sl.Hv_7
  try unfold part28_run.sl.Hv_8
  try unfold part28_run.sl.Hv_9
  try unfold part28_run.sl.Hv_10
  try unfold part28_run.sl.Hh_1
  try unfold part28_run.sl.Hh_2
  try unfold part28_run.sl.Hh_3
  try unfold part28_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v1050 I, v1074 I, v1077 I, v1079 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 29. -/
theorem part29_run (R : sProp 𝕄) (hI : I = insOf c arg1 arg2 arg4 arg5 arg6 arg7 f1 f2 f4 f5 f6 f7 a1 a2) (k : ((_ : FVec F S256x1 .f32) ×' (_ : FVec F S256x256 .bf16) ×' (_ : FVec F S256x256 .f32) ×' FVec F S256x256 .f32) → Prog (TpuEff nD τ sig (Elt F) Λ₀ .tc) B)
    (K : B → sProp 𝕄)
    (h : St c arg1 arg2 arg4 arg5 arg6 arg7 arg9 f1 f2 f4 f5 f6 f7 a1 a2 R [ph_2 I, ph_1 I] [pv_2_3 I, pv_2_2 I, pv_2_1 I, pv_2_0 I, pv_1_7 I, pv_1_6 I] [po_0 I] ⊢ wp frame (wpE (defs₀ (F := F)) Variants.none c none) Set.univ (k (⟨v1098 I, v1110 I, v1117 I, v1120 I⟩)) K) :
    St c arg1 arg2 arg4 arg5 arg6 arg7 arg9 f1 f2 f4 f5 f6 f7 a1 a2 R [ph_2 I, ph_1 I] [pv_2_2 I, pv_2_1 I, pv_2_0 I, pv_1_7 I, pv_1_6 I, pv_1_5 I] [po_0 I] ⊢ wp frame (wpE (defs₀ (F := F)) Variants.none c none) Set.univ
      (k0_part29 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v791 I) (v983 I) (v1007 I) (v1031 I) (v1077 I) (v1079 I) >>= k) K := by
  subst hI
  rw [wp_bind, k0_part29_eq_skeleton]
  unfold k0_part29_skel St
  iintro ⟨H1, H2, H4, H5, H6, H7, Hs1, Hs2, ⟨%fh, Hh⟩, ⟨%fv, Hv⟩, ⟨%fo, H9⟩, HR⟩
  sl_exec
  try unfold part29_run.sl.r
  try unfold part29_run.sl.r_1
  try unfold part29_run.sl.r_2
  try unfold part29_run.sl.r_3
  try unfold part29_run.sl.v1111
  try unfold part29_run.sl.v1118
  try unfold part29_run.sl.Hv_4
  try unfold part29_run.sl.Hv_5
  try unfold part29_run.sl.Hv_6
  try unfold part29_run.sl.Hv_7
  try unfold part29_run.sl.Hv_8
  try unfold part29_run.sl.Hv_9
  try unfold part29_run.sl.Hh_1
  try unfold part29_run.sl.Hh_2
  try unfold part29_run.sl.Hh_3
  try unfold part29_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v1098 I, v1110 I, v1117 I, v1120 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 30. -/
theorem part30_run (R : sProp 𝕄) (hI : I = insOf c arg1 arg2 arg4 arg5 arg6 arg7 f1 f2 f4 f5 f6 f7 a1 a2) (k : ((_ : FVec F S256x256 .f32) ×' FVec F S256x256 .f32) → Prog (TpuEff nD τ sig (Elt F) Λ₀ .tc) B)
    (K : B → sProp 𝕄)
    (h : St c arg1 arg2 arg4 arg5 arg6 arg7 arg9 f1 f2 f4 f5 f6 f7 a1 a2 R [ph_2 I, ph_1 I] [pv_2_3 I, pv_2_2 I, pv_2_1 I, pv_2_0 I, pv_1_7 I, pv_1_6 I] [po_0 I] ⊢ wp frame (wpE (defs₀ (F := F)) Variants.none c none) Set.univ (k (⟨v1141 I, v1158 I⟩)) K) :
    St c arg1 arg2 arg4 arg5 arg6 arg7 arg9 f1 f2 f4 f5 f6 f7 a1 a2 R [ph_2 I, ph_1 I] [pv_2_3 I, pv_2_2 I, pv_2_1 I, pv_2_0 I, pv_1_7 I, pv_1_6 I] [po_0 I] ⊢ wp frame (wpE (defs₀ (F := F)) Variants.none c none) Set.univ
      (k0_part30 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v1120 I) >>= k) K := by
  subst hI
  rw [wp_bind, k0_part30_eq_skeleton]
  unfold k0_part30_skel St
  iintro ⟨H1, H2, H4, H5, H6, H7, Hs1, Hs2, ⟨%fh, Hh⟩, ⟨%fv, Hv⟩, ⟨%fo, H9⟩, HR⟩
  sl_exec
  try unfold part30_run.sl.r
  try unfold part30_run.sl.r_1
  try unfold part30_run.sl.v1142
  try unfold part30_run.sl.Hv_4
  try unfold part30_run.sl.Hv_5
  try unfold part30_run.sl.Hv_6
  try unfold part30_run.sl.Hv_7
  try unfold part30_run.sl.Hv_8
  try unfold part30_run.sl.Hv_9
  try unfold part30_run.sl.Hh_1
  try unfold part30_run.sl.Hh_2
  try unfold part30_run.sl.Hh_3
  try unfold part30_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v1141 I, v1158 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

end Cert.Kernel3Ideal.Hand
-- ==== Proof.Mixer.Sections3.lean ====
/-
  The spatial-gating mixer. Sections 31 to 44 of the body, each run from the state before it to the state after it.
-/
module

public import proofs.«01_k».proof.Proof.Mixer.State

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (Pipeline.UD sig nD τ) ℕ

variable (c : Dev nD) (i : grid0.Coords)
  (arg1 : Memref sig .tc .vmem S1024x1024 .f32) (harg1 : arg1.IsWhole) (arg2 : Memref sig .tc .vmem S1x1024 .f32) (harg2 : arg2.IsWhole)
  (arg4 : Memref sig .tc .vmem S1x4096 .f32) (harg4 : arg4.IsWhole) (arg5 : Memref sig .tc .vmem S1x2048 .f32) (harg5 : arg5.IsWhole)
  (arg6 : Memref sig .tc .vmem S8x128x128 .f32) (harg6 : arg6.IsWhole) (arg7 : Memref sig .tc .vmem S128x8 .f32) (harg7 : arg7.IsWhole)
  (arg9 : Memref sig .tc .vmem S1024x1024 .f32) (harg9 : arg9.IsWhole)
  (f1 : PB (F := F) c arg1) (f2 : PB (F := F) c arg2) (f4 : PB (F := F) c arg4) (f5 : PB (F := F) c arg5) (f6 : PB (F := F) c arg6) (f7 : PB (F := F) c arg7)
  (a1 : PB (F := F) c s1M) (a2 : PB (F := F) c s2M)
  (I : Ins F) {B : Type}

/-- Section 31. -/
theorem part31_run (R : sProp 𝕄) (hI : I = insOf c arg1 arg2 arg4 arg5 arg6 arg7 f1 f2 f4 f5 f6 f7 a1 a2) (k : ((_ : FVec F S256x1 .f32) ×' (_ : FVec F S256x256 .bf16) ×' (_ : FVec F S256x256 .f32) ×' (_ : FVec F S256x256 .bf16) ×' FVec F S128x128 .bf16) → Prog (TpuEff nD τ sig (Elt F) Λ₀ .tc) B)
    (K : B → sProp 𝕄)
    (h : St c arg1 arg2 arg4 arg5 arg6 arg7 arg9 f1 f2 f4 f5 f6 f7 a1 a2 R [ph_2 I, ph_1 I] [pv_2_4 I, pv_2_3 I, pv_2_2 I, pv_2_1 I, pv_2_0 I, pv_1_7 I] [po_0 I] ⊢ wp frame (wpE (defs₀ (F := F)) Variants.none c none) Set.univ (k (⟨v1165 I, v1177 I, v1184 I, v1192 I, v1197 I⟩)) K) :
    St c arg1 arg2 arg4 arg5 arg6 arg7 arg9 f1 f2 f4 f5 f6 f7 a1 a2 R [ph_2 I, ph_1 I] [pv_2_3 I, pv_2_2 I, pv_2_1 I, pv_2_0 I, pv_1_7 I, pv_1_6 I] [po_0 I] ⊢ wp frame (wpE (defs₀ (F := F)) Variants.none c none) Set.univ
      (k0_part31 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v791 I) (v1050 I) (v1074 I) (v1098 I) (v1158 I) >>= k) K := by
  subst hI
  rw [wp_bind, k0_part31_eq_skeleton]
  unfold k0_part31_skel St
  iintro ⟨H1, H2, H4, H5, H6, H7, Hs1, Hs2, ⟨%fh, Hh⟩, ⟨%fv, Hv⟩, ⟨%fo, H9⟩, HR⟩
  sl_exec
  try unfold part31_run.sl.r
  try unfold part31_run.sl.r_1
  try unfold part31_run.sl.r_2
  try unfold part31_run.sl.r_3
  try unfold part31_run.sl.r_4
  try unfold part31_run.sl.v1178
  try unfold part31_run.sl.v1185
  try unfold part31_run.sl.Hv_4
  try unfold part31_run.sl.Hv_5
  try unfold part31_run.sl.Hv_6
  try unfold part31_run.sl.Hv_7
  try unfold part31_run.sl.Hv_8
  try unfold part31_run.sl.Hv_9
  try unfold part31_run.sl.Hh_1
  try unfold part31_run.sl.Hh_2
  try unfold part31_run.sl.Hh_3
  try unfold part31_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v1165 I, v1177 I, v1184 I, v1192 I, v1197 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 32. -/
theorem part32_run (R : sProp 𝕄) (hI : I = insOf c arg1 arg2 arg4 arg5 arg6 arg7 f1 f2 f4 f5 f6 f7 a1 a2) (k : ((_ : FVec F S256x256 .f32) ×' (_ : FVec F S256x1 .f32) ×' FVec F S256x256 .f32) → Prog (TpuEff nD τ sig (Elt F) Λ₀ .tc) B)
    (K : B → sProp 𝕄)
    (h : St c arg1 arg2 arg4 arg5 arg6 arg7 arg9 f1 f2 f4 f5 f6 f7 a1 a2 R [ph_2 I, ph_1 I] [pv_2_5 I, pv_2_4 I, pv_2_3 I, pv_2_2 I, pv_2_1 I, pv_2_0 I, pv_1_7 I] [po_0 I] ⊢ wp frame (wpE (defs₀ (F := F)) Variants.none c none) Set.univ (k (⟨v1208 I, v1232 I, v1238 I⟩)) K) :
    St c arg1 arg2 arg4 arg5 arg6 arg7 arg9 f1 f2 f4 f5 f6 f7 a1 a2 R [ph_2 I, ph_1 I] [pv_2_4 I, pv_2_3 I, pv_2_2 I, pv_2_1 I, pv_2_0 I, pv_1_7 I] [po_0 I] ⊢ wp frame (wpE (defs₀ (F := F)) Variants.none c none) Set.univ
      (k0_part32 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v1117 I) (v1165 I) (v1192 I) (v1197 I) >>= k) K := by
  subst hI
  rw [wp_bind, k0_part32_eq_skeleton]
  unfold k0_part32_skel St
  iintro ⟨H1, H2, H4, H5, H6, H7, Hs1, Hs2, ⟨%fh, Hh⟩, ⟨%fv, Hv⟩, ⟨%fo, H9⟩, HR⟩
  sl_exec
  try unfold part32_run.sl.r
  try unfold part32_run.sl.r_1
  try unfold part32_run.sl.r_2
  try unfold part32_run.sl.v1209
  try unfold part32_run.sl.Hv_5
  try unfold part32_run.sl.Hv_6
  try unfold part32_run.sl.Hv_7
  try unfold part32_run.sl.Hv_8
  try unfold part32_run.sl.Hv_9
  try unfold part32_run.sl.Hh_1
  try unfold part32_run.sl.Hh_2
  try unfold part32_run.sl.Hh_3
  try unfold part32_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v1208 I, v1232 I, v1238 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 33. -/
theorem part33_run (R : sProp 𝕄) (hI : I = insOf c arg1 arg2 arg4 arg5 arg6 arg7 f1 f2 f4 f5 f6 f7 a1 a2) (k : ((_ : FVec F S256x256 .bf16) ×' (_ : FVec F S256x256 .f32) ×' (_ : FVec F S256x256 .f32) ×' Vec F S256x1024 .bf16) → Prog (TpuEff nD τ sig (Elt F) Λ₀ .tc) B)
    (K : B → sProp 𝕄)
    (h : St c arg1 arg2 arg4 arg5 arg6 arg7 arg9 f1 f2 f4 f5 f6 f7 a1 a2 R [ph_2 I] [pv_2_5 I, pv_2_4 I, pv_2_3 I, pv_2_2 I, pv_2_1 I, pv_2_0 I] [po_0 I] ⊢ wp frame (wpE (defs₀ (F := F)) Variants.none c none) Set.univ (k (⟨v1244 I, v1251 I, v1275 I, v1276 I⟩)) K) :
    St c arg1 arg2 arg4 arg5 arg6 arg7 arg9 f1 f2 f4 f5 f6 f7 a1 a2 R [ph_2 I, ph_1 I] [pv_2_5 I, pv_2_4 I, pv_2_3 I, pv_2_2 I, pv_2_1 I, pv_2_0 I, pv_1_7 I] [po_0 I] ⊢ wp frame (wpE (defs₀ (F := F)) Variants.none c none) Set.univ
      (k0_part33 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v791 I) (v1117 I) (v1141 I) (v1238 I) >>= k) K := by
  subst hI
  rw [wp_bind, k0_part33_eq_skeleton]
  unfold k0_part33_skel St
  iintro ⟨H1, H2, H4, H5, H6, H7, Hs1, Hs2, ⟨%fh, Hh⟩, ⟨%fv, Hv⟩, ⟨%fo, H9⟩, HR⟩
  sl_exec
  try unfold part33_run.sl.r
  try unfold part33_run.sl.r_1
  try unfold part33_run.sl.r_2
  try unfold part33_run.sl.r_3
  try unfold part33_run.sl.v1245
  try unfold part33_run.sl.v1252
  try unfold part33_run.sl.v1276
  try unfold part33_run.sl.Hv_4
  try unfold part33_run.sl.Hv_5
  try unfold part33_run.sl.Hv_6
  try unfold part33_run.sl.Hv_7
  try unfold part33_run.sl.Hv_8
  try unfold part33_run.sl.Hv_9
  try unfold part33_run.sl.Hv_10
  try unfold part33_run.sl.Hh_1
  try unfold part33_run.sl.Hh_2
  try unfold part33_run.sl.Hh_3
  try unfold part33_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v1244 I, v1251 I, v1275 I, v1276 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 34. -/
theorem part34_run (R : sProp 𝕄) (hI : I = insOf c arg1 arg2 arg4 arg5 arg6 arg7 f1 f2 f4 f5 f6 f7 a1 a2) (k : ((_ : FVec F S256x1 .f32) ×' (_ : FVec F S256x256 .bf16) ×' FVec F S256x256 .f32) → Prog (TpuEff nD τ sig (Elt F) Λ₀ .tc) B)
    (K : B → sProp 𝕄)
    (h : St c arg1 arg2 arg4 arg5 arg6 arg7 arg9 f1 f2 f4 f5 f6 f7 a1 a2 R [ph_2 I] [pv_2_6 I, pv_2_5 I, pv_2_4 I, pv_2_3 I, pv_2_2 I, pv_2_1 I, pv_2_0 I] [po_0 I] ⊢ wp frame (wpE (defs₀ (F := F)) Variants.none c none) Set.univ (k (⟨v1299 I, v1311 I, v1314 I⟩)) K) :
    St c arg1 arg2 arg4 arg5 arg6 arg7 arg9 f1 f2 f4 f5 f6 f7 a1 a2 R [ph_2 I] [pv_2_5 I, pv_2_4 I, pv_2_3 I, pv_2_2 I, pv_2_1 I, pv_2_0 I] [po_0 I] ⊢ wp frame (wpE (defs₀ (F := F)) Variants.none c none) Set.univ
      (k0_part34 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v1184 I) (v1208 I) (v1232 I) (v1276 I) >>= k) K := by
  subst hI
  rw [wp_bind, k0_part34_eq_skeleton]
  unfold k0_part34_skel St
  iintro ⟨H1, H2, H4, H5, H6, H7, Hs1, Hs2, ⟨%fh, Hh⟩, ⟨%fv, Hv⟩, ⟨%fo, H9⟩, HR⟩
  sl_exec
  try unfold part34_run.sl.r
  try unfold part34_run.sl.r_1
  try unfold part34_run.sl.r_2
  try unfold part34_run.sl.v1312
  try unfold part34_run.sl.Hv_5
  try unfold part34_run.sl.Hv_6
  try unfold part34_run.sl.Hv_7
  try unfold part34_run.sl.Hv_8
  try unfold part34_run.sl.Hv_9
  try unfold part34_run.sl.Hh_1
  try unfold part34_run.sl.Hh_2
  try unfold part34_run.sl.Hh_3
  try unfold part34_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v1299 I, v1311 I, v1314 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 35. -/
theorem part35_run (R : sProp 𝕄) (hI : I = insOf c arg1 arg2 arg4 arg5 arg6 arg7 f1 f2 f4 f5 f6 f7 a1 a2) (k : ((_ : FVec F S256x1 .f32) ×' FVec F S256x1 .f32) → Prog (TpuEff nD τ sig (Elt F) Λ₀ .tc) B)
    (K : B → sProp 𝕄)
    (h : St c arg1 arg2 arg4 arg5 arg6 arg7 arg9 f1 f2 f4 f5 f6 f7 a1 a2 R [ph_2 I] [pv_2_7 I, pv_2_6 I, pv_2_5 I, pv_2_4 I, pv_2_3 I, pv_2_2 I, pv_2_1 I, pv_2_0 I] [po_1 I, po_0 I] ⊢ wp frame (wpE (defs₀ (F := F)) Variants.none c none) Set.univ (k (⟨v1335 I, v1355 I⟩)) K) :
    St c arg1 arg2 arg4 arg5 arg6 arg7 arg9 f1 f2 f4 f5 f6 f7 a1 a2 R [ph_2 I] [pv_2_6 I, pv_2_5 I, pv_2_4 I, pv_2_3 I, pv_2_2 I, pv_2_1 I, pv_2_0 I] [po_0 I] ⊢ wp frame (wpE (defs₀ (F := F)) Variants.none c none) Set.univ
      (k0_part35 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v909 I) (v976 I) (v1043 I) (v1110 I) (v1177 I) (v1244 I) (v1251 I) (v1275 I) (v1299 I) (v1311 I) (v1314 I) >>= k) K := by
  subst hI
  rw [wp_bind, k0_part35_eq_skeleton]
  unfold k0_part35_skel St
  iintro ⟨H1, H2, H4, H5, H6, H7, Hs1, Hs2, ⟨%fh, Hh⟩, ⟨%fv, Hv⟩, ⟨%fo, H9⟩, HR⟩
  sl_exec
  iapply (entails_of_eq_arg (fun r => wp frame (wpE (defs₀ (F := F)) Variants.none c none) Set.univ (k r) K)
    (a := (fun I : Ins F => (⟨v1335 I, v1355 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 36. -/
theorem part36_run (R : sProp 𝕄) (hI : I = insOf c arg1 arg2 arg4 arg5 arg6 arg7 f1 f2 f4 f5 f6 f7 a1 a2) (k : ((_ : FVec F S256x1 .f32) ×' (_ : FVec F S256x256 .f32) ×' FVec F S256x256 .f32) → Prog (TpuEff nD τ sig (Elt F) Λ₀ .tc) B)
    (K : B → sProp 𝕄)
    (h : St c arg1 arg2 arg4 arg5 arg6 arg7 arg9 f1 f2 f4 f5 f6 f7 a1 a2 R [ph_3 I, ph_2 I] [pv_2_7 I, pv_2_6 I, pv_2_5 I, pv_2_4 I, pv_2_3 I, pv_2_2 I, pv_2_1 I] [po_1 I, po_0 I] ⊢ wp frame (wpE (defs₀ (F := F)) Variants.none c none) Set.univ (k (⟨v1359 I, v1386 I, v1393 I⟩)) K) :
    St c arg1 arg2 arg4 arg5 arg6 arg7 arg9 f1 f2 f4 f5 f6 f7 a1 a2 R [ph_2 I] [pv_2_7 I, pv_2_6 I, pv_2_5 I, pv_2_4 I, pv_2_3 I, pv_2_2 I, pv_2_1 I, pv_2_0 I] [po_1 I, po_0 I] ⊢ wp frame (wpE (defs₀ (F := F)) Variants.none c none) Set.univ
      (k0_part36 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v1335 I) (v1355 I) >>= k) K := by
  subst hI
  rw [wp_bind, k0_part36_eq_skeleton]
  unfold k0_part36_skel St
  iintro ⟨H1, H2, H4, H5, H6, H7, Hs1, Hs2, ⟨%fh, Hh⟩, ⟨%fv, Hv⟩, ⟨%fo, H9⟩, HR⟩
  sl_exec
  try unfold part36_run.sl.r
  try unfold part36_run.sl.r_1
  try unfold part36_run.sl.r_2
  try unfold part36_run.sl.v1380
  try unfold part36_run.sl.v1387
  try unfold part36_run.sl.Hv_5
  try unfold part36_run.sl.Hv_6
  try unfold part36_run.sl.Hv_7
  try unfold part36_run.sl.Hv_8
  try unfold part36_run.sl.Hv_9
  try unfold part36_run.sl.Hv_10
  try unfold part36_run.sl.Hv_11
  try unfold part36_run.sl.Hh_1
  try unfold part36_run.sl.Hh_2
  try unfold part36_run.sl.Hh_3
  try unfold part36_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v1359 I, v1386 I, v1393 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 37. -/
theorem part37_run (R : sProp 𝕄) (hI : I = insOf c arg1 arg2 arg4 arg5 arg6 arg7 f1 f2 f4 f5 f6 f7 a1 a2) (k : ((_ : FVec F S256x256 .f32) ×' (_ : FVec F S256x256 .f32) ×' (_ : FVec F S256x256 .bf16) ×' FVec F S128x128 .bf16) → Prog (TpuEff nD τ sig (Elt F) Λ₀ .tc) B)
    (K : B → sProp 𝕄)
    (h : St c arg1 arg2 arg4 arg5 arg6 arg7 arg9 f1 f2 f4 f5 f6 f7 a1 a2 R [ph_3 I, ph_2 I] [pv_2_7 I, pv_2_6 I, pv_2_5 I, pv_2_4 I, pv_2_3 I, pv_2_2 I] [po_1 I, po_0 I] ⊢ wp frame (wpE (defs₀ (F := F)) Variants.none c none) Set.univ (k (⟨v1410 I, v1417 I, v1425 I, v1430 I⟩)) K) :
    St c arg1 arg2 arg4 arg5 arg6 arg7 arg9 f1 f2 f4 f5 f6 f7 a1 a2 R [ph_3 I, ph_2 I] [pv_2_7 I, pv_2_6 I, pv_2_5 I, pv_2_4 I, pv_2_3 I, pv_2_2 I, pv_2_1 I] [po_1 I, po_0 I] ⊢ wp frame (wpE (defs₀ (F := F)) Variants.none c none) Set.univ
      (k0_part37 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v1359 I) (v1393 I) >>= k) K := by
  subst hI
  rw [wp_bind, k0_part37_eq_skeleton]
  unfold k0_part37_skel St
  iintro ⟨H1, H2, H4, H5, H6, H7, Hs1, Hs2, ⟨%fh, Hh⟩, ⟨%fv, Hv⟩, ⟨%fo, H9⟩, HR⟩
  sl_exec
  try unfold part37_run.sl.r
  try unfold part37_run.sl.r_1
  try unfold part37_run.sl.r_2
  try unfold part37_run.sl.r_3
  try unfold part37_run.sl.v1411
  try unfold part37_run.sl.v1418
  try unfold part37_run.sl.Hv_4
  try unfold part37_run.sl.Hv_5
  try unfold part37_run.sl.Hv_6
  try unfold part37_run.sl.Hv_7
  try unfold part37_run.sl.Hv_8
  try unfold part37_run.sl.Hv_9
  try unfold part37_run.sl.Hv_10
  try unfold part37_run.sl.Hh_1
  try unfold part37_run.sl.Hh_2
  try unfold part37_run.sl.Hh_3
  try unfold part37_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v1410 I, v1417 I, v1425 I, v1430 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 38. -/
theorem part38_run (R : sProp 𝕄) (hI : I = insOf c arg1 arg2 arg4 arg5 arg6 arg7 f1 f2 f4 f5 f6 f7 a1 a2) (k : ((_ : FVec F S256x256 .f32) ×' (_ : FVec F S256x1 .f32) ×' FVec F S256x256 .f32) → Prog (TpuEff nD τ sig (Elt F) Λ₀ .tc) B)
    (K : B → sProp 𝕄)
    (h : St c arg1 arg2 arg4 arg5 arg6 arg7 arg9 f1 f2 f4 f5 f6 f7 a1 a2 R [ph_3 I, ph_2 I] [pv_3_0 I, pv_2_7 I, pv_2_6 I, pv_2_5 I, pv_2_4 I, pv_2_3 I, pv_2_2 I] [po_1 I, po_0 I] ⊢ wp frame (wpE (defs₀ (F := F)) Variants.none c none) Set.univ (k (⟨v1441 I, v1465 I, v1470 I⟩)) K) :
    St c arg1 arg2 arg4 arg5 arg6 arg7 arg9 f1 f2 f4 f5 f6 f7 a1 a2 R [ph_3 I, ph_2 I] [pv_2_7 I, pv_2_6 I, pv_2_5 I, pv_2_4 I, pv_2_3 I, pv_2_2 I] [po_1 I, po_0 I] ⊢ wp frame (wpE (defs₀ (F := F)) Variants.none c none) Set.univ
      (k0_part38 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v6 I) (v1386 I) (v1425 I) (v1430 I) >>= k) K := by
  subst hI
  rw [wp_bind, k0_part38_eq_skeleton]
  unfold k0_part38_skel St
  iintro ⟨H1, H2, H4, H5, H6, H7, Hs1, Hs2, ⟨%fh, Hh⟩, ⟨%fv, Hv⟩, ⟨%fo, H9⟩, HR⟩
  sl_exec
  try unfold part38_run.sl.r
  try unfold part38_run.sl.r_1
  try unfold part38_run.sl.r_2
  try unfold part38_run.sl.v1442
  try unfold part38_run.sl.Hv_5
  try unfold part38_run.sl.Hv_6
  try unfold part38_run.sl.Hv_7
  try unfold part38_run.sl.Hv_8
  try unfold part38_run.sl.Hv_9
  try unfold part38_run.sl.Hh_1
  try unfold part38_run.sl.Hh_2
  try unfold part38_run.sl.Hh_3
  try unfold part38_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v1441 I, v1465 I, v1470 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 39. -/
theorem part39_run (R : sProp 𝕄) (hI : I = insOf c arg1 arg2 arg4 arg5 arg6 arg7 f1 f2 f4 f5 f6 f7 a1 a2) (k : ((_ : FVec F S256x256 .bf16) ×' (_ : FVec F S256x256 .f32) ×' FVec F S256x256 .f32) → Prog (TpuEff nD τ sig (Elt F) Λ₀ .tc) B)
    (K : B → sProp 𝕄)
    (h : St c arg1 arg2 arg4 arg5 arg6 arg7 arg9 f1 f2 f4 f5 f6 f7 a1 a2 R [ph_3 I, ph_2 I] [pv_3_0 I, pv_2_7 I, pv_2_6 I, pv_2_5 I, pv_2_4 I, pv_2_3 I] [po_1 I, po_0 I] ⊢ wp frame (wpE (defs₀ (F := F)) Variants.none c none) Set.univ (k (⟨v1477 I, v1484 I, v1508 I⟩)) K) :
    St c arg1 arg2 arg4 arg5 arg6 arg7 arg9 f1 f2 f4 f5 f6 f7 a1 a2 R [ph_3 I, ph_2 I] [pv_3_0 I, pv_2_7 I, pv_2_6 I, pv_2_5 I, pv_2_4 I, pv_2_3 I, pv_2_2 I] [po_1 I, po_0 I] ⊢ wp frame (wpE (defs₀ (F := F)) Variants.none c none) Set.univ
      (k0_part39 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v1359 I) (v1386 I) (v1410 I) (v1470 I) >>= k) K := by
  subst hI
  rw [wp_bind, k0_part39_eq_skeleton]
  unfold k0_part39_skel St
  iintro ⟨H1, H2, H4, H5, H6, H7, Hs1, Hs2, ⟨%fh, Hh⟩, ⟨%fv, Hv⟩, ⟨%fo, H9⟩, HR⟩
  sl_exec
  try unfold part39_run.sl.r
  try unfold part39_run.sl.r_1
  try unfold part39_run.sl.r_2
  try unfold part39_run.sl.v1478
  try unfold part39_run.sl.v1485
  try unfold part39_run.sl.Hv_4
  try unfold part39_run.sl.Hv_5
  try unfold part39_run.sl.Hv_6
  try unfold part39_run.sl.Hv_7
  try unfold part39_run.sl.Hv_8
  try unfold part39_run.sl.Hv_9
  try unfold part39_run.sl.Hv_10
  try unfold part39_run.sl.Hh_1
  try unfold part39_run.sl.Hh_2
  try unfold part39_run.sl.Hh_3
  try unfold part39_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v1477 I, v1484 I, v1508 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 40. -/
theorem part40_run (R : sProp 𝕄) (hI : I = insOf c arg1 arg2 arg4 arg5 arg6 arg7 f1 f2 f4 f5 f6 f7 a1 a2) (k : ((_ : FVec F S256x1 .f32) ×' (_ : FVec F S256x256 .bf16) ×' FVec F S256x256 .f32) → Prog (TpuEff nD τ sig (Elt F) Λ₀ .tc) B)
    (K : B → sProp 𝕄)
    (h : St c arg1 arg2 arg4 arg5 arg6 arg7 arg9 f1 f2 f4 f5 f6 f7 a1 a2 R [ph_3 I, ph_2 I] [pv_3_1 I, pv_3_0 I, pv_2_7 I, pv_2_6 I, pv_2_5 I, pv_2_4 I, pv_2_3 I] [po_1 I, po_0 I] ⊢ wp frame (wpE (defs₀ (F := F)) Variants.none c none) Set.univ (k (⟨v1532 I, v1544 I, v1547 I⟩)) K) :
    St c arg1 arg2 arg4 arg5 arg6 arg7 arg9 f1 f2 f4 f5 f6 f7 a1 a2 R [ph_3 I, ph_2 I] [pv_3_0 I, pv_2_7 I, pv_2_6 I, pv_2_5 I, pv_2_4 I, pv_2_3 I] [po_1 I, po_0 I] ⊢ wp frame (wpE (defs₀ (F := F)) Variants.none c none) Set.univ
      (k0_part40 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v1417 I) (v1441 I) (v1465 I) >>= k) K := by
  subst hI
  rw [wp_bind, k0_part40_eq_skeleton]
  unfold k0_part40_skel St
  iintro ⟨H1, H2, H4, H5, H6, H7, Hs1, Hs2, ⟨%fh, Hh⟩, ⟨%fv, Hv⟩, ⟨%fo, H9⟩, HR⟩
  sl_exec
  try unfold part40_run.sl.r
  try unfold part40_run.sl.r_1
  try unfold part40_run.sl.r_2
  try unfold part40_run.sl.v1509
  try unfold part40_run.sl.v1545
  try unfold part40_run.sl.Hv_5
  try unfold part40_run.sl.Hv_6
  try unfold part40_run.sl.Hv_7
  try unfold part40_run.sl.Hv_8
  try unfold part40_run.sl.Hv_9
  try unfold part40_run.sl.Hh_1
  try unfold part40_run.sl.Hh_2
  try unfold part40_run.sl.Hh_3
  try unfold part40_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v1532 I, v1544 I, v1547 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 41. -/
theorem part41_run (R : sProp 𝕄) (hI : I = insOf c arg1 arg2 arg4 arg5 arg6 arg7 f1 f2 f4 f5 f6 f7 a1 a2) (k : ((_ : FVec F S256x256 .f32) ×' (_ : FVec F S256x256 .f32) ×' (_ : FVec F S256x256 .f32) ×' (_ : FVec F S256x256 .f32) ×' F .f32) → Prog (TpuEff nD τ sig (Elt F) Λ₀ .tc) B)
    (K : B → sProp 𝕄)
    (h : St c arg1 arg2 arg4 arg5 arg6 arg7 arg9 f1 f2 f4 f5 f6 f7 a1 a2 R [ph_3 I, ph_2 I] [pv_3_1 I, pv_3_0 I, pv_2_7 I, pv_2_6 I, pv_2_5 I, pv_2_4 I] [po_1 I, po_0 I] ⊢ wp frame (wpE (defs₀ (F := F)) Variants.none c none) Set.univ (k (⟨v1551 I, v1575 I, v1582 I, v1585 I, cst_814 I⟩)) K) :
    St c arg1 arg2 arg4 arg5 arg6 arg7 arg9 f1 f2 f4 f5 f6 f7 a1 a2 R [ph_3 I, ph_2 I] [pv_3_1 I, pv_3_0 I, pv_2_7 I, pv_2_6 I, pv_2_5 I, pv_2_4 I, pv_2_3 I] [po_1 I, po_0 I] ⊢ wp frame (wpE (defs₀ (F := F)) Variants.none c none) Set.univ
      (k0_part41 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v1359 I) (v1547 I) >>= k) K := by
  subst hI
  rw [wp_bind, k0_part41_eq_skeleton]
  unfold k0_part41_skel St
  iintro ⟨H1, H2, H4, H5, H6, H7, Hs1, Hs2, ⟨%fh, Hh⟩, ⟨%fv, Hv⟩, ⟨%fo, H9⟩, HR⟩
  sl_exec
  try unfold part41_run.sl.r
  try unfold part41_run.sl.r_1
  try unfold part41_run.sl.r_2
  try unfold part41_run.sl.r_3
  try unfold part41_run.sl.r_4
  try unfold part41_run.sl.v1552
  try unfold part41_run.sl.v1576
  try unfold part41_run.sl.Hv_4
  try unfold part41_run.sl.Hv_5
  try unfold part41_run.sl.Hv_6
  try unfold part41_run.sl.Hv_7
  try unfold part41_run.sl.Hv_8
  try unfold part41_run.sl.Hv_9
  try unfold part41_run.sl.Hv_10
  try unfold part41_run.sl.Hh_1
  try unfold part41_run.sl.Hh_2
  try unfold part41_run.sl.Hh_3
  try unfold part41_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v1551 I, v1575 I, v1582 I, v1585 I, cst_814 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 42. -/
theorem part42_run (R : sProp 𝕄) (hI : I = insOf c arg1 arg2 arg4 arg5 arg6 arg7 f1 f2 f4 f5 f6 f7 a1 a2) (k : ((_ : FVec F S256x1 .f32) ×' (_ : FVec F S256x256 .bf16) ×' (_ : FVec F S256x256 .f32) ×' FVec F S256x256 .bf16) → Prog (TpuEff nD τ sig (Elt F) Λ₀ .tc) B)
    (K : B → sProp 𝕄)
    (h : St c arg1 arg2 arg4 arg5 arg6 arg7 arg9 f1 f2 f4 f5 f6 f7 a1 a2 R [ph_3 I, ph_2 I] [pv_3_2 I, pv_3_1 I, pv_3_0 I, pv_2_7 I, pv_2_6 I, pv_2_5 I] [po_1 I, po_0 I] ⊢ wp frame (wpE (defs₀ (F := F)) Variants.none c none) Set.univ (k (⟨v1599 I, v1611 I, v1618 I, v1626 I⟩)) K) :
    St c arg1 arg2 arg4 arg5 arg6 arg7 arg9 f1 f2 f4 f5 f6 f7 a1 a2 R [ph_3 I, ph_2 I] [pv_3_1 I, pv_3_0 I, pv_2_7 I, pv_2_6 I, pv_2_5 I, pv_2_4 I] [po_1 I, po_0 I] ⊢ wp frame (wpE (defs₀ (F := F)) Variants.none c none) Set.univ
      (k0_part42 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v1359 I) (v1484 I) (v1508 I) (v1532 I) (v1582 I) (v1585 I) (cst_814 I) >>= k) K := by
  subst hI
  rw [wp_bind, k0_part42_eq_skeleton]
  unfold k0_part42_skel St
  iintro ⟨H1, H2, H4, H5, H6, H7, Hs1, Hs2, ⟨%fh, Hh⟩, ⟨%fv, Hv⟩, ⟨%fo, H9⟩, HR⟩
  sl_exec
  try unfold part42_run.sl.r
  try unfold part42_run.sl.r_1
  try unfold part42_run.sl.r_2
  try unfold part42_run.sl.r_3
  try unfold part42_run.sl.v1612
  try unfold part42_run.sl.v1619
  try unfold part42_run.sl.Hv_4
  try unfold part42_run.sl.Hv_5
  try unfold part42_run.sl.Hv_6
  try unfold part42_run.sl.Hv_7
  try unfold part42_run.sl.Hv_8
  try unfold part42_run.sl.Hv_9
  try unfold part42_run.sl.Hh_1
  try unfold part42_run.sl.Hh_2
  try unfold part42_run.sl.Hh_3
  try unfold part42_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v1599 I, v1611 I, v1618 I, v1626 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 43. -/
theorem part43_run (R : sProp 𝕄) (hI : I = insOf c arg1 arg2 arg4 arg5 arg6 arg7 f1 f2 f4 f5 f6 f7 a1 a2) (k : ((_ : FVec F S256x256 .f32) ×' FVec F S256 .f32) → Prog (TpuEff nD τ sig (Elt F) Λ₀ .tc) B)
    (K : B → sProp 𝕄)
    (h : St c arg1 arg2 arg4 arg5 arg6 arg7 arg9 f1 f2 f4 f5 f6 f7 a1 a2 R [ph_3 I, ph_2 I] [pv_3_3 I, pv_3_2 I, pv_3_1 I, pv_3_0 I, pv_2_7 I, pv_2_6 I, pv_2_5 I] [po_1 I, po_0 I] ⊢ wp frame (wpE (defs₀ (F := F)) Variants.none c none) Set.univ (k (⟨v1642 I, v1664 I⟩)) K) :
    St c arg1 arg2 arg4 arg5 arg6 arg7 arg9 f1 f2 f4 f5 f6 f7 a1 a2 R [ph_3 I, ph_2 I] [pv_3_2 I, pv_3_1 I, pv_3_0 I, pv_2_7 I, pv_2_6 I, pv_2_5 I] [po_1 I, po_0 I] ⊢ wp frame (wpE (defs₀ (F := F)) Variants.none c none) Set.univ
      (k0_part43 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v1626 I) >>= k) K := by
  subst hI
  rw [wp_bind, k0_part43_eq_skeleton]
  unfold k0_part43_skel St
  iintro ⟨H1, H2, H4, H5, H6, H7, Hs1, Hs2, ⟨%fh, Hh⟩, ⟨%fv, Hv⟩, ⟨%fo, H9⟩, HR⟩
  sl_exec
  try unfold part43_run.sl.r
  try unfold part43_run.sl.r_1
  try unfold part43_run.sl.v1643
  try unfold part43_run.sl.Hv_5
  try unfold part43_run.sl.Hv_6
  try unfold part43_run.sl.Hv_7
  try unfold part43_run.sl.Hv_8
  try unfold part43_run.sl.Hv_9
  try unfold part43_run.sl.Hh_1
  try unfold part43_run.sl.Hh_2
  try unfold part43_run.sl.Hh_3
  try unfold part43_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v1642 I, v1664 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 44. -/
theorem part44_run (R : sProp 𝕄) (hI : I = insOf c arg1 arg2 arg4 arg5 arg6 arg7 f1 f2 f4 f5 f6 f7 a1 a2) (k : ((_ : FVec F S256x1 .f32) ×' (_ : FVec F S256x256 .bf16) ×' (_ : FVec F S256x256 .f32) ×' (_ : FVec F S256x256 .bf16) ×' (_ : FVec F S128x128 .bf16) ×' (_ : FVec F S128x1 .f32) ×' (_ : FVec F S128x256 .f32) ×' FVec F S128x256 .f32) → Prog (TpuEff nD τ sig (Elt F) Λ₀ .tc) B)
    (K : B → sProp 𝕄)
    (h : St c arg1 arg2 arg4 arg5 arg6 arg7 arg9 f1 f2 f4 f5 f6 f7 a1 a2 R [ph_3 I, ph_2 I] [pv_3_3 I, pv_3_2 I, pv_3_1 I, pv_3_0 I, pv_2_7 I, pv_2_6 I] [po_1 I, po_0 I] ⊢ wp frame (wpE (defs₀ (F := F)) Variants.none c none) Set.univ (k (⟨v1666 I, v1678 I, v1685 I, v1693 I, v1698 I, v1700 I, v1702 I, v1703 I⟩)) K) :
    St c arg1 arg2 arg4 arg5 arg6 arg7 arg9 f1 f2 f4 f5 f6 f7 a1 a2 R [ph_3 I, ph_2 I] [pv_3_3 I, pv_3_2 I, pv_3_1 I, pv_3_0 I, pv_2_7 I, pv_2_6 I, pv_2_5 I] [po_1 I, po_0 I] ⊢ wp frame (wpE (defs₀ (F := F)) Variants.none c none) Set.univ
      (k0_part44 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v1359 I) (v1551 I) (v1575 I) (v1599 I) (v1664 I) >>= k) K := by
  subst hI
  rw [wp_bind, k0_part44_eq_skeleton]
  unfold k0_part44_skel St
  iintro ⟨H1, H2, H4, H5, H6, H7, Hs1, Hs2, ⟨%fh, Hh⟩, ⟨%fv, Hv⟩, ⟨%fo, H9⟩, HR⟩
  sl_exec
  try unfold part44_run.sl.r
  try unfold part44_run.sl.r_1
  try unfold part44_run.sl.r_2
  try unfold part44_run.sl.r_3
  try unfold part44_run.sl.r_4
  try unfold part44_run.sl.r_5
  try unfold part44_run.sl.r_6
  try unfold part44_run.sl.r_7
  try unfold part44_run.sl.v1679
  try unfold part44_run.sl.v1686
  try unfold part44_run.sl.Hv_4
  try unfold part44_run.sl.Hv_5
  try unfold part44_run.sl.Hv_6
  try unfold part44_run.sl.Hv_7
  try unfold part44_run.sl.Hv_8
  try unfold part44_run.sl.Hv_9
  try unfold part44_run.sl.Hv_10
  try unfold part44_run.sl.Hh_1
  try unfold part44_run.sl.Hh_2
  try unfold part44_run.sl.Hh_3
  try unfold part44_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v1666 I, v1678 I, v1685 I, v1693 I, v1698 I, v1700 I, v1702 I, v1703 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

end Cert.Kernel3Ideal.Hand
-- ==== Proof.Mixer.Sections4.lean ====
/-
  The spatial-gating mixer. Sections 45 to 58 of the body, each run from the state before it to the state after it.
-/
module

public import proofs.«01_k».proof.Proof.Mixer.State

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (Pipeline.UD sig nD τ) ℕ

variable (c : Dev nD) (i : grid0.Coords)
  (arg1 : Memref sig .tc .vmem S1024x1024 .f32) (harg1 : arg1.IsWhole) (arg2 : Memref sig .tc .vmem S1x1024 .f32) (harg2 : arg2.IsWhole)
  (arg4 : Memref sig .tc .vmem S1x4096 .f32) (harg4 : arg4.IsWhole) (arg5 : Memref sig .tc .vmem S1x2048 .f32) (harg5 : arg5.IsWhole)
  (arg6 : Memref sig .tc .vmem S8x128x128 .f32) (harg6 : arg6.IsWhole) (arg7 : Memref sig .tc .vmem S128x8 .f32) (harg7 : arg7.IsWhole)
  (arg9 : Memref sig .tc .vmem S1024x1024 .f32) (harg9 : arg9.IsWhole)
  (f1 : PB (F := F) c arg1) (f2 : PB (F := F) c arg2) (f4 : PB (F := F) c arg4) (f5 : PB (F := F) c arg5) (f6 : PB (F := F) c arg6) (f7 : PB (F := F) c arg7)
  (a1 : PB (F := F) c s1M) (a2 : PB (F := F) c s2M)
  (I : Ins F) {B : Type}

/-- Section 45. -/
theorem part45_run (R : sProp 𝕄) (hI : I = insOf c arg1 arg2 arg4 arg5 arg6 arg7 f1 f2 f4 f5 f6 f7 a1 a2) (k : ((_ : FVec F S256x256 .f32) ×' (_ : FVec F S256x1 .f32) ×' FVec F S256x256 .bf16) → Prog (TpuEff nD τ sig (Elt F) Λ₀ .tc) B)
    (K : B → sProp 𝕄)
    (h : St c arg1 arg2 arg4 arg5 arg6 arg7 arg9 f1 f2 f4 f5 f6 f7 a1 a2 R [ph_3 I, ph_2 I] [pv_3_4 I, pv_3_3 I, pv_3_2 I, pv_3_1 I, pv_3_0 I, pv_2_7 I, pv_2_6 I] [po_1 I, po_0 I] ⊢ wp frame (wpE (defs₀ (F := F)) Variants.none c none) Set.univ (k (⟨v1709 I, v1733 I, v1745 I⟩)) K) :
    St c arg1 arg2 arg4 arg5 arg6 arg7 arg9 f1 f2 f4 f5 f6 f7 a1 a2 R [ph_3 I, ph_2 I] [pv_3_3 I, pv_3_2 I, pv_3_1 I, pv_3_0 I, pv_2_7 I, pv_2_6 I] [po_1 I, po_0 I] ⊢ wp frame (wpE (defs₀ (F := F)) Variants.none c none) Set.univ
      (k0_part45 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v1618 I) (v1642 I) (v1666 I) (v1693 I) (v1698 I) (v1700 I) (v1702 I) (v1703 I) >>= k) K := by
  subst hI
  rw [wp_bind, k0_part45_eq_skeleton]
  unfold k0_part45_skel St
  iintro ⟨H1, H2, H4, H5, H6, H7, Hs1, Hs2, ⟨%fh, Hh⟩, ⟨%fv, Hv⟩, ⟨%fo, H9⟩, HR⟩
  sl_exec
  try unfold part45_run.sl.r
  try unfold part45_run.sl.r_1
  try unfold part45_run.sl.r_2
  try unfold part45_run.sl.v1710
  try unfold part45_run.sl.Hv_5
  try unfold part45_run.sl.Hv_6
  try unfold part45_run.sl.Hv_7
  try unfold part45_run.sl.Hv_8
  try unfold part45_run.sl.Hv_9
  try unfold part45_run.sl.Hh_1
  try unfold part45_run.sl.Hh_2
  try unfold part45_run.sl.Hh_3
  try unfold part45_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v1709 I, v1733 I, v1745 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 46. -/
theorem part46_run (R : sProp 𝕄) (hI : I = insOf c arg1 arg2 arg4 arg5 arg6 arg7 f1 f2 f4 f5 f6 f7 a1 a2) (k : ((_ : FVec F S256x256 .f32) ×' (_ : FVec F S256x256 .f32) ×' FVec F S256x256 .f32) → Prog (TpuEff nD τ sig (Elt F) Λ₀ .tc) B)
    (K : B → sProp 𝕄)
    (h : St c arg1 arg2 arg4 arg5 arg6 arg7 arg9 f1 f2 f4 f5 f6 f7 a1 a2 R [ph_3 I, ph_2 I] [pv_3_4 I, pv_3_3 I, pv_3_2 I, pv_3_1 I, pv_3_0 I, pv_2_7 I] [po_1 I, po_0 I] ⊢ wp frame (wpE (defs₀ (F := F)) Variants.none c none) Set.univ (k (⟨v1752 I, v1776 I, v1779 I⟩)) K) :
    St c arg1 arg2 arg4 arg5 arg6 arg7 arg9 f1 f2 f4 f5 f6 f7 a1 a2 R [ph_3 I, ph_2 I] [pv_3_4 I, pv_3_3 I, pv_3_2 I, pv_3_1 I, pv_3_0 I, pv_2_7 I, pv_2_6 I] [po_1 I, po_0 I] ⊢ wp frame (wpE (defs₀ (F := F)) Variants.none c none) Set.univ
      (k0_part46 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v1359 I) >>= k) K := by
  subst hI
  rw [wp_bind, k0_part46_eq_skeleton]
  unfold k0_part46_skel St
  iintro ⟨H1, H2, H4, H5, H6, H7, Hs1, Hs2, ⟨%fh, Hh⟩, ⟨%fv, Hv⟩, ⟨%fo, H9⟩, HR⟩
  sl_exec
  try unfold part46_run.sl.r
  try unfold part46_run.sl.r_1
  try unfold part46_run.sl.r_2
  try unfold part46_run.sl.v1746
  try unfold part46_run.sl.v1753
  try unfold part46_run.sl.v1777
  try unfold part46_run.sl.Hv_4
  try unfold part46_run.sl.Hv_5
  try unfold part46_run.sl.Hv_6
  try unfold part46_run.sl.Hv_7
  try unfold part46_run.sl.Hv_8
  try unfold part46_run.sl.Hv_9
  try unfold part46_run.sl.Hv_10
  try unfold part46_run.sl.Hh_1
  try unfold part46_run.sl.Hh_2
  try unfold part46_run.sl.Hh_3
  try unfold part46_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v1752 I, v1776 I, v1779 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 47. -/
theorem part47_run (R : sProp 𝕄) (hI : I = insOf c arg1 arg2 arg4 arg5 arg6 arg7 f1 f2 f4 f5 f6 f7 a1 a2) (k : ((_ : FVec F S256x1 .f32) ×' (_ : FVec F S256x256 .bf16) ×' (_ : FVec F S256x256 .f32) ×' Vec F S256x256 .f32) → Prog (TpuEff nD τ sig (Elt F) Λ₀ .tc) B)
    (K : B → sProp 𝕄)
    (h : St c arg1 arg2 arg4 arg5 arg6 arg7 arg9 f1 f2 f4 f5 f6 f7 a1 a2 R [ph_3 I] [pv_3_5 I, pv_3_4 I, pv_3_3 I, pv_3_2 I, pv_3_1 I, pv_3_0 I] [po_1 I, po_0 I] ⊢ wp frame (wpE (defs₀ (F := F)) Variants.none c none) Set.univ (k (⟨v1800 I, v1812 I, v1819 I, v1820 I⟩)) K) :
    St c arg1 arg2 arg4 arg5 arg6 arg7 arg9 f1 f2 f4 f5 f6 f7 a1 a2 R [ph_3 I, ph_2 I] [pv_3_4 I, pv_3_3 I, pv_3_2 I, pv_3_1 I, pv_3_0 I, pv_2_7 I] [po_1 I, po_0 I] ⊢ wp frame (wpE (defs₀ (F := F)) Variants.none c none) Set.univ
      (k0_part47 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v1685 I) (v1709 I) (v1733 I) (v1779 I) >>= k) K := by
  subst hI
  rw [wp_bind, k0_part47_eq_skeleton]
  unfold k0_part47_skel St
  iintro ⟨H1, H2, H4, H5, H6, H7, Hs1, Hs2, ⟨%fh, Hh⟩, ⟨%fv, Hv⟩, ⟨%fo, H9⟩, HR⟩
  sl_exec
  try unfold part47_run.sl.r
  try unfold part47_run.sl.r_1
  try unfold part47_run.sl.r_2
  try unfold part47_run.sl.r_3
  try unfold part47_run.sl.v1813
  try unfold part47_run.sl.v1820
  try unfold part47_run.sl.Hv_4
  try unfold part47_run.sl.Hv_5
  try unfold part47_run.sl.Hv_6
  try unfold part47_run.sl.Hv_7
  try unfold part47_run.sl.Hv_8
  try unfold part47_run.sl.Hv_9
  try unfold part47_run.sl.Hh_1
  try unfold part47_run.sl.Hh_2
  try unfold part47_run.sl.Hh_3
  try unfold part47_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v1800 I, v1812 I, v1819 I, v1820 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 48. -/
theorem part48_run (R : sProp 𝕄) (hI : I = insOf c arg1 arg2 arg4 arg5 arg6 arg7 f1 f2 f4 f5 f6 f7 a1 a2) (k : ((_ : FVec F S256x256 .f32) ×' FVec F S256x256 .f32) → Prog (TpuEff nD τ sig (Elt F) Λ₀ .tc) B)
    (K : B → sProp 𝕄)
    (h : St c arg1 arg2 arg4 arg5 arg6 arg7 arg9 f1 f2 f4 f5 f6 f7 a1 a2 R [ph_3 I] [pv_3_5 I, pv_3_4 I, pv_3_3 I, pv_3_2 I, pv_3_1 I, pv_3_0 I] [po_1 I, po_0 I] ⊢ wp frame (wpE (defs₀ (F := F)) Variants.none c none) Set.univ (k (⟨v1843 I, v1860 I⟩)) K) :
    St c arg1 arg2 arg4 arg5 arg6 arg7 arg9 f1 f2 f4 f5 f6 f7 a1 a2 R [ph_3 I] [pv_3_5 I, pv_3_4 I, pv_3_3 I, pv_3_2 I, pv_3_1 I, pv_3_0 I] [po_1 I, po_0 I] ⊢ wp frame (wpE (defs₀ (F := F)) Variants.none c none) Set.univ
      (k0_part48 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v1359 I) (v1820 I) >>= k) K := by
  subst hI
  rw [wp_bind, k0_part48_eq_skeleton]
  unfold k0_part48_skel St
  iintro ⟨H1, H2, H4, H5, H6, H7, Hs1, Hs2, ⟨%fh, Hh⟩, ⟨%fv, Hv⟩, ⟨%fo, H9⟩, HR⟩
  sl_exec
  try unfold part48_run.sl.r
  try unfold part48_run.sl.r_1
  try unfold part48_run.sl.v1844
  try unfold part48_run.sl.Hv_4
  try unfold part48_run.sl.Hv_5
  try unfold part48_run.sl.Hv_6
  try unfold part48_run.sl.Hv_7
  try unfold part48_run.sl.Hv_8
  try unfold part48_run.sl.Hv_9
  try unfold part48_run.sl.Hh_1
  try unfold part48_run.sl.Hh_2
  try unfold part48_run.sl.Hh_3
  try unfold part48_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v1843 I, v1860 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 49. -/
theorem part49_run (R : sProp 𝕄) (hI : I = insOf c arg1 arg2 arg4 arg5 arg6 arg7 f1 f2 f4 f5 f6 f7 a1 a2) (k : ((_ : FVec F S256x1 .f32) ×' (_ : FVec F S256x256 .bf16) ×' FVec F S256x256 .f32) → Prog (TpuEff nD τ sig (Elt F) Λ₀ .tc) B)
    (K : B → sProp 𝕄)
    (h : St c arg1 arg2 arg4 arg5 arg6 arg7 arg9 f1 f2 f4 f5 f6 f7 a1 a2 R [ph_3 I] [pv_3_7 I, pv_3_6 I, pv_3_5 I, pv_3_4 I, pv_3_3 I, pv_3_2 I, pv_3_1 I, pv_3_0 I] [po_1 I, po_0 I] ⊢ wp frame (wpE (defs₀ (F := F)) Variants.none c none) Set.univ (k (⟨v1867 I, v1879 I, v1900 I⟩)) K) :
    St c arg1 arg2 arg4 arg5 arg6 arg7 arg9 f1 f2 f4 f5 f6 f7 a1 a2 R [ph_3 I] [pv_3_5 I, pv_3_4 I, pv_3_3 I, pv_3_2 I, pv_3_1 I, pv_3_0 I] [po_1 I, po_0 I] ⊢ wp frame (wpE (defs₀ (F := F)) Variants.none c none) Set.univ
      (k0_part49 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v1752 I) (v1776 I) (v1800 I) (v1860 I) >>= k) K := by
  subst hI
  rw [wp_bind, k0_part49_eq_skeleton]
  unfold k0_part49_skel St
  iintro ⟨H1, H2, H4, H5, H6, H7, Hs1, Hs2, ⟨%fh, Hh⟩, ⟨%fv, Hv⟩, ⟨%fo, H9⟩, HR⟩
  sl_exec
  try unfold part49_run.sl.r
  try unfold part49_run.sl.r_1
  try unfold part49_run.sl.r_2
  try unfold part49_run.sl.v1880
  try unfold part49_run.sl.Hv_6
  try unfold part49_run.sl.Hv_7
  try unfold part49_run.sl.Hv_8
  try unfold part49_run.sl.Hv_9
  try unfold part49_run.sl.Hh_1
  try unfold part49_run.sl.Hh_2
  try unfold part49_run.sl.Hh_3
  try unfold part49_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v1867 I, v1879 I, v1900 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 50. -/
theorem part50_run (R : sProp 𝕄) (hI : I = insOf c arg1 arg2 arg4 arg5 arg6 arg7 f1 f2 f4 f5 f6 f7 a1 a2) (k : ((_ : FVec F S256x1 .f32) ×' (_ : FVec F S256x256 .f32) ×' FVec F S256x256 .f32) → Prog (TpuEff nD τ sig (Elt F) Λ₀ .tc) B)
    (K : B → sProp 𝕄)
    (h : St c arg1 arg2 arg4 arg5 arg6 arg7 arg9 f1 f2 f4 f5 f6 f7 a1 a2 R [ph_3 I] [pv_3_7 I, pv_3_6 I, pv_3_5 I, pv_3_4 I, pv_3_3 I, pv_3_2 I, pv_3_1 I] [po_2 I, po_1 I, po_0 I] ⊢ wp frame (wpE (defs₀ (F := F)) Variants.none c none) Set.univ (k (⟨v1927 I, v1934 I, v1937 I⟩)) K) :
    St c arg1 arg2 arg4 arg5 arg6 arg7 arg9 f1 f2 f4 f5 f6 f7 a1 a2 R [ph_3 I] [pv_3_7 I, pv_3_6 I, pv_3_5 I, pv_3_4 I, pv_3_3 I, pv_3_2 I, pv_3_1 I, pv_3_0 I] [po_1 I, po_0 I] ⊢ wp frame (wpE (defs₀ (F := F)) Variants.none c none) Set.univ
      (k0_part50 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v1477 I) (v1544 I) (v1611 I) (v1678 I) (v1745 I) (v1812 I) (v1819 I) (v1843 I) (v1867 I) (v1879 I) (v1900 I) >>= k) K := by
  subst hI
  rw [wp_bind, k0_part50_eq_skeleton]
  unfold k0_part50_skel St
  iintro ⟨H1, H2, H4, H5, H6, H7, Hs1, Hs2, ⟨%fh, Hh⟩, ⟨%fv, Hv⟩, ⟨%fo, H9⟩, HR⟩
  sl_exec
  try unfold part50_run.sl.r
  try unfold part50_run.sl.r_1
  try unfold part50_run.sl.r_2
  try unfold part50_run.sl.v1928
  try unfold part50_run.sl.v1935
  try unfold part50_run.sl.Hv_5
  try unfold part50_run.sl.Hv_6
  try unfold part50_run.sl.Hv_7
  try unfold part50_run.sl.Hv_8
  try unfold part50_run.sl.Hv_9
  try unfold part50_run.sl.Hv_10
  try unfold part50_run.sl.Hv_11
  try unfold part50_run.sl.Hh_1
  try unfold part50_run.sl.Hh_2
  try unfold part50_run.sl.Hh_3
  try unfold part50_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v1927 I, v1934 I, v1937 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 51. -/
theorem part51_run (R : sProp 𝕄) (hI : I = insOf c arg1 arg2 arg4 arg5 arg6 arg7 f1 f2 f4 f5 f6 f7 a1 a2) (k : ((_ : FVec F S256x256 .f32) ×' (_ : FVec F S256x256 .f32) ×' FVec F S256x256 .bf16) → Prog (TpuEff nD τ sig (Elt F) Λ₀ .tc) B)
    (K : B → sProp 𝕄)
    (h : St c arg1 arg2 arg4 arg5 arg6 arg7 arg9 f1 f2 f4 f5 f6 f7 a1 a2 R [ph_3 I] [pv_3_7 I, pv_3_6 I, pv_3_5 I, pv_3_4 I, pv_3_3 I, pv_3_2 I] [po_2 I, po_1 I, po_0 I] ⊢ wp frame (wpE (defs₀ (F := F)) Variants.none c none) Set.univ (k (⟨v1958 I, v1965 I, v1973 I⟩)) K) :
    St c arg1 arg2 arg4 arg5 arg6 arg7 arg9 f1 f2 f4 f5 f6 f7 a1 a2 R [ph_3 I] [pv_3_7 I, pv_3_6 I, pv_3_5 I, pv_3_4 I, pv_3_3 I, pv_3_2 I, pv_3_1 I] [po_2 I, po_1 I, po_0 I] ⊢ wp frame (wpE (defs₀ (F := F)) Variants.none c none) Set.univ
      (k0_part51 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v1927 I) (v1937 I) >>= k) K := by
  subst hI
  rw [wp_bind, k0_part51_eq_skeleton]
  unfold k0_part51_skel St
  iintro ⟨H1, H2, H4, H5, H6, H7, Hs1, Hs2, ⟨%fh, Hh⟩, ⟨%fv, Hv⟩, ⟨%fo, H9⟩, HR⟩
  sl_exec
  try unfold part51_run.sl.r
  try unfold part51_run.sl.r_1
  try unfold part51_run.sl.r_2
  try unfold part51_run.sl.v1959
  try unfold part51_run.sl.v1966
  try unfold part51_run.sl.Hv_4
  try unfold part51_run.sl.Hv_5
  try unfold part51_run.sl.Hv_6
  try unfold part51_run.sl.Hv_7
  try unfold part51_run.sl.Hv_8
  try unfold part51_run.sl.Hv_9
  try unfold part51_run.sl.Hv_10
  try unfold part51_run.sl.Hh_1
  try unfold part51_run.sl.Hh_2
  try unfold part51_run.sl.Hh_3
  try unfold part51_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v1958 I, v1965 I, v1973 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 52. -/
theorem part52_run (R : sProp 𝕄) (hI : I = insOf c arg1 arg2 arg4 arg5 arg6 arg7 f1 f2 f4 f5 f6 f7 a1 a2) (k : ((_ : FVec F S256x256 .f32) ×' (_ : FVec F S256x256 .bf16) ×' (_ : FVec F S256x256 .f32) ×' (_ : FVec F S256x256 .f32) ×' FVec F S256x256 .f32) → Prog (TpuEff nD τ sig (Elt F) Λ₀ .tc) B)
    (K : B → sProp 𝕄)
    (h : St c arg1 arg2 arg4 arg5 arg6 arg7 arg9 f1 f2 f4 f5 f6 f7 a1 a2 R [ph_3 I] [pv_3_7 I, pv_3_6 I, pv_3_5 I, pv_3_4 I, pv_3_3 I] [po_2 I, po_1 I, po_0 I] ⊢ wp frame (wpE (defs₀ (F := F)) Variants.none c none) Set.univ (k (⟨v1989 I, v2001 I, v2008 I, v2011 I, v2014 I⟩)) K) :
    St c arg1 arg2 arg4 arg5 arg6 arg7 arg9 f1 f2 f4 f5 f6 f7 a1 a2 R [ph_3 I] [pv_3_7 I, pv_3_6 I, pv_3_5 I, pv_3_4 I, pv_3_3 I, pv_3_2 I] [po_2 I, po_1 I, po_0 I] ⊢ wp frame (wpE (defs₀ (F := F)) Variants.none c none) Set.univ
      (k0_part52 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v1927 I) (v1934 I) (v1958 I) (v1973 I) >>= k) K := by
  subst hI
  rw [wp_bind, k0_part52_eq_skeleton]
  unfold k0_part52_skel St
  iintro ⟨H1, H2, H4, H5, H6, H7, Hs1, Hs2, ⟨%fh, Hh⟩, ⟨%fv, Hv⟩, ⟨%fo, H9⟩, HR⟩
  sl_exec
  try unfold part52_run.sl.r
  try unfold part52_run.sl.r_1
  try unfold part52_run.sl.r_2
  try unfold part52_run.sl.r_3
  try unfold part52_run.sl.r_4
  try unfold part52_run.sl.v2002
  try unfold part52_run.sl.v2009
  try unfold part52_run.sl.Hv_3
  try unfold part52_run.sl.Hv_4
  try unfold part52_run.sl.Hv_5
  try unfold part52_run.sl.Hv_6
  try unfold part52_run.sl.Hv_7
  try unfold part52_run.sl.Hv_8
  try unfold part52_run.sl.Hv_9
  try unfold part52_run.sl.Hh_1
  try unfold part52_run.sl.Hh_2
  try unfold part52_run.sl.Hh_3
  try unfold part52_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v1989 I, v2001 I, v2008 I, v2011 I, v2014 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 53. -/
theorem part53_run (R : sProp 𝕄) (hI : I = insOf c arg1 arg2 arg4 arg5 arg6 arg7 f1 f2 f4 f5 f6 f7 a1 a2) (k : ((_ : FVec F S256x256 .f32) ×' (_ : FVec F S256x256 .bf16) ×' (_ : FVec F S256x256 .f32) ×' FVec F S256x256 .f32) → Prog (TpuEff nD τ sig (Elt F) Λ₀ .tc) B)
    (K : B → sProp 𝕄)
    (h : St c arg1 arg2 arg4 arg5 arg6 arg7 arg9 f1 f2 f4 f5 f6 f7 a1 a2 R [ph_3 I] [pv_3_7 I, pv_3_6 I, pv_3_5 I, pv_3_4 I] [po_2 I, po_1 I, po_0 I] ⊢ wp frame (wpE (defs₀ (F := F)) Variants.none c none) Set.univ (k (⟨v2032 I, v2044 I, v2051 I, v2054 I⟩)) K) :
    St c arg1 arg2 arg4 arg5 arg6 arg7 arg9 f1 f2 f4 f5 f6 f7 a1 a2 R [ph_3 I] [pv_3_7 I, pv_3_6 I, pv_3_5 I, pv_3_4 I, pv_3_3 I] [po_2 I, po_1 I, po_0 I] ⊢ wp frame (wpE (defs₀ (F := F)) Variants.none c none) Set.univ
      (k0_part53 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v1927 I) (v1965 I) (v1989 I) (v2011 I) (v2014 I) >>= k) K := by
  subst hI
  rw [wp_bind, k0_part53_eq_skeleton]
  unfold k0_part53_skel St
  iintro ⟨H1, H2, H4, H5, H6, H7, Hs1, Hs2, ⟨%fh, Hh⟩, ⟨%fv, Hv⟩, ⟨%fo, H9⟩, HR⟩
  sl_exec
  try unfold part53_run.sl.r
  try unfold part53_run.sl.r_1
  try unfold part53_run.sl.r_2
  try unfold part53_run.sl.r_3
  try unfold part53_run.sl.v2045
  try unfold part53_run.sl.v2052
  try unfold part53_run.sl.Hv_2
  try unfold part53_run.sl.Hv_3
  try unfold part53_run.sl.Hv_4
  try unfold part53_run.sl.Hv_5
  try unfold part53_run.sl.Hv_6
  try unfold part53_run.sl.Hv_7
  try unfold part53_run.sl.Hv_8
  try unfold part53_run.sl.Hh_1
  try unfold part53_run.sl.Hh_2
  try unfold part53_run.sl.Hh_3
  try unfold part53_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v2032 I, v2044 I, v2051 I, v2054 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 54. -/
theorem part54_run (R : sProp 𝕄) (hI : I = insOf c arg1 arg2 arg4 arg5 arg6 arg7 f1 f2 f4 f5 f6 f7 a1 a2) (k : ((_ : FVec F S256x256 .f32) ×' (_ : FVec F S256x256 .bf16) ×' FVec F S256x256 .f32) → Prog (TpuEff nD τ sig (Elt F) Λ₀ .tc) B)
    (K : B → sProp 𝕄)
    (h : St c arg1 arg2 arg4 arg5 arg6 arg7 arg9 f1 f2 f4 f5 f6 f7 a1 a2 R [ph_3 I] [pv_3_7 I, pv_3_6 I, pv_3_5 I, pv_3_4 I] [po_2 I, po_1 I, po_0 I] ⊢ wp frame (wpE (defs₀ (F := F)) Variants.none c none) Set.univ (k (⟨v2075 I, v2087 I, v2094 I⟩)) K) :
    St c arg1 arg2 arg4 arg5 arg6 arg7 arg9 f1 f2 f4 f5 f6 f7 a1 a2 R [ph_3 I] [pv_3_7 I, pv_3_6 I, pv_3_5 I, pv_3_4 I] [po_2 I, po_1 I, po_0 I] ⊢ wp frame (wpE (defs₀ (F := F)) Variants.none c none) Set.univ
      (k0_part54 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v2008 I) (v2032 I) (v2054 I) >>= k) K := by
  subst hI
  rw [wp_bind, k0_part54_eq_skeleton]
  unfold k0_part54_skel St
  iintro ⟨H1, H2, H4, H5, H6, H7, Hs1, Hs2, ⟨%fh, Hh⟩, ⟨%fv, Hv⟩, ⟨%fo, H9⟩, HR⟩
  sl_exec
  try unfold part54_run.sl.r
  try unfold part54_run.sl.r_1
  try unfold part54_run.sl.r_2
  try unfold part54_run.sl.v2088
  try unfold part54_run.sl.Hv_2
  try unfold part54_run.sl.Hv_3
  try unfold part54_run.sl.Hv_4
  try unfold part54_run.sl.Hv_5
  try unfold part54_run.sl.Hv_6
  try unfold part54_run.sl.Hv_7
  try unfold part54_run.sl.Hh_1
  try unfold part54_run.sl.Hh_2
  try unfold part54_run.sl.Hh_3
  try unfold part54_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v2075 I, v2087 I, v2094 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 55. -/
theorem part55_run (R : sProp 𝕄) (hI : I = insOf c arg1 arg2 arg4 arg5 arg6 arg7 f1 f2 f4 f5 f6 f7 a1 a2) (k : ((_ : FVec F S256x256 .f32) ×' (_ : FVec F S256x256 .bf16) ×' FVec F S256x256 .f32) → Prog (TpuEff nD τ sig (Elt F) Λ₀ .tc) B)
    (K : B → sProp 𝕄)
    (h : St c arg1 arg2 arg4 arg5 arg6 arg7 arg9 f1 f2 f4 f5 f6 f7 a1 a2 R [ph_3 I] [pv_3_7 I, pv_3_6 I, pv_3_5 I] [po_2 I, po_1 I, po_0 I] ⊢ wp frame (wpE (defs₀ (F := F)) Variants.none c none) Set.univ (k (⟨v2118 I, v2130 I, v2133 I⟩)) K) :
    St c arg1 arg2 arg4 arg5 arg6 arg7 arg9 f1 f2 f4 f5 f6 f7 a1 a2 R [ph_3 I] [pv_3_7 I, pv_3_6 I, pv_3_5 I, pv_3_4 I] [po_2 I, po_1 I, po_0 I] ⊢ wp frame (wpE (defs₀ (F := F)) Variants.none c none) Set.univ
      (k0_part55 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v1927 I) (v2051 I) (v2075 I) >>= k) K := by
  subst hI
  rw [wp_bind, k0_part55_eq_skeleton]
  unfold k0_part55_skel St
  iintro ⟨H1, H2, H4, H5, H6, H7, Hs1, Hs2, ⟨%fh, Hh⟩, ⟨%fv, Hv⟩, ⟨%fo, H9⟩, HR⟩
  sl_exec
  try unfold part55_run.sl.r
  try unfold part55_run.sl.r_1
  try unfold part55_run.sl.r_2
  try unfold part55_run.sl.v2095
  try unfold part55_run.sl.v2131
  try unfold part55_run.sl.Hv_1
  try unfold part55_run.sl.Hv_2
  try unfold part55_run.sl.Hv_3
  try unfold part55_run.sl.Hv_4
  try unfold part55_run.sl.Hv_5
  try unfold part55_run.sl.Hv_6
  try unfold part55_run.sl.Hv_7
  try unfold part55_run.sl.Hh_1
  try unfold part55_run.sl.Hh_2
  try unfold part55_run.sl.Hh_3
  try unfold part55_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v2118 I, v2130 I, v2133 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 56. -/
theorem part56_run (R : sProp 𝕄) (hI : I = insOf c arg1 arg2 arg4 arg5 arg6 arg7 f1 f2 f4 f5 f6 f7 a1 a2) (k : ((_ : FVec F S256x256 .f32) ×' (_ : FVec F S256x256 .f32) ×' (_ : FVec F S256x256 .bf16) ×' Vec F S256x1024 .bf16) → Prog (TpuEff nD τ sig (Elt F) Λ₀ .tc) B)
    (K : B → sProp 𝕄)
    (h : St c arg1 arg2 arg4 arg5 arg6 arg7 arg9 f1 f2 f4 f5 f6 f7 a1 a2 R [ph_3 I] [pv_3_7 I, pv_3_6 I] [po_2 I, po_1 I, po_0 I] ⊢ wp frame (wpE (defs₀ (F := F)) Variants.none c none) Set.univ (k (⟨v2137 I, v2161 I, v2173 I, v2174 I⟩)) K) :
    St c arg1 arg2 arg4 arg5 arg6 arg7 arg9 f1 f2 f4 f5 f6 f7 a1 a2 R [ph_3 I] [pv_3_7 I, pv_3_6 I, pv_3_5 I] [po_2 I, po_1 I, po_0 I] ⊢ wp frame (wpE (defs₀ (F := F)) Variants.none c none) Set.univ
      (k0_part56 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v1927 I) (v2094 I) (v2118 I) (v2133 I) >>= k) K := by
  subst hI
  rw [wp_bind, k0_part56_eq_skeleton]
  unfold k0_part56_skel St
  iintro ⟨H1, H2, H4, H5, H6, H7, Hs1, Hs2, ⟨%fh, Hh⟩, ⟨%fv, Hv⟩, ⟨%fo, H9⟩, HR⟩
  sl_exec
  try unfold part56_run.sl.r
  try unfold part56_run.sl.r_1
  try unfold part56_run.sl.r_2
  try unfold part56_run.sl.r_3
  try unfold part56_run.sl.v2138
  try unfold part56_run.sl.v2174
  try unfold part56_run.sl.Hv_1
  try unfold part56_run.sl.Hv_2
  try unfold part56_run.sl.Hv_3
  try unfold part56_run.sl.Hv_4
  try unfold part56_run.sl.Hv_5
  try unfold part56_run.sl.Hv_6
  try unfold part56_run.sl.Hh_1
  try unfold part56_run.sl.Hh_2
  try unfold part56_run.sl.Hh_3
  try unfold part56_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v2137 I, v2161 I, v2173 I, v2174 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 57. -/
theorem part57_run (R : sProp 𝕄) (hI : I = insOf c arg1 arg2 arg4 arg5 arg6 arg7 f1 f2 f4 f5 f6 f7 a1 a2) (k : ((_ : FVec F S256x256 .f32) ×' (_ : FVec F S256x256 .f32) ×' FVec F S256x256 .f32) → Prog (TpuEff nD τ sig (Elt F) Λ₀ .tc) B)
    (K : B → sProp 𝕄)
    (h : St c arg1 arg2 arg4 arg5 arg6 arg7 arg9 f1 f2 f4 f5 f6 f7 a1 a2 R [ph_3 I] [pv_3_7 I] [po_2 I, po_1 I, po_0 I] ⊢ wp frame (wpE (defs₀ (F := F)) Variants.none c none) Set.univ (k (⟨v2180 I, v2204 I, v2215 I⟩)) K) :
    St c arg1 arg2 arg4 arg5 arg6 arg7 arg9 f1 f2 f4 f5 f6 f7 a1 a2 R [ph_3 I] [pv_3_7 I, pv_3_6 I] [po_2 I, po_1 I, po_0 I] ⊢ wp frame (wpE (defs₀ (F := F)) Variants.none c none) Set.univ
      (k0_part57 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v1927 I) (v2137 I) (v2161 I) (v2174 I) >>= k) K := by
  subst hI
  rw [wp_bind, k0_part57_eq_skeleton]
  unfold k0_part57_skel St
  iintro ⟨H1, H2, H4, H5, H6, H7, Hs1, Hs2, ⟨%fh, Hh⟩, ⟨%fv, Hv⟩, ⟨%fo, H9⟩, HR⟩
  sl_exec
  try unfold part57_run.sl.r
  try unfold part57_run.sl.r_1
  try unfold part57_run.sl.r_2
  try unfold part57_run.sl.v2181
  try unfold part57_run.sl.Hv_1
  try unfold part57_run.sl.Hv_2
  try unfold part57_run.sl.Hv_3
  try unfold part57_run.sl.Hv_4
  try unfold part57_run.sl.Hv_5
  try unfold part57_run.sl.Hh_1
  try unfold part57_run.sl.Hh_2
  try unfold part57_run.sl.Hh_3
  try unfold part57_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v2180 I, v2204 I, v2215 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- Section 58. -/
theorem part58_run (R : sProp 𝕄) (hI : I = insOf c arg1 arg2 arg4 arg5 arg6 arg7 f1 f2 f4 f5 f6 f7 a1 a2) (k : ((_ : FVec F S256x256 .bf16) ×' (_ : FVec F S256x256 .f32) ×' (_ : FVec F S256x256 .f32) ×' FVec F S256x256 .f32) → Prog (TpuEff nD τ sig (Elt F) Λ₀ .tc) B)
    (K : B → sProp 𝕄)
    (h : St c arg1 arg2 arg4 arg5 arg6 arg7 arg9 f1 f2 f4 f5 f6 f7 a1 a2 R [] [] [po_2 I, po_1 I, po_0 I] ⊢ wp frame (wpE (defs₀ (F := F)) Variants.none c none) Set.univ (k (⟨v2216 I, v2223 I, v2247 I, v2254 I⟩)) K) :
    St c arg1 arg2 arg4 arg5 arg6 arg7 arg9 f1 f2 f4 f5 f6 f7 a1 a2 R [ph_3 I] [pv_3_7 I] [po_2 I, po_1 I, po_0 I] ⊢ wp frame (wpE (defs₀ (F := F)) Variants.none c none) Set.univ
      (k0_part58 (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3 (v5 I) (v1927 I) (v2180 I) (v2215 I) >>= k) K := by
  subst hI
  rw [wp_bind, k0_part58_eq_skeleton]
  unfold k0_part58_skel St
  iintro ⟨H1, H2, H4, H5, H6, H7, Hs1, Hs2, ⟨%fh, Hh⟩, ⟨%fv, Hv⟩, ⟨%fo, H9⟩, HR⟩
  sl_exec
  try unfold part58_run.sl.r
  try unfold part58_run.sl.r_1
  try unfold part58_run.sl.r_2
  try unfold part58_run.sl.r_3
  try unfold part58_run.sl.v2217
  try unfold part58_run.sl.v2224
  try unfold part58_run.sl.Hv_1
  try unfold part58_run.sl.Hv_2
  try unfold part58_run.sl.Hv_3
  try unfold part58_run.sl.Hv_4
  try unfold part58_run.sl.Hh_1
  try unfold part58_run.sl.Hh_2
  try unfold part58_run.sl.Hh_3
  try unfold part58_run.sl.H9_1

  try simp (disch := decide) only [↓ View.readCov_skip, ↓ View.readCov_cons_toLoadRect]
  iapply (entails_of_eq_arg (fun r => wp frame (wpE (defs₀ (F := F)) Variants.none c none) Set.univ (k r) K)
    (a := (fun I : Ins F => (⟨v2216 I, v2223 I, v2247 I, v2254 I⟩)) (insOf c arg1 arg2 arg4 arg5 arg6 arg7 f1 f2 f4 f5 f6 f7 a1 a2)) ?e)
  case e => rfl
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

/-- The end of the body: the last output rows. -/
def lastProg (v2001 : FVec F S256x256 .bf16) (v2044 : FVec F S256x256 .bf16) (v2087 : FVec F S256x256 .bf16) (v2130 : FVec F S256x256 .bf16) (v2173 : FVec F S256x256 .bf16) (v2180 : FVec F S256x256 .f32) (v2204 : FVec F S256x256 .f32) (v2216 : FVec F S256x256 .bf16) (v2223 : FVec F S256x256 .f32) (v2247 : FVec F S256x256 .f32) (v2254 : FVec F S256x256 .f32) (v2255 : FVec F S256x256 .f32) : Prog (TpuEff nD τ sig (Elt F) Λ₀ .tc) PUnit := do
  let v2272 : Vec F S256x1024 .f32 ← Prog.lift (.load arg1 (Rect.unit (s := S1024x1024) ![768, 0] S256x1024.size inb_S1024x1024_S256x1024_768_0).toLoadRect (View.loadsAt_vmem h_S256x1024))
  let v2275 : Vec F S2048x1024 .bf16 ← Prog.lift (.load s2M (Rect.unit (s := S2048x1024) ![0, 0] S2048x1024.size inb_S2048x1024_S2048x1024_0_0).toLoadRect (View.loadsAt_vmem h_S2048x1024))
  let v2278 : Vec F S256x1024 .f32 ← Prog.lift (.load arg9 (Rect.unit (s := S1024x1024) ![768, 0] S256x1024.size inb_S1024x1024_S256x1024_768_0).toLoadRect (View.loadsAt_vmem h_S256x1024))
  Prog.lift (.store arg9 (Rect.unit (s := S1024x1024) ![768, 0] S256x1024.size inb_S1024x1024_S256x1024_768_0) (k0_pay1 v2001 v2044 v2087 v2130 v2173 v2180 v2204 v2216 v2223 v2247 v2254 v2255 v2272 v2275) Finset.univ (View.stores_vmem_bits_univ h_S256x1024 rfl) (.inl rfl))
  pure ⟨⟩

/-- The end of the body. -/
theorem last_run (R : sProp 𝕄) (hI : I = insOf c arg1 arg2 arg4 arg5 arg6 arg7 f1 f2 f4 f5 f6 f7 a1 a2) (K : PUnit → sProp 𝕄)
    (h : St c arg1 arg2 arg4 arg5 arg6 arg7 arg9 f1 f2 f4 f5 f6 f7 a1 a2 R [] [] [po_3 I, po_2 I, po_1 I, po_0 I] ⊢ K ⟨⟩) :
    St c arg1 arg2 arg4 arg5 arg6 arg7 arg9 f1 f2 f4 f5 f6 f7 a1 a2 R [] [] [po_2 I, po_1 I, po_0 I] ⊢ wp frame (wpE (defs₀ (F := F)) Variants.none c none) Set.univ (lastProg arg1 arg9 (v2001 I) (v2044 I) (v2087 I) (v2130 I) (v2173 I) (v2180 I) (v2204 I) (v2216 I) (v2223 I) (v2247 I) (v2254 I) (v2255 I)) K := by
  subst hI
  unfold lastProg St
  iintro ⟨H1, H2, H4, H5, H6, H7, Hs1, Hs2, ⟨%fh, Hh⟩, ⟨%fv, Hv⟩, ⟨%fo, H9⟩, HR⟩
  sl_exec
  sl_step
  try unfold last_run.sl.H9_1
  iapply h
  unfold St
  isplitl [H1]; · iexact H1
  isplitl [H2]; · iexact H2
  isplitl [H4]; · iexact H4
  isplitl [H5]; · iexact H5
  isplitl [H6]; · iexact H6
  isplitl [H7]; · iexact H7
  isplitl [Hs1]; · iexact Hs1
  isplitl [Hs2]; · iexact Hs2
  isplitl [Hh]; · iexists _; iexact Hh
  isplitl [Hv]; · iexists _; iexact Hv
  isplitl [H9]; · iexists _; iexact H9
  iexact HR

end Cert.Kernel3Ideal.Hand
-- ==== Proof.Mixer.Body.lean ====
/-
  The spatial-gating mixer. Its body: the sections one after another, the block of rows a grid point leaves, and the run of the whole body
  at a point that fills and at a later one.
-/
module

public import proofs.«01_k».proof.Proof.Mixer.Sections1
public import proofs.«01_k».proof.Proof.Mixer.Sections2
public import proofs.«01_k».proof.Proof.Mixer.Sections3
public import proofs.«01_k».proof.Proof.Mixer.Sections4
public import Idealize.ShloMosaic.Lib.VecWindow

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (Pipeline.UD sig nD τ) ℕ

variable (c : Dev nD) (i : grid0.Coords)
  (arg1 : Memref sig .tc .vmem S1024x1024 .f32) (harg1 : arg1.IsWhole) (arg2 : Memref sig .tc .vmem S1x1024 .f32) (harg2 : arg2.IsWhole)
  (arg4 : Memref sig .tc .vmem S1x4096 .f32) (harg4 : arg4.IsWhole) (arg5 : Memref sig .tc .vmem S1x2048 .f32) (harg5 : arg5.IsWhole)
  (arg6 : Memref sig .tc .vmem S8x128x128 .f32) (harg6 : arg6.IsWhole) (arg7 : Memref sig .tc .vmem S128x8 .f32) (harg7 : arg7.IsWhole)
  (arg9 : Memref sig .tc .vmem S1024x1024 .f32) (harg9 : arg9.IsWhole)
  (f1 : PB (F := F) c arg1) (f2 : PB (F := F) c arg2) (f4 : PB (F := F) c arg4) (f5 : PB (F := F) c arg5) (f6 : PB (F := F) c arg6) (f7 : PB (F := F) c arg7)
  (a1 : PB (F := F) c s1M) (a2 : PB (F := F) c s2M)
  (I : Ins F)

/-- What the first section passes on. -/
abbrev Passed (F : FTy → Type) [FloatOps F] : Type := (_ : IVec S128x128 1) ×' (_ : FVec F S256x1 .f32) ×' (_ : FVec F S256x256 .f32) ×' FVec F S256x256 .f32
/-- The whole body at the launch's buffers. -/
abbrev bodyAt := cc0_gmlp_mixer (F := F) i arg1 harg1 arg2 harg2 w1M (Memref.isWhole_whole _) arg4 harg4 arg5 harg5 arg6 harg6 arg7 harg7 w2M (Memref.isWhole_whole _) arg9 harg9 hM (Memref.isWhole_whole _) vM (Memref.isWhole_whole _) s1M (Memref.isWhole_whole _) s2M (Memref.isWhole_whole _) g1M (Memref.isWhole_whole _) cc0_scoped1 g2M (Memref.isWhole_whole _) cc0_scoped3

set_option maxHeartbeats 4000000 in
set_option maxRecDepth 65536 in
/-- The body, given the run of its first section: the other sections follow one after another. -/
theorem body_run (R P : sProp 𝕄) (hI : I = insOf c arg1 arg2 arg4 arg5 arg6 arg7 f1 f2 f4 f5 f6 f7 a1 a2) (K : PUnit → sProp 𝕄)
    (h1 : ∀ K' : Passed F → sProp 𝕄, (St c arg1 arg2 arg4 arg5 arg6 arg7 arg9 f1 f2 f4 f5 f6 f7 a1 a2 R [ph_0 I] [] [] ⊢ K' ⟨v5 I, v6 I, v33 I, v36 I⟩) →
      P ⊢ wp frame (wpE (defs₀ (F := F)) Variants.none c none) Set.univ (part1At i arg1 harg1 arg2 harg2 arg4 harg4 arg5 harg5 arg6 harg6 arg7 harg7 arg9 harg9) K')
    (hK : St c arg1 arg2 arg4 arg5 arg6 arg7 arg9 f1 f2 f4 f5 f6 f7 a1 a2 R [] [] [po_3 I, po_2 I, po_1 I, po_0 I] ⊢ K ⟨⟩) :
    P ⊢ wp frame (wpE (defs₀ (F := F)) Variants.none c none) Set.univ (bodyAt i arg1 harg1 arg2 harg2 arg4 harg4 arg5 harg5 arg6 harg6 arg7 harg7 arg9 harg9) K := by
  unfold bodyAt
  rw [cc0_gmlp_mixer_eq_skeleton]
  unfold cc0_gmlp_mixer_skel
  rw [wp_bind, k0_part59_eq_skeleton]
  unfold k0_part59_skel
  rw [wp_bind, k0_part1_eq_skeleton]
  refine h1 _ ?_
  refine part2_run c i arg1 harg1 arg2 harg2 arg4 harg4 arg5 harg5 arg6 harg6 arg7 harg7 arg9 harg9 f1 f2 f4 f5 f6 f7 a1 a2 I R hI _ _ ?_
  refine part3_run c i arg1 harg1 arg2 harg2 arg4 harg4 arg5 harg5 arg6 harg6 arg7 harg7 arg9 harg9 f1 f2 f4 f5 f6 f7 a1 a2 I R hI _ _ ?_
  refine part4_run c i arg1 harg1 arg2 harg2 arg4 harg4 arg5 harg5 arg6 harg6 arg7 harg7 arg9 harg9 f1 f2 f4 f5 f6 f7 a1 a2 I R hI _ _ ?_
  refine part5_run c i arg1 harg1 arg2 harg2 arg4 harg4 arg5 harg5 arg6 harg6 arg7 harg7 arg9 harg9 f1 f2 f4 f5 f6 f7 a1 a2 I R hI _ _ ?_
  intro v188
  refine part6_run c i arg1 harg1 arg2 harg2 arg4 harg4 arg5 harg5 arg6 harg6 arg7 harg7 arg9 harg9 f1 f2 f4 f5 f6 f7 a1 a2 I v188 R hI _ _ ?_
  refine part7_run c i arg1 harg1 arg2 harg2 arg4 harg4 arg5 harg5 arg6 harg6 arg7 harg7 arg9 harg9 f1 f2 f4 f5 f6 f7 a1 a2 I R hI _ _ ?_
  refine part8_run c i arg1 harg1 arg2 harg2 arg4 harg4 arg5 harg5 arg6 harg6 arg7 harg7 arg9 harg9 f1 f2 f4 f5 f6 f7 a1 a2 I R hI _ _ ?_
  refine part9_run c i arg1 harg1 arg2 harg2 arg4 harg4 arg5 harg5 arg6 harg6 arg7 harg7 arg9 harg9 f1 f2 f4 f5 f6 f7 a1 a2 I R hI _ _ ?_
  refine part10_run c i arg1 harg1 arg2 harg2 arg4 harg4 arg5 harg5 arg6 harg6 arg7 harg7 arg9 harg9 f1 f2 f4 f5 f6 f7 a1 a2 I R hI _ _ ?_
  refine part11_run c i arg1 harg1 arg2 harg2 arg4 harg4 arg5 harg5 arg6 harg6 arg7 harg7 arg9 harg9 f1 f2 f4 f5 f6 f7 a1 a2 I R hI _ _ ?_
  refine part12_run c i arg1 harg1 arg2 harg2 arg4 harg4 arg5 harg5 arg6 harg6 arg7 harg7 arg9 harg9 f1 f2 f4 f5 f6 f7 a1 a2 I R hI _ _ ?_
  refine part13_run c i arg1 harg1 arg2 harg2 arg4 harg4 arg5 harg5 arg6 harg6 arg7 harg7 arg9 harg9 f1 f2 f4 f5 f6 f7 a1 a2 I R hI _ _ ?_
  refine part14_run c i arg1 harg1 arg2 harg2 arg4 harg4 arg5 harg5 arg6 harg6 arg7 harg7 arg9 harg9 f1 f2 f4 f5 f6 f7 a1 a2 I R hI _ _ ?_
  refine part15_run c i arg1 harg1 arg2 harg2 arg4 harg4 arg5 harg5 arg6 harg6 arg7 harg7 arg9 harg9 f1 f2 f4 f5 f6 f7 a1 a2 I R hI _ _ ?_
  refine part16_run c i arg1 harg1 arg2 harg2 arg4 harg4 arg5 harg5 arg6 harg6 arg7 harg7 arg9 harg9 f1 f2 f4 f5 f6 f7 a1 a2 I R hI _ _ ?_
  refine part17_run c i arg1 harg1 arg2 harg2 arg4 harg4 arg5 harg5 arg6 harg6 arg7 harg7 arg9 harg9 f1 f2 f4 f5 f6 f7 a1 a2 I R hI _ _ ?_
  refine part18_run c i arg1 harg1 arg2 harg2 arg4 harg4 arg5 harg5 arg6 harg6 arg7 harg7 arg9 harg9 f1 f2 f4 f5 f6 f7 a1 a2 I R hI _ _ ?_
  refine part19_run c i arg1 harg1 arg2 harg2 arg4 harg4 arg5 harg5 arg6 harg6 arg7 harg7 arg9 harg9 f1 f2 f4 f5 f6 f7 a1 a2 I R hI _ _ ?_
  refine part20_run c i arg1 harg1 arg2 harg2 arg4 harg4 arg5 harg5 arg6 harg6 arg7 harg7 arg9 harg9 f1 f2 f4 f5 f6 f7 a1 a2 I R hI _ _ ?_
  refine part21_run c i arg1 harg1 arg2 harg2 arg4 harg4 arg5 harg5 arg6 harg6 arg7 harg7 arg9 harg9 f1 f2 f4 f5 f6 f7 a1 a2 I R hI _ _ ?_
  refine part22_run c i arg1 harg1 arg2 harg2 arg4 harg4 arg5 harg5 arg6 harg6 arg7 harg7 arg9 harg9 f1 f2 f4 f5 f6 f7 a1 a2 I R hI _ _ ?_
  refine part23_run c i arg1 harg1 arg2 harg2 arg4 harg4 arg5 harg5 arg6 harg6 arg7 harg7 arg9 harg9 f1 f2 f4 f5 f6 f7 a1 a2 I R hI _ _ ?_
  refine part24_run c i arg1 harg1 arg2 harg2 arg4 harg4 arg5 harg5 arg6 harg6 arg7 harg7 arg9 harg9 f1 f2 f4 f5 f6 f7 a1 a2 I R hI _ _ ?_
  refine part25_run c i arg1 harg1 arg2 harg2 arg4 harg4 arg5 harg5 arg6 harg6 arg7 harg7 arg9 harg9 f1 f2 f4 f5 f6 f7 a1 a2 I R hI _ _ ?_
  refine part26_run c i arg1 harg1 arg2 harg2 arg4 harg4 arg5 harg5 arg6 harg6 arg7 harg7 arg9 harg9 f1 f2 f4 f5 f6 f7 a1 a2 I R hI _ _ ?_
  refine part27_run c i arg1 harg1 arg2 harg2 arg4 harg4 arg5 harg5 arg6 harg6 arg7 harg7 arg9 harg9 f1 f2 f4 f5 f6 f7 a1 a2 I R hI _ _ ?_
  refine part28_run c i arg1 harg1 arg2 harg2 arg4 harg4 arg5 harg5 arg6 harg6 arg7 harg7 arg9 harg9 f1 f2 f4 f5 f6 f7 a1 a2 I R hI _ _ ?_
  refine part29_run c i arg1 harg1 arg2 harg2 arg4 harg4 arg5 harg5 arg6 harg6 arg7 harg7 arg9 harg9 f1 f2 f4 f5 f6 f7 a1 a2 I R hI _ _ ?_
  refine part30_run c i arg1 harg1 arg2 harg2 arg4 harg4 arg5 harg5 arg6 harg6 arg7 harg7 arg9 harg9 f1 f2 f4 f5 f6 f7 a1 a2 I R hI _ _ ?_
  refine part31_run c i arg1 harg1 arg2 harg2 arg4 harg4 arg5 harg5 arg6 harg6 arg7 harg7 arg9 harg9 f1 f2 f4 f5 f6 f7 a1 a2 I R hI _ _ ?_
  refine part32_run c i arg1 harg1 arg2 harg2 arg4 harg4 arg5 harg5 arg6 harg6 arg7 harg7 arg9 harg9 f1 f2 f4 f5 f6 f7 a1 a2 I R hI _ _ ?_
  refine part33_run c i arg1 harg1 arg2 harg2 arg4 harg4 arg5 harg5 arg6 harg6 arg7 harg7 arg9 harg9 f1 f2 f4 f5 f6 f7 a1 a2 I R hI _ _ ?_
  refine part34_run c i arg1 harg1 arg2 harg2 arg4 harg4 arg5 harg5 arg6 harg6 arg7 harg7 arg9 harg9 f1 f2 f4 f5 f6 f7 a1 a2 I R hI _ _ ?_
  refine part35_run c i arg1 harg1 arg2 harg2 arg4 harg4 arg5 harg5 arg6 harg6 arg7 harg7 arg9 harg9 f1 f2 f4 f5 f6 f7 a1 a2 I R hI _ _ ?_
  refine part36_run c i arg1 harg1 arg2 harg2 arg4 harg4 arg5 harg5 arg6 harg6 arg7 harg7 arg9 harg9 f1 f2 f4 f5 f6 f7 a1 a2 I R hI _ _ ?_
  refine part37_run c i arg1 harg1 arg2 harg2 arg4 harg4 arg5 harg5 arg6 harg6 arg7 harg7 arg9 harg9 f1 f2 f4 f5 f6 f7 a1 a2 I R hI _ _ ?_
  refine part38_run c i arg1 harg1 arg2 harg2 arg4 harg4 arg5 harg5 arg6 harg6 arg7 harg7 arg9 harg9 f1 f2 f4 f5 f6 f7 a1 a2 I R hI _ _ ?_
  refine part39_run c i arg1 harg1 arg2 harg2 arg4 harg4 arg5 harg5 arg6 harg6 arg7 harg7 arg9 harg9 f1 f2 f4 f5 f6 f7 a1 a2 I R hI _ _ ?_
  refine part40_run c i arg1 harg1 arg2 harg2 arg4 harg4 arg5 harg5 arg6 harg6 arg7 harg7 arg9 harg9 f1 f2 f4 f5 f6 f7 a1 a2 I R hI _ _ ?_
  refine part41_run c i arg1 harg1 arg2 harg2 arg4 harg4 arg5 harg5 arg6 harg6 arg7 harg7 arg9 harg9 f1 f2 f4 f5 f6 f7 a1 a2 I R hI _ _ ?_
  refine part42_run c i arg1 harg1 arg2 harg2 arg4 harg4 arg5 harg5 arg6 harg6 arg7 harg7 arg9 harg9 f1 f2 f4 f5 f6 f7 a1 a2 I R hI _ _ ?_
  refine part43_run c i arg1 harg1 arg2 harg2 arg4 harg4 arg5 harg5 arg6 harg6 arg7 harg7 arg9 harg9 f1 f2 f4 f5 f6 f7 a1 a2 I R hI _ _ ?_
  refine part44_run c i arg1 harg1 arg2 harg2 arg4 harg4 arg5 harg5 arg6 harg6 arg7 harg7 arg9 harg9 f1 f2 f4 f5 f6 f7 a1 a2 I R hI _ _ ?_
  refine part45_run c i arg1 harg1 arg2 harg2 arg4 harg4 arg5 harg5 arg6 harg6 arg7 harg7 arg9 harg9 f1 f2 f4 f5 f6 f7 a1 a2 I R hI _ _ ?_
  refine part46_run c i arg1 harg1 arg2 harg2 arg4 harg4 arg5 harg5 arg6 harg6 arg7 harg7 arg9 harg9 f1 f2 f4 f5 f6 f7 a1 a2 I R hI _ _ ?_
  refine part47_run c i arg1 harg1 arg2 harg2 arg4 harg4 arg5 harg5 arg6 harg6 arg7 harg7 arg9 harg9 f1 f2 f4 f5 f6 f7 a1 a2 I R hI _ _ ?_
  refine part48_run c i arg1 harg1 arg2 harg2 arg4 harg4 arg5 harg5 arg6 harg6 arg7 harg7 arg9 harg9 f1 f2 f4 f5 f6 f7 a1 a2 I R hI _ _ ?_
  refine part49_run c i arg1 harg1 arg2 harg2 arg4 harg4 arg5 harg5 arg6 harg6 arg7 harg7 arg9 harg9 f1 f2 f4 f5 f6 f7 a1 a2 I R hI _ _ ?_
  refine part50_run c i arg1 harg1 arg2 harg2 arg4 harg4 arg5 harg5 arg6 harg6 arg7 harg7 arg9 harg9 f1 f2 f4 f5 f6 f7 a1 a2 I R hI _ _ ?_
  refine part51_run c i arg1 harg1 arg2 harg2 arg4 harg4 arg5 harg5 arg6 harg6 arg7 harg7 arg9 harg9 f1 f2 f4 f5 f6 f7 a1 a2 I R hI _ _ ?_
  refine part52_run c i arg1 harg1 arg2 harg2 arg4 harg4 arg5 harg5 arg6 harg6 arg7 harg7 arg9 harg9 f1 f2 f4 f5 f6 f7 a1 a2 I R hI _ _ ?_
  refine part53_run c i arg1 harg1 arg2 harg2 arg4 harg4 arg5 harg5 arg6 harg6 arg7 harg7 arg9 harg9 f1 f2 f4 f5 f6 f7 a1 a2 I R hI _ _ ?_
  refine part54_run c i arg1 harg1 arg2 harg2 arg4 harg4 arg5 harg5 arg6 harg6 arg7 harg7 arg9 harg9 f1 f2 f4 f5 f6 f7 a1 a2 I R hI _ _ ?_
  refine part55_run c i arg1 harg1 arg2 harg2 arg4 harg4 arg5 harg5 arg6 harg6 arg7 harg7 arg9 harg9 f1 f2 f4 f5 f6 f7 a1 a2 I R hI _ _ ?_
  refine part56_run c i arg1 harg1 arg2 harg2 arg4 harg4 arg5 harg5 arg6 harg6 arg7 harg7 arg9 harg9 f1 f2 f4 f5 f6 f7 a1 a2 I R hI _ _ ?_
  refine part57_run c i arg1 harg1 arg2 harg2 arg4 harg4 arg5 harg5 arg6 harg6 arg7 harg7 arg9 harg9 f1 f2 f4 f5 f6 f7 a1 a2 I R hI _ _ ?_
  refine part58_run c i arg1 harg1 arg2 harg2 arg4 harg4 arg5 harg5 arg6 harg6 arg7 harg7 arg9 harg9 f1 f2 f4 f5 f6 f7 a1 a2 I R hI _ _ ?_
  dsimp only
  iintro H
  sl_step
  iapply (last_run c arg1 arg2 arg4 arg5 arg6 arg7 arg9 f1 f2 f4 f5 f6 f7 a1 a2 I R hI K hK)
  iexact H

/-! ## The block of a point -/

/-- The pieces a point stores, last first. -/
def blkPieces : List (View.Piece (Elt F) S1024x1024 .f32) := [po_3 I, po_2 I, po_1 I, po_0 I]
/-- They cover the block. -/
theorem blkPieces_cover (y : S1024x1024.Idx) : ∃ pc ∈ blkPieces I, y ∈ pc.1.set :=
  View.cover_of_tiledL (s := S1024x1024) (blkPieces I) S256x1024.size (by sl_kernel_rfl) y
/-- The block a point leaves: its pieces read back. -/
def outBlk : Vec F S1024x1024 .f32 :=
  (Memref.whole cc0_stg6_0 : Memref sig .tc .vmem S1024x1024 .f32).view.read (Elt F)
    ((Memref.whole cc0_stg6_0 : Memref sig .tc .vmem S1024x1024 .f32).view.writes (Elt F) (Memref.whole cc0_stg6_0 : Memref sig .tc .vmem S1024x1024 .f32).view.junk
      (blkPieces I))

/-- A memref held at a value is its elements held at contents that read as the value. -/
theorem owns_eq {sp : Space} {S : Shape} {e : EltTy} (M : Memref sig .tc sp S e) (v : S.Idx → Elt F e) :
    (owns (c : Thread nD τ) M fullShare v : sProp 𝕄) = iprop(∃ f, ⌜M.view.read (Elt F) f = v⌝ ∗ ptOn c M f) := rfl

/-- What the first section passes on, as this file names it. -/
theorem p1res_eq : p1res c arg1 arg2 arg4 f1 f2 f4 (s1M.view.read (Elt F) a1)
    = (fun I : Ins F => (⟨v5 I, v6 I, v33 I, v36 I⟩ : Passed F)) (insOf c arg1 arg2 arg4 arg5 arg6 arg7 f1 f2 f4 f5 f6 f7 a1 a2) := rfl

variable (x : Vec F S1024x1024 .f32) (g : Vec F S1x1024 .f32) (b : Vec F S1x4096 .f32) (gv : Vec F S1x2048 .f32) (ws : Vec F S8x128x128 .f32)
  (bst : Vec F S128x8 .f32)

/-- The operands a point reads, held. -/
abbrev operands : sProp 𝕄 :=
  iprop(owns (c : Thread nD τ) arg1 fullShare x ∗ owns (c : Thread nD τ) arg2 fullShare g ∗ owns (c : Thread nD τ) arg4 fullShare b
    ∗ owns (c : Thread nD τ) arg5 fullShare gv ∗ owns (c : Thread nD τ) arg6 fullShare ws ∗ owns (c : Thread nD τ) arg7 fullShare bst)

/-- The operands, the scratch buffers and the output block as held between sections, in one line. -/
abbrev heldAt (LO : List (View.Piece (Elt F) S1024x1024 .f32)) : sProp 𝕄 :=
  iprop((ptOn c arg1 f1 ∗ ptOn c arg2 f2 ∗ ptOn c arg4 f4 ∗ ptOn c arg5 f5 ∗ ptOn c arg6 f6 ∗ ptOn c arg7 f7)
    ∗ (∃ f, ptOn c arg9 (arg9.view.writes (Elt F) f LO)) ∗ (∃ a, pt (F := F) c hM a) ∗ (∃ a, pt (F := F) c vM a))
/-- The weights, the rings and the semaphores that only a filling point touches. -/
abbrev fillers (w1 : PB (F := F) c w1M) (w2 : PB (F := F) c w2M) : sProp 𝕄 :=
  iprop(pt c w1M w1 ∗ pt c w2M w2 ∗ ringsAny (F := F) c ∗ semsZero (F := F) c)

/-- The end of the sections, as one line. -/
theorem St_end (R : sProp 𝕄) (hI : I = insOf c arg1 arg2 arg4 arg5 arg6 arg7 f1 f2 f4 f5 f6 f7 a1 a2) (K : PUnit → sProp 𝕄)
    (h : iprop(heldAt c arg1 arg2 arg4 arg5 arg6 arg7 arg9 f1 f2 f4 f5 f6 f7 (blkPieces I) ∗ pt c s1M a1 ∗ pt c s2M a2 ∗ R) ⊢ K ⟨⟩) :
    St c arg1 arg2 arg4 arg5 arg6 arg7 arg9 f1 f2 f4 f5 f6 f7 a1 a2 R [] [] [po_3 I, po_2 I, po_1 I, po_0 I] ⊢ K ⟨⟩ := by
  unfold St
  iintro ⟨H1, H2, H4, H5, H6, H7, Hs1, Hs2, ⟨%fh, Hh⟩, ⟨%fv, Hv⟩, H9, HR⟩
  iapply h
  isplitl [H1 H2 H4 H5 H6 H7 H9 Hh Hv]
  · isplitl [H1 H2 H4 H5 H6 H7]
    · isplitl [H1]; · iexact H1
      isplitl [H2]; · iexact H2
      isplitl [H4]; · iexact H4
      isplitl [H5]; · iexact H5
      isplitl [H6]; · iexact H6
      iexact H7
    isplitl [H9]; · iexact H9
    isplitl [Hh]; · iexists _; iexact Hh
    iexists _; iexact Hv
  isplitl [Hs1]; · iexact Hs1
  isplitl [Hs2]; · iexact Hs2
  iexact HR

/-- The body at a later point, on what the operands' buffers hold. -/
theorem body_later_raw (hc : ¬ k0_cond1 i = 1#1) (K : PUnit → sProp 𝕄) :
    iprop(heldAt c arg1 arg2 arg4 arg5 arg6 arg7 arg9 f1 f2 f4 f5 f6 f7 [] ∗ pt c s1M a1 ∗ pt c s2M a2
      ∗ ((heldAt c arg1 arg2 arg4 arg5 arg6 arg7 arg9 f1 f2 f4 f5 f6 f7 (blkPieces (insOf c arg1 arg2 arg4 arg5 arg6 arg7 f1 f2 f4 f5 f6 f7 a1 a2))
          ∗ pt c s1M a1 ∗ pt c s2M a2) -∗ K ⟨⟩))
    ⊢ wp frame (wpE (defs₀ (F := F)) Variants.none c none) Set.univ (bodyAt i arg1 harg1 arg2 harg2 arg4 harg4 arg5 harg5 arg6 harg6 arg7 harg7 arg9 harg9) K := by
  refine body_run c i arg1 harg1 arg2 harg2 arg4 harg4 arg5 harg5 arg6 harg6 arg7 harg7 arg9 harg9 f1 f2 f4 f5 f6 f7 a1 a2 _
    iprop((heldAt c arg1 arg2 arg4 arg5 arg6 arg7 arg9 f1 f2 f4 f5 f6 f7 (blkPieces (insOf c arg1 arg2 arg4 arg5 arg6 arg7 f1 f2 f4 f5 f6 f7 a1 a2))
          ∗ pt c s1M a1 ∗ pt c s2M a2) -∗ K ⟨⟩) _ rfl K (fun K' h => ?_)
    (St_end c arg1 arg2 arg4 arg5 arg6 arg7 arg9 f1 f2 f4 f5 f6 f7 a1 a2 _ _ rfl K ?_)
  · unfold heldAt
    iintro ⟨⟨⟨H1, H2, H4, H5, H6, H7⟩, ⟨%f9, H9⟩, Hh, ⟨%av, Hv⟩⟩, Hs1, Hs2, HK⟩
    iapply (part1_later c i arg1 harg1 arg2 harg2 arg4 harg4 arg5 harg5 arg6 harg6 arg7 harg7 arg9 harg9 f1 f2 f4 hc (s1M.view.read (Elt F) a1) K')
    isplitl [H1]; · iexact H1
    isplitl [H2]; · iexact H2
    isplitl [H4]; · iexact H4
    isplitl [Hh]; · iexact Hh
    isplitl [Hs1]
    · iexists a1; isplitr
      · ipureintro; rfl
      iexact Hs1
    iintro ⟨H1, H2, H4, ⟨%ah, Hh⟩, ⟨%a, %ha, Hs1⟩⟩
    obtain rfl : a = a1 := ha
    iapply (entails_of_eq_arg K' (p1res_eq c arg1 arg2 arg4 arg5 arg6 arg7 f1 f2 f4 f5 f6 f7 a a2).symm)
    iapply h
    unfold St
    isplitl [H1]; · iexact H1
    isplitl [H2]; · iexact H2
    isplitl [H4]; · iexact H4
    isplitl [H5]; · iexact H5
    isplitl [H6]; · iexact H6
    isplitl [H7]; · iexact H7
    isplitl [Hs1]; · iexact Hs1
    isplitl [Hs2]; · iexact Hs2
    isplitl [Hh]; · iexists ah; iexact Hh
    isplitl [Hv]; · iexists av; iexact Hv
    isplitl [H9]; · iexists f9; iexact H9
    iexact HK
  · iintro ⟨H, Hs1, Hs2, HK⟩
    iapply HK
    isplitl [H]; · iexact H
    isplitl [Hs1]; · iexact Hs1
    iexact Hs2

/-- The body at a point that fills, on what the operands' buffers hold. -/
theorem body_first_raw (hc : k0_cond1 i = 1#1) (w1 : PB (F := F) c w1M) (w2 : PB (F := F) c w2M) (W : Waits sig Unit) (K : PUnit → sProp 𝕄) :
    iprop(heldAt c arg1 arg2 arg4 arg5 arg6 arg7 arg9 f1 f2 f4 f5 f6 f7 [] ∗ (∃ a, pt (F := F) c s1M a) ∗ (∃ a, pt (F := F) c s2M a)
      ∗ fillers c w1 w2 ∗ owes (c : Thread nD τ) 0 W
      ∗ ((heldAt c arg1 arg2 arg4 arg5 arg6 arg7 arg9 f1 f2 f4 f5 f6 f7 (blkPieces (insOf c arg1 arg2 arg4 arg5 arg6 arg7 f1 f2 f4 f5 f6 f7 (wb1 w1) (wb2 w2)))
          ∗ pt (F := F) c s1M (wb1 w1) ∗ pt (F := F) c s2M (wb2 w2) ∗ fillers c w1 w2 ∗ ∃ W', owes (c : Thread nD τ) 0 W') -∗ K ⟨⟩))
    ⊢ wp frame (wpE (defs₀ (F := F)) Variants.none c none) Set.univ (bodyAt i arg1 harg1 arg2 harg2 arg4 harg4 arg5 harg5 arg6 harg6 arg7 harg7 arg9 harg9) K := by
  refine body_run c i arg1 harg1 arg2 harg2 arg4 harg4 arg5 harg5 arg6 harg6 arg7 harg7 arg9 harg9 f1 f2 f4 f5 f6 f7 (wb1 w1) (wb2 w2) _
    iprop((fillers c w1 w2 ∗ ∃ W', owes (c : Thread nD τ) 0 W')
      ∗ ((heldAt c arg1 arg2 arg4 arg5 arg6 arg7 arg9 f1 f2 f4 f5 f6 f7 (blkPieces (insOf c arg1 arg2 arg4 arg5 arg6 arg7 f1 f2 f4 f5 f6 f7 (wb1 w1) (wb2 w2)))
          ∗ pt (F := F) c s1M (wb1 w1) ∗ pt (F := F) c s2M (wb2 w2) ∗ fillers c w1 w2 ∗ ∃ W', owes (c : Thread nD τ) 0 W') -∗ K ⟨⟩)) _ rfl K (fun K' h => ?_)
    (St_end c arg1 arg2 arg4 arg5 arg6 arg7 arg9 f1 f2 f4 f5 f6 f7 (wb1 w1) (wb2 w2) _ _ rfl K ?_)
  · unfold heldAt fillers
    iintro ⟨⟨⟨H1, H2, H4, H5, H6, H7⟩, ⟨%f9, H9⟩, Hh, ⟨%av, Hv⟩⟩, Hs1, Hs2, ⟨Hw1, Hw2, Hg, Hq⟩, HW, HK⟩
    iapply (part1_first c i arg1 harg1 arg2 harg2 arg4 harg4 arg5 harg5 arg6 harg6 arg7 harg7 arg9 harg9 f1 f2 f4 w1 w2 hc W K')
    isplitl [H1]; · iexact H1
    isplitl [H2]; · iexact H2
    isplitl [H4]; · iexact H4
    isplitl [Hw1]; · iexact Hw1
    isplitl [Hw2]; · iexact Hw2
    isplitl [Hh]; · iexact Hh
    isplitl [Hs1]; · iexact Hs1
    isplitl [Hs2]; · iexact Hs2
    isplitl [Hg]; · iexact Hg
    isplitl [Hq]; · iexact Hq
    isplitl [HW]; · iexact HW
    iintro ⟨H1, H2, H4, Hw1, Hw2, ⟨%ah, Hh⟩, ⟨%a, %ha, Hs1⟩, ⟨%a', %ha', Hs2⟩, Hg, Hq, HW⟩
    obtain rfl : a = wb1 w1 := ha
    obtain rfl : a' = wb2 w2 := ha'
    iapply (entails_of_eq_arg K' (Eq.symm (show p1res c arg1 arg2 arg4 f1 f2 f4 (wb1 w1) = _ from p1res_eq c arg1 arg2 arg4 arg5 arg6 arg7 f1 f2 f4 f5 f6 f7 (wb1 w1) (wb2 w2))))
    iapply h
    unfold St
    isplitl [H1]; · iexact H1
    isplitl [H2]; · iexact H2
    isplitl [H4]; · iexact H4
    isplitl [H5]; · iexact H5
    isplitl [H6]; · iexact H6
    isplitl [H7]; · iexact H7
    isplitl [Hs1]; · iexact Hs1
    isplitl [Hs2]; · iexact Hs2
    isplitl [Hh]; · iexists ah; iexact Hh
    isplitl [Hv]; · iexists av; iexact Hv
    isplitl [H9]; · iexists f9; iexact H9
    isplitl [Hw1 Hw2 Hg Hq HW]
    · isplitl [Hw1 Hw2 Hg Hq]
      · isplitl [Hw1]; · iexact Hw1
        isplitl [Hw2]; · iexact Hw2
        isplitl [Hg]; · iexact Hg
        iexact Hq
      iexact HW
    iexact HK
  · iintro ⟨H, Hs1, Hs2, ⟨Hf, HW⟩, HK⟩
    iapply HK
    isplitl [H]; · iexact H
    isplitl [Hs1]; · iexact Hs1
    isplitl [Hs2]; · iexact Hs2
    isplitl [Hf]; · iexact Hf
    iexact HW

/-- The operands' contents, split from the values they hold. -/
theorem operands_elim (Q : sProp 𝕄) (P : sProp 𝕄)
    (h : ∀ (f1 : PB (F := F) c arg1) (f2 : PB (F := F) c arg2) (f4 : PB (F := F) c arg4) (f5 : PB (F := F) c arg5) (f6 : PB (F := F) c arg6) (f7 : PB (F := F) c arg7),
      arg1.view.read (Elt F) f1 = x → arg2.view.read (Elt F) f2 = g → arg4.view.read (Elt F) f4 = b → arg5.view.read (Elt F) f5 = gv →
      arg6.view.read (Elt F) f6 = ws → arg7.view.read (Elt F) f7 = bst →
      iprop(heldAt c arg1 arg2 arg4 arg5 arg6 arg7 arg9 f1 f2 f4 f5 f6 f7 [] ∗ P) ⊢ Q) :
    iprop(operands c arg1 arg2 arg4 arg5 arg6 arg7 x g b gv ws bst ∗ (∃ d, owns (c : Thread nD τ) arg9 fullShare d)
      ∗ (∃ a, pt (F := F) c hM a) ∗ (∃ a, pt (F := F) c vM a) ∗ P) ⊢ Q := by
  unfold operands
  simp only [owns_eq]
  iintro ⟨⟨⟨%f1, %h1, H1⟩, ⟨%f2, %h2, H2⟩, ⟨%f4, %h4, H4⟩, ⟨%f5, %h5, H5⟩, ⟨%f6, %h6, H6⟩, ⟨%f7, %h7, H7⟩⟩, ⟨%d9, %f9, -, H9⟩, Hh, Hv, HP⟩
  iapply (h f1 f2 f4 f5 f6 f7 h1 h2 h4 h5 h6 h7)
  isplitr [HP]
  · unfold heldAt
    isplitl [H1 H2 H4 H5 H6 H7]
    · isplitl [H1]; · iexact H1
      isplitl [H2]; · iexact H2
      isplitl [H4]; · iexact H4
      isplitl [H5]; · iexact H5
      isplitl [H6]; · iexact H6
      iexact H7
    isplitl [H9]; · iexists f9; iexact H9
    isplitl [Hh]; · iexact Hh
    iexact Hv
  iexact HP

/-- What is held after the sections, as the values the operands hold and the block the point leaves. -/
theorem operands_intro (w1 : Vec F S1024x4096 .bf16) (w2 : Vec F S2048x1024 .bf16) (h1 : arg1.view.read (Elt F) f1 = x) (h2 : arg2.view.read (Elt F) f2 = g)
    (h4 : arg4.view.read (Elt F) f4 = b) (h5 : arg5.view.read (Elt F) f5 = gv) (h6 : arg6.view.read (Elt F) f6 = ws) (h7 : arg7.view.read (Elt F) f7 = bst)
    (e1 : s1M.view.read (Elt F) a1 = w1) (e2 : s2M.view.read (Elt F) a2 = w2) :
    heldAt c arg1 arg2 arg4 arg5 arg6 arg7 arg9 f1 f2 f4 f5 f6 f7 (blkPieces (insOf c arg1 arg2 arg4 arg5 arg6 arg7 f1 f2 f4 f5 f6 f7 a1 a2))
    ⊢ iprop(operands c arg1 arg2 arg4 arg5 arg6 arg7 x g b gv ws bst ∗ owns (c : Thread nD τ) arg9 fullShare (outBlk ⟨x, g, b, gv, ws, bst, w1, w2⟩)
        ∗ (∃ a, pt (F := F) c hM a) ∗ (∃ a, pt (F := F) c vM a)) := by
  subst h1 h2 h4 h5 h6 h7 e1 e2
  unfold heldAt operands
  simp only [owns_eq]
  iintro ⟨⟨H1, H2, H4, H5, H6, H7⟩, ⟨%f9, H9⟩, Hh, Hv⟩
  isplitl [H1 H2 H4 H5 H6 H7]
  · isplitl [H1]
    · iexists f1; isplitr; · ipureintro; rfl
      iexact H1
    isplitl [H2]
    · iexists f2; isplitr; · ipureintro; rfl
      iexact H2
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iexists f7; isplitr; · ipureintro; rfl
    iexact H7
  isplitl [H9]
  · iexists _; isplitr
    swap; · iexact H9
    ipureintro
    exact View.read_writes_of_cover _ _ _ _ _ (blkPieces_cover _)
  isplitl [Hh]; · iexact Hh
  iexact Hv

/-- The body at a later point: the block is computed from the weights the scratch buffers keep. -/
theorem body_later (hc : ¬ k0_cond1 i = 1#1) (w1 : Vec F S1024x4096 .bf16) (w2 : Vec F S2048x1024 .bf16) (K : PUnit → sProp 𝕄) :
    iprop(operands c arg1 arg2 arg4 arg5 arg6 arg7 x g b gv ws bst ∗ (∃ d, owns (c : Thread nD τ) arg9 fullShare d)
      ∗ (∃ a, pt (F := F) c hM a) ∗ (∃ a, pt (F := F) c vM a) ∗ holds c s1M w1 ∗ holds c s2M w2
      ∗ (((operands c arg1 arg2 arg4 arg5 arg6 arg7 x g b gv ws bst ∗ owns (c : Thread nD τ) arg9 fullShare (outBlk ⟨x, g, b, gv, ws, bst, w1, w2⟩)
          ∗ (∃ a, pt (F := F) c hM a) ∗ (∃ a, pt (F := F) c vM a)) ∗ holds c s1M w1 ∗ holds c s2M w2) -∗ K ⟨⟩))
    ⊢ wp frame (wpE (defs₀ (F := F)) Variants.none c none) Set.univ (bodyAt i arg1 harg1 arg2 harg2 arg4 harg4 arg5 harg5 arg6 harg6 arg7 harg7 arg9 harg9) K := by
  refine operands_elim c arg1 arg2 arg4 arg5 arg6 arg7 arg9 x g b gv ws bst _ _ (fun f1 f2 f4 f5 f6 f7 h1 h2 h4 h5 h6 h7 => ?_)
  iintro ⟨H, ⟨%a1, %e1, Hs1⟩, ⟨%a2, %e2, Hs2⟩, HK⟩
  iapply (body_later_raw c i arg1 harg1 arg2 harg2 arg4 harg4 arg5 harg5 arg6 harg6 arg7 harg7 arg9 harg9 f1 f2 f4 f5 f6 f7 a1 a2 hc K)
  isplitl [H]; · iexact H
  isplitl [Hs1]; · iexact Hs1
  isplitl [Hs2]; · iexact Hs2
  iintro ⟨H, Hs1, Hs2⟩
  iapply HK
  isplitl [H]
  · iapply (operands_intro c arg1 arg2 arg4 arg5 arg6 arg7 arg9 f1 f2 f4 f5 f6 f7 a1 a2 x g b gv ws bst w1 w2 h1 h2 h4 h5 h6 h7 e1 e2)
    iexact H
  isplitl [Hs1]
  · iexists a1; isplitr; · ipureintro; exact e1
    iexact Hs1
  iexists a2; isplitr; · ipureintro; exact e2
  iexact Hs2

/-- The body at a point that fills: the block is computed from the weights it has just cast. -/
theorem body_first (hc : k0_cond1 i = 1#1) (w1 : PB (F := F) c w1M) (w2 : PB (F := F) c w2M) (W : Waits sig Unit) (K : PUnit → sProp 𝕄) :
    iprop(operands c arg1 arg2 arg4 arg5 arg6 arg7 x g b gv ws bst ∗ (∃ d, owns (c : Thread nD τ) arg9 fullShare d)
      ∗ (∃ a, pt (F := F) c hM a) ∗ (∃ a, pt (F := F) c vM a) ∗ (∃ a, pt (F := F) c s1M a) ∗ (∃ a, pt (F := F) c s2M a)
      ∗ fillers c w1 w2 ∗ owes (c : Thread nD τ) 0 W
      ∗ (((operands c arg1 arg2 arg4 arg5 arg6 arg7 x g b gv ws bst ∗ owns (c : Thread nD τ) arg9 fullShare (outBlk ⟨x, g, b, gv, ws, bst, wb1 w1, wb2 w2⟩)
          ∗ (∃ a, pt (F := F) c hM a) ∗ (∃ a, pt (F := F) c vM a)) ∗ holds c s1M (wb1 w1) ∗ holds c s2M (wb2 w2)
          ∗ fillers c w1 w2 ∗ ∃ W', owes (c : Thread nD τ) 0 W') -∗ K ⟨⟩))
    ⊢ wp frame (wpE (defs₀ (F := F)) Variants.none c none) Set.univ (bodyAt i arg1 harg1 arg2 harg2 arg4 harg4 arg5 harg5 arg6 harg6 arg7 harg7 arg9 harg9) K := by
  refine operands_elim c arg1 arg2 arg4 arg5 arg6 arg7 arg9 x g b gv ws bst _ _ (fun f1 f2 f4 f5 f6 f7 h1 h2 h4 h5 h6 h7 => ?_)
  iintro ⟨H, Hs1, Hs2, Hf, HW, HK⟩
  iapply (body_first_raw c i arg1 harg1 arg2 harg2 arg4 harg4 arg5 harg5 arg6 harg6 arg7 harg7 arg9 harg9 f1 f2 f4 f5 f6 f7 hc w1 w2 W K)
  isplitl [H]; · iexact H
  isplitl [Hs1]; · iexact Hs1
  isplitl [Hs2]; · iexact Hs2
  isplitl [Hf]; · iexact Hf
  isplitl [HW]; · iexact HW
  iintro ⟨H, Hs1, Hs2, Hf, HW⟩
  iapply HK
  isplitl [H]
  · iapply (operands_intro c arg1 arg2 arg4 arg5 arg6 arg7 arg9 f1 f2 f4 f5 f6 f7 (wb1 w1) (wb2 w2) x g b gv ws bst (wb1 w1) (wb2 w2) h1 h2 h4 h5 h6 h7 rfl rfl)
    iexact H
  isplitl [Hs1]
  · iexists _; isplitr
    swap; · iexact Hs1
    ipureintro; rfl
  isplitl [Hs2]
  · iexists _; isplitr
    swap; · iexact Hs2
    ipureintro; rfl
  isplitl [Hf]; · iexact Hf
  iexact HW

end Cert.Kernel3Ideal.Hand
-- ==== Proof.Mixer.Terms.lean ====
/-
  The spatial-gating mixer. Its values by what they are, the same definitions for every group of rows and every group of columns:
  the rows' norm, a group of the projection and its gelu, the scale of the second half, a gated group, the output rows. Each numbered
  value of a grid point that matters is one of these.
-/
module

public import proofs.«01_k».proof.Proof.Mixer.Chain

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic

variable {F : FTy → Type} [FloatOps F] [Named F]

/-! ## The parts of the operands -/

/-- The offsets at which a part lies inside its operand. -/
abbrev InX (n : ℕ) : Prop := ∀ a, (![n, 0] : Fin 2 → Nat) a + S256x1024.size a ≤ S1024x1024.size a
abbrev InW (n : ℕ) : Prop := ∀ a, (![0, n] : Fin 2 → Nat) a + S1024x256.size a ≤ S1024x4096.size a
abbrev InB (n : ℕ) : Prop := ∀ a, (![0, n] : Fin 2 → Nat) a + S1x256.size a ≤ S1x4096.size a
abbrev InG (n : ℕ) : Prop := ∀ a, (![0, n] : Fin 2 → Nat) a + S1x256.size a ≤ S1x2048.size a
abbrev InS (j : ℕ) : Prop := ∀ a, (![j, 0, 0] : Fin 3 → Nat) a + S1x128x128.size a ≤ S8x128x128.size a
abbrev InK (j : ℕ) : Prop := ∀ a, (![0, j] : Fin 2 → Nat) a + S128x1.size a ≤ S128x8.size a

/-- 256 rows of the block from row `n`; the gain; the second weight. -/
def xRows (I : Ins F) (n : ℕ) (h : InX n) : Vec F S256x1024 .f32 :=
  View.ld I.x (Rect.unit (s := S1024x1024) ![n, 0] S256x1024.size h)
def gAll (I : Ins F) : Vec F S1x1024 .f32 := View.ld I.g (Rect.unit (s := S1x1024) ![0, 0] S1x1024.size inb_S1x1024_S1x1024_0_0)
def w2All (I : Ins F) : Vec F S2048x1024 .bf16 :=
  View.ld I.w2 (Rect.unit (s := S2048x1024) ![0, 0] S2048x1024.size inb_S2048x1024_S2048x1024_0_0)
/-- 256 columns from column `n` of the first weight, of its bias, and of the second half's gain; group `j`'s mixing weights
    and their biases. -/
def wCols (I : Ins F) (n : ℕ) (h : InW n) : Vec F S1024x256 .bf16 :=
  View.ld I.w1 (Rect.unit (s := S1024x4096) ![0, n] S1024x256.size h)
def bCols (I : Ins F) (n : ℕ) (h : InB n) : Vec F S1x256 .f32 :=
  View.ld I.b (Rect.unit (s := S1x4096) ![0, n] S1x256.size h)
def gvCols (I : Ins F) (n : ℕ) (h : InG n) : Vec F S1x256 .f32 :=
  View.ld I.gv (Rect.unit (s := S1x2048) ![0, n] S1x256.size h)
def wsAt (I : Ins F) (j : ℕ) (h : InS j) : Vec F S1x128x128 .f32 :=
  View.ld I.ws (Rect.unit (s := S8x128x128) ![j, 0, 0] S1x128x128.size h)
def bsAt (I : Ins F) (j : ℕ) (h : InK j) : Vec F S128x1 .f32 :=
  View.ld I.bst (Rect.unit (s := S128x8) ![0, j] S128x1.size h)

/-! ## The operations -/

/-- A group's squares added, row by row, to a running sum. -/
def accum (a : FVec F S256x1 .f32) (v : FVec F S256x256 .f32) : FVec F S256x1 .f32 :=
  addf a (shapeCast S256x1 (multiReduction .add [1] S256 (mulf v v) 0x00000000#32 reduces_S256x256_S256 (.inl rfl) rfl) shapeCasts_S256_S256x1)
/-- The reciprocal root of the mean square and a small addend. -/
def scaleOf (a : FVec F S256x1 .f32) : FVec F S256x1 .f32 :=
  rsqrt (addf (mulf a (broadcast S256x1 (Scalar.ofBits .f32 0x3A000000#32 : F .f32))) (broadcast S256x1 (Scalar.ofBits .f32 0x358637BD#32 : F .f32)))
/-- A gated group: the gelu of `u` times the causal mix of the scaled `v`. -/
def gated (sc : FVec F S256x1 .f32) (v u : FVec F S256x256 .f32) (gv : Vec F S1x256 .f32) (ws : Vec F S1x128x128 .f32) (bs : Vec F S128x1 .f32) :
    FVec F S256x256 .bf16 :=
  k0_pay49 u (k0_pay38 (k0_pay36 sc v gv) (k0_pay37 k0_pay4 ws) bs)
/-- The output rows: the rows plus the product of the gated groups side by side with the second weight. -/
def outRows (x : Vec F S256x1024 .f32) (w2 : Vec F S2048x1024 .bf16) (g0 g1 g2 g3 g4 g5 g6 g7 : FVec F S256x256 .bf16) : FVec F S256x1024 .f32 :=
  addf (shapeCast S256x1024 x shapeCasts_S256x1024_S256x1024)
    (matmul dot_S256x2048_S2048x1024_S256x1024_1_0_0_1_n_n none
      (concatenate S256x2048 1 [⟨S256x256, g0⟩, ⟨S256x256, g1⟩, ⟨S256x256, g2⟩, ⟨S256x256, g3⟩, ⟨S256x256, g4⟩, ⟨S256x256, g5⟩, ⟨S256x256, g6⟩, ⟨S256x256, g7⟩]
        concatenates_S256x256_S256x256_S256x256_S256x256_S256x256_S256x256_S256x256_S256x256_S256x2048_d1)
      w2 (constant S256x1024 .f32 0x00000000#32))

/-! ## The same of a group of rows `n, n+1, …` of a grid point -/

/-- Group `n`'s gelu before it is stored, its columns from `m`. -/
def vAt (I : Ins F) (h : FVec F S256x1024 .bf16) (m : ℕ) (hw : InW m) (hb : InB m) : FVec F S256x256 .f32 := k0_pay11 h (wCols I m hw) (bCols I m hb)
/-- The sum of the squares of the whole second half, and its scale. -/
def sqSum (I : Ins F) (h : FVec F S256x1024 .bf16) : FVec F S256x1 .f32 :=
  accum (accum (accum (accum (accum (accum (accum (accum k0_pay5 (vAt I h 2048 inb_S1024x4096_S1024x256_0_2048 inb_S1x4096_S1x256_0_2048)) (vAt I h 2304 inb_S1024x4096_S1024x256_0_2304 inb_S1x4096_S1x256_0_2304)) (vAt I h 2560 inb_S1024x4096_S1024x256_0_2560 inb_S1x4096_S1x256_0_2560)) (vAt I h 2816 inb_S1024x4096_S1024x256_0_2816 inb_S1x4096_S1x256_0_2816)) (vAt I h 3072 inb_S1024x4096_S1024x256_0_3072 inb_S1x4096_S1x256_0_3072)) (vAt I h 3328 inb_S1024x4096_S1024x256_0_3328 inb_S1x4096_S1x256_0_3328)) (vAt I h 3584 inb_S1024x4096_S1024x256_0_3584 inb_S1x4096_S1x256_0_3584)) (vAt I h 3840 inb_S1024x4096_S1024x256_0_3840 inb_S1x4096_S1x256_0_3840)
/-- Group `j` of the gated values, of rows with norm `h`. -/
def gatedAt (I : Ins F) (h : FVec F S256x1024 .bf16) (j : ℕ) (m m' : ℕ) (hw : InW m) (hb : InB m) (hw' : InW m') (hb' : InB m') (hg : InG m) (hs : InS j) (hk : InK j) : FVec F S256x256 .bf16 :=
  gated (scaleOf (sqSum I h)) (shapeCast S256x256 (vAt I h m' hw' hb') shapeCasts_S256x256_S256x256) (k0_pay35 h (wCols I m hw) (bCols I m hb)) (gvCols I m hg) (wsAt I j hs)
    (bsAt I j hk)
/-- The output rows from row `n`, of rows with norm `h`. -/
def outAt' (I : Ins F) (h : FVec F S256x1024 .bf16) (n : ℕ) (hx : InX n) : FVec F S256x1024 .f32 :=
  outRows (xRows I n hx) (w2All I)
    (gatedAt I h 0 0 2048 inb_S1024x4096_S1024x256_0_0 inb_S1x4096_S1x256_0_0 inb_S1024x4096_S1024x256_0_2048 inb_S1x4096_S1x256_0_2048 inb_S1x2048_S1x256_0_0 inb_S8x128x128_S1x128x128_0_0_0 inb_S128x8_S128x1_0_0)
    (gatedAt I h 1 256 2304 inb_S1024x4096_S1024x256_0_256 inb_S1x4096_S1x256_0_256 inb_S1024x4096_S1024x256_0_2304 inb_S1x4096_S1x256_0_2304 inb_S1x2048_S1x256_0_256 inb_S8x128x128_S1x128x128_1_0_0 inb_S128x8_S128x1_0_1)
    (gatedAt I h 2 512 2560 inb_S1024x4096_S1024x256_0_512 inb_S1x4096_S1x256_0_512 inb_S1024x4096_S1024x256_0_2560 inb_S1x4096_S1x256_0_2560 inb_S1x2048_S1x256_0_512 inb_S8x128x128_S1x128x128_2_0_0 inb_S128x8_S128x1_0_2)
    (gatedAt I h 3 768 2816 inb_S1024x4096_S1024x256_0_768 inb_S1x4096_S1x256_0_768 inb_S1024x4096_S1024x256_0_2816 inb_S1x4096_S1x256_0_2816 inb_S1x2048_S1x256_0_768 inb_S8x128x128_S1x128x128_3_0_0 inb_S128x8_S128x1_0_3)
    (gatedAt I h 4 1024 3072 inb_S1024x4096_S1024x256_0_1024 inb_S1x4096_S1x256_0_1024 inb_S1024x4096_S1024x256_0_3072 inb_S1x4096_S1x256_0_3072 inb_S1x2048_S1x256_0_1024 inb_S8x128x128_S1x128x128_4_0_0 inb_S128x8_S128x1_0_4)
    (gatedAt I h 5 1280 3328 inb_S1024x4096_S1024x256_0_1280 inb_S1x4096_S1x256_0_1280 inb_S1024x4096_S1024x256_0_3328 inb_S1x4096_S1x256_0_3328 inb_S1x2048_S1x256_0_1280 inb_S8x128x128_S1x128x128_5_0_0 inb_S128x8_S128x1_0_5)
    (gatedAt I h 6 1536 3584 inb_S1024x4096_S1024x256_0_1536 inb_S1x4096_S1x256_0_1536 inb_S1024x4096_S1024x256_0_3584 inb_S1x4096_S1x256_0_3584 inb_S1x2048_S1x256_0_1536 inb_S8x128x128_S1x128x128_6_0_0 inb_S128x8_S128x1_0_6)
    (gatedAt I h 7 1792 3840 inb_S1024x4096_S1024x256_0_1792 inb_S1x4096_S1x256_0_1792 inb_S1024x4096_S1024x256_0_3840 inb_S1x4096_S1x256_0_3840 inb_S1x2048_S1x256_0_1792 inb_S8x128x128_S1x128x128_7_0_0 inb_S128x8_S128x1_0_7)

/-! ## The numbered values are these -/

theorem h_eq_0 (I : Ins F) : h_0 I = k0_pay6 (xRows I 0 inb_S1024x1024_S256x1024_0_0) (gAll I) := by sl_kernel_rfl
theorem v_eq_0_0 (I : Ins F) : v_0_0 I = shapeCast S256x256 (vAt I (h_0 I) 2048 inb_S1024x4096_S1024x256_0_2048 inb_S1x4096_S1x256_0_2048) shapeCasts_S256x256_S256x256 := by sl_kernel_rfl
theorem v_eq_0_1 (I : Ins F) : v_0_1 I = shapeCast S256x256 (vAt I (h_0 I) 2304 inb_S1024x4096_S1024x256_0_2304 inb_S1x4096_S1x256_0_2304) shapeCasts_S256x256_S256x256 := by sl_kernel_rfl
theorem v_eq_0_2 (I : Ins F) : v_0_2 I = shapeCast S256x256 (vAt I (h_0 I) 2560 inb_S1024x4096_S1024x256_0_2560 inb_S1x4096_S1x256_0_2560) shapeCasts_S256x256_S256x256 := by sl_kernel_rfl
theorem v_eq_0_3 (I : Ins F) : v_0_3 I = shapeCast S256x256 (vAt I (h_0 I) 2816 inb_S1024x4096_S1024x256_0_2816 inb_S1x4096_S1x256_0_2816) shapeCasts_S256x256_S256x256 := by sl_kernel_rfl
theorem v_eq_0_4 (I : Ins F) : v_0_4 I = shapeCast S256x256 (vAt I (h_0 I) 3072 inb_S1024x4096_S1024x256_0_3072 inb_S1x4096_S1x256_0_3072) shapeCasts_S256x256_S256x256 := by sl_kernel_rfl
theorem v_eq_0_5 (I : Ins F) : v_0_5 I = shapeCast S256x256 (vAt I (h_0 I) 3328 inb_S1024x4096_S1024x256_0_3328 inb_S1x4096_S1x256_0_3328) shapeCasts_S256x256_S256x256 := by sl_kernel_rfl
theorem v_eq_0_6 (I : Ins F) : v_0_6 I = shapeCast S256x256 (vAt I (h_0 I) 3584 inb_S1024x4096_S1024x256_0_3584 inb_S1x4096_S1x256_0_3584) shapeCasts_S256x256_S256x256 := by sl_kernel_rfl
theorem v_eq_0_7 (I : Ins F) : v_0_7 I = shapeCast S256x256 (vAt I (h_0 I) 3840 inb_S1024x4096_S1024x256_0_3840 inb_S1x4096_S1x256_0_3840) shapeCasts_S256x256_S256x256 := by sl_kernel_rfl
theorem scale_eq_0 (I : Ins F) : v223 I = scaleOf (sqSum I (h_0 I)) := by sl_kernel_rfl
theorem o_eq_0 (I : Ins F) : o_0 I = outAt' I (h_0 I) 0 inb_S1024x1024_S256x1024_0_0 := by sl_kernel_rfl
theorem h_eq_1 (I : Ins F) : h_1 I = k0_pay6 (xRows I 256 inb_S1024x1024_S256x1024_256_0) (gAll I) := by sl_kernel_rfl
theorem v_eq_1_0 (I : Ins F) : v_1_0 I = shapeCast S256x256 (vAt I (h_1 I) 2048 inb_S1024x4096_S1024x256_0_2048 inb_S1x4096_S1x256_0_2048) shapeCasts_S256x256_S256x256 := by sl_kernel_rfl
theorem v_eq_1_1 (I : Ins F) : v_1_1 I = shapeCast S256x256 (vAt I (h_1 I) 2304 inb_S1024x4096_S1024x256_0_2304 inb_S1x4096_S1x256_0_2304) shapeCasts_S256x256_S256x256 := by sl_kernel_rfl
theorem v_eq_1_2 (I : Ins F) : v_1_2 I = shapeCast S256x256 (vAt I (h_1 I) 2560 inb_S1024x4096_S1024x256_0_2560 inb_S1x4096_S1x256_0_2560) shapeCasts_S256x256_S256x256 := by sl_kernel_rfl
theorem v_eq_1_3 (I : Ins F) : v_1_3 I = shapeCast S256x256 (vAt I (h_1 I) 2816 inb_S1024x4096_S1024x256_0_2816 inb_S1x4096_S1x256_0_2816) shapeCasts_S256x256_S256x256 := by sl_kernel_rfl
theorem v_eq_1_4 (I : Ins F) : v_1_4 I = shapeCast S256x256 (vAt I (h_1 I) 3072 inb_S1024x4096_S1024x256_0_3072 inb_S1x4096_S1x256_0_3072) shapeCasts_S256x256_S256x256 := by sl_kernel_rfl
theorem v_eq_1_5 (I : Ins F) : v_1_5 I = shapeCast S256x256 (vAt I (h_1 I) 3328 inb_S1024x4096_S1024x256_0_3328 inb_S1x4096_S1x256_0_3328) shapeCasts_S256x256_S256x256 := by sl_kernel_rfl
theorem v_eq_1_6 (I : Ins F) : v_1_6 I = shapeCast S256x256 (vAt I (h_1 I) 3584 inb_S1024x4096_S1024x256_0_3584 inb_S1x4096_S1x256_0_3584) shapeCasts_S256x256_S256x256 := by sl_kernel_rfl
theorem v_eq_1_7 (I : Ins F) : v_1_7 I = shapeCast S256x256 (vAt I (h_1 I) 3840 inb_S1024x4096_S1024x256_0_3840 inb_S1x4096_S1x256_0_3840) shapeCasts_S256x256_S256x256 := by sl_kernel_rfl
theorem scale_eq_1 (I : Ins F) : v791 I = scaleOf (sqSum I (h_1 I)) := by sl_kernel_rfl
theorem o_eq_1 (I : Ins F) : o_1 I = outAt' I (h_1 I) 256 inb_S1024x1024_S256x1024_256_0 := by sl_kernel_rfl
theorem h_eq_2 (I : Ins F) : h_2 I = k0_pay6 (xRows I 512 inb_S1024x1024_S256x1024_512_0) (gAll I) := by sl_kernel_rfl
theorem v_eq_2_0 (I : Ins F) : v_2_0 I = shapeCast S256x256 (vAt I (h_2 I) 2048 inb_S1024x4096_S1024x256_0_2048 inb_S1x4096_S1x256_0_2048) shapeCasts_S256x256_S256x256 := by sl_kernel_rfl
theorem v_eq_2_1 (I : Ins F) : v_2_1 I = shapeCast S256x256 (vAt I (h_2 I) 2304 inb_S1024x4096_S1024x256_0_2304 inb_S1x4096_S1x256_0_2304) shapeCasts_S256x256_S256x256 := by sl_kernel_rfl
theorem v_eq_2_2 (I : Ins F) : v_2_2 I = shapeCast S256x256 (vAt I (h_2 I) 2560 inb_S1024x4096_S1024x256_0_2560 inb_S1x4096_S1x256_0_2560) shapeCasts_S256x256_S256x256 := by sl_kernel_rfl
theorem v_eq_2_3 (I : Ins F) : v_2_3 I = shapeCast S256x256 (vAt I (h_2 I) 2816 inb_S1024x4096_S1024x256_0_2816 inb_S1x4096_S1x256_0_2816) shapeCasts_S256x256_S256x256 := by sl_kernel_rfl
theorem v_eq_2_4 (I : Ins F) : v_2_4 I = shapeCast S256x256 (vAt I (h_2 I) 3072 inb_S1024x4096_S1024x256_0_3072 inb_S1x4096_S1x256_0_3072) shapeCasts_S256x256_S256x256 := by sl_kernel_rfl
theorem v_eq_2_5 (I : Ins F) : v_2_5 I = shapeCast S256x256 (vAt I (h_2 I) 3328 inb_S1024x4096_S1024x256_0_3328 inb_S1x4096_S1x256_0_3328) shapeCasts_S256x256_S256x256 := by sl_kernel_rfl
theorem v_eq_2_6 (I : Ins F) : v_2_6 I = shapeCast S256x256 (vAt I (h_2 I) 3584 inb_S1024x4096_S1024x256_0_3584 inb_S1x4096_S1x256_0_3584) shapeCasts_S256x256_S256x256 := by sl_kernel_rfl
theorem v_eq_2_7 (I : Ins F) : v_2_7 I = shapeCast S256x256 (vAt I (h_2 I) 3840 inb_S1024x4096_S1024x256_0_3840 inb_S1x4096_S1x256_0_3840) shapeCasts_S256x256_S256x256 := by sl_kernel_rfl
theorem scale_eq_2 (I : Ins F) : v1359 I = scaleOf (sqSum I (h_2 I)) := by sl_kernel_rfl
theorem o_eq_2 (I : Ins F) : o_2 I = outAt' I (h_2 I) 512 inb_S1024x1024_S256x1024_512_0 := by sl_kernel_rfl
theorem h_eq_3 (I : Ins F) : h_3 I = k0_pay6 (xRows I 768 inb_S1024x1024_S256x1024_768_0) (gAll I) := by sl_kernel_rfl
theorem v_eq_3_0 (I : Ins F) : v_3_0 I = shapeCast S256x256 (vAt I (h_3 I) 2048 inb_S1024x4096_S1024x256_0_2048 inb_S1x4096_S1x256_0_2048) shapeCasts_S256x256_S256x256 := by sl_kernel_rfl
theorem v_eq_3_1 (I : Ins F) : v_3_1 I = shapeCast S256x256 (vAt I (h_3 I) 2304 inb_S1024x4096_S1024x256_0_2304 inb_S1x4096_S1x256_0_2304) shapeCasts_S256x256_S256x256 := by sl_kernel_rfl
theorem v_eq_3_2 (I : Ins F) : v_3_2 I = shapeCast S256x256 (vAt I (h_3 I) 2560 inb_S1024x4096_S1024x256_0_2560 inb_S1x4096_S1x256_0_2560) shapeCasts_S256x256_S256x256 := by sl_kernel_rfl
theorem v_eq_3_3 (I : Ins F) : v_3_3 I = shapeCast S256x256 (vAt I (h_3 I) 2816 inb_S1024x4096_S1024x256_0_2816 inb_S1x4096_S1x256_0_2816) shapeCasts_S256x256_S256x256 := by sl_kernel_rfl
theorem v_eq_3_4 (I : Ins F) : v_3_4 I = shapeCast S256x256 (vAt I (h_3 I) 3072 inb_S1024x4096_S1024x256_0_3072 inb_S1x4096_S1x256_0_3072) shapeCasts_S256x256_S256x256 := by sl_kernel_rfl
theorem v_eq_3_5 (I : Ins F) : v_3_5 I = shapeCast S256x256 (vAt I (h_3 I) 3328 inb_S1024x4096_S1024x256_0_3328 inb_S1x4096_S1x256_0_3328) shapeCasts_S256x256_S256x256 := by sl_kernel_rfl
theorem v_eq_3_6 (I : Ins F) : v_3_6 I = shapeCast S256x256 (vAt I (h_3 I) 3584 inb_S1024x4096_S1024x256_0_3584 inb_S1x4096_S1x256_0_3584) shapeCasts_S256x256_S256x256 := by sl_kernel_rfl
theorem v_eq_3_7 (I : Ins F) : v_3_7 I = shapeCast S256x256 (vAt I (h_3 I) 3840 inb_S1024x4096_S1024x256_0_3840 inb_S1x4096_S1x256_0_3840) shapeCasts_S256x256_S256x256 := by sl_kernel_rfl
theorem scale_eq_3 (I : Ins F) : v1927 I = scaleOf (sqSum I (h_3 I)) := by sl_kernel_rfl
theorem o_eq_3 (I : Ins F) : o_3 I = outAt' I (h_3 I) 768 inb_S1024x1024_S256x1024_768_0 := by sl_kernel_rfl

end Cert.Kernel3Ideal.Hand

end
-- ==== Proof.Mixer.Rows.lean ====
/-
  The spatial-gating mixer's mathematics on a chunk of 128 rows, over the extended reals: the gelu, the projection of a normalised
  row, the norm of its second half, the causal mix of the chunk's second halves, and the row with the gated product added. The
  kernel's and the reference's results are both read as these functions. Also: the kernel's form of the gelu is the gelu.
-/
module

public import proofs.«01_k».proof.Proof.Rows
public import Idealize.ShloMosaic.Lib.WordCmp

@[expose] public section

noncomputable section

namespace Cert.Rows

open Idealize.ShloMosaic

/-- The gelu by the hyperbolic tangent, its constants the float words the reference writes. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * z * z)))))
/-- Entry `k` of the projection of a normalised row. -/
def proj (h : Fin 1024 → EReal) (w1 : Fin 1024 → Fin 4096 → EReal) (b : Fin 4096 → EReal) (k : Fin 4096) : EReal := ∑ d, h d * w1 d k + b k
/-- The second half of a row's gelu. -/
def second (h : Fin 1024 → EReal) (w1 : Fin 1024 → Fin 4096 → EReal) (b : Fin 4096 → EReal) (k : Fin 2048) : EReal :=
  gelu (proj h w1 b ⟨2048 + k.val, by omega⟩)
/-- The second half over the root of its mean square, times its gain. -/
def norm2 (v g : Fin 2048 → EReal) (k : Fin 2048) : EReal :=
  v k * Ideal.rsqrt (Ideal.div (∑ q, v q * v q) (Ideal.ofBits .f32 0x45000000#32) + Ideal.ofBits .f32 0x358637BD#32) * g k
/-- The causal mix at position `t` of a chunk of normalised rows `H`: the weighted sum of the normalised second halves of the rows
    up to `t`, plus the position's bias, both by the column's group. -/
def mixed (H : Fin 128 → Fin 1024 → EReal) (w1 : Fin 1024 → Fin 4096 → EReal) (b : Fin 4096 → EReal) (gv : Fin 2048 → EReal)
    (ws : Fin 8 → Fin 128 → Fin 128 → EReal) (bs : Fin 8 → Fin 128 → EReal) (t : Fin 128) (k : Fin 2048) : EReal :=
  ∑ q : Fin 128, norm2 (second (H q) w1 b) gv k * (if q ≤ t then ws ⟨k.val / 256, by omega⟩ t q else 0) + bs ⟨k.val / 256, by omega⟩ t
/-- Row `t` of a chunk `X` with its gated product added. -/
def mixer (X : Fin 128 → Fin 1024 → EReal) (g : Fin 1024 → EReal) (w1 : Fin 1024 → Fin 4096 → EReal) (b : Fin 4096 → EReal) (gv : Fin 2048 → EReal)
    (ws : Fin 8 → Fin 128 → Fin 128 → EReal) (bs : Fin 8 → Fin 128 → EReal) (w2 : Fin 2048 → Fin 1024 → EReal) (t : Fin 128) (j : Fin 1024) : EReal :=
  X t j + ∑ k : Fin 2048, gelu (proj (norm (X t) g) w1 b ⟨k.val, by omega⟩) * mixed (fun q => norm (X q) g) w1 b gv ws bs t k * w2 k j
/-- Row `n` of a list of rows: its chunk of 128 rows mixed, at its place in the chunk. -/
def mixRow (x : Fin 65536 → Fin 1024 → EReal) (g : Fin 1024 → EReal) (w1 : Fin 1024 → Fin 4096 → EReal) (b : Fin 4096 → EReal)
    (gv : Fin 2048 → EReal) (ws : Fin 8 → Fin 128 → Fin 128 → EReal) (bs : Fin 8 → Fin 128 → EReal) (w2 : Fin 2048 → Fin 1024 → EReal)
    (n : Fin 65536) (j : Fin 1024) : EReal :=
  mixer (fun q => x ⟨128 * (n.val / 128) + q.val, by omega⟩) g w1 b gv ws bs w2 ⟨n.val % 128, by omega⟩ j

/-! ## The gelu by the exponential -/

/-- The two constants the kernel's form names. -/
abbrev cR : ℝ := ((-2) * (6693141 / 8388608)) * (Real.log 2)⁻¹
abbrev c3R : ℝ := (12003091 / 268435456) * cR

theorem ofBits_one : Ideal.ofBits .f32 0x3F800000#32 = ((1 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_s : Ideal.ofBits .f32 0x3F4C422A#32 = ((6693141 / 8388608 : ℝ) : EReal) := by
  simp [Ideal.ofBits, Ideal.ieee, -EReal.coe_mul]; norm_num
theorem ofBits_k : Ideal.ofBits .f32 0x3D372713#32 = ((12003091 / 268435456 : ℝ) : EReal) := by
  simp [Ideal.ofBits, Ideal.ieee, -EReal.coe_mul]; norm_num
theorem ofBits_2048 : Ideal.ofBits .f32 0x45000000#32 = ((2048 : ℝ) : EReal) := by
  simp [Ideal.ofBits, Ideal.ieee, -EReal.coe_mul]; norm_num
theorem ofBits_inv2048 : Ideal.ofBits .f32 0x3A000000#32 = ((1 / 2048 : ℝ) : EReal) := by
  simp [Ideal.ofBits, Ideal.ieee, -EReal.coe_mul]; norm_num

/-- Of a real: half of one plus the tangent is the reciprocal of one plus the power of two. -/
theorem gelu_real (z : ℝ) : 1 / 2 * (1 + Real.tanh (6693141 / 8388608 * (z + 12003091 / 268435456 * (z * z * z))))
    = (1 + Real.rpow 2 (z * (cR + c3R * (z * z))))⁻¹ := by
  have hl : Real.log 2 ≠ 0 := (Real.log_pos (by norm_num)).ne'
  set y : ℝ := 6693141 / 8388608 * (z + 12003091 / 268435456 * (z * z * z)) with hy
  have e : Real.rpow 2 (z * (cR + c3R * (z * z))) = Real.exp (-y) * Real.exp (-y) := by
    show (2 : ℝ) ^ (z * (cR + c3R * (z * z))) = _
    rw [Real.rpow_def_of_pos (by norm_num), ← Real.exp_add]
    congr 1
    rw [hy]; unfold c3R cR; field_simp; ring
  rw [e, Real.tanh_eq_sinh_div_cosh, Real.sinh_eq, Real.cosh_eq]
  have h1 : Real.exp y ≠ 0 := (Real.exp_pos y).ne'
  have h2 : Real.exp (-y) = (Real.exp y)⁻¹ := Real.exp_neg y
  rw [h2]
  have h3 : Real.exp y * Real.exp y + 1 ≠ 0 := by positivity
  have h4 : Real.exp y ^ 2 + 1 ≠ 0 := by positivity
  field_simp
  ring

/-- The kernel's form is the gelu, at the infinities too. -/
theorem gelu_exp2 (z : EReal) : Ideal.div z (Ideal.ofBits .f32 0x3F800000#32 + Ideal.exp2 (z * ((cR : EReal) + (c3R : EReal) * (z * z)))) = gelu z := by
  have hl : 0 < Real.log 2 := Real.log_pos (by norm_num)
  have hc : cR < 0 := mul_neg_of_neg_of_pos (by norm_num) (inv_pos.mpr hl)
  have hc3 : c3R < 0 := mul_neg_of_pos_of_neg (by norm_num) hc
  unfold gelu
  rw [ofBits_one, ofBits_half, ofBits_s, ofBits_k]
  induction z using EReal.rec with
  | bot =>
    rw [EReal.bot_mul_bot, EReal.coe_mul_top_of_neg hc3, EReal.add_bot, EReal.bot_mul_bot, EReal.top_mul_bot,
      EReal.coe_mul_bot_of_pos (by norm_num), EReal.bot_add, EReal.coe_mul_bot_of_pos (by norm_num)]
    have e : ((1 : ℝ) : EReal) + -1 = 0 := by
      rw [show (-1 : EReal) = ((-1 : ℝ) : EReal) from by simp, ← EReal.coe_add]; norm_num
    rw [Ideal.exp2_top, Ideal.tanh_bot, e, EReal.coe_add_top, Ideal.div, if_neg EReal.top_ne_zero, EReal.inv_top, mul_zero, mul_zero, mul_zero]
  | top =>
    rw [EReal.top_mul_top, EReal.coe_mul_top_of_neg hc3, EReal.add_bot, EReal.top_mul_bot, EReal.top_mul_top,
      EReal.coe_mul_top_of_pos (by norm_num), EReal.top_add_top, EReal.coe_mul_top_of_pos (by norm_num)]
    have e : ((1 : ℝ) : EReal) + 1 = ((2 : ℝ) : EReal) := by
      rw [← EReal.coe_one, ← EReal.coe_add]; norm_num
    rw [Ideal.exp2_bot, Ideal.tanh_top, e, add_zero, Ideal.div_coe (by norm_num), ← EReal.coe_mul]
    norm_num
  | coe r =>
    have hp : (0 : ℝ) < 1 + Real.rpow 2 (r * (cR + c3R * (r * r))) := by
      have : (0 : ℝ) < Real.rpow 2 (r * (cR + c3R * (r * r))) := Real.rpow_pos_of_pos (by norm_num) _
      linarith
    simp only [← EReal.coe_mul, ← EReal.coe_add, Ideal.exp2_coe, Ideal.tanh_coe]
    rw [Ideal.div_coe hp.ne', ← EReal.coe_mul, gelu_real, one_div]

theorem gelu_exp2' (z : EReal) : Ideal.div z (1 + Ideal.exp2 (z * ((cR : EReal) + (c3R : EReal) * (z * z)))) = gelu z := by
  have h := gelu_exp2 z
  rwa [ofBits_one, EReal.coe_one] at h

/-! ## The causal mask -/

/-- A choice by the comparison of two positions' words is the choice by the positions' order. -/
theorem causal_le (t q : Fin 128) (a b : EReal) :
    Scalar.select (IntOp.cmpi .sle (BitVec.ofNat 32 q.val) (BitVec.ofNat 32 t.val)) a b = if q ≤ t then a else b := by
  rw [WordCmp.cmpi_sle_ofNat (by omega) (by omega)]
  unfold Scalar.select
  by_cases h : q.val ≤ t.val
  · rw [if_pos (show q ≤ t from h), decide_eq_true h]; rfl
  · rw [if_neg (show ¬q ≤ t from h), decide_eq_false h]; rfl

/-- The same of the comparison the other way round, its outcome chosen once more from its two values. -/
theorem causal_ge (t q : Fin 128) (a b : EReal) :
    Scalar.select (Scalar.select (IntOp.cmpi .sge (BitVec.ofNat 32 t.val) (BitVec.ofNat 32 q.val)) 1#1 0#1) a b = if q ≤ t then a else b := by
  rw [WordCmp.cmpi_sge_ofNat (by omega) (by omega)]
  unfold Scalar.select
  by_cases h : q.val ≤ t.val
  · rw [if_pos (show q ≤ t from h), decide_eq_true h]; rfl
  · rw [if_neg (show ¬q ≤ t from h), decide_eq_false h]; rfl

/-! ## Sums by groups -/

/-- A sum over 2048 columns is the sum over eight groups of 256. -/
theorem sum_groups (f : Fin 2048 → EReal) : ∑ k, f k = ∑ j : Fin 8, ∑ c : Fin 256, f ⟨256 * j.val + c.val, by omega⟩ := by
  rw [← Fintype.sum_prod_type' (f := fun (j : Fin 8) (c : Fin 256) => f ⟨256 * j.val + c.val, by omega⟩)]
  refine (Fintype.sum_equiv (finProdFinEquiv : Fin 8 × Fin 256 ≃ Fin (8 * 256)) _ _ fun p => ?_).symm
  congr 1
  ext
  show 256 * p.1.val + p.2.val = p.2.val + 256 * p.1.val
  omega

/-- A mean taken as a product with the reciprocal of the width. -/
theorem mean_eq (s : EReal) : s * Ideal.ofBits .f32 0x3A000000#32 = Ideal.div s (Ideal.ofBits .f32 0x45000000#32) := by
  rw [ofBits_2048, ofBits_inv2048, Ideal.div_coe (by norm_num)]

end Cert.Rows

end
-- ==== Proof.Mixer.Block.lean ====
/-
  The spatial-gating mixer. What the body leaves in the output block, over the extended reals: row by row, the row with its gated
  product added.
-/
module

public import proofs.«01_k».proof.Proof.Mixer.Body
public import proofs.«01_k».proof.Proof.Mixer.Terms
public import proofs.«01_k».proof.Proof.Mixer.Rows

@[expose] public section

set_option maxRecDepth 16384

noncomputable section

namespace Cert.Kernel3Ideal.Hand

open Cert.Kernel3Ideal Cert.Kernel3Ideal.Gen Cert.Rows
open Idealize.ShloMosaic Idealize.ShloMosaic.TcCoe Idealize.ShloMosaic.Tactic

/-! ## The operations at an index -/

theorem named_c : Named.named (F := Ideal) Cert.Kernel3Ideal.κ "gelu_c" (φ := .f32) 0xC0135761#32 = (cR : EReal) :=
  IdealRules.named_const.ideal_named_scalar _ _ _ _ rfl
theorem named_c3 : Named.named (F := Ideal) Cert.Kernel3Ideal.κ "gelu_c3" (φ := .f32) 0xBDD2D3E8#32 = (c3R : EReal) :=
  IdealRules.named_const.ideal_named_scalar _ _ _ _ rfl

theorem pay6_apply (x : Vec Ideal S256x1024 .f32) (g : Vec Ideal S1x1024 .f32) (r : Fin 256) (d : Fin 1024) :
    k0_pay6 (F := Ideal) x g (ix2 r d) = norm (fun k => x (ix2 r k)) (fun k => g (ix2 0 k)) d := by
  pointwise [k0_pay6]; rfl
theorem pay35_apply (h : Vec Ideal S256x1024 .bf16) (w : Vec Ideal S1024x256 .bf16) (b : Vec Ideal S1x256 .f32) (r c : Fin 256) :
    k0_pay35 (F := Ideal) h w b (ix2 r c) = ∑ d, h (ix2 r d) * w (ix2 d c) + b (ix2 0 c) := by
  pointwise [k0_pay35]
theorem pay11_apply (h : Vec Ideal S256x1024 .bf16) (w : Vec Ideal S1024x256 .bf16) (b : Vec Ideal S1x256 .f32) (r c : Fin 256) :
    k0_pay11 (F := Ideal) h w b (ix2 r c) = gelu (∑ d, h (ix2 r d) * w (ix2 d c) + b (ix2 0 c)) := by
  pointwise [k0_pay11]
  rw [named_c, named_c3]
  exact gelu_exp2' _
theorem accum_apply (a : Vec Ideal S256x1 .f32) (v : Vec Ideal S256x256 .f32) (r : Fin 256) :
    accum (F := Ideal) a v (ix2 r 0) = a (ix2 r 0) + ∑ c : Fin 256, v (ix2 r c) * v (ix2 r c) := by
  pointwise [accum]
theorem scaleOf_apply (a : Vec Ideal S256x1 .f32) (r : Fin 256) : scaleOf (F := Ideal) a (ix2 r 0)
    = Ideal.rsqrt (Ideal.div (a (ix2 r 0)) (Ideal.ofBits .f32 0x45000000#32) + Ideal.ofBits .f32 0x358637BD#32) := by
  rw [← mean_eq]
  pointwise [scaleOf]
theorem pay36_apply (sc : Vec Ideal S256x1 .f32) (v : Vec Ideal S256x256 .f32) (gv : Vec Ideal S1x256 .f32) (r c : Fin 256) :
    k0_pay36 (F := Ideal) sc v gv (ix2 r c) = v (ix2 r c) * sc (ix2 r 0) * gv (ix2 0 c) := by
  pointwise [k0_pay36]
theorem pay37_apply (ws : Vec Ideal S1x128x128 .f32) (t q : Fin 128) :
    k0_pay37 (F := Ideal) k0_pay4 ws (ix2 t q) = if q ≤ t then ws (ix3 0 t q) else 0 := by
  pointwise [k0_pay37, k0_pay4]
  exact causal_le t q _ _
theorem pay38_apply (vn : Vec Ideal S256x256 .bf16) (wc : Vec Ideal S128x128 .bf16) (bs : Vec Ideal S128x1 .f32) (r c : Fin 256) :
    k0_pay38 (F := Ideal) vn wc bs (ix2 r c) = ∑ q : Fin 128, wc (ix2 ⟨r.val % 128, by omega⟩ q) * vn (ix2 ⟨128 * (r.val / 128) + q.val, by omega⟩ c)
      + bs (ix2 ⟨r.val % 128, by omega⟩ 0) := by
  pointwise [k0_pay38]
  split
  · next h =>
    have e1 : r.val % 128 = r.val := Nat.mod_eq_of_lt h
    have e2 : 128 * (r.val / 128) = 0 := by omega
    simp only [e1, e2, Nat.zero_add]
  · next h =>
    have e1 : r.val % 128 = r.val - 128 := by omega
    have e2 : 128 * (r.val / 128) = 128 := by omega
    simp only [e1, e2]
theorem pay49_apply (u s : Vec Ideal S256x256 .f32) (r c : Fin 256) : k0_pay49 (F := Ideal) u s (ix2 r c) = gelu (u (ix2 r c)) * s (ix2 r c) := by
  pointwise [k0_pay49]
  rw [named_c, named_c3]
  exact congrArg (· * s (ix2 r c)) (gelu_exp2' _)
/-- A choice among eight joined groups of 256 columns, at column `c` of group `j`, is that group's. -/
theorem pick_group (P : Fin 8 → Fin 256 → EReal) (n : ℕ) (hn : n < 2048) (j : Fin 8) (c : Fin 256) (e : n = 256 * j.val + c.val) :
    (if h : n < 256 then P 0 ⟨n, h⟩ else
    if h : n - 256 < 256 then P 1 ⟨n - 256, h⟩ else
    if h : n - 256 - 256 < 256 then P 2 ⟨n - 256 - 256, h⟩ else
    if h : n - 256 - 256 - 256 < 256 then P 3 ⟨n - 256 - 256 - 256, h⟩ else
    if h : n - 256 - 256 - 256 - 256 < 256 then P 4 ⟨n - 256 - 256 - 256 - 256, h⟩ else
    if h : n - 256 - 256 - 256 - 256 - 256 < 256 then P 5 ⟨n - 256 - 256 - 256 - 256 - 256, h⟩ else
    if h : n - 256 - 256 - 256 - 256 - 256 - 256 < 256 then P 6 ⟨n - 256 - 256 - 256 - 256 - 256 - 256, h⟩ else
    P 7 ⟨n - 256 - 256 - 256 - 256 - 256 - 256 - 256, by omega⟩) = P j c := by
  have hc := c.isLt
  match j, e with
  | 0, e =>
    have e' : n = 0 + c.val := e
    rw [dif_pos (by omega)]
    exact congrArg (P 0) (Fin.ext (by show n = c.val; omega))
  | 1, e =>
    have e' : n = 256 + c.val := e
    rw [dif_neg (by omega), dif_pos (by omega)]
    exact congrArg (P 1) (Fin.ext (by show n - 256 = c.val; omega))
  | 2, e =>
    have e' : n = 512 + c.val := e
    rw [dif_neg (by omega), dif_neg (by omega), dif_pos (by omega)]
    exact congrArg (P 2) (Fin.ext (by show n - 256 - 256 = c.val; omega))
  | 3, e =>
    have e' : n = 768 + c.val := e
    rw [dif_neg (by omega), dif_neg (by omega), dif_neg (by omega), dif_pos (by omega)]
    exact congrArg (P 3) (Fin.ext (by show n - 256 - 256 - 256 = c.val; omega))
  | 4, e =>
    have e' : n = 1024 + c.val := e
    rw [dif_neg (by omega), dif_neg (by omega), dif_neg (by omega), dif_neg (by omega), dif_pos (by omega)]
    exact congrArg (P 4) (Fin.ext (by show n - 256 - 256 - 256 - 256 = c.val; omega))
  | 5, e =>
    have e' : n = 1280 + c.val := e
    rw [dif_neg (by omega), dif_neg (by omega), dif_neg (by omega), dif_neg (by omega), dif_neg (by omega), dif_pos (by omega)]
    exact congrArg (P 5) (Fin.ext (by show n - 256 - 256 - 256 - 256 - 256 = c.val; omega))
  | 6, e =>
    have e' : n = 1536 + c.val := e
    rw [dif_neg (by omega), dif_neg (by omega), dif_neg (by omega), dif_neg (by omega), dif_neg (by omega), dif_neg (by omega), dif_pos (by omega)]
    exact congrArg (P 6) (Fin.ext (by show n - 256 - 256 - 256 - 256 - 256 - 256 = c.val; omega))
  | 7, e =>
    have e' : n = 1792 + c.val := e
    rw [dif_neg (by omega), dif_neg (by omega), dif_neg (by omega), dif_neg (by omega), dif_neg (by omega), dif_neg (by omega), dif_neg (by omega)]
    exact congrArg (P 7) (Fin.ext (by show n - 256 - 256 - 256 - 256 - 256 - 256 - 256 = c.val; omega))
theorem outRows_apply (x : Vec Ideal S256x1024 .f32) (w2 : Vec Ideal S2048x1024 .bf16) (G : Fin 8 → Vec Ideal S256x256 .bf16) (r : Fin 256) (d : Fin 1024) :
    outRows (F := Ideal) x w2 (G 0) (G 1) (G 2) (G 3) (G 4) (G 5) (G 6) (G 7) (ix2 r d)
      = x (ix2 r d) + ∑ j : Fin 8, ∑ c : Fin 256, G j (ix2 r c) * w2 (ix2 ⟨256 * j.val + c.val, by omega⟩ d) := by
  pointwise [outRows]
  refine congrArg (x (ix2 r d) + ·) ?_
  rw [sum_groups]
  refine Finset.sum_congr rfl fun j _ => Finset.sum_congr rfl fun c _ => congrArg (· * w2 _) ?_
  exact pick_group (fun k z => G k (ix2 r z)) (256 * j.val + c.val) (by omega) j c rfl

/-! ## The parts of the operands at an index -/

variable (I : Ins Ideal)

/-- The operands by coordinates. -/
abbrev iX (R : Fin 1024) : Fin 1024 → EReal := fun k => I.x (ix2 R k)
abbrev iG : Fin 1024 → EReal := fun k => I.g (ix2 0 k)
abbrev iW1 : Fin 1024 → Fin 4096 → EReal := fun d k => I.w1 (ix2 d k)
abbrev iB : Fin 4096 → EReal := fun k => I.b (ix2 0 k)
abbrev iGv : Fin 2048 → EReal := fun k => I.gv (ix2 0 k)
abbrev iWs : Fin 8 → Fin 128 → Fin 128 → EReal := fun j t q => I.ws (ix3 j t q)
abbrev iBs : Fin 8 → Fin 128 → EReal := fun j t => I.bst (ix2 t j)
abbrev iW2 : Fin 2048 → Fin 1024 → EReal := fun k j => I.w2 (ix2 k j)

theorem xRows_apply (n : ℕ) (hx : InX n) (r : Fin 256) (k : Fin 1024) (R : Fin 1024) (hR : R.val = n + r.val) : xRows I n hx (ix2 r k) = iX I R k := by
  show I.x _ = I.x _
  exact congrArg I.x (Shape.idx_ext₂ (show n + 1 * r.val = R.val by omega) (show 0 + 1 * k.val = k.val by omega))
theorem gAll_apply (k : Fin 1024) : gAll I (ix2 0 k) = iG I k := by
  show I.g _ = I.g _
  exact congrArg I.g (Shape.idx_ext₂ rfl (show 0 + 1 * k.val = k.val by omega))
theorem w2All_apply (k : Fin 2048) (j : Fin 1024) : w2All I (ix2 k j) = iW2 I k j := by
  show I.w2 _ = I.w2 _
  exact congrArg I.w2 (Shape.idx_ext₂ (show 0 + 1 * k.val = k.val by omega) (show 0 + 1 * j.val = j.val by omega))
theorem wCols_apply (m : ℕ) (hw : InW m) (d : Fin 1024) (c : Fin 256) (k : Fin 4096) (hk : k.val = m + c.val) : wCols I m hw (ix2 d c) = iW1 I d k := by
  show I.w1 _ = I.w1 _
  exact congrArg I.w1 (Shape.idx_ext₂ (show 0 + 1 * d.val = d.val by omega) (show m + 1 * c.val = k.val by omega))
theorem bCols_apply (m : ℕ) (hb : InB m) (c : Fin 256) (k : Fin 4096) (hk : k.val = m + c.val) : bCols I m hb (ix2 0 c) = iB I k := by
  show I.b _ = I.b _
  exact congrArg I.b (Shape.idx_ext₂ rfl (show m + 1 * c.val = k.val by omega))
theorem gvCols_apply (m : ℕ) (hg : InG m) (c : Fin 256) (k : Fin 2048) (hk : k.val = m + c.val) : gvCols I m hg (ix2 0 c) = iGv I k := by
  show I.gv _ = I.gv _
  exact congrArg I.gv (Shape.idx_ext₂ rfl (show m + 1 * c.val = k.val by omega))
theorem wsAt_apply (n : ℕ) (hs : InS n) (t q : Fin 128) (j : Fin 8) (hj : j.val = n) : wsAt I n hs (ix3 0 t q) = iWs I j t q := by
  show I.ws _ = I.ws _
  refine congrArg I.ws (funext fun a => Fin.ext ?_)
  match a with
  | ⟨0, _⟩ => show n + 1 * 0 = j.val; omega
  | ⟨1, _⟩ => show 0 + 1 * t.val = t.val; omega
  | ⟨2, _⟩ => show 0 + 1 * q.val = q.val; omega
theorem bsAt_apply (n : ℕ) (hk : InK n) (t : Fin 128) (j : Fin 8) (hj : j.val = n) : bsAt I n hk (ix2 t 0) = iBs I j t := by
  show I.bst _ = I.bst _
  exact congrArg I.bst (Shape.idx_ext₂ (show 0 + 1 * t.val = t.val by omega) (show n + 1 * 0 = j.val by omega))

/-! ## A group of rows, of norm `h`, by coordinates `H` -/

variable (h : FVec Ideal S256x1024 .bf16) (H : Fin 256 → Fin 1024 → EReal) (hh : ∀ r d, h (ix2 r d) = H r d)
include hh

theorem vAt_apply (m : ℕ) (hw : InW m) (hb : InB m) (r c : Fin 256) (k : Fin 4096) (hk : k.val = m + c.val) :
    vAt I h m hw hb (ix2 r c) = gelu (proj (H r) (iW1 I) (iB I) k) := by
  unfold vAt proj
  rw [pay11_apply, bCols_apply I m hb c k hk]
  simp only [hh, fun d => wCols_apply I m hw d c k hk]
theorem uAt_apply (m : ℕ) (hw : InW m) (hb : InB m) (r c : Fin 256) (k : Fin 4096) (hk : k.val = m + c.val) :
    k0_pay35 h (wCols I m hw) (bCols I m hb) (ix2 r c) = proj (H r) (iW1 I) (iB I) k := by
  unfold proj
  rw [pay35_apply, bCols_apply I m hb c k hk]
  simp only [hh, fun d => wCols_apply I m hw d c k hk]
theorem sqSum_apply (r : Fin 256) : sqSum I h (ix2 r 0) = ∑ k, second (H r) (iW1 I) (iB I) k * second (H r) (iW1 I) (iB I) k := by
  have z : k0_pay5 (F := Ideal) (ix2 r 0) = 0 := by pointwise [k0_pay5]
  unfold sqSum
  rw [accum_apply, accum_apply, accum_apply, accum_apply, accum_apply, accum_apply, accum_apply, accum_apply, z, zero_add, sum_groups, Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · refine Finset.sum_congr rfl fun c _ => ?_
    rw [vAt_apply I h H hh 2048 _ _ r c ⟨2048 + (256 * 0 + c.val), by omega⟩ (by show 2048 + (256 * 0 + c.val) = 2048 + c.val; omega)]
    rfl
  · refine Finset.sum_congr rfl fun c _ => ?_
    rw [vAt_apply I h H hh 2304 _ _ r c ⟨2048 + (256 * 1 + c.val), by omega⟩ (by show 2048 + (256 * 1 + c.val) = 2304 + c.val; omega)]
    rfl
  · refine Finset.sum_congr rfl fun c _ => ?_
    rw [vAt_apply I h H hh 2560 _ _ r c ⟨2048 + (256 * 2 + c.val), by omega⟩ (by show 2048 + (256 * 2 + c.val) = 2560 + c.val; omega)]
    rfl
  · refine Finset.sum_congr rfl fun c _ => ?_
    rw [vAt_apply I h H hh 2816 _ _ r c ⟨2048 + (256 * 3 + c.val), by omega⟩ (by show 2048 + (256 * 3 + c.val) = 2816 + c.val; omega)]
    rfl
  · refine Finset.sum_congr rfl fun c _ => ?_
    rw [vAt_apply I h H hh 3072 _ _ r c ⟨2048 + (256 * 4 + c.val), by omega⟩ (by show 2048 + (256 * 4 + c.val) = 3072 + c.val; omega)]
    rfl
  · refine Finset.sum_congr rfl fun c _ => ?_
    rw [vAt_apply I h H hh 3328 _ _ r c ⟨2048 + (256 * 5 + c.val), by omega⟩ (by show 2048 + (256 * 5 + c.val) = 3328 + c.val; omega)]
    rfl
  · refine Finset.sum_congr rfl fun c _ => ?_
    rw [vAt_apply I h H hh 3584 _ _ r c ⟨2048 + (256 * 6 + c.val), by omega⟩ (by show 2048 + (256 * 6 + c.val) = 3584 + c.val; omega)]
    rfl
  · refine Finset.sum_congr rfl fun c _ => ?_
    rw [vAt_apply I h H hh 3840 _ _ r c ⟨2048 + (256 * 7 + c.val), by omega⟩ (by show 2048 + (256 * 7 + c.val) = 3840 + c.val; omega)]
    rfl
theorem gatedAt_apply (n m m' : ℕ) (hw : InW m) (hb : InB m) (hw' : InW m') (hb' : InB m') (hg : InG m) (hs : InS n) (hk : InK n)
    (j : Fin 8) (hj : j.val = n) (hm : m = 256 * n) (hm' : m' = 2048 + 256 * n) (r c : Fin 256) :
    gatedAt I h n m m' hw hb hw' hb' hg hs hk (ix2 r c)
      = gelu (proj (H r) (iW1 I) (iB I) ⟨256 * j.val + c.val, by omega⟩)
        * mixed (fun q => H ⟨128 * (r.val / 128) + q.val, by omega⟩) (iW1 I) (iB I) (iGv I) (iWs I) (iBs I) ⟨r.val % 128, by omega⟩ ⟨256 * j.val + c.val, by omega⟩ := by
  have ej : (⟨(256 * j.val + c.val) / 256, by omega⟩ : Fin 8) = j := Fin.ext (show (256 * j.val + c.val) / 256 = j.val by omega)
  unfold gatedAt gated mixed
  rw [pay49_apply, uAt_apply I h H hh m hw hb r c ⟨256 * j.val + c.val, by omega⟩ (show 256 * j.val + c.val = m + c.val by omega), pay38_apply,
    bsAt_apply I n hk _ j hj, ej]
  refine congrArg (gelu _ * ·) (congrArg (· + iBs I j _) (Finset.sum_congr rfl fun q _ => ?_))
  rw [pay37_apply, pay36_apply, scaleOf_apply, sqSum_apply I h H hh, gvCols_apply I m hg c ⟨256 * j.val + c.val, by omega⟩ (show 256 * j.val + c.val = m + c.val by omega),
    wsAt_apply I n hs _ _ j hj, mul_comm]
  refine congrArg (· * _) ?_
  have e : ∀ (X : FVec Ideal S256x256 .f32) (R : Fin 256), shapeCast S256x256 X shapeCasts_S256x256_S256x256 (ix2 R c) = X (ix2 R c) := fun X R => by pointwise
  rw [e, vAt_apply I h H hh m' hw' hb' _ c ⟨2048 + (256 * j.val + c.val), by omega⟩ (show 2048 + (256 * j.val + c.val) = m' + c.val by omega)]
  rfl
theorem outAt'_apply (n : ℕ) (hx : InX n) (r : Fin 256) (d R : Fin 1024) (hR : R.val = n + r.val) : outAt' I h n hx (ix2 r d)
    = iX I R d + ∑ k : Fin 2048, gelu (proj (H r) (iW1 I) (iB I) ⟨k.val, by omega⟩)
        * mixed (fun q => H ⟨128 * (r.val / 128) + q.val, by omega⟩) (iW1 I) (iB I) (iGv I) (iWs I) (iBs I) ⟨r.val % 128, by omega⟩ k * iW2 I k d := by
  unfold outAt'
  refine (outRows_apply _ _ ![
      gatedAt I h 0 0 2048 inb_S1024x4096_S1024x256_0_0 inb_S1x4096_S1x256_0_0 inb_S1024x4096_S1024x256_0_2048 inb_S1x4096_S1x256_0_2048 inb_S1x2048_S1x256_0_0 inb_S8x128x128_S1x128x128_0_0_0 inb_S128x8_S128x1_0_0,
      gatedAt I h 1 256 2304 inb_S1024x4096_S1024x256_0_256 inb_S1x4096_S1x256_0_256 inb_S1024x4096_S1024x256_0_2304 inb_S1x4096_S1x256_0_2304 inb_S1x2048_S1x256_0_256 inb_S8x128x128_S1x128x128_1_0_0 inb_S128x8_S128x1_0_1,
      gatedAt I h 2 512 2560 inb_S1024x4096_S1024x256_0_512 inb_S1x4096_S1x256_0_512 inb_S1024x4096_S1024x256_0_2560 inb_S1x4096_S1x256_0_2560 inb_S1x2048_S1x256_0_512 inb_S8x128x128_S1x128x128_2_0_0 inb_S128x8_S128x1_0_2,
      gatedAt I h 3 768 2816 inb_S1024x4096_S1024x256_0_768 inb_S1x4096_S1x256_0_768 inb_S1024x4096_S1024x256_0_2816 inb_S1x4096_S1x256_0_2816 inb_S1x2048_S1x256_0_768 inb_S8x128x128_S1x128x128_3_0_0 inb_S128x8_S128x1_0_3,
      gatedAt I h 4 1024 3072 inb_S1024x4096_S1024x256_0_1024 inb_S1x4096_S1x256_0_1024 inb_S1024x4096_S1024x256_0_3072 inb_S1x4096_S1x256_0_3072 inb_S1x2048_S1x256_0_1024 inb_S8x128x128_S1x128x128_4_0_0 inb_S128x8_S128x1_0_4,
      gatedAt I h 5 1280 3328 inb_S1024x4096_S1024x256_0_1280 inb_S1x4096_S1x256_0_1280 inb_S1024x4096_S1024x256_0_3328 inb_S1x4096_S1x256_0_3328 inb_S1x2048_S1x256_0_1280 inb_S8x128x128_S1x128x128_5_0_0 inb_S128x8_S128x1_0_5,
      gatedAt I h 6 1536 3584 inb_S1024x4096_S1024x256_0_1536 inb_S1x4096_S1x256_0_1536 inb_S1024x4096_S1024x256_0_3584 inb_S1x4096_S1x256_0_3584 inb_S1x2048_S1x256_0_1536 inb_S8x128x128_S1x128x128_6_0_0 inb_S128x8_S128x1_0_6,
      gatedAt I h 7 1792 3840 inb_S1024x4096_S1024x256_0_1792 inb_S1x4096_S1x256_0_1792 inb_S1024x4096_S1024x256_0_3840 inb_S1x4096_S1x256_0_3840 inb_S1x2048_S1x256_0_1792 inb_S8x128x128_S1x128x128_7_0_0 inb_S128x8_S128x1_0_7] r d).trans ?_
  rw [xRows_apply I n hx r d R hR, sum_groups]
  refine congrArg (iX I R d + ·) (Finset.sum_congr rfl fun j _ => Finset.sum_congr rfl fun c _ => ?_)
  rw [w2All_apply]
  refine congrArg (· * iW2 I _ d) ?_
  match j with
  | 0 => exact gatedAt_apply I h H hh 0 0 2048 _ _ _ _ _ _ _ 0 rfl rfl rfl r c
  | 1 => exact gatedAt_apply I h H hh 1 256 2304 _ _ _ _ _ _ _ 1 rfl rfl rfl r c
  | 2 => exact gatedAt_apply I h H hh 2 512 2560 _ _ _ _ _ _ _ 2 rfl rfl rfl r c
  | 3 => exact gatedAt_apply I h H hh 3 768 2816 _ _ _ _ _ _ _ 3 rfl rfl rfl r c
  | 4 => exact gatedAt_apply I h H hh 4 1024 3072 _ _ _ _ _ _ _ 4 rfl rfl rfl r c
  | 5 => exact gatedAt_apply I h H hh 5 1280 3328 _ _ _ _ _ _ _ 5 rfl rfl rfl r c
  | 6 => exact gatedAt_apply I h H hh 6 1536 3584 _ _ _ _ _ _ _ 6 rfl rfl rfl r c
  | 7 => exact gatedAt_apply I h H hh 7 1792 3840 _ _ _ _ _ _ _ 7 rfl rfl rfl r c

omit hh

/-! ## The block -/

/-- The block as a function of its index. -/
def blkFn : Vec Ideal S1024x1024 .f32 := fun y =>
  mixer (fun q => iX I ⟨128 * ((y 0).val / 128) + q.val, by have : (y 0).val < 1024 := (y 0).isLt; omega⟩) (iG I) (iW1 I) (iB I) (iGv I) (iWs I) (iBs I) (iW2 I)
    ⟨(y 0).val % 128, Nat.mod_lt _ (by decide)⟩ (y 1)

/-- The rows from row `n`, a multiple of 256, at an index. -/
theorem rows_apply (n : ℕ) (hx : InX n) (hn : n % 256 = 0) (hn' : n + 256 ≤ 1024) (r : Fin 256) (d : Fin 1024) :
    outAt' I (k0_pay6 (xRows I n hx) (gAll I)) n hx (ix2 r d) = blkFn I (ix2 ⟨n + r.val, by omega⟩ d) := by
  rw [outAt'_apply I _ (fun r => norm (iX I ⟨n + r.val, by omega⟩) (iG I)) (fun r d => by
    rw [pay6_apply]
    congr 1
    · funext k; exact xRows_apply I n hx r k _ rfl
    · funext k; exact gAll_apply I k) n hx r d ⟨n + r.val, by omega⟩ rfl]
  have e1 : (n + r.val) % 128 = r.val % 128 := by omega
  have e2 : ∀ q, n + (128 * (r.val / 128) + q) = 128 * ((n + r.val) / 128) + q := fun q => by omega
  have e3 : 128 * ((n + r.val) / 128) + r.val % 128 = n + r.val := by omega
  show _ = mixer (fun q => iX I ⟨128 * ((n + r.val) / 128) + q.val, _⟩) (iG I) (iW1 I) (iB I) (iGv I) (iWs I) (iBs I) (iW2 I) ⟨(n + r.val) % 128, _⟩ d
  unfold mixer
  simp only [e1, e2, e3]

/-- THE BLOCK: what a point leaves is `blkFn` of its operands. -/
theorem outBlk_eq : outBlk (F := Ideal) I = blkFn I := by
  funext y
  unfold outBlk
  refine View.read_writes_apply_of_pieces _ _ (blkFn I) _ ?_ y (blkPieces_cover I y)
  unfold blkPieces
  have emb : ∀ (n : ℕ) (h) (z : (⟨2, S256x1024.size⟩ : Shape).Idx) (hn : n + (z 0).val < 1024),
      (Rect.unit (s := S1024x1024) ![n, 0] S256x1024.size h).emb z = ix2 ⟨n + (z 0).val, hn⟩ (z 1) := fun n h z hn =>
    Shape.idx_ext₂ (show n + 1 * (z 0).val = n + (z 0).val by omega) (show 0 + 1 * (z 1).val = (z 1).val by omega)
  refine List.forall_mem_cons.mpr ⟨fun z => ?_, ?_⟩
  · have hz : (z 0).val < 256 := (z 0).isLt
    show o_3 I z = _
    dsimp only; rw [emb 768 _ z (by omega), o_eq_3, h_eq_3]
    exact (congrArg _ (eq_ix2 z)).trans (rows_apply I 768 _ rfl (by decide) (z 0) (z 1))
  refine List.forall_mem_cons.mpr ⟨fun z => ?_, ?_⟩
  · have hz : (z 0).val < 256 := (z 0).isLt
    show o_2 I z = _
    dsimp only; rw [emb 512 _ z (by omega), o_eq_2, h_eq_2]
    exact (congrArg _ (eq_ix2 z)).trans (rows_apply I 512 _ rfl (by decide) (z 0) (z 1))
  refine List.forall_mem_cons.mpr ⟨fun z => ?_, ?_⟩
  · have hz : (z 0).val < 256 := (z 0).isLt
    show o_1 I z = _
    dsimp only; rw [emb 256 _ z (by omega), o_eq_1, h_eq_1]
    exact (congrArg _ (eq_ix2 z)).trans (rows_apply I 256 _ rfl (by decide) (z 0) (z 1))
  refine List.forall_mem_cons.mpr ⟨fun z => ?_, fun _ h => absurd h List.not_mem_nil⟩
  · have hz : (z 0).val < 256 := (z 0).isLt
    show o_0 I z = _
    dsimp only; rw [emb 0 _ z (by omega), o_eq_0, h_eq_0]
    exact (congrArg _ (eq_ix2 z)).trans (rows_apply I 0 _ rfl (by decide) (z 0) (z 1))

end Cert.Kernel3Ideal.Hand

end
-- ==== Proof.Mixer.Run.lean ====
/-
  The spatial-gating mixer. The launch: the proof data of the pipeline (the block each point leaves, the scratch buffers' state between points), the
  body obligation from the two runs of the body, and the run of the whole program with its frame.
-/
module

public import proofs.«01_k».proof.Proof.Mixer.Body
public import proofs.«01_k».proof.Proof.Gen.Kernel3Ideal.Frame

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (Pipeline.UD sig nD τ) ℕ

variable (m : (ℓ : Loc nD τ sig) → Buf (Elt F) ℓ) (ρ : Dev nD → PrngReg)

/-! ## The program up to the region -/

theorem hmainD : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

/-! ## What the body holds between points -/

/-- The kernel's own semaphores, and the arrays its copies read. -/
abbrev osem0 : Fin 4 → SemLoc sig := fun j => (![SemLoc.dma 9, SemLoc.dma 10, SemLoc.dma 11, SemLoc.dma 12] : Fin 4 → SemLoc sig) j
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄) = semsZero (F := F) c := by
  rw [Pipeline.ownSems0_eq_of_list c osem0 [0, 1, 2, 3] (by decide) (by decide)]; rfl
def H0 : Finset (Ref sig .tc) := {main_arg2, main_arg7}
theorem H0_sub : H0 ⊆ Pipeline.restRefs sig spec0 := by decide
theorem hbmPts_eq (c : Dev nD) :
    (bigSep H0 (fun b => ((c : Thread nD τ).loc b) ↦{fullShare} V m c b) : sProp 𝕄) = iprop(pt c w1M (V m c main_arg2) ∗ pt c w2M (V m c main_arg7)) := by
  rw [BI.bigSep_eq_bigSepL_of_eq [main_arg2, main_arg7] (by decide) (by decide)]; rfl

/-- Before the first point: scratch and rings at anything, semaphores at zero, the weight arrays as launched. -/
theorem PhiD_eq (c : Dev nD) : (Pipeline.ΦD osem0 spec0 H0 (V m) c : sProp 𝕄)
    = iprop(((∃ a, pt (F := F) c hM a) ∗ (∃ a, pt (F := F) c vM a) ∗ (∃ a, pt (F := F) c s1M a) ∗ (∃ a, pt (F := F) c s2M a) ∗ (∃ b, pt (F := F) c g1M b) ∗ ∃ b, pt (F := F) c g2M b)
        ∗ (∃ r, prngReg c r) ∗ semsZero (F := F) c ∗ (pt c w1M (V m c main_arg2) ∗ pt c w2M (V m c main_arg7))) := by
  rw [Pipeline.ΦD_eq, scopedRest0_eq, ownSems_eq, hbmPts_eq]
/-- From the first point on: scratch at the cast weights. -/
def PhiF (c : Dev nD) : sProp 𝕄 :=
  iprop(((∃ a, pt (F := F) c hM a) ∗ (∃ a, pt (F := F) c vM a) ∗ holds c s1M (wb1 (V m c main_arg2)) ∗ holds c s2M (wb2 (V m c main_arg7)) ∗ (∃ b, pt (F := F) c g1M b) ∗ ∃ b, pt (F := F) c g2M b)
        ∗ (∃ r, prngReg c r) ∗ semsZero (F := F) c ∗ (pt c w1M (V m c main_arg2) ∗ pt c w2M (V m c main_arg7)))
theorem PhiF_forget (c : Dev nD) : PhiF m c ⊢ Pipeline.ΦD osem0 spec0 H0 (V m) c := by
  rw [PhiD_eq]; unfold PhiF
  iintro ⟨⟨Hh, Hv, ⟨%a1, -, Hs1⟩, ⟨%a2, -, Hs2⟩, Hg1, Hg2⟩, H⟩
  isplitr [H]
  · isplitl [Hh]; · iexact Hh
    isplitl [Hv]; · iexact Hv
    isplitl [Hs1]; · iexists a1; iexact Hs1
    isplitl [Hs2]; · iexists a2; iexact Hs2
    isplitl [Hg1]; · iexact Hg1
    iexact Hg2
  iexact H

/-! ## The proof data -/

/-- What point `t` reads, and the block it leaves. -/
def insAt (c : Dev nD) (t : Fin cfg0.N) : Ins F :=
  ⟨iblk m c 0 t, iblk m c 1 t, iblk m c 2 t, iblk m c 3 t, iblk m c 4 t, iblk m c 5 t, wb1 (V m c main_arg2), wb2 (V m c main_arg7)⟩
def outAt (c : Dev nD) (t : Fin cfg0.N) : Vec F S1024x1024 .f32 := outBlk (insAt m c t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := if t.val = 0 then Pipeline.ΦD osem0 spec0 H0 (V m) c else PhiF m c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

/-- Before the first point, and from the first point on. -/
theorem Phi_start (c : Dev nD) (t : Fin (cfg0.N + 1)) (h : t.val = 0) : (dats m 0 c).Φ t = Pipeline.ΦD osem0 spec0 H0 (V m) c := by
  dsimp only [dats]; exact if_pos h
theorem Phi_rest (c : Dev nD) (t : Fin (cfg0.N + 1)) (h : t.val ≠ 0) : (dats m 0 c).Φ t = PhiF m c := by
  dsimp only [dats]; exact if_neg h

/-- Each input window's staging buffer holds its block at every point. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-- The body fills at the first point only. -/
theorem cond_first : ∀ t : Fin cfg0.N, k0_cond1 (grid0.coords t) = 1#1 ↔ t.val = 0 :=
  (by decide : ∀ t : Fin 64, k0_cond1 (grid0.coords t) = 1#1 ↔ t.val = 0)

/-! ## The body obligation -/

abbrev ms0 (t : Fin cfg0.N) : Memref sig .tc .vmem S1024x1024 .f32 := win0_0.stage (cfg0.slots t 0)
abbrev ms1 (t : Fin cfg0.N) : Memref sig .tc .vmem S1x1024 .f32 := win0_1.stage (cfg0.slots t 1)
abbrev ms2 (t : Fin cfg0.N) : Memref sig .tc .vmem S1x4096 .f32 := win0_2.stage (cfg0.slots t 2)
abbrev ms3 (t : Fin cfg0.N) : Memref sig .tc .vmem S1x2048 .f32 := win0_3.stage (cfg0.slots t 3)
abbrev ms4 (t : Fin cfg0.N) : Memref sig .tc .vmem S8x128x128 .f32 := win0_4.stage (cfg0.slots t 4)
abbrev ms5 (t : Fin cfg0.N) : Memref sig .tc .vmem S128x8 .f32 := win0_5.stage (cfg0.slots t 5)
abbrev ms6 (t : Fin cfg0.N) : Memref sig .tc .vmem S1024x1024 .f32 := win0_6.stage (cfg0.slots t 6)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [after0, after1, after2, after3, after4, after5, after6]
  simp only [before0, before1, before2, before3, before4, before5]
  rw [Phi_rest m c t.succ (by rw [Fin.val_succ]; exact Nat.succ_ne_zero _)]
  unfold Dat.owesAt Pipeline.owesWithin
  rw [show (dats m 0 c).owed t.castSucc = 0 from rfl, show (dats m 0 c).owed t.succ = 0 from rfl]
  unfold outAt insAt
  by_cases h0 : t.val = 0
  · rw [Phi_start m c t.castSucc h0, PhiD_eq]
    unfold PhiF
    iintro ⟨⟨⟨Hh, Hv, Hs1, Hs2, Hg1, Hg2⟩, Hr, Hq, ⟨Hw1, Hw2⟩⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (body_first c (grid0.coords t) (ms0 t) _ (ms1 t) _ (ms2 t) _ (ms3 t) _ (ms4 t) _ (ms5 t) _ (ms6 t) _
      (iblk m c 0 t) (iblk m c 1 t) (iblk m c 2 t) (iblk m c 3 t) (iblk m c 4 t) (iblk m c 5 t)
      ((cond_first t).mpr h0) (V m c main_arg2) (V m c main_arg7) W _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [Hh]; · iexact Hh
    isplitl [Hv]; · iexact Hv
    isplitl [Hs1]; · iexact Hs1
    isplitl [Hs2]; · iexact Hs2
    isplitl [Hw1 Hw2 Hg1 Hg2 Hq]
    · isplitl [Hw1]; · iexact Hw1
      isplitl [Hw2]; · iexact Hw2
      isplitl [Hg1 Hg2]
      · isplitl [Hg1]; · iexact Hg1
        iexact Hg2
      iexact Hq
    isplitl [HW]; · iexact HW
    iintro ⟨⟨⟨H0, H1, H2, H3, H4, H5⟩, H6, Hh, Hv⟩, Hs1, Hs2, ⟨Hw1, Hw2, ⟨Hg1, Hg2⟩, Hq⟩, ⟨%W', HW'⟩⟩
    isplitl [Hh Hv Hs1 Hs2 Hg1 Hg2 Hr Hq Hw1 Hw2]
    · isplitl [Hh Hv Hs1 Hs2 Hg1 Hg2]
      · isplitl [Hh]; · iexact Hh
        isplitl [Hv]; · iexact Hv
        isplitl [Hs1]; · iexact Hs1
        isplitl [Hs2]; · iexact Hs2
        isplitl [Hg1]; · iexact Hg1
        iexact Hg2
      isplitl [Hr]; · iexact Hr
      isplitl [Hq]; · iexact Hq
      isplitl [Hw1]; · iexact Hw1
      iexact Hw2
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [Phi_rest m c t.castSucc h0]
    unfold PhiF
    iintro ⟨⟨⟨Hh, Hv, Hs1, Hs2, Hg⟩, Hr⟩, HW, ⟨%d0, H0⟩, ⟨%d1, H1⟩, ⟨%d2, H2⟩, ⟨%d3, H3⟩, ⟨%d4, H4⟩, ⟨%d5, H5⟩, ⟨%d6, H6⟩⟩
    iapply (body_later c (grid0.coords t) (ms0 t) _ (ms1 t) _ (ms2 t) _ (ms3 t) _ (ms4 t) _ (ms5 t) _ (ms6 t) _
      (iblk m c 0 t) (iblk m c 1 t) (iblk m c 2 t) (iblk m c 3 t) (iblk m c 4 t) (iblk m c 5 t)
      (fun h => h0 ((cond_first t).mp h)) (wb1 (V m c main_arg2)) (wb2 (V m c main_arg7)) _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [Hh]; · iexact Hh
    isplitl [Hv]; · iexact Hv
    isplitl [Hs1]; · iexact Hs1
    isplitl [Hs2]; · iexact Hs2
    iintro ⟨⟨⟨H0, H1, H2, H3, H4, H5⟩, H6, Hh, Hv⟩, Hs1, Hs2⟩
    isplitl [Hh Hv Hs1 Hs2 Hg Hr]
    · isplitl [Hh Hv Hs1 Hs2 Hg]
      · isplitl [Hh]; · iexact Hh
        isplitl [Hv]; · iexact Hv
        isplitl [Hs1]; · iexact Hs1
        isplitl [Hs2]; · iexact Hs2
        iexact Hg
      iexact Hr
    isplitl [HW]; · iexact HW
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every run ends with the arrays at what the proof data says, every other buffer unchanged and every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m) (hA := A_eq m)
    (hin := fun c => Entails.of_eq (Phi_start m c 0 rfl).symm)
    (hout := fun c => (Entails.of_eq (Phi_rest m c (Fin.last cfg0.N) (by decide))).trans (PhiF_forget m c))

/-- The frame: every argument array ends as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩) (run_main m ρ)

end Cert.Kernel3Ideal.Hand
-- ==== Proof.Mixer.Result.lean ====
/-
  The spatial-gating mixer. What the result array holds after the run, over the extended reals: row `n` is row `n` of the input
  flattened to a list of rows, with its chunk's gated product added.
-/
module

public import proofs.«01_k».proof.Proof.Mixer.Block
public import proofs.«01_k».proof.Proof.Mixer.Run

@[expose] public section

set_option maxRecDepth 16384

noncomputable section

namespace Cert.Kernel3Ideal.Hand

open Cert.Kernel3Ideal Cert.Kernel3Ideal.Gen Cert.Rows
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-! ## The arguments by coordinates -/

def inRow (x : S16x4096x1024.Idx → EReal) (n : Fin 65536) : Fin 1024 → EReal := fun k => x (ix3 ⟨n.val / 4096, by omega⟩ ⟨n.val % 4096, by omega⟩ k)
def inGain (g : S2x1024.Idx → EReal) : Fin 1024 → EReal := fun k => g (ix2 0 k)
def inW1 (w : S1x1024x4096.Idx → EReal) : Fin 1024 → Fin 4096 → EReal := fun d k => w (ix3 0 d k)
def inB (b : S1x4096.Idx → EReal) : Fin 4096 → EReal := fun k => b (ix2 0 k)
def inGv (g : S1x2048.Idx → EReal) : Fin 2048 → EReal := fun k => g (ix2 0 k)
def inWs (w : S1x8x128x128.Idx → EReal) : Fin 8 → Fin 128 → Fin 128 → EReal := fun j t q => w (ix4 0 j t q)
def inBs (b : S1x8x128.Idx → EReal) : Fin 8 → Fin 128 → EReal := fun j t => b (ix3 0 j t)
def inW2 (w : S1x2048x1024.Idx → EReal) : Fin 2048 → Fin 1024 → EReal := fun k j => w (ix3 0 k j)

/-! ## The arrays the region finds -/

theorem V_v0 : V m c main_v0 = shapeCast S65536x1024 (m ((c : Thread nD τ).loc main_arg0)) shapeCasts_S16x4096x1024_S65536x1024 := by
  show StableHlo.after hostOps0 _ _ = _
  after_results
  rfl
theorem V_v3 : V m c main_v3 = shapeCast S1x1024 (shapeCast S1024 (extractStridedSlice S1x1024 ![0, 0] (m ((c : Thread nD τ).loc main_arg1)) slices_S2x1024_S1x1024_0_0) shapeCasts_S1x1024_S1024) shapeCasts_S1024_S1x1024 := by
  show StableHlo.after hostOps0 _ _ = _
  after_results
  rfl
theorem V_v5 : V m c main_v5 = shapeCast S1x4096 (shapeCast S4096 (m ((c : Thread nD τ).loc main_arg3)) shapeCasts_S1x4096_S4096) shapeCasts_S4096_S1x4096 := by
  show StableHlo.after hostOps0 _ _ = _
  after_results
  rfl
theorem V_v7 : V m c main_v7 = shapeCast S1x2048 (shapeCast S2048 (m ((c : Thread nD τ).loc main_arg4)) shapeCasts_S1x2048_S2048) shapeCasts_S2048_S1x2048 := by
  show StableHlo.after hostOps0 _ _ = _
  after_results
  rfl
theorem V_v8 : V m c main_v8 = shapeCast S8x128x128 (m ((c : Thread nD τ).loc main_arg5)) shapeCasts_S1x8x128x128_S8x128x128 := by
  show StableHlo.after hostOps0 _ _ = _
  after_results
  rfl
theorem V_v10 : V m c main_v10 = transpose S128x8 [1, 0] (shapeCast S8x128 (m ((c : Thread nD τ).loc main_arg6)) shapeCasts_S1x8x128_S8x128) transposes_S8x128_S128x8_1_0 := by
  show StableHlo.after hostOps0 _ _ = _
  after_results
  rfl

/-- A cast weight at an index. -/
theorem wb1_apply (w : main_arg2.ty.Contents (Elt Ideal)) (d : Fin 1024) (k : Fin 4096) : wb1 (F := Ideal) w (ix2 d k) = inW1 w d k := by
  unfold wb1
  rw [Memref.read_squeeze_slice w1M _ _ _ (by decide)]
  rw [View.readAt_eq_ld]
  pointwise
  rfl
theorem wb2_apply (w : main_arg7.ty.Contents (Elt Ideal)) (k : Fin 2048) (j : Fin 1024) : wb2 (F := Ideal) w (ix2 k j) = inW2 w k j := by
  unfold wb2
  rw [Memref.read_squeeze_slice w2M _ _ _ (by decide)]
  rw [View.readAt_eq_ld]
  pointwise
  rfl

/-- The host's layouts of the arguments, at an index. -/
theorem flat_apply (x : Vec Ideal S16x4096x1024 .f32) (n : Fin 65536) (k : Fin 1024) :
    shapeCast S65536x1024 x shapeCasts_S16x4096x1024_S65536x1024 (ix2 n k) = inRow x n k := by
  pointwise
  rfl
theorem gain_apply (g : Vec Ideal S2x1024 .f32) (k : Fin 1024) :
    shapeCast S1x1024 (shapeCast S1024 (extractStridedSlice S1x1024 ![0, 0] g slices_S2x1024_S1x1024_0_0) shapeCasts_S1x1024_S1024) shapeCasts_S1024_S1x1024 (ix2 0 k) = inGain g k := by
  pointwise
  rfl
theorem bias_apply (b : Vec Ideal S1x4096 .f32) (k : Fin 4096) :
    shapeCast S1x4096 (shapeCast S4096 b shapeCasts_S1x4096_S4096) shapeCasts_S4096_S1x4096 (ix2 0 k) = inB b k := by
  pointwise
  rfl
theorem gain2_apply (g : Vec Ideal S1x2048 .f32) (k : Fin 2048) :
    shapeCast S1x2048 (shapeCast S2048 g shapeCasts_S1x2048_S2048) shapeCasts_S2048_S1x2048 (ix2 0 k) = inGv g k := by
  pointwise
  rfl
theorem mix_apply (w : Vec Ideal S1x8x128x128 .f32) (j : Fin 8) (t q : Fin 128) :
    shapeCast S8x128x128 w shapeCasts_S1x8x128x128_S8x128x128 (ix3 j t q) = inWs w j t q := by
  pointwise
  rfl
theorem mixBias_apply (b : Vec Ideal S1x8x128 .f32) (t : Fin 128) (j : Fin 8) :
    transpose S128x8 [1, 0] (shapeCast S8x128 b shapeCasts_S1x8x128_S8x128) transposes_S8x128_S128x8_1_0 (ix2 t j) = inBs b j t := by
  pointwise
  rfl

/-! ## The blocks -/

/-- Where each window's block sits: the point's 1024 rows, the whole of the others. -/
theorem idx_facts : ∀ t : Fin cfg0.N, win0_0.index t 0 = t.val ∧ win0_0.index t 1 = 0 ∧ win0_1.index t 0 = 0 ∧ win0_1.index t 1 = 0 ∧ win0_2.index t 0 = 0 ∧ win0_2.index t 1 = 0 ∧ win0_3.index t 0 = 0 ∧ win0_3.index t 1 = 0 ∧ win0_4.index t 0 = 0 ∧ win0_4.index t 1 = 0 ∧ win0_4.index t 2 = 0 ∧ win0_5.index t 0 = 0 ∧ win0_5.index t 1 = 0 ∧ win0_6.index t 0 = t.val ∧ win0_6.index t 1 = 0 :=
  (by decide +kernel : ∀ t : Fin grid0.N, _)
theorem N_lt (t : Fin cfg0.N) (r : Fin 1024) : 1024 * t.val + r.val < 65536 := by
  have : t.val < 64 := t.isLt
  omega
theorem fetch0 (t : Fin cfg0.N) (r k : Fin 1024) : iblk m c 0 t (ix2 r k) = V m c main_v0 (ix2 ⟨1024 * t.val + r.val, N_lt t r⟩ k) := by
  obtain ⟨q0_0, q0_1, q1_0, q1_1, q2_0, q2_1, q3_0, q3_1, q4_0, q4_1, q4_2, q5_0, q5_1, q6_0, q6_1⟩ := idx_facts t
  refine congrArg (V m c main_v0) (Shape.idx_ext₂ ?_ ?_)
  · refine (win0_0.rect_emb_val t (ix2 r k) 0).trans ?_
    rw [q0_0]; show t.val * 1024 + r.val = 1024 * t.val + r.val; omega
  · refine (win0_0.rect_emb_val t (ix2 r k) 1).trans ?_
    rw [q0_1]; show 0 * 1024 + k.val = k.val; omega
theorem fetch1 (t : Fin cfg0.N) (k : Fin 1024) : iblk m c 1 t (ix2 0 k) = V m c main_v3 (ix2 0 k) := by
  obtain ⟨q0_0, q0_1, q1_0, q1_1, q2_0, q2_1, q3_0, q3_1, q4_0, q4_1, q4_2, q5_0, q5_1, q6_0, q6_1⟩ := idx_facts t
  refine congrArg (V m c main_v3) (Shape.idx_ext₂ ?_ ?_)
  · refine (win0_1.rect_emb_val t (ix2 0 k) 0).trans ?_
    rw [q1_0]; rfl
  · refine (win0_1.rect_emb_val t (ix2 0 k) 1).trans ?_
    rw [q1_1]; show 0 * 1024 + k.val = k.val; omega
theorem fetch2 (t : Fin cfg0.N) (k : Fin 4096) : iblk m c 2 t (ix2 0 k) = V m c main_v5 (ix2 0 k) := by
  obtain ⟨q0_0, q0_1, q1_0, q1_1, q2_0, q2_1, q3_0, q3_1, q4_0, q4_1, q4_2, q5_0, q5_1, q6_0, q6_1⟩ := idx_facts t
  refine congrArg (V m c main_v5) (Shape.idx_ext₂ ?_ ?_)
  · refine (win0_2.rect_emb_val t (ix2 0 k) 0).trans ?_
    rw [q2_0]; rfl
  · refine (win0_2.rect_emb_val t (ix2 0 k) 1).trans ?_
    rw [q2_1]; show 0 * 4096 + k.val = k.val; omega
theorem fetch3 (t : Fin cfg0.N) (k : Fin 2048) : iblk m c 3 t (ix2 0 k) = V m c main_v7 (ix2 0 k) := by
  obtain ⟨q0_0, q0_1, q1_0, q1_1, q2_0, q2_1, q3_0, q3_1, q4_0, q4_1, q4_2, q5_0, q5_1, q6_0, q6_1⟩ := idx_facts t
  refine congrArg (V m c main_v7) (Shape.idx_ext₂ ?_ ?_)
  · refine (win0_3.rect_emb_val t (ix2 0 k) 0).trans ?_
    rw [q3_0]; rfl
  · refine (win0_3.rect_emb_val t (ix2 0 k) 1).trans ?_
    rw [q3_1]; show 0 * 2048 + k.val = k.val; omega
theorem fetch4 (t : Fin cfg0.N) (j : Fin 8) (a q : Fin 128) : iblk m c 4 t (ix3 j a q) = V m c main_v8 (ix3 j a q) := by
  obtain ⟨q0_0, q0_1, q1_0, q1_1, q2_0, q2_1, q3_0, q3_1, q4_0, q4_1, q4_2, q5_0, q5_1, q6_0, q6_1⟩ := idx_facts t
  refine congrArg (V m c main_v8) (funext fun ax => Fin.ext ?_)
  match ax with
  | ⟨0, _⟩ =>
    refine (win0_4.rect_emb_val t (ix3 j a q) 0).trans ?_
    rw [q4_0]; show 0 * 8 + j.val = j.val; omega
  | ⟨1, _⟩ =>
    refine (win0_4.rect_emb_val t (ix3 j a q) 1).trans ?_
    rw [q4_1]; show 0 * 128 + a.val = a.val; omega
  | ⟨2, _⟩ =>
    refine (win0_4.rect_emb_val t (ix3 j a q) 2).trans ?_
    rw [q4_2]; show 0 * 128 + q.val = q.val; omega
theorem fetch5 (t : Fin cfg0.N) (a : Fin 128) (j : Fin 8) : iblk m c 5 t (ix2 a j) = V m c main_v10 (ix2 a j) := by
  obtain ⟨q0_0, q0_1, q1_0, q1_1, q2_0, q2_1, q3_0, q3_1, q4_0, q4_1, q4_2, q5_0, q5_1, q6_0, q6_1⟩ := idx_facts t
  refine congrArg (V m c main_v10) (Shape.idx_ext₂ ?_ ?_)
  · refine (win0_5.rect_emb_val t (ix2 a j) 0).trans ?_
    rw [q5_0]; show 0 * 128 + a.val = a.val; omega
  · refine (win0_5.rect_emb_val t (ix2 a j) 1).trans ?_
    rw [q5_1]; show 0 * 8 + j.val = j.val; omega
theorem iblk0_apply (t : Fin cfg0.N) (r k : Fin 1024) : iblk m c 0 t (ix2 r k) = inRow (m ((c : Thread nD τ).loc main_arg0)) ⟨1024 * t.val + r.val, N_lt t r⟩ k := by
  rw [fetch0, V_v0]; exact flat_apply _ _ k
theorem iblk1_apply (t : Fin cfg0.N) (k : Fin 1024) : iblk m c 1 t (ix2 0 k) = inGain (m ((c : Thread nD τ).loc main_arg1)) k := by
  rw [fetch1, V_v3]; exact gain_apply _ k
theorem iblk2_apply (t : Fin cfg0.N) (k : Fin 4096) : iblk m c 2 t (ix2 0 k) = inB (m ((c : Thread nD τ).loc main_arg3)) k := by
  rw [fetch2, V_v5]; exact bias_apply _ k
theorem iblk3_apply (t : Fin cfg0.N) (k : Fin 2048) : iblk m c 3 t (ix2 0 k) = inGv (m ((c : Thread nD τ).loc main_arg4)) k := by
  rw [fetch3, V_v7]; exact gain2_apply _ k
theorem iblk4_apply (t : Fin cfg0.N) (j : Fin 8) (a q : Fin 128) : iblk m c 4 t (ix3 j a q) = inWs (m ((c : Thread nD τ).loc main_arg5)) j a q := by
  rw [fetch4, V_v8]; exact mix_apply _ j a q
theorem iblk5_apply (t : Fin cfg0.N) (a : Fin 128) (j : Fin 8) : iblk m c 5 t (ix2 a j) = inBs (m ((c : Thread nD τ).loc main_arg6)) j a := by
  rw [fetch5, V_v10]; exact mixBias_apply _ a j

/-! ## The result array -/

/-- The result array of device `c`, as a function of its arguments: row by row, the chunk's mixed row. -/
def resFn (x : S16x4096x1024.Idx → EReal) (g : S2x1024.Idx → EReal) (w1 : S1x1024x4096.Idx → EReal) (b : S1x4096.Idx → EReal) (gv : S1x2048.Idx → EReal)
    (ws : S1x8x128x128.Idx → EReal) (bs : S1x8x128.Idx → EReal) (w2 : S1x2048x1024.Idx → EReal) : S65536x1024.Idx → EReal := fun i =>
  mixRow (inRow x) (inGain g) (inW1 w1) (inB b) (inGv gv) (inWs ws) (inBs bs) (inW2 w2) (i 0) (i 1)
abbrev resArr : Buf (Elt Ideal) ((c : Thread nD τ).loc main_v11) :=
  resFn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- Row `r` of point `t`'s block of the result. -/
def rowFn (t : Fin cfg0.N) (r : Fin 1024) : Fin 1024 → EReal :=
  mixRow (inRow (m ((c : Thread nD τ).loc main_arg0))) (inGain (m ((c : Thread nD τ).loc main_arg1))) (inW1 (m ((c : Thread nD τ).loc main_arg2))) (inB (m ((c : Thread nD τ).loc main_arg3))) (inGv (m ((c : Thread nD τ).loc main_arg4))) (inWs (m ((c : Thread nD τ).loc main_arg5))) (inBs (m ((c : Thread nD τ).loc main_arg6))) (inW2 (m ((c : Thread nD τ).loc main_arg7))) ⟨1024 * t.val + r.val, N_lt t r⟩

/-- What point `t`'s body leaves, row by row. -/
theorem outAt_eq (t : Fin cfg0.N) : outAt m c t = fun y => rowFn m c t (y 0) (y 1) := by
  unfold outAt insAt
  rw [outBlk_eq, V_main_arg2, V_main_arg7]
  funext y
  have hy : (y 0).val < 1024 := (y 0).isLt
  have ht : t.val < 64 := t.isLt
  have e : ∀ q : Fin 128, 1024 * t.val + (128 * ((y 0).val / 128) + q.val) = 128 * ((1024 * t.val + (y 0).val) / 128) + q.val := fun q => by omega
  have e' : (y 0).val % 128 = (1024 * t.val + (y 0).val) % 128 := by omega
  unfold blkFn rowFn mixRow
  congr 1
  · funext q k
    refine (iblk0_apply m c t _ k).trans ?_
    exact congrArg (fun n => inRow (m ((c : Thread nD τ).loc main_arg0)) n k) (Fin.ext (e q))
  · funext k; exact iblk1_apply m c t k
  · funext d k; exact wb1_apply _ d k
  · funext k; exact iblk2_apply m c t k
  · funext k; exact iblk3_apply m c t k
  · funext j a q; exact iblk4_apply m c t j a q
  · funext j a; exact iblk5_apply m c t a j
  · funext k j; exact wb2_apply _ k j
  · exact Fin.ext e'

/-- Where point `t`'s block of the result sits. -/
theorem emb6 (t : Fin cfg0.N) (y : S1024x1024.Idx) : (win0_6.rect t).emb y = ix2 (n0 := 65536) (n1 := 1024) ⟨1024 * t.val + (y 0).val, N_lt t (y 0)⟩ (y 1) := by
  obtain ⟨q0_0, q0_1, q1_0, q1_1, q2_0, q2_1, q3_0, q3_1, q4_0, q4_1, q4_2, q5_0, q5_1, q6_0, q6_1⟩ := idx_facts t
  refine Shape.idx_ext₂ ?_ ?_
  · refine (win0_6.rect_emb_val t y 0).trans ?_
    rw [q6_0]; show t.val * 1024 + (y 0).val = 1024 * t.val + (y 0).val; omega
  · refine (win0_6.rect_emb_val t y 1).trans ?_
    rw [q6_1]; show 0 * 1024 + (y 1).val = (y 1).val; omega

/-- What point `t` writes back is block `t` of it. -/
theorem flushed_eq (t : Fin cfg0.N) : (dats m 0 c).flushed 6 t = ((cfg0.win 6).blk t).view.read (Elt Ideal) (resArr m c) := by
  show (cfg0.win 6).cut (grid0.coords t) ((dats m 0 c).after 6 t) = _
  rw [after6, outAt_eq]
  funext y
  have hr : (y 0).val < 1024 := (y 0).isLt
  have hk : (y 1).val < 1024 := (y 1).isLt
  show rowFn m c t (y 0) (y 1) = resArr m c ((win0_6.rect t).emb y)
  rw [emb6 t y]
  rfl

/-- The blocks tile the array. -/
theorem cover (i : S65536x1024.Idx) : ∃ t : Fin cfg0.N, (cfg0.win 6).flush t = true ∧ i ∈ ((cfg0.win 6).blk t).view.set := by
  have h0 : (i 0 : ℕ) < 65536 := (i 0).isLt
  have h1 : (i 1 : ℕ) < 1024 := (i 1).isLt
  let t : Fin cfg0.N := (⟨(i 0 : ℕ) / 1024, by omega⟩ : Fin 64)
  refine ⟨t, (by decide +kernel : ∀ t : Fin grid0.N, win0_6.flush t = true) t, ?_⟩
  show i ∈ ((View.whole main_v11).slice (win0_6.rect t)).set
  rw [View.set_slice_whole, Rect.mem_set_unit]
  obtain ⟨q0_0, q0_1, q1_0, q1_1, q2_0, q2_1, q3_0, q3_1, q4_0, q4_1, q4_2, q5_0, q5_1, q6_0, q6_1⟩ := idx_facts t
  intro a
  match a with
  | ⟨0, _⟩ =>
    show win0_6.index t 0 * 1024 ≤ (i 0 : ℕ) ∧ (i 0 : ℕ) < win0_6.index t 0 * 1024 + 1024
    rw [q6_0]; show (i 0 : ℕ) / 1024 * 1024 ≤ (i 0 : ℕ) ∧ (i 0 : ℕ) < (i 0 : ℕ) / 1024 * 1024 + 1024; omega
  | ⟨1, _⟩ =>
    show win0_6.index t 1 * 1024 ≤ (i 1 : ℕ) ∧ (i 1 : ℕ) < win0_6.index t 1 * 1024 + 1024
    rw [q6_1]; omega

/-- So the result array ends as `resArr`, -/
theorem final : (dats m 0 c).arrAt 6 cfg0.N = resArr m c :=
  (dats m 0 c).arrAt_eq_of_cover 6 (resArr m c) (fun t _ => flushed_eq m c t) cover

/-- and the run, read: the result array at `resArr`, the arguments unchanged. -/
theorem run : θ_run defs (onTc (τ := τ) (main (F := Ideal))) ⟨m, fun _ => 0, ρ⟩ fun r => ∀ c : Dev nD,
      r.2.mem ((c.tc : Thread nD τ).loc main_v11) = resArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h.1 c).1 6).trans (final m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩) (run_main m ρ)

end Cert.Kernel3Ideal.Hand

end
-- ==== Proof.Mixer.Reference.lean ====
/-
  The spatial-gating mixer. What the reference computes, over the extended reals: the same function of its arguments' rows.
-/
module

public import proofs.«01_k».proof.Proof.Gen.Reference3Ideal.Run
public import proofs.«01_k».proof.Proof.Mixer.Rows
public import Idealize.ShloMosaic.Lib.Tactic.CleanTypes

@[expose] public section

set_option maxRecDepth 16384

noncomputable section

namespace Cert.Reference3Ideal.Hand

open Cert.Reference3Ideal Cert.Reference3Ideal.Value Cert.Rows
open Idealize.ShloMosaic Idealize.ShloMosaic.TcCoe Idealize.ShloMosaic.Tactic
open Idealize.SL.Sem
open Facts₀

/-! ## The reference's steps -/

section Steps
variable (a0 : FVec Ideal S16x4096x1024 .f32) (a1 : FVec Ideal S2x1024 .f32) (a2 : FVec Ideal S1x1024x4096 .f32) (a3 : FVec Ideal S1x4096 .f32)
  (a4 : FVec Ideal S1x2048 .f32) (a5 : FVec Ideal S1x8x128x128 .f32) (a6 : FVec Ideal S1x8x128 .f32) (a7 : FVec Ideal S1x2048x1024 .f32)

/-- The projection of the normalised rows, its bias added. -/
def zArr : FVec Ideal S16x4096x4096 .f32 :=
  addf (Host.dotGeneral dot_S16x4096x1024_S1024x4096_S16x4096x4096_2_0_01_1_n_n none (mulf (mulf a0 (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf a0 a0) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 (shapeCast _ (extractStridedSlice S1x1024 ![0, 0] a1 slices_S2x1024_S1x1024_0_0) shapeCasts_S1x1024_S1024)))) (shapeCast _ a2 shapeCasts_S1x1024x4096_S1024x4096)) (broadcastInDim S16x4096x4096 ![0, 1, 2] bcast_S1x1x4096_S16x4096x4096_0_1_2 (broadcastInDim S1x1x4096 ![2] bcast_S4096_S1x1x4096_2 (shapeCast _ a3 shapeCasts_S1x4096_S4096)))
/-- The gelu of the projection. -/
def yArr (z : FVec Ideal S16x4096x4096 .f32) : FVec Ideal S16x4096x4096 .f32 :=
  mulf z (mulf (broadcastInDim S16x4096x4096 ![] bcast_S_S16x4096x4096 (constant S_ .f32 0x3F000000#32)) (addf (broadcastInDim S16x4096x4096 ![] bcast_S_S16x4096x4096 (constant S_ .f32 0x3F800000#32)) (Host.tanh (mulf (broadcastInDim S16x4096x4096 ![] bcast_S_S16x4096x4096 (constant S_ .f32 0x3F4C422A#32)) (addf z (mulf (broadcastInDim S16x4096x4096 ![] bcast_S_S16x4096x4096 (constant S_ .f32 0x3D372713#32)) (mulf (mulf z z) z)))))))
/-- The second half, normalised. -/
def vArr (y : FVec Ideal S16x4096x4096 .f32) : FVec Ideal S16x4096x2048 .f32 :=
  mulf (mulf (extractStridedSlice S16x4096x2048 ![0, 0, 2048] y slices_S16x4096x4096_S16x4096x2048_0_0_2048) (broadcastInDim S16x4096x2048 ![0, 1, 2] bcast_S16x4096x1_S16x4096x2048_0_1_2 (Host.rsqrt (addf (Host.divf (broadcastInDim S16x4096x1 ![0, 1] bcast_S16x4096_S16x4096x1_0_1 (Host.reduceAdd (mulf (extractStridedSlice S16x4096x2048 ![0, 0, 2048] y slices_S16x4096x4096_S16x4096x2048_0_0_2048) (extractStridedSlice S16x4096x2048 ![0, 0, 2048] y slices_S16x4096x4096_S16x4096x2048_0_0_2048)) (constant S_ .f32 0x00000000#32) reducesTo_S16x4096x2048_S16x4096_d2 h_S_)) (broadcastInDim S16x4096x1 ![] bcast_S_S16x4096x1 (constant S_ .f32 0x45000000#32))) (broadcastInDim S16x4096x1 ![] bcast_S_S16x4096x1 (constant S_ .f32 0x358637BD#32)))))) (broadcastInDim S16x4096x2048 ![0, 1, 2] bcast_S1x1x2048_S16x4096x2048_0_1_2 (broadcastInDim S1x1x2048 ![2] bcast_S2048_S1x1x2048_2 (shapeCast _ a4 shapeCasts_S1x2048_S2048)))
/-- The spatial weights under the causal mask. -/
def wArr : FVec Ideal S8x128x128 .f32 :=
  select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (shapeCast _ a5 shapeCasts_S1x8x128x128_S8x128x128) (broadcastInDim S8x128x128 ![] bcast_S_S8x128x128 (id (constant S_ .f32 0x00000000#32)))
/-- The causal mix of each chunk, its bias added. -/
def sArr (v : FVec Ideal S16x4096x2048 .f32) (w : FVec Ideal S8x128x128 .f32) : FVec Ideal S16x4096x2048 .f32 :=
  shapeCast _ (addf (transpose S16x32x128x8x256 [1, 2, 4, 0, 3] (Host.dotGeneral dot_S16x32x128x8x256_S8x128x128_S8x16x32x256x128_2_2_014_1_3_0 none (shapeCast _ v shapeCasts_S16x4096x2048_S16x32x128x8x256) w) transposes_S8x16x32x256x128_S16x32x128x8x256_1_2_4_0_3) (broadcastInDim S16x32x128x8x256 ![0, 1, 2, 3, 4] bcast_S1x1x128x8x1_S16x32x128x8x256_0_1_2_3_4 (broadcastInDim S1x1x128x8x1 ![2, 3, 4] bcast_S128x8x1_S1x1x128x8x1_2_3_4 (broadcastInDim S128x8x1 ![0, 1] bcast_S128x8_S128x8x1_0_1 (transpose S128x8 [1, 0] (shapeCast _ a6 shapeCasts_S1x8x128_S8x128) transposes_S8x128_S128x8_1_0))))) shapeCasts_S16x32x128x8x256_S16x4096x2048
/-- The rows with the gated product added. -/
def oArr (y : FVec Ideal S16x4096x4096 .f32) (s : FVec Ideal S16x4096x2048 .f32) : FVec Ideal S65536x1024 .f32 :=
  shapeCast _ (addf a0 (Host.dotGeneral dot_S16x4096x2048_S2048x1024_S16x4096x1024_2_0_01_1_n_n none (mulf (extractStridedSlice S16x4096x2048 ![0, 0, 0] y slices_S16x4096x4096_S16x4096x2048_0_0_0) s) (shapeCast _ a7 shapeCasts_S1x2048x1024_S2048x1024))) shapeCasts_S16x4096x1024_S65536x1024

theorem zArr_apply (b : Fin 16) (n : Fin 4096) (k : Fin 4096) : zArr a0 a1 a2 a3 (ix3 b n k)
    = proj (norm (fun d => a0 (ix3 b n d)) (fun d => a1 (ix2 0 d))) (fun d k => a2 (ix3 0 d k)) (fun k => a3 (ix2 0 k)) k := by
  pointwise [zArr]
  rfl
theorem yArr_apply (z : FVec Ideal S16x4096x4096 .f32) (b : Fin 16) (n : Fin 4096) (k : Fin 4096) : yArr z (ix3 b n k) = gelu (z (ix3 b n k)) := by
  pointwise [yArr]
  unfold gelu
  rw [ofBits_one, EReal.coe_one]
theorem vArr_apply (y : FVec Ideal S16x4096x4096 .f32) (b : Fin 16) (n : Fin 4096) (k : Fin 2048) : vArr a4 y (ix3 b n k)
    = norm2 (fun k => y (ix3 b n ⟨2048 + k.val, by omega⟩)) (fun k => a4 (ix2 0 k)) k := by
  pointwise [vArr]
  rfl
theorem wArr_apply (j : Fin 8) (t q : Fin 128) : wArr a5 (ix3 j t q) = if q ≤ t then a5 (ix4 0 j t q) else 0 := by
  have z : id (constant (F := Ideal) S_ .f32 0x00000000#32) ix0 = 0 := by
    show constant (F := Ideal) S_ .f32 0x00000000#32 ix0 = 0
    pointwise
  have e : IntOp.addi (BitVec.ofNat 32 t.val) 0#32 = BitVec.ofNat 32 t.val := BitVec.add_zero _
  pointwise [wArr]
  rw [z, e]
  exact causal_ge t q _ _
theorem sArr_apply (v : FVec Ideal S16x4096x2048 .f32) (w : FVec Ideal S8x128x128 .f32) (b : Fin 16) (n : Fin 4096) (k : Fin 2048) : sArr a6 v w (ix3 b n k)
    = ∑ q : Fin 128, v (ix3 b ⟨128 * (n.val / 128) + q.val, by omega⟩ k) * w (ix3 ⟨k.val / 256, by omega⟩ ⟨n.val % 128, by omega⟩ q)
      + a6 (ix3 0 ⟨k.val / 256, by omega⟩ ⟨n.val % 128, by omega⟩) := by
  pointwise [sArr]
  simp only [Nat.mul_comm (n.val / 128) 128]
theorem oArr_apply (y : FVec Ideal S16x4096x4096 .f32) (s : FVec Ideal S16x4096x2048 .f32) (n : Fin 65536) (d : Fin 1024) : oArr a0 a7 y s (ix2 n d)
    = a0 (ix3 ⟨n.val / 4096, by omega⟩ ⟨n.val % 4096, by omega⟩ d)
      + ∑ k : Fin 2048, y (ix3 ⟨n.val / 4096, by omega⟩ ⟨n.val % 4096, by omega⟩ ⟨k.val, by omega⟩) * s (ix3 ⟨n.val / 4096, by omega⟩ ⟨n.val % 4096, by omega⟩ k) * a7 (ix3 0 k d) := by
  pointwise [oArr]

end Steps

variable (m : (ℓ : Loc nD τ sig) → Buf (Elt Ideal) ℓ) (c : Dev nD)

/-- The reference's result is its steps, one after another. -/
theorem res_eq : (res_main_v69 (F := Ideal) m c : S65536x1024.Idx → EReal)
    = oArr (m ((c.tc : Thread nD τ).loc main_arg0)) (m ((c.tc : Thread nD τ).loc main_arg7))
        (yArr (zArr (m ((c.tc : Thread nD τ).loc main_arg0)) (m ((c.tc : Thread nD τ).loc main_arg1)) (m ((c.tc : Thread nD τ).loc main_arg2)) (m ((c.tc : Thread nD τ).loc main_arg3))))
        (sArr (m ((c.tc : Thread nD τ).loc main_arg6))
          (vArr (m ((c.tc : Thread nD τ).loc main_arg4)) (yArr (zArr (m ((c.tc : Thread nD τ).loc main_arg0)) (m ((c.tc : Thread nD τ).loc main_arg1)) (m ((c.tc : Thread nD τ).loc main_arg2)) (m ((c.tc : Thread nD τ).loc main_arg3)))))
          (wArr (m ((c.tc : Thread nD τ).loc main_arg5)))) := rfl

/-- The reference's result, row by row. -/
def refArr : S65536x1024.Idx → EReal := fun i =>
  mixRow (fun n k => m ((c.tc : Thread nD τ).loc main_arg0) (ix3 ⟨n.val / 4096, by omega⟩ ⟨n.val % 4096, by omega⟩ k))
    (fun d => m ((c.tc : Thread nD τ).loc main_arg1) (ix2 0 d)) (fun d k => m ((c.tc : Thread nD τ).loc main_arg2) (ix3 0 d k))
    (fun k => m ((c.tc : Thread nD τ).loc main_arg3) (ix2 0 k)) (fun k => m ((c.tc : Thread nD τ).loc main_arg4) (ix2 0 k))
    (fun j t q => m ((c.tc : Thread nD τ).loc main_arg5) (ix4 0 j t q)) (fun j t => m ((c.tc : Thread nD τ).loc main_arg6) (ix3 0 j t))
    (fun k j => m ((c.tc : Thread nD τ).loc main_arg7) (ix3 0 k j)) (i 0) (i 1)

/-- The steps in one, at row `n` of the flattened result. -/
theorem steps_apply (a0 : FVec Ideal S16x4096x1024 .f32) (a1 : FVec Ideal S2x1024 .f32) (a2 : FVec Ideal S1x1024x4096 .f32) (a3 : FVec Ideal S1x4096 .f32)
    (a4 : FVec Ideal S1x2048 .f32) (a5 : FVec Ideal S1x8x128x128 .f32) (a6 : FVec Ideal S1x8x128 .f32) (a7 : FVec Ideal S1x2048x1024 .f32)
    (n : Fin 65536) (d : Fin 1024) :
    oArr a0 a7 (yArr (zArr a0 a1 a2 a3)) (sArr a6 (vArr a4 (yArr (zArr a0 a1 a2 a3))) (wArr a5)) (ix2 n d)
      = mixRow (fun n k => a0 (ix3 ⟨n.val / 4096, by omega⟩ ⟨n.val % 4096, by omega⟩ k)) (fun d => a1 (ix2 0 d)) (fun d k => a2 (ix3 0 d k)) (fun k => a3 (ix2 0 k))
          (fun k => a4 (ix2 0 k)) (fun j t q => a5 (ix4 0 j t q)) (fun j t => a6 (ix3 0 j t)) (fun k j => a7 (ix3 0 k j)) n d := by
  have e1 : 128 * (n.val / 128) + n.val % 128 = n.val := by omega
  have e2 : ∀ q : Fin 128, (128 * (n.val / 128) + q.val) / 4096 = n.val / 4096 := fun q => by omega
  have e3 : ∀ q : Fin 128, (128 * (n.val / 128) + q.val) % 4096 = 128 * (n.val % 4096 / 128) + q.val := fun q => by omega
  have e4 : n.val % 4096 % 128 = n.val % 128 := by omega
  rw [oArr_apply]
  simp only [yArr_apply, zArr_apply, sArr_apply, vArr_apply, wArr_apply]
  unfold mixRow mixer mixed second
  simp only [e1, e2, e3, e4]

theorem term_eq : (res_main_v69 (F := Ideal) m c : S65536x1024.Idx → EReal) = refArr m c := by
  rw [res_eq]
  funext i
  rw [eq_ix2 i]
  exact steps_apply _ _ _ _ _ _ _ _ (i 0) (i 1)

/-- The reference's run, read: the result array row by row, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v69) = refArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (term_eq m c), (h c).2⟩) (Value.run (F := Ideal) m ρ)

end Cert.Reference3Ideal.Hand

end
-- ==== Proof.Retention.State.lean ====
/-
  The retention mixer. The buffers of its body, and the state between the sections of a grid point: every buffer held, at any
  contents.
-/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- A buffer held whole, at any contents. -/
abbrev anyM (c : Dev nD) {sp : Space} {S : Shape} {e : EltTy} (M : Memref sig .tc sp S e) : sProp 𝕄 :=
  iprop(∃ f : Buf (Elt F) (M.view.loc (c : Thread nD τ)), M.view.loc (c : Thread nD τ) ↦{fullShare} f)
/-- A memref's own elements held, at any contents. -/
abbrev anyOn (c : Dev nD) {sp : Space} {S : Shape} {e : EltTy} (M : Memref sig .tc sp S e) : sProp 𝕄 :=
  iprop(∃ f : Buf (Elt F) (M.view.loc (c : Thread nD τ)), M.view.loc (c : Thread nD τ) ↦[M.view.set]{fullShare} f)

/-- The state between sections: the windows and the scratch buffers held at any contents, and whatever else is held. -/
def St (c : Dev nD)
    (arg2 : Memref sig .tc .smem S4 .f32)
    (arg3 : Memref sig .tc .vmem S1x1024x1024 .f32)
    (arg4 : Memref sig .tc .vmem S1x1024 .f32)
    (arg6 : Memref sig .tc .vmem S1024x128 .f32)
    (arg7 : Memref sig .tc .vmem S1024x128 .f32)
    (arg8 : Memref sig .tc .vmem S4x256x256 .f32)
    (arg9 : Memref sig .tc .vmem S4x256x256 .f32)
    (arg10 : Memref sig .tc .vmem S4x256x256 .f32)
    (arg11 : Memref sig .tc .vmem S1x2048 .f32)
    (arg13 : Memref sig .tc .vmem S1x1024x1024 .f32)
    (arg14 : Memref sig .tc .vmem S2x256x1024 .bf16)
    (arg15 : Memref sig .tc .vmem S4x256x512 .f32)
    (arg16 : Memref sig .tc .vmem S2x256x1024 .bf16)
    (arg17 : Memref sig .tc .vmem S2x256x1024 .bf16)
    (arg18 : Memref sig .tc .vmem S2x256x1024 .bf16)
    (arg19 : Memref sig .tc .vmem S2x256x1024 .bf16)
    (arg20 : Memref sig .tc .vmem S2x256x2048 .bf16)
    (arg21 : Memref sig .tc .vmem S2x256x2048 .bf16)
    (arg22 : Memref sig .tc .vmem S1024x6144 .bf16)
    (arg23 : Memref sig .tc .vmem S2048x1024 .bf16)
    (R : sProp 𝕄) : sProp 𝕄 :=
  iprop(anyOn (F := F) c arg2 ∗ anyOn (F := F) c arg3 ∗ anyOn (F := F) c arg4 ∗ anyOn (F := F) c arg6 ∗ anyOn (F := F) c arg7 ∗ anyOn (F := F) c arg8 ∗ anyOn (F := F) c arg9 ∗ anyOn (F := F) c arg10 ∗ anyOn (F := F) c arg11 ∗ anyOn (F := F) c arg13 ∗ anyM (F := F) c arg14 ∗ anyM (F := F) c arg15 ∗ anyM (F := F) c arg16 ∗ anyM (F := F) c arg17 ∗ anyM (F := F) c arg18 ∗ anyM (F := F) c arg19 ∗ anyM (F := F) c arg20 ∗ anyM (F := F) c arg21 ∗ anyM (F := F) c arg22 ∗ anyM (F := F) c arg23 ∗ R)

/-- A program that runs from a state back to it, whatever it returns and whatever follows. -/
def Runs (c : Dev nD) (P : sProp 𝕄) {A : Type} (p : Prog (TpuEff nD τ sig (Elt F) Λ₀ .tc) A) : Prop :=
  ∀ {B : Type} (k : A → Prog (TpuEff nD τ sig (Elt F) Λ₀ .tc) B) (K : B → sProp 𝕄),
    (∀ r, P ⊢ wp frame (wpE (defs₀ (F := F)) Variants.none c none) Set.univ (k r) K) →
    P ⊢ wp frame (wpE (defs₀ (F := F)) Variants.none c none) Set.univ (p >>= k) K

/-- The buffers and semaphores the body is given: the windows, the arrays in HBM, the scratch buffers, the two staging rings. -/
structure Bufs where
  a2 : Memref sig .tc .smem S4 .f32
  ha2 : a2.IsWhole
  a3 : Memref sig .tc .vmem S1x1024x1024 .f32
  ha3 : a3.IsWhole
  a4 : Memref sig .tc .vmem S1x1024 .f32
  ha4 : a4.IsWhole
  a5 : Memref sig .tc .hbm S1x1024x6144 .f32
  ha5 : a5.IsWhole
  a6 : Memref sig .tc .vmem S1024x128 .f32
  ha6 : a6.IsWhole
  a7 : Memref sig .tc .vmem S1024x128 .f32
  ha7 : a7.IsWhole
  a8 : Memref sig .tc .vmem S4x256x256 .f32
  ha8 : a8.IsWhole
  a9 : Memref sig .tc .vmem S4x256x256 .f32
  ha9 : a9.IsWhole
  a10 : Memref sig .tc .vmem S4x256x256 .f32
  ha10 : a10.IsWhole
  a11 : Memref sig .tc .vmem S1x2048 .f32
  ha11 : a11.IsWhole
  a12 : Memref sig .tc .hbm S1x2048x1024 .f32
  ha12 : a12.IsWhole
  a13 : Memref sig .tc .vmem S1x1024x1024 .f32
  ha13 : a13.IsWhole
  a14 : Memref sig .tc .vmem S2x256x1024 .bf16
  ha14 : a14.IsWhole
  a15 : Memref sig .tc .vmem S4x256x512 .f32
  ha15 : a15.IsWhole
  a16 : Memref sig .tc .vmem S2x256x1024 .bf16
  ha16 : a16.IsWhole
  a17 : Memref sig .tc .vmem S2x256x1024 .bf16
  ha17 : a17.IsWhole
  a18 : Memref sig .tc .vmem S2x256x1024 .bf16
  ha18 : a18.IsWhole
  a19 : Memref sig .tc .vmem S2x256x1024 .bf16
  ha19 : a19.IsWhole
  a20 : Memref sig .tc .vmem S2x256x2048 .bf16
  ha20 : a20.IsWhole
  a21 : Memref sig .tc .vmem S2x256x2048 .bf16
  ha21 : a21.IsWhole
  a22 : Memref sig .tc .vmem S1024x6144 .bf16
  ha22 : a22.IsWhole
  a23 : Memref sig .tc .vmem S2048x1024 .bf16
  ha23 : a23.IsWhole
  r0 : Memref sig .tc .vmem S2x64x6144 .f32
  hr0 : r0.IsWhole
  q0 : DmaSems sig S2
  r1 : Memref sig .tc .vmem S2x512x1024 .f32
  hr1 : r1.IsWhole
  q1 : DmaSems sig S2
/-- The state between sections at these buffers. -/
abbrev Bufs.St (B : Bufs) (c : Dev nD) (R : sProp 𝕄) : sProp 𝕄 :=
  Hand.St c B.a2 B.a3 B.a4 B.a6 B.a7 B.a8 B.a9 B.a10 B.a11 B.a13 B.a14 B.a15 B.a16 B.a17 B.a18 B.a19 B.a20 B.a21 B.a22 B.a23 R
/-- A section of the body at these buffers. -/
abbrev Bufs.on.{u} {T : Type u} (B : Bufs) (p : (a2 : Memref sig .tc .smem S4 .f32) → (ha2 : a2.IsWhole) → (a3 : Memref sig .tc .vmem S1x1024x1024 .f32) → (ha3 : a3.IsWhole) → (a4 : Memref sig .tc .vmem S1x1024 .f32) → (ha4 : a4.IsWhole) → (a5 : Memref sig .tc .hbm S1x1024x6144 .f32) → (ha5 : a5.IsWhole) → (a6 : Memref sig .tc .vmem S1024x128 .f32) → (ha6 : a6.IsWhole) → (a7 : Memref sig .tc .vmem S1024x128 .f32) → (ha7 : a7.IsWhole) → (a8 : Memref sig .tc .vmem S4x256x256 .f32) → (ha8 : a8.IsWhole) → (a9 : Memref sig .tc .vmem S4x256x256 .f32) → (ha9 : a9.IsWhole) → (a10 : Memref sig .tc .vmem S4x256x256 .f32) → (ha10 : a10.IsWhole) → (a11 : Memref sig .tc .vmem S1x2048 .f32) → (ha11 : a11.IsWhole) → (a12 : Memref sig .tc .hbm S1x2048x1024 .f32) → (ha12 : a12.IsWhole) → (a13 : Memref sig .tc .vmem S1x1024x1024 .f32) → (ha13 : a13.IsWhole) → (a14 : Memref sig .tc .vmem S2x256x1024 .bf16) → (ha14 : a14.IsWhole) → (a15 : Memref sig .tc .vmem S4x256x512 .f32) → (ha15 : a15.IsWhole) → (a16 : Memref sig .tc .vmem S2x256x1024 .bf16) → (ha16 : a16.IsWhole) → (a17 : Memref sig .tc .vmem S2x256x1024 .bf16) → (ha17 : a17.IsWhole) → (a18 : Memref sig .tc .vmem S2x256x1024 .bf16) → (ha18 : a18.IsWhole) → (a19 : Memref sig .tc .vmem S2x256x1024 .bf16) → (ha19 : a19.IsWhole) → (a20 : Memref sig .tc .vmem S2x256x2048 .bf16) → (ha20 : a20.IsWhole) → (a21 : Memref sig .tc .vmem S2x256x2048 .bf16) → (ha21 : a21.IsWhole) → (a22 : Memref sig .tc .vmem S1024x6144 .bf16) → (ha22 : a22.IsWhole) → (a23 : Memref sig .tc .vmem S2048x1024 .bf16) → (ha23 : a23.IsWhole) → (r0 : Memref sig .tc .vmem S2x64x6144 .f32) → (hr0 : r0.IsWhole) → (q0 : DmaSems sig S2) → (r1 : Memref sig .tc .vmem S2x512x1024 .f32) → (hr1 : r1.IsWhole) → (q1 : DmaSems sig S2) → T) : T :=
  p B.a2 B.ha2 B.a3 B.ha3 B.a4 B.ha4 B.a5 B.ha5 B.a6 B.ha6 B.a7 B.ha7 B.a8 B.ha8 B.a9 B.ha9 B.a10 B.ha10 B.a11 B.ha11 B.a12 B.ha12 B.a13 B.ha13 B.a14 B.ha14 B.a15 B.ha15 B.a16 B.ha16 B.a17 B.ha17 B.a18 B.ha18 B.a19 B.ha19 B.a20 B.ha20 B.a21 B.ha21 B.a22 B.ha22 B.a23 B.ha23 B.r0 B.hr0 B.q0 B.r1 B.hr1 B.q1

end Cert.Kernel4Ideal.Hand
-- ==== Proof.Retention.Fill.lean ====
/-
  The retention mixer. The first section of its body: at the first grid point it fills the two weight scratch buffers from HBM, chunk by
  chunk through a two-slot staging ring, and at the first tile of each sequence it clears the heads' states. Here: the ring's slots
  and the run of this section at every point, the scratch buffers at any contents before and after.
-/
module

public import proofs.«01_k».proof.Proof.Retention.State

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-! ## The buffers of the launch -/

/-- The two weight arrays in HBM and the two staging rings. -/
abbrev w1M : Memref sig .tc .hbm S1x1024x6144 .f32 := Memref.whole main_arg2
abbrev w2M : Memref sig .tc .hbm S1x2048x1024 .f32 := Memref.whole main_arg4
abbrev g1M : Memref sig .tc .vmem S2x64x6144 .f32 := Memref.whole cc0_scoped0
abbrev g2M : Memref sig .tc .vmem S2x512x1024 .f32 := Memref.whole cc0_scoped2
/-- The scratch buffers. -/
abbrev z0M : Memref sig .tc .vmem S2x256x1024 .bf16 := Memref.whole cc0_scratch0
abbrev z1M : Memref sig .tc .vmem S4x256x512 .f32 := Memref.whole cc0_scratch1
abbrev z2M : Memref sig .tc .vmem S2x256x1024 .bf16 := Memref.whole cc0_scratch2
abbrev z3M : Memref sig .tc .vmem S2x256x1024 .bf16 := Memref.whole cc0_scratch3
abbrev z4M : Memref sig .tc .vmem S2x256x1024 .bf16 := Memref.whole cc0_scratch4
abbrev z5M : Memref sig .tc .vmem S2x256x1024 .bf16 := Memref.whole cc0_scratch5
abbrev z6M : Memref sig .tc .vmem S2x256x2048 .bf16 := Memref.whole cc0_scratch6
abbrev z7M : Memref sig .tc .vmem S2x256x2048 .bf16 := Memref.whole cc0_scratch7
abbrev z8M : Memref sig .tc .vmem S1024x6144 .bf16 := Memref.whole cc0_scratch8
abbrev z9M : Memref sig .tc .vmem S2048x1024 .bf16 := Memref.whole cc0_scratch9

/-- The contents of a memref's buffer on device `c`. -/
abbrev PB (c : Dev nD) {sp : Space} {S : Shape} {e : EltTy} (M : Memref sig .tc sp S e) : Type := Buf (Elt F) (M.view.loc (c : Thread nD τ))
/-- A memref's buffer held whole, at contents `f`. -/
abbrev pt (c : Dev nD) {sp : Space} {S : Shape} {e : EltTy} (M : Memref sig .tc sp S e) (f : PB (F := F) c M) : sProp 𝕄 :=
  M.view.loc (c : Thread nD τ) ↦{fullShare} f
/-- A memref's own elements held, at contents `f`. -/
abbrev ptOn (c : Dev nD) {sp : Space} {S : Shape} {e : EltTy} (M : Memref sig .tc sp S e) (f : PB (F := F) c M) : sProp 𝕄 :=
  M.view.loc (c : Thread nD τ) ↦[M.view.set]{fullShare} f

/-! ## The staging rings' slots -/

abbrev off1 (s : Fin 2) : Fin 3 → ℕ := ![s.val, 0, 0]
theorem inb1 (s : Fin 2) : ∀ a, off1 s a + S1x64x6144.size a ≤ S2x64x6144.size a := by revert s; decide
theorem inb2 (s : Fin 2) : ∀ a, off1 s a + S1x512x1024.size a ≤ S2x512x1024.size a := by revert s; decide
/-- Slot `s` of the first ring, and of the second. -/
def sl1M (s : Fin 2) : Memref sig .tc .vmem S64x6144 .f32 :=
  (g1M.slice (Rect.unit (s := S2x64x6144) (off1 s) S1x64x6144.size (inb1 s)) (fun _ => rfl)).squeeze S64x6144 squeezes_S1x64x6144_S64x6144
def sl2M (s : Fin 2) : Memref sig .tc .vmem S512x1024 .f32 :=
  (g2M.slice (Rect.unit (s := S2x512x1024) (off1 s) S1x512x1024.size (inb2 s)) (fun _ => rfl)).squeeze S512x1024 squeezes_S1x512x1024_S512x1024

@[sl_canon] theorem sl1_0 (hh hs) : (g1M.slice (Rect.unit (s := S2x64x6144) ![0, 0, 0] S1x64x6144.size hh) hs).squeeze S64x6144 squeezes_S1x64x6144_S64x6144 = sl1M 0 := rfl
@[sl_canon] theorem sl1_1 (hh hs) : (g1M.slice (Rect.unit (s := S2x64x6144) ![1, 0, 0] S1x64x6144.size hh) hs).squeeze S64x6144 squeezes_S1x64x6144_S64x6144 = sl1M 1 := rfl
@[sl_canon] theorem sl2_0 (hh hs) : (g2M.slice (Rect.unit (s := S2x512x1024) ![0, 0, 0] S1x512x1024.size hh) hs).squeeze S512x1024 squeezes_S1x512x1024_S512x1024 = sl2M 0 := rfl
@[sl_canon] theorem sl2_1 (hh hs) : (g2M.slice (Rect.unit (s := S2x512x1024) ![1, 0, 0] S1x512x1024.size hh) hs).squeeze S512x1024 squeezes_S1x512x1024_S512x1024 = sl2M 1 := rfl

theorem sl1_set (s : Fin 2) : (sl1M s).view.set = (Rect.unit (s := S2x64x6144) (off1 s) S1x64x6144.size (inb1 s)).set :=
  (View.set_reshape _ _).trans (View.set_slice_whole _ _)
theorem sl2_set (s : Fin 2) : (sl2M s).view.set = (Rect.unit (s := S2x512x1024) (off1 s) S1x512x1024.size (inb2 s)).set :=
  (View.set_reshape _ _).trans (View.set_slice_whole _ _)
/-- A load of slot `s` through the ring reads elements of the slot. -/
theorem sub1 (s : Fin 2) (hh) : (g1M.access (Rect.unit (s := S2x64x6144) ![s.val, 0, 0] S1x64x6144.size hh)).set ⊆ (sl1M s).view.set :=
  (View.set_reshape _ _).ge
theorem sub2 (s : Fin 2) (hh) : (g2M.access (Rect.unit (s := S2x512x1024) ![s.val, 0, 0] S1x512x1024.size hh)).set ⊆ (sl2M s).view.set :=
  (View.set_reshape _ _).ge

/-- Ring 1's elements are its two slots' elements, each in one slot. -/
abbrev ring1I (s : Fin 2) : Finset (Shape.Idx S2x64x6144) := (Rect.unit (s := S2x64x6144) (off1 s) S1x64x6144.size (inb1 s)).set
theorem ring1_disjoint : ∀ s s' : Fin 2, s ≠ s' → Disjoint (ring1I s) (ring1I s') :=
  Ring.lead_disjoint (s := S2x64x6144) (NB := 2) 0 1 off1 S1x64x6144.size inb1 (by decide) (by decide)
theorem ring1_cover : Finset.univ.biUnion ring1I = Finset.univ :=
  Ring.lead_cover (s := S2x64x6144) (NB := 2) 0 1 off1 S1x64x6144.size inb1 (by decide) (by decide) (by decide) (by decide) (by decide)
/-- The ring held whole is its two slots held, and back. -/
theorem ring1_split (c : Dev nD) : iprop(∃ f, pt (F := F) c g1M f) ⊢ iprop((∃ f, ptOn (F := F) c (sl1M 0) f) ∗ ∃ f, ptOn (F := F) c (sl1M 1) f) :=
  Ring.slots2_split (ℓ := g1M.view.loc (c : Thread nD τ)) ring1I ring1_disjoint ring1_cover _ _
    (fun f => congrArg (fun S => (_ ↦[S]{fullShare} f : sProp 𝕄)) (sl1_set 0)) (fun f => congrArg (fun S => (_ ↦[S]{fullShare} f : sProp 𝕄)) (sl1_set 1))
theorem ring1_join (c : Dev nD) : iprop((∃ f, ptOn (F := F) c (sl1M 0) f) ∗ ∃ f, ptOn (F := F) c (sl1M 1) f) ⊢ iprop(∃ f, pt (F := F) c g1M f) :=
  Ring.slots2_join (ℓ := g1M.view.loc (c : Thread nD τ)) ring1I ring1_disjoint ring1_cover _ _
    (fun f => congrArg (fun S => (_ ↦[S]{fullShare} f : sProp 𝕄)) (sl1_set 0)) (fun f => congrArg (fun S => (_ ↦[S]{fullShare} f : sProp 𝕄)) (sl1_set 1))
/-- Ring 2's elements are its two slots' elements, each in one slot. -/
abbrev ring2I (s : Fin 2) : Finset (Shape.Idx S2x512x1024) := (Rect.unit (s := S2x512x1024) (off1 s) S1x512x1024.size (inb2 s)).set
theorem ring2_disjoint : ∀ s s' : Fin 2, s ≠ s' → Disjoint (ring2I s) (ring2I s') :=
  Ring.lead_disjoint (s := S2x512x1024) (NB := 2) 0 1 off1 S1x512x1024.size inb2 (by decide) (by decide)
theorem ring2_cover : Finset.univ.biUnion ring2I = Finset.univ :=
  Ring.lead_cover (s := S2x512x1024) (NB := 2) 0 1 off1 S1x512x1024.size inb2 (by decide) (by decide) (by decide) (by decide) (by decide)
/-- The ring held whole is its two slots held, and back. -/
theorem ring2_split (c : Dev nD) : iprop(∃ f, pt (F := F) c g2M f) ⊢ iprop((∃ f, ptOn (F := F) c (sl2M 0) f) ∗ ∃ f, ptOn (F := F) c (sl2M 1) f) :=
  Ring.slots2_split (ℓ := g2M.view.loc (c : Thread nD τ)) ring2I ring2_disjoint ring2_cover _ _
    (fun f => congrArg (fun S => (_ ↦[S]{fullShare} f : sProp 𝕄)) (sl2_set 0)) (fun f => congrArg (fun S => (_ ↦[S]{fullShare} f : sProp 𝕄)) (sl2_set 1))
theorem ring2_join (c : Dev nD) : iprop((∃ f, ptOn (F := F) c (sl2M 0) f) ∗ ∃ f, ptOn (F := F) c (sl2M 1) f) ⊢ iprop(∃ f, pt (F := F) c g2M f) :=
  Ring.slots2_join (ℓ := g2M.view.loc (c : Thread nD τ)) ring2I ring2_disjoint ring2_cover _ _
    (fun f => congrArg (fun S => (_ ↦[S]{fullShare} f : sProp 𝕄)) (sl2_set 0)) (fun f => congrArg (fun S => (_ ↦[S]{fullShare} f : sProp 𝕄)) (sl2_set 1))

/-! ## The section's run -/

/-- The kernel's own semaphores at zero. -/
abbrev semsZero (c : Dev nD) : sProp 𝕄 := iprop(semVal ((c : Thread nD τ), SemLoc.dma 14) 0 ∗ semVal ((c : Thread nD τ), SemLoc.dma 15) 0
  ∗ semVal ((c : Thread nD τ), SemLoc.dma 16) 0 ∗ semVal ((c : Thread nD τ), SemLoc.dma 17) 0)
/-- What the copies use: the weight arrays, the rings, the semaphores, and what the core owes. -/
def fillers (c : Dev nD) (w1 : PB (F := F) c w1M) (w2 : PB (F := F) c w2M) : sProp 𝕄 :=
  iprop(pt c w1M w1 ∗ pt c w2M w2 ∗ (∃ b, pt (F := F) c g1M b) ∗ (∃ b, pt (F := F) c g2M b) ∗ semsZero (F := F) c ∗ ∃ W, owes (c : Thread nD τ) 0 W)

variable {c : Dev nD} {i : grid0.Coords}
  {arg2 : Memref sig .tc .smem S4 .f32} {harg2 : arg2.IsWhole}
  {arg3 : Memref sig .tc .vmem S1x1024x1024 .f32} {harg3 : arg3.IsWhole}
  {arg4 : Memref sig .tc .vmem S1x1024 .f32} {harg4 : arg4.IsWhole}
  {arg6 : Memref sig .tc .vmem S1024x128 .f32} {harg6 : arg6.IsWhole}
  {arg7 : Memref sig .tc .vmem S1024x128 .f32} {harg7 : arg7.IsWhole}
  {arg8 : Memref sig .tc .vmem S4x256x256 .f32} {harg8 : arg8.IsWhole}
  {arg9 : Memref sig .tc .vmem S4x256x256 .f32} {harg9 : arg9.IsWhole}
  {arg10 : Memref sig .tc .vmem S4x256x256 .f32} {harg10 : arg10.IsWhole}
  {arg11 : Memref sig .tc .vmem S1x2048 .f32} {harg11 : arg11.IsWhole}
  {arg13 : Memref sig .tc .vmem S1x1024x1024 .f32} {harg13 : arg13.IsWhole}
  {w1 : PB (F := F) c w1M} {w2 : PB (F := F) c w2M}

set_option maxHeartbeats 4000000 in
/-- Section 1, at a point that fills and at a later one, at a tile that clears the states and at one that does not. -/
theorem part1_run : Runs c (St c arg2 arg3 arg4 arg6 arg7 arg8 arg9 arg10 arg11 arg13 z0M z1M z2M z3M z4M z5M z6M z7M z8M z9M (fillers c w1 w2))
    (k0_part1 (F := F) i arg2 harg2 arg3 harg3 arg4 harg4 w1M (Memref.isWhole_whole _) arg6 harg6 arg7 harg7 arg8 harg8 arg9 harg9 arg10 harg10 arg11 harg11 w2M (Memref.isWhole_whole _) arg13 harg13 z0M (Memref.isWhole_whole _) z1M (Memref.isWhole_whole _) z2M (Memref.isWhole_whole _) z3M (Memref.isWhole_whole _) z4M (Memref.isWhole_whole _) z5M (Memref.isWhole_whole _) z6M (Memref.isWhole_whole _) z7M (Memref.isWhole_whole _) z8M (Memref.isWhole_whole _) z9M (Memref.isWhole_whole _) g1M (Memref.isWhole_whole _) cc0_scoped1 g2M (Memref.isWhole_whole _) cc0_scoped3) := by
  intro B k K h
  rw [wp_bind, k0_part1_eq_skeleton]
  unfold k0_part1_skel St fillers
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, Hw1, Hw2, Hg1, Hg2, ⟨Hq6, Hq7, Hq8, Hq9⟩, ⟨%W, HW⟩⟩
  by_cases hc : k0_cond1 i = 1#1
  · ihave Hg1' := (ring1_split c) $$ Hg1
    ihave Hg2' := (ring2_split c) $$ Hg2
    icases Hg1' with ⟨⟨%b10, Hg10⟩, ⟨%b11, Hg11⟩⟩
    icases Hg2' with ⟨⟨%b20, Hg20⟩, ⟨%b21, Hg21⟩⟩
    have h10 := sub1 0
    have h11 := sub1 1
    have h20 := sub2 0
    have h21 := sub2 1
    by_cases hz : Scalar.cmpi .ne (Scalar.extui (Scalar.cmpi .eq (BitVec.ofNat 32 (i 1).val) 0#32) : BitVec 32) 0#32 = 1#1
    all_goals
      sl_exec
      sl_unroll
      sl_exec
      sl_unroll
      sl_exec
      ihave Hg1 := (ring1_join c) $$ [Hg10 Hg11]
      · sl_close
      ihave Hg2 := (ring2_join c) $$ [Hg20 Hg21]
      · sl_close
      icases Hg1 with ⟨%b1, Hg1⟩
      icases Hg2 with ⟨%b2, Hg2⟩
      iapply h
      unfold St fillers anyOn anyM
      sl_close
  · icases Hg1 with ⟨%b1, Hg1⟩
    icases Hg2 with ⟨%b2, Hg2⟩
    by_cases hz : Scalar.cmpi .ne (Scalar.extui (Scalar.cmpi .eq (BitVec.ofNat 32 (i 1).val) 0#32) : BitVec 32) 0#32 = 1#1
    all_goals
      sl_exec
      iapply h
      unfold St fillers anyOn anyM
      sl_close

end Cert.Kernel4Ideal.Hand
-- ==== Proof.Retention.Sections1.lean ====
/-
  The retention mixer. Sections 2 to 15 of the body, each run from the state before it to the state after it.
-/
module

public import proofs.«01_k».proof.Proof.Retention.State

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable {c : Dev nD} {i : grid0.Coords} {B : Bufs}

/-- Section 2. -/
theorem part2_run {v29 v31} {R : sProp 𝕄} : Runs c (B.St c R) (B.on (k0_part2 (F := F) i) v29 v31) := by
  intro T k K h
  rw [wp_bind, k0_part2_eq_skeleton]
  unfold Bufs.on Bufs.St Hand.St k0_part2_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 3. -/
theorem part3_run {v29 v31 v33 v57 v69 v70} {R : sProp 𝕄} : Runs c (B.St c R) (B.on (k0_part3 (F := F) i) v29 v31 v33 v57 v69 v70) := by
  intro T k K h
  rw [wp_bind, k0_part3_eq_skeleton]
  unfold Bufs.on Bufs.St Hand.St k0_part3_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 4. -/
theorem part4_run {v29 v31 v87 v98 v103 v104 v105} {R : sProp 𝕄} : Runs c (B.St c R) (B.on (k0_part4 (F := F) i) v29 v31 v87 v98 v103 v104 v105) := by
  intro T k K h
  rw [wp_bind, k0_part4_eq_skeleton]
  unfold Bufs.on Bufs.St Hand.St k0_part4_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 5. -/
theorem part5_run {v29 v31 v136 v137} {R : sProp 𝕄} : Runs c (B.St c R) (B.on (k0_part5 (F := F) i) v29 v31 v136 v137) := by
  intro T k K h
  rw [wp_bind, k0_part5_eq_skeleton]
  unfold Bufs.on Bufs.St Hand.St k0_part5_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 6. -/
theorem part6_run {v29 v31 v141 v152 v165 v175} {R : sProp 𝕄} : Runs c (B.St c R) (B.on (k0_part6 (F := F) i) v29 v31 v141 v152 v165 v175) := by
  intro T k K h
  rw [wp_bind, k0_part6_eq_skeleton]
  unfold Bufs.on Bufs.St Hand.St k0_part6_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 7. -/
theorem part7_run {v29 v31 v206 v208} {R : sProp 𝕄} : Runs c (B.St c R) (B.on (k0_part7 (F := F) i) v29 v31 v206 v208) := by
  intro T k K h
  rw [wp_bind, k0_part7_eq_skeleton]
  unfold Bufs.on Bufs.St Hand.St k0_part7_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 8. -/
theorem part8_run {v195 v242 cst_135} {R : sProp 𝕄} : Runs c (B.St c R) (B.on (k0_part8 (F := F) i) v195 v242 cst_135) := by
  intro T k K h
  rw [wp_bind, k0_part8_eq_skeleton]
  unfold Bufs.on Bufs.St Hand.St k0_part8_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 9. -/
theorem part9_run {v251 v253 v263 v270} {R : sProp 𝕄} : Runs c (B.St c R) (B.on (k0_part9 (F := F) i) v251 v253 v263 v270) := by
  intro T k K h
  rw [wp_bind, k0_part9_eq_skeleton]
  unfold Bufs.on Bufs.St Hand.St k0_part9_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 10. -/
theorem part10_run {v307} {R : sProp 𝕄} : Runs c (B.St c R) (B.on (k0_part10 (F := F) i) v307) := by
  intro T k K h
  rw [wp_bind, k0_part10_eq_skeleton]
  unfold Bufs.on Bufs.St Hand.St k0_part10_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 11. -/
theorem part11_run {v309 v328 v335 v336} {R : sProp 𝕄} : Runs c (B.St c R) (B.on (k0_part11 (F := F) i) v309 v328 v335 v336) := by
  intro T k K h
  rw [wp_bind, k0_part11_eq_skeleton]
  unfold Bufs.on Bufs.St Hand.St k0_part11_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 12. -/
theorem part12_run {v369 v371} {R : sProp 𝕄} : Runs c (B.St c R) (B.on (k0_part12 (F := F) i) v369 v371) := by
  intro T k K h
  rw [wp_bind, k0_part12_eq_skeleton]
  unfold Bufs.on Bufs.St Hand.St k0_part12_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 13. -/
theorem part13_run {v367 v386 v398 v403 cst_265} {R : sProp 𝕄} : Runs c (B.St c R) (B.on (k0_part13 (F := F) i) v367 v386 v398 v403 cst_265) := by
  intro T k K h
  rw [wp_bind, k0_part13_eq_skeleton]
  unfold Bufs.on Bufs.St Hand.St k0_part13_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 14. -/
theorem part14_run {v425 v427 v435} {R : sProp 𝕄} : Runs c (B.St c R) (B.on (k0_part14 (F := F) i) v425 v427 v435) := by
  intro T k K h
  rw [wp_bind, k0_part14_eq_skeleton]
  unfold Bufs.on Bufs.St Hand.St k0_part14_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 15. -/
theorem part15_run {v468 v474} {R : sProp 𝕄} : Runs c (B.St c R) (B.on (k0_part15 (F := F) i) v468 v474) := by
  intro T k K h
  rw [wp_bind, k0_part15_eq_skeleton]
  unfold Bufs.on Bufs.St Hand.St k0_part15_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

end Cert.Kernel4Ideal.Hand
-- ==== Proof.Retention.Sections2.lean ====
/-
  The retention mixer. Sections 16 to 29 of the body, each run from the state before it to the state after it.
-/
module

public import proofs.«01_k».proof.Proof.Retention.State

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable {c : Dev nD} {i : grid0.Coords} {B : Bufs}

/-- Section 16. -/
theorem part16_run {v506} {R : sProp 𝕄} : Runs c (B.St c R) (B.on (k0_part16 (F := F) i) v506) := by
  intro T k K h
  rw [wp_bind, k0_part16_eq_skeleton]
  unfold Bufs.on Bufs.St Hand.St k0_part16_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 17. -/
theorem part17_run {v511 v513 v515 v526 v539 v544} {R : sProp 𝕄} : Runs c (B.St c R) (B.on (k0_part17 (F := F) i) v511 v513 v515 v526 v539 v544) := by
  intro T k K h
  rw [wp_bind, k0_part17_eq_skeleton]
  unfold Bufs.on Bufs.St Hand.St k0_part17_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 18. -/
theorem part18_run {v511 v513 v569 v572 v573 v576} {R : sProp 𝕄} : Runs c (B.St c R) (B.on (k0_part18 (F := F) i) v511 v513 v569 v572 v573 v576) := by
  intro T k K h
  rw [wp_bind, k0_part18_eq_skeleton]
  unfold Bufs.on Bufs.St Hand.St k0_part18_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 19. -/
theorem part19_run {v511 v513 v569 v612} {R : sProp 𝕄} : Runs c (B.St c R) (B.on (k0_part19 (F := F) i) v511 v513 v569 v612) := by
  intro T k K h
  rw [wp_bind, k0_part19_eq_skeleton]
  unfold Bufs.on Bufs.St Hand.St k0_part19_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 20. -/
theorem part20_run {v623 v634 v647 v648} {R : sProp 𝕄} : Runs c (B.St c R) (B.on (k0_part20 (F := F) i) v623 v634 v647 v648) := by
  intro T k K h
  rw [wp_bind, k0_part20_eq_skeleton]
  unfold Bufs.on Bufs.St Hand.St k0_part20_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 21. -/
theorem part21_run {v511 v513 v677 v678 cst_449} {R : sProp 𝕄} : Runs c (B.St c R) (B.on (k0_part21 (F := F) i) v511 v513 v677 v678 cst_449) := by
  intro T k K h
  rw [wp_bind, k0_part21_eq_skeleton]
  unfold Bufs.on Bufs.St Hand.St k0_part21_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 22. -/
theorem part22_run {v677 v701} {R : sProp 𝕄} : Runs c (B.St c R) (B.on (k0_part22 (F := F) i) v677 v701) := by
  intro T k K h
  rw [wp_bind, k0_part22_eq_skeleton]
  unfold Bufs.on Bufs.St Hand.St k0_part22_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 23. -/
theorem part23_run {v733 v735 v743} {R : sProp 𝕄} : Runs c (B.St c R) (B.on (k0_part23 (F := F) i) v733 v735 v743) := by
  intro T k K h
  rw [wp_bind, k0_part23_eq_skeleton]
  unfold Bufs.on Bufs.St Hand.St k0_part23_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 24. -/
theorem part24_run {v776 v782} {R : sProp 𝕄} : Runs c (B.St c R) (B.on (k0_part24 (F := F) i) v776 v782) := by
  intro T k K h
  rw [wp_bind, k0_part24_eq_skeleton]
  unfold Bufs.on Bufs.St Hand.St k0_part24_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 25. -/
theorem part25_run {v791 v793 v803 v810} {R : sProp 𝕄} : Runs c (B.St c R) (B.on (k0_part25 (F := F) i) v791 v793 v803 v810) := by
  intro T k K h
  rw [wp_bind, k0_part25_eq_skeleton]
  unfold Bufs.on Bufs.St Hand.St k0_part25_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 26. -/
theorem part26_run {v847} {R : sProp 𝕄} : Runs c (B.St c R) (B.on (k0_part26 (F := F) i) v847) := by
  intro T k K h
  rw [wp_bind, k0_part26_eq_skeleton]
  unfold Bufs.on Bufs.St Hand.St k0_part26_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 27. -/
theorem part27_run {v849 v868 v875 v876} {R : sProp 𝕄} : Runs c (B.St c R) (B.on (k0_part27 (F := F) i) v849 v868 v875 v876) := by
  intro T k K h
  rw [wp_bind, k0_part27_eq_skeleton]
  unfold Bufs.on Bufs.St Hand.St k0_part27_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 28. -/
theorem part28_run {v909 v911} {R : sProp 𝕄} : Runs c (B.St c R) (B.on (k0_part28 (F := F) i) v909 v911) := by
  intro T k K h
  rw [wp_bind, k0_part28_eq_skeleton]
  unfold Bufs.on Bufs.St Hand.St k0_part28_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 29. -/
theorem part29_run {v907 v926 v938 v943 cst_652} {R : sProp 𝕄} : Runs c (B.St c R) (B.on (k0_part29 (F := F) i) v907 v926 v938 v943 cst_652) := by
  intro T k K h
  rw [wp_bind, k0_part29_eq_skeleton]
  unfold Bufs.on Bufs.St Hand.St k0_part29_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

end Cert.Kernel4Ideal.Hand
-- ==== Proof.Retention.Sections3.lean ====
/-
  The retention mixer. Sections 30 to 43 of the body, each run from the state before it to the state after it.
-/
module

public import proofs.«01_k».proof.Proof.Retention.State

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable {c : Dev nD} {i : grid0.Coords} {B : Bufs}

/-- Section 30. -/
theorem part30_run {v973 v975 v978} {R : sProp 𝕄} : Runs c (B.St c R) (B.on (k0_part30 (F := F) i) v973 v975 v978) := by
  intro T k K h
  rw [wp_bind, k0_part30_eq_skeleton]
  unfold Bufs.on Bufs.St Hand.St k0_part30_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 31. -/
theorem part31_run {v995 v997 v1008 v1013 v1017 v1018} {R : sProp 𝕄} : Runs c (B.St c R) (B.on (k0_part31 (F := F) i) v995 v997 v1008 v1013 v1017 v1018) := by
  intro T k K h
  rw [wp_bind, k0_part31_eq_skeleton]
  unfold Bufs.on Bufs.St Hand.St k0_part31_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 32. -/
theorem part32_run {v993 v995} {R : sProp 𝕄} : Runs c (B.St c R) (B.on (k0_part32 (F := F) i) v993 v995) := by
  intro T k K h
  rw [wp_bind, k0_part32_eq_skeleton]
  unfold Bufs.on Bufs.St Hand.St k0_part32_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 33. -/
theorem part33_run {v993 v995 v1051 v1075 v1087} {R : sProp 𝕄} : Runs c (B.St c R) (B.on (k0_part33 (F := F) i) v993 v995 v1051 v1075 v1087) := by
  intro T k K h
  rw [wp_bind, k0_part33_eq_skeleton]
  unfold Bufs.on Bufs.St Hand.St k0_part33_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 34. -/
theorem part34_run {v993 v995 v1105 v1116 v1120} {R : sProp 𝕄} : Runs c (B.St c R) (B.on (k0_part34 (F := F) i) v993 v995 v1105 v1116 v1120) := by
  intro T k K h
  rw [wp_bind, k0_part34_eq_skeleton]
  unfold Bufs.on Bufs.St Hand.St k0_part34_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 35. -/
theorem part35_run {v993 v995 v1154} {R : sProp 𝕄} : Runs c (B.St c R) (B.on (k0_part35 (F := F) i) v993 v995 v1154) := by
  intro T k K h
  rw [wp_bind, k0_part35_eq_skeleton]
  unfold Bufs.on Bufs.St Hand.St k0_part35_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 36. -/
theorem part36_run {v1159 v1170 v1183} {R : sProp 𝕄} : Runs c (B.St c R) (B.on (k0_part36 (F := F) i) v1159 v1170 v1183) := by
  intro T k K h
  rw [wp_bind, k0_part36_eq_skeleton]
  unfold Bufs.on Bufs.St Hand.St k0_part36_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 37. -/
theorem part37_run {v1217 v1219} {R : sProp 𝕄} : Runs c (B.St c R) (B.on (k0_part37 (F := F) i) v1217 v1219) := by
  intro T k K h
  rw [wp_bind, k0_part37_eq_skeleton]
  unfold Bufs.on Bufs.St Hand.St k0_part37_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 38. -/
theorem part38_run {v1215 v1234 v1246 v1251 cst_860} {R : sProp 𝕄} : Runs c (B.St c R) (B.on (k0_part38 (F := F) i) v1215 v1234 v1246 v1251 cst_860) := by
  intro T k K h
  rw [wp_bind, k0_part38_eq_skeleton]
  unfold Bufs.on Bufs.St Hand.St k0_part38_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 39. -/
theorem part39_run {v1273 v1275 v1283} {R : sProp 𝕄} : Runs c (B.St c R) (B.on (k0_part39 (F := F) i) v1273 v1275 v1283) := by
  intro T k K h
  rw [wp_bind, k0_part39_eq_skeleton]
  unfold Bufs.on Bufs.St Hand.St k0_part39_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 40. -/
theorem part40_run {v1316 v1322} {R : sProp 𝕄} : Runs c (B.St c R) (B.on (k0_part40 (F := F) i) v1316 v1322) := by
  intro T k K h
  rw [wp_bind, k0_part40_eq_skeleton]
  unfold Bufs.on Bufs.St Hand.St k0_part40_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 41. -/
theorem part41_run {v1331 v1333 v1343 v1350} {R : sProp 𝕄} : Runs c (B.St c R) (B.on (k0_part41 (F := F) i) v1331 v1333 v1343 v1350) := by
  intro T k K h
  rw [wp_bind, k0_part41_eq_skeleton]
  unfold Bufs.on Bufs.St Hand.St k0_part41_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 42. -/
theorem part42_run {v1387} {R : sProp 𝕄} : Runs c (B.St c R) (B.on (k0_part42 (F := F) i) v1387) := by
  intro T k K h
  rw [wp_bind, k0_part42_eq_skeleton]
  unfold Bufs.on Bufs.St Hand.St k0_part42_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 43. -/
theorem part43_run {v1389 v1408 v1415 v1416} {R : sProp 𝕄} : Runs c (B.St c R) (B.on (k0_part43 (F := F) i) v1389 v1408 v1415 v1416) := by
  intro T k K h
  rw [wp_bind, k0_part43_eq_skeleton]
  unfold Bufs.on Bufs.St Hand.St k0_part43_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

end Cert.Kernel4Ideal.Hand
-- ==== Proof.Retention.Sections4.lean ====
/-
  The retention mixer. Sections 44 to 57 of the body, each run from the state before it to the state after it.
-/
module

public import proofs.«01_k».proof.Proof.Retention.State

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable {c : Dev nD} {i : grid0.Coords} {B : Bufs}

/-- Section 44. -/
theorem part44_run {v1450} {R : sProp 𝕄} : Runs c (B.St c R) (B.on (k0_part44 (F := F) i) v1450) := by
  intro T k K h
  rw [wp_bind, k0_part44_eq_skeleton]
  unfold Bufs.on Bufs.St Hand.St k0_part44_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 45. -/
theorem part45_run {v1475 v1477 v1479 v1486 v1489} {R : sProp 𝕄} : Runs c (B.St c R) (B.on (k0_part45 (F := F) i) v1475 v1477 v1479 v1486 v1489) := by
  intro T k K h
  rw [wp_bind, k0_part45_eq_skeleton]
  unfold Bufs.on Bufs.St Hand.St k0_part45_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 46. -/
theorem part46_run {v1475 v1477 v1479 v1522} {R : sProp 𝕄} : Runs c (B.St c R) (B.on (k0_part46 (F := F) i) v1475 v1477 v1479 v1522) := by
  intro T k K h
  rw [wp_bind, k0_part46_eq_skeleton]
  unfold Bufs.on Bufs.St Hand.St k0_part46_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 47. -/
theorem part47_run {v1533 v1544 v1557 v1562} {R : sProp 𝕄} : Runs c (B.St c R) (B.on (k0_part47 (F := F) i) v1533 v1544 v1557 v1562) := by
  intro T k K h
  rw [wp_bind, k0_part47_eq_skeleton]
  unfold Bufs.on Bufs.St Hand.St k0_part47_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 48. -/
theorem part48_run {v1475 v1477 v1587 v1590 v1591} {R : sProp 𝕄} : Runs c (B.St c R) (B.on (k0_part48 (F := F) i) v1475 v1477 v1587 v1590 v1591) := by
  intro T k K h
  rw [wp_bind, k0_part48_eq_skeleton]
  unfold Bufs.on Bufs.St Hand.St k0_part48_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 49. -/
theorem part49_run {v1475 v1477 v1587 v1629} {R : sProp 𝕄} : Runs c (B.St c R) (B.on (k0_part49 (F := F) i) v1475 v1477 v1587 v1629) := by
  intro T k K h
  rw [wp_bind, k0_part49_eq_skeleton]
  unfold Bufs.on Bufs.St Hand.St k0_part49_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 50. -/
theorem part50_run {v1641 v1652 v1665 v1666} {R : sProp 𝕄} : Runs c (B.St c R) (B.on (k0_part50 (F := F) i) v1641 v1652 v1665 v1666) := by
  intro T k K h
  rw [wp_bind, k0_part50_eq_skeleton]
  unfold Bufs.on Bufs.St Hand.St k0_part50_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 51. -/
theorem part51_run {v1695} {R : sProp 𝕄} : Runs c (B.St c R) (B.on (k0_part51 (F := F) i) v1695) := by
  intro T k K h
  rw [wp_bind, k0_part51_eq_skeleton]
  unfold Bufs.on Bufs.St Hand.St k0_part51_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 52. -/
theorem part52_run {v1697 v1716 v1723 v1724} {R : sProp 𝕄} : Runs c (B.St c R) (B.on (k0_part52 (F := F) i) v1697 v1716 v1723 v1724) := by
  intro T k K h
  rw [wp_bind, k0_part52_eq_skeleton]
  unfold Bufs.on Bufs.St Hand.St k0_part52_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 53. -/
theorem part53_run {v1757 v1759} {R : sProp 𝕄} : Runs c (B.St c R) (B.on (k0_part53 (F := F) i) v1757 v1759) := by
  intro T k K h
  rw [wp_bind, k0_part53_eq_skeleton]
  unfold Bufs.on Bufs.St Hand.St k0_part53_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 54. -/
theorem part54_run {v1755 v1774 v1786 v1791 cst_1248} {R : sProp 𝕄} : Runs c (B.St c R) (B.on (k0_part54 (F := F) i) v1755 v1774 v1786 v1791 cst_1248) := by
  intro T k K h
  rw [wp_bind, k0_part54_eq_skeleton]
  unfold Bufs.on Bufs.St Hand.St k0_part54_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 55. -/
theorem part55_run {v1813 v1815 v1823} {R : sProp 𝕄} : Runs c (B.St c R) (B.on (k0_part55 (F := F) i) v1813 v1815 v1823) := by
  intro T k K h
  rw [wp_bind, k0_part55_eq_skeleton]
  unfold Bufs.on Bufs.St Hand.St k0_part55_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 56. -/
theorem part56_run {v1856 v1862} {R : sProp 𝕄} : Runs c (B.St c R) (B.on (k0_part56 (F := F) i) v1856 v1862) := by
  intro T k K h
  rw [wp_bind, k0_part56_eq_skeleton]
  unfold Bufs.on Bufs.St Hand.St k0_part56_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

/-- Section 57. -/
theorem part57_run {v1871 v1873 v1883 v1890} {R : sProp 𝕄} : Runs c (B.St c R) (B.on (k0_part57 (F := F) i) v1871 v1873 v1883 v1890) := by
  intro T k K h
  rw [wp_bind, k0_part57_eq_skeleton]
  unfold Bufs.on Bufs.St Hand.St k0_part57_skel
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  iapply h
  unfold Bufs.St Hand.St
  sl_close

end Cert.Kernel4Ideal.Hand
-- ==== Proof.Retention.Body.lean ====
/-
  The retention mixer. Its body: the sections one after another, from the buffers at any contents back to the buffers at any contents.
-/
module

public import proofs.«01_k».proof.Proof.Retention.Fill
public import proofs.«01_k».proof.Proof.Retention.Sections1
public import proofs.«01_k».proof.Proof.Retention.Sections2
public import proofs.«01_k».proof.Proof.Retention.Sections3
public import proofs.«01_k».proof.Proof.Retention.Sections4

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

set_option maxHeartbeats 4000000 in
set_option maxRecDepth 65536 in
/-- The whole body at given buffers, from the run of its first section. -/
theorem chain_run {c : Dev nD} {i : grid0.Coords} {B : Bufs} {R : sProp 𝕄} (part1_run : Runs c (B.St c R) (B.on (k0_part1 (F := F) i))) :
    B.St c R ⊢ wp frame (wpE (defs₀ (F := F)) Variants.none c none) Set.univ (B.on (cc0_retention_mixer (F := F) i)) (fun _ => B.St c R) := by
  rw [cc0_retention_mixer_eq_skeleton]
  unfold Bufs.on cc0_retention_mixer_skel
  rw [wp_bind, k0_part58_eq_skeleton]
  unfold k0_part58_skel
  refine part1_run _ _ fun ⟨_, _⟩ => ?_
  refine part2_run _ _ fun ⟨_, _, _, _⟩ => ?_
  refine part3_run _ _ fun ⟨_, _, _, _, _⟩ => ?_
  refine part4_run _ _ fun ⟨_, _⟩ => ?_
  refine part5_run _ _ fun ⟨_, _, _, _⟩ => ?_
  refine part6_run _ _ fun ⟨_, _, _⟩ => ?_
  refine part7_run _ _ fun ⟨_, _⟩ => ?_
  refine part8_run _ _ fun ⟨_, _, _, _⟩ => ?_
  refine part9_run _ _ fun _ => ?_
  refine part10_run _ _ fun ⟨_, _, _, _⟩ => ?_
  refine part11_run _ _ fun ⟨_, _, _⟩ => ?_
  refine part12_run _ _ fun ⟨_, _, _, _⟩ => ?_
  refine part13_run _ _ fun ⟨_, _, _⟩ => ?_
  refine part14_run _ _ fun ⟨_, _⟩ => ?_
  refine part15_run _ _ fun _ => ?_
  refine part16_run _ _ fun ⟨_, _, _, _, _, _⟩ => ?_
  refine part17_run _ _ fun ⟨_, _, _, _⟩ => ?_
  refine part18_run _ _ fun _ => ?_
  refine part19_run _ _ fun ⟨_, _, _, _⟩ => ?_
  refine part20_run _ _ fun ⟨_, _, _⟩ => ?_
  refine part21_run _ _ fun _ => ?_
  refine part22_run _ _ fun ⟨_, _, _⟩ => ?_
  refine part23_run _ _ fun ⟨_, _⟩ => ?_
  refine part24_run _ _ fun ⟨_, _, _, _⟩ => ?_
  refine part25_run _ _ fun _ => ?_
  refine part26_run _ _ fun ⟨_, _, _, _⟩ => ?_
  refine part27_run _ _ fun ⟨_, _, _⟩ => ?_
  refine part28_run _ _ fun ⟨_, _, _, _⟩ => ?_
  refine part29_run _ _ fun ⟨_, _, _⟩ => ?_
  refine part30_run _ _ fun ⟨_, _, _, _, _, _, _⟩ => ?_
  refine part31_run _ _ fun _ => ?_
  refine part32_run _ _ fun ⟨_, _, _⟩ => ?_
  refine part33_run _ _ fun ⟨_, _, _⟩ => ?_
  refine part34_run _ _ fun _ => ?_
  refine part35_run _ _ fun ⟨_, _, _⟩ => ?_
  refine part36_run _ _ fun ⟨_, _, _⟩ => ?_
  refine part37_run _ _ fun ⟨_, _, _, _⟩ => ?_
  refine part38_run _ _ fun ⟨_, _, _⟩ => ?_
  refine part39_run _ _ fun ⟨_, _⟩ => ?_
  refine part40_run _ _ fun ⟨_, _, _, _⟩ => ?_
  refine part41_run _ _ fun _ => ?_
  refine part42_run _ _ fun ⟨_, _, _, _⟩ => ?_
  refine part43_run _ _ fun _ => ?_
  refine part44_run _ _ fun ⟨_, _, _, _, _⟩ => ?_
  refine part45_run _ _ fun _ => ?_
  refine part46_run _ _ fun ⟨_, _, _, _⟩ => ?_
  refine part47_run _ _ fun ⟨_, _, _⟩ => ?_
  refine part48_run _ _ fun _ => ?_
  refine part49_run _ _ fun ⟨_, _, _, _⟩ => ?_
  refine part50_run _ _ fun _ => ?_
  refine part51_run _ _ fun ⟨_, _, _, _⟩ => ?_
  refine part52_run _ _ fun ⟨_, _, _⟩ => ?_
  refine part53_run _ _ fun ⟨_, _, _, _⟩ => ?_
  refine part54_run _ _ fun ⟨_, _, _⟩ => ?_
  refine part55_run _ _ fun ⟨_, _⟩ => ?_
  refine part56_run _ _ fun ⟨_, _, _, _⟩ => ?_
  refine part57_run _ _ fun _ => ?_
  unfold Bufs.St Hand.St
  iintro ⟨⟨%f2, H2⟩, ⟨%f3, H3⟩, ⟨%f4, H4⟩, ⟨%f6, H6⟩, ⟨%f7, H7⟩, ⟨%f8, H8⟩, ⟨%f9, H9⟩, ⟨%f10, H10⟩, ⟨%f11, H11⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, HR⟩
  sl_exec
  rw [wp_ret]
  imodintro
  sl_close

variable {c : Dev nD} {i : grid0.Coords}
  {arg2 : Memref sig .tc .smem S4 .f32} {harg2 : arg2.IsWhole}
  {arg3 : Memref sig .tc .vmem S1x1024x1024 .f32} {harg3 : arg3.IsWhole}
  {arg4 : Memref sig .tc .vmem S1x1024 .f32} {harg4 : arg4.IsWhole}
  {arg6 : Memref sig .tc .vmem S1024x128 .f32} {harg6 : arg6.IsWhole}
  {arg7 : Memref sig .tc .vmem S1024x128 .f32} {harg7 : arg7.IsWhole}
  {arg8 : Memref sig .tc .vmem S4x256x256 .f32} {harg8 : arg8.IsWhole}
  {arg9 : Memref sig .tc .vmem S4x256x256 .f32} {harg9 : arg9.IsWhole}
  {arg10 : Memref sig .tc .vmem S4x256x256 .f32} {harg10 : arg10.IsWhole}
  {arg11 : Memref sig .tc .vmem S1x2048 .f32} {harg11 : arg11.IsWhole}
  {arg13 : Memref sig .tc .vmem S1x1024x1024 .f32} {harg13 : arg13.IsWhole}
  {w1 : PB (F := F) c w1M} {w2 : PB (F := F) c w2M}

/-- The whole body, at every point: it runs to its end and leaves every buffer held. -/
theorem body_run : St c arg2 arg3 arg4 arg6 arg7 arg8 arg9 arg10 arg11 arg13 z0M z1M z2M z3M z4M z5M z6M z7M z8M z9M (fillers c w1 w2) ⊢ wp frame (wpE (defs₀ (F := F)) Variants.none c none) Set.univ
    (cc0_retention_mixer (F := F) i arg2 harg2 arg3 harg3 arg4 harg4 w1M (Memref.isWhole_whole _) arg6 harg6 arg7 harg7 arg8 harg8 arg9 harg9 arg10 harg10 arg11 harg11 w2M (Memref.isWhole_whole _) arg13 harg13 z0M (Memref.isWhole_whole _) z1M (Memref.isWhole_whole _) z2M (Memref.isWhole_whole _) z3M (Memref.isWhole_whole _) z4M (Memref.isWhole_whole _) z5M (Memref.isWhole_whole _) z6M (Memref.isWhole_whole _) z7M (Memref.isWhole_whole _) z8M (Memref.isWhole_whole _) z9M (Memref.isWhole_whole _) g1M (Memref.isWhole_whole _) cc0_scoped1 g2M (Memref.isWhole_whole _) cc0_scoped3)
    (fun _ => St c arg2 arg3 arg4 arg6 arg7 arg8 arg9 arg10 arg11 arg13 z0M z1M z2M z3M z4M z5M z6M z7M z8M z9M (fillers c w1 w2)) :=
  chain_run (B := ⟨arg2, harg2, arg3, harg3, arg4, harg4, w1M, Memref.isWhole_whole _, arg6, harg6, arg7, harg7, arg8, harg8, arg9, harg9, arg10, harg10, arg11, harg11, w2M, Memref.isWhole_whole _, arg13, harg13, z0M, Memref.isWhole_whole _, z1M, Memref.isWhole_whole _, z2M, Memref.isWhole_whole _, z3M, Memref.isWhole_whole _, z4M, Memref.isWhole_whole _, z5M, Memref.isWhole_whole _, z6M, Memref.isWhole_whole _, z7M, Memref.isWhole_whole _, z8M, Memref.isWhole_whole _, z9M, Memref.isWhole_whole _, g1M, Memref.isWhole_whole _, cc0_scoped1, g2M, Memref.isWhole_whole _, cc0_scoped3⟩) part1_run

end Cert.Kernel4Ideal.Hand
-- ==== Proof.Retention.Run.lean ====
/-
  The retention mixer. The launch: the proof data of the pipeline, which says of every staging buffer and scratch buffer only that it is held; the
  body obligation from the run of the body; and the run of the whole program with its frame.
-/
module

public import proofs.«01_k».proof.Proof.Retention.Body
public import proofs.«01_k».proof.Proof.Gen.Kernel4Ideal.Frame

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! ## The program up to the region -/

set_option maxHeartbeats 800000 in
theorem hmainD : Pipeline.HMain (Ix := Unit) (Name := ℕ) (U := Pipeline.UD sig nD τ) (Lvl := ℕ) cfgs 0 defs₀ Variants.none m (main (F := F)) (V m) :=
  Pipeline.hmain_prefixes cfgs 0 defs₀ Variants.none m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-! ## What the body holds between points -/

/-- The kernel's own semaphores, and the arrays its copies read. -/
abbrev osem0 : Fin 4 → SemLoc sig := fun j => (![SemLoc.dma 14, SemLoc.dma 15, SemLoc.dma 16, SemLoc.dma 17] : Fin 4 → SemLoc sig) j
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄) = semsZero (F := F) c := by
  rw [Pipeline.ownSems0_eq_of_list c osem0 [0, 1, 2, 3] (by decide) (by decide)]; rfl
def H0 : Finset (Ref sig .tc) := {main_arg2, main_arg4}
theorem H0_sub : H0 ⊆ Pipeline.restRefs sig spec0 := by decide
theorem hbmPts_eq (c : Dev nD) :
    (bigSep H0 (fun b => ((c : Thread nD τ).loc b) ↦{fullShare} V m c b) : sProp 𝕄) = iprop(pt c w1M (V m c main_arg2) ∗ pt c w2M (V m c main_arg4)) := by
  rw [BI.bigSep_eq_bigSepL_of_eq [main_arg2, main_arg4] (by decide) (by decide)]; rfl

/-- At every point: scratch and rings at anything, semaphores at zero, the weight arrays as launched. -/
theorem PhiD_eq (c : Dev nD) : (Pipeline.ΦD osem0 spec0 H0 (V m) c : sProp 𝕄)
    = iprop((anyM (F := F) c z0M ∗ anyM (F := F) c z1M ∗ anyM (F := F) c z2M ∗ anyM (F := F) c z3M ∗ anyM (F := F) c z4M ∗ anyM (F := F) c z5M ∗ anyM (F := F) c z6M ∗ anyM (F := F) c z7M ∗ anyM (F := F) c z8M ∗ anyM (F := F) c z9M
          ∗ anyM (F := F) c g1M ∗ anyM (F := F) c g2M)
        ∗ (∃ r, prngReg c r) ∗ semsZero (F := F) c ∗ (pt c w1M (V m c main_arg2) ∗ pt c w2M (V m c main_arg4))) := by
  rw [Pipeline.ΦD_eq, scopedRest0_eq, ownSems_eq, hbmPts_eq]

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]
/-- Nothing is said of what a window holds. -/
abbrev fgt : Fin cfg0.W → Bool := fun _ => true

/-! ## The body obligation -/

theorem owns_eq (c : Dev nD) {sp : Space} {S : Shape} {e : EltTy} (M : Memref sig .tc sp S e) (v : S.Idx → Elt F e) :
    (owns (c : Thread nD τ) M fullShare v : sProp 𝕄) = iprop(∃ f, ⌜M.view.read (Elt F) f = v⌝ ∗ ptOn c M f) := rfl
/-- A memref's elements held at some value. -/
theorem any_of_owns (c : Dev nD) {sp : Space} {S : Shape} {e : EltTy} (M : Memref sig .tc sp S e) :
    iprop(∃ X, owns (Val := Elt F) (c : Thread nD τ) M fullShare X) ⊢ (anyOn (F := F) c M : sProp 𝕄) := by
  simp only [owns_eq]
  iintro ⟨%X, ⟨%f, -, H⟩⟩
  iexists f
  iexact H
theorem owns_of_any (c : Dev nD) {sp : Space} {S : Shape} {e : EltTy} (M : Memref sig .tc sp S e) :
    (anyOn (F := F) c M : sProp 𝕄) ⊢ iprop(∃ X, owns (Val := Elt F) (c : Thread nD τ) M fullShare X) := by
  simp only [owns_eq]
  iintro ⟨%f, H⟩
  iexists _, f
  isplitr; · ipureintro; rfl
  iexact H

/-- A point before and after its body: what is kept between points, what the core owes, the windows' staging buffers at anything. -/
def bodyPre (c : Dev nD) (t : Fin cfg0.N) : sProp 𝕄 :=
  iprop((dats m 0 c).Φ t.castSucc ∗ (dats m 0 c).owesAt () t.castSucc
    ∗ (∃ X, owns (Val := Elt F) (c : Thread nD τ) (win0_0.stage (cfg0.slots t 0)) fullShare X)
    ∗ (∃ X, owns (Val := Elt F) (c : Thread nD τ) (win0_1.stage (cfg0.slots t 1)) fullShare X)
    ∗ (∃ X, owns (Val := Elt F) (c : Thread nD τ) (win0_2.stage (cfg0.slots t 2)) fullShare X)
    ∗ (∃ X, owns (Val := Elt F) (c : Thread nD τ) (win0_3.stage (cfg0.slots t 3)) fullShare X)
    ∗ (∃ X, owns (Val := Elt F) (c : Thread nD τ) (win0_4.stage (cfg0.slots t 4)) fullShare X)
    ∗ (∃ X, owns (Val := Elt F) (c : Thread nD τ) (win0_5.stage (cfg0.slots t 5)) fullShare X)
    ∗ (∃ X, owns (Val := Elt F) (c : Thread nD τ) (win0_6.stage (cfg0.slots t 6)) fullShare X)
    ∗ (∃ X, owns (Val := Elt F) (c : Thread nD τ) (win0_7.stage (cfg0.slots t 7)) fullShare X)
    ∗ (∃ X, owns (Val := Elt F) (c : Thread nD τ) (win0_8.stage (cfg0.slots t 8)) fullShare X)
    ∗ (∃ X, owns (Val := Elt F) (c : Thread nD τ) (win0_9.stage (cfg0.slots t 9)) fullShare X))
def bodyPost (c : Dev nD) (t : Fin cfg0.N) : sProp 𝕄 :=
  iprop((dats m 0 c).Φ t.succ ∗ (dats m 0 c).owesAt () t.succ
    ∗ (∃ X, owns (Val := Elt F) (c : Thread nD τ) (win0_0.stage (cfg0.slots t 0)) fullShare X)
    ∗ (∃ X, owns (Val := Elt F) (c : Thread nD τ) (win0_1.stage (cfg0.slots t 1)) fullShare X)
    ∗ (∃ X, owns (Val := Elt F) (c : Thread nD τ) (win0_2.stage (cfg0.slots t 2)) fullShare X)
    ∗ (∃ X, owns (Val := Elt F) (c : Thread nD τ) (win0_3.stage (cfg0.slots t 3)) fullShare X)
    ∗ (∃ X, owns (Val := Elt F) (c : Thread nD τ) (win0_4.stage (cfg0.slots t 4)) fullShare X)
    ∗ (∃ X, owns (Val := Elt F) (c : Thread nD τ) (win0_5.stage (cfg0.slots t 5)) fullShare X)
    ∗ (∃ X, owns (Val := Elt F) (c : Thread nD τ) (win0_6.stage (cfg0.slots t 6)) fullShare X)
    ∗ (∃ X, owns (Val := Elt F) (c : Thread nD τ) (win0_7.stage (cfg0.slots t 7)) fullShare X)
    ∗ (∃ X, owns (Val := Elt F) (c : Thread nD τ) (win0_8.stage (cfg0.slots t 8)) fullShare X)
    ∗ (∃ X, owns (Val := Elt F) (c : Thread nD τ) (win0_9.stage (cfg0.slots t 9)) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.castSucc = Pipeline.ΦD osem0 spec0 H0 (V m) c from rfl, show (dats m 0 c).Φ t.succ = Pipeline.ΦD osem0 spec0 H0 (V m) c from rfl, PhiD_eq]
  unfold Dat.owesAt Pipeline.owesWithin
  rw [show (dats m 0 c).owed t.castSucc = 0 from rfl, show (dats m 0 c).owed t.succ = 0 from rfl]
  iintro ⟨⟨⟨S0, S1, S2, S3, S4, S5, S6, S7, S8, S9, G1, G2⟩, Hr, Hq, Hw1, Hw2⟩, ⟨%W, -, HW⟩, W0, W1, W2, W3, W4, W5, W6, W7, W8, W9⟩
  iapply (wp_wand_r _ _ _ (Q := fun _ => St c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9))
    z0M z1M z2M z3M z4M z5M z6M z7M z8M z9M (fillers c (V m c main_arg2) (V m c main_arg4))))
  isplitl [S0 S1 S2 S3 S4 S5 S6 S7 S8 S9 G1 G2 Hq Hw1 Hw2 HW W0 W1 W2 W3 W4 W5 W6 W7 W8 W9]
  · iapply body_run
    unfold St fillers
    isplitl [W0]; · iapply any_of_owns; iexact W0
    isplitl [W1]; · iapply any_of_owns; iexact W1
    isplitl [W2]; · iapply any_of_owns; iexact W2
    isplitl [W3]; · iapply any_of_owns; iexact W3
    isplitl [W4]; · iapply any_of_owns; iexact W4
    isplitl [W5]; · iapply any_of_owns; iexact W5
    isplitl [W6]; · iapply any_of_owns; iexact W6
    isplitl [W7]; · iapply any_of_owns; iexact W7
    isplitl [W8]; · iapply any_of_owns; iexact W8
    isplitl [W9]; · iapply any_of_owns; iexact W9
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [Hw1]; · iexact Hw1
    isplitl [Hw2]; · iexact Hw2
    isplitl [G1]; · iexact G1
    isplitl [G2]; · iexact G2
    isplitl [Hq]; · iexact Hq
    iexists W; iexact HW
  iintro %_
  unfold St fillers
  iintro ⟨W0, W1, W2, W3, W4, W5, W6, W7, W8, W9, S0, S1, S2, S3, S4, S5, S6, S7, S8, S9, Hw1, Hw2, G1, G2, Hq, ⟨%W', HW'⟩⟩
  isplitl [S0 S1 S2 S3 S4 S5 S6 S7 S8 S9 G1 G2 Hr Hq Hw1 Hw2]
  · isplitl [S0 S1 S2 S3 S4 S5 S6 S7 S8 S9 G1 G2]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [G1]; · iexact G1
      iexact G2
    isplitl [Hr]; · iexact Hr
    isplitl [Hq]; · iexact Hq
    isplitl [Hw1]; · iexact Hw1
    iexact Hw2
  isplitl [HW']
  · iexists W'; isplitr; · ipureintro; exact fun _ _ => Or.inl trivial
    iexact HW'
  isplitl [W0]; · iapply owns_of_any; iexact W0
  isplitl [W1]; · iapply owns_of_any; iexact W1
  isplitl [W2]; · iapply owns_of_any; iexact W2
  isplitl [W3]; · iapply owns_of_any; iexact W3
  isplitl [W4]; · iapply owns_of_any; iexact W4
  isplitl [W5]; · iapply owns_of_any; iexact W5
  isplitl [W6]; · iapply owns_of_any; iexact W6
  isplitl [W7]; · iapply owns_of_any; iexact W7
  isplitl [W8]; · iapply owns_of_any; iexact W8
  iapply owns_of_any; iexact W9

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ fgt := fun t => by
  rw [bigSep_W0, defs₀_row]
  exact triple_restated (sound_body m c t) rfl .rfl fun _ => .rfl

/-! ## The run and the frame -/

set_option backward.isDefEq.respectTransparency.types false in
/-- Every run ends with the input arrays unchanged, every other buffer that no window writes unchanged, and every counter at zero. -/
theorem run_main : θ_run defs (onTc (τ := τ) (main (F := F))) (s₀ m ρ)
    (fun r => RDat.FramePost cfg0 (fun c => (dats m 0 c).toRForget fgt) (V m) r ∧ r.2.sem = fun _ => 0) :=
  Pipeline.θ_run_frame_dma_forget (Q' := _) cfgs (dats m) (0 : Fin 1) launch0 osem0 defs₀ Variants.none fgt ownSemFacts0 H0 H0_sub m ρ main
    (hbody := body_obligation m) (hshare := fun c => (dats m 0 c).share_full fun _ => rfl)
    (howed := fun _ _ => rfl) (V := V m) (hmain := hmainD m) (hA := A_eq m)
    (hin := fun _ => .rfl) (hout := fun _ => .rfl)

/-- The frame: every argument array ends as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(RDat.FramePost.arr_in h.1 c 1 rfl).trans ((A_eq m c 1).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.Kernel4Ideal.Hand
-- ==== Proof.lean ====
/-
  The claims of the kernel's calls, assembled. Of three calls: the frames of their three programs, that the idealized kernel keeps
  the kernel's text, and that over the ideal values the kernel computes the reference. Of the retention mixer: the frames of its
  two programs, and that the idealized kernel keeps the kernel's text.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Skeleton
public import proofs.«01_k».proof.Proof.Result
public import proofs.«01_k».proof.Proof.Reference
public import proofs.«01_k».proof.Proof.Layer0.Result
public import proofs.«01_k».proof.Proof.Layer0.Reference
public import proofs.«01_k».proof.Proof.Mixer.Result
public import proofs.«01_k».proof.Proof.Mixer.Reference
public import proofs.«01_k».proof.Proof.Retention.Run

@[expose] public section

noncomputable section

namespace Cert.Proof

open Idealize.ShloMosaic Idealize.SL.Sem

/-! ## Layer 1's feed-forward and the final norm -/

/-- The kernel's and the idealized kernel's body tables are one table, and their main programs one program. -/
theorem defs_eq : (Cert.Kernel.defs (F := Bits)) = (Cert.KernelIdeal.defs (F := Bits)) := by sl_kernel_rfl
theorem main_eq : (Cert.Kernel.main (F := Bits)) = (Cert.KernelIdeal.main (F := Bits)) := by sl_kernel_rfl
/-- The kernel runs, leaves its arguments and ends with every counter at zero: the run written for any float values, at the
    bit patterns. -/
theorem frame_kernel : Cert.quiescent_Kernel := fun m ρ _ => by
  have h := Cert.KernelIdeal.Hand.frame (F := Bits) m ρ
  rw [← defs_eq, ← main_eq] at h
  exact h
/-- The same of the idealized kernel. -/
theorem frame_ideal : Cert.quiescent_KernelIdeal := fun m ρ _ => Cert.KernelIdeal.Hand.frame (F := Ideal) m ρ
/-- The same of the reference, which declares no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result array is the kernel's function of the reference's arguments. -/
theorem reference_eq (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v37 (F := Ideal) m' c
    = Cert.KernelIdeal.Hand.resFn (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) := by
  funext i
  rw [eq_ix2 i]
  exact Cert.ReferenceIdeal.Hand.res_apply m' c (i 0) (i 1)

/-- From equal arguments the kernel and the reference end with the same result array. -/
theorem algebraic : Cert.algebraic_KernelIdeal_ReferenceIdeal := fun m g m' g' _ hagree =>
  ⟨fun c => Cert.KernelIdeal.Hand.resArr m c, Cert.KernelIdeal.Hand.run m g,
    (θ_run Cert.ReferenceIdeal.defs _ _).mono (fun _ h c => ⟨(h c).1.trans (by
        rw [reference_eq, (hagree c).1, (hagree c).2.1, (hagree c).2.2.1, (hagree c).2.2.2.1, (hagree c).2.2.2.2]), (h c).2⟩)
      (Cert.ReferenceIdeal.Value.run (F := Ideal) m' g')⟩

/-! ## Layer 0's feed-forward -/

/-- The kernel's and the idealized kernel's body tables are one table, and their main programs one program. -/
theorem defs_eq₂ : (Cert.Kernel2.defs (F := Bits)) = (Cert.Kernel2Ideal.defs (F := Bits)) := by sl_kernel_rfl
theorem main_eq₂ : (Cert.Kernel2.main (F := Bits)) = (Cert.Kernel2Ideal.main (F := Bits)) := by sl_kernel_rfl
/-- The kernel runs, leaves its arguments and ends with every counter at zero: the run written for any float values, at the
    bit patterns. -/
theorem frame_kernel₂ : Cert.quiescent_Kernel2 := fun m ρ _ => by
  have h := Cert.Kernel2Ideal.Hand.frame (F := Bits) m ρ
  rw [← defs_eq₂, ← main_eq₂] at h
  exact h
/-- The same of the idealized kernel. -/
theorem frame_ideal₂ : Cert.quiescent_Kernel2Ideal := fun m ρ _ => Cert.Kernel2Ideal.Hand.frame (F := Ideal) m ρ
/-- The same of the reference, which declares no counter. -/
theorem frame_reference₂ : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- From equal arguments the kernel and the reference end with the same result array. -/
theorem algebraic₂ : Cert.algebraic_Kernel2Ideal_Reference2Ideal := fun m g m' g' _ hagree =>
  ⟨fun c => Cert.Kernel2Ideal.Hand.resArr m c, Cert.Kernel2Ideal.Hand.run m g,
    (θ_run Cert.Reference2Ideal.defs _ _).mono (fun _ h c => ⟨(h c).1.trans (by
        unfold Cert.Reference2Ideal.Hand.refArr
        rw [(hagree c).1, (hagree c).2.1, (hagree c).2.2.1, (hagree c).2.2.2.1]
        rfl), (h c).2⟩)
      (Cert.Reference2Ideal.Hand.run m' g')⟩

/-! ## The spatial-gating mixer -/

/-- At the bit patterns a named constant is read as its float word. -/
local instance wordNamed : Named Bits where
  named _ _ bits := FloatOps.ofBits bits

/-- With that reading the kernel's and the idealized kernel's body tables are one table, and their main programs one
    program. -/
theorem defs_eq₃ : (Cert.Kernel3.defs (F := Bits)) = (Cert.Kernel3Ideal.defs (F := Bits)) := by sl_kernel_rfl
theorem main_eq₃ : (Cert.Kernel3.main (F := Bits)) = (Cert.Kernel3Ideal.main (F := Bits)) := by sl_kernel_rfl
/-- The kernel runs, leaves its arguments and ends with every counter at zero: the run written for any float values, at the
    bit patterns. -/
theorem frame_kernel₃ : Cert.quiescent_Kernel3 := fun m ρ _ => by
  have h := Cert.Kernel3Ideal.Hand.frame (F := Bits) m ρ
  rw [← defs_eq₃, ← main_eq₃] at h
  exact h
/-- The same of the idealized kernel. -/
theorem frame_ideal₃ : Cert.quiescent_Kernel3Ideal := fun m ρ _ => Cert.Kernel3Ideal.Hand.frame (F := Ideal) m ρ
/-- The same of the reference, which declares no counter. -/
theorem frame_reference₃ : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
/-- The two constants of the gelu's exponent stand for the reals they round. -/
theorem preserves₃ : Cert.preserves_Kernel3_Kernel3Ideal :=
  ⟨IdealRules.named_const.statement Cert.Kernel3Ideal.κ "gelu_c3" .f32 0xBDD2D3E8#32 (((12003091 / 268435456) * (((-2) * (6693141 / 8388608)) * (Real.log 2)⁻¹) : ℝ) : EReal) rfl,
    IdealRules.named_const.statement Cert.Kernel3Ideal.κ "gelu_c" .f32 0xC0135761#32 ((((-2) * (6693141 / 8388608)) * (Real.log 2)⁻¹ : ℝ) : EReal) rfl⟩

/-- From equal arguments the kernel and the reference end with the same result array. -/
theorem algebraic₃ : Cert.algebraic_Kernel3Ideal_Reference3Ideal := fun m g m' g' _ hagree =>
  ⟨fun c => Cert.Kernel3Ideal.Hand.resArr m c, Cert.Kernel3Ideal.Hand.run m g,
    (θ_run Cert.Reference3Ideal.defs _ _).mono (fun _ h c => ⟨(h c).1.trans (by
        unfold Cert.Reference3Ideal.Hand.refArr
        rw [(hagree c).1, (hagree c).2.1, (hagree c).2.2.1, (hagree c).2.2.2.1, (hagree c).2.2.2.2.1, (hagree c).2.2.2.2.2.1, (hagree c).2.2.2.2.2.2.1,
          (hagree c).2.2.2.2.2.2.2]
        rfl), (h c).2⟩)
      (Cert.Reference3Ideal.Hand.run m' g')⟩

/-! ## The retention mixer -/

/-- The kernel's and the idealized kernel's body tables are one table, and their main programs one program. -/
theorem defs_eq₄ : (Cert.Kernel4.defs (F := Bits)) = (Cert.Kernel4Ideal.defs (F := Bits)) := by sl_kernel_rfl
theorem main_eq₄ : (Cert.Kernel4.main (F := Bits)) = (Cert.Kernel4Ideal.main (F := Bits)) := by sl_kernel_rfl
set_option maxHeartbeats 4000000 in
/-- The kernel runs, leaves its arguments and ends with every counter at zero: the run written for any float values, at the
    bit patterns. -/
theorem frame_kernel₄ : Cert.quiescent_Kernel4 := fun m ρ _ => by
  have h := Cert.Kernel4Ideal.Hand.frame (F := Bits) m ρ
  rw [← defs_eq₄, ← main_eq₄] at h
  exact h
/-- The same of the idealized kernel. -/
theorem frame_ideal₄ : Cert.quiescent_Kernel4Ideal := fun m ρ _ => Cert.Kernel4Ideal.Hand.frame (F := Ideal) m ρ

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts,
  frame_kernel, frame_ideal, frame_reference, frame_kernel₂, frame_ideal₂, frame_reference₂,
  frame_kernel₃, frame_ideal₃, frame_reference₃, frame_kernel₄, frame_ideal₄,
  trivial, algebraic, trivial, algebraic₂, preserves₃, algebraic₃, trivial⟩

end Cert.Proof

end
